-- ==== Defs.lean ====
def Pre_GainKernel (m : (ℓ : Loc Cert.GainKernel.nD Cert.GainKernel.τ Cert.GainKernel.sig) → Buf (Elt Bits) ℓ) : Prop :=
  True

def Pre_GainKernelIdeal (m : (ℓ : Loc Cert.GainKernelIdeal.nD Cert.GainKernelIdeal.τ Cert.GainKernelIdeal.sig) → Buf (Elt Ideal) ℓ) : Prop :=
  True

def Pre_GainReferenceIdeal (m : (ℓ : Loc Cert.GainReferenceIdeal.nD Cert.GainReferenceIdeal.τ Cert.GainReferenceIdeal.sig) → Buf (Elt Ideal) ℓ) : Prop :=
  True

def Pre_SwigluKernel (m : (ℓ : Loc Cert.SwigluKernel.nD Cert.SwigluKernel.τ Cert.SwigluKernel.sig) → Buf (Elt Bits) ℓ) : Prop :=
  True

def Pre_SwigluKernelIdeal (m : (ℓ : Loc Cert.SwigluKernelIdeal.nD Cert.SwigluKernelIdeal.τ Cert.SwigluKernelIdeal.sig) → Buf (Elt Ideal) ℓ) : Prop :=
  True

def Pre_SwigluKernelIdeal_finite_swi [hPre_finite_swi : Cert.Pre_finite_swi.Facts] (m : (ℓ : Loc Cert.SwigluKernelIdeal.nD Cert.SwigluKernelIdeal.τ Cert.SwigluKernelIdeal.sig) → Buf (Elt Ideal) ℓ) : Prop :=
  ∀ c : Dev Cert.SwigluKernelIdeal.nD,
    (Cert.Pre_finite_swi.fn (F := Ideal) (m ((c.tc : Thread Cert.SwigluKernelIdeal.nD Cert.SwigluKernelIdeal.τ).loc Cert.SwigluKernelIdeal.main_arg0)) (m ((c.tc : Thread Cert.SwigluKernelIdeal.nD Cert.SwigluKernelIdeal.τ).loc Cert.SwigluKernelIdeal.main_arg1)) (m ((c.tc : Thread Cert.SwigluKernelIdeal.nD Cert.SwigluKernelIdeal.τ).loc Cert.SwigluKernelIdeal.main_arg2)) (m ((c.tc : Thread Cert.SwigluKernelIdeal.nD Cert.SwigluKernelIdeal.τ).loc Cert.SwigluKernelIdeal.main_arg3))) = (fun _ => 1#1)

def Pre_SwigluReferenceIdeal (m : (ℓ : Loc Cert.SwigluReferenceIdeal.nD Cert.SwigluReferenceIdeal.τ Cert.SwigluReferenceIdeal.sig) → Buf (Elt Ideal) ℓ) : Prop :=
  True

def Pre_SwigluReferenceIdeal_finite_swi [hPre_finite_swi : Cert.Pre_finite_swi.Facts] (m : (ℓ : Loc Cert.SwigluReferenceIdeal.nD Cert.SwigluReferenceIdeal.τ Cert.SwigluReferenceIdeal.sig) → Buf (Elt Ideal) ℓ) : Prop :=
  ∀ c : Dev Cert.SwigluReferenceIdeal.nD,
    (Cert.Pre_finite_swi.fn (F := Ideal) (m ((c.tc : Thread Cert.SwigluReferenceIdeal.nD Cert.SwigluReferenceIdeal.τ).loc Cert.SwigluReferenceIdeal.main_arg0)) (m ((c.tc : Thread Cert.SwigluReferenceIdeal.nD Cert.SwigluReferenceIdeal.τ).loc Cert.SwigluReferenceIdeal.main_arg1)) (m ((c.tc : Thread Cert.SwigluReferenceIdeal.nD Cert.SwigluReferenceIdeal.τ).loc Cert.SwigluReferenceIdeal.main_arg2)) (m ((c.tc : Thread Cert.SwigluReferenceIdeal.nD Cert.SwigluReferenceIdeal.τ).loc Cert.SwigluReferenceIdeal.main_arg3))) = (fun _ => 1#1)

def Pre_GatesKernel (m : (ℓ : Loc Cert.GatesKernel.nD Cert.GatesKernel.τ Cert.GatesKernel.sig) → Buf (Elt Bits) ℓ) : Prop :=
  True

def Pre_GatesKernelIdeal (m : (ℓ : Loc Cert.GatesKernelIdeal.nD Cert.GatesKernelIdeal.τ Cert.GatesKernelIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemKernelIdeal_finite_mem [hPre_finite_mem : Cert.Pre_finite_mem.Facts] (m : (ℓ : Loc Cert.MemKernelIdeal.nD Cert.MemKernelIdeal.τ Cert.MemKernelIdeal.sig) → Buf (Elt Ideal) ℓ) : Prop :=
  ∀ c : Dev Cert.MemKernelIdeal.nD,
    (Cert.Pre_finite_mem.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2))) = (fun _ => 1#1)

def Pre_MemReferenceIdeal (m : (ℓ : Loc Cert.MemReferenceIdeal.nD Cert.MemReferenceIdeal.τ Cert.MemReferenceIdeal.sig) → Buf (Elt Ideal) ℓ) : Prop :=
  True

def Pre_MemReferenceIdeal_finite_mem [hPre_finite_mem : Cert.Pre_finite_mem.Facts] (m : (ℓ : Loc Cert.MemReferenceIdeal.nD Cert.MemReferenceIdeal.τ Cert.MemReferenceIdeal.sig) → Buf (Elt Ideal) ℓ) : Prop :=
  ∀ c : Dev Cert.MemReferenceIdeal.nD,
    (Cert.Pre_finite_mem.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2))) = (fun _ => 1#1)

def Pre_NormQKernel (m : (ℓ : Loc Cert.NormQKernel.nD Cert.NormQKernel.τ Cert.NormQKernel.sig) → Buf (Elt Bits) ℓ) : Prop :=
  True

def Pre_NormQKernelIdeal (m : (ℓ : Loc Cert.NormQKernelIdeal.nD Cert.NormQKernelIdeal.τ Cert.NormQKernelIdeal.sig) → Buf (Elt Ideal) ℓ) : Prop :=
  True

def Pre_NormQKernelIdeal_finite_nq [hPre_finite_nq : Cert.Pre_finite_nq.Facts] (m : (ℓ : Loc Cert.NormQKernelIdeal.nD Cert.NormQKernelIdeal.τ Cert.NormQKernelIdeal.sig) → Buf (Elt Ideal) ℓ) : Prop :=
  ∀ c : Dev Cert.NormQKernelIdeal.nD,
    (Cert.Pre_finite_nq.fn (F := Ideal) (m ((c.tc : Thread Cert.NormQKernelIdeal.nD Cert.NormQKernelIdeal.τ).loc Cert.NormQKernelIdeal.main_arg0)) (m ((c.tc : Thread Cert.NormQKernelIdeal.nD Cert.NormQKernelIdeal.τ).loc Cert.NormQKernelIdeal.main_arg1)) (m ((c.tc : Thread Cert.NormQKernelIdeal.nD Cert.NormQKernelIdeal.τ).loc Cert.NormQKernelIdeal.main_arg2)) (m ((c.tc : Thread Cert.NormQKernelIdeal.nD Cert.NormQKernelIdeal.τ).loc Cert.NormQKernelIdeal.main_arg3)) (m ((c.tc : Thread Cert.NormQKernelIdeal.nD Cert.NormQKernelIdeal.τ).loc Cert.NormQKernelIdeal.main_arg4))) = (fun _ => 1#1)

def Pre_NormQReferenceIdeal (m : (ℓ : Loc Cert.NormQReferenceIdeal.nD Cert.NormQReferenceIdeal.τ Cert.NormQReferenceIdeal.sig) → Buf (Elt Ideal) ℓ) : Prop :=
  True

def Pre_NormQReferenceIdeal_finite_nq [hPre_finite_nq : Cert.Pre_finite_nq.Facts] (m : (ℓ : Loc Cert.NormQReferenceIdeal.nD Cert.NormQReferenceIdeal.τ Cert.NormQReferenceIdeal.sig) → Buf (Elt Ideal) ℓ) : Prop :=
  ∀ c : Dev Cert.NormQReferenceIdeal.nD,
    (Cert.Pre_finite_nq.fn (F := Ideal) (m ((c.tc : Thread Cert.NormQReferenceIdeal.nD Cert.NormQReferenceIdeal.τ).loc Cert.NormQReferenceIdeal.main_arg0)) (m ((c.tc : Thread Cert.NormQReferenceIdeal.nD Cert.NormQReferenceIdeal.τ).loc Cert.NormQReferenceIdeal.main_arg1)) (m ((c.tc : Thread Cert.NormQReferenceIdeal.nD Cert.NormQReferenceIdeal.τ).loc Cert.NormQReferenceIdeal.main_arg2)) (m ((c.tc : Thread Cert.NormQReferenceIdeal.nD Cert.NormQReferenceIdeal.τ).loc Cert.NormQReferenceIdeal.main_arg3)) (m ((c.tc : Thread Cert.NormQReferenceIdeal.nD Cert.NormQReferenceIdeal.τ).loc Cert.NormQReferenceIdeal.main_arg4))) = (fun _ => 1#1)

def Pre_NormFKernel (m : (ℓ : Loc Cert.NormFKernel.nD Cert.NormFKernel.τ Cert.NormFKernel.sig) → Buf (Elt Bits) ℓ) : Prop :=
  True

def Pre_NormFKernelIdeal (m : (ℓ : Loc Cert.NormFKernelIdeal.nD Cert.NormFKernelIdeal.τ Cert.NormFKernelIdeal.sig) → Buf (Elt Ideal) ℓ) : Prop :=
  True

def Pre_NormFKernelIdeal_finite_nf [hPre_finite_nf : Cert.Pre_finite_nf.Facts] (m : (ℓ : Loc Cert.NormFKernelIdeal.nD Cert.NormFKernelIdeal.τ Cert.NormFKernelIdeal.sig) → Buf (Elt Ideal) ℓ) : Prop :=
  ∀ c : Dev Cert.NormFKernelIdeal.nD,
    (Cert.Pre_finite_nf.fn (F := Ideal) (m ((c.tc : Thread Cert.NormFKernelIdeal.nD Cert.NormFKernelIdeal.τ).loc Cert.NormFKernelIdeal.main_arg0)) (m ((c.tc : Thread Cert.NormFKernelIdeal.nD Cert.NormFKernelIdeal.τ).loc Cert.NormFKernelIdeal.main_arg1)) (m ((c.tc : Thread Cert.NormFKernelIdeal.nD Cert.NormFKernelIdeal.τ).loc Cert.NormFKernelIdeal.main_arg2)) (m ((c.tc : Thread Cert.NormFKernelIdeal.nD Cert.NormFKernelIdeal.τ).loc Cert.NormFKernelIdeal.main_arg3)) (m ((c.tc : Thread Cert.NormFKernelIdeal.nD Cert.NormFKernelIdeal.τ).loc Cert.NormFKernelIdeal.main_arg4))) = (fun _ => 1#1)

def Pre_NormFReferenceIdeal (m : (ℓ : Loc Cert.NormFReferenceIdeal.nD Cert.NormFReferenceIdeal.τ Cert.NormFReferenceIdeal.sig) → Buf (Elt Ideal) ℓ) : Prop :=
  True

def Pre_NormFReferenceIdeal_finite_nf [hPre_finite_nf : Cert.Pre_finite_nf.Facts] (m : (ℓ : Loc Cert.NormFReferenceIdeal.nD Cert.NormFReferenceIdeal.τ Cert.NormFReferenceIdeal.sig) → Buf (Elt Ideal) ℓ) : Prop :=
  ∀ c : Dev Cert.NormFReferenceIdeal.nD,
    (Cert.Pre_finite_nf.fn (F := Ideal) (m ((c.tc : Thread Cert.NormFReferenceIdeal.nD Cert.NormFReferenceIdeal.τ).loc Cert.NormFReferenceIdeal.main_arg0)) (m ((c.tc : Thread Cert.NormFReferenceIdeal.nD Cert.NormFReferenceIdeal.τ).loc Cert.NormFReferenceIdeal.main_arg1)) (m ((c.tc : Thread Cert.NormFReferenceIdeal.nD Cert.NormFReferenceIdeal.τ).loc Cert.NormFReferenceIdeal.main_arg2)) (m ((c.tc : Thread Cert.NormFReferenceIdeal.nD Cert.NormFReferenceIdeal.τ).loc Cert.NormFReferenceIdeal.main_arg3)) (m ((c.tc : Thread Cert.NormFReferenceIdeal.nD Cert.NormFReferenceIdeal.τ).loc Cert.NormFReferenceIdeal.main_arg4))) = (fun _ => 1#1)

def Pre_NormHKernel (m : (ℓ : Loc Cert.NormHKernel.nD Cert.NormHKernel.τ Cert.NormHKernel.sig) → Buf (Elt Bits) ℓ) : Prop :=
  True

def Pre_NormHKernelIdeal (m : (ℓ : Loc Cert.NormHKernelIdeal.nD Cert.NormHKernelIdeal.τ Cert.NormHKernelIdeal.sig) → Buf (Elt Ideal) ℓ) : Prop :=
  True

def Pre_NormHKernelIdeal_finite_nh [hPre_finite_nh : Cert.Pre_finite_nh.Facts] (m : (ℓ : Loc Cert.NormHKernelIdeal.nD Cert.NormHKernelIdeal.τ Cert.NormHKernelIdeal.sig) → Buf (Elt Ideal) ℓ) : Prop :=
  ∀ c : Dev Cert.NormHKernelIdeal.nD,
    (Cert.Pre_finite_nh.fn (F := Ideal) (m ((c.tc : Thread Cert.NormHKernelIdeal.nD Cert.NormHKernelIdeal.τ).loc Cert.NormHKernelIdeal.main_arg0)) (m ((c.tc : Thread Cert.NormHKernelIdeal.nD Cert.NormHKernelIdeal.τ).loc Cert.NormHKernelIdeal.main_arg1)) (m ((c.tc : Thread Cert.NormHKernelIdeal.nD Cert.NormHKernelIdeal.τ).loc Cert.NormHKernelIdeal.main_arg2)) (m ((c.tc : Thread Cert.NormHKernelIdeal.nD Cert.NormHKernelIdeal.τ).loc Cert.NormHKernelIdeal.main_arg3)) (m ((c.tc : Thread Cert.NormHKernelIdeal.nD Cert.NormHKernelIdeal.τ).loc Cert.NormHKernelIdeal.main_arg4))) = (fun _ => 1#1)

def Pre_NormHReferenceIdeal (m : (ℓ : Loc Cert.NormHReferenceIdeal.nD Cert.NormHReferenceIdeal.τ Cert.NormHReferenceIdeal.sig) → Buf (Elt Ideal) ℓ) : Prop :=
  True

def Pre_NormHReferenceIdeal_finite_nh [hPre_finite_nh : Cert.Pre_finite_nh.Facts] (m : (ℓ : Loc Cert.NormHReferenceIdeal.nD Cert.NormHReferenceIdeal.τ Cert.NormHReferenceIdeal.sig) → Buf (Elt Ideal) ℓ) : Prop :=
  ∀ c : Dev Cert.NormHReferenceIdeal.nD,
    (Cert.Pre_finite_nh.fn (F := Ideal) (m ((c.tc : Thread Cert.NormHReferenceIdeal.nD Cert.NormHReferenceIdeal.τ).loc Cert.NormHReferenceIdeal.main_arg0)) (m ((c.tc : Thread Cert.NormHReferenceIdeal.nD Cert.NormHReferenceIdeal.τ).loc Cert.NormHReferenceIdeal.main_arg1)) (m ((c.tc : Thread Cert.NormHReferenceIdeal.nD Cert.NormHReferenceIdeal.τ).loc Cert.NormHReferenceIdeal.main_arg2)) (m ((c.tc : Thread Cert.NormHReferenceIdeal.nD Cert.NormHReferenceIdeal.τ).loc Cert.NormHReferenceIdeal.main_arg3)) (m ((c.tc : Thread Cert.NormHReferenceIdeal.nD Cert.NormHReferenceIdeal.τ).loc Cert.NormHReferenceIdeal.main_arg4))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_finite_loss [hPre_finite_loss : Cert.Pre_finite_loss.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite_loss [hPre_finite_loss : Cert.Pre_finite_loss.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4))) = (fun _ => 1#1)

def Pre_StickBKernel (m : (ℓ : Loc Cert.StickBKernel.nD Cert.StickBKernel.τ Cert.StickBKernel.sig) → Buf (Elt Bits) ℓ) : Prop :=
  True

def Pre_StickBKernelIdeal (m : (ℓ : Loc Cert.StickBKernelIdeal.nD Cert.StickBKernelIdeal.τ Cert.StickBKernelIdeal.sig) → Buf (Elt Ideal) ℓ) : Prop :=
  True

def Pre_StickBKernelIdeal_finite_sb [hPre_finite_sb : Cert.Pre_finite_sb.Facts] (m : (ℓ : Loc Cert.StickBKernelIdeal.nD Cert.StickBKernelIdeal.τ Cert.StickBKernelIdeal.sig) → Buf (Elt Ideal) ℓ) : Prop :=
  ∀ c : Dev Cert.StickBKernelIdeal.nD,
    (Cert.Pre_finite_sb.fn (F := Ideal) (m ((c.tc : Thread Cert.StickBKernelIdeal.nD Cert.StickBKernelIdeal.τ).loc Cert.StickBKernelIdeal.main_arg0)) (m ((c.tc : Thread Cert.StickBKernelIdeal.nD Cert.StickBKernelIdeal.τ).loc Cert.StickBKernelIdeal.main_arg1))) = (fun _ => 1#1)

def Pre_StickBReferenceIdeal (m : (ℓ : Loc Cert.StickBReferenceIdeal.nD Cert.StickBReferenceIdeal.τ Cert.StickBReferenceIdeal.sig) → Buf (Elt Ideal) ℓ) : Prop :=
  True

def Pre_StickBReferenceIdeal_finite_sb [hPre_finite_sb : Cert.Pre_finite_sb.Facts] (m : (ℓ : Loc Cert.StickBReferenceIdeal.nD Cert.StickBReferenceIdeal.τ Cert.StickBReferenceIdeal.sig) → Buf (Elt Ideal) ℓ) : Prop :=
  ∀ c : Dev Cert.StickBReferenceIdeal.nD,
    (Cert.Pre_finite_sb.fn (F := Ideal) (m ((c.tc : Thread Cert.StickBReferenceIdeal.nD Cert.StickBReferenceIdeal.τ).loc Cert.StickBReferenceIdeal.main_arg0)) (m ((c.tc : Thread Cert.StickBReferenceIdeal.nD Cert.StickBReferenceIdeal.τ).loc Cert.StickBReferenceIdeal.main_arg1))) = (fun _ => 1#1)

def Pre_MemFwdKernel (m : (ℓ : Loc Cert.MemFwdKernel.nD Cert.MemFwdKernel.τ Cert.MemFwdKernel.sig) → Buf (Elt Bits) ℓ) : Prop :=
  True

def Pre_MemFwdKernelIdeal (m : (ℓ : Loc Cert.MemFwdKernelIdeal.nD Cert.MemFwdKernelIdeal.τ Cert.MemFwdKernelIdeal.sig) → Buf (Elt Ideal) ℓ) : Prop :=
  True

def Pre_MemFwdReferenceIdeal (m : (ℓ : Loc Cert.MemFwdReferenceIdeal.nD Cert.MemFwdReferenceIdeal.τ Cert.MemFwdReferenceIdeal.sig) → Buf (Elt Ideal) ℓ) : Prop :=
  True

def Pre_StickFKernel (m : (ℓ : Loc Cert.StickFKernel.nD Cert.StickFKernel.τ Cert.StickFKernel.sig) → Buf (Elt Bits) ℓ) : Prop :=
  True

def Pre_StickFKernelIdeal (m : (ℓ : Loc Cert.StickFKernelIdeal.nD Cert.StickFKernelIdeal.τ Cert.StickFKernelIdeal.sig) → Buf (Elt Ideal) ℓ) : Prop :=
  True

def Pre_StickFKernelIdeal_finite_sbf [hPre_finite_sbf : Cert.Pre_finite_sbf.Facts] (m : (ℓ : Loc Cert.StickFKernelIdeal.nD Cert.StickFKernelIdeal.τ Cert.StickFKernelIdeal.sig) → Buf (Elt Ideal) ℓ) : Prop :=
  ∀ c : Dev Cert.StickFKernelIdeal.nD,
    (Cert.Pre_finite_sbf.fn (F := Ideal) (m ((c.tc : Thread Cert.StickFKernelIdeal.nD Cert.StickFKernelIdeal.τ).loc Cert.StickFKernelIdeal.main_arg0))) = (fun _ => 1#1)

def Pre_StickFReferenceIdeal (m : (ℓ : Loc Cert.StickFReferenceIdeal.nD Cert.StickFReferenceIdeal.τ Cert.StickFReferenceIdeal.sig) → Buf (Elt Ideal) ℓ) : Prop :=
  True

def Pre_StickFReferenceIdeal_finite_sbf [hPre_finite_sbf : Cert.Pre_finite_sbf.Facts] (m : (ℓ : Loc Cert.StickFReferenceIdeal.nD Cert.StickFReferenceIdeal.τ Cert.StickFReferenceIdeal.sig) → Buf (Elt Ideal) ℓ) : Prop :=
  ∀ c : Dev Cert.StickFReferenceIdeal.nD,
    (Cert.Pre_finite_sbf.fn (F := Ideal) (m ((c.tc : Thread Cert.StickFReferenceIdeal.nD Cert.StickFReferenceIdeal.τ).loc Cert.StickFReferenceIdeal.main_arg0))) = (fun _ => 1#1)

def Pre_ConvFwdKernel (m : (ℓ : Loc Cert.ConvFwdKernel.nD Cert.ConvFwdKernel.τ Cert.ConvFwdKernel.sig) → Buf (Elt Bits) ℓ) : Prop :=
  True

def Pre_ConvFwdKernelIdeal (m : (ℓ : Loc Cert.ConvFwdKernelIdeal.nD Cert.ConvFwdKernelIdeal.τ Cert.ConvFwdKernelIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_NormMulKernel (m : (ℓ : Loc Cert.NormMulKernel.nD Cert.NormMulKernel.τ Cert.NormMulKernel.sig) → Buf (Elt Bits) ℓ) : Prop :=
  True

def Pre_NormMulKernelIdeal (m : (ℓ : Loc Cert.NormMulKernelIdeal.nD Cert.NormMulKernelIdeal.τ Cert.NormMulKernelIdeal.sig) → Buf (Elt Ideal) ℓ) : Prop :=
  True

def Pre_NormMulReferenceIdeal (m : (ℓ : Loc Cert.NormMulReferenceIdeal.nD Cert.NormMulReferenceIdeal.τ Cert.NormMulReferenceIdeal.sig) → Buf (Elt Ideal) ℓ) : Prop :=
  True

def Pre_FfnInKernel (m : (ℓ : Loc Cert.FfnInKernel.nD Cert.FfnInKernel.τ Cert.FfnInKernel.sig) → Buf (Elt Bits) ℓ) : Prop :=
  True

def Pre_FfnInKernelIdeal (m : (ℓ : Loc Cert.FfnInKernelIdeal.nD Cert.FfnInKernelIdeal.τ Cert.FfnInKernelIdeal.sig) → Buf (Elt Ideal) ℓ) : Prop :=
  True

def Pre_FfnInReferenceIdeal (m : (ℓ : Loc Cert.FfnInReferenceIdeal.nD Cert.FfnInReferenceIdeal.τ Cert.FfnInReferenceIdeal.sig) → Buf (Elt Ideal) ℓ) : Prop :=
  True

def Pre_MatMulKernel (m : (ℓ : Loc Cert.MatMulKernel.nD Cert.MatMulKernel.τ Cert.MatMulKernel.sig) → Buf (Elt Bits) ℓ) : Prop :=
  True

def Pre_MatMulKernelIdeal (m : (ℓ : Loc Cert.MatMulKernelIdeal.nD Cert.MatMulKernelIdeal.τ Cert.MatMulKernelIdeal.sig) → Buf (Elt Ideal) ℓ) : Prop :=
  True

def Pre_MatMulReferenceIdeal (m : (ℓ : Loc Cert.MatMulReferenceIdeal.nD Cert.MatMulReferenceIdeal.τ Cert.MatMulReferenceIdeal.sig) → Buf (Elt Ideal) ℓ) : Prop :=
  True

def Pre_AdamWKernel (m : (ℓ : Loc Cert.AdamWKernel.nD Cert.AdamWKernel.τ Cert.AdamWKernel.sig) → Buf (Elt Bits) ℓ) : Prop :=
  True

def Pre_AdamWKernelIdeal (m : (ℓ : Loc Cert.AdamWKernelIdeal.nD Cert.AdamWKernelIdeal.τ Cert.AdamWKernelIdeal.sig) → Buf (Elt Ideal) ℓ) : Prop :=
  True

def Pre_AdamWReferenceIdeal (m : (ℓ : Loc Cert.AdamWReferenceIdeal.nD Cert.AdamWReferenceIdeal.τ Cert.AdamWReferenceIdeal.sig) → Buf (Elt Ideal) ℓ) : Prop :=
  True

def Pre_AssembleKernel (m : (ℓ : Loc Cert.AssembleKernel.nD Cert.AssembleKernel.τ Cert.AssembleKernel.sig) → Buf (Elt Bits) ℓ) : Prop :=
  True

def Pre_AssembleKernelIdeal (m : (ℓ : Loc Cert.AssembleKernelIdeal.nD Cert.AssembleKernelIdeal.τ Cert.AssembleKernelIdeal.sig) → Buf (Elt Ideal) ℓ) : Prop :=
  True

def Pre_AssembleReferenceIdeal (m : (ℓ : Loc Cert.AssembleReferenceIdeal.nD Cert.AssembleReferenceIdeal.τ Cert.AssembleReferenceIdeal.sig) → Buf (Elt Ideal) ℓ) : Prop :=
  True

def Pre_ExchangeKernel (m : (ℓ : Loc Cert.ExchangeKernel.nD Cert.ExchangeKernel.τ Cert.ExchangeKernel.sig) → Buf (Elt Bits) ℓ) : Prop :=
  True

def Pre_ExchangeKernelIdeal (m : (ℓ : Loc Cert.ExchangeKernelIdeal.nD Cert.ExchangeKernelIdeal.τ Cert.ExchangeKernelIdeal.sig) → Buf (Elt Ideal) ℓ) : Prop :=
  True

def Pre_ExchangeReferenceIdeal (m : (ℓ : Loc Cert.ExchangeReferenceIdeal.nD Cert.ExchangeReferenceIdeal.τ Cert.ExchangeReferenceIdeal.sig) → Buf (Elt Ideal) ℓ) : Prop :=
  True

def quiescent_GainKernel [hGainKernel : Cert.GainKernel.Facts] : Prop :=
  ∀ (m : (ℓ : Loc Cert.GainKernel.nD Cert.GainKernel.τ Cert.GainKernel.sig) → Buf (Elt Bits) ℓ) (g : Dev Cert.GainKernel.nD → PrngReg), Pre_GainKernel m →
    θ_run (Cert.GainKernel.defs (F := Bits)) (onTc (τ := Cert.GainKernel.τ) (Cert.GainKernel.main (F := Bits))) ⟨m, fun _ => 0, g⟩ (fun r => (∀ c : Dev Cert.GainKernel.nD,
      r.2.mem ((c.tc : Thread Cert.GainKernel.nD Cert.GainKernel.τ).loc Cert.GainKernel.main_arg0) = m ((c.tc : Thread Cert.GainKernel.nD Cert.GainKernel.τ).loc Cert.GainKernel.main_arg0)
      ∧ r.2.mem ((c.tc : Thread Cert.GainKernel.nD Cert.GainKernel.τ).loc Cert.GainKernel.main_arg1) = m ((c.tc : Thread Cert.GainKernel.nD Cert.GainKernel.τ).loc Cert.GainKernel.main_arg1))
      ∧ r.2.sem = fun _ => 0)

def quiescent_GainKernelIdeal [hGainKernelIdeal : Cert.GainKernelIdeal.Facts] : Prop :=
  ∀ (m : (ℓ : Loc Cert.GainKernelIdeal.nD Cert.GainKernelIdeal.τ Cert.GainKernelIdeal.sig) → Buf (Elt Ideal) ℓ) (g : Dev Cert.GainKernelIdeal.nD → PrngReg), Pre_GainKernelIdeal m →
    θ_run (Cert.GainKernelIdeal.defs (F := Ideal)) (onTc (τ := Cert.GainKernelIdeal.τ) (Cert.GainKernelIdeal.main (F := Ideal))) ⟨m, fun _ => 0, g⟩ (fun r => (∀ c : Dev Cert.GainKernelIdeal.nD,
      r.2.mem ((c.tc : Thread Cert.GainKernelIdeal.nD Cert.GainKernelIdeal.τ).loc Cert.GainKernelIdeal.main_arg0) = m ((c.tc : Thread Cert.GainKernelIdeal.nD Cert.GainKernelIdeal.τ).loc Cert.GainKernelIdeal.main_arg0)
      ∧ r.2.mem ((c.tc : Thread Cert.GainKernelIdeal.nD Cert.GainKernelIdeal.τ).loc Cert.GainKernelIdeal.main_arg1) = m ((c.tc : Thread Cert.GainKernelIdeal.nD Cert.GainKernelIdeal.τ).loc Cert.GainKernelIdeal.main_arg1))
      ∧ r.2.sem = fun _ => 0)

def quiescent_GainReferenceIdeal [hGainReferenceIdeal : Cert.GainReferenceIdeal.Facts] : Prop :=
  ∀ (m : (ℓ : Loc Cert.GainReferenceIdeal.nD Cert.GainReferenceIdeal.τ Cert.GainReferenceIdeal.sig) → Buf (Elt Ideal) ℓ) (g : Dev Cert.GainReferenceIdeal.nD → PrngReg), Pre_GainReferenceIdeal m →
    θ_run (Cert.GainReferenceIdeal.defs (F := Ideal)) (onTc (τ := Cert.GainReferenceIdeal.τ) (Cert.GainReferenceIdeal.main (F := Ideal))) ⟨m, fun _ => 0, g⟩ (fun r => (∀ c : Dev Cert.GainReferenceIdeal.nD,
      r.2.mem ((c.tc : Thread Cert.GainReferenceIdeal.nD Cert.GainReferenceIdeal.τ).loc Cert.GainReferenceIdeal.main_arg0) = m ((c.tc : Thread Cert.GainReferenceIdeal.nD Cert.GainReferenceIdeal.τ).loc Cert.GainReferenceIdeal.main_arg0)
      ∧ r.2.mem ((c.tc : Thread Cert.GainReferenceIdeal.nD Cert.GainReferenceIdeal.τ).loc Cert.GainReferenceIdeal.main_arg1) = m ((c.tc : Thread Cert.GainReferenceIdeal.nD Cert.GainReferenceIdeal.τ).loc Cert.GainReferenceIdeal.main_arg1))
      ∧ r.2.sem = fun _ => 0)

def quiescent_SwigluKernel [hSwigluKernel : Cert.SwigluKernel.Facts] : Prop :=
  ∀ (m : (ℓ : Loc Cert.SwigluKernel.nD Cert.SwigluKernel.τ Cert.SwigluKernel.sig) → Buf (Elt Bits) ℓ) (g : Dev Cert.SwigluKernel.nD → PrngReg), Pre_SwigluKernel m →
    θ_run (Cert.SwigluKernel.defs (F := Bits)) (onTc (τ := Cert.SwigluKernel.τ) (Cert.SwigluKernel.main (F := Bits))) ⟨m, fun _ => 0, g⟩ (fun r => (∀ c : Dev Cert.SwigluKernel.nD,
      r.2.mem ((c.tc : Thread Cert.SwigluKernel.nD Cert.SwigluKernel.τ).loc Cert.SwigluKernel.main_arg0) = m ((c.tc : Thread Cert.SwigluKernel.nD Cert.SwigluKernel.τ).loc Cert.SwigluKernel.main_arg0)
      ∧ r.2.mem ((c.tc : Thread Cert.SwigluKernel.nD Cert.SwigluKernel.τ).loc Cert.SwigluKernel.main_arg1) = m ((c.tc : Thread Cert.SwigluKernel.nD Cert.SwigluKernel.τ).loc Cert.SwigluKernel.main_arg1)
      ∧ r.2.mem ((c.tc : Thread Cert.SwigluKernel.nD Cert.SwigluKernel.τ).loc Cert.SwigluKernel.main_arg2) = m ((c.tc : Thread Cert.SwigluKernel.nD Cert.SwigluKernel.τ).loc Cert.SwigluKernel.main_arg2)
      ∧ r.2.mem ((c.tc : Thread Cert.SwigluKernel.nD Cert.SwigluKernel.τ).loc Cert.SwigluKernel.main_arg3) = m ((c.tc : Thread Cert.SwigluKernel.nD Cert.SwigluKernel.τ).loc Cert.SwigluKernel.main_arg3))
      ∧ r.2.sem = fun _ => 0)

def quiescent_SwigluKernelIdeal [hSwigluKernelIdeal : Cert.SwigluKernelIdeal.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg), Pre_SwigluKernelIdeal m →
    θ_run (Cert.SwigluKernelIdeal.defs (F := Ideal)) (onTc (τ := Cert.SwigluKernelIdeal.τ) (Cert.SwigluKernelIdeal.main (F := Ideal))) ⟨m, fun _ => 0, g⟩ (fun r => (∀ c : Dev Cert.SwigluKernelIdeal.nD,
      r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
      ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1)
      ∧ r.2.mem ((c.tc : Thread Cert.SwigluKernelIdeal.nD Cert.SwigluKernelIdeal.τ).loc Cert.SwigluKernelIdeal.main_arg2) = m ((c.tc : Thread Cert.SwigluKernelIdeal.nD Cert.SwigluKernelIdeal.τ).loc Cert.SwigluKernelIdeal.main_arg2)
      ∧ r.2.mem ((c.tc : Thread Cert.SwigluKernelIdeal.nD Cert.SwigluKernelIdeal.τ).loc Cert.SwigluKernelIdeal.main_arg3) = m ((c.tc : Thread Cert.SwigluKernelIdeal.nD Cert.SwigluKernelIdeal.τ).loc Cert.SwigluKernelIdeal.main_arg3))
      ∧ r.2.sem = fun _ => 0)

def quiescent_SwigluKernelIdeal_pre_finite_swi [hSwigluKernelIdeal : Cert.SwigluKernelIdeal.Facts] [hPre_finite_swi : Cert.Pre_finite_swi.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg), Pre_SwigluKernelIdeal_finite_swi m →
    θ_run (Cert.SwigluKernelIdeal.defs (F := Ideal)) (onTc (τ := Cert.SwigluKernelIdeal.τ) (Cert.SwigluKernelIdeal.main (F := Ideal))) ⟨m, fun _ => 0, g⟩ (fun r => (∀ c : Dev Cert.SwigluKernelIdeal.nD,
      r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
      ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1)
      ∧ r.2.mem ((c.tc : Thread Cert.SwigluKernelIdeal.nD Cert.SwigluKernelIdeal.τ).loc Cert.SwigluKernelIdeal.main_arg2) = m ((c.tc : Thread Cert.SwigluKernelIdeal.nD Cert.SwigluKernelIdeal.τ).loc Cert.SwigluKernelIdeal.main_arg2)
      ∧ r.2.mem ((c.tc : Thread Cert.SwigluKernelIdeal.nD Cert.SwigluKernelIdeal.τ).loc Cert.SwigluKernelIdeal.main_arg3) = m ((c.tc : Thread Cert.SwigluKernelIdeal.nD Cert.SwigluKernelIdeal.τ).loc Cert.SwigluKernelIdeal.main_arg3))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2)
      ∧ r.2.mem ((c.tc : Thread Cert.SwigluReferenceIdeal.nD Cert.SwigluReferenceIdeal.τ).loc Cert.SwigluReferenceIdeal.main_arg3) = m ((c.tc : Thread Cert.SwigluReferenceIdeal.nD Cert.SwigluReferenceIdeal.τ).loc Cert.SwigluReferenceIdeal.main_arg3))
      ∧ r.2.sem = fun _ => 0)

def quiescent_SwigluReferenceIdeal_pre_finite_swi [hSwigluReferenceIdeal : Cert.SwigluReferenceIdeal.Facts] [hPre_finite_swi : Cert.Pre_finite_swi.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal_finite_swi m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2)
      ∧ r.2.mem ((c.tc : Thread Cert.SwigluReferenceIdeal.nD Cert.SwigluReferenceIdeal.τ).loc Cert.SwigluReferenceIdeal.main_arg3) = m ((c.tc : Thread Cert.SwigluReferenceIdeal.nD Cert.SwigluReferenceIdeal.τ).loc Cert.SwigluReferenceIdeal.main_arg3))
      ∧ r.2.sem = fun _ => 0)

def quiescent_GatesKernel [hGatesKernel : Cert.GatesKernel.Facts] : Prop :=
  ∀ (m : (ℓ : Loc Cert.GatesKernel.nD Cert.GatesKernel.τ Cert.GatesKernel.sig) → Buf (Elt Bits) ℓ) (g : Dev Cert.GatesKernel.nD → PrngReg), Pre_GatesKernel m →
    θ_run (Cert.GatesKernel.defs (F := Bits)) (onTc (τ := Cert.GatesKernel.τ) (Cert.GatesKernel.main (F := Bits))) ⟨m, fun _ => 0, g⟩ (fun r => (∀ c : Dev Cert.GatesKernel.nD,
      r.2.mem ((c.tc : Thread Cert.GatesKernel.nD Cert.GatesKernel.τ).loc Cert.GatesKernel.main_arg0) = m ((c.tc : Thread Cert.GatesKernel.nD Cert.GatesKernel.τ).loc Cert.GatesKernel.main_arg0)
      ∧ r.2.mem ((c.tc : Thread Cert.GatesKernel.nD Cert.GatesKernel.τ).loc Cert.GatesKernel.main_arg1) = m ((c.tc : Thread Cert.GatesKernel.nD Cert.GatesKernel.τ).loc Cert.GatesKernel.main_arg1)
      ∧ r.2.mem ((c.tc : Thread Cert.GatesKernel.nD Cert.GatesKernel.τ).loc Cert.GatesKernel.main_arg2) = m ((c.tc : Thread Cert.GatesKernel.nD Cert.GatesKernel.τ).loc Cert.GatesKernel.main_arg2)
      ∧ r.2.mem ((c.tc : Thread Cert.GatesKernel.nD Cert.GatesKernel.τ).loc Cert.GatesKernel.main_arg3) = m ((c.tc : Thread Cert.GatesKernel.nD Cert.GatesKernel.τ).loc Cert.GatesKernel.main_arg3)
      ∧ r.2.mem ((c.tc : Thread Cert.GatesKernel.nD Cert.GatesKernel.τ).loc Cert.GatesKernel.main_arg4) = m ((c.tc : Thread Cert.GatesKernel.nD Cert.GatesKernel.τ).loc Cert.GatesKernel.main_arg4))
      ∧ r.2.sem = fun _ => 0)

def quiescent_GatesKernelIdeal [hGatesKernelIdeal : Cert.GatesKernelIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg), Pre_GatesKernelIdeal m →
    θ_run (Cert.GatesKernelIdeal.defs (F := Ideal)) (onTc (τ := Cert.GatesKernelIdeal.τ) (Cert.GatesKernelIdeal.main (F := Ideal))) ⟨m, fun _ => 0, g⟩ (fun r => (∀ c : Dev Cert.GatesKernelIdeal.nD,
      r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
      ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1)
      ∧ r.2.mem ((c.tc : Thread Cert.GatesKernelIdeal.nD Cert.GatesKernelIdeal.τ).loc Cert.GatesKernelIdeal.main_arg2) = m ((c.tc : Thread Cert.GatesKernelIdeal.nD Cert.GatesKernelIdeal.τ).loc Cert.GatesKernelIdeal.main_arg2)
      ∧ r.2.mem ((c.tc : Thread Cert.GatesKernelIdeal.nD Cert.GatesKernelIdeal.τ).loc Cert.GatesKernelIdeal.main_arg3) = m ((c.tc : Thread Cert.GatesKernelIdeal.nD Cert.GatesKernelIdeal.τ).loc Cert.GatesKernelIdeal.main_arg3)
      ∧ r.2.mem ((c.tc : Thread Cert.GatesKernelIdeal.nD Cert.GatesKernelIdeal.τ).loc Cert.GatesKernelIdeal.main_arg4) = m ((c.tc : Thread Cert.GatesKernelIdeal.nD Cert.GatesKernelIdeal.τ).loc Cert.GatesKernelIdeal.main_arg4))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ r.2.sem = fun _ => 0)

def quiescent_MemKernelIdeal_pre_finite_mem [hMemKernelIdeal : Cert.MemKernelIdeal.Facts] [hPre_finite_mem : Cert.Pre_finite_mem.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal_finite_mem m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_MemReferenceIdeal_pre_finite_mem [hMemReferenceIdeal : Cert.MemReferenceIdeal.Facts] [hPre_finite_mem : Cert.Pre_finite_mem.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal_finite_mem m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_NormQKernel [hNormQKernel : Cert.NormQKernel.Facts] : Prop :=
  ∀ (m : (ℓ : Loc Cert.NormQKernel.nD Cert.NormQKernel.τ Cert.NormQKernel.sig) → Buf (Elt Bits) ℓ) (g : Dev Cert.NormQKernel.nD → PrngReg), Pre_NormQKernel m →
    θ_run (Cert.NormQKernel.defs (F := Bits)) (onTc (τ := Cert.NormQKernel.τ) (Cert.NormQKernel.main (F := Bits))) ⟨m, fun _ => 0, g⟩ (fun r => (∀ c : Dev Cert.NormQKernel.nD,
      r.2.mem ((c.tc : Thread Cert.NormQKernel.nD Cert.NormQKernel.τ).loc Cert.NormQKernel.main_arg0) = m ((c.tc : Thread Cert.NormQKernel.nD Cert.NormQKernel.τ).loc Cert.NormQKernel.main_arg0)
      ∧ r.2.mem ((c.tc : Thread Cert.NormQKernel.nD Cert.NormQKernel.τ).loc Cert.NormQKernel.main_arg1) = m ((c.tc : Thread Cert.NormQKernel.nD Cert.NormQKernel.τ).loc Cert.NormQKernel.main_arg1)
      ∧ r.2.mem ((c.tc : Thread Cert.NormQKernel.nD Cert.NormQKernel.τ).loc Cert.NormQKernel.main_arg2) = m ((c.tc : Thread Cert.NormQKernel.nD Cert.NormQKernel.τ).loc Cert.NormQKernel.main_arg2)
      ∧ r.2.mem ((c.tc : Thread Cert.NormQKernel.nD Cert.NormQKernel.τ).loc Cert.NormQKernel.main_arg3) = m ((c.tc : Thread Cert.NormQKernel.nD Cert.NormQKernel.τ).loc Cert.NormQKernel.main_arg3)
      ∧ r.2.mem ((c.tc : Thread Cert.NormQKernel.nD Cert.NormQKernel.τ).loc Cert.NormQKernel.main_arg4) = m ((c.tc : Thread Cert.NormQKernel.nD Cert.NormQKernel.τ).loc Cert.NormQKernel.main_arg4))
      ∧ r.2.sem = fun _ => 0)

def quiescent_NormQKernelIdeal [hNormQKernelIdeal : Cert.NormQKernelIdeal.Facts] : Prop :=
  ∀ (m : (ℓ : Loc Cert.NormQKernelIdeal.nD Cert.NormQKernelIdeal.τ Cert.NormQKernelIdeal.sig) → Buf (Elt Ideal) ℓ) (g : Dev Cert.NormQKernelIdeal.nD → PrngReg), Pre_NormQKernelIdeal m →
    θ_run (Cert.NormQKernelIdeal.defs (F := Ideal)) (onTc (τ := Cert.NormQKernelIdeal.τ) (Cert.NormQKernelIdeal.main (F := Ideal))) ⟨m, fun _ => 0, g⟩ (fun r => (∀ c : Dev Cert.NormQKernelIdeal.nD,
      r.2.mem ((c.tc : Thread Cert.NormQKernelIdeal.nD Cert.NormQKernelIdeal.τ).loc Cert.NormQKernelIdeal.main_arg0) = m ((c.tc : Thread Cert.NormQKernelIdeal.nD Cert.NormQKernelIdeal.τ).loc Cert.NormQKernelIdeal.main_arg0)
      ∧ r.2.mem ((c.tc : Thread Cert.NormQKernelIdeal.nD Cert.NormQKernelIdeal.τ).loc Cert.NormQKernelIdeal.main_arg1) = m ((c.tc : Thread Cert.NormQKernelIdeal.nD Cert.NormQKernelIdeal.τ).loc Cert.NormQKernelIdeal.main_arg1)
      ∧ r.2.mem ((c.tc : Thread Cert.NormQKernelIdeal.nD Cert.NormQKernelIdeal.τ).loc Cert.NormQKernelIdeal.main_arg2) = m ((c.tc : Thread Cert.NormQKernelIdeal.nD Cert.NormQKernelIdeal.τ).loc Cert.NormQKernelIdeal.main_arg2)
      ∧ r.2.mem ((c.tc : Thread Cert.NormQKernelIdeal.nD Cert.NormQKernelIdeal.τ).loc Cert.NormQKernelIdeal.main_arg3) = m ((c.tc : Thread Cert.NormQKernelIdeal.nD Cert.NormQKernelIdeal.τ).loc Cert.NormQKernelIdeal.main_arg3)
      ∧ r.2.mem ((c.tc : Thread Cert.NormQKernelIdeal.nD Cert.NormQKernelIdeal.τ).loc Cert.NormQKernelIdeal.main_arg4) = m ((c.tc : Thread Cert.NormQKernelIdeal.nD Cert.NormQKernelIdeal.τ).loc Cert.NormQKernelIdeal.main_arg4))
      ∧ r.2.sem = fun _ => 0)

def quiescent_NormQKernelIdeal_pre_finite_nq [hNormQKernelIdeal : Cert.NormQKernelIdeal.Facts] [hPre_finite_nq : Cert.Pre_finite_nq.Facts] : Prop :=
  ∀ (m : (ℓ : Loc Cert.NormQKernelIdeal.nD Cert.NormQKernelIdeal.τ Cert.NormQKernelIdeal.sig) → Buf (Elt Ideal) ℓ) (g : Dev Cert.NormQKernelIdeal.nD → PrngReg), Pre_NormQKernelIdeal_finite_nq m →
    θ_run (Cert.NormQKernelIdeal.defs (F := Ideal)) (onTc (τ := Cert.NormQKernelIdeal.τ) (Cert.NormQKernelIdeal.main (F := Ideal))) ⟨m, fun _ => 0, g⟩ (fun r => (∀ c : Dev Cert.NormQKernelIdeal.nD,
      r.2.mem ((c.tc : Thread Cert.NormQKernelIdeal.nD Cert.NormQKernelIdeal.τ).loc Cert.NormQKernelIdeal.main_arg0) = m ((c.tc : Thread Cert.NormQKernelIdeal.nD Cert.NormQKernelIdeal.τ).loc Cert.NormQKernelIdeal.main_arg0)
      ∧ r.2.mem ((c.tc : Thread Cert.NormQKernelIdeal.nD Cert.NormQKernelIdeal.τ).loc Cert.NormQKernelIdeal.main_arg1) = m ((c.tc : Thread Cert.NormQKernelIdeal.nD Cert.NormQKernelIdeal.τ).loc Cert.NormQKernelIdeal.main_arg1)
      ∧ r.2.mem ((c.tc : Thread Cert.NormQKernelIdeal.nD Cert.NormQKernelIdeal.τ).loc Cert.NormQKernelIdeal.main_arg2) = m ((c.tc : Thread Cert.NormQKernelIdeal.nD Cert.NormQKernelIdeal.τ).loc Cert.NormQKernelIdeal.main_arg2)
      ∧ r.2.mem ((c.tc : Thread Cert.NormQKernelIdeal.nD Cert.NormQKernelIdeal.τ).loc Cert.NormQKernelIdeal.main_arg3) = m ((c.tc : Thread Cert.NormQKernelIdeal.nD Cert.NormQKernelIdeal.τ).loc Cert.NormQKernelIdeal.main_arg3)
      ∧ r.2.mem ((c.tc : Thread Cert.NormQKernelIdeal.nD Cert.NormQKernelIdeal.τ).loc Cert.NormQKernelIdeal.main_arg4) = m ((c.tc : Thread Cert.NormQKernelIdeal.nD Cert.NormQKernelIdeal.τ).loc Cert.NormQKernelIdeal.main_arg4))
      ∧ r.2.sem = fun _ => 0)

def quiescent_NormQReferenceIdeal [hNormQReferenceIdeal : Cert.NormQReferenceIdeal.Facts] : Prop :=
  ∀ (m : (ℓ : Loc Cert.NormQReferenceIdeal.nD Cert.NormQReferenceIdeal.τ Cert.NormQReferenceIdeal.sig) → Buf (Elt Ideal) ℓ) (g : Dev Cert.NormQReferenceIdeal.nD → PrngReg), Pre_NormQReferenceIdeal m →
    θ_run (Cert.NormQReferenceIdeal.defs (F := Ideal)) (onTc (τ := Cert.NormQReferenceIdeal.τ) (Cert.NormQReferenceIdeal.main (F := Ideal))) ⟨m, fun _ => 0, g⟩ (fun r => (∀ c : Dev Cert.NormQReferenceIdeal.nD,
      r.2.mem ((c.tc : Thread Cert.NormQReferenceIdeal.nD Cert.NormQReferenceIdeal.τ).loc Cert.NormQReferenceIdeal.main_arg0) = m ((c.tc : Thread Cert.NormQReferenceIdeal.nD Cert.NormQReferenceIdeal.τ).loc Cert.NormQReferenceIdeal.main_arg0)
      ∧ r.2.mem ((c.tc : Thread Cert.NormQReferenceIdeal.nD Cert.NormQReferenceIdeal.τ).loc Cert.NormQReferenceIdeal.main_arg1) = m ((c.tc : Thread Cert.NormQReferenceIdeal.nD Cert.NormQReferenceIdeal.τ).loc Cert.NormQReferenceIdeal.main_arg1)
      ∧ r.2.mem ((c.tc : Thread Cert.NormQReferenceIdeal.nD Cert.NormQReferenceIdeal.τ).loc Cert.NormQReferenceIdeal.main_arg2) = m ((c.tc : Thread Cert.NormQReferenceIdeal.nD Cert.NormQReferenceIdeal.τ).loc Cert.NormQReferenceIdeal.main_arg2)
      ∧ r.2.mem ((c.tc : Thread Cert.NormQReferenceIdeal.nD Cert.NormQReferenceIdeal.τ).loc Cert.NormQReferenceIdeal.main_arg3) = m ((c.tc : Thread Cert.NormQReferenceIdeal.nD Cert.NormQReferenceIdeal.τ).loc Cert.NormQReferenceIdeal.main_arg3)
      ∧ r.2.mem ((c.tc : Thread Cert.NormQReferenceIdeal.nD Cert.NormQReferenceIdeal.τ).loc Cert.NormQReferenceIdeal.main_arg4) = m ((c.tc : Thread Cert.NormQReferenceIdeal.nD Cert.NormQReferenceIdeal.τ).loc Cert.NormQReferenceIdeal.main_arg4))
      ∧ r.2.sem = fun _ => 0)

def quiescent_NormQReferenceIdeal_pre_finite_nq [hNormQReferenceIdeal : Cert.NormQReferenceIdeal.Facts] [hPre_finite_nq : Cert.Pre_finite_nq.Facts] : Prop :=
  ∀ (m : (ℓ : Loc Cert.NormQReferenceIdeal.nD Cert.NormQReferenceIdeal.τ Cert.NormQReferenceIdeal.sig) → Buf (Elt Ideal) ℓ) (g : Dev Cert.NormQReferenceIdeal.nD → PrngReg), Pre_NormQReferenceIdeal_finite_nq m →
    θ_run (Cert.NormQReferenceIdeal.defs (F := Ideal)) (onTc (τ := Cert.NormQReferenceIdeal.τ) (Cert.NormQReferenceIdeal.main (F := Ideal))) ⟨m, fun _ => 0, g⟩ (fun r => (∀ c : Dev Cert.NormQReferenceIdeal.nD,
      r.2.mem ((c.tc : Thread Cert.NormQReferenceIdeal.nD Cert.NormQReferenceIdeal.τ).loc Cert.NormQReferenceIdeal.main_arg0) = m ((c.tc : Thread Cert.NormQReferenceIdeal.nD Cert.NormQReferenceIdeal.τ).loc Cert.NormQReferenceIdeal.main_arg0)
      ∧ r.2.mem ((c.tc : Thread Cert.NormQReferenceIdeal.nD Cert.NormQReferenceIdeal.τ).loc Cert.NormQReferenceIdeal.main_arg1) = m ((c.tc : Thread Cert.NormQReferenceIdeal.nD Cert.NormQReferenceIdeal.τ).loc Cert.NormQReferenceIdeal.main_arg1)
      ∧ r.2.mem ((c.tc : Thread Cert.NormQReferenceIdeal.nD Cert.NormQReferenceIdeal.τ).loc Cert.NormQReferenceIdeal.main_arg2) = m ((c.tc : Thread Cert.NormQReferenceIdeal.nD Cert.NormQReferenceIdeal.τ).loc Cert.NormQReferenceIdeal.main_arg2)
      ∧ r.2.mem ((c.tc : Thread Cert.NormQReferenceIdeal.nD Cert.NormQReferenceIdeal.τ).loc Cert.NormQReferenceIdeal.main_arg3) = m ((c.tc : Thread Cert.NormQReferenceIdeal.nD Cert.NormQReferenceIdeal.τ).loc Cert.NormQReferenceIdeal.main_arg3)
      ∧ r.2.mem ((c.tc : Thread Cert.NormQReferenceIdeal.nD Cert.NormQReferenceIdeal.τ).loc Cert.NormQReferenceIdeal.main_arg4) = m ((c.tc : Thread Cert.NormQReferenceIdeal.nD Cert.NormQReferenceIdeal.τ).loc Cert.NormQReferenceIdeal.main_arg4))
      ∧ r.2.sem = fun _ => 0)

def quiescent_NormFKernel [hNormFKernel : Cert.NormFKernel.Facts] : Prop :=
  ∀ (m : (ℓ : Loc Cert.NormFKernel.nD Cert.NormFKernel.τ Cert.NormFKernel.sig) → Buf (Elt Bits) ℓ) (g : Dev Cert.NormFKernel.nD → PrngReg), Pre_NormFKernel m →
    θ_run (Cert.NormFKernel.defs (F := Bits)) (onTc (τ := Cert.NormFKernel.τ) (Cert.NormFKernel.main (F := Bits))) ⟨m, fun _ => 0, g⟩ (fun r => (∀ c : Dev Cert.NormFKernel.nD,
      r.2.mem ((c.tc : Thread Cert.NormFKernel.nD Cert.NormFKernel.τ).loc Cert.NormFKernel.main_arg0) = m ((c.tc : Thread Cert.NormFKernel.nD Cert.NormFKernel.τ).loc Cert.NormFKernel.main_arg0)
      ∧ r.2.mem ((c.tc : Thread Cert.NormFKernel.nD Cert.NormFKernel.τ).loc Cert.NormFKernel.main_arg1) = m ((c.tc : Thread Cert.NormFKernel.nD Cert.NormFKernel.τ).loc Cert.NormFKernel.main_arg1)
      ∧ r.2.mem ((c.tc : Thread Cert.NormFKernel.nD Cert.NormFKernel.τ).loc Cert.NormFKernel.main_arg2) = m ((c.tc : Thread Cert.NormFKernel.nD Cert.NormFKernel.τ).loc Cert.NormFKernel.main_arg2)
      ∧ r.2.mem ((c.tc : Thread Cert.NormFKernel.nD Cert.NormFKernel.τ).loc Cert.NormFKernel.main_arg3) = m ((c.tc : Thread Cert.NormFKernel.nD Cert.NormFKernel.τ).loc Cert.NormFKernel.main_arg3)
      ∧ r.2.mem ((c.tc : Thread Cert.NormFKernel.nD Cert.NormFKernel.τ).loc Cert.NormFKernel.main_arg4) = m ((c.tc : Thread Cert.NormFKernel.nD Cert.NormFKernel.τ).loc Cert.NormFKernel.main_arg4))
      ∧ r.2.sem = fun _ => 0)

def quiescent_NormFKernelIdeal [hNormFKernelIdeal : Cert.NormFKernelIdeal.Facts] : Prop :=
  ∀ (m : (ℓ : Loc Cert.NormFKernelIdeal.nD Cert.NormFKernelIdeal.τ Cert.NormFKernelIdeal.sig) → Buf (Elt Ideal) ℓ) (g : Dev Cert.NormFKernelIdeal.nD → PrngReg), Pre_NormFKernelIdeal m →
    θ_run (Cert.NormFKernelIdeal.defs (F := Ideal)) (onTc (τ := Cert.NormFKernelIdeal.τ) (Cert.NormFKernelIdeal.main (F := Ideal))) ⟨m, fun _ => 0, g⟩ (fun r => (∀ c : Dev Cert.NormFKernelIdeal.nD,
      r.2.mem ((c.tc : Thread Cert.NormFKernelIdeal.nD Cert.NormFKernelIdeal.τ).loc Cert.NormFKernelIdeal.main_arg0) = m ((c.tc : Thread Cert.NormFKernelIdeal.nD Cert.NormFKernelIdeal.τ).loc Cert.NormFKernelIdeal.main_arg0)
      ∧ r.2.mem ((c.tc : Thread Cert.NormFKernelIdeal.nD Cert.NormFKernelIdeal.τ).loc Cert.NormFKernelIdeal.main_arg1) = m ((c.tc : Thread Cert.NormFKernelIdeal.nD Cert.NormFKernelIdeal.τ).loc Cert.NormFKernelIdeal.main_arg1)
      ∧ r.2.mem ((c.tc : Thread Cert.NormFKernelIdeal.nD Cert.NormFKernelIdeal.τ).loc Cert.NormFKernelIdeal.main_arg2) = m ((c.tc : Thread Cert.NormFKernelIdeal.nD Cert.NormFKernelIdeal.τ).loc Cert.NormFKernelIdeal.main_arg2)
      ∧ r.2.mem ((c.tc : Thread Cert.NormFKernelIdeal.nD Cert.NormFKernelIdeal.τ).loc Cert.NormFKernelIdeal.main_arg3) = m ((c.tc : Thread Cert.NormFKernelIdeal.nD Cert.NormFKernelIdeal.τ).loc Cert.NormFKernelIdeal.main_arg3)
      ∧ r.2.mem ((c.tc : Thread Cert.NormFKernelIdeal.nD Cert.NormFKernelIdeal.τ).loc Cert.NormFKernelIdeal.main_arg4) = m ((c.tc : Thread Cert.NormFKernelIdeal.nD Cert.NormFKernelIdeal.τ).loc Cert.NormFKernelIdeal.main_arg4))
      ∧ r.2.sem = fun _ => 0)

def quiescent_NormFKernelIdeal_pre_finite_nf [hNormFKernelIdeal : Cert.NormFKernelIdeal.Facts] [hPre_finite_nf : Cert.Pre_finite_nf.Facts] : Prop :=
  ∀ (m : (ℓ : Loc Cert.NormFKernelIdeal.nD Cert.NormFKernelIdeal.τ Cert.NormFKernelIdeal.sig) → Buf (Elt Ideal) ℓ) (g : Dev Cert.NormFKernelIdeal.nD → PrngReg), Pre_NormFKernelIdeal_finite_nf m →
    θ_run (Cert.NormFKernelIdeal.defs (F := Ideal)) (onTc (τ := Cert.NormFKernelIdeal.τ) (Cert.NormFKernelIdeal.main (F := Ideal))) ⟨m, fun _ => 0, g⟩ (fun r => (∀ c : Dev Cert.NormFKernelIdeal.nD,
      r.2.mem ((c.tc : Thread Cert.NormFKernelIdeal.nD Cert.NormFKernelIdeal.τ).loc Cert.NormFKernelIdeal.main_arg0) = m ((c.tc : Thread Cert.NormFKernelIdeal.nD Cert.NormFKernelIdeal.τ).loc Cert.NormFKernelIdeal.main_arg0)
      ∧ r.2.mem ((c.tc : Thread Cert.NormFKernelIdeal.nD Cert.NormFKernelIdeal.τ).loc Cert.NormFKernelIdeal.main_arg1) = m ((c.tc : Thread Cert.NormFKernelIdeal.nD Cert.NormFKernelIdeal.τ).loc Cert.NormFKernelIdeal.main_arg1)
      ∧ r.2.mem ((c.tc : Thread Cert.NormFKernelIdeal.nD Cert.NormFKernelIdeal.τ).loc Cert.NormFKernelIdeal.main_arg2) = m ((c.tc : Thread Cert.NormFKernelIdeal.nD Cert.NormFKernelIdeal.τ).loc Cert.NormFKernelIdeal.main_arg2)
      ∧ r.2.mem ((c.tc : Thread Cert.NormFKernelIdeal.nD Cert.NormFKernelIdeal.τ).loc Cert.NormFKernelIdeal.main_arg3) = m ((c.tc : Thread Cert.NormFKernelIdeal.nD Cert.NormFKernelIdeal.τ).loc Cert.NormFKernelIdeal.main_arg3)
      ∧ r.2.mem ((c.tc : Thread Cert.NormFKernelIdeal.nD Cert.NormFKernelIdeal.τ).loc Cert.NormFKernelIdeal.main_arg4) = m ((c.tc : Thread Cert.NormFKernelIdeal.nD Cert.NormFKernelIdeal.τ).loc Cert.NormFKernelIdeal.main_arg4))
      ∧ r.2.sem = fun _ => 0)

def quiescent_NormFReferenceIdeal [hNormFReferenceIdeal : Cert.NormFReferenceIdeal.Facts] : Prop :=
  ∀ (m : (ℓ : Loc Cert.NormFReferenceIdeal.nD Cert.NormFReferenceIdeal.τ Cert.NormFReferenceIdeal.sig) → Buf (Elt Ideal) ℓ) (g : Dev Cert.NormFReferenceIdeal.nD → PrngReg), Pre_NormFReferenceIdeal m →
    θ_run (Cert.NormFReferenceIdeal.defs (F := Ideal)) (onTc (τ := Cert.NormFReferenceIdeal.τ) (Cert.NormFReferenceIdeal.main (F := Ideal))) ⟨m, fun _ => 0, g⟩ (fun r => (∀ c : Dev Cert.NormFReferenceIdeal.nD,
      r.2.mem ((c.tc : Thread Cert.NormFReferenceIdeal.nD Cert.NormFReferenceIdeal.τ).loc Cert.NormFReferenceIdeal.main_arg0) = m ((c.tc : Thread Cert.NormFReferenceIdeal.nD Cert.NormFReferenceIdeal.τ).loc Cert.NormFReferenceIdeal.main_arg0)
      ∧ r.2.mem ((c.tc : Thread Cert.NormFReferenceIdeal.nD Cert.NormFReferenceIdeal.τ).loc Cert.NormFReferenceIdeal.main_arg1) = m ((c.tc : Thread Cert.NormFReferenceIdeal.nD Cert.NormFReferenceIdeal.τ).loc Cert.NormFReferenceIdeal.main_arg1)
      ∧ r.2.mem ((c.tc : Thread Cert.NormFReferenceIdeal.nD Cert.NormFReferenceIdeal.τ).loc Cert.NormFReferenceIdeal.main_arg2) = m ((c.tc : Thread Cert.NormFReferenceIdeal.nD Cert.NormFReferenceIdeal.τ).loc Cert.NormFReferenceIdeal.main_arg2)
      ∧ r.2.mem ((c.tc : Thread Cert.NormFReferenceIdeal.nD Cert.NormFReferenceIdeal.τ).loc Cert.NormFReferenceIdeal.main_arg3) = m ((c.tc : Thread Cert.NormFReferenceIdeal.nD Cert.NormFReferenceIdeal.τ).loc Cert.NormFReferenceIdeal.main_arg3)
      ∧ r.2.mem ((c.tc : Thread Cert.NormFReferenceIdeal.nD Cert.NormFReferenceIdeal.τ).loc Cert.NormFReferenceIdeal.main_arg4) = m ((c.tc : Thread Cert.NormFReferenceIdeal.nD Cert.NormFReferenceIdeal.τ).loc Cert.NormFReferenceIdeal.main_arg4))
      ∧ r.2.sem = fun _ => 0)

def quiescent_NormFReferenceIdeal_pre_finite_nf [hNormFReferenceIdeal : Cert.NormFReferenceIdeal.Facts] [hPre_finite_nf : Cert.Pre_finite_nf.Facts] : Prop :=
  ∀ (m : (ℓ : Loc Cert.NormFReferenceIdeal.nD Cert.NormFReferenceIdeal.τ Cert.NormFReferenceIdeal.sig) → Buf (Elt Ideal) ℓ) (g : Dev Cert.NormFReferenceIdeal.nD → PrngReg), Pre_NormFReferenceIdeal_finite_nf m →
    θ_run (Cert.NormFReferenceIdeal.defs (F := Ideal)) (onTc (τ := Cert.NormFReferenceIdeal.τ) (Cert.NormFReferenceIdeal.main (F := Ideal))) ⟨m, fun _ => 0, g⟩ (fun r => (∀ c : Dev Cert.NormFReferenceIdeal.nD,
      r.2.mem ((c.tc : Thread Cert.NormFReferenceIdeal.nD Cert.NormFReferenceIdeal.τ).loc Cert.NormFReferenceIdeal.main_arg0) = m ((c.tc : Thread Cert.NormFReferenceIdeal.nD Cert.NormFReferenceIdeal.τ).loc Cert.NormFReferenceIdeal.main_arg0)
      ∧ r.2.mem ((c.tc : Thread Cert.NormFReferenceIdeal.nD Cert.NormFReferenceIdeal.τ).loc Cert.NormFReferenceIdeal.main_arg1) = m ((c.tc : Thread Cert.NormFReferenceIdeal.nD Cert.NormFReferenceIdeal.τ).loc Cert.NormFReferenceIdeal.main_arg1)
      ∧ r.2.mem ((c.tc : Thread Cert.NormFReferenceIdeal.nD Cert.NormFReferenceIdeal.τ).loc Cert.NormFReferenceIdeal.main_arg2) = m ((c.tc : Thread Cert.NormFReferenceIdeal.nD Cert.NormFReferenceIdeal.τ).loc Cert.NormFReferenceIdeal.main_arg2)
      ∧ r.2.mem ((c.tc : Thread Cert.NormFReferenceIdeal.nD Cert.NormFReferenceIdeal.τ).loc Cert.NormFReferenceIdeal.main_arg3) = m ((c.tc : Thread Cert.NormFReferenceIdeal.nD Cert.NormFReferenceIdeal.τ).loc Cert.NormFReferenceIdeal.main_arg3)
      ∧ r.2.mem ((c.tc : Thread Cert.NormFReferenceIdeal.nD Cert.NormFReferenceIdeal.τ).loc Cert.NormFReferenceIdeal.main_arg4) = m ((c.tc : Thread Cert.NormFReferenceIdeal.nD Cert.NormFReferenceIdeal.τ).loc Cert.NormFReferenceIdeal.main_arg4))
      ∧ r.2.sem = fun _ => 0)

def quiescent_NormHKernel [hNormHKernel : Cert.NormHKernel.Facts] : Prop :=
  ∀ (m : (ℓ : Loc Cert.NormHKernel.nD Cert.NormHKernel.τ Cert.NormHKernel.sig) → Buf (Elt Bits) ℓ) (g : Dev Cert.NormHKernel.nD → PrngReg), Pre_NormHKernel m →
    θ_run (Cert.NormHKernel.defs (F := Bits)) (onTc (τ := Cert.NormHKernel.τ) (Cert.NormHKernel.main (F := Bits))) ⟨m, fun _ => 0, g⟩ (fun r => (∀ c : Dev Cert.NormHKernel.nD,
      r.2.mem ((c.tc : Thread Cert.NormHKernel.nD Cert.NormHKernel.τ).loc Cert.NormHKernel.main_arg0) = m ((c.tc : Thread Cert.NormHKernel.nD Cert.NormHKernel.τ).loc Cert.NormHKernel.main_arg0)
      ∧ r.2.mem ((c.tc : Thread Cert.NormHKernel.nD Cert.NormHKernel.τ).loc Cert.NormHKernel.main_arg1) = m ((c.tc : Thread Cert.NormHKernel.nD Cert.NormHKernel.τ).loc Cert.NormHKernel.main_arg1)
      ∧ r.2.mem ((c.tc : Thread Cert.NormHKernel.nD Cert.NormHKernel.τ).loc Cert.NormHKernel.main_arg2) = m ((c.tc : Thread Cert.NormHKernel.nD Cert.NormHKernel.τ).loc Cert.NormHKernel.main_arg2)
      ∧ r.2.mem ((c.tc : Thread Cert.NormHKernel.nD Cert.NormHKernel.τ).loc Cert.NormHKernel.main_arg3) = m ((c.tc : Thread Cert.NormHKernel.nD Cert.NormHKernel.τ).loc Cert.NormHKernel.main_arg3)
      ∧ r.2.mem ((c.tc : Thread Cert.NormHKernel.nD Cert.NormHKernel.τ).loc Cert.NormHKernel.main_arg4) = m ((c.tc : Thread Cert.NormHKernel.nD Cert.NormHKernel.τ).loc Cert.NormHKernel.main_arg4))
      ∧ r.2.sem = fun _ => 0)

def quiescent_NormHKernelIdeal [hNormHKernelIdeal : Cert.NormHKernelIdeal.Facts] : Prop :=
  ∀ (m : (ℓ : Loc Cert.NormHKernelIdeal.nD Cert.NormHKernelIdeal.τ Cert.NormHKernelIdeal.sig) → Buf (Elt Ideal) ℓ) (g : Dev Cert.NormHKernelIdeal.nD → PrngReg), Pre_NormHKernelIdeal m →
    θ_run (Cert.NormHKernelIdeal.defs (F := Ideal)) (onTc (τ := Cert.NormHKernelIdeal.τ) (Cert.NormHKernelIdeal.main (F := Ideal))) ⟨m, fun _ => 0, g⟩ (fun r => (∀ c : Dev Cert.NormHKernelIdeal.nD,
      r.2.mem ((c.tc : Thread Cert.NormHKernelIdeal.nD Cert.NormHKernelIdeal.τ).loc Cert.NormHKernelIdeal.main_arg0) = m ((c.tc : Thread Cert.NormHKernelIdeal.nD Cert.NormHKernelIdeal.τ).loc Cert.NormHKernelIdeal.main_arg0)
      ∧ r.2.mem ((c.tc : Thread Cert.NormHKernelIdeal.nD Cert.NormHKernelIdeal.τ).loc Cert.NormHKernelIdeal.main_arg1) = m ((c.tc : Thread Cert.NormHKernelIdeal.nD Cert.NormHKernelIdeal.τ).loc Cert.NormHKernelIdeal.main_arg1)
      ∧ r.2.mem ((c.tc : Thread Cert.NormHKernelIdeal.nD Cert.NormHKernelIdeal.τ).loc Cert.NormHKernelIdeal.main_arg2) = m ((c.tc : Thread Cert.NormHKernelIdeal.nD Cert.NormHKernelIdeal.τ).loc Cert.NormHKernelIdeal.main_arg2)
      ∧ r.2.mem ((c.tc : Thread Cert.NormHKernelIdeal.nD Cert.NormHKernelIdeal.τ).loc Cert.NormHKernelIdeal.main_arg3) = m ((c.tc : Thread Cert.NormHKernelIdeal.nD Cert.NormHKernelIdeal.τ).loc Cert.NormHKernelIdeal.main_arg3)
      ∧ r.2.mem ((c.tc : Thread Cert.NormHKernelIdeal.nD Cert.NormHKernelIdeal.τ).loc Cert.NormHKernelIdeal.main_arg4) = m ((c.tc : Thread Cert.NormHKernelIdeal.nD Cert.NormHKernelIdeal.τ).loc Cert.NormHKernelIdeal.main_arg4))
      ∧ r.2.sem = fun _ => 0)

def quiescent_NormHKernelIdeal_pre_finite_nh [hNormHKernelIdeal : Cert.NormHKernelIdeal.Facts] [hPre_finite_nh : Cert.Pre_finite_nh.Facts] : Prop :=
  ∀ (m : (ℓ : Loc Cert.NormHKernelIdeal.nD Cert.NormHKernelIdeal.τ Cert.NormHKernelIdeal.sig) → Buf (Elt Ideal) ℓ) (g : Dev Cert.NormHKernelIdeal.nD → PrngReg), Pre_NormHKernelIdeal_finite_nh m →
    θ_run (Cert.NormHKernelIdeal.defs (F := Ideal)) (onTc (τ := Cert.NormHKernelIdeal.τ) (Cert.NormHKernelIdeal.main (F := Ideal))) ⟨m, fun _ => 0, g⟩ (fun r => (∀ c : Dev Cert.NormHKernelIdeal.nD,
      r.2.mem ((c.tc : Thread Cert.NormHKernelIdeal.nD Cert.NormHKernelIdeal.τ).loc Cert.NormHKernelIdeal.main_arg0) = m ((c.tc : Thread Cert.NormHKernelIdeal.nD Cert.NormHKernelIdeal.τ).loc Cert.NormHKernelIdeal.main_arg0)
      ∧ r.2.mem ((c.tc : Thread Cert.NormHKernelIdeal.nD Cert.NormHKernelIdeal.τ).loc Cert.NormHKernelIdeal.main_arg1) = m ((c.tc : Thread Cert.NormHKernelIdeal.nD Cert.NormHKernelIdeal.τ).loc Cert.NormHKernelIdeal.main_arg1)
      ∧ r.2.mem ((c.tc : Thread Cert.NormHKernelIdeal.nD Cert.NormHKernelIdeal.τ).loc Cert.NormHKernelIdeal.main_arg2) = m ((c.tc : Thread Cert.NormHKernelIdeal.nD Cert.NormHKernelIdeal.τ).loc Cert.NormHKernelIdeal.main_arg2)
      ∧ r.2.mem ((c.tc : Thread Cert.NormHKernelIdeal.nD Cert.NormHKernelIdeal.τ).loc Cert.NormHKernelIdeal.main_arg3) = m ((c.tc : Thread Cert.NormHKernelIdeal.nD Cert.NormHKernelIdeal.τ).loc Cert.NormHKernelIdeal.main_arg3)
      ∧ r.2.mem ((c.tc : Thread Cert.NormHKernelIdeal.nD Cert.NormHKernelIdeal.τ).loc Cert.NormHKernelIdeal.main_arg4) = m ((c.tc : Thread Cert.NormHKernelIdeal.nD Cert.NormHKernelIdeal.τ).loc Cert.NormHKernelIdeal.main_arg4))
      ∧ r.2.sem = fun _ => 0)

def quiescent_NormHReferenceIdeal [hNormHReferenceIdeal : Cert.NormHReferenceIdeal.Facts] : Prop :=
  ∀ (m : (ℓ : Loc Cert.NormHReferenceIdeal.nD Cert.NormHReferenceIdeal.τ Cert.NormHReferenceIdeal.sig) → Buf (Elt Ideal) ℓ) (g : Dev Cert.NormHReferenceIdeal.nD → PrngReg), Pre_NormHReferenceIdeal m →
    θ_run (Cert.NormHReferenceIdeal.defs (F := Ideal)) (onTc (τ := Cert.NormHReferenceIdeal.τ) (Cert.NormHReferenceIdeal.main (F := Ideal))) ⟨m, fun _ => 0, g⟩ (fun r => (∀ c : Dev Cert.NormHReferenceIdeal.nD,
      r.2.mem ((c.tc : Thread Cert.NormHReferenceIdeal.nD Cert.NormHReferenceIdeal.τ).loc Cert.NormHReferenceIdeal.main_arg0) = m ((c.tc : Thread Cert.NormHReferenceIdeal.nD Cert.NormHReferenceIdeal.τ).loc Cert.NormHReferenceIdeal.main_arg0)
      ∧ r.2.mem ((c.tc : Thread Cert.NormHReferenceIdeal.nD Cert.NormHReferenceIdeal.τ).loc Cert.NormHReferenceIdeal.main_arg1) = m ((c.tc : Thread Cert.NormHReferenceIdeal.nD Cert.NormHReferenceIdeal.τ).loc Cert.NormHReferenceIdeal.main_arg1)
      ∧ r.2.mem ((c.tc : Thread Cert.NormHReferenceIdeal.nD Cert.NormHReferenceIdeal.τ).loc Cert.NormHReferenceIdeal.main_arg2) = m ((c.tc : Thread Cert.NormHReferenceIdeal.nD Cert.NormHReferenceIdeal.τ).loc Cert.NormHReferenceIdeal.main_arg2)
      ∧ r.2.mem ((c.tc : Thread Cert.NormHReferenceIdeal.nD Cert.NormHReferenceIdeal.τ).loc Cert.NormHReferenceIdeal.main_arg3) = m ((c.tc : Thread Cert.NormHReferenceIdeal.nD Cert.NormHReferenceIdeal.τ).loc Cert.NormHReferenceIdeal.main_arg3)
      ∧ r.2.mem ((c.tc : Thread Cert.NormHReferenceIdeal.nD Cert.NormHReferenceIdeal.τ).loc Cert.NormHReferenceIdeal.main_arg4) = m ((c.tc : Thread Cert.NormHReferenceIdeal.nD Cert.NormHReferenceIdeal.τ).loc Cert.NormHReferenceIdeal.main_arg4))
      ∧ r.2.sem = fun _ => 0)

def quiescent_NormHReferenceIdeal_pre_finite_nh [hNormHReferenceIdeal : Cert.NormHReferenceIdeal.Facts] [hPre_finite_nh : Cert.Pre_finite_nh.Facts] : Prop :=
  ∀ (m : (ℓ : Loc Cert.NormHReferenceIdeal.nD Cert.NormHReferenceIdeal.τ Cert.NormHReferenceIdeal.sig) → Buf (Elt Ideal) ℓ) (g : Dev Cert.NormHReferenceIdeal.nD → PrngReg), Pre_NormHReferenceIdeal_finite_nh m →
    θ_run (Cert.NormHReferenceIdeal.defs (F := Ideal)) (onTc (τ := Cert.NormHReferenceIdeal.τ) (Cert.NormHReferenceIdeal.main (F := Ideal))) ⟨m, fun _ => 0, g⟩ (fun r => (∀ c : Dev Cert.NormHReferenceIdeal.nD,
      r.2.mem ((c.tc : Thread Cert.NormHReferenceIdeal.nD Cert.NormHReferenceIdeal.τ).loc Cert.NormHReferenceIdeal.main_arg0) = m ((c.tc : Thread Cert.NormHReferenceIdeal.nD Cert.NormHReferenceIdeal.τ).loc Cert.NormHReferenceIdeal.main_arg0)
      ∧ r.2.mem ((c.tc : Thread Cert.NormHReferenceIdeal.nD Cert.NormHReferenceIdeal.τ).loc Cert.NormHReferenceIdeal.main_arg1) = m ((c.tc : Thread Cert.NormHReferenceIdeal.nD Cert.NormHReferenceIdeal.τ).loc Cert.NormHReferenceIdeal.main_arg1)
      ∧ r.2.mem ((c.tc : Thread Cert.NormHReferenceIdeal.nD Cert.NormHReferenceIdeal.τ).loc Cert.NormHReferenceIdeal.main_arg2) = m ((c.tc : Thread Cert.NormHReferenceIdeal.nD Cert.NormHReferenceIdeal.τ).loc Cert.NormHReferenceIdeal.main_arg2)
      ∧ r.2.mem ((c.tc : Thread Cert.NormHReferenceIdeal.nD Cert.NormHReferenceIdeal.τ).loc Cert.NormHReferenceIdeal.main_arg3) = m ((c.tc : Thread Cert.NormHReferenceIdeal.nD Cert.NormHReferenceIdeal.τ).loc Cert.NormHReferenceIdeal.main_arg3)
      ∧ r.2.mem ((c.tc : Thread Cert.NormHReferenceIdeal.nD Cert.NormHReferenceIdeal.τ).loc Cert.NormHReferenceIdeal.main_arg4) = m ((c.tc : Thread Cert.NormHReferenceIdeal.nD Cert.NormHReferenceIdeal.τ).loc Cert.NormHReferenceIdeal.main_arg4))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossKernelIdeal_pre_finite_loss [hLossKernelIdeal : Cert.LossKernelIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_finite_loss m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_LossReferenceIdeal_pre_finite_loss [hLossReferenceIdeal : Cert.LossReferenceIdeal.Facts] [hPre_finite_loss : Cert.Pre_finite_loss.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite_loss m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_StickBKernel [hStickBKernel : Cert.StickBKernel.Facts] : Prop :=
  ∀ (m : (ℓ : Loc Cert.StickBKernel.nD Cert.StickBKernel.τ Cert.StickBKernel.sig) → Buf (Elt Bits) ℓ) (g : Dev Cert.StickBKernel.nD → PrngReg), Pre_StickBKernel m →
    θ_run (Cert.StickBKernel.defs (F := Bits)) (onTc (τ := Cert.StickBKernel.τ) (Cert.StickBKernel.main (F := Bits))) ⟨m, fun _ => 0, g⟩ (fun r => (∀ c : Dev Cert.StickBKernel.nD,
      r.2.mem ((c.tc : Thread Cert.StickBKernel.nD Cert.StickBKernel.τ).loc Cert.StickBKernel.main_arg0) = m ((c.tc : Thread Cert.StickBKernel.nD Cert.StickBKernel.τ).loc Cert.StickBKernel.main_arg0)
      ∧ r.2.mem ((c.tc : Thread Cert.StickBKernel.nD Cert.StickBKernel.τ).loc Cert.StickBKernel.main_arg1) = m ((c.tc : Thread Cert.StickBKernel.nD Cert.StickBKernel.τ).loc Cert.StickBKernel.main_arg1))
      ∧ r.2.sem = fun _ => 0)

def quiescent_StickBKernelIdeal [hStickBKernelIdeal : Cert.StickBKernelIdeal.Facts] : Prop :=
  ∀ (m : (ℓ : Loc Cert.StickBKernelIdeal.nD Cert.StickBKernelIdeal.τ Cert.StickBKernelIdeal.sig) → Buf (Elt Ideal) ℓ) (g : Dev Cert.StickBKernelIdeal.nD → PrngReg), Pre_StickBKernelIdeal m →
    θ_run (Cert.StickBKernelIdeal.defs (F := Ideal)) (onTc (τ := Cert.StickBKernelIdeal.τ) (Cert.StickBKernelIdeal.main (F := Ideal))) ⟨m, fun _ => 0, g⟩ (fun r => (∀ c : Dev Cert.StickBKernelIdeal.nD,
      r.2.mem ((c.tc : Thread Cert.StickBKernelIdeal.nD Cert.StickBKernelIdeal.τ).loc Cert.StickBKernelIdeal.main_arg0) = m ((c.tc : Thread Cert.StickBKernelIdeal.nD Cert.StickBKernelIdeal.τ).loc Cert.StickBKernelIdeal.main_arg0)
      ∧ r.2.mem ((c.tc : Thread Cert.StickBKernelIdeal.nD Cert.StickBKernelIdeal.τ).loc Cert.StickBKernelIdeal.main_arg1) = m ((c.tc : Thread Cert.StickBKernelIdeal.nD Cert.StickBKernelIdeal.τ).loc Cert.StickBKernelIdeal.main_arg1))
      ∧ r.2.sem = fun _ => 0)

def quiescent_StickBKernelIdeal_pre_finite_sb [hStickBKernelIdeal : Cert.StickBKernelIdeal.Facts] [hPre_finite_sb : Cert.Pre_finite_sb.Facts] : Prop :=
  ∀ (m : (ℓ : Loc Cert.StickBKernelIdeal.nD Cert.StickBKernelIdeal.τ Cert.StickBKernelIdeal.sig) → Buf (Elt Ideal) ℓ) (g : Dev Cert.StickBKernelIdeal.nD → PrngReg), Pre_StickBKernelIdeal_finite_sb m →
    θ_run (Cert.StickBKernelIdeal.defs (F := Ideal)) (onTc (τ := Cert.StickBKernelIdeal.τ) (Cert.StickBKernelIdeal.main (F := Ideal))) ⟨m, fun _ => 0, g⟩ (fun r => (∀ c : Dev Cert.StickBKernelIdeal.nD,
      r.2.mem ((c.tc : Thread Cert.StickBKernelIdeal.nD Cert.StickBKernelIdeal.τ).loc Cert.StickBKernelIdeal.main_arg0) = m ((c.tc : Thread Cert.StickBKernelIdeal.nD Cert.StickBKernelIdeal.τ).loc Cert.StickBKernelIdeal.main_arg0)
      ∧ r.2.mem ((c.tc : Thread Cert.StickBKernelIdeal.nD Cert.StickBKernelIdeal.τ).loc Cert.StickBKernelIdeal.main_arg1) = m ((c.tc : Thread Cert.StickBKernelIdeal.nD Cert.StickBKernelIdeal.τ).loc Cert.StickBKernelIdeal.main_arg1))
      ∧ r.2.sem = fun _ => 0)

def quiescent_StickBReferenceIdeal [hStickBReferenceIdeal : Cert.StickBReferenceIdeal.Facts] : Prop :=
  ∀ (m : (ℓ : Loc Cert.StickBReferenceIdeal.nD Cert.StickBReferenceIdeal.τ Cert.StickBReferenceIdeal.sig) → Buf (Elt Ideal) ℓ) (g : Dev Cert.StickBReferenceIdeal.nD → PrngReg), Pre_StickBReferenceIdeal m →
    θ_run (Cert.StickBReferenceIdeal.defs (F := Ideal)) (onTc (τ := Cert.StickBReferenceIdeal.τ) (Cert.StickBReferenceIdeal.main (F := Ideal))) ⟨m, fun _ => 0, g⟩ (fun r => (∀ c : Dev Cert.StickBReferenceIdeal.nD,
      r.2.mem ((c.tc : Thread Cert.StickBReferenceIdeal.nD Cert.StickBReferenceIdeal.τ).loc Cert.StickBReferenceIdeal.main_arg0) = m ((c.tc : Thread Cert.StickBReferenceIdeal.nD Cert.StickBReferenceIdeal.τ).loc Cert.StickBReferenceIdeal.main_arg0)
      ∧ r.2.mem ((c.tc : Thread Cert.StickBReferenceIdeal.nD Cert.StickBReferenceIdeal.τ).loc Cert.StickBReferenceIdeal.main_arg1) = m ((c.tc : Thread Cert.StickBReferenceIdeal.nD Cert.StickBReferenceIdeal.τ).loc Cert.StickBReferenceIdeal.main_arg1))
      ∧ r.2.sem = fun _ => 0)

def quiescent_StickBReferenceIdeal_pre_finite_sb [hStickBReferenceIdeal : Cert.StickBReferenceIdeal.Facts] [hPre_finite_sb : Cert.Pre_finite_sb.Facts] : Prop :=
  ∀ (m : (ℓ : Loc Cert.StickBReferenceIdeal.nD Cert.StickBReferenceIdeal.τ Cert.StickBReferenceIdeal.sig) → Buf (Elt Ideal) ℓ) (g : Dev Cert.StickBReferenceIdeal.nD → PrngReg), Pre_StickBReferenceIdeal_finite_sb m →
    θ_run (Cert.StickBReferenceIdeal.defs (F := Ideal)) (onTc (τ := Cert.StickBReferenceIdeal.τ) (Cert.StickBReferenceIdeal.main (F := Ideal))) ⟨m, fun _ => 0, g⟩ (fun r => (∀ c : Dev Cert.StickBReferenceIdeal.nD,
      r.2.mem ((c.tc : Thread Cert.StickBReferenceIdeal.nD Cert.StickBReferenceIdeal.τ).loc Cert.StickBReferenceIdeal.main_arg0) = m ((c.tc : Thread Cert.StickBReferenceIdeal.nD Cert.StickBReferenceIdeal.τ).loc Cert.StickBReferenceIdeal.main_arg0)
      ∧ r.2.mem ((c.tc : Thread Cert.StickBReferenceIdeal.nD Cert.StickBReferenceIdeal.τ).loc Cert.StickBReferenceIdeal.main_arg1) = m ((c.tc : Thread Cert.StickBReferenceIdeal.nD Cert.StickBReferenceIdeal.τ).loc Cert.StickBReferenceIdeal.main_arg1))
      ∧ r.2.sem = fun _ => 0)

def quiescent_MemFwdKernel [hMemFwdKernel : Cert.MemFwdKernel.Facts] : Prop :=
  ∀ (m : (ℓ : Loc Cert.MemFwdKernel.nD Cert.MemFwdKernel.τ Cert.MemFwdKernel.sig) → Buf (Elt Bits) ℓ) (g : Dev Cert.MemFwdKernel.nD → PrngReg), Pre_MemFwdKernel m →
    θ_run (Cert.MemFwdKernel.defs (F := Bits)) (onTc (τ := Cert.MemFwdKernel.τ) (Cert.MemFwdKernel.main (F := Bits))) ⟨m, fun _ => 0, g⟩ (fun r => (∀ c : Dev Cert.MemFwdKernel.nD,
      r.2.mem ((c.tc : Thread Cert.MemFwdKernel.nD Cert.MemFwdKernel.τ).loc Cert.MemFwdKernel.main_arg0) = m ((c.tc : Thread Cert.MemFwdKernel.nD Cert.MemFwdKernel.τ).loc Cert.MemFwdKernel.main_arg0)
      ∧ r.2.mem ((c.tc : Thread Cert.MemFwdKernel.nD Cert.MemFwdKernel.τ).loc Cert.MemFwdKernel.main_arg1) = m ((c.tc : Thread Cert.MemFwdKernel.nD Cert.MemFwdKernel.τ).loc Cert.MemFwdKernel.main_arg1))
      ∧ r.2.sem = fun _ => 0)

def quiescent_MemFwdKernelIdeal [hMemFwdKernelIdeal : Cert.MemFwdKernelIdeal.Facts] : Prop :=
  ∀ (m : (ℓ : Loc Cert.MemFwdKernelIdeal.nD Cert.MemFwdKernelIdeal.τ Cert.MemFwdKernelIdeal.sig) → Buf (Elt Ideal) ℓ) (g : Dev Cert.MemFwdKernelIdeal.nD → PrngReg), Pre_MemFwdKernelIdeal m →
    θ_run (Cert.MemFwdKernelIdeal.defs (F := Ideal)) (onTc (τ := Cert.MemFwdKernelIdeal.τ) (Cert.MemFwdKernelIdeal.main (F := Ideal))) ⟨m, fun _ => 0, g⟩ (fun r => (∀ c : Dev Cert.MemFwdKernelIdeal.nD,
      r.2.mem ((c.tc : Thread Cert.MemFwdKernelIdeal.nD Cert.MemFwdKernelIdeal.τ).loc Cert.MemFwdKernelIdeal.main_arg0) = m ((c.tc : Thread Cert.MemFwdKernelIdeal.nD Cert.MemFwdKernelIdeal.τ).loc Cert.MemFwdKernelIdeal.main_arg0)
      ∧ r.2.mem ((c.tc : Thread Cert.MemFwdKernelIdeal.nD Cert.MemFwdKernelIdeal.τ).loc Cert.MemFwdKernelIdeal.main_arg1) = m ((c.tc : Thread Cert.MemFwdKernelIdeal.nD Cert.MemFwdKernelIdeal.τ).loc Cert.MemFwdKernelIdeal.main_arg1))
      ∧ r.2.sem = fun _ => 0)

def quiescent_MemFwdReferenceIdeal [hMemFwdReferenceIdeal : Cert.MemFwdReferenceIdeal.Facts] : Prop :=
  ∀ (m : (ℓ : Loc Cert.MemFwdReferenceIdeal.nD Cert.MemFwdReferenceIdeal.τ Cert.MemFwdReferenceIdeal.sig) → Buf (Elt Ideal) ℓ) (g : Dev Cert.MemFwdReferenceIdeal.nD → PrngReg), Pre_MemFwdReferenceIdeal m →
    θ_run (Cert.MemFwdReferenceIdeal.defs (F := Ideal)) (onTc (τ := Cert.MemFwdReferenceIdeal.τ) (Cert.MemFwdReferenceIdeal.main (F := Ideal))) ⟨m, fun _ => 0, g⟩ (fun r => (∀ c : Dev Cert.MemFwdReferenceIdeal.nD,
      r.2.mem ((c.tc : Thread Cert.MemFwdReferenceIdeal.nD Cert.MemFwdReferenceIdeal.τ).loc Cert.MemFwdReferenceIdeal.main_arg0) = m ((c.tc : Thread Cert.MemFwdReferenceIdeal.nD Cert.MemFwdReferenceIdeal.τ).loc Cert.MemFwdReferenceIdeal.main_arg0)
      ∧ r.2.mem ((c.tc : Thread Cert.MemFwdReferenceIdeal.nD Cert.MemFwdReferenceIdeal.τ).loc Cert.MemFwdReferenceIdeal.main_arg1) = m ((c.tc : Thread Cert.MemFwdReferenceIdeal.nD Cert.MemFwdReferenceIdeal.τ).loc Cert.MemFwdReferenceIdeal.main_arg1))
      ∧ r.2.sem = fun _ => 0)

def quiescent_StickFKernel [hStickFKernel : Cert.StickFKernel.Facts] : Prop :=
  ∀ (m : (ℓ : Loc Cert.StickFKernel.nD Cert.StickFKernel.τ Cert.StickFKernel.sig) → Buf (Elt Bits) ℓ) (g : Dev Cert.StickFKernel.nD → PrngReg), Pre_StickFKernel m →
    θ_run (Cert.StickFKernel.defs (F := Bits)) (onTc (τ := Cert.StickFKernel.τ) (Cert.StickFKernel.main (F := Bits))) ⟨m, fun _ => 0, g⟩ (fun r => (∀ c : Dev Cert.StickFKernel.nD,
      r.2.mem ((c.tc : Thread Cert.StickFKernel.nD Cert.StickFKernel.τ).loc Cert.StickFKernel.main_arg0) = m ((c.tc : Thread Cert.StickFKernel.nD Cert.StickFKernel.τ).loc Cert.StickFKernel.main_arg0))
      ∧ r.2.sem = fun _ => 0)

def quiescent_StickFKernelIdeal [hStickFKernelIdeal : Cert.StickFKernelIdeal.Facts] : Prop :=
  ∀ (m : (ℓ : Loc Cert.StickFKernelIdeal.nD Cert.StickFKernelIdeal.τ Cert.StickFKernelIdeal.sig) → Buf (Elt Ideal) ℓ) (g : Dev Cert.StickFKernelIdeal.nD → PrngReg), Pre_StickFKernelIdeal m →
    θ_run (Cert.StickFKernelIdeal.defs (F := Ideal)) (onTc (τ := Cert.StickFKernelIdeal.τ) (Cert.StickFKernelIdeal.main (F := Ideal))) ⟨m, fun _ => 0, g⟩ (fun r => (∀ c : Dev Cert.StickFKernelIdeal.nD,
      r.2.mem ((c.tc : Thread Cert.StickFKernelIdeal.nD Cert.StickFKernelIdeal.τ).loc Cert.StickFKernelIdeal.main_arg0) = m ((c.tc : Thread Cert.StickFKernelIdeal.nD Cert.StickFKernelIdeal.τ).loc Cert.StickFKernelIdeal.main_arg0))
      ∧ r.2.sem = fun _ => 0)

def quiescent_StickFKernelIdeal_pre_finite_sbf [hStickFKernelIdeal : Cert.StickFKernelIdeal.Facts] [hPre_finite_sbf : Cert.Pre_finite_sbf.Facts] : Prop :=
  ∀ (m : (ℓ : Loc Cert.StickFKernelIdeal.nD Cert.StickFKernelIdeal.τ Cert.StickFKernelIdeal.sig) → Buf (Elt Ideal) ℓ) (g : Dev Cert.StickFKernelIdeal.nD → PrngReg), Pre_StickFKernelIdeal_finite_sbf m →
    θ_run (Cert.StickFKernelIdeal.defs (F := Ideal)) (onTc (τ := Cert.StickFKernelIdeal.τ) (Cert.StickFKernelIdeal.main (F := Ideal))) ⟨m, fun _ => 0, g⟩ (fun r => (∀ c : Dev Cert.StickFKernelIdeal.nD,
      r.2.mem ((c.tc : Thread Cert.StickFKernelIdeal.nD Cert.StickFKernelIdeal.τ).loc Cert.StickFKernelIdeal.main_arg0) = m ((c.tc : Thread Cert.StickFKernelIdeal.nD Cert.StickFKernelIdeal.τ).loc Cert.StickFKernelIdeal.main_arg0))
      ∧ r.2.sem = fun _ => 0)

def quiescent_StickFReferenceIdeal [hStickFReferenceIdeal : Cert.StickFReferenceIdeal.Facts] : Prop :=
  ∀ (m : (ℓ : Loc Cert.StickFReferenceIdeal.nD Cert.StickFReferenceIdeal.τ Cert.StickFReferenceIdeal.sig) → Buf (Elt Ideal) ℓ) (g : Dev Cert.StickFReferenceIdeal.nD → PrngReg), Pre_StickFReferenceIdeal m →
    θ_run (Cert.StickFReferenceIdeal.defs (F := Ideal)) (onTc (τ := Cert.StickFReferenceIdeal.τ) (Cert.StickFReferenceIdeal.main (F := Ideal))) ⟨m, fun _ => 0, g⟩ (fun r => (∀ c : Dev Cert.StickFReferenceIdeal.nD,
      r.2.mem ((c.tc : Thread Cert.StickFReferenceIdeal.nD Cert.StickFReferenceIdeal.τ).loc Cert.StickFReferenceIdeal.main_arg0) = m ((c.tc : Thread Cert.StickFReferenceIdeal.nD Cert.StickFReferenceIdeal.τ).loc Cert.StickFReferenceIdeal.main_arg0))
      ∧ r.2.sem = fun _ => 0)

def quiescent_StickFReferenceIdeal_pre_finite_sbf [hStickFReferenceIdeal : Cert.StickFReferenceIdeal.Facts] [hPre_finite_sbf : Cert.Pre_finite_sbf.Facts] : Prop :=
  ∀ (m : (ℓ : Loc Cert.StickFReferenceIdeal.nD Cert.StickFReferenceIdeal.τ Cert.StickFReferenceIdeal.sig) → Buf (Elt Ideal) ℓ) (g : Dev Cert.StickFReferenceIdeal.nD → PrngReg), Pre_StickFReferenceIdeal_finite_sbf m →
    θ_run (Cert.StickFReferenceIdeal.defs (F := Ideal)) (onTc (τ := Cert.StickFReferenceIdeal.τ) (Cert.StickFReferenceIdeal.main (F := Ideal))) ⟨m, fun _ => 0, g⟩ (fun r => (∀ c : Dev Cert.StickFReferenceIdeal.nD,
      r.2.mem ((c.tc : Thread Cert.StickFReferenceIdeal.nD Cert.StickFReferenceIdeal.τ).loc Cert.StickFReferenceIdeal.main_arg0) = m ((c.tc : Thread Cert.StickFReferenceIdeal.nD Cert.StickFReferenceIdeal.τ).loc Cert.StickFReferenceIdeal.main_arg0))
      ∧ r.2.sem = fun _ => 0)

def quiescent_ConvFwdKernel [hConvFwdKernel : Cert.ConvFwdKernel.Facts] : Prop :=
  ∀ (m : (ℓ : Loc Cert.ConvFwdKernel.nD Cert.ConvFwdKernel.τ Cert.ConvFwdKernel.sig) → Buf (Elt Bits) ℓ) (g : Dev Cert.ConvFwdKernel.nD → PrngReg), Pre_ConvFwdKernel m →
    θ_run (Cert.ConvFwdKernel.defs (F := Bits)) (onTc (τ := Cert.ConvFwdKernel.τ) (Cert.ConvFwdKernel.main (F := Bits))) ⟨m, fun _ => 0, g⟩ (fun r => (∀ c : Dev Cert.ConvFwdKernel.nD,
      r.2.mem ((c.tc : Thread Cert.ConvFwdKernel.nD Cert.ConvFwdKernel.τ).loc Cert.ConvFwdKernel.main_arg0) = m ((c.tc : Thread Cert.ConvFwdKernel.nD Cert.ConvFwdKernel.τ).loc Cert.ConvFwdKernel.main_arg0)
      ∧ r.2.mem ((c.tc : Thread Cert.ConvFwdKernel.nD Cert.ConvFwdKernel.τ).loc Cert.ConvFwdKernel.main_arg1) = m ((c.tc : Thread Cert.ConvFwdKernel.nD Cert.ConvFwdKernel.τ).loc Cert.ConvFwdKernel.main_arg1))
      ∧ r.2.sem = fun _ => 0)

def quiescent_ConvFwdKernelIdeal [hConvFwdKernelIdeal : Cert.ConvFwdKernelIdeal.Facts] : Prop :=
  ∀ (m : (ℓ : Loc Cert.ConvFwdKernelIdeal.nD Cert.ConvFwdKernelIdeal.τ Cert.ConvFwdKernelIdeal.sig) → Buf (Elt Ideal) ℓ) (g : Dev Cert.ConvFwdKernelIdeal.nD → PrngReg), Pre_ConvFwdKernelIdeal m →
    θ_run (Cert.ConvFwdKernelIdeal.defs (F := Ideal)) (onTc (τ := Cert.ConvFwdKernelIdeal.τ) (Cert.ConvFwdKernelIdeal.main (F := Ideal))) ⟨m, fun _ => 0, g⟩ (fun r => (∀ c : Dev Cert.ConvFwdKernelIdeal.nD,
      r.2.mem ((c.tc : Thread Cert.ConvFwdKernelIdeal.nD Cert.ConvFwdKernelIdeal.τ).loc Cert.ConvFwdKernelIdeal.main_arg0) = m ((c.tc : Thread Cert.ConvFwdKernelIdeal.nD Cert.ConvFwdKernelIdeal.τ).loc Cert.ConvFwdKernelIdeal.main_arg0)
      ∧ r.2.mem ((c.tc : Thread Cert.ConvFwdKernelIdeal.nD Cert.ConvFwdKernelIdeal.τ).loc Cert.ConvFwdKernelIdeal.main_arg1) = m ((c.tc : Thread Cert.ConvFwdKernelIdeal.nD Cert.ConvFwdKernelIdeal.τ).loc Cert.ConvFwdKernelIdeal.main_arg1))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_NormMulKernel [hNormMulKernel : Cert.NormMulKernel.Facts] : Prop :=
  ∀ (m : (ℓ : Loc Cert.NormMulKernel.nD Cert.NormMulKernel.τ Cert.NormMulKernel.sig) → Buf (Elt Bits) ℓ) (g : Dev Cert.NormMulKernel.nD → PrngReg), Pre_NormMulKernel m →
    θ_run (Cert.NormMulKernel.defs (F := Bits)) (onTc (τ := Cert.NormMulKernel.τ) (Cert.NormMulKernel.main (F := Bits))) ⟨m, fun _ => 0, g⟩ (fun r => (∀ c : Dev Cert.NormMulKernel.nD,
      r.2.mem ((c.tc : Thread Cert.NormMulKernel.nD Cert.NormMulKernel.τ).loc Cert.NormMulKernel.main_arg0) = m ((c.tc : Thread Cert.NormMulKernel.nD Cert.NormMulKernel.τ).loc Cert.NormMulKernel.main_arg0)
      ∧ r.2.mem ((c.tc : Thread Cert.NormMulKernel.nD Cert.NormMulKernel.τ).loc Cert.NormMulKernel.main_arg1) = m ((c.tc : Thread Cert.NormMulKernel.nD Cert.NormMulKernel.τ).loc Cert.NormMulKernel.main_arg1)
      ∧ r.2.mem ((c.tc : Thread Cert.NormMulKernel.nD Cert.NormMulKernel.τ).loc Cert.NormMulKernel.main_arg2) = m ((c.tc : Thread Cert.NormMulKernel.nD Cert.NormMulKernel.τ).loc Cert.NormMulKernel.main_arg2))
      ∧ r.2.sem = fun _ => 0)

def quiescent_NormMulKernelIdeal [hNormMulKernelIdeal : Cert.NormMulKernelIdeal.Facts] : Prop :=
  ∀ (m : (ℓ : Loc Cert.NormMulKernelIdeal.nD Cert.NormMulKernelIdeal.τ Cert.NormMulKernelIdeal.sig) → Buf (Elt Ideal) ℓ) (g : Dev Cert.NormMulKernelIdeal.nD → PrngReg), Pre_NormMulKernelIdeal m →
    θ_run (Cert.NormMulKernelIdeal.defs (F := Ideal)) (onTc (τ := Cert.NormMulKernelIdeal.τ) (Cert.NormMulKernelIdeal.main (F := Ideal))) ⟨m, fun _ => 0, g⟩ (fun r => (∀ c : Dev Cert.NormMulKernelIdeal.nD,
      r.2.mem ((c.tc : Thread Cert.NormMulKernelIdeal.nD Cert.NormMulKernelIdeal.τ).loc Cert.NormMulKernelIdeal.main_arg0) = m ((c.tc : Thread Cert.NormMulKernelIdeal.nD Cert.NormMulKernelIdeal.τ).loc Cert.NormMulKernelIdeal.main_arg0)
      ∧ r.2.mem ((c.tc : Thread Cert.NormMulKernelIdeal.nD Cert.NormMulKernelIdeal.τ).loc Cert.NormMulKernelIdeal.main_arg1) = m ((c.tc : Thread Cert.NormMulKernelIdeal.nD Cert.NormMulKernelIdeal.τ).loc Cert.NormMulKernelIdeal.main_arg1)
      ∧ r.2.mem ((c.tc : Thread Cert.NormMulKernelIdeal.nD Cert.NormMulKernelIdeal.τ).loc Cert.NormMulKernelIdeal.main_arg2) = m ((c.tc : Thread Cert.NormMulKernelIdeal.nD Cert.NormMulKernelIdeal.τ).loc Cert.NormMulKernelIdeal.main_arg2))
      ∧ r.2.sem = fun _ => 0)

def quiescent_NormMulReferenceIdeal [hNormMulReferenceIdeal : Cert.NormMulReferenceIdeal.Facts] : Prop :=
  ∀ (m : (ℓ : Loc Cert.NormMulReferenceIdeal.nD Cert.NormMulReferenceIdeal.τ Cert.NormMulReferenceIdeal.sig) → Buf (Elt Ideal) ℓ) (g : Dev Cert.NormMulReferenceIdeal.nD → PrngReg), Pre_NormMulReferenceIdeal m →
    θ_run (Cert.NormMulReferenceIdeal.defs (F := Ideal)) (onTc (τ := Cert.NormMulReferenceIdeal.τ) (Cert.NormMulReferenceIdeal.main (F := Ideal))) ⟨m, fun _ => 0, g⟩ (fun r => (∀ c : Dev Cert.NormMulReferenceIdeal.nD,
      r.2.mem ((c.tc : Thread Cert.NormMulReferenceIdeal.nD Cert.NormMulReferenceIdeal.τ).loc Cert.NormMulReferenceIdeal.main_arg0) = m ((c.tc : Thread Cert.NormMulReferenceIdeal.nD Cert.NormMulReferenceIdeal.τ).loc Cert.NormMulReferenceIdeal.main_arg0)
      ∧ r.2.mem ((c.tc : Thread Cert.NormMulReferenceIdeal.nD Cert.NormMulReferenceIdeal.τ).loc Cert.NormMulReferenceIdeal.main_arg1) = m ((c.tc : Thread Cert.NormMulReferenceIdeal.nD Cert.NormMulReferenceIdeal.τ).loc Cert.NormMulReferenceIdeal.main_arg1)
      ∧ r.2.mem ((c.tc : Thread Cert.NormMulReferenceIdeal.nD Cert.NormMulReferenceIdeal.τ).loc Cert.NormMulReferenceIdeal.main_arg2) = m ((c.tc : Thread Cert.NormMulReferenceIdeal.nD Cert.NormMulReferenceIdeal.τ).loc Cert.NormMulReferenceIdeal.main_arg2))
      ∧ r.2.sem = fun _ => 0)

def quiescent_FfnInKernel [hFfnInKernel : Cert.FfnInKernel.Facts] : Prop :=
  ∀ (m : (ℓ : Loc Cert.FfnInKernel.nD Cert.FfnInKernel.τ Cert.FfnInKernel.sig) → Buf (Elt Bits) ℓ) (g : Dev Cert.FfnInKernel.nD → PrngReg), Pre_FfnInKernel m →
    θ_run (Cert.FfnInKernel.defs (F := Bits)) (onTc (τ := Cert.FfnInKernel.τ) (Cert.FfnInKernel.main (F := Bits))) ⟨m, fun _ => 0, g⟩ (fun r => (∀ c : Dev Cert.FfnInKernel.nD,
      r.2.mem ((c.tc : Thread Cert.FfnInKernel.nD Cert.FfnInKernel.τ).loc Cert.FfnInKernel.main_arg0) = m ((c.tc : Thread Cert.FfnInKernel.nD Cert.FfnInKernel.τ).loc Cert.FfnInKernel.main_arg0)
      ∧ r.2.mem ((c.tc : Thread Cert.FfnInKernel.nD Cert.FfnInKernel.τ).loc Cert.FfnInKernel.main_arg1) = m ((c.tc : Thread Cert.FfnInKernel.nD Cert.FfnInKernel.τ).loc Cert.FfnInKernel.main_arg1)
      ∧ r.2.mem ((c.tc : Thread Cert.FfnInKernel.nD Cert.FfnInKernel.τ).loc Cert.FfnInKernel.main_arg2) = m ((c.tc : Thread Cert.FfnInKernel.nD Cert.FfnInKernel.τ).loc Cert.FfnInKernel.main_arg2))
      ∧ r.2.sem = fun _ => 0)

def quiescent_FfnInKernelIdeal [hFfnInKernelIdeal : Cert.FfnInKernelIdeal.Facts] : Prop :=
  ∀ (m : (ℓ : Loc Cert.FfnInKernelIdeal.nD Cert.FfnInKernelIdeal.τ Cert.FfnInKernelIdeal.sig) → Buf (Elt Ideal) ℓ) (g : Dev Cert.FfnInKernelIdeal.nD → PrngReg), Pre_FfnInKernelIdeal m →
    θ_run (Cert.FfnInKernelIdeal.defs (F := Ideal)) (onTc (τ := Cert.FfnInKernelIdeal.τ) (Cert.FfnInKernelIdeal.main (F := Ideal))) ⟨m, fun _ => 0, g⟩ (fun r => (∀ c : Dev Cert.FfnInKernelIdeal.nD,
      r.2.mem ((c.tc : Thread Cert.FfnInKernelIdeal.nD Cert.FfnInKernelIdeal.τ).loc Cert.FfnInKernelIdeal.main_arg0) = m ((c.tc : Thread Cert.FfnInKernelIdeal.nD Cert.FfnInKernelIdeal.τ).loc Cert.FfnInKernelIdeal.main_arg0)
      ∧ r.2.mem ((c.tc : Thread Cert.FfnInKernelIdeal.nD Cert.FfnInKernelIdeal.τ).loc Cert.FfnInKernelIdeal.main_arg1) = m ((c.tc : Thread Cert.FfnInKernelIdeal.nD Cert.FfnInKernelIdeal.τ).loc Cert.FfnInKernelIdeal.main_arg1)
      ∧ r.2.mem ((c.tc : Thread Cert.FfnInKernelIdeal.nD Cert.FfnInKernelIdeal.τ).loc Cert.FfnInKernelIdeal.main_arg2) = m ((c.tc : Thread Cert.FfnInKernelIdeal.nD Cert.FfnInKernelIdeal.τ).loc Cert.FfnInKernelIdeal.main_arg2))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1)
      ∧ r.2.mem ((c.tc : Thread Cert.FfnInReferenceIdeal.nD Cert.FfnInReferenceIdeal.τ).loc Cert.FfnInReferenceIdeal.main_arg2) = m ((c.tc : Thread Cert.FfnInReferenceIdeal.nD Cert.FfnInReferenceIdeal.τ).loc Cert.FfnInReferenceIdeal.main_arg2))
      ∧ r.2.sem = fun _ => 0)

def quiescent_MatMulKernel [hMatMulKernel : Cert.MatMulKernel.Facts] : Prop :=
  ∀ (m : (ℓ : Loc Cert.MatMulKernel.nD Cert.MatMulKernel.τ Cert.MatMulKernel.sig) → Buf (Elt Bits) ℓ) (g : Dev Cert.MatMulKernel.nD → PrngReg), Pre_MatMulKernel m →
    θ_run (Cert.MatMulKernel.defs (F := Bits)) (onTc (τ := Cert.MatMulKernel.τ) (Cert.MatMulKernel.main (F := Bits))) ⟨m, fun _ => 0, g⟩ (fun r => (∀ c : Dev Cert.MatMulKernel.nD,
      r.2.mem ((c.tc : Thread Cert.MatMulKernel.nD Cert.MatMulKernel.τ).loc Cert.MatMulKernel.main_arg0) = m ((c.tc : Thread Cert.MatMulKernel.nD Cert.MatMulKernel.τ).loc Cert.MatMulKernel.main_arg0)
      ∧ r.2.mem ((c.tc : Thread Cert.MatMulKernel.nD Cert.MatMulKernel.τ).loc Cert.MatMulKernel.main_arg1) = m ((c.tc : Thread Cert.MatMulKernel.nD Cert.MatMulKernel.τ).loc Cert.MatMulKernel.main_arg1))
      ∧ r.2.sem = fun _ => 0)

def quiescent_MatMulKernelIdeal [hMatMulKernelIdeal : Cert.MatMulKernelIdeal.Facts] : Prop :=
  ∀ (m : (ℓ : Loc Cert.MatMulKernelIdeal.nD Cert.MatMulKernelIdeal.τ Cert.MatMulKernelIdeal.sig) → Buf (Elt Ideal) ℓ) (g : Dev Cert.MatMulKernelIdeal.nD → PrngReg), Pre_MatMulKernelIdeal m →
    θ_run (Cert.MatMulKernelIdeal.defs (F := Ideal)) (onTc (τ := Cert.MatMulKernelIdeal.τ) (Cert.MatMulKernelIdeal.main (F := Ideal))) ⟨m, fun _ => 0, g⟩ (fun r => (∀ c : Dev Cert.MatMulKernelIdeal.nD,
      r.2.mem ((c.tc : Thread Cert.MatMulKernelIdeal.nD Cert.MatMulKernelIdeal.τ).loc Cert.MatMulKernelIdeal.main_arg0) = m ((c.tc : Thread Cert.MatMulKernelIdeal.nD Cert.MatMulKernelIdeal.τ).loc Cert.MatMulKernelIdeal.main_arg0)
      ∧ r.2.mem ((c.tc : Thread Cert.MatMulKernelIdeal.nD Cert.MatMulKernelIdeal.τ).loc Cert.MatMulKernelIdeal.main_arg1) = m ((c.tc : Thread Cert.MatMulKernelIdeal.nD Cert.MatMulKernelIdeal.τ).loc Cert.MatMulKernelIdeal.main_arg1))
      ∧ r.2.sem = fun _ => 0)

def quiescent_MatMulReferenceIdeal [hMatMulReferenceIdeal : Cert.MatMulReferenceIdeal.Facts] : Prop :=
  ∀ (m : (ℓ : Loc Cert.MatMulReferenceIdeal.nD Cert.MatMulReferenceIdeal.τ Cert.MatMulReferenceIdeal.sig) → Buf (Elt Ideal) ℓ) (g : Dev Cert.MatMulReferenceIdeal.nD → PrngReg), Pre_MatMulReferenceIdeal m →
    θ_run (Cert.MatMulReferenceIdeal.defs (F := Ideal)) (onTc (τ := Cert.MatMulReferenceIdeal.τ) (Cert.MatMulReferenceIdeal.main (F := Ideal))) ⟨m, fun _ => 0, g⟩ (fun r => (∀ c : Dev Cert.MatMulReferenceIdeal.nD,
      r.2.mem ((c.tc : Thread Cert.MatMulReferenceIdeal.nD Cert.MatMulReferenceIdeal.τ).loc Cert.MatMulReferenceIdeal.main_arg0) = m ((c.tc : Thread Cert.MatMulReferenceIdeal.nD Cert.MatMulReferenceIdeal.τ).loc Cert.MatMulReferenceIdeal.main_arg0)
      ∧ r.2.mem ((c.tc : Thread Cert.MatMulReferenceIdeal.nD Cert.MatMulReferenceIdeal.τ).loc Cert.MatMulReferenceIdeal.main_arg1) = m ((c.tc : Thread Cert.MatMulReferenceIdeal.nD Cert.MatMulReferenceIdeal.τ).loc Cert.MatMulReferenceIdeal.main_arg1))
      ∧ r.2.sem = fun _ => 0)

def quiescent_AdamWKernel [hAdamWKernel : Cert.AdamWKernel.Facts] : Prop :=
  ∀ (m : (ℓ : Loc Cert.AdamWKernel.nD Cert.AdamWKernel.τ Cert.AdamWKernel.sig) → Buf (Elt Bits) ℓ) (g : Dev Cert.AdamWKernel.nD → PrngReg), Pre_AdamWKernel m →
    θ_run (Cert.AdamWKernel.defs (F := Bits)) (onTc (τ := Cert.AdamWKernel.τ) (Cert.AdamWKernel.main (F := Bits))) ⟨m, fun _ => 0, g⟩ (fun r => (∀ c : Dev Cert.AdamWKernel.nD,
      r.2.mem ((c.tc : Thread Cert.AdamWKernel.nD Cert.AdamWKernel.τ).loc Cert.AdamWKernel.main_arg0) = m ((c.tc : Thread Cert.AdamWKernel.nD Cert.AdamWKernel.τ).loc Cert.AdamWKernel.main_arg0)
      ∧ r.2.mem ((c.tc : Thread Cert.AdamWKernel.nD Cert.AdamWKernel.τ).loc Cert.AdamWKernel.main_arg1) = m ((c.tc : Thread Cert.AdamWKernel.nD Cert.AdamWKernel.τ).loc Cert.AdamWKernel.main_arg1)
      ∧ r.2.mem ((c.tc : Thread Cert.AdamWKernel.nD Cert.AdamWKernel.τ).loc Cert.AdamWKernel.main_arg2) = m ((c.tc : Thread Cert.AdamWKernel.nD Cert.AdamWKernel.τ).loc Cert.AdamWKernel.main_arg2)
      ∧ r.2.mem ((c.tc : Thread Cert.AdamWKernel.nD Cert.AdamWKernel.τ).loc Cert.AdamWKernel.main_arg3) = m ((c.tc : Thread Cert.AdamWKernel.nD Cert.AdamWKernel.τ).loc Cert.AdamWKernel.main_arg3))
      ∧ r.2.sem = fun _ => 0)

def quiescent_AdamWKernelIdeal [hAdamWKernelIdeal : Cert.AdamWKernelIdeal.Facts] : Prop :=
  ∀ (m : (ℓ : Loc Cert.AdamWKernelIdeal.nD Cert.AdamWKernelIdeal.τ Cert.AdamWKernelIdeal.sig) → Buf (Elt Ideal) ℓ) (g : Dev Cert.AdamWKernelIdeal.nD → PrngReg), Pre_AdamWKernelIdeal m →
    θ_run (Cert.AdamWKernelIdeal.defs (F := Ideal)) (onTc (τ := Cert.AdamWKernelIdeal.τ) (Cert.AdamWKernelIdeal.main (F := Ideal))) ⟨m, fun _ => 0, g⟩ (fun r => (∀ c : Dev Cert.AdamWKernelIdeal.nD,
      r.2.mem ((c.tc : Thread Cert.AdamWKernelIdeal.nD Cert.AdamWKernelIdeal.τ).loc Cert.AdamWKernelIdeal.main_arg0) = m ((c.tc : Thread Cert.AdamWKernelIdeal.nD Cert.AdamWKernelIdeal.τ).loc Cert.AdamWKernelIdeal.main_arg0)
      ∧ r.2.mem ((c.tc : Thread Cert.AdamWKernelIdeal.nD Cert.AdamWKernelIdeal.τ).loc Cert.AdamWKernelIdeal.main_arg1) = m ((c.tc : Thread Cert.AdamWKernelIdeal.nD Cert.AdamWKernelIdeal.τ).loc Cert.AdamWKernelIdeal.main_arg1)
      ∧ r.2.mem ((c.tc : Thread Cert.AdamWKernelIdeal.nD Cert.AdamWKernelIdeal.τ).loc Cert.AdamWKernelIdeal.main_arg2) = m ((c.tc : Thread Cert.AdamWKernelIdeal.nD Cert.AdamWKernelIdeal.τ).loc Cert.AdamWKernelIdeal.main_arg2)
      ∧ r.2.mem ((c.tc : Thread Cert.AdamWKernelIdeal.nD Cert.AdamWKernelIdeal.τ).loc Cert.AdamWKernelIdeal.main_arg3) = m ((c.tc : Thread Cert.AdamWKernelIdeal.nD Cert.AdamWKernelIdeal.τ).loc Cert.AdamWKernelIdeal.main_arg3))
      ∧ r.2.sem = fun _ => 0)

def quiescent_AdamWReferenceIdeal [hAdamWReferenceIdeal : Cert.AdamWReferenceIdeal.Facts] : Prop :=
  ∀ (m : (ℓ : Loc Cert.AdamWReferenceIdeal.nD Cert.AdamWReferenceIdeal.τ Cert.AdamWReferenceIdeal.sig) → Buf (Elt Ideal) ℓ) (g : Dev Cert.AdamWReferenceIdeal.nD → PrngReg), Pre_AdamWReferenceIdeal m →
    θ_run (Cert.AdamWReferenceIdeal.defs (F := Ideal)) (onTc (τ := Cert.AdamWReferenceIdeal.τ) (Cert.AdamWReferenceIdeal.main (F := Ideal))) ⟨m, fun _ => 0, g⟩ (fun r => (∀ c : Dev Cert.AdamWReferenceIdeal.nD,
      r.2.mem ((c.tc : Thread Cert.AdamWReferenceIdeal.nD Cert.AdamWReferenceIdeal.τ).loc Cert.AdamWReferenceIdeal.main_arg0) = m ((c.tc : Thread Cert.AdamWReferenceIdeal.nD Cert.AdamWReferenceIdeal.τ).loc Cert.AdamWReferenceIdeal.main_arg0)
      ∧ r.2.mem ((c.tc : Thread Cert.AdamWReferenceIdeal.nD Cert.AdamWReferenceIdeal.τ).loc Cert.AdamWReferenceIdeal.main_arg1) = m ((c.tc : Thread Cert.AdamWReferenceIdeal.nD Cert.AdamWReferenceIdeal.τ).loc Cert.AdamWReferenceIdeal.main_arg1)
      ∧ r.2.mem ((c.tc : Thread Cert.AdamWReferenceIdeal.nD Cert.AdamWReferenceIdeal.τ).loc Cert.AdamWReferenceIdeal.main_arg2) = m ((c.tc : Thread Cert.AdamWReferenceIdeal.nD Cert.AdamWReferenceIdeal.τ).loc Cert.AdamWReferenceIdeal.main_arg2)
      ∧ r.2.mem ((c.tc : Thread Cert.AdamWReferenceIdeal.nD Cert.AdamWReferenceIdeal.τ).loc Cert.AdamWReferenceIdeal.main_arg3) = m ((c.tc : Thread Cert.AdamWReferenceIdeal.nD Cert.AdamWReferenceIdeal.τ).loc Cert.AdamWReferenceIdeal.main_arg3))
      ∧ r.2.sem = fun _ => 0)

def quiescent_AssembleKernel [hAssembleKernel : Cert.AssembleKernel.Facts] : Prop :=
  ∀ (m : (ℓ : Loc Cert.AssembleKernel.nD Cert.AssembleKernel.τ Cert.AssembleKernel.sig) → Buf (Elt Bits) ℓ) (g : Dev Cert.AssembleKernel.nD → PrngReg), Pre_AssembleKernel m →
    θ_run (Cert.AssembleKernel.defs (F := Bits)) (onTc (τ := Cert.AssembleKernel.τ) (Cert.AssembleKernel.main (F := Bits))) ⟨m, fun _ => 0, g⟩ (fun r => (∀ c : Dev Cert.AssembleKernel.nD,
      r.2.mem ((c.tc : Thread Cert.AssembleKernel.nD Cert.AssembleKernel.τ).loc Cert.AssembleKernel.main_arg0) = m ((c.tc : Thread Cert.AssembleKernel.nD Cert.AssembleKernel.τ).loc Cert.AssembleKernel.main_arg0)
      ∧ r.2.mem ((c.tc : Thread Cert.AssembleKernel.nD Cert.AssembleKernel.τ).loc Cert.AssembleKernel.main_arg1) = m ((c.tc : Thread Cert.AssembleKernel.nD Cert.AssembleKernel.τ).loc Cert.AssembleKernel.main_arg1)
      ∧ r.2.mem ((c.tc : Thread Cert.AssembleKernel.nD Cert.AssembleKernel.τ).loc Cert.AssembleKernel.main_arg2) = m ((c.tc : Thread Cert.AssembleKernel.nD Cert.AssembleKernel.τ).loc Cert.AssembleKernel.main_arg2)
      ∧ r.2.mem ((c.tc : Thread Cert.AssembleKernel.nD Cert.AssembleKernel.τ).loc Cert.AssembleKernel.main_arg3) = m ((c.tc : Thread Cert.AssembleKernel.nD Cert.AssembleKernel.τ).loc Cert.AssembleKernel.main_arg3)
      ∧ r.2.mem ((c.tc : Thread Cert.AssembleKernel.nD Cert.AssembleKernel.τ).loc Cert.AssembleKernel.main_arg4) = m ((c.tc : Thread Cert.AssembleKernel.nD Cert.AssembleKernel.τ).loc Cert.AssembleKernel.main_arg4)
      ∧ r.2.mem ((c.tc : Thread Cert.AssembleKernel.nD Cert.AssembleKernel.τ).loc Cert.AssembleKernel.main_arg5) = m ((c.tc : Thread Cert.AssembleKernel.nD Cert.AssembleKernel.τ).loc Cert.AssembleKernel.main_arg5)
      ∧ r.2.mem ((c.tc : Thread Cert.AssembleKernel.nD Cert.AssembleKernel.τ).loc Cert.AssembleKernel.main_arg6) = m ((c.tc : Thread Cert.AssembleKernel.nD Cert.AssembleKernel.τ).loc Cert.AssembleKernel.main_arg6)
      ∧ r.2.mem ((c.tc : Thread Cert.AssembleKernel.nD Cert.AssembleKernel.τ).loc Cert.AssembleKernel.main_arg7) = m ((c.tc : Thread Cert.AssembleKernel.nD Cert.AssembleKernel.τ).loc Cert.AssembleKernel.main_arg7))
      ∧ r.2.sem = fun _ => 0)

def quiescent_AssembleKernelIdeal [hAssembleKernelIdeal : Cert.AssembleKernelIdeal.Facts] : Prop :=
  ∀ (m : (ℓ : Loc Cert.AssembleKernelIdeal.nD Cert.AssembleKernelIdeal.τ Cert.AssembleKernelIdeal.sig) → Buf (Elt Ideal) ℓ) (g : Dev Cert.AssembleKernelIdeal.nD → PrngReg), Pre_AssembleKernelIdeal m →
    θ_run (Cert.AssembleKernelIdeal.defs (F := Ideal)) (onTc (τ := Cert.AssembleKernelIdeal.τ) (Cert.AssembleKernelIdeal.main (F := Ideal))) ⟨m, fun _ => 0, g⟩ (fun r => (∀ c : Dev Cert.AssembleKernelIdeal.nD,
      r.2.mem ((c.tc : Thread Cert.AssembleKernelIdeal.nD Cert.AssembleKernelIdeal.τ).loc Cert.AssembleKernelIdeal.main_arg0) = m ((c.tc : Thread Cert.AssembleKernelIdeal.nD Cert.AssembleKernelIdeal.τ).loc Cert.AssembleKernelIdeal.main_arg0)
      ∧ r.2.mem ((c.tc : Thread Cert.AssembleKernelIdeal.nD Cert.AssembleKernelIdeal.τ).loc Cert.AssembleKernelIdeal.main_arg1) = m ((c.tc : Thread Cert.AssembleKernelIdeal.nD Cert.AssembleKernelIdeal.τ).loc Cert.AssembleKernelIdeal.main_arg1)
      ∧ r.2.mem ((c.tc : Thread Cert.AssembleKernelIdeal.nD Cert.AssembleKernelIdeal.τ).loc Cert.AssembleKernelIdeal.main_arg2) = m ((c.tc : Thread Cert.AssembleKernelIdeal.nD Cert.AssembleKernelIdeal.τ).loc Cert.AssembleKernelIdeal.main_arg2)
      ∧ r.2.mem ((c.tc : Thread Cert.AssembleKernelIdeal.nD Cert.AssembleKernelIdeal.τ).loc Cert.AssembleKernelIdeal.main_arg3) = m ((c.tc : Thread Cert.AssembleKernelIdeal.nD Cert.AssembleKernelIdeal.τ).loc Cert.AssembleKernelIdeal.main_arg3)
      ∧ r.2.mem ((c.tc : Thread Cert.AssembleKernelIdeal.nD Cert.AssembleKernelIdeal.τ).loc Cert.AssembleKernelIdeal.main_arg4) = m ((c.tc : Thread Cert.AssembleKernelIdeal.nD Cert.AssembleKernelIdeal.τ).loc Cert.AssembleKernelIdeal.main_arg4)
      ∧ r.2.mem ((c.tc : Thread Cert.AssembleKernelIdeal.nD Cert.AssembleKernelIdeal.τ).loc Cert.AssembleKernelIdeal.main_arg5) = m ((c.tc : Thread Cert.AssembleKernelIdeal.nD Cert.AssembleKernelIdeal.τ).loc Cert.AssembleKernelIdeal.main_arg5)
      ∧ r.2.mem ((c.tc : Thread Cert.AssembleKernelIdeal.nD Cert.AssembleKernelIdeal.τ).loc Cert.AssembleKernelIdeal.main_arg6) = m ((c.tc : Thread Cert.AssembleKernelIdeal.nD Cert.AssembleKernelIdeal.τ).loc Cert.AssembleKernelIdeal.main_arg6)
      ∧ r.2.mem ((c.tc : Thread Cert.AssembleKernelIdeal.nD Cert.AssembleKernelIdeal.τ).loc Cert.AssembleKernelIdeal.main_arg7) = m ((c.tc : Thread Cert.AssembleKernelIdeal.nD Cert.AssembleKernelIdeal.τ).loc Cert.AssembleKernelIdeal.main_arg7))
      ∧ r.2.sem = fun _ => 0)

def quiescent_AssembleReferenceIdeal [hAssembleReferenceIdeal : Cert.AssembleReferenceIdeal.Facts] : Prop :=
  ∀ (m : (ℓ : Loc Cert.AssembleReferenceIdeal.nD Cert.AssembleReferenceIdeal.τ Cert.AssembleReferenceIdeal.sig) → Buf (Elt Ideal) ℓ) (g : Dev Cert.AssembleReferenceIdeal.nD → PrngReg), Pre_AssembleReferenceIdeal m →
    θ_run (Cert.AssembleReferenceIdeal.defs (F := Ideal)) (onTc (τ := Cert.AssembleReferenceIdeal.τ) (Cert.AssembleReferenceIdeal.main (F := Ideal))) ⟨m, fun _ => 0, g⟩ (fun r => (∀ c : Dev Cert.AssembleReferenceIdeal.nD,
      r.2.mem ((c.tc : Thread Cert.AssembleReferenceIdeal.nD Cert.AssembleReferenceIdeal.τ).loc Cert.AssembleReferenceIdeal.main_arg0) = m ((c.tc : Thread Cert.AssembleReferenceIdeal.nD Cert.AssembleReferenceIdeal.τ).loc Cert.AssembleReferenceIdeal.main_arg0)
      ∧ r.2.mem ((c.tc : Thread Cert.AssembleReferenceIdeal.nD Cert.AssembleReferenceIdeal.τ).loc Cert.AssembleReferenceIdeal.main_arg1) = m ((c.tc : Thread Cert.AssembleReferenceIdeal.nD Cert.AssembleReferenceIdeal.τ).loc Cert.AssembleReferenceIdeal.main_arg1)
      ∧ r.2.mem ((c.tc : Thread Cert.AssembleReferenceIdeal.nD Cert.AssembleReferenceIdeal.τ).loc Cert.AssembleReferenceIdeal.main_arg2) = m ((c.tc : Thread Cert.AssembleReferenceIdeal.nD Cert.AssembleReferenceIdeal.τ).loc Cert.AssembleReferenceIdeal.main_arg2)
      ∧ r.2.mem ((c.tc : Thread Cert.AssembleReferenceIdeal.nD Cert.AssembleReferenceIdeal.τ).loc Cert.AssembleReferenceIdeal.main_arg3) = m ((c.tc : Thread Cert.AssembleReferenceIdeal.nD Cert.AssembleReferenceIdeal.τ).loc Cert.AssembleReferenceIdeal.main_arg3)
      ∧ r.2.mem ((c.tc : Thread Cert.AssembleReferenceIdeal.nD Cert.AssembleReferenceIdeal.τ).loc Cert.AssembleReferenceIdeal.main_arg4) = m ((c.tc : Thread Cert.AssembleReferenceIdeal.nD Cert.AssembleReferenceIdeal.τ).loc Cert.AssembleReferenceIdeal.main_arg4)
      ∧ r.2.mem ((c.tc : Thread Cert.AssembleReferenceIdeal.nD Cert.AssembleReferenceIdeal.τ).loc Cert.AssembleReferenceIdeal.main_arg5) = m ((c.tc : Thread Cert.AssembleReferenceIdeal.nD Cert.AssembleReferenceIdeal.τ).loc Cert.AssembleReferenceIdeal.main_arg5)
      ∧ r.2.mem ((c.tc : Thread Cert.AssembleReferenceIdeal.nD Cert.AssembleReferenceIdeal.τ).loc Cert.AssembleReferenceIdeal.main_arg6) = m ((c.tc : Thread Cert.AssembleReferenceIdeal.nD Cert.AssembleReferenceIdeal.τ).loc Cert.AssembleReferenceIdeal.main_arg6)
      ∧ r.2.mem ((c.tc : Thread Cert.AssembleReferenceIdeal.nD Cert.AssembleReferenceIdeal.τ).loc Cert.AssembleReferenceIdeal.main_arg7) = m ((c.tc : Thread Cert.AssembleReferenceIdeal.nD Cert.AssembleReferenceIdeal.τ).loc Cert.AssembleReferenceIdeal.main_arg7))
      ∧ r.2.sem = fun _ => 0)

def quiescent_ExchangeKernel [hExchangeKernel : Cert.ExchangeKernel.Facts] : Prop :=
  ∀ (m : (ℓ : Loc Cert.ExchangeKernel.nD Cert.ExchangeKernel.τ Cert.ExchangeKernel.sig) → Buf (Elt Bits) ℓ) (g : Dev Cert.ExchangeKernel.nD → PrngReg), Pre_ExchangeKernel m →
    θ_run (Cert.ExchangeKernel.defs (F := Bits)) (onTc (τ := Cert.ExchangeKernel.τ) (Cert.ExchangeKernel.main (F := Bits))) ⟨m, fun _ => 0, g⟩ (fun r => (∀ c : Dev Cert.ExchangeKernel.nD,
      r.2.mem ((c.tc : Thread Cert.ExchangeKernel.nD Cert.ExchangeKernel.τ).loc Cert.ExchangeKernel.main_arg0) = m ((c.tc : Thread Cert.ExchangeKernel.nD Cert.ExchangeKernel.τ).loc Cert.ExchangeKernel.main_arg0))
      ∧ r.2.sem = fun _ => 0)

def quiescent_ExchangeKernelIdeal [hExchangeKernelIdeal : Cert.ExchangeKernelIdeal.Facts] : Prop :=
  ∀ (m : (ℓ : Loc Cert.ExchangeKernelIdeal.nD Cert.ExchangeKernelIdeal.τ Cert.ExchangeKernelIdeal.sig) → Buf (Elt Ideal) ℓ) (g : Dev Cert.ExchangeKernelIdeal.nD → PrngReg), Pre_ExchangeKernelIdeal m →
    θ_run (Cert.ExchangeKernelIdeal.defs (F := Ideal)) (onTc (τ := Cert.ExchangeKernelIdeal.τ) (Cert.ExchangeKernelIdeal.main (F := Ideal))) ⟨m, fun _ => 0, g⟩ (fun r => (∀ c : Dev Cert.ExchangeKernelIdeal.nD,
      r.2.mem ((c.tc : Thread Cert.ExchangeKernelIdeal.nD Cert.ExchangeKernelIdeal.τ).loc Cert.ExchangeKernelIdeal.main_arg0) = m ((c.tc : Thread Cert.ExchangeKernelIdeal.nD Cert.ExchangeKernelIdeal.τ).loc Cert.ExchangeKernelIdeal.main_arg0))
      ∧ r.2.sem = fun _ => 0)

def quiescent_ExchangeReferenceIdeal [hExchangeReferenceIdeal : Cert.ExchangeReferenceIdeal.Facts] : Prop :=
  ∀ (m : (ℓ : Loc Cert.ExchangeReferenceIdeal.nD Cert.ExchangeReferenceIdeal.τ Cert.ExchangeReferenceIdeal.sig) → Buf (Elt Ideal) ℓ) (g : Dev Cert.ExchangeReferenceIdeal.nD → PrngReg), Pre_ExchangeReferenceIdeal m →
    θ_run (Cert.ExchangeReferenceIdeal.defs (F := Ideal)) (onTc (τ := Cert.ExchangeReferenceIdeal.τ) (Cert.ExchangeReferenceIdeal.main (F := Ideal))) ⟨m, fun _ => 0, g⟩ (fun r => (∀ c : Dev Cert.ExchangeReferenceIdeal.nD,
      r.2.mem ((c.tc : Thread Cert.ExchangeReferenceIdeal.nD Cert.ExchangeReferenceIdeal.τ).loc Cert.ExchangeReferenceIdeal.main_arg0) = m ((c.tc : Thread Cert.ExchangeReferenceIdeal.nD Cert.ExchangeReferenceIdeal.τ).loc Cert.ExchangeReferenceIdeal.main_arg0))
      ∧ r.2.sem = fun _ => 0)

def preserves_GainKernel_GainKernelIdeal : Prop :=
  True

def algebraic_GainKernelIdeal_GainReferenceIdeal [hGainKernelIdeal : Cert.GainKernelIdeal.Facts] [hGainReferenceIdeal : Cert.GainReferenceIdeal.Facts] : Prop :=
  ∀ (m : (ℓ : Loc Cert.GainKernelIdeal.nD Cert.GainKernelIdeal.τ Cert.GainKernelIdeal.sig) → Buf (Elt Ideal) ℓ) (g : Dev Cert.GainKernelIdeal.nD → PrngReg)
    (m' : (ℓ : Loc Cert.GainReferenceIdeal.nD Cert.GainReferenceIdeal.τ Cert.GainReferenceIdeal.sig) → Buf (Elt Ideal) ℓ) (g' : Dev Cert.GainReferenceIdeal.nD → PrngReg), Pre_GainKernelIdeal m →
    (∀ c : Dev Cert.GainKernelIdeal.nD,
      m' ((c.tc : Thread Cert.GainReferenceIdeal.nD Cert.GainReferenceIdeal.τ).loc Cert.GainReferenceIdeal.main_arg0) = m ((c.tc : Thread Cert.GainKernelIdeal.nD Cert.GainKernelIdeal.τ).loc Cert.GainKernelIdeal.main_arg0)
      ∧ m' ((c.tc : Thread Cert.GainReferenceIdeal.nD Cert.GainReferenceIdeal.τ).loc Cert.GainReferenceIdeal.main_arg1) = m ((c.tc : Thread Cert.GainKernelIdeal.nD Cert.GainKernelIdeal.τ).loc Cert.GainKernelIdeal.main_arg1)) →
    ∃ (v0 : (c : Dev Cert.GainKernelIdeal.nD) → Buf (Elt Ideal) ((c.tc : Thread Cert.GainKernelIdeal.nD Cert.GainKernelIdeal.τ).loc Cert.GainKernelIdeal.main_v0)),
      θ_run (Cert.GainKernelIdeal.defs (F := Ideal)) (onTc (τ := Cert.GainKernelIdeal.τ) (Cert.GainKernelIdeal.main (F := Ideal))) ⟨m, fun _ => 0, g⟩ (fun r => ∀ c : Dev Cert.GainKernelIdeal.nD,
          r.2.mem ((c.tc : Thread Cert.GainKernelIdeal.nD Cert.GainKernelIdeal.τ).loc Cert.GainKernelIdeal.main_v0) = v0 c
          ∧ r.2.mem ((c.tc : Thread Cert.GainKernelIdeal.nD Cert.GainKernelIdeal.τ).loc Cert.GainKernelIdeal.main_arg0) = m ((c.tc : Thread Cert.GainKernelIdeal.nD Cert.GainKernelIdeal.τ).loc Cert.GainKernelIdeal.main_arg0)
          ∧ r.2.mem ((c.tc : Thread Cert.GainKernelIdeal.nD Cert.GainKernelIdeal.τ).loc Cert.GainKernelIdeal.main_arg1) = m ((c.tc : Thread Cert.GainKernelIdeal.nD Cert.GainKernelIdeal.τ).loc Cert.GainKernelIdeal.main_arg1))
      ∧ θ_run (Cert.GainReferenceIdeal.defs (F := Ideal)) (onTc (τ := Cert.GainReferenceIdeal.τ) (Cert.GainReferenceIdeal.main (F := Ideal))) ⟨m', fun _ => 0, g'⟩ (fun r => ∀ c : Dev Cert.GainReferenceIdeal.nD,
          r.2.mem ((c.tc : Thread Cert.GainReferenceIdeal.nD Cert.GainReferenceIdeal.τ).loc Cert.GainReferenceIdeal.main_v15) = v0 c
          ∧ r.2.mem ((c.tc : Thread Cert.GainReferenceIdeal.nD Cert.GainReferenceIdeal.τ).loc Cert.GainReferenceIdeal.main_arg0) = m' ((c.tc : Thread Cert.GainReferenceIdeal.nD Cert.GainReferenceIdeal.τ).loc Cert.GainReferenceIdeal.main_arg0)
          ∧ r.2.mem ((c.tc : Thread Cert.GainReferenceIdeal.nD Cert.GainReferenceIdeal.τ).loc Cert.GainReferenceIdeal.main_arg1) = m' ((c.tc : Thread Cert.GainReferenceIdeal.nD Cert.GainReferenceIdeal.τ).loc Cert.GainReferenceIdeal.main_arg1))

def preserves_SwigluKernel_SwigluKernelIdeal : Prop :=
  True

def algebraic_SwigluKernelIdeal_SwigluReferenceIdeal_pre_finite_swi [hSwigluKernelIdeal : Cert.SwigluKernelIdeal.Facts] [hSwigluReferenceIdeal : Cert.SwigluReferenceIdeal.Facts] [hPre_finite_swi : Cert.Pre_finite_swi.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluKernelIdeal_finite_swi m →
    (∀ c : Dev Cert.SwigluKernelIdeal.nD,
      m' ((c.tc : Thread Cert.SwigluReferenceIdeal.nD Cert.SwigluReferenceIdeal.τ).loc Cert.SwigluReferenceIdeal.main_arg0) = m ((c.tc : Thread Cert.SwigluKernelIdeal.nD Cert.SwigluKernelIdeal.τ).loc Cert.SwigluKernelIdeal.main_arg0)
      ∧ m' ((c.tc : Thread Cert.SwigluReferenceIdeal.nD Cert.SwigluReferenceIdeal.τ).loc Cert.SwigluReferenceIdeal.main_arg1) = m ((c.tc : Thread Cert.SwigluKernelIdeal.nD Cert.SwigluKernelIdeal.τ).loc Cert.SwigluKernelIdeal.main_arg1)
      ∧ m' ((c.tc : Thread Cert.SwigluReferenceIdeal.nD Cert.SwigluReferenceIdeal.τ).loc Cert.SwigluReferenceIdeal.main_arg2) = m ((c.tc : Thread Cert.SwigluKernelIdeal.nD Cert.SwigluKernelIdeal.τ).loc Cert.SwigluKernelIdeal.main_arg2)
      ∧ m' ((c.tc : Thread Cert.SwigluReferenceIdeal.nD Cert.SwigluReferenceIdeal.τ).loc Cert.SwigluReferenceIdeal.main_arg3) = m ((c.tc : Thread Cert.SwigluKernelIdeal.nD Cert.SwigluKernelIdeal.τ).loc Cert.SwigluKernelIdeal.main_arg3)) →
    ∃ (v0 : (c : Dev Cert.SwigluKernelIdeal.nD) → Buf (Elt Ideal) ((c.tc : Thread Cert.SwigluKernelIdeal.nD Cert.SwigluKernelIdeal.τ).loc Cert.SwigluKernelIdeal.main_v0)),
      θ_run (Cert.SwigluKernelIdeal.defs (F := Ideal)) (onTc (τ := Cert.SwigluKernelIdeal.τ) (Cert.SwigluKernelIdeal.main (F := Ideal))) ⟨m, fun _ => 0, g⟩ (fun r => ∀ c : Dev Cert.SwigluKernelIdeal.nD,
          r.2.mem ((c.tc : Thread Cert.SwigluKernelIdeal.nD Cert.SwigluKernelIdeal.τ).loc Cert.SwigluKernelIdeal.main_v0) = v0 c
          ∧ r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
          ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1)
          ∧ r.2.mem ((c.tc : Thread Cert.SwigluKernelIdeal.nD Cert.SwigluKernelIdeal.τ).loc Cert.SwigluKernelIdeal.main_arg2) = m ((c.tc : Thread Cert.SwigluKernelIdeal.nD Cert.SwigluKernelIdeal.τ).loc Cert.SwigluKernelIdeal.main_arg2)
          ∧ r.2.mem ((c.tc : Thread Cert.SwigluKernelIdeal.nD Cert.SwigluKernelIdeal.τ).loc Cert.SwigluKernelIdeal.main_arg3) = m ((c.tc : Thread Cert.SwigluKernelIdeal.nD Cert.SwigluKernelIdeal.τ).loc Cert.SwigluKernelIdeal.main_arg3))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v14) = v0 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1)
          ∧ r.2.mem ((c.tc : Thread Cert.SwigluReferenceIdeal.nD Cert.SwigluReferenceIdeal.τ).loc Cert.SwigluReferenceIdeal.main_arg2) = m' ((c.tc : Thread Cert.SwigluReferenceIdeal.nD Cert.SwigluReferenceIdeal.τ).loc Cert.SwigluReferenceIdeal.main_arg2)
          ∧ r.2.mem ((c.tc : Thread Cert.SwigluReferenceIdeal.nD Cert.SwigluReferenceIdeal.τ).loc Cert.SwigluReferenceIdeal.main_arg3) = m' ((c.tc : Thread Cert.SwigluReferenceIdeal.nD Cert.SwigluReferenceIdeal.τ).loc Cert.SwigluReferenceIdeal.main_arg3))

def preserves_GatesKernel_GatesKernelIdeal : Prop :=
  True

def algebraic_GatesKernelIdeal_GatesReferenceIdeal [hGatesKernelIdeal : Cert.GatesKernelIdeal.Facts] [hGatesReferenceIdeal : Cert.GatesReferenceIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesKernelIdeal m →
    (∀ c : Dev Cert.GatesKernelIdeal.nD,
      m' ((c.tc : Thread Cert.GatesReferenceIdeal.nD Cert.GatesReferenceIdeal.τ).loc Cert.GatesReferenceIdeal.main_arg0) = m ((c.tc : Thread Cert.GatesKernelIdeal.nD Cert.GatesKernelIdeal.τ).loc Cert.GatesKernelIdeal.main_arg0)
      ∧ m' ((c.tc : Thread Cert.GatesReferenceIdeal.nD Cert.GatesReferenceIdeal.τ).loc Cert.GatesReferenceIdeal.main_arg1) = m ((c.tc : Thread Cert.GatesKernelIdeal.nD Cert.GatesKernelIdeal.τ).loc Cert.GatesKernelIdeal.main_arg1)
      ∧ m' ((c.tc : Thread Cert.GatesReferenceIdeal.nD Cert.GatesReferenceIdeal.τ).loc Cert.GatesReferenceIdeal.main_arg2) = m ((c.tc : Thread Cert.GatesKernelIdeal.nD Cert.GatesKernelIdeal.τ).loc Cert.GatesKernelIdeal.main_arg2)
      ∧ m' ((c.tc : Thread Cert.GatesReferenceIdeal.nD Cert.GatesReferenceIdeal.τ).loc Cert.GatesReferenceIdeal.main_arg3) = m ((c.tc : Thread Cert.GatesKernelIdeal.nD Cert.GatesKernelIdeal.τ).loc Cert.GatesKernelIdeal.main_arg3)
      ∧ m' ((c.tc : Thread Cert.GatesReferenceIdeal.nD Cert.GatesReferenceIdeal.τ).loc Cert.GatesReferenceIdeal.main_arg4) = m ((c.tc : Thread Cert.GatesKernelIdeal.nD Cert.GatesKernelIdeal.τ).loc Cert.GatesKernelIdeal.main_arg4)) →
    ∃ (v0 : (c : Dev Cert.GatesKernelIdeal.nD) → Buf (Elt Ideal) ((c.tc : Thread Cert.GatesKernelIdeal.nD Cert.GatesKernelIdeal.τ).loc Cert.GatesKernelIdeal.main_v0_0)) (v1 : (c : Dev Cert.GatesKernelIdeal.nD) → Buf (Elt Ideal) ((c.tc : Thread Cert.GatesKernelIdeal.nD Cert.GatesKernelIdeal.τ).loc Cert.GatesKernelIdeal.main_v0_1)) (v2 : (c : Dev Cert.GatesKernelIdeal.nD) → Buf (Elt Ideal) ((c.tc : Thread Cert.GatesKernelIdeal.nD Cert.GatesKernelIdeal.τ).loc Cert.GatesKernelIdeal.main_v0_2)) (v3 : (c : Dev Cert.GatesKernelIdeal.nD) → Buf (Elt Ideal) ((c.tc : Thread Cert.GatesKernelIdeal.nD Cert.GatesKernelIdeal.τ).loc Cert.GatesKernelIdeal.main_v0_3)),
      θ_run (Cert.GatesKernelIdeal.defs (F := Ideal)) (onTc (τ := Cert.GatesKernelIdeal.τ) (Cert.GatesKernelIdeal.main (F := Ideal))) ⟨m, fun _ => 0, g⟩ (fun r => ∀ c : Dev Cert.GatesKernelIdeal.nD,
          r.2.mem ((c.tc : Thread Cert.GatesKernelIdeal.nD Cert.GatesKernelIdeal.τ).loc Cert.GatesKernelIdeal.main_v0_0) = v0 c
          ∧ r.2.mem ((c.tc : Thread Cert.GatesKernelIdeal.nD Cert.GatesKernelIdeal.τ).loc Cert.GatesKernelIdeal.main_v0_1) = v1 c
          ∧ r.2.mem ((c.tc : Thread Cert.GatesKernelIdeal.nD Cert.GatesKernelIdeal.τ).loc Cert.GatesKernelIdeal.main_v0_2) = v2 c
          ∧ r.2.mem ((c.tc : Thread Cert.GatesKernelIdeal.nD Cert.GatesKernelIdeal.τ).loc Cert.GatesKernelIdeal.main_v0_3) = v3 c
          ∧ r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
          ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1)
          ∧ r.2.mem ((c.tc : Thread Cert.GatesKernelIdeal.nD Cert.GatesKernelIdeal.τ).loc Cert.GatesKernelIdeal.main_arg2) = m ((c.tc : Thread Cert.GatesKernelIdeal.nD Cert.GatesKernelIdeal.τ).loc Cert.GatesKernelIdeal.main_arg2)
          ∧ r.2.mem ((c.tc : Thread Cert.GatesKernelIdeal.nD Cert.GatesKernelIdeal.τ).loc Cert.GatesKernelIdeal.main_arg3) = m ((c.tc : Thread Cert.GatesKernelIdeal.nD Cert.GatesKernelIdeal.τ).loc Cert.GatesKernelIdeal.main_arg3)
          ∧ r.2.mem ((c.tc : Thread Cert.GatesKernelIdeal.nD Cert.GatesKernelIdeal.τ).loc Cert.GatesKernelIdeal.main_arg4) = m ((c.tc : Thread Cert.GatesKernelIdeal.nD Cert.GatesKernelIdeal.τ).loc Cert.GatesKernelIdeal.main_arg4))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v36) = v0 c
          ∧ r.2.mem ((c.tc : Thread Cert.GatesReferenceIdeal.nD Cert.GatesReferenceIdeal.τ).loc Cert.GatesReferenceIdeal.main_v37) = v1 c
          ∧ r.2.mem ((c.tc : Thread Cert.GatesReferenceIdeal.nD Cert.GatesReferenceIdeal.τ).loc Cert.GatesReferenceIdeal.main_v38) = v2 c
          ∧ r.2.mem ((c.tc : Thread Cert.GatesReferenceIdeal.nD Cert.GatesReferenceIdeal.τ).loc Cert.GatesReferenceIdeal.main_v39) = v3 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3)
          ∧ r.2.mem ((c.tc : Thread Cert.GatesReferenceIdeal.nD Cert.GatesReferenceIdeal.τ).loc Cert.GatesReferenceIdeal.main_arg4) = m' ((c.tc : Thread Cert.GatesReferenceIdeal.nD Cert.GatesReferenceIdeal.τ).loc Cert.GatesReferenceIdeal.main_arg4))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v1_0)) (v1 : (c : Dev Cert.ConvKernelIdeal.nD) → Buf (Elt Ideal) ((c.tc : Thread Cert.ConvKernelIdeal.nD Cert.ConvKernelIdeal.τ).loc Cert.ConvKernelIdeal.main_v1_1)) (v2 : (c : Dev Cert.ConvKernelIdeal.nD) → Buf (Elt Ideal) ((c.tc : Thread Cert.ConvKernelIdeal.nD Cert.ConvKernelIdeal.τ).loc Cert.ConvKernelIdeal.main_v1_2)) (v3 : (c : Dev Cert.ConvKernelIdeal.nD) → Buf (Elt Ideal) ((c.tc : Thread Cert.ConvKernelIdeal.nD Cert.ConvKernelIdeal.τ).loc Cert.ConvKernelIdeal.main_v1_3)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v1_0) = v0 c
          ∧ r.2.mem ((c.tc : Thread Cert.ConvKernelIdeal.nD Cert.ConvKernelIdeal.τ).loc Cert.ConvKernelIdeal.main_v1_1) = v1 c
          ∧ r.2.mem ((c.tc : Thread Cert.ConvKernelIdeal.nD Cert.ConvKernelIdeal.τ).loc Cert.ConvKernelIdeal.main_v1_2) = v2 c
          ∧ r.2.mem ((c.tc : Thread Cert.ConvKernelIdeal.nD Cert.ConvKernelIdeal.τ).loc Cert.ConvKernelIdeal.main_v1_3) = v3 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v67) = v0 c
          ∧ r.2.mem ((c.tc : Thread Cert.ConvReferenceIdeal.nD Cert.ConvReferenceIdeal.τ).loc Cert.ConvReferenceIdeal.main_v68) = v1 c
          ∧ r.2.mem ((c.tc : Thread Cert.ConvReferenceIdeal.nD Cert.ConvReferenceIdeal.τ).loc Cert.ConvReferenceIdeal.main_v69) = v2 c
          ∧ r.2.mem ((c.tc : Thread Cert.ConvReferenceIdeal.nD Cert.ConvReferenceIdeal.τ).loc Cert.ConvReferenceIdeal.main_v70) = v3 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_MemKernel_MemKernelIdeal : Prop :=
  True

def algebraic_MemKernelIdeal_MemReferenceIdeal_pre_finite_mem [hMemKernelIdeal : Cert.MemKernelIdeal.Facts] [hMemReferenceIdeal : Cert.MemReferenceIdeal.Facts] [hPre_finite_mem : Cert.Pre_finite_mem.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal_finite_mem m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)) →
    ∃ (v0 : (c : Dev Cert.MemKernelIdeal.nD) → Buf (Elt Ideal) ((c.tc : Thread Cert.MemKernelIdeal.nD Cert.MemKernelIdeal.τ).loc Cert.MemKernelIdeal.main_v0_0)) (v1 : (c : Dev Cert.MemKernelIdeal.nD) → Buf (Elt Ideal) ((c.tc : Thread Cert.MemKernelIdeal.nD Cert.MemKernelIdeal.τ).loc Cert.MemKernelIdeal.main_v0_1)) (v2 : (c : Dev Cert.MemKernelIdeal.nD) → Buf (Elt Ideal) ((c.tc : Thread Cert.MemKernelIdeal.nD Cert.MemKernelIdeal.τ).loc Cert.MemKernelIdeal.main_v0_2)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v0_0) = v0 c
          ∧ r.2.mem ((c.tc : Thread Cert.MemKernelIdeal.nD Cert.MemKernelIdeal.τ).loc Cert.MemKernelIdeal.main_v0_1) = v1 c
          ∧ r.2.mem ((c.tc : Thread Cert.MemKernelIdeal.nD Cert.MemKernelIdeal.τ).loc Cert.MemKernelIdeal.main_v0_2) = v2 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v68) = v0 c
          ∧ r.2.mem ((c.tc : Thread Cert.MemReferenceIdeal.nD Cert.MemReferenceIdeal.τ).loc Cert.MemReferenceIdeal.main_v66) = v1 c
          ∧ r.2.mem ((c.tc : Thread Cert.MemReferenceIdeal.nD Cert.MemReferenceIdeal.τ).loc Cert.MemReferenceIdeal.main_v65) = v2 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2))

def preserves_NormQKernel_NormQKernelIdeal : Prop :=
  True

def algebraic_NormQKernelIdeal_NormQReferenceIdeal_pre_finite_nq [hNormQKernelIdeal : Cert.NormQKernelIdeal.Facts] [hNormQReferenceIdeal : Cert.NormQReferenceIdeal.Facts] [hPre_finite_nq : Cert.Pre_finite_nq.Facts] : Prop :=
  ∀ (m : (ℓ : Loc Cert.NormQKernelIdeal.nD Cert.NormQKernelIdeal.τ Cert.NormQKernelIdeal.sig) → Buf (Elt Ideal) ℓ) (g : Dev Cert.NormQKernelIdeal.nD → PrngReg)
    (m' : (ℓ : Loc Cert.NormQReferenceIdeal.nD Cert.NormQReferenceIdeal.τ Cert.NormQReferenceIdeal.sig) → Buf (Elt Ideal) ℓ) (g' : Dev Cert.NormQReferenceIdeal.nD → PrngReg), Pre_NormQKernelIdeal_finite_nq m →
    (∀ c : Dev Cert.NormQKernelIdeal.nD,
      m' ((c.tc : Thread Cert.NormQReferenceIdeal.nD Cert.NormQReferenceIdeal.τ).loc Cert.NormQReferenceIdeal.main_arg0) = m ((c.tc : Thread Cert.NormQKernelIdeal.nD Cert.NormQKernelIdeal.τ).loc Cert.NormQKernelIdeal.main_arg0)
      ∧ m' ((c.tc : Thread Cert.NormQReferenceIdeal.nD Cert.NormQReferenceIdeal.τ).loc Cert.NormQReferenceIdeal.main_arg1) = m ((c.tc : Thread Cert.NormQKernelIdeal.nD Cert.NormQKernelIdeal.τ).loc Cert.NormQKernelIdeal.main_arg1)
      ∧ m' ((c.tc : Thread Cert.NormQReferenceIdeal.nD Cert.NormQReferenceIdeal.τ).loc Cert.NormQReferenceIdeal.main_arg2) = m ((c.tc : Thread Cert.NormQKernelIdeal.nD Cert.NormQKernelIdeal.τ).loc Cert.NormQKernelIdeal.main_arg2)
      ∧ m' ((c.tc : Thread Cert.NormQReferenceIdeal.nD Cert.NormQReferenceIdeal.τ).loc Cert.NormQReferenceIdeal.main_arg3) = m ((c.tc : Thread Cert.NormQKernelIdeal.nD Cert.NormQKernelIdeal.τ).loc Cert.NormQKernelIdeal.main_arg3)
      ∧ m' ((c.tc : Thread Cert.NormQReferenceIdeal.nD Cert.NormQReferenceIdeal.τ).loc Cert.NormQReferenceIdeal.main_arg4) = m ((c.tc : Thread Cert.NormQKernelIdeal.nD Cert.NormQKernelIdeal.τ).loc Cert.NormQKernelIdeal.main_arg4)) →
    ∃ (v0 : (c : Dev Cert.NormQKernelIdeal.nD) → Buf (Elt Ideal) ((c.tc : Thread Cert.NormQKernelIdeal.nD Cert.NormQKernelIdeal.τ).loc Cert.NormQKernelIdeal.main_v0_0)) (v1 : (c : Dev Cert.NormQKernelIdeal.nD) → Buf (Elt Ideal) ((c.tc : Thread Cert.NormQKernelIdeal.nD Cert.NormQKernelIdeal.τ).loc Cert.NormQKernelIdeal.main_v0_1)) (v2 : (c : Dev Cert.NormQKernelIdeal.nD) → Buf (Elt Ideal) ((c.tc : Thread Cert.NormQKernelIdeal.nD Cert.NormQKernelIdeal.τ).loc Cert.NormQKernelIdeal.main_v0_2)),
      θ_run (Cert.NormQKernelIdeal.defs (F := Ideal)) (onTc (τ := Cert.NormQKernelIdeal.τ) (Cert.NormQKernelIdeal.main (F := Ideal))) ⟨m, fun _ => 0, g⟩ (fun r => ∀ c : Dev Cert.NormQKernelIdeal.nD,
          r.2.mem ((c.tc : Thread Cert.NormQKernelIdeal.nD Cert.NormQKernelIdeal.τ).loc Cert.NormQKernelIdeal.main_v0_0) = v0 c
          ∧ r.2.mem ((c.tc : Thread Cert.NormQKernelIdeal.nD Cert.NormQKernelIdeal.τ).loc Cert.NormQKernelIdeal.main_v0_1) = v1 c
          ∧ r.2.mem ((c.tc : Thread Cert.NormQKernelIdeal.nD Cert.NormQKernelIdeal.τ).loc Cert.NormQKernelIdeal.main_v0_2) = v2 c
          ∧ r.2.mem ((c.tc : Thread Cert.NormQKernelIdeal.nD Cert.NormQKernelIdeal.τ).loc Cert.NormQKernelIdeal.main_arg0) = m ((c.tc : Thread Cert.NormQKernelIdeal.nD Cert.NormQKernelIdeal.τ).loc Cert.NormQKernelIdeal.main_arg0)
          ∧ r.2.mem ((c.tc : Thread Cert.NormQKernelIdeal.nD Cert.NormQKernelIdeal.τ).loc Cert.NormQKernelIdeal.main_arg1) = m ((c.tc : Thread Cert.NormQKernelIdeal.nD Cert.NormQKernelIdeal.τ).loc Cert.NormQKernelIdeal.main_arg1)
          ∧ r.2.mem ((c.tc : Thread Cert.NormQKernelIdeal.nD Cert.NormQKernelIdeal.τ).loc Cert.NormQKernelIdeal.main_arg2) = m ((c.tc : Thread Cert.NormQKernelIdeal.nD Cert.NormQKernelIdeal.τ).loc Cert.NormQKernelIdeal.main_arg2)
          ∧ r.2.mem ((c.tc : Thread Cert.NormQKernelIdeal.nD Cert.NormQKernelIdeal.τ).loc Cert.NormQKernelIdeal.main_arg3) = m ((c.tc : Thread Cert.NormQKernelIdeal.nD Cert.NormQKernelIdeal.τ).loc Cert.NormQKernelIdeal.main_arg3)
          ∧ r.2.mem ((c.tc : Thread Cert.NormQKernelIdeal.nD Cert.NormQKernelIdeal.τ).loc Cert.NormQKernelIdeal.main_arg4) = m ((c.tc : Thread Cert.NormQKernelIdeal.nD Cert.NormQKernelIdeal.τ).loc Cert.NormQKernelIdeal.main_arg4))
      ∧ θ_run (Cert.NormQReferenceIdeal.defs (F := Ideal)) (onTc (τ := Cert.NormQReferenceIdeal.τ) (Cert.NormQReferenceIdeal.main (F := Ideal))) ⟨m', fun _ => 0, g'⟩ (fun r => ∀ c : Dev Cert.NormQReferenceIdeal.nD,
          r.2.mem ((c.tc : Thread Cert.NormQReferenceIdeal.nD Cert.NormQReferenceIdeal.τ).loc Cert.NormQReferenceIdeal.main_v38) = v0 c
          ∧ r.2.mem ((c.tc : Thread Cert.NormQReferenceIdeal.nD Cert.NormQReferenceIdeal.τ).loc Cert.NormQReferenceIdeal.main_v39) = v1 c
          ∧ r.2.mem ((c.tc : Thread Cert.NormQReferenceIdeal.nD Cert.NormQReferenceIdeal.τ).loc Cert.NormQReferenceIdeal.main_v21) = v2 c
          ∧ r.2.mem ((c.tc : Thread Cert.NormQReferenceIdeal.nD Cert.NormQReferenceIdeal.τ).loc Cert.NormQReferenceIdeal.main_arg0) = m' ((c.tc : Thread Cert.NormQReferenceIdeal.nD Cert.NormQReferenceIdeal.τ).loc Cert.NormQReferenceIdeal.main_arg0)
          ∧ r.2.mem ((c.tc : Thread Cert.NormQReferenceIdeal.nD Cert.NormQReferenceIdeal.τ).loc Cert.NormQReferenceIdeal.main_arg1) = m' ((c.tc : Thread Cert.NormQReferenceIdeal.nD Cert.NormQReferenceIdeal.τ).loc Cert.NormQReferenceIdeal.main_arg1)
          ∧ r.2.mem ((c.tc : Thread Cert.NormQReferenceIdeal.nD Cert.NormQReferenceIdeal.τ).loc Cert.NormQReferenceIdeal.main_arg2) = m' ((c.tc : Thread Cert.NormQReferenceIdeal.nD Cert.NormQReferenceIdeal.τ).loc Cert.NormQReferenceIdeal.main_arg2)
          ∧ r.2.mem ((c.tc : Thread Cert.NormQReferenceIdeal.nD Cert.NormQReferenceIdeal.τ).loc Cert.NormQReferenceIdeal.main_arg3) = m' ((c.tc : Thread Cert.NormQReferenceIdeal.nD Cert.NormQReferenceIdeal.τ).loc Cert.NormQReferenceIdeal.main_arg3)
          ∧ r.2.mem ((c.tc : Thread Cert.NormQReferenceIdeal.nD Cert.NormQReferenceIdeal.τ).loc Cert.NormQReferenceIdeal.main_arg4) = m' ((c.tc : Thread Cert.NormQReferenceIdeal.nD Cert.NormQReferenceIdeal.τ).loc Cert.NormQReferenceIdeal.main_arg4))

def preserves_NormFKernel_NormFKernelIdeal : Prop :=
  True

def algebraic_NormFKernelIdeal_NormFReferenceIdeal_pre_finite_nf [hNormFKernelIdeal : Cert.NormFKernelIdeal.Facts] [hNormFReferenceIdeal : Cert.NormFReferenceIdeal.Facts] [hPre_finite_nf : Cert.Pre_finite_nf.Facts] : Prop :=
  ∀ (m : (ℓ : Loc Cert.NormFKernelIdeal.nD Cert.NormFKernelIdeal.τ Cert.NormFKernelIdeal.sig) → Buf (Elt Ideal) ℓ) (g : Dev Cert.NormFKernelIdeal.nD → PrngReg)
    (m' : (ℓ : Loc Cert.NormFReferenceIdeal.nD Cert.NormFReferenceIdeal.τ Cert.NormFReferenceIdeal.sig) → Buf (Elt Ideal) ℓ) (g' : Dev Cert.NormFReferenceIdeal.nD → PrngReg), Pre_NormFKernelIdeal_finite_nf m →
    (∀ c : Dev Cert.NormFKernelIdeal.nD,
      m' ((c.tc : Thread Cert.NormFReferenceIdeal.nD Cert.NormFReferenceIdeal.τ).loc Cert.NormFReferenceIdeal.main_arg0) = m ((c.tc : Thread Cert.NormFKernelIdeal.nD Cert.NormFKernelIdeal.τ).loc Cert.NormFKernelIdeal.main_arg0)
      ∧ m' ((c.tc : Thread Cert.NormFReferenceIdeal.nD Cert.NormFReferenceIdeal.τ).loc Cert.NormFReferenceIdeal.main_arg1) = m ((c.tc : Thread Cert.NormFKernelIdeal.nD Cert.NormFKernelIdeal.τ).loc Cert.NormFKernelIdeal.main_arg1)
      ∧ m' ((c.tc : Thread Cert.NormFReferenceIdeal.nD Cert.NormFReferenceIdeal.τ).loc Cert.NormFReferenceIdeal.main_arg2) = m ((c.tc : Thread Cert.NormFKernelIdeal.nD Cert.NormFKernelIdeal.τ).loc Cert.NormFKernelIdeal.main_arg2)
      ∧ m' ((c.tc : Thread Cert.NormFReferenceIdeal.nD Cert.NormFReferenceIdeal.τ).loc Cert.NormFReferenceIdeal.main_arg3) = m ((c.tc : Thread Cert.NormFKernelIdeal.nD Cert.NormFKernelIdeal.τ).loc Cert.NormFKernelIdeal.main_arg3)
      ∧ m' ((c.tc : Thread Cert.NormFReferenceIdeal.nD Cert.NormFReferenceIdeal.τ).loc Cert.NormFReferenceIdeal.main_arg4) = m ((c.tc : Thread Cert.NormFKernelIdeal.nD Cert.NormFKernelIdeal.τ).loc Cert.NormFKernelIdeal.main_arg4)) →
    ∃ (v0 : (c : Dev Cert.NormFKernelIdeal.nD) → Buf (Elt Ideal) ((c.tc : Thread Cert.NormFKernelIdeal.nD Cert.NormFKernelIdeal.τ).loc Cert.NormFKernelIdeal.main_v0_0)) (v1 : (c : Dev Cert.NormFKernelIdeal.nD) → Buf (Elt Ideal) ((c.tc : Thread Cert.NormFKernelIdeal.nD Cert.NormFKernelIdeal.τ).loc Cert.NormFKernelIdeal.main_v0_1)) (v2 : (c : Dev Cert.NormFKernelIdeal.nD) → Buf (Elt Ideal) ((c.tc : Thread Cert.NormFKernelIdeal.nD Cert.NormFKernelIdeal.τ).loc Cert.NormFKernelIdeal.main_v0_2)),
      θ_run (Cert.NormFKernelIdeal.defs (F := Ideal)) (onTc (τ := Cert.NormFKernelIdeal.τ) (Cert.NormFKernelIdeal.main (F := Ideal))) ⟨m, fun _ => 0, g⟩ (fun r => ∀ c : Dev Cert.NormFKernelIdeal.nD,
          r.2.mem ((c.tc : Thread Cert.NormFKernelIdeal.nD Cert.NormFKernelIdeal.τ).loc Cert.NormFKernelIdeal.main_v0_0) = v0 c
          ∧ r.2.mem ((c.tc : Thread Cert.NormFKernelIdeal.nD Cert.NormFKernelIdeal.τ).loc Cert.NormFKernelIdeal.main_v0_1) = v1 c
          ∧ r.2.mem ((c.tc : Thread Cert.NormFKernelIdeal.nD Cert.NormFKernelIdeal.τ).loc Cert.NormFKernelIdeal.main_v0_2) = v2 c
          ∧ r.2.mem ((c.tc : Thread Cert.NormFKernelIdeal.nD Cert.NormFKernelIdeal.τ).loc Cert.NormFKernelIdeal.main_arg0) = m ((c.tc : Thread Cert.NormFKernelIdeal.nD Cert.NormFKernelIdeal.τ).loc Cert.NormFKernelIdeal.main_arg0)
          ∧ r.2.mem ((c.tc : Thread Cert.NormFKernelIdeal.nD Cert.NormFKernelIdeal.τ).loc Cert.NormFKernelIdeal.main_arg1) = m ((c.tc : Thread Cert.NormFKernelIdeal.nD Cert.NormFKernelIdeal.τ).loc Cert.NormFKernelIdeal.main_arg1)
          ∧ r.2.mem ((c.tc : Thread Cert.NormFKernelIdeal.nD Cert.NormFKernelIdeal.τ).loc Cert.NormFKernelIdeal.main_arg2) = m ((c.tc : Thread Cert.NormFKernelIdeal.nD Cert.NormFKernelIdeal.τ).loc Cert.NormFKernelIdeal.main_arg2)
          ∧ r.2.mem ((c.tc : Thread Cert.NormFKernelIdeal.nD Cert.NormFKernelIdeal.τ).loc Cert.NormFKernelIdeal.main_arg3) = m ((c.tc : Thread Cert.NormFKernelIdeal.nD Cert.NormFKernelIdeal.τ).loc Cert.NormFKernelIdeal.main_arg3)
          ∧ r.2.mem ((c.tc : Thread Cert.NormFKernelIdeal.nD Cert.NormFKernelIdeal.τ).loc Cert.NormFKernelIdeal.main_arg4) = m ((c.tc : Thread Cert.NormFKernelIdeal.nD Cert.NormFKernelIdeal.τ).loc Cert.NormFKernelIdeal.main_arg4))
      ∧ θ_run (Cert.NormFReferenceIdeal.defs (F := Ideal)) (onTc (τ := Cert.NormFReferenceIdeal.τ) (Cert.NormFReferenceIdeal.main (F := Ideal))) ⟨m', fun _ => 0, g'⟩ (fun r => ∀ c : Dev Cert.NormFReferenceIdeal.nD,
          r.2.mem ((c.tc : Thread Cert.NormFReferenceIdeal.nD Cert.NormFReferenceIdeal.τ).loc Cert.NormFReferenceIdeal.main_v38) = v0 c
          ∧ r.2.mem ((c.tc : Thread Cert.NormFReferenceIdeal.nD Cert.NormFReferenceIdeal.τ).loc Cert.NormFReferenceIdeal.main_v39) = v1 c
          ∧ r.2.mem ((c.tc : Thread Cert.NormFReferenceIdeal.nD Cert.NormFReferenceIdeal.τ).loc Cert.NormFReferenceIdeal.main_v21) = v2 c
          ∧ r.2.mem ((c.tc : Thread Cert.NormFReferenceIdeal.nD Cert.NormFReferenceIdeal.τ).loc Cert.NormFReferenceIdeal.main_arg0) = m' ((c.tc : Thread Cert.NormFReferenceIdeal.nD Cert.NormFReferenceIdeal.τ).loc Cert.NormFReferenceIdeal.main_arg0)
          ∧ r.2.mem ((c.tc : Thread Cert.NormFReferenceIdeal.nD Cert.NormFReferenceIdeal.τ).loc Cert.NormFReferenceIdeal.main_arg1) = m' ((c.tc : Thread Cert.NormFReferenceIdeal.nD Cert.NormFReferenceIdeal.τ).loc Cert.NormFReferenceIdeal.main_arg1)
          ∧ r.2.mem ((c.tc : Thread Cert.NormFReferenceIdeal.nD Cert.NormFReferenceIdeal.τ).loc Cert.NormFReferenceIdeal.main_arg2) = m' ((c.tc : Thread Cert.NormFReferenceIdeal.nD Cert.NormFReferenceIdeal.τ).loc Cert.NormFReferenceIdeal.main_arg2)
          ∧ r.2.mem ((c.tc : Thread Cert.NormFReferenceIdeal.nD Cert.NormFReferenceIdeal.τ).loc Cert.NormFReferenceIdeal.main_arg3) = m' ((c.tc : Thread Cert.NormFReferenceIdeal.nD Cert.NormFReferenceIdeal.τ).loc Cert.NormFReferenceIdeal.main_arg3)
          ∧ r.2.mem ((c.tc : Thread Cert.NormFReferenceIdeal.nD Cert.NormFReferenceIdeal.τ).loc Cert.NormFReferenceIdeal.main_arg4) = m' ((c.tc : Thread Cert.NormFReferenceIdeal.nD Cert.NormFReferenceIdeal.τ).loc Cert.NormFReferenceIdeal.main_arg4))

def preserves_NormHKernel_NormHKernelIdeal : Prop :=
  True

def algebraic_NormHKernelIdeal_NormHReferenceIdeal_pre_finite_nh [hNormHKernelIdeal : Cert.NormHKernelIdeal.Facts] [hNormHReferenceIdeal : Cert.NormHReferenceIdeal.Facts] [hPre_finite_nh : Cert.Pre_finite_nh.Facts] : Prop :=
  ∀ (m : (ℓ : Loc Cert.NormHKernelIdeal.nD Cert.NormHKernelIdeal.τ Cert.NormHKernelIdeal.sig) → Buf (Elt Ideal) ℓ) (g : Dev Cert.NormHKernelIdeal.nD → PrngReg)
    (m' : (ℓ : Loc Cert.NormHReferenceIdeal.nD Cert.NormHReferenceIdeal.τ Cert.NormHReferenceIdeal.sig) → Buf (Elt Ideal) ℓ) (g' : Dev Cert.NormHReferenceIdeal.nD → PrngReg), Pre_NormHKernelIdeal_finite_nh m →
    (∀ c : Dev Cert.NormHKernelIdeal.nD,
      m' ((c.tc : Thread Cert.NormHReferenceIdeal.nD Cert.NormHReferenceIdeal.τ).loc Cert.NormHReferenceIdeal.main_arg0) = m ((c.tc : Thread Cert.NormHKernelIdeal.nD Cert.NormHKernelIdeal.τ).loc Cert.NormHKernelIdeal.main_arg0)
      ∧ m' ((c.tc : Thread Cert.NormHReferenceIdeal.nD Cert.NormHReferenceIdeal.τ).loc Cert.NormHReferenceIdeal.main_arg1) = m ((c.tc : Thread Cert.NormHKernelIdeal.nD Cert.NormHKernelIdeal.τ).loc Cert.NormHKernelIdeal.main_arg1)
      ∧ m' ((c.tc : Thread Cert.NormHReferenceIdeal.nD Cert.NormHReferenceIdeal.τ).loc Cert.NormHReferenceIdeal.main_arg2) = m ((c.tc : Thread Cert.NormHKernelIdeal.nD Cert.NormHKernelIdeal.τ).loc Cert.NormHKernelIdeal.main_arg2)
      ∧ m' ((c.tc : Thread Cert.NormHReferenceIdeal.nD Cert.NormHReferenceIdeal.τ).loc Cert.NormHReferenceIdeal.main_arg3) = m ((c.tc : Thread Cert.NormHKernelIdeal.nD Cert.NormHKernelIdeal.τ).loc Cert.NormHKernelIdeal.main_arg3)
      ∧ m' ((c.tc : Thread Cert.NormHReferenceIdeal.nD Cert.NormHReferenceIdeal.τ).loc Cert.NormHReferenceIdeal.main_arg4) = m ((c.tc : Thread Cert.NormHKernelIdeal.nD Cert.NormHKernelIdeal.τ).loc Cert.NormHKernelIdeal.main_arg4)) →
    ∃ (v0 : (c : Dev Cert.NormHKernelIdeal.nD) → Buf (Elt Ideal) ((c.tc : Thread Cert.NormHKernelIdeal.nD Cert.NormHKernelIdeal.τ).loc Cert.NormHKernelIdeal.main_v0_0)) (v1 : (c : Dev Cert.NormHKernelIdeal.nD) → Buf (Elt Ideal) ((c.tc : Thread Cert.NormHKernelIdeal.nD Cert.NormHKernelIdeal.τ).loc Cert.NormHKernelIdeal.main_v0_1)),
      θ_run (Cert.NormHKernelIdeal.defs (F := Ideal)) (onTc (τ := Cert.NormHKernelIdeal.τ) (Cert.NormHKernelIdeal.main (F := Ideal))) ⟨m, fun _ => 0, g⟩ (fun r => ∀ c : Dev Cert.NormHKernelIdeal.nD,
          r.2.mem ((c.tc : Thread Cert.NormHKernelIdeal.nD Cert.NormHKernelIdeal.τ).loc Cert.NormHKernelIdeal.main_v0_0) = v0 c
          ∧ r.2.mem ((c.tc : Thread Cert.NormHKernelIdeal.nD Cert.NormHKernelIdeal.τ).loc Cert.NormHKernelIdeal.main_v0_1) = v1 c
          ∧ r.2.mem ((c.tc : Thread Cert.NormHKernelIdeal.nD Cert.NormHKernelIdeal.τ).loc Cert.NormHKernelIdeal.main_arg0) = m ((c.tc : Thread Cert.NormHKernelIdeal.nD Cert.NormHKernelIdeal.τ).loc Cert.NormHKernelIdeal.main_arg0)
          ∧ r.2.mem ((c.tc : Thread Cert.NormHKernelIdeal.nD Cert.NormHKernelIdeal.τ).loc Cert.NormHKernelIdeal.main_arg1) = m ((c.tc : Thread Cert.NormHKernelIdeal.nD Cert.NormHKernelIdeal.τ).loc Cert.NormHKernelIdeal.main_arg1)
          ∧ r.2.mem ((c.tc : Thread Cert.NormHKernelIdeal.nD Cert.NormHKernelIdeal.τ).loc Cert.NormHKernelIdeal.main_arg2) = m ((c.tc : Thread Cert.NormHKernelIdeal.nD Cert.NormHKernelIdeal.τ).loc Cert.NormHKernelIdeal.main_arg2)
          ∧ r.2.mem ((c.tc : Thread Cert.NormHKernelIdeal.nD Cert.NormHKernelIdeal.τ).loc Cert.NormHKernelIdeal.main_arg3) = m ((c.tc : Thread Cert.NormHKernelIdeal.nD Cert.NormHKernelIdeal.τ).loc Cert.NormHKernelIdeal.main_arg3)
          ∧ r.2.mem ((c.tc : Thread Cert.NormHKernelIdeal.nD Cert.NormHKernelIdeal.τ).loc Cert.NormHKernelIdeal.main_arg4) = m ((c.tc : Thread Cert.NormHKernelIdeal.nD Cert.NormHKernelIdeal.τ).loc Cert.NormHKernelIdeal.main_arg4))
      ∧ θ_run (Cert.NormHReferenceIdeal.defs (F := Ideal)) (onTc (τ := Cert.NormHReferenceIdeal.τ) (Cert.NormHReferenceIdeal.main (F := Ideal))) ⟨m', fun _ => 0, g'⟩ (fun r => ∀ c : Dev Cert.NormHReferenceIdeal.nD,
          r.2.mem ((c.tc : Thread Cert.NormHReferenceIdeal.nD Cert.NormHReferenceIdeal.τ).loc Cert.NormHReferenceIdeal.main_v38) = v0 c
          ∧ r.2.mem ((c.tc : Thread Cert.NormHReferenceIdeal.nD Cert.NormHReferenceIdeal.τ).loc Cert.NormHReferenceIdeal.main_v21) = v1 c
          ∧ r.2.mem ((c.tc : Thread Cert.NormHReferenceIdeal.nD Cert.NormHReferenceIdeal.τ).loc Cert.NormHReferenceIdeal.main_arg0) = m' ((c.tc : Thread Cert.NormHReferenceIdeal.nD Cert.NormHReferenceIdeal.τ).loc Cert.NormHReferenceIdeal.main_arg0)
          ∧ r.2.mem ((c.tc : Thread Cert.NormHReferenceIdeal.nD Cert.NormHReferenceIdeal.τ).loc Cert.NormHReferenceIdeal.main_arg1) = m' ((c.tc : Thread Cert.NormHReferenceIdeal.nD Cert.NormHReferenceIdeal.τ).loc Cert.NormHReferenceIdeal.main_arg1)
          ∧ r.2.mem ((c.tc : Thread Cert.NormHReferenceIdeal.nD Cert.NormHReferenceIdeal.τ).loc Cert.NormHReferenceIdeal.main_arg2) = m' ((c.tc : Thread Cert.NormHReferenceIdeal.nD Cert.NormHReferenceIdeal.τ).loc Cert.NormHReferenceIdeal.main_arg2)
          ∧ r.2.mem ((c.tc : Thread Cert.NormHReferenceIdeal.nD Cert.NormHReferenceIdeal.τ).loc Cert.NormHReferenceIdeal.main_arg3) = m' ((c.tc : Thread Cert.NormHReferenceIdeal.nD Cert.NormHReferenceIdeal.τ).loc Cert.NormHReferenceIdeal.main_arg3)
          ∧ r.2.mem ((c.tc : Thread Cert.NormHReferenceIdeal.nD Cert.NormHReferenceIdeal.τ).loc Cert.NormHReferenceIdeal.main_arg4) = m' ((c.tc : Thread Cert.NormHReferenceIdeal.nD Cert.NormHReferenceIdeal.τ).loc Cert.NormHReferenceIdeal.main_arg4))

def preserves_LossKernel_LossKernelIdeal : Prop :=
  True

def algebraic_LossKernelIdeal_LossReferenceIdeal_pre_finite_loss [hLossKernelIdeal : Cert.LossKernelIdeal.Facts] [hLossReferenceIdeal : Cert.LossReferenceIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_finite_loss m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v0_2)) (v3 : (c : Dev Cert.LossKernelIdeal.nD) → Buf (Elt Ideal) ((c.tc : Thread Cert.LossKernelIdeal.nD Cert.LossKernelIdeal.τ).loc Cert.LossKernelIdeal.main_v0_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v0_2) = v2 c
          ∧ r.2.mem ((c.tc : Thread Cert.LossKernelIdeal.nD Cert.LossKernelIdeal.τ).loc Cert.LossKernelIdeal.main_v0_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v52) = v0 c
          ∧ r.2.mem ((c.tc : Thread Cert.LossReferenceIdeal.nD Cert.LossReferenceIdeal.τ).loc Cert.LossReferenceIdeal.main_v53) = v1 c
          ∧ r.2.mem ((c.tc : Thread Cert.LossReferenceIdeal.nD Cert.LossReferenceIdeal.τ).loc Cert.LossReferenceIdeal.main_v36) = v2 c
          ∧ r.2.mem ((c.tc : Thread Cert.LossReferenceIdeal.nD Cert.LossReferenceIdeal.τ).loc Cert.LossReferenceIdeal.main_v54) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_StickBKernel_StickBKernelIdeal : Prop :=
  IdealRules.named_const.Statement Cert.StickBKernelIdeal.κ "dead" .f32 0x42D00000#32 ⊤

def algebraic_StickBKernelIdeal_StickBReferenceIdeal_pre_finite_sb [hStickBKernelIdeal : Cert.StickBKernelIdeal.Facts] [hStickBReferenceIdeal : Cert.StickBReferenceIdeal.Facts] [hPre_finite_sb : Cert.Pre_finite_sb.Facts] : Prop :=
  ∀ (m : (ℓ : Loc Cert.StickBKernelIdeal.nD Cert.StickBKernelIdeal.τ Cert.StickBKernelIdeal.sig) → Buf (Elt Ideal) ℓ) (g : Dev Cert.StickBKernelIdeal.nD → PrngReg)
    (m' : (ℓ : Loc Cert.StickBReferenceIdeal.nD Cert.StickBReferenceIdeal.τ Cert.StickBReferenceIdeal.sig) → Buf (Elt Ideal) ℓ) (g' : Dev Cert.StickBReferenceIdeal.nD → PrngReg), Pre_StickBKernelIdeal_finite_sb m →
    (∀ c : Dev Cert.StickBKernelIdeal.nD,
      m' ((c.tc : Thread Cert.StickBReferenceIdeal.nD Cert.StickBReferenceIdeal.τ).loc Cert.StickBReferenceIdeal.main_arg0) = m ((c.tc : Thread Cert.StickBKernelIdeal.nD Cert.StickBKernelIdeal.τ).loc Cert.StickBKernelIdeal.main_arg0)
      ∧ m' ((c.tc : Thread Cert.StickBReferenceIdeal.nD Cert.StickBReferenceIdeal.τ).loc Cert.StickBReferenceIdeal.main_arg1) = m ((c.tc : Thread Cert.StickBKernelIdeal.nD Cert.StickBKernelIdeal.τ).loc Cert.StickBKernelIdeal.main_arg1)) →
    ∃ (v0 : (c : Dev Cert.StickBKernelIdeal.nD) → Buf (Elt Ideal) ((c.tc : Thread Cert.StickBKernelIdeal.nD Cert.StickBKernelIdeal.τ).loc Cert.StickBKernelIdeal.main_v33_0)) (v1 : (c : Dev Cert.StickBKernelIdeal.nD) → Buf (Elt Ideal) ((c.tc : Thread Cert.StickBKernelIdeal.nD Cert.StickBKernelIdeal.τ).loc Cert.StickBKernelIdeal.main_v33_1)) (v2 : (c : Dev Cert.StickBKernelIdeal.nD) → Buf (Elt Ideal) ((c.tc : Thread Cert.StickBKernelIdeal.nD Cert.StickBKernelIdeal.τ).loc Cert.StickBKernelIdeal.main_v33_2)),
      θ_run (Cert.StickBKernelIdeal.defs (F := Ideal)) (onTc (τ := Cert.StickBKernelIdeal.τ) (Cert.StickBKernelIdeal.main (F := Ideal))) ⟨m, fun _ => 0, g⟩ (fun r => ∀ c : Dev Cert.StickBKernelIdeal.nD,
          r.2.mem ((c.tc : Thread Cert.StickBKernelIdeal.nD Cert.StickBKernelIdeal.τ).loc Cert.StickBKernelIdeal.main_v33_0) = v0 c
          ∧ r.2.mem ((c.tc : Thread Cert.StickBKernelIdeal.nD Cert.StickBKernelIdeal.τ).loc Cert.StickBKernelIdeal.main_v33_1) = v1 c
          ∧ r.2.mem ((c.tc : Thread Cert.StickBKernelIdeal.nD Cert.StickBKernelIdeal.τ).loc Cert.StickBKernelIdeal.main_v33_2) = v2 c
          ∧ r.2.mem ((c.tc : Thread Cert.StickBKernelIdeal.nD Cert.StickBKernelIdeal.τ).loc Cert.StickBKernelIdeal.main_arg0) = m ((c.tc : Thread Cert.StickBKernelIdeal.nD Cert.StickBKernelIdeal.τ).loc Cert.StickBKernelIdeal.main_arg0)
          ∧ r.2.mem ((c.tc : Thread Cert.StickBKernelIdeal.nD Cert.StickBKernelIdeal.τ).loc Cert.StickBKernelIdeal.main_arg1) = m ((c.tc : Thread Cert.StickBKernelIdeal.nD Cert.StickBKernelIdeal.τ).loc Cert.StickBKernelIdeal.main_arg1))
      ∧ θ_run (Cert.StickBReferenceIdeal.defs (F := Ideal)) (onTc (τ := Cert.StickBReferenceIdeal.τ) (Cert.StickBReferenceIdeal.main (F := Ideal))) ⟨m', fun _ => 0, g'⟩ (fun r => ∀ c : Dev Cert.StickBReferenceIdeal.nD,
          r.2.mem ((c.tc : Thread Cert.StickBReferenceIdeal.nD Cert.StickBReferenceIdeal.τ).loc Cert.StickBReferenceIdeal.main_v59) = v0 c
          ∧ r.2.mem ((c.tc : Thread Cert.StickBReferenceIdeal.nD Cert.StickBReferenceIdeal.τ).loc Cert.StickBReferenceIdeal.main_v56) = v1 c
          ∧ r.2.mem ((c.tc : Thread Cert.StickBReferenceIdeal.nD Cert.StickBReferenceIdeal.τ).loc Cert.StickBReferenceIdeal.main_v54) = v2 c
          ∧ r.2.mem ((c.tc : Thread Cert.StickBReferenceIdeal.nD Cert.StickBReferenceIdeal.τ).loc Cert.StickBReferenceIdeal.main_arg0) = m' ((c.tc : Thread Cert.StickBReferenceIdeal.nD Cert.StickBReferenceIdeal.τ).loc Cert.StickBReferenceIdeal.main_arg0)
          ∧ r.2.mem ((c.tc : Thread Cert.StickBReferenceIdeal.nD Cert.StickBReferenceIdeal.τ).loc Cert.StickBReferenceIdeal.main_arg1) = m' ((c.tc : Thread Cert.StickBReferenceIdeal.nD Cert.StickBReferenceIdeal.τ).loc Cert.StickBReferenceIdeal.main_arg1))

def preserves_MemFwdKernel_MemFwdKernelIdeal : Prop :=
  True

def algebraic_MemFwdKernelIdeal_MemFwdReferenceIdeal [hMemFwdKernelIdeal : Cert.MemFwdKernelIdeal.Facts] [hMemFwdReferenceIdeal : Cert.MemFwdReferenceIdeal.Facts] : Prop :=
  ∀ (m : (ℓ : Loc Cert.MemFwdKernelIdeal.nD Cert.MemFwdKernelIdeal.τ Cert.MemFwdKernelIdeal.sig) → Buf (Elt Ideal) ℓ) (g : Dev Cert.MemFwdKernelIdeal.nD → PrngReg)
    (m' : (ℓ : Loc Cert.MemFwdReferenceIdeal.nD Cert.MemFwdReferenceIdeal.τ Cert.MemFwdReferenceIdeal.sig) → Buf (Elt Ideal) ℓ) (g' : Dev Cert.MemFwdReferenceIdeal.nD → PrngReg), Pre_MemFwdKernelIdeal m →
    (∀ c : Dev Cert.MemFwdKernelIdeal.nD,
      m' ((c.tc : Thread Cert.MemFwdReferenceIdeal.nD Cert.MemFwdReferenceIdeal.τ).loc Cert.MemFwdReferenceIdeal.main_arg0) = m ((c.tc : Thread Cert.MemFwdKernelIdeal.nD Cert.MemFwdKernelIdeal.τ).loc Cert.MemFwdKernelIdeal.main_arg0)
      ∧ m' ((c.tc : Thread Cert.MemFwdReferenceIdeal.nD Cert.MemFwdReferenceIdeal.τ).loc Cert.MemFwdReferenceIdeal.main_arg1) = m ((c.tc : Thread Cert.MemFwdKernelIdeal.nD Cert.MemFwdKernelIdeal.τ).loc Cert.MemFwdKernelIdeal.main_arg1)) →
    ∃ (v0 : (c : Dev Cert.MemFwdKernelIdeal.nD) → Buf (Elt Ideal) ((c.tc : Thread Cert.MemFwdKernelIdeal.nD Cert.MemFwdKernelIdeal.τ).loc Cert.MemFwdKernelIdeal.main_v0)),
      θ_run (Cert.MemFwdKernelIdeal.defs (F := Ideal)) (onTc (τ := Cert.MemFwdKernelIdeal.τ) (Cert.MemFwdKernelIdeal.main (F := Ideal))) ⟨m, fun _ => 0, g⟩ (fun r => ∀ c : Dev Cert.MemFwdKernelIdeal.nD,
          r.2.mem ((c.tc : Thread Cert.MemFwdKernelIdeal.nD Cert.MemFwdKernelIdeal.τ).loc Cert.MemFwdKernelIdeal.main_v0) = v0 c
          ∧ r.2.mem ((c.tc : Thread Cert.MemFwdKernelIdeal.nD Cert.MemFwdKernelIdeal.τ).loc Cert.MemFwdKernelIdeal.main_arg0) = m ((c.tc : Thread Cert.MemFwdKernelIdeal.nD Cert.MemFwdKernelIdeal.τ).loc Cert.MemFwdKernelIdeal.main_arg0)
          ∧ r.2.mem ((c.tc : Thread Cert.MemFwdKernelIdeal.nD Cert.MemFwdKernelIdeal.τ).loc Cert.MemFwdKernelIdeal.main_arg1) = m ((c.tc : Thread Cert.MemFwdKernelIdeal.nD Cert.MemFwdKernelIdeal.τ).loc Cert.MemFwdKernelIdeal.main_arg1))
      ∧ θ_run (Cert.MemFwdReferenceIdeal.defs (F := Ideal)) (onTc (τ := Cert.MemFwdReferenceIdeal.τ) (Cert.MemFwdReferenceIdeal.main (F := Ideal))) ⟨m', fun _ => 0, g'⟩ (fun r => ∀ c : Dev Cert.MemFwdReferenceIdeal.nD,
          r.2.mem ((c.tc : Thread Cert.MemFwdReferenceIdeal.nD Cert.MemFwdReferenceIdeal.τ).loc Cert.MemFwdReferenceIdeal.main_v24) = v0 c
          ∧ r.2.mem ((c.tc : Thread Cert.MemFwdReferenceIdeal.nD Cert.MemFwdReferenceIdeal.τ).loc Cert.MemFwdReferenceIdeal.main_arg0) = m' ((c.tc : Thread Cert.MemFwdReferenceIdeal.nD Cert.MemFwdReferenceIdeal.τ).loc Cert.MemFwdReferenceIdeal.main_arg0)
          ∧ r.2.mem ((c.tc : Thread Cert.MemFwdReferenceIdeal.nD Cert.MemFwdReferenceIdeal.τ).loc Cert.MemFwdReferenceIdeal.main_arg1) = m' ((c.tc : Thread Cert.MemFwdReferenceIdeal.nD Cert.MemFwdReferenceIdeal.τ).loc Cert.MemFwdReferenceIdeal.main_arg1))

def preserves_StickFKernel_StickFKernelIdeal : Prop :=
  IdealRules.named_const.Statement Cert.StickFKernelIdeal.κ "dead" .f32 0x42D00000#32 ⊤

def algebraic_StickFKernelIdeal_StickFReferenceIdeal_pre_finite_sbf [hStickFKernelIdeal : Cert.StickFKernelIdeal.Facts] [hStickFReferenceIdeal : Cert.StickFReferenceIdeal.Facts] [hPre_finite_sbf : Cert.Pre_finite_sbf.Facts] : Prop :=
  ∀ (m : (ℓ : Loc Cert.StickFKernelIdeal.nD Cert.StickFKernelIdeal.τ Cert.StickFKernelIdeal.sig) → Buf (Elt Ideal) ℓ) (g : Dev Cert.StickFKernelIdeal.nD → PrngReg)
    (m' : (ℓ : Loc Cert.StickFReferenceIdeal.nD Cert.StickFReferenceIdeal.τ Cert.StickFReferenceIdeal.sig) → Buf (Elt Ideal) ℓ) (g' : Dev Cert.StickFReferenceIdeal.nD → PrngReg), Pre_StickFKernelIdeal_finite_sbf m →
    (∀ c : Dev Cert.StickFKernelIdeal.nD,
      m' ((c.tc : Thread Cert.StickFReferenceIdeal.nD Cert.StickFReferenceIdeal.τ).loc Cert.StickFReferenceIdeal.main_arg0) = m ((c.tc : Thread Cert.StickFKernelIdeal.nD Cert.StickFKernelIdeal.τ).loc Cert.StickFKernelIdeal.main_arg0)) →
    ∃ (v0 : (c : Dev Cert.StickFKernelIdeal.nD) → Buf (Elt Ideal) ((c.tc : Thread Cert.StickFKernelIdeal.nD Cert.StickFKernelIdeal.τ).loc Cert.StickFKernelIdeal.main_v0_0)) (v1 : (c : Dev Cert.StickFKernelIdeal.nD) → Buf (Elt Ideal) ((c.tc : Thread Cert.StickFKernelIdeal.nD Cert.StickFKernelIdeal.τ).loc Cert.StickFKernelIdeal.main_v0_1)),
      θ_run (Cert.StickFKernelIdeal.defs (F := Ideal)) (onTc (τ := Cert.StickFKernelIdeal.τ) (Cert.StickFKernelIdeal.main (F := Ideal))) ⟨m, fun _ => 0, g⟩ (fun r => ∀ c : Dev Cert.StickFKernelIdeal.nD,
          r.2.mem ((c.tc : Thread Cert.StickFKernelIdeal.nD Cert.StickFKernelIdeal.τ).loc Cert.StickFKernelIdeal.main_v0_0) = v0 c
          ∧ r.2.mem ((c.tc : Thread Cert.StickFKernelIdeal.nD Cert.StickFKernelIdeal.τ).loc Cert.StickFKernelIdeal.main_v0_1) = v1 c
          ∧ r.2.mem ((c.tc : Thread Cert.StickFKernelIdeal.nD Cert.StickFKernelIdeal.τ).loc Cert.StickFKernelIdeal.main_arg0) = m ((c.tc : Thread Cert.StickFKernelIdeal.nD Cert.StickFKernelIdeal.τ).loc Cert.StickFKernelIdeal.main_arg0))
      ∧ θ_run (Cert.StickFReferenceIdeal.defs (F := Ideal)) (onTc (τ := Cert.StickFReferenceIdeal.τ) (Cert.StickFReferenceIdeal.main (F := Ideal))) ⟨m', fun _ => 0, g'⟩ (fun r => ∀ c : Dev Cert.StickFReferenceIdeal.nD,
          r.2.mem ((c.tc : Thread Cert.StickFReferenceIdeal.nD Cert.StickFReferenceIdeal.τ).loc Cert.StickFReferenceIdeal.main_v33) = v0 c
          ∧ r.2.mem ((c.tc : Thread Cert.StickFReferenceIdeal.nD Cert.StickFReferenceIdeal.τ).loc Cert.StickFReferenceIdeal.main_v32) = v1 c
          ∧ r.2.mem ((c.tc : Thread Cert.StickFReferenceIdeal.nD Cert.StickFReferenceIdeal.τ).loc Cert.StickFReferenceIdeal.main_arg0) = m' ((c.tc : Thread Cert.StickFReferenceIdeal.nD Cert.StickFReferenceIdeal.τ).loc Cert.StickFReferenceIdeal.main_arg0))

def preserves_ConvFwdKernel_ConvFwdKernelIdeal : Prop :=
  True

def algebraic_ConvFwdKernelIdeal_ConvFwdReferenceIdeal [hConvFwdKernelIdeal : Cert.ConvFwdKernelIdeal.Facts] [hConvFwdReferenceIdeal : Cert.ConvFwdReferenceIdeal.Facts] : Prop :=
  ∀ (m : (ℓ : Loc Cert.ConvFwdKernelIdeal.nD Cert.ConvFwdKernelIdeal.τ Cert.ConvFwdKernelIdeal.sig) → Buf (Elt Ideal) ℓ) (g : Dev Cert.ConvFwdKernelIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdKernelIdeal m →
    (∀ c : Dev Cert.ConvFwdKernelIdeal.nD,
      m' ((c.tc : Thread Cert.ConvFwdReferenceIdeal.nD Cert.ConvFwdReferenceIdeal.τ).loc Cert.ConvFwdReferenceIdeal.main_arg0) = m ((c.tc : Thread Cert.ConvFwdKernelIdeal.nD Cert.ConvFwdKernelIdeal.τ).loc Cert.ConvFwdKernelIdeal.main_arg0)
      ∧ m' ((c.tc : Thread Cert.ConvFwdReferenceIdeal.nD Cert.ConvFwdReferenceIdeal.τ).loc Cert.ConvFwdReferenceIdeal.main_arg1) = m ((c.tc : Thread Cert.ConvFwdKernelIdeal.nD Cert.ConvFwdKernelIdeal.τ).loc Cert.ConvFwdKernelIdeal.main_arg1)) →
    ∃ (v0 : (c : Dev Cert.ConvFwdKernelIdeal.nD) → Buf (Elt Ideal) ((c.tc : Thread Cert.ConvFwdKernelIdeal.nD Cert.ConvFwdKernelIdeal.τ).loc Cert.ConvFwdKernelIdeal.main_v1)),
      θ_run (Cert.ConvFwdKernelIdeal.defs (F := Ideal)) (onTc (τ := Cert.ConvFwdKernelIdeal.τ) (Cert.ConvFwdKernelIdeal.main (F := Ideal))) ⟨m, fun _ => 0, g⟩ (fun r => ∀ c : Dev Cert.ConvFwdKernelIdeal.nD,
          r.2.mem ((c.tc : Thread Cert.ConvFwdKernelIdeal.nD Cert.ConvFwdKernelIdeal.τ).loc Cert.ConvFwdKernelIdeal.main_v1) = v0 c
          ∧ r.2.mem ((c.tc : Thread Cert.ConvFwdKernelIdeal.nD Cert.ConvFwdKernelIdeal.τ).loc Cert.ConvFwdKernelIdeal.main_arg0) = m ((c.tc : Thread Cert.ConvFwdKernelIdeal.nD Cert.ConvFwdKernelIdeal.τ).loc Cert.ConvFwdKernelIdeal.main_arg0)
          ∧ r.2.mem ((c.tc : Thread Cert.ConvFwdKernelIdeal.nD Cert.ConvFwdKernelIdeal.τ).loc Cert.ConvFwdKernelIdeal.main_arg1) = m ((c.tc : Thread Cert.ConvFwdKernelIdeal.nD Cert.ConvFwdKernelIdeal.τ).loc Cert.ConvFwdKernelIdeal.main_arg1))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v28) = v0 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v0_0)) (v1 : (c : Dev Cert.MergeKernelIdeal.nD) → Buf (Elt Ideal) ((c.tc : Thread Cert.MergeKernelIdeal.nD Cert.MergeKernelIdeal.τ).loc Cert.MergeKernelIdeal.main_v0_1)) (v2 : (c : Dev Cert.MergeKernelIdeal.nD) → Buf (Elt Ideal) ((c.tc : Thread Cert.MergeKernelIdeal.nD Cert.MergeKernelIdeal.τ).loc Cert.MergeKernelIdeal.main_v0_2)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v0_0) = v0 c
          ∧ r.2.mem ((c.tc : Thread Cert.MergeKernelIdeal.nD Cert.MergeKernelIdeal.τ).loc Cert.MergeKernelIdeal.main_v0_1) = v1 c
          ∧ r.2.mem ((c.tc : Thread Cert.MergeKernelIdeal.nD Cert.MergeKernelIdeal.τ).loc Cert.MergeKernelIdeal.main_v0_2) = v2 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v24) = v0 c
          ∧ r.2.mem ((c.tc : Thread Cert.MergeReferenceIdeal.nD Cert.MergeReferenceIdeal.τ).loc Cert.MergeReferenceIdeal.main_v25) = v1 c
          ∧ r.2.mem ((c.tc : Thread Cert.MergeReferenceIdeal.nD Cert.MergeReferenceIdeal.τ).loc Cert.MergeReferenceIdeal.main_v26) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_NormMulKernel_NormMulKernelIdeal : Prop :=
  True

def algebraic_NormMulKernelIdeal_NormMulReferenceIdeal [hNormMulKernelIdeal : Cert.NormMulKernelIdeal.Facts] [hNormMulReferenceIdeal : Cert.NormMulReferenceIdeal.Facts] : Prop :=
  ∀ (m : (ℓ : Loc Cert.NormMulKernelIdeal.nD Cert.NormMulKernelIdeal.τ Cert.NormMulKernelIdeal.sig) → Buf (Elt Ideal) ℓ) (g : Dev Cert.NormMulKernelIdeal.nD → PrngReg)
    (m' : (ℓ : Loc Cert.NormMulReferenceIdeal.nD Cert.NormMulReferenceIdeal.τ Cert.NormMulReferenceIdeal.sig) → Buf (Elt Ideal) ℓ) (g' : Dev Cert.NormMulReferenceIdeal.nD → PrngReg), Pre_NormMulKernelIdeal m →
    (∀ c : Dev Cert.NormMulKernelIdeal.nD,
      m' ((c.tc : Thread Cert.NormMulReferenceIdeal.nD Cert.NormMulReferenceIdeal.τ).loc Cert.NormMulReferenceIdeal.main_arg0) = m ((c.tc : Thread Cert.NormMulKernelIdeal.nD Cert.NormMulKernelIdeal.τ).loc Cert.NormMulKernelIdeal.main_arg0)
      ∧ m' ((c.tc : Thread Cert.NormMulReferenceIdeal.nD Cert.NormMulReferenceIdeal.τ).loc Cert.NormMulReferenceIdeal.main_arg1) = m ((c.tc : Thread Cert.NormMulKernelIdeal.nD Cert.NormMulKernelIdeal.τ).loc Cert.NormMulKernelIdeal.main_arg1)
      ∧ m' ((c.tc : Thread Cert.NormMulReferenceIdeal.nD Cert.NormMulReferenceIdeal.τ).loc Cert.NormMulReferenceIdeal.main_arg2) = m ((c.tc : Thread Cert.NormMulKernelIdeal.nD Cert.NormMulKernelIdeal.τ).loc Cert.NormMulKernelIdeal.main_arg2)) →
    ∃ (v0 : (c : Dev Cert.NormMulKernelIdeal.nD) → Buf (Elt Ideal) ((c.tc : Thread Cert.NormMulKernelIdeal.nD Cert.NormMulKernelIdeal.τ).loc Cert.NormMulKernelIdeal.main_v0_0)) (v1 : (c : Dev Cert.NormMulKernelIdeal.nD) → Buf (Elt Ideal) ((c.tc : Thread Cert.NormMulKernelIdeal.nD Cert.NormMulKernelIdeal.τ).loc Cert.NormMulKernelIdeal.main_v0_1)),
      θ_run (Cert.NormMulKernelIdeal.defs (F := Ideal)) (onTc (τ := Cert.NormMulKernelIdeal.τ) (Cert.NormMulKernelIdeal.main (F := Ideal))) ⟨m, fun _ => 0, g⟩ (fun r => ∀ c : Dev Cert.NormMulKernelIdeal.nD,
          r.2.mem ((c.tc : Thread Cert.NormMulKernelIdeal.nD Cert.NormMulKernelIdeal.τ).loc Cert.NormMulKernelIdeal.main_v0_0) = v0 c
          ∧ r.2.mem ((c.tc : Thread Cert.NormMulKernelIdeal.nD Cert.NormMulKernelIdeal.τ).loc Cert.NormMulKernelIdeal.main_v0_1) = v1 c
          ∧ r.2.mem ((c.tc : Thread Cert.NormMulKernelIdeal.nD Cert.NormMulKernelIdeal.τ).loc Cert.NormMulKernelIdeal.main_arg0) = m ((c.tc : Thread Cert.NormMulKernelIdeal.nD Cert.NormMulKernelIdeal.τ).loc Cert.NormMulKernelIdeal.main_arg0)
          ∧ r.2.mem ((c.tc : Thread Cert.NormMulKernelIdeal.nD Cert.NormMulKernelIdeal.τ).loc Cert.NormMulKernelIdeal.main_arg1) = m ((c.tc : Thread Cert.NormMulKernelIdeal.nD Cert.NormMulKernelIdeal.τ).loc Cert.NormMulKernelIdeal.main_arg1)
          ∧ r.2.mem ((c.tc : Thread Cert.NormMulKernelIdeal.nD Cert.NormMulKernelIdeal.τ).loc Cert.NormMulKernelIdeal.main_arg2) = m ((c.tc : Thread Cert.NormMulKernelIdeal.nD Cert.NormMulKernelIdeal.τ).loc Cert.NormMulKernelIdeal.main_arg2))
      ∧ θ_run (Cert.NormMulReferenceIdeal.defs (F := Ideal)) (onTc (τ := Cert.NormMulReferenceIdeal.τ) (Cert.NormMulReferenceIdeal.main (F := Ideal))) ⟨m', fun _ => 0, g'⟩ (fun r => ∀ c : Dev Cert.NormMulReferenceIdeal.nD,
          r.2.mem ((c.tc : Thread Cert.NormMulReferenceIdeal.nD Cert.NormMulReferenceIdeal.τ).loc Cert.NormMulReferenceIdeal.main_v12) = v0 c
          ∧ r.2.mem ((c.tc : Thread Cert.NormMulReferenceIdeal.nD Cert.NormMulReferenceIdeal.τ).loc Cert.NormMulReferenceIdeal.main_v15) = v1 c
          ∧ r.2.mem ((c.tc : Thread Cert.NormMulReferenceIdeal.nD Cert.NormMulReferenceIdeal.τ).loc Cert.NormMulReferenceIdeal.main_arg0) = m' ((c.tc : Thread Cert.NormMulReferenceIdeal.nD Cert.NormMulReferenceIdeal.τ).loc Cert.NormMulReferenceIdeal.main_arg0)
          ∧ r.2.mem ((c.tc : Thread Cert.NormMulReferenceIdeal.nD Cert.NormMulReferenceIdeal.τ).loc Cert.NormMulReferenceIdeal.main_arg1) = m' ((c.tc : Thread Cert.NormMulReferenceIdeal.nD Cert.NormMulReferenceIdeal.τ).loc Cert.NormMulReferenceIdeal.main_arg1)
          ∧ r.2.mem ((c.tc : Thread Cert.NormMulReferenceIdeal.nD Cert.NormMulReferenceIdeal.τ).loc Cert.NormMulReferenceIdeal.main_arg2) = m' ((c.tc : Thread Cert.NormMulReferenceIdeal.nD Cert.NormMulReferenceIdeal.τ).loc Cert.NormMulReferenceIdeal.main_arg2))

def preserves_FfnInKernel_FfnInKernelIdeal : Prop :=
  True

def algebraic_FfnInKernelIdeal_FfnInReferenceIdeal [hFfnInKernelIdeal : Cert.FfnInKernelIdeal.Facts] [hFfnInReferenceIdeal : Cert.FfnInReferenceIdeal.Facts] : Prop :=
  ∀ (m : (ℓ : Loc Cert.FfnInKernelIdeal.nD Cert.FfnInKernelIdeal.τ Cert.FfnInKernelIdeal.sig) → Buf (Elt Ideal) ℓ) (g : Dev Cert.FfnInKernelIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInKernelIdeal m →
    (∀ c : Dev Cert.FfnInKernelIdeal.nD,
      m' ((c.tc : Thread Cert.FfnInReferenceIdeal.nD Cert.FfnInReferenceIdeal.τ).loc Cert.FfnInReferenceIdeal.main_arg0) = m ((c.tc : Thread Cert.FfnInKernelIdeal.nD Cert.FfnInKernelIdeal.τ).loc Cert.FfnInKernelIdeal.main_arg0)
      ∧ m' ((c.tc : Thread Cert.FfnInReferenceIdeal.nD Cert.FfnInReferenceIdeal.τ).loc Cert.FfnInReferenceIdeal.main_arg1) = m ((c.tc : Thread Cert.FfnInKernelIdeal.nD Cert.FfnInKernelIdeal.τ).loc Cert.FfnInKernelIdeal.main_arg1)
      ∧ m' ((c.tc : Thread Cert.FfnInReferenceIdeal.nD Cert.FfnInReferenceIdeal.τ).loc Cert.FfnInReferenceIdeal.main_arg2) = m ((c.tc : Thread Cert.FfnInKernelIdeal.nD Cert.FfnInKernelIdeal.τ).loc Cert.FfnInKernelIdeal.main_arg2)) →
    ∃ (v0 : (c : Dev Cert.FfnInKernelIdeal.nD) → Buf (Elt Ideal) ((c.tc : Thread Cert.FfnInKernelIdeal.nD Cert.FfnInKernelIdeal.τ).loc Cert.FfnInKernelIdeal.main_v0_0)) (v1 : (c : Dev Cert.FfnInKernelIdeal.nD) → Buf (Elt Ideal) ((c.tc : Thread Cert.FfnInKernelIdeal.nD Cert.FfnInKernelIdeal.τ).loc Cert.FfnInKernelIdeal.main_v0_1)) (v2 : (c : Dev Cert.FfnInKernelIdeal.nD) → Buf (Elt Ideal) ((c.tc : Thread Cert.FfnInKernelIdeal.nD Cert.FfnInKernelIdeal.τ).loc Cert.FfnInKernelIdeal.main_v0_2)) (v3 : (c : Dev Cert.FfnInKernelIdeal.nD) → Buf (Elt Ideal) ((c.tc : Thread Cert.FfnInKernelIdeal.nD Cert.FfnInKernelIdeal.τ).loc Cert.FfnInKernelIdeal.main_v0_3)),
      θ_run (Cert.FfnInKernelIdeal.defs (F := Ideal)) (onTc (τ := Cert.FfnInKernelIdeal.τ) (Cert.FfnInKernelIdeal.main (F := Ideal))) ⟨m, fun _ => 0, g⟩ (fun r => ∀ c : Dev Cert.FfnInKernelIdeal.nD,
          r.2.mem ((c.tc : Thread Cert.FfnInKernelIdeal.nD Cert.FfnInKernelIdeal.τ).loc Cert.FfnInKernelIdeal.main_v0_0) = v0 c
          ∧ r.2.mem ((c.tc : Thread Cert.FfnInKernelIdeal.nD Cert.FfnInKernelIdeal.τ).loc Cert.FfnInKernelIdeal.main_v0_1) = v1 c
          ∧ r.2.mem ((c.tc : Thread Cert.FfnInKernelIdeal.nD Cert.FfnInKernelIdeal.τ).loc Cert.FfnInKernelIdeal.main_v0_2) = v2 c
          ∧ r.2.mem ((c.tc : Thread Cert.FfnInKernelIdeal.nD Cert.FfnInKernelIdeal.τ).loc Cert.FfnInKernelIdeal.main_v0_3) = v3 c
          ∧ r.2.mem ((c.tc : Thread Cert.FfnInKernelIdeal.nD Cert.FfnInKernelIdeal.τ).loc Cert.FfnInKernelIdeal.main_arg0) = m ((c.tc : Thread Cert.FfnInKernelIdeal.nD Cert.FfnInKernelIdeal.τ).loc Cert.FfnInKernelIdeal.main_arg0)
          ∧ r.2.mem ((c.tc : Thread Cert.FfnInKernelIdeal.nD Cert.FfnInKernelIdeal.τ).loc Cert.FfnInKernelIdeal.main_arg1) = m ((c.tc : Thread Cert.FfnInKernelIdeal.nD Cert.FfnInKernelIdeal.τ).loc Cert.FfnInKernelIdeal.main_arg1)
          ∧ r.2.mem ((c.tc : Thread Cert.FfnInKernelIdeal.nD Cert.FfnInKernelIdeal.τ).loc Cert.FfnInKernelIdeal.main_arg2) = m ((c.tc : Thread Cert.FfnInKernelIdeal.nD Cert.FfnInKernelIdeal.τ).loc Cert.FfnInKernelIdeal.main_arg2))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v16) = v0 c
          ∧ r.2.mem ((c.tc : Thread Cert.FfnInReferenceIdeal.nD Cert.FfnInReferenceIdeal.τ).loc Cert.FfnInReferenceIdeal.main_v17) = v1 c
          ∧ r.2.mem ((c.tc : Thread Cert.FfnInReferenceIdeal.nD Cert.FfnInReferenceIdeal.τ).loc Cert.FfnInReferenceIdeal.main_v18) = v2 c
          ∧ r.2.mem ((c.tc : Thread Cert.FfnInReferenceIdeal.nD Cert.FfnInReferenceIdeal.τ).loc Cert.FfnInReferenceIdeal.main_v21) = v3 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1)
          ∧ r.2.mem ((c.tc : Thread Cert.FfnInReferenceIdeal.nD Cert.FfnInReferenceIdeal.τ).loc Cert.FfnInReferenceIdeal.main_arg2) = m' ((c.tc : Thread Cert.FfnInReferenceIdeal.nD Cert.FfnInReferenceIdeal.τ).loc Cert.FfnInReferenceIdeal.main_arg2))

def preserves_MatMulKernel_MatMulKernelIdeal : Prop :=
  True

def algebraic_MatMulKernelIdeal_MatMulReferenceIdeal [hMatMulKernelIdeal : Cert.MatMulKernelIdeal.Facts] [hMatMulReferenceIdeal : Cert.MatMulReferenceIdeal.Facts] : Prop :=
  ∀ (m : (ℓ : Loc Cert.MatMulKernelIdeal.nD Cert.MatMulKernelIdeal.τ Cert.MatMulKernelIdeal.sig) → Buf (Elt Ideal) ℓ) (g : Dev Cert.MatMulKernelIdeal.nD → PrngReg)
    (m' : (ℓ : Loc Cert.MatMulReferenceIdeal.nD Cert.MatMulReferenceIdeal.τ Cert.MatMulReferenceIdeal.sig) → Buf (Elt Ideal) ℓ) (g' : Dev Cert.MatMulReferenceIdeal.nD → PrngReg), Pre_MatMulKernelIdeal m →
    (∀ c : Dev Cert.MatMulKernelIdeal.nD,
      m' ((c.tc : Thread Cert.MatMulReferenceIdeal.nD Cert.MatMulReferenceIdeal.τ).loc Cert.MatMulReferenceIdeal.main_arg0) = m ((c.tc : Thread Cert.MatMulKernelIdeal.nD Cert.MatMulKernelIdeal.τ).loc Cert.MatMulKernelIdeal.main_arg0)
      ∧ m' ((c.tc : Thread Cert.MatMulReferenceIdeal.nD Cert.MatMulReferenceIdeal.τ).loc Cert.MatMulReferenceIdeal.main_arg1) = m ((c.tc : Thread Cert.MatMulKernelIdeal.nD Cert.MatMulKernelIdeal.τ).loc Cert.MatMulKernelIdeal.main_arg1)) →
    ∃ (v0 : (c : Dev Cert.MatMulKernelIdeal.nD) → Buf (Elt Ideal) ((c.tc : Thread Cert.MatMulKernelIdeal.nD Cert.MatMulKernelIdeal.τ).loc Cert.MatMulKernelIdeal.main_v0)),
      θ_run (Cert.MatMulKernelIdeal.defs (F := Ideal)) (onTc (τ := Cert.MatMulKernelIdeal.τ) (Cert.MatMulKernelIdeal.main (F := Ideal))) ⟨m, fun _ => 0, g⟩ (fun r => ∀ c : Dev Cert.MatMulKernelIdeal.nD,
          r.2.mem ((c.tc : Thread Cert.MatMulKernelIdeal.nD Cert.MatMulKernelIdeal.τ).loc Cert.MatMulKernelIdeal.main_v0) = v0 c
          ∧ r.2.mem ((c.tc : Thread Cert.MatMulKernelIdeal.nD Cert.MatMulKernelIdeal.τ).loc Cert.MatMulKernelIdeal.main_arg0) = m ((c.tc : Thread Cert.MatMulKernelIdeal.nD Cert.MatMulKernelIdeal.τ).loc Cert.MatMulKernelIdeal.main_arg0)
          ∧ r.2.mem ((c.tc : Thread Cert.MatMulKernelIdeal.nD Cert.MatMulKernelIdeal.τ).loc Cert.MatMulKernelIdeal.main_arg1) = m ((c.tc : Thread Cert.MatMulKernelIdeal.nD Cert.MatMulKernelIdeal.τ).loc Cert.MatMulKernelIdeal.main_arg1))
      ∧ θ_run (Cert.MatMulReferenceIdeal.defs (F := Ideal)) (onTc (τ := Cert.MatMulReferenceIdeal.τ) (Cert.MatMulReferenceIdeal.main (F := Ideal))) ⟨m', fun _ => 0, g'⟩ (fun r => ∀ c : Dev Cert.MatMulReferenceIdeal.nD,
          r.2.mem ((c.tc : Thread Cert.MatMulReferenceIdeal.nD Cert.MatMulReferenceIdeal.τ).loc Cert.MatMulReferenceIdeal.main_v4) = v0 c
          ∧ r.2.mem ((c.tc : Thread Cert.MatMulReferenceIdeal.nD Cert.MatMulReferenceIdeal.τ).loc Cert.MatMulReferenceIdeal.main_arg0) = m' ((c.tc : Thread Cert.MatMulReferenceIdeal.nD Cert.MatMulReferenceIdeal.τ).loc Cert.MatMulReferenceIdeal.main_arg0)
          ∧ r.2.mem ((c.tc : Thread Cert.MatMulReferenceIdeal.nD Cert.MatMulReferenceIdeal.τ).loc Cert.MatMulReferenceIdeal.main_arg1) = m' ((c.tc : Thread Cert.MatMulReferenceIdeal.nD Cert.MatMulReferenceIdeal.τ).loc Cert.MatMulReferenceIdeal.main_arg1))

def preserves_AdamWKernel_AdamWKernelIdeal : Prop :=
  True

def algebraic_AdamWKernelIdeal_AdamWReferenceIdeal [hAdamWKernelIdeal : Cert.AdamWKernelIdeal.Facts] [hAdamWReferenceIdeal : Cert.AdamWReferenceIdeal.Facts] : Prop :=
  ∀ (m : (ℓ : Loc Cert.AdamWKernelIdeal.nD Cert.AdamWKernelIdeal.τ Cert.AdamWKernelIdeal.sig) → Buf (Elt Ideal) ℓ) (g : Dev Cert.AdamWKernelIdeal.nD → PrngReg)
    (m' : (ℓ : Loc Cert.AdamWReferenceIdeal.nD Cert.AdamWReferenceIdeal.τ Cert.AdamWReferenceIdeal.sig) → Buf (Elt Ideal) ℓ) (g' : Dev Cert.AdamWReferenceIdeal.nD → PrngReg), Pre_AdamWKernelIdeal m →
    (∀ c : Dev Cert.AdamWKernelIdeal.nD,
      m' ((c.tc : Thread Cert.AdamWReferenceIdeal.nD Cert.AdamWReferenceIdeal.τ).loc Cert.AdamWReferenceIdeal.main_arg0) = m ((c.tc : Thread Cert.AdamWKernelIdeal.nD Cert.AdamWKernelIdeal.τ).loc Cert.AdamWKernelIdeal.main_arg0)
      ∧ m' ((c.tc : Thread Cert.AdamWReferenceIdeal.nD Cert.AdamWReferenceIdeal.τ).loc Cert.AdamWReferenceIdeal.main_arg1) = m ((c.tc : Thread Cert.AdamWKernelIdeal.nD Cert.AdamWKernelIdeal.τ).loc Cert.AdamWKernelIdeal.main_arg1)
      ∧ m' ((c.tc : Thread Cert.AdamWReferenceIdeal.nD Cert.AdamWReferenceIdeal.τ).loc Cert.AdamWReferenceIdeal.main_arg2) = m ((c.tc : Thread Cert.AdamWKernelIdeal.nD Cert.AdamWKernelIdeal.τ).loc Cert.AdamWKernelIdeal.main_arg2)
      ∧ m' ((c.tc : Thread Cert.AdamWReferenceIdeal.nD Cert.AdamWReferenceIdeal.τ).loc Cert.AdamWReferenceIdeal.main_arg3) = m ((c.tc : Thread Cert.AdamWKernelIdeal.nD Cert.AdamWKernelIdeal.τ).loc Cert.AdamWKernelIdeal.main_arg3)) →
    ∃ (v0 : (c : Dev Cert.AdamWKernelIdeal.nD) → Buf (Elt Ideal) ((c.tc : Thread Cert.AdamWKernelIdeal.nD Cert.AdamWKernelIdeal.τ).loc Cert.AdamWKernelIdeal.main_v0_0)) (v1 : (c : Dev Cert.AdamWKernelIdeal.nD) → Buf (Elt Ideal) ((c.tc : Thread Cert.AdamWKernelIdeal.nD Cert.AdamWKernelIdeal.τ).loc Cert.AdamWKernelIdeal.main_v0_1)) (v2 : (c : Dev Cert.AdamWKernelIdeal.nD) → Buf (Elt Ideal) ((c.tc : Thread Cert.AdamWKernelIdeal.nD Cert.AdamWKernelIdeal.τ).loc Cert.AdamWKernelIdeal.main_v0_2)) (v3 : (c : Dev Cert.AdamWKernelIdeal.nD) → Buf (Elt Ideal) ((c.tc : Thread Cert.AdamWKernelIdeal.nD Cert.AdamWKernelIdeal.τ).loc Cert.AdamWKernelIdeal.main_v0_3)),
      θ_run (Cert.AdamWKernelIdeal.defs (F := Ideal)) (onTc (τ := Cert.AdamWKernelIdeal.τ) (Cert.AdamWKernelIdeal.main (F := Ideal))) ⟨m, fun _ => 0, g⟩ (fun r => ∀ c : Dev Cert.AdamWKernelIdeal.nD,
          r.2.mem ((c.tc : Thread Cert.AdamWKernelIdeal.nD Cert.AdamWKernelIdeal.τ).loc Cert.AdamWKernelIdeal.main_v0_0) = v0 c
          ∧ r.2.mem ((c.tc : Thread Cert.AdamWKernelIdeal.nD Cert.AdamWKernelIdeal.τ).loc Cert.AdamWKernelIdeal.main_v0_1) = v1 c
          ∧ r.2.mem ((c.tc : Thread Cert.AdamWKernelIdeal.nD Cert.AdamWKernelIdeal.τ).loc Cert.AdamWKernelIdeal.main_v0_2) = v2 c
          ∧ r.2.mem ((c.tc : Thread Cert.AdamWKernelIdeal.nD Cert.AdamWKernelIdeal.τ).loc Cert.AdamWKernelIdeal.main_v0_3) = v3 c
          ∧ r.2.mem ((c.tc : Thread Cert.AdamWKernelIdeal.nD Cert.AdamWKernelIdeal.τ).loc Cert.AdamWKernelIdeal.main_arg0) = m ((c.tc : Thread Cert.AdamWKernelIdeal.nD Cert.AdamWKernelIdeal.τ).loc Cert.AdamWKernelIdeal.main_arg0)
          ∧ r.2.mem ((c.tc : Thread Cert.AdamWKernelIdeal.nD Cert.AdamWKernelIdeal.τ).loc Cert.AdamWKernelIdeal.main_arg1) = m ((c.tc : Thread Cert.AdamWKernelIdeal.nD Cert.AdamWKernelIdeal.τ).loc Cert.AdamWKernelIdeal.main_arg1)
          ∧ r.2.mem ((c.tc : Thread Cert.AdamWKernelIdeal.nD Cert.AdamWKernelIdeal.τ).loc Cert.AdamWKernelIdeal.main_arg2) = m ((c.tc : Thread Cert.AdamWKernelIdeal.nD Cert.AdamWKernelIdeal.τ).loc Cert.AdamWKernelIdeal.main_arg2)
          ∧ r.2.mem ((c.tc : Thread Cert.AdamWKernelIdeal.nD Cert.AdamWKernelIdeal.τ).loc Cert.AdamWKernelIdeal.main_arg3) = m ((c.tc : Thread Cert.AdamWKernelIdeal.nD Cert.AdamWKernelIdeal.τ).loc Cert.AdamWKernelIdeal.main_arg3))
      ∧ θ_run (Cert.AdamWReferenceIdeal.defs (F := Ideal)) (onTc (τ := Cert.AdamWReferenceIdeal.τ) (Cert.AdamWReferenceIdeal.main (F := Ideal))) ⟨m', fun _ => 0, g'⟩ (fun r => ∀ c : Dev Cert.AdamWReferenceIdeal.nD,
          r.2.mem ((c.tc : Thread Cert.AdamWReferenceIdeal.nD Cert.AdamWReferenceIdeal.τ).loc Cert.AdamWReferenceIdeal.main_v23) = v0 c
          ∧ r.2.mem ((c.tc : Thread Cert.AdamWReferenceIdeal.nD Cert.AdamWReferenceIdeal.τ).loc Cert.AdamWReferenceIdeal.main_v4) = v1 c
          ∧ r.2.mem ((c.tc : Thread Cert.AdamWReferenceIdeal.nD Cert.AdamWReferenceIdeal.τ).loc Cert.AdamWReferenceIdeal.main_v10) = v2 c
          ∧ r.2.mem ((c.tc : Thread Cert.AdamWReferenceIdeal.nD Cert.AdamWReferenceIdeal.τ).loc Cert.AdamWReferenceIdeal.main_arg1) = v3 c
          ∧ r.2.mem ((c.tc : Thread Cert.AdamWReferenceIdeal.nD Cert.AdamWReferenceIdeal.τ).loc Cert.AdamWReferenceIdeal.main_arg0) = m' ((c.tc : Thread Cert.AdamWReferenceIdeal.nD Cert.AdamWReferenceIdeal.τ).loc Cert.AdamWReferenceIdeal.main_arg0)
          ∧ r.2.mem ((c.tc : Thread Cert.AdamWReferenceIdeal.nD Cert.AdamWReferenceIdeal.τ).loc Cert.AdamWReferenceIdeal.main_arg1) = m' ((c.tc : Thread Cert.AdamWReferenceIdeal.nD Cert.AdamWReferenceIdeal.τ).loc Cert.AdamWReferenceIdeal.main_arg1)
          ∧ r.2.mem ((c.tc : Thread Cert.AdamWReferenceIdeal.nD Cert.AdamWReferenceIdeal.τ).loc Cert.AdamWReferenceIdeal.main_arg2) = m' ((c.tc : Thread Cert.AdamWReferenceIdeal.nD Cert.AdamWReferenceIdeal.τ).loc Cert.AdamWReferenceIdeal.main_arg2)
          ∧ r.2.mem ((c.tc : Thread Cert.AdamWReferenceIdeal.nD Cert.AdamWReferenceIdeal.τ).loc Cert.AdamWReferenceIdeal.main_arg3) = m' ((c.tc : Thread Cert.AdamWReferenceIdeal.nD Cert.AdamWReferenceIdeal.τ).loc Cert.AdamWReferenceIdeal.main_arg3))

def preserves_AssembleKernel_AssembleKernelIdeal : Prop :=
  True

def algebraic_AssembleKernelIdeal_AssembleReferenceIdeal [hAssembleKernelIdeal : Cert.AssembleKernelIdeal.Facts] [hAssembleReferenceIdeal : Cert.AssembleReferenceIdeal.Facts] : Prop :=
  ∀ (m : (ℓ : Loc Cert.AssembleKernelIdeal.nD Cert.AssembleKernelIdeal.τ Cert.AssembleKernelIdeal.sig) → Buf (Elt Ideal) ℓ) (g : Dev Cert.AssembleKernelIdeal.nD → PrngReg)
    (m' : (ℓ : Loc Cert.AssembleReferenceIdeal.nD Cert.AssembleReferenceIdeal.τ Cert.AssembleReferenceIdeal.sig) → Buf (Elt Ideal) ℓ) (g' : Dev Cert.AssembleReferenceIdeal.nD → PrngReg), Pre_AssembleKernelIdeal m →
    (∀ c : Dev Cert.AssembleKernelIdeal.nD,
      m' ((c.tc : Thread Cert.AssembleReferenceIdeal.nD Cert.AssembleReferenceIdeal.τ).loc Cert.AssembleReferenceIdeal.main_arg0) = m ((c.tc : Thread Cert.AssembleKernelIdeal.nD Cert.AssembleKernelIdeal.τ).loc Cert.AssembleKernelIdeal.main_arg0)
      ∧ m' ((c.tc : Thread Cert.AssembleReferenceIdeal.nD Cert.AssembleReferenceIdeal.τ).loc Cert.AssembleReferenceIdeal.main_arg1) = m ((c.tc : Thread Cert.AssembleKernelIdeal.nD Cert.AssembleKernelIdeal.τ).loc Cert.AssembleKernelIdeal.main_arg1)
      ∧ m' ((c.tc : Thread Cert.AssembleReferenceIdeal.nD Cert.AssembleReferenceIdeal.τ).loc Cert.AssembleReferenceIdeal.main_arg2) = m ((c.tc : Thread Cert.AssembleKernelIdeal.nD Cert.AssembleKernelIdeal.τ).loc Cert.AssembleKernelIdeal.main_arg2)
      ∧ m' ((c.tc : Thread Cert.AssembleReferenceIdeal.nD Cert.AssembleReferenceIdeal.τ).loc Cert.AssembleReferenceIdeal.main_arg3) = m ((c.tc : Thread Cert.AssembleKernelIdeal.nD Cert.AssembleKernelIdeal.τ).loc Cert.AssembleKernelIdeal.main_arg3)
      ∧ m' ((c.tc : Thread Cert.AssembleReferenceIdeal.nD Cert.AssembleReferenceIdeal.τ).loc Cert.AssembleReferenceIdeal.main_arg4) = m ((c.tc : Thread Cert.AssembleKernelIdeal.nD Cert.AssembleKernelIdeal.τ).loc Cert.AssembleKernelIdeal.main_arg4)
      ∧ m' ((c.tc : Thread Cert.AssembleReferenceIdeal.nD Cert.AssembleReferenceIdeal.τ).loc Cert.AssembleReferenceIdeal.main_arg5) = m ((c.tc : Thread Cert.AssembleKernelIdeal.nD Cert.AssembleKernelIdeal.τ).loc Cert.AssembleKernelIdeal.main_arg5)
      ∧ m' ((c.tc : Thread Cert.AssembleReferenceIdeal.nD Cert.AssembleReferenceIdeal.τ).loc Cert.AssembleReferenceIdeal.main_arg6) = m ((c.tc : Thread Cert.AssembleKernelIdeal.nD Cert.AssembleKernelIdeal.τ).loc Cert.AssembleKernelIdeal.main_arg6)
      ∧ m' ((c.tc : Thread Cert.AssembleReferenceIdeal.nD Cert.AssembleReferenceIdeal.τ).loc Cert.AssembleReferenceIdeal.main_arg7) = m ((c.tc : Thread Cert.AssembleKernelIdeal.nD Cert.AssembleKernelIdeal.τ).loc Cert.AssembleKernelIdeal.main_arg7)) →
    ∃ (v0 : (c : Dev Cert.AssembleKernelIdeal.nD) → Buf (Elt Ideal) ((c.tc : Thread Cert.AssembleKernelIdeal.nD Cert.AssembleKernelIdeal.τ).loc Cert.AssembleKernelIdeal.main_v0)),
      θ_run (Cert.AssembleKernelIdeal.defs (F := Ideal)) (onTc (τ := Cert.AssembleKernelIdeal.τ) (Cert.AssembleKernelIdeal.main (F := Ideal))) ⟨m, fun _ => 0, g⟩ (fun r => ∀ c : Dev Cert.AssembleKernelIdeal.nD,
          r.2.mem ((c.tc : Thread Cert.AssembleKernelIdeal.nD Cert.AssembleKernelIdeal.τ).loc Cert.AssembleKernelIdeal.main_v0) = v0 c
          ∧ r.2.mem ((c.tc : Thread Cert.AssembleKernelIdeal.nD Cert.AssembleKernelIdeal.τ).loc Cert.AssembleKernelIdeal.main_arg0) = m ((c.tc : Thread Cert.AssembleKernelIdeal.nD Cert.AssembleKernelIdeal.τ).loc Cert.AssembleKernelIdeal.main_arg0)
          ∧ r.2.mem ((c.tc : Thread Cert.AssembleKernelIdeal.nD Cert.AssembleKernelIdeal.τ).loc Cert.AssembleKernelIdeal.main_arg1) = m ((c.tc : Thread Cert.AssembleKernelIdeal.nD Cert.AssembleKernelIdeal.τ).loc Cert.AssembleKernelIdeal.main_arg1)
          ∧ r.2.mem ((c.tc : Thread Cert.AssembleKernelIdeal.nD Cert.AssembleKernelIdeal.τ).loc Cert.AssembleKernelIdeal.main_arg2) = m ((c.tc : Thread Cert.AssembleKernelIdeal.nD Cert.AssembleKernelIdeal.τ).loc Cert.AssembleKernelIdeal.main_arg2)
          ∧ r.2.mem ((c.tc : Thread Cert.AssembleKernelIdeal.nD Cert.AssembleKernelIdeal.τ).loc Cert.AssembleKernelIdeal.main_arg3) = m ((c.tc : Thread Cert.AssembleKernelIdeal.nD Cert.AssembleKernelIdeal.τ).loc Cert.AssembleKernelIdeal.main_arg3)
          ∧ r.2.mem ((c.tc : Thread Cert.AssembleKernelIdeal.nD Cert.AssembleKernelIdeal.τ).loc Cert.AssembleKernelIdeal.main_arg4) = m ((c.tc : Thread Cert.AssembleKernelIdeal.nD Cert.AssembleKernelIdeal.τ).loc Cert.AssembleKernelIdeal.main_arg4)
          ∧ r.2.mem ((c.tc : Thread Cert.AssembleKernelIdeal.nD Cert.AssembleKernelIdeal.τ).loc Cert.AssembleKernelIdeal.main_arg5) = m ((c.tc : Thread Cert.AssembleKernelIdeal.nD Cert.AssembleKernelIdeal.τ).loc Cert.AssembleKernelIdeal.main_arg5)
          ∧ r.2.mem ((c.tc : Thread Cert.AssembleKernelIdeal.nD Cert.AssembleKernelIdeal.τ).loc Cert.AssembleKernelIdeal.main_arg6) = m ((c.tc : Thread Cert.AssembleKernelIdeal.nD Cert.AssembleKernelIdeal.τ).loc Cert.AssembleKernelIdeal.main_arg6)
          ∧ r.2.mem ((c.tc : Thread Cert.AssembleKernelIdeal.nD Cert.AssembleKernelIdeal.τ).loc Cert.AssembleKernelIdeal.main_arg7) = m ((c.tc : Thread Cert.AssembleKernelIdeal.nD Cert.AssembleKernelIdeal.τ).loc Cert.AssembleKernelIdeal.main_arg7))
      ∧ θ_run (Cert.AssembleReferenceIdeal.defs (F := Ideal)) (onTc (τ := Cert.AssembleReferenceIdeal.τ) (Cert.AssembleReferenceIdeal.main (F := Ideal))) ⟨m', fun _ => 0, g'⟩ (fun r => ∀ c : Dev Cert.AssembleReferenceIdeal.nD,
          r.2.mem ((c.tc : Thread Cert.AssembleReferenceIdeal.nD Cert.AssembleReferenceIdeal.τ).loc Cert.AssembleReferenceIdeal.main_v7) = v0 c
          ∧ r.2.mem ((c.tc : Thread Cert.AssembleReferenceIdeal.nD Cert.AssembleReferenceIdeal.τ).loc Cert.AssembleReferenceIdeal.main_arg0) = m' ((c.tc : Thread Cert.AssembleReferenceIdeal.nD Cert.AssembleReferenceIdeal.τ).loc Cert.AssembleReferenceIdeal.main_arg0)
          ∧ r.2.mem ((c.tc : Thread Cert.AssembleReferenceIdeal.nD Cert.AssembleReferenceIdeal.τ).loc Cert.AssembleReferenceIdeal.main_arg1) = m' ((c.tc : Thread Cert.AssembleReferenceIdeal.nD Cert.AssembleReferenceIdeal.τ).loc Cert.AssembleReferenceIdeal.main_arg1)
          ∧ r.2.mem ((c.tc : Thread Cert.AssembleReferenceIdeal.nD Cert.AssembleReferenceIdeal.τ).loc Cert.AssembleReferenceIdeal.main_arg2) = m' ((c.tc : Thread Cert.AssembleReferenceIdeal.nD Cert.AssembleReferenceIdeal.τ).loc Cert.AssembleReferenceIdeal.main_arg2)
          ∧ r.2.mem ((c.tc : Thread Cert.AssembleReferenceIdeal.nD Cert.AssembleReferenceIdeal.τ).loc Cert.AssembleReferenceIdeal.main_arg3) = m' ((c.tc : Thread Cert.AssembleReferenceIdeal.nD Cert.AssembleReferenceIdeal.τ).loc Cert.AssembleReferenceIdeal.main_arg3)
          ∧ r.2.mem ((c.tc : Thread Cert.AssembleReferenceIdeal.nD Cert.AssembleReferenceIdeal.τ).loc Cert.AssembleReferenceIdeal.main_arg4) = m' ((c.tc : Thread Cert.AssembleReferenceIdeal.nD Cert.AssembleReferenceIdeal.τ).loc Cert.AssembleReferenceIdeal.main_arg4)
          ∧ r.2.mem ((c.tc : Thread Cert.AssembleReferenceIdeal.nD Cert.AssembleReferenceIdeal.τ).loc Cert.AssembleReferenceIdeal.main_arg5) = m' ((c.tc : Thread Cert.AssembleReferenceIdeal.nD Cert.AssembleReferenceIdeal.τ).loc Cert.AssembleReferenceIdeal.main_arg5)
          ∧ r.2.mem ((c.tc : Thread Cert.AssembleReferenceIdeal.nD Cert.AssembleReferenceIdeal.τ).loc Cert.AssembleReferenceIdeal.main_arg6) = m' ((c.tc : Thread Cert.AssembleReferenceIdeal.nD Cert.AssembleReferenceIdeal.τ).loc Cert.AssembleReferenceIdeal.main_arg6)
          ∧ r.2.mem ((c.tc : Thread Cert.AssembleReferenceIdeal.nD Cert.AssembleReferenceIdeal.τ).loc Cert.AssembleReferenceIdeal.main_arg7) = m' ((c.tc : Thread Cert.AssembleReferenceIdeal.nD Cert.AssembleReferenceIdeal.τ).loc Cert.AssembleReferenceIdeal.main_arg7))

def preserves_ExchangeKernel_ExchangeKernelIdeal : Prop :=
  True

def algebraic_ExchangeKernelIdeal_ExchangeReferenceIdeal [hExchangeKernelIdeal : Cert.ExchangeKernelIdeal.Facts] [hExchangeReferenceIdeal : Cert.ExchangeReferenceIdeal.Facts] : Prop :=
  ∀ (m : (ℓ : Loc Cert.ExchangeKernelIdeal.nD Cert.ExchangeKernelIdeal.τ Cert.ExchangeKernelIdeal.sig) → Buf (Elt Ideal) ℓ) (g : Dev Cert.ExchangeKernelIdeal.nD → PrngReg)
    (m' : (ℓ : Loc Cert.ExchangeReferenceIdeal.nD Cert.ExchangeReferenceIdeal.τ Cert.ExchangeReferenceIdeal.sig) → Buf (Elt Ideal) ℓ) (g' : Dev Cert.ExchangeReferenceIdeal.nD → PrngReg), Pre_ExchangeKernelIdeal m →
    (∀ c : Dev Cert.ExchangeKernelIdeal.nD,
      m ((c.tc : Thread Cert.ExchangeKernelIdeal.nD Cert.ExchangeKernelIdeal.τ).loc Cert.ExchangeKernelIdeal.main_arg0) = Layout.block ⟨4, ![1, 2, 512, 5120]⟩ ⟨4, ![8, 2, 512, 5120]⟩ 0 8 c (m' (((0 : Dev Cert.ExchangeReferenceIdeal.nD).tc : Thread Cert.ExchangeReferenceIdeal.nD Cert.ExchangeReferenceIdeal.τ).loc Cert.ExchangeReferenceIdeal.main_arg0))) →
    ∃ (v0 : Buf (Elt Ideal) (((0 : Dev Cert.ExchangeReferenceIdeal.nD).tc : Thread Cert.ExchangeReferenceIdeal.nD Cert.ExchangeReferenceIdeal.τ).loc Cert.ExchangeReferenceIdeal.main_v8)),
      θ_run (Cert.ExchangeKernelIdeal.defs (F := Ideal)) (onTc (τ := Cert.ExchangeKernelIdeal.τ) (Cert.ExchangeKernelIdeal.main (F := Ideal))) ⟨m, fun _ => 0, g⟩ (fun r => ∀ c : Dev Cert.ExchangeKernelIdeal.nD,
          r.2.mem ((c.tc : Thread Cert.ExchangeKernelIdeal.nD Cert.ExchangeKernelIdeal.τ).loc Cert.ExchangeKernelIdeal.main_v1) = Layout.block ⟨3, ![1, 512, 5120]⟩ ⟨3, ![8, 512, 5120]⟩ 0 8 c v0
          ∧ r.2.mem ((c.tc : Thread Cert.ExchangeKernelIdeal.nD Cert.ExchangeKernelIdeal.τ).loc Cert.ExchangeKernelIdeal.main_arg0) = m ((c.tc : Thread Cert.ExchangeKernelIdeal.nD Cert.ExchangeKernelIdeal.τ).loc Cert.ExchangeKernelIdeal.main_arg0))
      ∧ θ_run (Cert.ExchangeReferenceIdeal.defs (F := Ideal)) (onTc (τ := Cert.ExchangeReferenceIdeal.τ) (Cert.ExchangeReferenceIdeal.main (F := Ideal))) ⟨m', fun _ => 0, g'⟩ (fun r =>
          r.2.mem (((0 : Dev Cert.ExchangeReferenceIdeal.nD).tc : Thread Cert.ExchangeReferenceIdeal.nD Cert.ExchangeReferenceIdeal.τ).loc Cert.ExchangeReferenceIdeal.main_v8) = v0
          ∧ r.2.mem (((0 : Dev Cert.ExchangeReferenceIdeal.nD).tc : Thread Cert.ExchangeReferenceIdeal.nD Cert.ExchangeReferenceIdeal.τ).loc Cert.ExchangeReferenceIdeal.main_arg0) = m' (((0 : Dev Cert.ExchangeReferenceIdeal.nD).tc : Thread Cert.ExchangeReferenceIdeal.nD Cert.ExchangeReferenceIdeal.τ).loc Cert.ExchangeReferenceIdeal.main_arg0))

def Claim : Prop :=
  ∃ (hGainKernel : Cert.GainKernel.Facts) (hGainKernelIdeal : Cert.GainKernelIdeal.Facts) (hGainReferenceIdeal : Cert.GainReferenceIdeal.Facts) (hSwigluKernel : Cert.SwigluKernel.Facts) (hSwigluKernelIdeal : Cert.SwigluKernelIdeal.Facts) (hSwigluReferenceIdeal : Cert.SwigluReferenceIdeal.Facts) (hGatesKernel : Cert.GatesKernel.Facts) (hGatesKernelIdeal : Cert.GatesKernelIdeal.Facts) (hGatesReferenceIdeal : Cert.GatesReferenceIdeal.Facts) (hConvKernel : Cert.ConvKernel.Facts) (hConvKernelIdeal : Cert.ConvKernelIdeal.Facts) (hConvReferenceIdeal : Cert.ConvReferenceIdeal.Facts) (hMemKernel : Cert.MemKernel.Facts) (hMemKernelIdeal : Cert.MemKernelIdeal.Facts) (hMemReferenceIdeal : Cert.MemReferenceIdeal.Facts) (hNormQKernel : Cert.NormQKernel.Facts) (hNormQKernelIdeal : Cert.NormQKernelIdeal.Facts) (hNormQReferenceIdeal : Cert.NormQReferenceIdeal.Facts) (hNormFKernel : Cert.NormFKernel.Facts) (hNormFKernelIdeal : Cert.NormFKernelIdeal.Facts) (hNormFReferenceIdeal : Cert.NormFReferenceIdeal.Facts) (hNormHKernel : Cert.NormHKernel.Facts) (hNormHKernelIdeal : Cert.NormHKernelIdeal.Facts) (hNormHReferenceIdeal : Cert.NormHReferenceIdeal.Facts) (hLossKernel : Cert.LossKernel.Facts) (hLossKernelIdeal : Cert.LossKernelIdeal.Facts) (hLossReferenceIdeal : Cert.LossReferenceIdeal.Facts) (hStickBKernel : Cert.StickBKernel.Facts) (hStickBKernelIdeal : Cert.StickBKernelIdeal.Facts) (hStickBReferenceIdeal : Cert.StickBReferenceIdeal.Facts) (hMemFwdKernel : Cert.MemFwdKernel.Facts) (hMemFwdKernelIdeal : Cert.MemFwdKernelIdeal.Facts) (hMemFwdReferenceIdeal : Cert.MemFwdReferenceIdeal.Facts) (hStickFKernel : Cert.StickFKernel.Facts) (hStickFKernelIdeal : Cert.StickFKernelIdeal.Facts) (hStickFReferenceIdeal : Cert.StickFReferenceIdeal.Facts) (hConvFwdKernel : Cert.ConvFwdKernel.Facts) (hConvFwdKernelIdeal : Cert.ConvFwdKernelIdeal.Facts) (hConvFwdReferenceIdeal : Cert.ConvFwdReferenceIdeal.Facts) (hMergeKernel : Cert.MergeKernel.Facts) (hMergeKernelIdeal : Cert.MergeKernelIdeal.Facts) (hMergeReferenceIdeal : Cert.MergeReferenceIdeal.Facts) (hNormMulKernel : Cert.NormMulKernel.Facts) (hNormMulKernelIdeal : Cert.NormMulKernelIdeal.Facts) (hNormMulReferenceIdeal : Cert.NormMulReferenceIdeal.Facts) (hFfnInKernel : Cert.FfnInKernel.Facts) (hFfnInKernelIdeal : Cert.FfnInKernelIdeal.Facts) (hFfnInReferenceIdeal : Cert.FfnInReferenceIdeal.Facts) (hMatMulKernel : Cert.MatMulKernel.Facts) (hMatMulKernelIdeal : Cert.MatMulKernelIdeal.Facts) (hMatMulReferenceIdeal : Cert.MatMulReferenceIdeal.Facts) (hAdamWKernel : Cert.AdamWKernel.Facts) (hAdamWKernelIdeal : Cert.AdamWKernelIdeal.Facts) (hAdamWReferenceIdeal : Cert.AdamWReferenceIdeal.Facts) (hAssembleKernel : Cert.AssembleKernel.Facts) (hAssembleKernelIdeal : Cert.AssembleKernelIdeal.Facts) (hAssembleReferenceIdeal : Cert.AssembleReferenceIdeal.Facts) (hExchangeKernel : Cert.ExchangeKernel.Facts) (hExchangeKernelIdeal : Cert.ExchangeKernelIdeal.Facts) (hExchangeReferenceIdeal : Cert.ExchangeReferenceIdeal.Facts) (hPre_finite_swi : Cert.Pre_finite_swi.Facts) (hPre_finite_mem : Cert.Pre_finite_mem.Facts) (hPre_finite_nq : Cert.Pre_finite_nq.Facts) (hPre_finite_nf : Cert.Pre_finite_nf.Facts) (hPre_finite_nh : Cert.Pre_finite_nh.Facts) (hPre_finite_loss : Cert.Pre_finite_loss.Facts) (hPre_finite_sb : Cert.Pre_finite_sb.Facts) (hPre_finite_sbf : Cert.Pre_finite_sbf.Facts),
    quiescent_GainKernel (hGainKernel := hGainKernel)
    ∧ quiescent_GainKernelIdeal (hGainKernelIdeal := hGainKernelIdeal)
    ∧ quiescent_GainReferenceIdeal (hGainReferenceIdeal := hGainReferenceIdeal)
    ∧ quiescent_SwigluKernel (hSwigluKernel := hSwigluKernel)
    ∧ quiescent_SwigluKernelIdeal (hSwigluKernelIdeal := hSwigluKernelIdeal)
    ∧ quiescent_SwigluKernelIdeal_pre_finite_swi (hSwigluKernelIdeal := hSwigluKernelIdeal) (hPre_finite_swi := hPre_finite_swi)
    ∧ quiescent_SwigluReferenceIdeal (hSwigluReferenceIdeal := hSwigluReferenceIdeal)
    ∧ quiescent_SwigluReferenceIdeal_pre_finite_swi (hSwigluReferenceIdeal := hSwigluReferenceIdeal) (hPre_finite_swi := hPre_finite_swi)
    ∧ quiescent_GatesKernel (hGatesKernel := hGatesKernel)
    ∧ quiescent_GatesKernelIdeal (hGatesKernelIdeal := hGatesKernelIdeal)
    ∧ quiescent_GatesReferenceIdeal (hGatesReferenceIdeal := hGatesReferenceIdeal)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_MemKernel (hMemKernel := hMemKernel)
    ∧ quiescent_MemKernelIdeal (hMemKernelIdeal := hMemKernelIdeal)
    ∧ quiescent_MemKernelIdeal_pre_finite_mem (hMemKernelIdeal := hMemKernelIdeal) (hPre_finite_mem := hPre_finite_mem)
    ∧ quiescent_MemReferenceIdeal (hMemReferenceIdeal := hMemReferenceIdeal)
    ∧ quiescent_MemReferenceIdeal_pre_finite_mem (hMemReferenceIdeal := hMemReferenceIdeal) (hPre_finite_mem := hPre_finite_mem)
    ∧ quiescent_NormQKernel (hNormQKernel := hNormQKernel)
    ∧ quiescent_NormQKernelIdeal (hNormQKernelIdeal := hNormQKernelIdeal)
    ∧ quiescent_NormQKernelIdeal_pre_finite_nq (hNormQKernelIdeal := hNormQKernelIdeal) (hPre_finite_nq := hPre_finite_nq)
    ∧ quiescent_NormQReferenceIdeal (hNormQReferenceIdeal := hNormQReferenceIdeal)
    ∧ quiescent_NormQReferenceIdeal_pre_finite_nq (hNormQReferenceIdeal := hNormQReferenceIdeal) (hPre_finite_nq := hPre_finite_nq)
    ∧ quiescent_NormFKernel (hNormFKernel := hNormFKernel)
    ∧ quiescent_NormFKernelIdeal (hNormFKernelIdeal := hNormFKernelIdeal)
    ∧ quiescent_NormFKernelIdeal_pre_finite_nf (hNormFKernelIdeal := hNormFKernelIdeal) (hPre_finite_nf := hPre_finite_nf)
    ∧ quiescent_NormFReferenceIdeal (hNormFReferenceIdeal := hNormFReferenceIdeal)
    ∧ quiescent_NormFReferenceIdeal_pre_finite_nf (hNormFReferenceIdeal := hNormFReferenceIdeal) (hPre_finite_nf := hPre_finite_nf)
    ∧ quiescent_NormHKernel (hNormHKernel := hNormHKernel)
    ∧ quiescent_NormHKernelIdeal (hNormHKernelIdeal := hNormHKernelIdeal)
    ∧ quiescent_NormHKernelIdeal_pre_finite_nh (hNormHKernelIdeal := hNormHKernelIdeal) (hPre_finite_nh := hPre_finite_nh)
    ∧ quiescent_NormHReferenceIdeal (hNormHReferenceIdeal := hNormHReferenceIdeal)
    ∧ quiescent_NormHReferenceIdeal_pre_finite_nh (hNormHReferenceIdeal := hNormHReferenceIdeal) (hPre_finite_nh := hPre_finite_nh)
    ∧ quiescent_LossKernel (hLossKernel := hLossKernel)
    ∧ quiescent_LossKernelIdeal (hLossKernelIdeal := hLossKernelIdeal)
    ∧ quiescent_LossKernelIdeal_pre_finite_loss (hLossKernelIdeal := hLossKernelIdeal) (hPre_finite_loss := hPre_finite_loss)
    ∧ quiescent_LossReferenceIdeal (hLossReferenceIdeal := hLossReferenceIdeal)
    ∧ quiescent_LossReferenceIdeal_pre_finite_loss (hLossReferenceIdeal := hLossReferenceIdeal) (hPre_finite_loss := hPre_finite_loss)
    ∧ quiescent_StickBKernel (hStickBKernel := hStickBKernel)
    ∧ quiescent_StickBKernelIdeal (hStickBKernelIdeal := hStickBKernelIdeal)
    ∧ quiescent_StickBKernelIdeal_pre_finite_sb (hStickBKernelIdeal := hStickBKernelIdeal) (hPre_finite_sb := hPre_finite_sb)
    ∧ quiescent_StickBReferenceIdeal (hStickBReferenceIdeal := hStickBReferenceIdeal)
    ∧ quiescent_StickBReferenceIdeal_pre_finite_sb (hStickBReferenceIdeal := hStickBReferenceIdeal) (hPre_finite_sb := hPre_finite_sb)
    ∧ quiescent_MemFwdKernel (hMemFwdKernel := hMemFwdKernel)
    ∧ quiescent_MemFwdKernelIdeal (hMemFwdKernelIdeal := hMemFwdKernelIdeal)
    ∧ quiescent_MemFwdReferenceIdeal (hMemFwdReferenceIdeal := hMemFwdReferenceIdeal)
    ∧ quiescent_StickFKernel (hStickFKernel := hStickFKernel)
    ∧ quiescent_StickFKernelIdeal (hStickFKernelIdeal := hStickFKernelIdeal)
    ∧ quiescent_StickFKernelIdeal_pre_finite_sbf (hStickFKernelIdeal := hStickFKernelIdeal) (hPre_finite_sbf := hPre_finite_sbf)
    ∧ quiescent_StickFReferenceIdeal (hStickFReferenceIdeal := hStickFReferenceIdeal)
    ∧ quiescent_StickFReferenceIdeal_pre_finite_sbf (hStickFReferenceIdeal := hStickFReferenceIdeal) (hPre_finite_sbf := hPre_finite_sbf)
    ∧ quiescent_ConvFwdKernel (hConvFwdKernel := hConvFwdKernel)
    ∧ quiescent_ConvFwdKernelIdeal (hConvFwdKernelIdeal := hConvFwdKernelIdeal)
    ∧ quiescent_ConvFwdReferenceIdeal (hConvFwdReferenceIdeal := hConvFwdReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_NormMulKernel (hNormMulKernel := hNormMulKernel)
    ∧ quiescent_NormMulKernelIdeal (hNormMulKernelIdeal := hNormMulKernelIdeal)
    ∧ quiescent_NormMulReferenceIdeal (hNormMulReferenceIdeal := hNormMulReferenceIdeal)
    ∧ quiescent_FfnInKernel (hFfnInKernel := hFfnInKernel)
    ∧ quiescent_FfnInKernelIdeal (hFfnInKernelIdeal := hFfnInKernelIdeal)
    ∧ quiescent_FfnInReferenceIdeal (hFfnInReferenceIdeal := hFfnInReferenceIdeal)
    ∧ quiescent_MatMulKernel (hMatMulKernel := hMatMulKernel)
    ∧ quiescent_MatMulKernelIdeal (hMatMulKernelIdeal := hMatMulKernelIdeal)
    ∧ quiescent_MatMulReferenceIdeal (hMatMulReferenceIdeal := hMatMulReferenceIdeal)
    ∧ quiescent_AdamWKernel (hAdamWKernel := hAdamWKernel)
    ∧ quiescent_AdamWKernelIdeal (hAdamWKernelIdeal := hAdamWKernelIdeal)
    ∧ quiescent_AdamWReferenceIdeal (hAdamWReferenceIdeal := hAdamWReferenceIdeal)
    ∧ quiescent_AssembleKernel (hAssembleKernel := hAssembleKernel)
    ∧ quiescent_AssembleKernelIdeal (hAssembleKernelIdeal := hAssembleKernelIdeal)
    ∧ quiescent_AssembleReferenceIdeal (hAssembleReferenceIdeal := hAssembleReferenceIdeal)
    ∧ quiescent_ExchangeKernel (hExchangeKernel := hExchangeKernel)
    ∧ quiescent_ExchangeKernelIdeal (hExchangeKernelIdeal := hExchangeKernelIdeal)
    ∧ quiescent_ExchangeReferenceIdeal (hExchangeReferenceIdeal := hExchangeReferenceIdeal)
    ∧ preserves_GainKernel_GainKernelIdeal
    ∧ algebraic_GainKernelIdeal_GainReferenceIdeal (hGainKernelIdeal := hGainKernelIdeal) (hGainReferenceIdeal := hGainReferenceIdeal)
    ∧ preserves_SwigluKernel_SwigluKernelIdeal
    ∧ algebraic_SwigluKernelIdeal_SwigluReferenceIdeal_pre_finite_swi (hSwigluKernelIdeal := hSwigluKernelIdeal) (hSwigluReferenceIdeal := hSwigluReferenceIdeal) (hPre_finite_swi := hPre_finite_swi)
    ∧ preserves_GatesKernel_GatesKernelIdeal
    ∧ algebraic_GatesKernelIdeal_GatesReferenceIdeal (hGatesKernelIdeal := hGatesKernelIdeal) (hGatesReferenceIdeal := hGatesReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_MemKernel_MemKernelIdeal
    ∧ algebraic_MemKernelIdeal_MemReferenceIdeal_pre_finite_mem (hMemKernelIdeal := hMemKernelIdeal) (hMemReferenceIdeal := hMemReferenceIdeal) (hPre_finite_mem := hPre_finite_mem)
    ∧ preserves_NormQKernel_NormQKernelIdeal
    ∧ algebraic_NormQKernelIdeal_NormQReferenceIdeal_pre_finite_nq (hNormQKernelIdeal := hNormQKernelIdeal) (hNormQReferenceIdeal := hNormQReferenceIdeal) (hPre_finite_nq := hPre_finite_nq)
    ∧ preserves_NormFKernel_NormFKernelIdeal
    ∧ algebraic_NormFKernelIdeal_NormFReferenceIdeal_pre_finite_nf (hNormFKernelIdeal := hNormFKernelIdeal) (hNormFReferenceIdeal := hNormFReferenceIdeal) (hPre_finite_nf := hPre_finite_nf)
    ∧ preserves_NormHKernel_NormHKernelIdeal
    ∧ algebraic_NormHKernelIdeal_NormHReferenceIdeal_pre_finite_nh (hNormHKernelIdeal := hNormHKernelIdeal) (hNormHReferenceIdeal := hNormHReferenceIdeal) (hPre_finite_nh := hPre_finite_nh)
    ∧ preserves_LossKernel_LossKernelIdeal
    ∧ algebraic_LossKernelIdeal_LossReferenceIdeal_pre_finite_loss (hLossKernelIdeal := hLossKernelIdeal) (hLossReferenceIdeal := hLossReferenceIdeal) (hPre_finite_loss := hPre_finite_loss)
    ∧ preserves_StickBKernel_StickBKernelIdeal
    ∧ algebraic_StickBKernelIdeal_StickBReferenceIdeal_pre_finite_sb (hStickBKernelIdeal := hStickBKernelIdeal) (hStickBReferenceIdeal := hStickBReferenceIdeal) (hPre_finite_sb := hPre_finite_sb)
    ∧ preserves_MemFwdKernel_MemFwdKernelIdeal
    ∧ algebraic_MemFwdKernelIdeal_MemFwdReferenceIdeal (hMemFwdKernelIdeal := hMemFwdKernelIdeal) (hMemFwdReferenceIdeal := hMemFwdReferenceIdeal)
    ∧ preserves_StickFKernel_StickFKernelIdeal
    ∧ algebraic_StickFKernelIdeal_StickFReferenceIdeal_pre_finite_sbf (hStickFKernelIdeal := hStickFKernelIdeal) (hStickFReferenceIdeal := hStickFReferenceIdeal) (hPre_finite_sbf := hPre_finite_sbf)
    ∧ preserves_ConvFwdKernel_ConvFwdKernelIdeal
    ∧ algebraic_ConvFwdKernelIdeal_ConvFwdReferenceIdeal (hConvFwdKernelIdeal := hConvFwdKernelIdeal) (hConvFwdReferenceIdeal := hConvFwdReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_NormMulKernel_NormMulKernelIdeal
    ∧ algebraic_NormMulKernelIdeal_NormMulReferenceIdeal (hNormMulKernelIdeal := hNormMulKernelIdeal) (hNormMulReferenceIdeal := hNormMulReferenceIdeal)
    ∧ preserves_FfnInKernel_FfnInKernelIdeal
    ∧ algebraic_FfnInKernelIdeal_FfnInReferenceIdeal (hFfnInKernelIdeal := hFfnInKernelIdeal) (hFfnInReferenceIdeal := hFfnInReferenceIdeal)
    ∧ preserves_MatMulKernel_MatMulKernelIdeal
    ∧ algebraic_MatMulKernelIdeal_MatMulReferenceIdeal (hMatMulKernelIdeal := hMatMulKernelIdeal) (hMatMulReferenceIdeal := hMatMulReferenceIdeal)
    ∧ preserves_AdamWKernel_AdamWKernelIdeal
    ∧ algebraic_AdamWKernelIdeal_AdamWReferenceIdeal (hAdamWKernelIdeal := hAdamWKernelIdeal) (hAdamWReferenceIdeal := hAdamWReferenceIdeal)
    ∧ preserves_AssembleKernel_AssembleKernelIdeal
    ∧ algebraic_AssembleKernelIdeal_AssembleReferenceIdeal (hAssembleKernelIdeal := hAssembleKernelIdeal) (hAssembleReferenceIdeal := hAssembleReferenceIdeal)
    ∧ preserves_ExchangeKernel_ExchangeKernelIdeal
    ∧ algebraic_ExchangeKernelIdeal_ExchangeReferenceIdeal (hExchangeKernelIdeal := hExchangeKernelIdeal) (hExchangeReferenceIdeal := hExchangeReferenceIdeal)
-- ==== Pre_finite_loss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  main_v25

def fn {F : FTy → Type} [FloatOps F] (main_arg0 : FVec F S4096x2816 .bf16) (main_arg1 : FVec F S2816x1024 .bf16) (main_arg2 : FVec F S4096x1024 .f32) (main_arg3 : FVec F S1x1024 .f32) (main_arg4 : FVec F S4096x1024 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_arg4 main_v15 main_v16 main_cst_4
-- ==== Pre_finite_mem.lean ====
abbrev S4096x1024 : Shape := ⟨2, ![4096, 1024]⟩
abbrev S256x2048 : Shape := ⟨2, ![256, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S4096x1024 .bf16) (main_arg1 : FVec F S256x2048 .bf16) (main_arg2 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S256x2048 .f32 := (extf .f32 · bitsLt_bf16_f32) main_arg1
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  main_v16
-- ==== Pre_finite_nf.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S4096x5632 .bf16) (main_arg1 : FVec F S1024x5632 .bf16) (main_arg2 : FVec F S4096x1024 .f32) (main_arg3 : FVec F S1x1024 .f32) (main_arg4 : FVec F S4096x1024 .f32) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S1024x5632 .f32 := (extf .f32 · bitsLt_bf16_f32) main_arg1
  let main_v6 : FVec F S1024x5632 .f32 := Host.absf main_v5
  let main_cst_0 : FVec F S_ .f32 := constant S_ .f32 0x7F800000#32
  let main_v7 : FVec F S1024x5632 .f32 := broadcastInDim S1024x5632 ![] bcast_S_S1024x5632 main_cst_0
  let main_v8 : IVec S1024x5632 1 := cmpf .olt main_v6 main_v7
  let main_c_1 : IVec S_ 1 := constantI S_ 1 1#1
  let main_v9 : IVec S_ 1 := (fun x v => Host.reduce IntOp.andi x v reducesTo_S1024x5632_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Pre_finite_nh.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x5120 : S_.BroadcastsInDim S4096x5120 (![] : Fin 0 → Fin S4096x5120.rank)
  reducesTo_S4096x5120_S_d0_1 : S4096x5120.ReducesTo [0, 1] S_
  h_S_ : 0 < S_.numel
  bcast_S_S1024x5120 : S_.BroadcastsInDim S1024x5120 (![] : Fin 0 → Fin S1024x5120.rank)
  reducesTo_S1024x5120_S_d0_1 : S1024x5120.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S4096x5120 .bf16) (main_arg1 : FVec F S1024x5120 .bf16) (main_arg2 : FVec F S4096x1024 .f32) (main_arg3 : FVec F S1x1024 .f32) (main_arg4 : FVec F S4096x1024 .f32) : IVec S_ 1 :=
  let main_v0 : FVec F S4096x5120 .f32 := (extf .f32 · bitsLt_bf16_f32) main_arg0
  let main_v1 : FVec F S4096x5120 .f32 := Host.absf main_v0
  let main_cst : FVec F S_ .f32 := constant S_ .f32 0x7F800000#32
  let main_v2 : FVec F S4096x5120 .f32 := broadcastInDim S4096x5120 ![] bcast_S_S4096x5120 main_cst
  let main_v3 : IVec S4096x5120 1 := cmpf .olt main_v1 main_v2
  let main_c : IVec S_ 1 := constantI S_ 1 1#1
  let main_v4 : IVec S_ 1 := (fun x v => Host.reduce IntOp.andi x v reducesTo_S4096x5120_S_d0_1 h_S_) main_v3 main_c
  let main_v5 : FVec F S1024x5120 .f32 := (extf .f32 · bitsLt_bf16_f32) main_arg1
  let main_v6 : FVec F S1024x5120 .f32 := Host.absf main_v5
  let main_cst_0 : FVec F S_ .f32 := constant S_ .f32 0x7F800000#32
  let main_v7 : FVec F S1024x5120 .f32 := broadcastInDim S1024x5120 ![] bcast_S_S1024x5120 main_cst_0
  let main_v8 : IVec S1024x5120 1 := cmpf .olt main_v6 main_v7
  let main_c_1 : IVec S_ 1 := constantI S_ 1 1#1
  let main_v9 : IVec S_ 1 := (fun x v => Host.reduce IntOp.andi x v reducesTo_S1024x5120_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Pre_finite_nq.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S4096x1024 .bf16) (main_arg1 : FVec F S1024x1024 .bf16) (main_arg2 : FVec F S4096x1024 .f32) (main_arg3 : FVec F S1x1024 .f32) (main_arg4 : FVec F S4096x1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Pre_finite_sb.lean ====
abbrev S4096x5120 : Shape := ⟨2, ![4096, 5120]⟩
abbrev S4096x512 : Shape := ⟨2, ![4096, 512]⟩
abbrev S_ : Shape := ⟨0, ![]⟩

class Facts : Prop where
  bitsLt_bf16_f32 : FTy.bits .bf16 < FTy.bits .f32
  bcast_S_S4096x5120 : S_.BroadcastsInDim S4096x5120 (![] : Fin 0 → Fin S4096x5120.rank)
  reducesTo_S4096x5120_S_d0_1 : S4096x5120.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x5120 .bf16) (main_arg1 : FVec F S4096x512 .bf16) : IVec S_ 1 :=
  let main_v0 : FVec F S4096x5120 .f32 := (extf .f32 · bitsLt_bf16_f32) main_arg0
  let main_v1 : FVec F S4096x5120 .f32 := Host.absf main_v0
  let main_cst : FVec F S_ .f32 := constant S_ .f32 0x7F800000#32
  let main_v2 : FVec F S4096x5120 .f32 := broadcastInDim S4096x5120 ![] bcast_S_S4096x5120 main_cst
  let main_v3 : IVec S4096x5120 1 := cmpf .olt main_v1 main_v2
  let main_c : IVec S_ 1 := constantI S_ 1 1#1
  let main_v4 : IVec S_ 1 := (fun x v => Host.reduce IntOp.andi x v reducesTo_S4096x5120_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v4 main_v9
  main_v10
-- ==== Pre_finite_sbf.lean ====
abbrev S4096x5120 : Shape := ⟨2, ![4096, 5120]⟩
abbrev S_ : Shape := ⟨0, ![]⟩

class Facts : Prop where
  bitsLt_bf16_f32 : FTy.bits .bf16 < FTy.bits .f32
  bcast_S_S4096x5120 : S_.BroadcastsInDim S4096x5120 (![] : Fin 0 → Fin S4096x5120.rank)
  reducesTo_S4096x5120_S_d0_1 : S4096x5120.ReducesTo [0, 1] S_
  h_S_ : 0 < S_.numel

variable [Facts]

def fn {F : FTy → Type} [FloatOps F] (main_arg0 : FVec F S4096x5120 .bf16) : IVec S_ 1 :=
  let main_v0 : FVec F S4096x5120 .f32 := (extf .f32 · bitsLt_bf16_f32) main_arg0
  let main_v1 : FVec F S4096x5120 .f32 := Host.absf main_v0
  let main_cst : FVec F S_ .f32 := constant S_ .f32 0x7F800000#32
  let main_v2 : FVec F S4096x5120 .f32 := broadcastInDim S4096x5120 ![] bcast_S_S4096x5120 main_cst
  let main_v3 : IVec S4096x5120 1 := cmpf .olt main_v1 main_v2
  let main_c : IVec S_ 1 := constantI S_ 1 1#1
  let main_v4 : IVec S_ 1 := (fun x v => Host.reduce IntOp.andi x v reducesTo_S4096x5120_S_d0_1 h_S_) main_v3 main_c
  main_v4
-- ==== Pre_finite_swi.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .bf16) (main_arg1 : FVec F S2816x1024 .bf16) (main_arg2 : FVec F S4096x2816 .bf16) (main_arg3 : FVec F S4096x2816 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4096x2816 .f32 := (extf .f32 · bitsLt_bf16_f32) main_arg3
  let main_v12 : FVec F S4096x2816 .f32 := Host.absf main_v11
  let main_cst_2 : FVec F S_ .f32 := constant S_ .f32 0x7F800000#32
  let main_v13 : FVec F S4096x2816 .f32 := broadcastInDim S4096x2816 ![] bcast_S_S4096x2816 main_cst_2
  let main_v14 : IVec S4096x2816 1 := cmpf .olt main_v12 main_v13
  let main_c_3 : IVec S_ 1 := constantI S_ 1 1#1
  let main_v15 : IVec S_ 1 := (fun x v => Host.reduce IntOp.andi x v reducesTo_S4096x2816_S_d0_1 h_S_) main_v14 main_c_3
  let main_v16 : IVec S_ 1 := andi main_v10 main_v15
  main_v16
-- ==== GainKernel.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32 : BitVec 32 := 0#32
  let v15 : BitVec 1 := Scalar.cmpi .eq arg0 c0_i32
  let v_true : BitVec 1 := 1#1
  let v18 : BitVec 1 := Scalar.xori v15 v_true
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GainReferenceIdeal.lean ====
abbrev S256x1024 : Shape := ⟨2, ![256, 1024]⟩
abbrev S_ : Shape := ⟨0, ![]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 23
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S_, .f32⟩
  | .hbm, ⟨3, _⟩ => ⟨S1x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== SwigluKernel.lean ====
abbrev S4096x1024 : Shape := ⟨2, ![4096, 1024]⟩
abbrev S2816x1024 : Shape := ⟨2, ![2816, 1024]⟩
abbrev S4096x2816 : Shape := ⟨2, ![4096, 2816]⟩
abbrev S4096x5632 : Shape := ⟨2, ![4096, 5632]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x5632, .bf16⟩
  | .local _ .vmem, ⟨8, _⟩ => ⟨S256x5632, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwigluReferenceIdeal.lean ====
abbrev S4096x1024 : Shape := ⟨2, ![4096, 1024]⟩
abbrev S2816x1024 : Shape := ⟨2, ![2816, 1024]⟩
abbrev S4096x2816 : Shape := ⟨2, ![4096, 2816]⟩
abbrev S4096x5632 : Shape := ⟨2, ![4096, 5632]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x5632, .bf16⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x5632, .f32⟩
  | .hbm, ⟨33, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== GatesKernel.lean ====
abbrev S4096x1024 : Shape := ⟨2, ![4096, 1024]⟩
abbrev S1024x1024 : Shape := ⟨2, ![1024, 1024]⟩
abbrev S4096x5120 : Shape := ⟨2, ![4096, 5120]⟩
abbrev S512x1024 : Shape := ⟨2, ![512, 1024]⟩

abbrev nBuf : Space → Nat
  | .hbm => 9
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x5120, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GatesReferenceIdeal.lean ====
abbrev S4096x1024 : Shape := ⟨2, ![4096, 1024]⟩
abbrev S1024x1024 : Shape := ⟨2, ![1024, 1024]⟩
abbrev S4096x5120 : Shape := ⟨2, ![4096, 5120]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x5120, .bf16⟩
  | .hbm, ⟨3, _⟩ => ⟨S4096x1024, .bf16⟩
  | .hbm, ⟨4, _⟩ => ⟨S4096x1024, .bf16⟩
  | .hbm, ⟨5, _⟩ => ⟨S4096x5120, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | .hbm, ⟨48, _⟩ => ⟨S4096x1024, .bf16⟩
  | .hbm, ⟨49, _⟩ => ⟨S4096x1024, .bf16⟩
  | .hbm, ⟨50, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== ConvKernel.lean ====
abbrev S4096x5120 : Shape := ⟨2, ![4096, 5120]⟩
abbrev S3x512 : Shape := ⟨2, ![3, 512]⟩
abbrev S4096x512 : Shape := ⟨2, ![4096, 512]⟩
abbrev S_ : Shape := ⟨0, ![]⟩
abbrev S8x512 : Shape := ⟨2, ![8, 512]⟩
abbrev S4096x128 : Shape := ⟨2, ![4096, 128]⟩
abbrev S8x128 : Shape := ⟨2, ![8, 128]⟩
abbrev S1x128 : Shape := ⟨2, ![1, 128]⟩
abbrev S128 : Shape := ⟨1, ![128]⟩

abbrev nBuf : Space → Nat
  | .hbm => 10
  | .vmem => 18
  | .smem => 0
  | _ => 0

abbrev bufTy : (tb : Table) → Fin (tcTables nBuf tb) → BufTy
  | .hbm, ⟨0, _⟩ => ⟨S4096x5120, .bf16⟩
  | .hbm, ⟨1, _⟩ => ⟨S3x512, .f32⟩
  | .hbm, ⟨2, _⟩ => ⟨S4096x512, .bf16⟩
  | .hbm, ⟨3, _⟩ => ⟨S_, .i32⟩
  | .hbm, ⟨4, _⟩ => ⟨S_, .f32⟩
  | .hbm, ⟨5, _⟩ => ⟨S8x512, .f32⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S8x512, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S8x128, .f32⟩
  | .local _ .vmem, ⟨7, _⟩ => ⟨S8x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S8x128, .f32⟩
  | .local _ .vmem, ⟨17, _⟩ => ⟨S8x128, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvReferenceIdeal.lean ====
abbrev S4096x5120 : Shape := ⟨2, ![4096, 5120]⟩
abbrev S3x512 : Shape := ⟨2, ![3, 512]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩
abbrev S8x512 : Shape := ⟨2, ![8, 512]⟩

abbrev nBuf : Space → Nat
  | .hbm => 90
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S3x512, .f32⟩
  | .hbm, ⟨2, _⟩ => ⟨S4096x512, .bf16⟩
  | .hbm, ⟨3, _⟩ => ⟨S4096x5120, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S2x512, .f32⟩
  | .hbm, ⟨10, _⟩ => ⟨S4098x512, .f32⟩
  | .hbm, ⟨11, _⟩ => ⟨S_, .f32⟩
  | .hbm, ⟨12, _⟩ => ⟨S2x512, .f32⟩
  | .hbm, ⟨13, _⟩ => ⟨S1x512, .f32⟩
  | .hbm, ⟨14, _⟩ => ⟨S512, .f32⟩
  | .hbm, ⟨15, _⟩ => ⟨S4096x512, .f32⟩
  | .hbm, ⟨16, _⟩ => ⟨S1x512, .f32⟩
  | .hbm, ⟨17, _⟩ => ⟨S4096x512, .f32⟩
  | .hbm, ⟨18, _⟩ => ⟨S4096x512, .f32⟩
  | .hbm, ⟨19, _⟩ => ⟨S1x512, .f32⟩
  | .hbm, ⟨20, _⟩ => ⟨S512, .f32⟩
  | .hbm, ⟨21, _⟩ => ⟨S4096x512, .f32⟩
  | .hbm, ⟨22, _⟩ => ⟨S1x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S1x512, .f32⟩
  | .hbm, ⟨27, _⟩ => ⟨S512, .f32⟩
  | .hbm, ⟨28, _⟩ => ⟨S4096x512, .f32⟩
  | .hbm, ⟨29, _⟩ => ⟨S1x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S512, .f32⟩
  | .hbm, ⟨42, _⟩ => ⟨S1x512, .f32⟩
  | .hbm, ⟨43, _⟩ => ⟨S_, .f32⟩
  | .hbm, ⟨44, _⟩ => ⟨S512, .f32⟩
  | .hbm, ⟨45, _⟩ => ⟨S_, .f32⟩
  | .hbm, ⟨46, _⟩ => ⟨S4098x512, .f32⟩
  | .hbm, ⟨47, _⟩ => ⟨S1x512, .f32⟩
  | .hbm, ⟨48, _⟩ => ⟨S_, .f32⟩
  | .hbm, ⟨49, _⟩ => ⟨S3x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S_, .f32⟩
  | .hbm, ⟨57, _⟩ => ⟨S512, .f32⟩
  | .hbm, ⟨58, _⟩ => ⟨S_, .f32⟩
  | .hbm, ⟨59, _⟩ => ⟨S4098x512, .f32⟩
  | .hbm, ⟨60, _⟩ => ⟨S4098x512, .f32⟩
  | .hbm, ⟨61, _⟩ => ⟨S1x512, .f32⟩
  | .hbm, ⟨62, _⟩ => ⟨S_, .f32⟩
  | .hbm, ⟨63, _⟩ => ⟨S3x512, .f32⟩
  | .hbm, ⟨64, _⟩ => ⟨S3x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S_, .f32⟩
  | .hbm, ⟨69, _⟩ => ⟨S512, .f32⟩
  | .hbm, ⟨70, _⟩ => ⟨S1x512, .f32⟩
  | .hbm, ⟨71, _⟩ => ⟨S_, .f32⟩
  | .hbm, ⟨72, _⟩ => ⟨S512, .f32⟩
  | .hbm, ⟨73, _⟩ => ⟨S_, .f32⟩
  | .hbm, ⟨74, _⟩ => ⟨S4098x512, .f32⟩
  | .hbm, ⟨75, _⟩ => ⟨S4098x512, .f32⟩
  | .hbm, ⟨76, _⟩ => ⟨S1x512, .f32⟩
  | .hbm, ⟨77, _⟩ => ⟨S_, .f32⟩
  | .hbm, ⟨78, _⟩ => ⟨S3x512, .f32⟩
  | .hbm, ⟨79, _⟩ => ⟨S3x512, .f32⟩
  | .hbm, ⟨80, _⟩ => ⟨S2x512, .f32⟩
  | .hbm, ⟨81, _⟩ => ⟨S4096x512, .f32⟩
  | .hbm, ⟨82, _⟩ => ⟨S4096x512, .f32⟩
  | .hbm, ⟨83, _⟩ => ⟨S4096x512, .f32⟩
  | .hbm, ⟨84, _⟩ => ⟨S4096x512, .bf16⟩
  | .hbm, ⟨85, _⟩ => ⟨S4096x512, .bf16⟩
  | .hbm, ⟨86, _⟩ => ⟨S4096x512, .bf16⟩
  | .hbm, ⟨87, _⟩ => ⟨S_, .i32⟩
  | .hbm, ⟨88, _⟩ => ⟨S_, .f32⟩
  | .hbm, ⟨89, _⟩ => ⟨S8x512, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c : Ref sig .tc := ⟨.hbm, 87, rfl⟩
abbrev main_call0_v0 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== MemKernel.lean ====
abbrev S4096x1024 : Shape := ⟨2, ![4096, 1024]⟩
abbrev S256x2048 : Shape := ⟨2, ![256, 2048]⟩
abbrev S256x1024 : Shape := ⟨2, ![256, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 6
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S256x1024, .f32⟩
  | .hbm, ⟨5, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v32 : BitVec 1 := Scalar.cmpi .eq arg1 c0_i32
  let v33 : BitVec 32 := Scalar.extui v32
  let c0_i32_18 : BitVec 32 := 0#32
  let v34 : BitVec 1 := Scalar.cmpi .ne v33 c0_i32_18
  v34

def k0_cond2 (i : grid0.Coords) : BitVec 1 :=
  let arg1 : BitVec 32 := BitVec.ofNat 32 (i 1).val
  let c0_i32 : BitVec 32 := 0#32
  let v32 : BitVec 1 := Scalar.cmpi .eq arg1 c0_i32
  let v_true : BitVec 1 := 1#1
  let v35 : BitVec 1 := Scalar.xori v32 v_true
  let v36 : BitVec 32 := Scalar.extui v35
  let c0_i32_19 : BitVec 32 := 0#32
  let v37 : BitVec 1 := Scalar.cmpi .ne v36 c0_i32_19
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MemReferenceIdeal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S256x2048, .f32⟩
  | .hbm, ⟨4, _⟩ => ⟨S4096x1024, .f32⟩
  | .hbm, ⟨5, _⟩ => ⟨S256x1024, .f32⟩
  | .hbm, ⟨6, _⟩ => ⟨S256x1024, .f32⟩
  | .hbm, ⟨7, _⟩ => ⟨S4096x4x256, .f32⟩
  | .hbm, ⟨8, _⟩ => ⟨S256x4x256, .f32⟩
  | .hbm, ⟨9, _⟩ => ⟨S256x4x256, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x256x4096, .f32⟩
  | .hbm, ⟨53, _⟩ => ⟨S4096x4x256, .f32⟩
  | .hbm, ⟨54, _⟩ => ⟨S4096x1024, .f32⟩
  | .hbm, ⟨55, _⟩ => ⟨S4096x1024, .f32⟩
  | .hbm, ⟨56, _⟩ => ⟨S4096x4x256, .f32⟩
  | .hbm, ⟨57, _⟩ => ⟨S4x256x4096, .f32⟩
  | .hbm, ⟨58, _⟩ => ⟨S4x4096x256, .f32⟩
  | .hbm, ⟨59, _⟩ => ⟨S4x256x256, .f32⟩
  | .hbm, ⟨60, _⟩ => ⟨S256x4x256, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x256, .f32⟩
  | .hbm, ⟨79, _⟩ => ⟨S256x4x256, .f32⟩
  | .hbm, ⟨80, _⟩ => ⟨S4x4096x256, .f32⟩
  | .hbm, ⟨81, _⟩ => ⟨S4096x4x256, .f32⟩
  | .hbm, ⟨82, _⟩ => ⟨S256x1024, .f32⟩
  | .hbm, ⟨83, _⟩ => ⟨S256x1024, .f32⟩
  | .hbm, ⟨84, _⟩ => ⟨S4096x1024, .f32⟩
  | .hbm, ⟨85, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== NormQKernel.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v38 : BitVec 1 := Scalar.xori v35 v_true
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormQReferenceIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormFKernel.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1024x5632, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v38 : BitVec 1 := Scalar.xori v35 v_true
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormFReferenceIdeal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x5632, .f32⟩
  | .hbm, ⟨25, _⟩ => ⟨S4096x5632, .f32⟩
  | .hbm, ⟨26, _⟩ => ⟨S4096x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormHKernel.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S256x5120 : Shape := ⟨2, ![256, 5120]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S256x5120, .bf16⟩
  | .local _ .vmem, ⟨1, _⟩ => ⟨S256x5120, .bf16⟩
  | .local _ .vmem, ⟨2, _⟩ => ⟨S1024x5120, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_17 : BitVec 32 := 0#32
  let v35 : BitVec 1 := Scalar.cmpi .ne v34 c0_i32_17
  v35

def k0_cond2 (i : grid0.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v36 : BitVec 1 := Scalar.xori v33 v_true
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormHReferenceIdeal.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x5120, .f32⟩
  | .hbm, ⟨25, _⟩ => ⟨S4096x5120, .f32⟩
  | .hbm, ⟨26, _⟩ => ⟨S4096x5120, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== LossKernel.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_24 : BitVec 32 := 0#32
  let v53 : BitVec 1 := Scalar.cmpi .ne v52 c0_i32_24
  v53

def k0_cond2 (i : grid0.Coords) : BitVec 1 :=
  let arg0 : BitVec 32 := BitVec.ofNat 32 (i 0).val
  let c0_i32 : BitVec 32 := 0#32
  let v51 : BitVec 1 := Scalar.cmpi .eq arg0 c0_i32
  let v_true : BitVec 1 := 1#1
  let v54 : BitVec 1 := Scalar.xori v51 v_true
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== StickBKernel.lean ====
abbrev S4096x5120 : Shape := ⟨2, ![4096, 5120]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S256x128 : Shape := ⟨2, ![256, 128]⟩
abbrev S4096x128 : Shape := ⟨2, ![4096, 128]⟩
abbrev S256x256 : Shape := ⟨2, ![256, 256]⟩
abbrev S128x128 : Shape := ⟨2, ![128, 128]⟩
abbrev S256 : Shape := ⟨1, ![256]⟩
abbrev S256x1 : Shape := ⟨2, ![256, 1]⟩
abbrev S128x256 : Shape := ⟨2, ![128, 256]⟩
abbrev S1x256x128 : Shape := ⟨3, ![1, 256, 128]⟩
abbrev S1 : Shape := ⟨1, ![1]⟩
abbrev S1x1x1 : Shape := ⟨3, ![1, 1, 1]⟩

abbrev nBuf : Space → Nat
  | .hbm => 79
  | .vmem => 16
  | .smem => 0
  | _ => 0

abbrev bufTy : (tb : Table) → Fin (tcTables nBuf tb) → BufTy
  | .hbm, ⟨0, _⟩ => ⟨S4096x5120, .bf16⟩
  | .hbm, ⟨1, _⟩ => ⟨S4096x512, .bf16⟩
  | .hbm, ⟨2, _⟩ => ⟨S4096x5120, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x8x64, .f32⟩
  | .hbm, ⟨7, _⟩ => ⟨S8x4096x64, .f32⟩
  | .hbm, ⟨8, _⟩ => ⟨S4096x8x64, .f32⟩
  | .hbm, ⟨9, _⟩ => ⟨S8x4096x64, .f32⟩
  | .hbm, ⟨10, _⟩ => ⟨S4096x8x64, .f32⟩
  | .hbm, ⟨11, _⟩ => ⟨S8x4096x64, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S1x4096, .i32⟩
  | .hbm, ⟨18, _⟩ => ⟨S4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S1x4096x4096, .i1⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .i1⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S_, .f32⟩
  | .hbm, ⟨43, _⟩ => ⟨S8x4096x4096, .i1⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S_, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .i1⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S_, .f32⟩
  | .hbm, ⟨70, _⟩ => ⟨S8x4096x4096, .i1⟩
  | .hbm, ⟨71, _⟩ => ⟨S8x4096x4096, .f32⟩
  | .hbm, ⟨72, _⟩ => ⟨S8x4096x4096, .f32⟩
  | .hbm, ⟨73, _⟩ => ⟨S8x4096x64, .f32⟩
  | .hbm, ⟨74, _⟩ => ⟨S4096x8x64, .f32⟩
  | .hbm, ⟨75, _⟩ => ⟨S4096x512, .f32⟩
  | .hbm, ⟨76, _⟩ => ⟨S4096x512, .bf16⟩
  | .hbm, ⟨77, _⟩ => ⟨S4096x512, .f32⟩
  | .hbm, ⟨78, _⟩ => ⟨S4096x512, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v22 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_call2_cst : Ref sig .tc := ⟨.hbm, 46, rfl⟩
abbrev main_call2_v0 : Ref sig .tc := ⟨.hbm, 47, rfl⟩
abbrev main_v24 : Ref sig .tc := ⟨.hbm, 48, rfl⟩
abbrev main_v25 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33_0 : Ref sig .tc := ⟨.hbm, 76, rfl⟩
abbrev main_v33_1 : Ref sig .tc := ⟨.hbm, 77, rfl⟩
abbrev main_v33_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c2_i32 : BitVec 32 := 2#32
  let v62 : BitVec 32 := Scalar.muli arg1 c2_i32
  let c1_i32 : BitVec 32 := 1#32
  let v63 : BitVec 32 := Scalar.addi v62 c1_i32
  let c128_i32_20 : BitVec 32 := 128#32
  let v64 : BitVec 32 := Scalar.muli v63 c128_i32_20
  v64
def k0_mult2 (i : grid0.Coords) : BitVec 32 :=
  let arg1 : BitVec 32 := BitVec.ofNat 32 (i 1).val
  let c2_i32_21 : BitVec 32 := 2#32
  let v66 : BitVec 32 := Scalar.muli arg1 c2_i32_21
  let c0_i32_22 : BitVec 32 := 0#32
  let v67 : BitVec 32 := Scalar.addi v66 c0_i32_22
  let c128_i32_23 : BitVec 32 := 128#32
  let v68 : BitVec 32 := Scalar.muli v67 c128_i32_23
  v68
def k0_off1 (i : grid0.Coords) (c1_i32 : BitVec 32) : Fin 2 → Nat :=
  let arg1 : BitVec 32 := BitVec.ofNat 32 (i 1).val
  let c2_i32 : BitVec 32 := 2#32
  let v62 : BitVec 32 := Scalar.muli arg1 c2_i32
  let v63 : BitVec 32 := Scalar.addi v62 c1_i32
  let c128_i32_20 : BitVec 32 := 128#32
  let v64 : BitVec 32 := Scalar.muli v63 c128_i32_20
  let v65 : BitVec 32 := v64
  let v70 : Index := Scalar.indexCast v65
  let c0_24 : Index := 0#32
  ![v70.toNat, 0]
def k0_mult3 (i : grid0.Coords) (arg10 : BitVec 32) : BitVec 32 :=
  let arg1 : BitVec 32 := BitVec.ofNat 32 (i 1).val
  let c1_i32_89 : BitVec 32 := 1#32
  let v391 : BitVec 32 := Scalar.subi arg1 c1_i32_89
  let v392 : BitVec 32 := Scalar.subi v391 arg10
  let c2_i32_90 : BitVec 32 := 2#32
  let v393 : BitVec 32 := Scalar.muli v392 c2_i32_90
  let c1_i32_91 : BitVec 32 := 1#32
  let v394 : BitVec 32 := Scalar.addi v393 c1_i32_91
  let c128_i32_92 : BitVec 32 := 128#32
  let v395 : BitVec 32 := Scalar.muli v394 c128_i32_92
  v395

def k0_mult4 (i : grid0.Coords) (arg10 : BitVec 32) : BitVec 32 :=
  let arg1 : BitVec 32 := BitVec.ofNat 32 (i 1).val
  let c1_i32_89 : BitVec 32 := 1#32
  let v391 : BitVec 32 := Scalar.subi arg1 c1_i32_89
  let v392 : BitVec 32 := Scalar.subi v391 arg10
  let c2_i32_93 : BitVec 32 := 2#32
  let v397 : BitVec 32 := Scalar.muli v392 c2_i32_93
  let c0_i32_94 : BitVec 32 := 0#32
  let v398 : BitVec 32 := Scalar.addi v397 c0_i32_94
  let c128_i32_95 : BitVec 32 := 128#32
  let v399 : BitVec 32 := Scalar.muli v398 c128_i32_95
  v399
def k0_off2 (i : grid0.Coords) (arg10 : BitVec 32) (c1_i32_91 : BitVec 32) : Fin 2 → Nat :=
  let arg1 : BitVec 32 := BitVec.ofNat 32 (i 1).val
  let c1_i32_89 : BitVec 32 := 1#32
  let v391 : BitVec 32 := Scalar.subi arg1 c1_i32_89
  let v392 : BitVec 32 := Scalar.subi v391 arg10
  let c2_i32_90 : BitVec 32 := 2#32
  let v393 : BitVec 32 := Scalar.muli v392 c2_i32_90
  let v394 : BitVec 32 := Scalar.addi v393 c1_i32_91
  let c128_i32_92 : BitVec 32 := 128#32
  let v395 : BitVec 32 := Scalar.muli v394 c128_i32_92
  let v396 : BitVec 32 := v395
  let v401 : Index := Scalar.indexCast v396
  let c0_96 : Index := 0#32
  ![v401.toNat, 0]

def k0_chk1 (i : grid0.Coords) (arg10 : BitVec 32) : Prop :=
  (128 ∣ (k0_mult3 i arg10).toNat) ∧
  (128 ∣ (k0_mult4 i arg10).toNat) ∧
  (∀ (r : Fin 2), ∀ a, (k0_off2 i arg10 (BitVec.ofNat 32 r.val)) a + S128x128.size a ≤ S4096x128.size a)
theorem k0_mult3_dvd : ∀ (i : grid0.Coords) (arg10 : BitVec 32) (k0_hw1 : k0_chk1 i arg10), 128 ∣ (k0_mult3 i arg10).toNat := fun i arg10 k0_hw1 => k0_hw1.1
theorem k0_mult4_dvd : ∀ (i : grid0.Coords) (arg10 : BitVec 32) (k0_hw1 : k0_chk1 i arg10), 128 ∣ (k0_mult4 i arg10).toNat := fun i arg10 k0_hw1 => k0_hw1.2.1
theorem k0_off2_inb : ∀ (i : grid0.Coords) (arg10 : BitVec 32) (k0_hw1 : k0_chk1 i arg10), ∀ (r : Fin 2), ∀ a, (k0_off2 i arg10 (BitVec.ofNat 32 r.val)) a + S128x128.size a ≤ S4096x128.size a := fun i arg10 k0_hw1 r => k0_hw1.2.2 r

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== StickBKernelIdeal.lean ====
variable {F : FTy → Type} [FloatOps F] [Named F]
def κ : String → Option EReal := fun
  | "dead" => some ⊤
  | _ => none
-- ==== StickBReferenceIdeal.lean ====
abbrev S4096x5120 : Shape := ⟨2, ![4096, 5120]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x64x4096 : Shape := ⟨3, ![8, 64, 4096]⟩

abbrev nBuf : Space → Nat
  | .hbm => 182
  | .vmem => 0
  | .smem => 0
  | _ => 0

abbrev hbmTy0_0 (i : Nat) : BufTy := match i % 128 with
  | 0 => ⟨S4096x5120, .bf16⟩
  | 1 => ⟨S4096x512, .bf16⟩
  | 2 => ⟨S4096x5120, .f32⟩
  | 3 => ⟨S4096x512, .f32⟩
  | 4 => ⟨S4096x512, .f32⟩
  | 5 => ⟨S4096x512, .f32⟩
  | 6 => ⟨S4096x8x64, .f32⟩
  | 7 => ⟨S8x4096x64, .f32⟩
  | 8 => ⟨S4096x8x64, .f32⟩
  | 9 => ⟨S8x4096x64, .f32⟩
  | 10 => ⟨S4096x8x64, .f32⟩
  | 11 => ⟨S8x4096x64, .f32⟩
  | 12 => ⟨S8x4096x4096, .f32⟩
  | 13 => ⟨S_, .f32⟩
  | 14 => ⟨S8x4096x4096, .f32⟩
  | 15 => ⟨S8x4096x4096, .f32⟩
  | 16 => ⟨S4096, .i32⟩
  | 17 => ⟨S1x4096, .i32⟩
  | 18 => ⟨S4096, .i32⟩
  | 19 => ⟨S4096x1, .i32⟩
  | 20 => ⟨S4096x4096, .i32⟩
  | 21 => ⟨S4096x4096, .i32⟩
  | 22 => ⟨S4096x4096, .i1⟩
  | 23 => ⟨S1x4096x4096, .i1⟩
  | 24 => ⟨S8x4096x4096, .f32⟩
  | 25 => ⟨S8x4096x4096, .f32⟩
  | 26 => ⟨S_, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .i1⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S_, .f32⟩
  | 41 => ⟨S8x4096x4096, .f32⟩
  | 42 => ⟨S8x4096x4096, .i1⟩
  | 43 => ⟨S_, .f32⟩
  | 44 => ⟨S8x4096x4096, .f32⟩
  | 45 => ⟨S8x4096x4096, .f32⟩
  | 46 => ⟨S_, .f32⟩
  | 47 => ⟨S8x4096x4096, .f32⟩
  | 48 => ⟨S8x4096x4096, .i1⟩
  | 49 => ⟨S_, .f32⟩
  | 50 => ⟨S8x4096x4096, .f32⟩
  | 51 => ⟨S8x4096x4096, .f32⟩
  | 52 => ⟨S8x4096x4096, .f32⟩
  | 53 => ⟨S8x4096x4096, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S8x4096x4096, .f32⟩
  | 62 => ⟨S8x4096x4096, .i1⟩
  | 63 => ⟨S_, .f32⟩
  | 64 => ⟨S8x4096x4096, .f32⟩
  | 65 => ⟨S8x4096x4096, .f32⟩
  | 66 => ⟨S8x4096x4096, .f32⟩
  | 67 => ⟨S8x4096x4096, .f32⟩
  | 68 => ⟨S8x4096x4096, .f32⟩
  | 69 => ⟨S_, .f32⟩
  | 70 => ⟨S8x4096x4096, .f32⟩
  | 71 => ⟨S8x4096x4096, .f32⟩
  | 72 => ⟨S8x4096x4096, .f32⟩
  | 73 => ⟨S_, .f32⟩
  | 74 => ⟨S_, .f32⟩
  | 75 => ⟨S8x4096x4096, .i1⟩
  | 76 => ⟨S8x4096x4096, .f32⟩
  | 77 => ⟨S8x4096x4096, .f32⟩
  | 78 => ⟨S_, .f32⟩
  | 79 => ⟨S8x4096x4096, .f32⟩
  | 80 => ⟨S_, .f32⟩
  | 81 => ⟨S_, .f32⟩
  | 82 => ⟨S8x4096x4096, .f32⟩
  | 83 => ⟨S8x4096x4096, .f32⟩
  | 84 => ⟨S8x4096x4096, .f32⟩
  | 85 => ⟨S_, .f32⟩
  | 86 => ⟨S8x4096x4096, .f32⟩
  | 87 => ⟨S8x4096x4096, .f32⟩
  | 88 => ⟨S8x4096x4096, .f32⟩
  | 89 => ⟨S8x4096x4096, .f32⟩
  | 90 => ⟨S8x4096x4096, .i1⟩
  | 91 => ⟨S8x4096x4096, .f32⟩
  | 92 => ⟨S8x4096x4096, .f32⟩
  | 93 => ⟨S8x4096x4096, .f32⟩
  | 94 => ⟨S8x4096x4096, .f32⟩
  | 95 => ⟨S8x4096x4096, .f32⟩
  | 96 => ⟨S8x4096x4096, .f32⟩
  | 97 => ⟨S8x4096x4096, .f32⟩
  | 98 => ⟨S8x4096x4096, .f32⟩
  | 99 => ⟨S_, .f32⟩
  | 100 => ⟨S8x4096x4096, .f32⟩
  | 101 => ⟨S8x4096x4096, .i1⟩
  | 102 => ⟨S_, .f32⟩
  | 103 => ⟨S8x4096x4096, .f32⟩
  | 104 => ⟨S8x4096x4096, .f32⟩
  | 105 => ⟨S_, .f32⟩
  | 106 => ⟨S8x4096x4096, .f32⟩
  | 107 => ⟨S8x4096x4096, .i1⟩
  | 108 => ⟨S_, .f32⟩
  | 109 => ⟨S8x4096x4096, .f32⟩
  | 110 => ⟨S8x4096x4096, .f32⟩
  | 111 => ⟨S8x4096x4096, .f32⟩
  | 112 => ⟨S8x4096x4096, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S8x4096x4096, .f32⟩
  | 121 => ⟨S8x4096x4096, .i1⟩
  | 122 => ⟨S_, .f32⟩
  | 123 => ⟨S8x4096x4096, .f32⟩
  | 124 => ⟨S8x4096x4096, .f32⟩
  | 125 => ⟨S8x4096x4096, .f32⟩
  | 126 => ⟨S8x4096x4096, .f32⟩
  | 127 => ⟨S8x4096x4096, .f32⟩
  | _ => ⟨S4096x5120, .bf16⟩

abbrev hbmTy0_1 (i : Nat) : BufTy := match i % 128 with
  | 0 => ⟨S_, .f32⟩
  | 1 => ⟨S8x4096x4096, .f32⟩
  | 2 => ⟨S8x4096x4096, .f32⟩
  | 3 => ⟨S8x4096x4096, .f32⟩
  | 4 => ⟨S8x4096x4096, .f32⟩
  | 5 => ⟨S8x4096x4096, .f32⟩
  | 6 => ⟨S_, .f32⟩
  | 7 => ⟨S_, .f32⟩
  | 8 => ⟨S8x4096x4096, .i1⟩
  | 9 => ⟨S8x4096x4096, .f32⟩
  | 10 => ⟨S8x4096x4096, .f32⟩
  | 11 => ⟨S_, .f32⟩
  | 12 => ⟨S8x4096x4096, .f32⟩
  | 13 => ⟨S8x4096x64, .f32⟩
  | 14 => ⟨S4096x8x64, .f32⟩
  | 15 => ⟨S4096x512, .f32⟩
  | 16 => ⟨S4096x512, .f32⟩
  | 17 => ⟨S4096x8x64, .f32⟩
  | 18 => ⟨S8x4096x64, .f32⟩
  | 19 => ⟨S8x64x4096, .f32⟩
  | 20 => ⟨S8x4096x64, .f32⟩
  | 21 => ⟨S8x4096x4096, .f32⟩
  | 22 => ⟨S_, .f32⟩
  | 23 => ⟨S8x4096x4096, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S_, .f32⟩
  | 31 => ⟨S_, .f32⟩
  | 32 => ⟨S8x4096x4096, .f32⟩
  | 33 => ⟨S8x4096x4096, .f32⟩
  | 34 => ⟨S_, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S8x4096x4096, .f32⟩
  | 41 => ⟨S8x4096x4096, .f32⟩
  | 42 => ⟨S_, .f32⟩
  | 43 => ⟨S8x4096x4096, .f32⟩
  | 44 => ⟨S8x4096x4096, .f32⟩
  | 45 => ⟨S8x4096x64, .f32⟩
  | 46 => ⟨S8x4096x64, .f32⟩
  | 47 => ⟨S4096x8x64, .f32⟩
  | 48 => ⟨S4096x512, .f32⟩
  | 49 => ⟨S4096x8x64, .f32⟩
  | 50 => ⟨S4096x512, .f32⟩
  | 51 => ⟨S4096x8x64, .f32⟩
  | 52 => ⟨S4096x512, .f32⟩
  | 53 => ⟨S4096x512, .bf16⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v22_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v22_2 : Ref sig .tc := ⟨.hbm, 71, rfl⟩
abbrev main_v22_0 : Ref sig .tc := ⟨.hbm, 72, rfl⟩
abbrev main_cst_0 : Ref sig .tc := ⟨.hbm, 73, rfl⟩
abbrev main_call1_v0 : Ref sig .tc := ⟨.hbm, 74, rfl⟩
abbrev main_v23_1 : Ref sig .tc := ⟨.hbm, 75, rfl⟩
abbrev main_call1_v2 : Ref sig .tc := ⟨.hbm, 76, rfl⟩
abbrev main_v23_0 : Ref sig .tc := ⟨.hbm, 77, rfl⟩
abbrev main_call1_cst : Ref sig .tc := ⟨.hbm, 78, rfl⟩
abbrev main_v23_2 : Ref sig .tc := ⟨.hbm, 79, rfl⟩
abbrev main_call2_cst : Ref sig .tc := ⟨.hbm, 80, rfl⟩
abbrev main_call2_v0 : Ref sig .tc := ⟨.hbm, 81, rfl⟩
abbrev main_v24 : Ref sig .tc := ⟨.hbm, 82, rfl⟩
abbrev main_v25 : Ref sig .tc := ⟨.hbm, 83, rfl⟩
abbrev main_call3_v0 : Ref sig .tc := ⟨.hbm, 84, rfl⟩
abbrev main_call3_call0_cst : Ref sig .tc := ⟨.hbm, 85, rfl⟩
abbrev main_call3_call0_v0 : Ref sig .tc := ⟨.hbm, 86, rfl⟩
abbrev main_call3_call0_v1 : Ref sig .tc := ⟨.hbm, 87, rfl⟩
abbrev main_call3_call0_v2 : Ref sig .tc := ⟨.hbm, 88, rfl⟩
abbrev main_call3_call0_v3 : Ref sig .tc := ⟨.hbm, 89, rfl⟩
abbrev main_call3_call0_v4 : Ref sig .tc := ⟨.hbm, 90, rfl⟩
abbrev main_call3_call0_v5 : Ref sig .tc := ⟨.hbm, 91, rfl⟩
abbrev main_call3_call0_v6 : Ref sig .tc := ⟨.hbm, 92, rfl⟩
abbrev main_call3_call0_v7 : Ref sig .tc := ⟨.hbm, 93, rfl⟩
abbrev main_call3_call0_v8 : Ref sig .tc := ⟨.hbm, 94, rfl⟩
abbrev main_call3_call0_v9 : Ref sig .tc := ⟨.hbm, 95, rfl⟩
abbrev main_call3_call0_v10 : Ref sig .tc := ⟨.hbm, 96, rfl⟩
abbrev main_call3_call0_v11 : Ref sig .tc := ⟨.hbm, 97, rfl⟩
abbrev main_call3_v1_0 : Ref sig .tc := ⟨.hbm, 98, rfl⟩
abbrev main_call3_call0_cst_0 : Ref sig .tc := ⟨.hbm, 99, rfl⟩
abbrev main_call3_call0_v13 : Ref sig .tc := ⟨.hbm, 100, rfl⟩
abbrev main_call3_call0_v14 : Ref sig .tc := ⟨.hbm, 101, rfl⟩
abbrev main_call3_call0_cst_1 : Ref sig .tc := ⟨.hbm, 102, rfl⟩
abbrev main_call3_call0_v15 : Ref sig .tc := ⟨.hbm, 103, rfl⟩
abbrev main_call3_call0_v16 : Ref sig .tc := ⟨.hbm, 104, rfl⟩
abbrev main_call3_call0_cst_2 : Ref sig .tc := ⟨.hbm, 105, rfl⟩
abbrev main_call3_call0_v17 : Ref sig .tc := ⟨.hbm, 106, rfl⟩
abbrev main_call3_call0_v18 : Ref sig .tc := ⟨.hbm, 107, rfl⟩
abbrev main_call3_call0_cst_3 : Ref sig .tc := ⟨.hbm, 108, rfl⟩
abbrev main_call3_call0_v19 : Ref sig .tc := ⟨.hbm, 109, rfl⟩
abbrev main_call3_call0_v20 : Ref sig .tc := ⟨.hbm, 110, rfl⟩
abbrev main_call3_call0_v21 : Ref sig .tc := ⟨.hbm, 111, rfl⟩
abbrev main_v26_1 : Ref sig .tc := ⟨.hbm, 112, rfl⟩
abbrev main_call3_call0_cst_4 : Ref sig .tc := ⟨.hbm, 113, rfl⟩
abbrev main_call3_call0_cst_5 : Ref sig .tc := ⟨.hbm, 114, rfl⟩
abbrev main_call3_call0_v23 : Ref sig .tc := ⟨.hbm, 115, rfl⟩
abbrev main_call3_call0_cst_6 : Ref sig .tc := ⟨.hbm, 116, rfl⟩
abbrev main_call3_call0_cst_7 : Ref sig .tc := ⟨.hbm, 117, rfl⟩
abbrev main_call3_call0_v24 : Ref sig .tc := ⟨.hbm, 118, rfl⟩
abbrev main_call3_call0_cst_8 : Ref sig .tc := ⟨.hbm, 119, rfl⟩
abbrev main_call3_call0_v25 : Ref sig .tc := ⟨.hbm, 120, rfl⟩
abbrev main_call3_call0_v26 : Ref sig .tc := ⟨.hbm, 121, rfl⟩
abbrev main_call3_call0_cst_9 : Ref sig .tc := ⟨.hbm, 122, rfl⟩
abbrev main_call3_call0_v27 : Ref sig .tc := ⟨.hbm, 123, rfl⟩
abbrev main_call3_call0_v28 : Ref sig .tc := ⟨.hbm, 124, rfl⟩
abbrev main_call3_call0_v29 : Ref sig .tc := ⟨.hbm, 125, rfl⟩
abbrev main_call3_call0_v30 : Ref sig .tc := ⟨.hbm, 126, rfl⟩
abbrev main_call3_call0_v31 : Ref sig .tc := ⟨.hbm, 127, rfl⟩
abbrev main_call3_call0_cst_10 : Ref sig .tc := ⟨.hbm, 128, rfl⟩
abbrev main_call3_call0_v32 : Ref sig .tc := ⟨.hbm, 129, rfl⟩
abbrev main_v26_2 : Ref sig .tc := ⟨.hbm, 130, rfl⟩
abbrev main_v26_0 : Ref sig .tc := ⟨.hbm, 131, rfl⟩
abbrev main_v27 : Ref sig .tc := ⟨.hbm, 132, rfl⟩
abbrev main_v28 : Ref sig .tc := ⟨.hbm, 133, rfl⟩
abbrev main_cst_1 : Ref sig .tc := ⟨.hbm, 134, rfl⟩
abbrev main_call4_v0 : Ref sig .tc := ⟨.hbm, 135, rfl⟩
abbrev main_v29_1 : Ref sig .tc := ⟨.hbm, 136, rfl⟩
abbrev main_call4_v2 : Ref sig .tc := ⟨.hbm, 137, rfl⟩
abbrev main_v29_0 : Ref sig .tc := ⟨.hbm, 138, rfl⟩
abbrev main_call4_cst : Ref sig .tc := ⟨.hbm, 139, rfl⟩
abbrev main_v29_2 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_call5_cst : Ref sig .tc := ⟨.hbm, 150, rfl⟩
abbrev main_call5_v0 : Ref sig .tc := ⟨.hbm, 151, rfl⟩
abbrev main_v39 : Ref sig .tc := ⟨.hbm, 152, rfl⟩
abbrev main_v40 : Ref sig .tc := ⟨.hbm, 153, rfl⟩
abbrev main_call6_v0 : Ref sig .tc := ⟨.hbm, 154, rfl⟩
abbrev main_call6_v1 : Ref sig .tc := ⟨.hbm, 155, rfl⟩
abbrev main_v41 : Ref sig .tc := ⟨.hbm, 156, rfl⟩
abbrev main_v42 : Ref sig .tc := ⟨.hbm, 157, rfl⟩
abbrev main_call7_cst : Ref sig .tc := ⟨.hbm, 158, rfl⟩
abbrev main_call7_v0 : Ref sig .tc := ⟨.hbm, 159, rfl⟩
abbrev main_v43 : Ref sig .tc := ⟨.hbm, 160, rfl⟩
abbrev main_v44 : Ref sig .tc := ⟨.hbm, 161, rfl⟩
abbrev main_call8_cst : Ref sig .tc := ⟨.hbm, 162, rfl⟩
abbrev main_call8_v0 : Ref sig .tc := ⟨.hbm, 163, rfl⟩
abbrev main_v45 : Ref sig .tc := ⟨.hbm, 164, rfl⟩
abbrev main_call9_v0 : Ref sig .tc := ⟨.hbm, 165, rfl⟩
abbrev main_call9_v1 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_cst_2 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩

abbrev nD : Nat := 1
abbrev τ : Topo := Topo.v7x

variable {F : FTy → Type} [FloatOps F]
-- ==== MemFwdKernel.lean ====
abbrev S4096x1024 : Shape := ⟨2, ![4096, 1024]⟩
abbrev S256x2048 : Shape := ⟨2, ![256, 2048]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemFwdReferenceIdeal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S256x2048, .f32⟩
  | .hbm, ⟨3, _⟩ => ⟨S4096x1024, .f32⟩
  | .hbm, ⟨4, _⟩ => ⟨S256x1024, .f32⟩
  | .hbm, ⟨5, _⟩ => ⟨S256x1024, .f32⟩
  | .hbm, ⟨6, _⟩ => ⟨S4096x4x256, .f32⟩
  | .hbm, ⟨7, _⟩ => ⟨S256x4x256, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x256x4096, .f32⟩
  | .hbm, ⟨28, _⟩ => ⟨S4096x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== StickFKernel.lean ====
abbrev S4096x5120 : Shape := ⟨2, ![4096, 5120]⟩
abbrev S4096x512 : Shape := ⟨2, ![4096, 512]⟩
abbrev S256x128 : Shape := ⟨2, ![256, 128]⟩
abbrev S4096x128 : Shape := ⟨2, ![4096, 128]⟩
abbrev S256x256 : Shape := ⟨2, ![256, 256]⟩
abbrev S128x128 : Shape := ⟨2, ![128, 128]⟩
abbrev S128x256 : Shape := ⟨2, ![128, 256]⟩
abbrev S1x256x128 : Shape := ⟨3, ![1, 256, 128]⟩
abbrev S1 : Shape := ⟨1, ![1]⟩
abbrev S1x1x1 : Shape := ⟨3, ![1, 1, 1]⟩

abbrev nBuf : Space → Nat
  | .hbm => 3
  | .vmem => 10
  | .smem => 0
  | _ => 0

abbrev bufTy : (tb : Table) → Fin (tcTables nBuf tb) → BufTy
  | .hbm, ⟨0, _⟩ => ⟨S4096x5120, .bf16⟩
  | .hbm, ⟨1, _⟩ => ⟨S4096x512, .bf16⟩
  | .hbm, ⟨2, _⟩ => ⟨S4096x512, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c2_i32 : BitVec 32 := 2#32
  let v31 : BitVec 32 := Scalar.muli arg1 c2_i32
  let c1_i32 : BitVec 32 := 1#32
  let v32 : BitVec 32 := Scalar.addi v31 c1_i32
  let c128_i32_7 : BitVec 32 := 128#32
  let v33 : BitVec 32 := Scalar.muli v32 c128_i32_7
  v33
def k0_mult2 (i : grid0.Coords) : BitVec 32 :=
  let arg1 : BitVec 32 := BitVec.ofNat 32 (i 1).val
  let c2_i32_8 : BitVec 32 := 2#32
  let v35 : BitVec 32 := Scalar.muli arg1 c2_i32_8
  let c0_i32 : BitVec 32 := 0#32
  let v36 : BitVec 32 := Scalar.addi v35 c0_i32
  let c128_i32_9 : BitVec 32 := 128#32
  let v37 : BitVec 32 := Scalar.muli v36 c128_i32_9
  v37
def k0_off1 (i : grid0.Coords) (c1_i32 : BitVec 32) : Fin 2 → Nat :=
  let arg1 : BitVec 32 := BitVec.ofNat 32 (i 1).val
  let c2_i32 : BitVec 32 := 2#32
  let v31 : BitVec 32 := Scalar.muli arg1 c2_i32
  let v32 : BitVec 32 := Scalar.addi v31 c1_i32
  let c128_i32_7 : BitVec 32 := 128#32
  let v33 : BitVec 32 := Scalar.muli v32 c128_i32_7
  let v34 : BitVec 32 := v33
  let v39 : Index := Scalar.indexCast v34
  let c0_10 : Index := 0#32
  ![v39.toNat, 0]
def k0_mult3 (i : grid0.Coords) (arg7 : BitVec 32) : BitVec 32 :=
  let arg1 : BitVec 32 := BitVec.ofNat 32 (i 1).val
  let c1_i32_50 : BitVec 32 := 1#32
  let v210 : BitVec 32 := Scalar.subi arg1 c1_i32_50
  let v211 : BitVec 32 := Scalar.subi v210 arg7
  let c2_i32_51 : BitVec 32 := 2#32
  let v212 : BitVec 32 := Scalar.muli v211 c2_i32_51
  let c1_i32_52 : BitVec 32 := 1#32
  let v213 : BitVec 32 := Scalar.addi v212 c1_i32_52
  let c128_i32_53 : BitVec 32 := 128#32
  let v214 : BitVec 32 := Scalar.muli v213 c128_i32_53
  v214

def k0_mult4 (i : grid0.Coords) (arg7 : BitVec 32) : BitVec 32 :=
  let arg1 : BitVec 32 := BitVec.ofNat 32 (i 1).val
  let c1_i32_50 : BitVec 32 := 1#32
  let v210 : BitVec 32 := Scalar.subi arg1 c1_i32_50
  let v211 : BitVec 32 := Scalar.subi v210 arg7
  let c2_i32_54 : BitVec 32 := 2#32
  let v216 : BitVec 32 := Scalar.muli v211 c2_i32_54
  let c0_i32_55 : BitVec 32 := 0#32
  let v217 : BitVec 32 := Scalar.addi v216 c0_i32_55
  let c128_i32_56 : BitVec 32 := 128#32
  let v218 : BitVec 32 := Scalar.muli v217 c128_i32_56
  v218
def k0_off2 (i : grid0.Coords) (arg7 : BitVec 32) (c1_i32_52 : BitVec 32) : Fin 2 → Nat :=
  let arg1 : BitVec 32 := BitVec.ofNat 32 (i 1).val
  let c1_i32_50 : BitVec 32 := 1#32
  let v210 : BitVec 32 := Scalar.subi arg1 c1_i32_50
  let v211 : BitVec 32 := Scalar.subi v210 arg7
  let c2_i32_51 : BitVec 32 := 2#32
  let v212 : BitVec 32 := Scalar.muli v211 c2_i32_51
  let v213 : BitVec 32 := Scalar.addi v212 c1_i32_52
  let c128_i32_53 : BitVec 32 := 128#32
  let v214 : BitVec 32 := Scalar.muli v213 c128_i32_53
  let v215 : BitVec 32 := v214
  let v220 : Index := Scalar.indexCast v215
  let c0_57 : Index := 0#32
  ![v220.toNat, 0]

def k0_chk1 (i : grid0.Coords) (arg7 : BitVec 32) : Prop :=
  (128 ∣ (k0_mult3 i arg7).toNat) ∧
  (128 ∣ (k0_mult4 i arg7).toNat) ∧
  (∀ (r : Fin 2), ∀ a, (k0_off2 i arg7 (BitVec.ofNat 32 r.val)) a + S128x128.size a ≤ S4096x128.size a)
theorem k0_mult3_dvd : ∀ (i : grid0.Coords) (arg7 : BitVec 32) (k0_hw1 : k0_chk1 i arg7), 128 ∣ (k0_mult3 i arg7).toNat := fun i arg7 k0_hw1 => k0_hw1.1
theorem k0_mult4_dvd : ∀ (i : grid0.Coords) (arg7 : BitVec 32) (k0_hw1 : k0_chk1 i arg7), 128 ∣ (k0_mult4 i arg7).toNat := fun i arg7 k0_hw1 => k0_hw1.2.1
theorem k0_off2_inb : ∀ (i : grid0.Coords) (arg7 : BitVec 32) (k0_hw1 : k0_chk1 i arg7), ∀ (r : Fin 2), ∀ a, (k0_off2 i arg7 (BitVec.ofNat 32 r.val)) a + S128x128.size a ≤ S4096x128.size a := fun i arg7 k0_hw1 r => k0_hw1.2.2 r

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== StickFKernelIdeal.lean ====
variable {F : FTy → Type} [FloatOps F] [Named F]
def κ : String → Option EReal := fun
  | "dead" => some ⊤
  | _ => none
-- ==== StickFReferenceIdeal.lean ====
abbrev S4096x5120 : Shape := ⟨2, ![4096, 5120]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩

abbrev nBuf : Space → Nat
  | .hbm => 76
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S4096x5120, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x8x64, .f32⟩
  | .hbm, ⟨6, _⟩ => ⟨S8x4096x64, .f32⟩
  | .hbm, ⟨7, _⟩ => ⟨S4096x8x64, .f32⟩
  | .hbm, ⟨8, _⟩ => ⟨S8x4096x64, .f32⟩
  | .hbm, ⟨9, _⟩ => ⟨S4096x8x64, .f32⟩
  | .hbm, ⟨10, _⟩ => ⟨S8x4096x64, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x4096, .i32⟩
  | .hbm, ⟨17, _⟩ => ⟨S4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S1x4096x4096, .i1⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S_, .f32⟩
  | .hbm, ⟨42, _⟩ => ⟨S8x4096x4096, .i1⟩
  | .hbm, ⟨43, _⟩ => ⟨S8x4096x4096, .f32⟩
  | .hbm, ⟨44, _⟩ => ⟨S8x4096x4096, .f32⟩
  | .hbm, ⟨45, _⟩ => ⟨S_, .f32⟩
  | .hbm, ⟨46, _⟩ => ⟨S_, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x4096, .i1⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S_, .f32⟩
  | .hbm, ⟨68, _⟩ => ⟨S_, .f32⟩
  | .hbm, ⟨69, _⟩ => ⟨S8x4096x4096, .i1⟩
  | .hbm, ⟨70, _⟩ => ⟨S8x4096x4096, .f32⟩
  | .hbm, ⟨71, _⟩ => ⟨S8x4096x4096, .f32⟩
  | .hbm, ⟨72, _⟩ => ⟨S8x4096x64, .f32⟩
  | .hbm, ⟨73, _⟩ => ⟨S4096x8x64, .f32⟩
  | .hbm, ⟨74, _⟩ => ⟨S4096x512, .f32⟩
  | .hbm, ⟨75, _⟩ => ⟨S4096x512, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v22 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_call2_cst : Ref sig .tc := ⟨.hbm, 45, rfl⟩
abbrev main_call2_v0 : Ref sig .tc := ⟨.hbm, 46, rfl⟩
abbrev main_v24 : Ref sig .tc := ⟨.hbm, 47, rfl⟩
abbrev main_v25 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩

abbrev nD : Nat := 1
abbrev τ : Topo := Topo.v7x

variable {F : FTy → Type} [FloatOps F]
-- ==== ConvFwdKernel.lean ====
abbrev S4096x5120 : Shape := ⟨2, ![4096, 5120]⟩
abbrev S3x512 : Shape := ⟨2, ![3, 512]⟩
abbrev S_ : Shape := ⟨0, ![]⟩
abbrev S8x512 : Shape := ⟨2, ![8, 512]⟩
abbrev S4096x512 : Shape := ⟨2, ![4096, 512]⟩
abbrev S4096x128 : Shape := ⟨2, ![4096, 128]⟩
abbrev S8x128 : Shape := ⟨2, ![8, 128]⟩
abbrev S1x128 : Shape := ⟨2, ![1, 128]⟩

abbrev nBuf : Space → Nat
  | .hbm => 6
  | .vmem => 10
  | .smem => 0
  | _ => 0

abbrev bufTy : (tb : Table) → Fin (tcTables nBuf tb) → BufTy
  | .hbm, ⟨0, _⟩ => ⟨S4096x5120, .bf16⟩
  | .hbm, ⟨1, _⟩ => ⟨S3x512, .f32⟩
  | .hbm, ⟨2, _⟩ => ⟨S_, .i32⟩
  | .hbm, ⟨3, _⟩ => ⟨S_, .f32⟩
  | .hbm, ⟨4, _⟩ => ⟨S8x512, .f32⟩
  | .hbm, ⟨5, _⟩ => ⟨S4096x512, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S8x128, .f32⟩
  | .local _ .vmem, ⟨7, _⟩ => ⟨S8x128, .f32⟩
  | .local _ .vmem, ⟨8, _⟩ => ⟨S4096x128, .bf16⟩
  | .local _ .vmem, ⟨9, _⟩ => ⟨S4096x128, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFwdReferenceIdeal.lean ====
abbrev S4096x5120 : Shape := ⟨2, ![4096, 5120]⟩
abbrev S3x512 : Shape := ⟨2, ![3, 512]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 32
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S3x512, .f32⟩
  | .hbm, ⟨2, _⟩ => ⟨S4096x5120, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S2x512, .f32⟩
  | .hbm, ⟨9, _⟩ => ⟨S4098x512, .f32⟩
  | .hbm, ⟨10, _⟩ => ⟨S1x512, .f32⟩
  | .hbm, ⟨11, _⟩ => ⟨S512, .f32⟩
  | .hbm, ⟨12, _⟩ => ⟨S4096x512, .f32⟩
  | .hbm, ⟨13, _⟩ => ⟨S1x512, .f32⟩
  | .hbm, ⟨14, _⟩ => ⟨S4096x512, .f32⟩
  | .hbm, ⟨15, _⟩ => ⟨S4096x512, .f32⟩
  | .hbm, ⟨16, _⟩ => ⟨S1x512, .f32⟩
  | .hbm, ⟨17, _⟩ => ⟨S512, .f32⟩
  | .hbm, ⟨18, _⟩ => ⟨S4096x512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S512, .f32⟩
  | .hbm, ⟨25, _⟩ => ⟨S4096x512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== MergeKernel.lean ====
abbrev S4096x512 : Shape := ⟨2, ![4096, 512]⟩
abbrev S512x1024 : Shape := ⟨2, ![512, 1024]⟩
abbrev S4096x5120 : Shape := ⟨2, ![4096, 5120]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x1024, .bf16⟩
  | .hbm, ⟨3, _⟩ => ⟨S512x1024, .bf16⟩
  | .hbm, ⟨4, _⟩ => ⟨S4096x5120, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S4096x512 : Shape := ⟨2, ![4096, 512]⟩
abbrev S512x1024 : Shape := ⟨2, ![512, 1024]⟩
abbrev S4096x5120 : Shape := ⟨2, ![4096, 5120]⟩
abbrev S4096x1024 : Shape := ⟨2, ![4096, 1024]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x1024, .bf16⟩
  | .hbm, ⟨3, _⟩ => ⟨S512x1024, .bf16⟩
  | .hbm, ⟨4, _⟩ => ⟨S4096x5120, .bf16⟩
  | .hbm, ⟨5, _⟩ => ⟨S4096x5120, .f32⟩
  | .hbm, ⟨6, _⟩ => ⟨S4096x512, .f32⟩
  | .hbm, ⟨7, _⟩ => ⟨S512x1024, .f32⟩
  | .hbm, ⟨8, _⟩ => ⟨S4096x1024, .f32⟩
  | .hbm, ⟨9, _⟩ => ⟨S4096x512, .f32⟩
  | .hbm, ⟨10, _⟩ => ⟨S512x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x1024, .bf16⟩
  | .hbm, ⟨35, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== NormMulKernel.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x1024, .bf16⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormMulReferenceIdeal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1024x1024, .f32⟩
  | .hbm, ⟨20, _⟩ => ⟨S4096x1024, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== FfnInKernel.lean ====
abbrev S4096x1024 : Shape := ⟨2, ![4096, 1024]⟩
abbrev S1x1024 : Shape := ⟨2, ![1, 1024]⟩
abbrev S1024x5632 : Shape := ⟨2, ![1024, 5632]⟩
abbrev S4096x2816 : Shape := ⟨2, ![4096, 2816]⟩
abbrev S1024x1024 : Shape := ⟨2, ![1024, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 7
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S4096x1024, .bf16⟩
  | .hbm, ⟨4, _⟩ => ⟨S4096x2816, .bf16⟩
  | .hbm, ⟨5, _⟩ => ⟨S4096x2816, .bf16⟩
  | .hbm, ⟨6, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnInReferenceIdeal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x5632, .f32⟩
  | .hbm, ⟨19, _⟩ => ⟨S4096x5632, .f32⟩
  | .hbm, ⟨20, _⟩ => ⟨S4096x2816, .f32⟩
  | .hbm, ⟨21, _⟩ => ⟨S4096x2816, .f32⟩
  | .hbm, ⟨22, _⟩ => ⟨S4096x1024, .bf16⟩
  | .hbm, ⟨23, _⟩ => ⟨S4096x2816, .bf16⟩
  | .hbm, ⟨24, _⟩ => ⟨S4096x2816, .bf16⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== MatMulKernel.lean ====
abbrev S4096x1024 : Shape := ⟨2, ![4096, 1024]⟩
abbrev S4096x5632 : Shape := ⟨2, ![4096, 5632]⟩
abbrev S1024x5632 : Shape := ⟨2, ![1024, 5632]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatMulReferenceIdeal.lean ====
abbrev S4096x1024 : Shape := ⟨2, ![4096, 1024]⟩
abbrev S4096x5632 : Shape := ⟨2, ![4096, 5632]⟩
abbrev S1024x4096 : Shape := ⟨2, ![1024, 4096]⟩
abbrev S1024x5632 : Shape := ⟨2, ![1024, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S1024x4096, .f32⟩
  | .hbm, ⟨4, _⟩ => ⟨S4096x5632, .f32⟩
  | .hbm, ⟨5, _⟩ => ⟨S1024x5632, .f32⟩
  | .hbm, ⟨6, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AdamWKernel.lean ====
abbrev S1024x1408 : Shape := ⟨2, ![1024, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWReferenceIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AssembleKernel.lean ====
abbrev S4096x512 : Shape := ⟨2, ![4096, 512]⟩
abbrev S4096x1024 : Shape := ⟨2, ![4096, 1024]⟩
abbrev S4096x5120 : Shape := ⟨2, ![4096, 5120]⟩
abbrev S256x512 : Shape := ⟨2, ![256, 512]⟩
abbrev S256x1024 : Shape := ⟨2, ![256, 1024]⟩
abbrev S256x5120 : Shape := ⟨2, ![256, 5120]⟩

abbrev nBuf : Space → Nat
  | .hbm => 9
  | .vmem => 18
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S4096x512, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x1024, .bf16⟩
  | .hbm, ⟨7, _⟩ => ⟨S4096x1024, .bf16⟩
  | .hbm, ⟨8, _⟩ => ⟨S4096x5120, .bf16⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x5120, .bf16⟩
  | .local _ .vmem, ⟨17, _⟩ => ⟨S256x5120, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5120 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AssembleReferenceIdeal.lean ====
abbrev S4096x512 : Shape := ⟨2, ![4096, 512]⟩
abbrev S4096x1024 : Shape := ⟨2, ![4096, 1024]⟩
abbrev S4096x5120 : Shape := ⟨2, ![4096, 5120]⟩

abbrev nBuf : Space → Nat
  | .hbm => 16
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S4096x512, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x1024, .bf16⟩
  | .hbm, ⟨7, _⟩ => ⟨S4096x1024, .bf16⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x1024, .f32⟩
  | .hbm, ⟨13, _⟩ => ⟨S4096x1024, .f32⟩
  | .hbm, ⟨14, _⟩ => ⟨S4096x5120, .f32⟩
  | .hbm, ⟨15, _⟩ => ⟨S4096x5120, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== ExchangeKernel.lean ====
abbrev S1x2x512x5120 : Shape := ⟨4, ![1, 2, 512, 5120]⟩
abbrev S1x512x5120 : Shape := ⟨3, ![1, 512, 5120]⟩
abbrev S1 : Shape := ⟨1, ![1]⟩
abbrev S_ : Shape := ⟨0, ![]⟩
abbrev S1x1x512x5120 : Shape := ⟨4, ![1, 1, 512, 5120]⟩

abbrev nBuf : Space → Nat
  | .hbm => 2
  | .vmem => 0
  | .smem => 0
  | _ => 0

abbrev bufTy : (tb : Table) → Fin (tcTables nBuf tb) → BufTy
  | .hbm, ⟨0, _⟩ => ⟨S1x2x512x5120, .bf16⟩
  | .hbm, ⟨1, _⟩ => ⟨S1x512x5120, .bf16⟩
  | _, _ => ⟨S1x2x512x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c0_i32_10 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_11 : BitVec 32 := 0#32
  let c0_i32_12 : BitVec 32 := 0#32
  ![0, v9.toNat, 0, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v11 : BitVec 32 := Scalar.muli v2 c4_i32_6
  let v12 : BitVec 32 := Scalar.addi c0_i32_7 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v13 : BitVec 32 := Scalar.muli v5 c2_i32_8
  let v14 : BitVec 32 := Scalar.addi v12 v13
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_9 : BitVec 32 := 1#32
  let v15 : BitVec 32 := Scalar.muli v10 c1_i32_9
  let v16 : BitVec 32 := Scalar.addi v14 v15
  v16.toNat
-- ==== ExchangeReferenceIdeal.lean ====
abbrev S8x2x512x5120 : Shape := ⟨4, ![8, 2, 512, 5120]⟩
abbrev S4x2x2x512x5120 : Shape := ⟨5, ![4, 2, 2, 512, 5120]⟩
abbrev S4x1x1x512x5120 : Shape := ⟨5, ![4, 1, 1, 512, 5120]⟩
abbrev S4x512x5120 : Shape := ⟨3, ![4, 512, 5120]⟩
abbrev S4x1x512x5120 : Shape := ⟨4, ![4, 1, 512, 5120]⟩
abbrev S4x2x512x5120 : Shape := ⟨4, ![4, 2, 512, 5120]⟩
abbrev S8x512x5120 : Shape := ⟨3, ![8, 512, 5120]⟩

abbrev nBuf : Space → Nat
  | .hbm => 10
  | .vmem => 0
  | .smem => 0
  | _ => 0

abbrev bufTy : (tb : Table) → Fin (tcTables nBuf tb) → BufTy
  | .hbm, ⟨0, _⟩ => ⟨S8x2x512x5120, .bf16⟩
  | .hbm, ⟨1, _⟩ => ⟨S4x2x2x512x5120, .bf16⟩
  | .hbm, ⟨2, _⟩ => ⟨S4x1x1x512x5120, .bf16⟩
  | .hbm, ⟨3, _⟩ => ⟨S4x512x5120, .bf16⟩
  | .hbm, ⟨4, _⟩ => ⟨S4x1x1x512x5120, .bf16⟩
  | .hbm, ⟨5, _⟩ => ⟨S4x512x5120, .bf16⟩
  | .hbm, ⟨6, _⟩ => ⟨S4x1x512x5120, .bf16⟩
  | .hbm, ⟨7, _⟩ => ⟨S4x1x512x5120, .bf16⟩
  | .hbm, ⟨8, _⟩ => ⟨S4x2x512x5120, .bf16⟩
  | .hbm, ⟨9, _⟩ => ⟨S8x512x5120, .bf16⟩
  | _, _ => ⟨S8x2x512x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Proof.Gain.lean ====
/-
  The gain's gradient of the norm of the memory tokens (`_norm_gain_grad`): one grid point holds both
  arrays, so the result is the stored payload over the two arguments, and it is the sum over the rows of
  the cotangent times the normalised row.
-/
module

public import proofs.«01_k».proof.Defs
public import proofs.«01_k».proof.Proof.Gen.GainKernelIdeal.Frame
public import proofs.«01_k».proof.Proof.Gen.GainReferenceIdeal
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GainKernelIdeal.Hand

open Cert.GainKernelIdeal Cert.GainKernelIdeal.Gen

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

/-- The result array is the stored payload over the two arguments. -/
theorem final (c : Dev nD) : (dats m 0 c).arrAt 2 (cfgs 0).N
    = k0_pay1 (F := Ideal) (m (c.tc.loc main_arg0)) (m (c.tc.loc main_arg1)) := by
  refine (dats m 0 c).arrAt_eq_of_after_last 2 t0_0 (by decide +kernel) _ fun j => ?_
  blk_simp
  rw [after0_2]
  unfold outsAt0
  frame_out
  blk_point [iblk, V, idx t0_0]

end Cert.GainKernelIdeal.Hand

namespace Cert.Hand

/-- The kernel's gradient is the derivative's: both sum, over the rows, the cotangent times the normalised row. -/
theorem Gain : algebraic_GainKernelIdeal_GainReferenceIdeal := by
  pair_intro
  · run_from GainKernelIdeal.Gen.run_main m g
  · hlo_run
    rw [GainKernelIdeal.Hand.final m c]
    funext j
    pointwise! [GainKernelIdeal.Gen.k0_pay1]

/-- The reference runs and leaves its arguments as they were. -/
theorem ref_Gain : quiescent_GainReferenceIdeal := by
  intro m g hpre
  hlo_run
  all_goals first
    | exact fun _ => by simp
    | exact sem_eq_zero_of_no_sems (sig := GainReferenceIdeal.sig) (by decide) _

end Cert.Hand

end
-- ==== Proof.Finite.lean ====
/-
  Finite extended reals: what a precondition "the absolute value is below infinity" says of each element, and how
  sums and products of finite elements stay finite and distribute.
-/
module

public import Idealize.ShloMosaic.PureOps.Ideal.Laws
public import Idealize.ShloMosaic.Lib.ReduceAll
public import Idealize.ShloMosaic.Lib.Affine
public import Idealize.ShloMosaic.Lib.Pipeline.ValueKit

@[expose] public section

noncomputable section

open Idealize.ShloMosaic

namespace Cert.Hand

/-- The extended real is a real number. -/
def IsReal (x : EReal) : Prop := ∃ r : ℝ, x = (r : EReal)

theorem ofBits_inf : Ideal.ofBits .f32 0x7F800000#32 = ⊤ := by simp [Ideal.ofBits, Ideal.ieee]

/-- An extended real whose absolute value is below infinity is a real number. -/
theorem isReal_of_abs_lt {x : EReal}
    (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.sub {x y : EReal} : IsReal x → IsReal y → IsReal (x - y) := by
  rintro ⟨a, rfl⟩ ⟨b, rfl⟩; exact ⟨a - b, (EReal.coe_sub a b).symm⟩
theorem IsReal.neg {x : EReal} : IsReal x → IsReal (-x) := by
  rintro ⟨a, rfl⟩; exact ⟨-a, (EReal.coe_neg a).symm⟩
theorem isReal_coe (r : ℝ) : IsReal (r : EReal) := ⟨r, rfl⟩
theorem isReal_zero : IsReal 0 := ⟨0, rfl⟩
theorem isReal_one : IsReal 1 := ⟨1, rfl⟩

theorem isReal_sum {ι : Type*} (s : Finset ι) (f : ι → EReal) (h : ∀ i ∈ s, IsReal (f i)) : IsReal (∑ i ∈ s, f i) := by
  classical
  induction s using Finset.induction_on with
  | empty => exact isReal_zero
  | insert a s ha ih =>
    rw [Finset.sum_insert ha]
    exact (h a (Finset.mem_insert_self a s)).add (ih fun i hi => h i (Finset.mem_insert_of_mem hi))

/-- A sum of real numbers, as an extended real. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The logistic function of any extended real is a real number. -/
theorem isReal_logistic (x : EReal) : IsReal (Ideal.logistic x) := by
  induction x using EReal.rec with
  | bot => simpa using isReal_zero
  | top => simpa using isReal_one
  | coe r => rw [Ideal.logistic_coe]; exact ⟨_, rfl⟩

/-- A real factor distributes over a sum of real numbers. -/
theorem mul_sum_real {ι : Type*} (s : Finset ι) (f : ι → EReal) (c : EReal) (hc : IsReal c) (h : ∀ i ∈ s, IsReal (f i)) :
    c * ∑ i ∈ s, f i = ∑ i ∈ s, c * f i := by
  classical
  obtain ⟨c, rfl⟩ := hc
  induction s using Finset.induction_on with
  | empty => simp
  | insert a s ha ih =>
    have hs := isReal_sum s f fun i hi => h i (Finset.mem_insert_of_mem hi)
    rw [Finset.sum_insert ha, Finset.sum_insert ha, ← ih fun i hi => h i (Finset.mem_insert_of_mem hi)]
    obtain ⟨x, hx⟩ := h a (Finset.mem_insert_self a s)
    obtain ⟨y, hy⟩ := hs
    rw [hx, hy]; norm_cast; ring

/-- A `stablehlo.and` of two flags that is set at an index has both set there. -/
theorem andi_flags {s : Shape} {x y : IVec s 1} {i : s.Idx} (h : andi x y i = 1#1) : x i = 1#1 ∧ y i = 1#1 := by
  have h' : x i &&& y i = 1#1 := h
  revert h'
  generalize x i = a
  generalize y i = b
  revert a b
  decide

end Cert.Hand

end
-- ==== Proof.Swiglu.lean ====
/-
  The gradient through `silu(gate) · up` of the feed-forward branch: the kernel's block of rows equals the
  derivative's rows wherever the cotangent's factors are real numbers.
-/
module

public import proofs.«01_k».proof.Defs
public import proofs.«01_k».proof.Proof.Finite
public import proofs.«01_k».proof.Proof.Gen.SwigluKernelIdeal.Frame
public import proofs.«01_k».proof.Proof.Gen.SwigluReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Hand

instance facts_finite_swi : Pre_finite_swi.Facts := by constructor <;> decide

end Cert.Hand

namespace Cert.SwigluKernelIdeal.Hand

open Cert.SwigluKernelIdeal Cert.SwigluKernelIdeal.Gen Cert.SwigluReferenceIdeal.Read Cert.Hand

variable (m : (ℓ : Loc nD τ sig) → Buf (Elt Ideal) ℓ)

theorem pre (h : Pre_SwigluKernelIdeal_finite_swi m) (c : Dev nD) :
    (∀ i, IsReal (m (c.tc.loc main_arg0) i)) ∧ (∀ i, IsReal (m (c.tc.loc main_arg1) i))
      ∧ ∀ i, IsReal (m (c.tc.loc main_arg3) i) := by
  have h := congrFun (h c) (fun i => i.elim0)
  unfold Pre_finite_swi.fn at h
  obtain ⟨h, h3⟩ := andi_flags h
  obtain ⟨h1, h2⟩ := andi_flags h
  haveI : Subsingleton (Pre_finite_swi.S_).Idx := ⟨fun a b => funext fun i => i.elim0⟩
  exact ⟨fun i => isReal_of_abs_lt (Host.reduce_andi_all _ _ _ _ _ h1 i),
    fun i => isReal_of_abs_lt (Host.reduce_andi_all _ _ _ _ _ h2 i),
    fun i => isReal_of_abs_lt (Host.reduce_andi_all _ _ _ _ _ h3 i)⟩

theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

theorem emb (t : Fin cfg0.N) (y : S256x5632.Idx) :
    ((((cfg0.win 4).blk t).view.emb y) 0).val = t.val * 256 + (y 0).val ∧ ((((cfg0.win 4).blk t).view.emb y) 1).val = (y 1).val := by
  constructor <;> blk_simp [idx t]

theorem r0 (c : Dev nD) (t : Fin cfg0.N) (a : Fin 256) (b : Fin 1024) (k : Fin 4096) (h : k.val = t.val * 256 + a.val) :
    iblk m c 0 t (ix2 a b) = m (c.tc.loc main_arg0) (ix2 k b) := by
  obtain ⟨k, hk⟩ := k
  subst h
  blk_point [iblk, V, idx t]
theorem r1 (c : Dev nD) (t : Fin cfg0.N) (a : Fin 2816) (b : Fin 1024) :
    iblk m c 1 t (ix2 a b) = m (c.tc.loc main_arg1) (ix2 a b) := by
  blk_point [iblk, V, idx t]
theorem r2 (c : Dev nD) (t : Fin cfg0.N) (a : Fin 256) (b : Fin 2816) (k : Fin 4096) (h : k.val = t.val * 256 + a.val) :
    iblk m c 2 t (ix2 a b) = m (c.tc.loc main_arg2) (ix2 k b) := by
  obtain ⟨k, hk⟩ := k
  subst h
  blk_point [iblk, V, idx t]
theorem r3 (c : Dev nD) (t : Fin cfg0.N) (a : Fin 256) (b : Fin 2816) (k : Fin 4096) (h : k.val = t.val * 256 + a.val) :
    iblk m c 3 t (ix2 a b) = m (c.tc.loc main_arg3) (ix2 k b) := by
  obtain ⟨k, hk⟩ := k
  subst h
  blk_point [iblk, V, idx t]

/-- The gradient of silu: a finite cotangent distributes over the two parts of the derivative. -/
theorem silu_grad {a : EReal} (ha : IsReal a) (g : EReal) :
    a * (Ideal.logistic g * (1 + g * (1 - Ideal.logistic g)))
      = a * Ideal.logistic g + g * a * (Ideal.logistic g * (1 - Ideal.logistic g)) := by
  obtain ⟨a, rfl⟩ := ha
  induction g using EReal.rec with
  | bot => simp
  | top =>
    have e : (1 : EReal) - 1 = 0 := by rw [← EReal.coe_one, ← EReal.coe_sub, sub_self, EReal.coe_zero]
    simp [e]
  | coe g =>
    obtain ⟨s, hs⟩ := isReal_logistic (g : EReal)
    rw [hs]
    norm_cast
    ring

theorem point (c : Dev nD) (p : (∀ i, IsReal (m (c.tc.loc main_arg0) i)) ∧ (∀ i, IsReal (m (c.tc.loc main_arg1) i))
      ∧ ∀ i, IsReal (m (c.tc.loc main_arg3) i)) (t : Fin cfg0.N) (y : S256x5632.Idx) (j : S4096x5632.Idx)
    (h0 : (j 0).val = t.val * 256 + (y 0).val) (h1 : (j 1).val = (y 1).val) :
    k0_pay1 (F := Ideal) (iblk m c 0 t) (iblk m c 1 t) (iblk m c 2 t) (iblk m c 3 t) y
      = val_main_v14 (F := Ideal) (m (c.tc.loc main_arg0)) (m (c.tc.loc main_arg1))
        (m (c.tc.loc main_arg2)) (m (c.tc.loc main_arg3)) j := by
  pointwise [k0_pay1, val_main_v0, val_main_v1, val_main_v2, val_main_v3, val_main_v4, val_main_call0_v0, val_main_call0_v1, val_main_call0_cst, val_main_call0_v2, val_main_call0_v3, val_main_call0_cst_0, val_main_call0_v4, val_main_v5_2, val_main_call0_cst_1, val_main_call0_v6, val_main_call0_v7, val_main_v5_1, val_main_v5_0, val_main_v6, val_main_v7, val_main_v8, val_main_v9, val_main_v10, val_main_v11, val_main_call1_v0, val_main_call1_v1, val_main_call1_v2, val_main_v12, val_main_v13, val_main_v14]
  by_cases h : (y 1).val < 2816
  · have h' : (j 1).val < 2816 := by omega
    simp only [h, h', dite_true]
    have e : (⟨(j 1).val, h'⟩ : Fin 2816) = ⟨(y 1).val, h⟩ := Fin.ext h1
    simp only [e, r0 m c t _ _ (j 0) h0, r1 m c t, r2 m c t _ _ (j 0) h0, r3 m c t _ _ (j 0) h0]
    exact silu_grad ((isReal_sum _ _ fun k _ => (p.1 _).mul (p.2.1 _)).mul (p.2.2 _)) _
  · have h' : ¬ (j 1).val < 2816 := by omega
    have l : (y 1).val - 2816 < 2816 := by have := (y 1).isLt; change (y 1).val < 5632 at this; omega
    have l' : (j 1).val - 2816 < 2816 := by omega
    simp only [h, h', l', dite_false, dite_true]
    have e : (⟨(j 1).val - 2816, l'⟩ : Fin 2816) = ⟨(y 1).val - 2816, l⟩ := Fin.ext (by simp only [h1])
    simp only [e, r0 m c t _ _ (j 0) h0, r1 m c t, r2 m c t _ _ (j 0) h0, r3 m c t _ _ (j 0) h0]
    exact mul_comm _ _

theorem final (p : Pre_SwigluKernelIdeal_finite_swi m) (c : Dev nD) :
    (dats m 0 c).arrAt 4 cfg0.N = val_main_v14 (F := Ideal) (m (c.tc.loc main_arg0)) (m (c.tc.loc main_arg1))
        (m (c.tc.loc main_arg2)) (m (c.tc.loc main_arg3)) :=
  (dats m 0 c).arrAt_eq_of_covers 4 _ (by decide +kernel) fun t hf y => by
    rw [after0_4]
    frame_out
    have e := emb t y
    exact point m c (pre m p c) t y _ e.1 e.2

end Cert.SwigluKernelIdeal.Hand

namespace Cert.Hand

/-- The kernel's rows are the derivative of `silu(gate) · up`, taken with the cotangent `dx · w` of the product. -/
theorem Swiglu : algebraic_SwigluKernelIdeal_SwigluReferenceIdeal_pre_finite_swi := by
  pair_intro
  · run_from SwigluKernelIdeal.Gen.run_main m g
  · refine (θ_run _ _ _).mono ?_ (SwigluReferenceIdeal.Value.run m' g')
    intro r h c
    obtain ⟨h, h0, h1, h2, h3⟩ := h c
    obtain ⟨a0, a1, a2, a3⟩ := hagree c
    refine ⟨h.trans ((SwigluReferenceIdeal.Read.val_main_v14_eq m' c).trans ?_), h0, h1, h2, h3⟩
    rw [a0, a1, a2, a3]
    exact (SwigluKernelIdeal.Hand.final m hpre c).symm

/-- The reference runs and leaves its arguments as they were. -/
theorem ref_Swiglu : quiescent_SwigluReferenceIdeal := by
  intro m g hpre
  hlo_run
  all_goals first
    | exact fun _ => by simp
    | exact sem_eq_zero_of_no_sems (sig := SwigluReferenceIdeal.sig) (by decide) _

end Cert.Hand

end
-- ==== Proof.Gates.lean ====
/-
  The gradient through `sigmoid(ga) · a + sigmoid(gb) · b` where the two branches are merged: at every index the
  kernel's four results are the derivative's, up to the order of the factors.
-/
module

public import proofs.«01_k».proof.Proof.Gen.GatesKernelIdeal.Frame
public import proofs.«01_k».proof.Proof.Gen.GatesReferenceIdeal.Read
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.GatesKernelIdeal.Hand

open Cert.GatesKernelIdeal Cert.GatesKernelIdeal.Gen Cert.GatesReferenceIdeal.Read

variable (m : (ℓ : Loc nD τ sig) → Buf (Elt Ideal) ℓ)

/-- The block each window stages at a grid point. -/
theorem idx : ∀ t : Fin cfg0.N, win0_0.index t = ![t.val, 0] ∧ win0_1.index t = ![0, 0] ∧ win0_2.index t = ![t.val, 3]
    ∧ win0_3.index t = ![t.val, 4] ∧ win0_4.index t = ![t.val, 0] ∧ win0_5.index t = ![t.val, 0]
    ∧ win0_6.index t = ![t.val, 0] ∧ win0_7.index t = ![t.val, 0] ∧ win0_8.index t = ![t.val, 0] ∧ win0_9.index t = ![t.val, 0] :=
  (by decide +kernel : ∀ t : Fin grid0.N, _)

theorem point_6 (c : Dev nD) (t : Fin cfg0.N) (y) :
    k0_pay4 (F := Ideal) (iblk m c 0 t) (iblk m c 1 t) (iblk m c 2 t) y
      = val_main_v36 (F := Ideal) (m (c.tc.loc main_arg0)) (m (c.tc.loc main_arg1)) (m (c.tc.loc main_arg2)) (((cfg0.win 6).blk t).view.emb y) := by
  pointwise [k0_pay1, k0_pay2, k0_pay3, k0_pay4, val_main_v0, val_main_v3, val_main_v5, val_main_v6, val_main_v7, val_main_cst, val_main_v8, val_main_v9, val_main_cst_0, val_main_v10, val_main_v11, val_main_v28, val_main_v29, val_main_v33, val_main_v36]
  simp only [Ideal.logistic]
  blk_point [iblk, V, idx t]

theorem final_6 (c : Dev nD) : (dats m 0 c).arrAt 6 (cfgs 0).N = val_main_v36 (F := Ideal) (m (c.tc.loc main_arg0)) (m (c.tc.loc main_arg1)) (m (c.tc.loc main_arg2)) := by
  refine (dats m 0 c).arrAt_eq_of_covers 6 _ (by decide +kernel) fun t hf y => ?_
  blk_simp; rw [after0_6]; frame_out
  exact point_6 m c t y

theorem point_7 (c : Dev nD) (t : Fin cfg0.N) (y) :
    k0_pay5 (F := Ideal) (iblk m c 0 t) (iblk m c 1 t) (iblk m c 3 t) y
      = val_main_v37 (F := Ideal) (m (c.tc.loc main_arg0)) (m (c.tc.loc main_arg1)) (m (c.tc.loc main_arg2)) (((cfg0.win 7).blk t).view.emb y) := by
  pointwise [k0_pay1, k0_pay2, k0_pay3, k0_pay5, val_main_v0, val_main_v4, val_main_v5, val_main_v16, val_main_v17, val_main_cst_2, val_main_v18, val_main_v19, val_main_cst_3, val_main_v20, val_main_v21, val_main_v28, val_main_v29, val_main_v30, val_main_v37]
  simp only [Ideal.logistic]
  blk_point [iblk, V, idx t]

theorem final_7 (c : Dev nD) : (dats m 0 c).arrAt 7 (cfgs 0).N = val_main_v37 (F := Ideal) (m (c.tc.loc main_arg0)) (m (c.tc.loc main_arg1)) (m (c.tc.loc main_arg2)) := by
  refine (dats m 0 c).arrAt_eq_of_covers 7 _ (by decide +kernel) fun t hf y => ?_
  blk_simp; rw [after0_7]; frame_out
  exact point_7 m c t y

theorem point_8 (c : Dev nD) (t : Fin cfg0.N) (y) :
    k0_pay6 (F := Ideal) (iblk m c 0 t) (iblk m c 1 t) (iblk m c 2 t) (iblk m c 4 t) y
      = val_main_v38 (F := Ideal) (m (c.tc.loc main_arg0)) (m (c.tc.loc main_arg1)) (m (c.tc.loc main_arg2)) (m (c.tc.loc main_arg3)) (((cfg0.win 8).blk t).view.emb y) := by
  pointwise [k0_pay1, k0_pay2, k0_pay3, k0_pay6, val_main_v0, val_main_v1, val_main_v3, val_main_v5, val_main_v6, val_main_v7, val_main_cst, val_main_v8, val_main_v9, val_main_cst_0, val_main_v10, val_main_v11, val_main_cst_1, val_main_v12, val_main_v13, val_main_v14, val_main_v28, val_main_v29, val_main_v34, val_main_v35, val_main_v38]
  simp only [Ideal.logistic]
  blk_point [iblk, V, idx t]

theorem final_8 (c : Dev nD) : (dats m 0 c).arrAt 8 (cfgs 0).N = val_main_v38 (F := Ideal) (m (c.tc.loc main_arg0)) (m (c.tc.loc main_arg1)) (m (c.tc.loc main_arg2)) (m (c.tc.loc main_arg3)) := by
  refine (dats m 0 c).arrAt_eq_of_covers 8 _ (by decide +kernel) fun t hf y => ?_
  blk_simp; rw [after0_8]; frame_out
  exact point_8 m c t y

theorem point_9 (c : Dev nD) (t : Fin cfg0.N) (y) :
    k0_pay7 (F := Ideal) (iblk m c 0 t) (iblk m c 1 t) (iblk m c 3 t) (iblk m c 5 t) y
      = val_main_v39 (F := Ideal) (m (c.tc.loc main_arg0)) (m (c.tc.loc main_arg1)) (m (c.tc.loc main_arg2)) (m (c.tc.loc main_arg4)) (((cfg0.win 9).blk t).view.emb y) := by
  pointwise [k0_pay1, k0_pay2, k0_pay3, k0_pay7, val_main_v0, val_main_v2, val_main_v4, val_main_v5, val_main_v16, val_main_v17, val_main_cst_2, val_main_v18, val_main_v19, val_main_cst_3, val_main_v20, val_main_v21, val_main_cst_4, val_main_v22, val_main_v23, val_main_v24, val_main_v28, val_main_v29, val_main_v31, val_main_v32, val_main_v39]
  simp only [Ideal.logistic]
  blk_point [iblk, V, idx t]

theorem final_9 (c : Dev nD) : (dats m 0 c).arrAt 9 (cfgs 0).N = val_main_v39 (F := Ideal) (m (c.tc.loc main_arg0)) (m (c.tc.loc main_arg1)) (m (c.tc.loc main_arg2)) (m (c.tc.loc main_arg4)) := by
  refine (dats m 0 c).arrAt_eq_of_covers 9 _ (by decide +kernel) fun t hf y => ?_
  blk_simp; rw [after0_9]; frame_out
  exact point_9 m c t y

end Cert.GatesKernelIdeal.Hand

namespace Cert.Hand

/-- The kernel’s four results are the gradients of the two branches and of the two gates. -/
theorem Gates : algebraic_GatesKernelIdeal_GatesReferenceIdeal := by
  pair_intro
  · run_from GatesKernelIdeal.Gen.run_main m g
  · refine (θ_run _ _ _).mono ?_ (GatesReferenceIdeal.Value.run m' g')
    intro r h c
    obtain ⟨r0, r1, r2, r3, h0, h1, h2, h3, h4⟩ := h c
    obtain ⟨a0, a1, a2, a3, a4⟩ := hagree c
    refine ⟨r0.trans ((GatesReferenceIdeal.Read.val_main_v36_eq _ _ _).trans ?_), r1.trans ((GatesReferenceIdeal.Read.val_main_v37_eq _ _ _).trans ?_), r2.trans ((GatesReferenceIdeal.Read.val_main_v38_eq _ _ _ _).trans ?_), r3.trans ((GatesReferenceIdeal.Read.val_main_v39_eq _ _ _ _).trans ?_), h0, h1, h2, h3, h4⟩
    · rw [a0, a1, a2]
      exact (GatesKernelIdeal.Hand.final_6 m c).symm
    · rw [a0, a1, a2]
      exact (GatesKernelIdeal.Hand.final_7 m c).symm
    · rw [a0, a1, a2, a3]
      exact (GatesKernelIdeal.Hand.final_8 m c).symm
    · rw [a0, a1, a2, a4]
      exact (GatesKernelIdeal.Hand.final_9 m c).symm

/-- The reference runs and leaves its arguments as they were. -/
theorem ref_Gates : quiescent_GatesReferenceIdeal := by
  intro m g hpre
  hlo_run
  all_goals first
    | exact fun _ => by simp
    | exact sem_eq_zero_of_no_sems (sig := GatesReferenceIdeal.sig) (by decide) _

end Cert.Hand

end
-- ==== Proof.Conv.lean ====
/-
  The gradient of the gated three-tap causal convolution: the rows the kernel rotates and masks are the shifted
  rows of the derivative, and the gradient of each tap is the same sum over the sequence.
-/
module

public import proofs.«01_k».proof.Proof.Gen.ConvKernelIdeal.Frame
public import proofs.«01_k».proof.Proof.Gen.ConvReferenceIdeal.Read
public import Idealize.ShloMosaic.Lib.Pipeline.ValueKit
public import Idealize.ShloMosaic.Lib.Claim
public import proofs.«01_k».proof.Defs
public import Idealize.ShloMosaic.Lib.WordCmp
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ConvKernelIdeal.Hand

open Cert.ConvKernelIdeal Cert.ConvKernelIdeal.Gen Cert.ConvReferenceIdeal.Read

variable (m : (ℓ : Loc nD τ sig) → Buf (Elt Ideal) ℓ)

/-- The block each window stages at a grid point. -/
theorem idx : ∀ t : Fin cfg0.N, win0_0.index t = ![0, 12 + t.val]
    ∧ win0_1.index t = ![0, 16 + t.val]
    ∧ win0_2.index t = ![0, 20 + t.val]
    ∧ win0_3.index t = ![0, t.val]
    ∧ win0_4.index t = ![0, t.val]
    ∧ win0_5.index t = ![0, t.val]
    ∧ win0_6.index t = ![0, t.val]
    ∧ win0_7.index t = ![0, t.val]
    ∧ win0_8.index t = ![0, t.val] :=
  (by decide +kernel : ∀ t : Fin grid0.N, _)

theorem t_lt (t : Fin cfg0.N) : t.val < 4 := t.isLt

/-- Column `b` of the block at point `t`, as a column of the 512 channels. -/
def col (t : Fin cfg0.N) (b : Fin 128) : Fin 512 := ⟨t.val * 128 + b.val, by have := t_lt t; omega⟩

theorem sel_sge {α : Type} (n k : Nat) (a b : α) (hn : n < 2 ^ 31) (hk : k < 2 ^ 31) :
    Scalar.select (IntOp.cmpi .sge (BitVec.ofNat 32 n) (BitVec.ofNat 32 k)) a b = if k ≤ n then a else b := by
  rw [WordCmp.cmpi_sge_ofNat hn hk]
  by_cases h : k ≤ n <;> simp [Scalar.select, h]

theorem sel_slt {α : Type} (n k : Nat) (a b : α) (hn : n < 2 ^ 31) (hk : k < 2 ^ 31) :
    Scalar.select (IntOp.cmpi .slt (BitVec.ofNat 32 n) (BitVec.ofNat 32 k)) a b = if n < k then a else b := by
  rw [WordCmp.cmpi_slt_ofNat hn hk]
  by_cases h : n < k <;> simp [Scalar.select, h]

theorem sel_eq {α : Type} (n k : Nat) (a b : α) (hn : n < 2 ^ 32) (hk : k < 2 ^ 32) :
    Scalar.select (IntOp.cmpi .eq (BitVec.ofNat 32 n) (BitVec.ofNat 32 k)) a b = if n = k then a else b := by
  rw [WordCmp.cmpi_eq_ofNat hn hk]
  by_cases h : n = k <;> simp [Scalar.select, h]

/-- Rotated by `4096 - s` rows, row `r` holds row `r + s`. -/
theorem rot_up (s : Nat) (hs : 0 < s ∧ s < 4096) (x : FVec Ideal S4096x128 .f32) (h : S4096x128.Rotates 0 none) :
    dynamicRotate 0 (BitVec.ofNat 32 (4096 - s)) none x h
      = fun y => x (ix2 (⟨((y 0).val + s) % 4096, Nat.mod_lt _ (by omega)⟩ : Fin 4096) (y 1)) := by
  funext y
  refine dynamicRotate_apply (0 : Fin 2) _ x h y _ ?_
  intro b
  have hy : (y 0).val < 4096 := (y 0).isLt
  match b with
  | ⟨0, _⟩ =>
    show ((y 0).val + s) % 4096 = ((y 0).val + 4096 - (BitVec.ofNat 32 (4096 - s)).toNat % 4096) % 4096
    rw [BitVec.toNat_ofNat]
    omega
  | ⟨1, _⟩ => rfl

/-- The gradient of the gated input at a row: tap 2 of the row, tap 1 of the next row, tap 0 of the row after that. -/
theorem pay12 (v7 : FVec Ideal S8x128 .f32) (v37 v39 : FVec Ideal S4096x128 .f32) (y : S4096x128.Idx) :
    k0_pay12 (F := Ideal) v7 v37 v39 y
      = (v39 y * v37 y
          + v7 (ix2 (1 : Fin 8) (y 1)) * (if h : (y 0).val + 1 < 4096 then v37 (ix2 (⟨(y 0).val + 1, h⟩ : Fin 4096) (y 1)) else 0))
        + v7 (ix2 (0 : Fin 8) (y 1)) * (if h : (y 0).val + 2 < 4096 then v37 (ix2 (⟨(y 0).val + 2, h⟩ : Fin 4096) (y 1)) else 0) := by
  have hy : (y 0).val < 4096 := (y 0).isLt
  have r1 := rot_up 1 (by omega) v37 rotates_S4096x128_d0
  have r2 := rot_up 2 (by omega) v37 rotates_S4096x128_d0
  simp only [Nat.reduceSub] at r1 r2
  unfold k0_pay12
  simp only [r1, r2]
  pointwise
  rw [sel_slt _ _ _ _ (by omega) (by omega), sel_slt _ _ _ _ (by omega) (by omega)]
  congr 2
  · congr 1
    by_cases h : (y 0).val + 1 < 4096
    · rw [if_pos (by omega), dif_pos h]
      have e : (⟨((y 0).val + 1) % 4096, Nat.mod_lt _ (by omega)⟩ : Fin 4096) = ⟨(y 0).val + 1, h⟩ := Fin.ext (Nat.mod_eq_of_lt h)
      rw [e]
    · rw [if_neg (by omega), dif_neg h, mul_zero]
  · by_cases h : (y 0).val + 2 < 4096
    · rw [if_pos (by omega), dif_pos h]
      have e : (⟨((y 0).val + 2) % 4096, Nat.mod_lt _ (by omega)⟩ : Fin 4096) = ⟨(y 0).val + 2, h⟩ := Fin.ext (Nat.mod_eq_of_lt h)
      rw [e]
    · rw [if_neg (by omega), dif_neg h, mul_zero]

theorem r0 (c : Dev nD) (t : Fin cfg0.N) (z : S4096x128.Idx) : iblk m c 0 t z
    = (m (c.tc.loc main_arg0)) (ix2 (z 0) (⟨1536 + (col t (z 1)).val, by have := (col t (z 1)).isLt; omega⟩ : Fin 5120)) := by
  unfold col
  blk_point [iblk, V, idx t]
theorem r1 (c : Dev nD) (t : Fin cfg0.N) (z : S4096x128.Idx) : iblk m c 1 t z
    = (m (c.tc.loc main_arg0)) (ix2 (z 0) (⟨2048 + (col t (z 1)).val, by have := (col t (z 1)).isLt; omega⟩ : Fin 5120)) := by
  unfold col
  blk_point [iblk, V, idx t]
theorem r2 (c : Dev nD) (t : Fin cfg0.N) (z : S4096x128.Idx) : iblk m c 2 t z
    = (m (c.tc.loc main_arg0)) (ix2 (z 0) (⟨2560 + (col t (z 1)).val, by have := (col t (z 1)).isLt; omega⟩ : Fin 5120)) := by
  unfold col
  blk_point [iblk, V, idx t]
theorem r4 (c : Dev nD) (t : Fin cfg0.N) (z : S4096x128.Idx) : iblk m c 4 t z = (m (c.tc.loc main_arg2)) (ix2 (z 0) (col t (z 1))) := by
  unfold col
  blk_point [iblk, V, idx t]
/-- The taps as the kernel stages them: three rows of taps, five rows of zeros. -/
theorem V_taps (c : Dev nD) : V m c main_v0
    = pad (s := S3x512) (α := EReal) S8x512 ![0, 0] ![5, 0] ![0, 0] (m (c.tc.loc main_arg1)) (sitofp (F := Ideal) .f32 (constantI S_ 32 0#32)) pads_S3x512_S8x512_050_000 h_S_ := by
  simp only [V, hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results

theorem r3 (c : Dev nD) (t : Fin cfg0.N) (a : Fin 8) (b : Fin 128) (h : a.val < 3) :
    iblk m c 3 t (ix2 a b) = (m (c.tc.loc main_arg1)) (ix2 (⟨a.val, h⟩ : Fin 3) (col t b)) := by
  have e : ((win0_3.blk t).view.emb (ix2 a b)) = ix2 a (col t b) := by
    unfold col
    blk_ext [idx t]
  refine (show iblk m c 3 t (ix2 a b) = V m c main_v0 ((win0_3.blk t).view.emb (ix2 a b)) from rfl).trans ?_
  rw [V_taps, e]
  exact pad_apply_of_inside _ _ _ _ _ _ _ _ _ (fun k => by match k with | ⟨0, _⟩ => simp | ⟨1, _⟩ => simp)

theorem r3_0 (c : Dev nD) (t : Fin cfg0.N) (b : Fin 128) :
    iblk m c 3 t (ix2 (0 : Fin 8) b) = ((m (c.tc.loc main_arg1)) : FVec Ideal S3x512 .f32) (ix2 (0 : Fin 3) (col t b)) := r3 m c t 0 b (by decide)

theorem r3_1 (c : Dev nD) (t : Fin cfg0.N) (b : Fin 128) :
    iblk m c 3 t (ix2 (1 : Fin 8) b) = ((m (c.tc.loc main_arg1)) : FVec Ideal S3x512 .f32) (ix2 (1 : Fin 3) (col t b)) := r3 m c t 1 b (by decide)

theorem r3_2 (c : Dev nD) (t : Fin cfg0.N) (b : Fin 128) :
    iblk m c 3 t (ix2 (2 : Fin 8) b) = ((m (c.tc.loc main_arg1)) : FVec Ideal S3x512 .f32) (ix2 (2 : Fin 3) (col t b)) := r3 m c t 2 b (by decide)

/-- Tap by tap, with the factors of the cotangent in either order. -/
theorem dcu_eq (w : Fin 3 → EReal) (D G : Fin 4096 → EReal) (k : Fin 4096) :
    (w 2 * (D k * G k) + w 1 * if h : k.val + 1 < 4096 then D ⟨k.val + 1, h⟩ * G ⟨k.val + 1, h⟩ else 0)
        + w 0 * (if h : k.val + 2 < 4096 then D ⟨k.val + 2, h⟩ * G ⟨k.val + 2, h⟩ else 0)
      = (w 2 * (G k * D k)
          + if h : 1 ≤ 2 + k.val ∧ 2 + k.val - 1 < 4096 then w 1 * (G ⟨2 + k.val - 1, h.2⟩ * D ⟨2 + k.val - 1, h.2⟩) else 0)
        + if h : 2 + k.val < 4096 then w 0 * (G ⟨2 + k.val, h⟩ * D ⟨2 + k.val, h⟩) else 0 := by
  congr 2
  · exact congrArg _ (mul_comm _ _)
  · by_cases h : k.val + 1 < 4096
    · rw [dif_pos h, dif_pos ⟨by omega, by omega⟩]
      have e : (⟨2 + k.val - 1, by omega⟩ : Fin 4096) = ⟨k.val + 1, h⟩ := Fin.ext (by simp only []; omega)
      rw [e, mul_comm (D _)]
    · rw [dif_neg h, dif_neg (by omega), mul_zero]
  · by_cases h : k.val + 2 < 4096
    · rw [dif_pos h, dif_pos (by omega)]
      have e : (⟨2 + k.val, by omega⟩ : Fin 4096) = ⟨k.val + 2, h⟩ := Fin.ext (by simp only []; omega)
      rw [e, mul_comm (D _)]
    · rw [dif_neg h, dif_neg (by omega), mul_zero]

/-- Tap 1: the row before, zero before the first row. -/
theorem tap1_eq (D G C U : Fin 4096 → EReal) :
    (∑ x : Fin 4096, if 1 ≤ x.val then D x * G x * (C ⟨(x.val + 4096 - 1) % 4096, Nat.mod_lt _ (by omega)⟩
        * U ⟨(x.val + 4096 - 1) % 4096, Nat.mod_lt _ (by omega)⟩) else 0)
      = ∑ x : Fin 4096, G x * D x * (if h : 1 + x.val < 2 then 0 else
          C ⟨1 + x.val - 2, by omega⟩ * U ⟨1 + x.val - 2, by omega⟩) := by
  refine Finset.sum_congr rfl fun x _ => ?_
  by_cases h : 1 ≤ x.val
  · rw [if_pos h, dif_neg (by omega), mul_comm (D x)]
    have e : (⟨(x.val + 4096 - 1) % 4096, Nat.mod_lt _ (by omega)⟩ : Fin 4096) = ⟨1 + x.val - 2, by omega⟩ :=
      Fin.ext (by simp only []; omega)
    rw [e]
  · rw [if_neg h, dif_pos (by omega), mul_zero]

/-- Tap 0: two rows before, zero before the first row. -/
theorem tap0_eq (D G C U : Fin 4096 → EReal) :
    (∑ x : Fin 4096, if 2 ≤ x.val then D x * G x * (C ⟨(x.val + 4096 - 2) % 4096, Nat.mod_lt _ (by omega)⟩
        * U ⟨(x.val + 4096 - 2) % 4096, Nat.mod_lt _ (by omega)⟩) else 0)
      = (∑ x : Fin 2, G ⟨x.val, by omega⟩ * D ⟨x.val, by omega⟩ * 0)
        + ∑ x : Fin 4094, G ⟨2 + x.val, by omega⟩ * D ⟨2 + x.val, by omega⟩ * (C ⟨x.val, by omega⟩ * U ⟨x.val, by omega⟩) := by
  refine (Fin.sum_univ_add (a := 2) (b := 4094) _).trans ?_
  congr 1
  · refine Finset.sum_congr rfl fun x _ => ?_
    rw [mul_zero]
    exact if_neg (by have := x.isLt; simp only [Fin.val_castAdd]; omega)
  · refine Finset.sum_congr rfl fun x _ => ?_
    have hx := x.isLt
    refine (if_pos (by simp only [Fin.val_natAdd]; omega)).trans ?_
    have e : (⟨((Fin.natAdd 2 x).val + 4096 - 2) % 4096, Nat.mod_lt _ (by omega)⟩ : Fin 4096) = ⟨x.val, by omega⟩ :=
      Fin.ext (by simp only [Fin.val_natAdd]; omega)
    rw [e, mul_comm (D _)]
    rfl

theorem point_6 (c : Dev nD) (t : Fin cfg0.N) (y : S4096x128.Idx) :
    k0_pay9 (iblk m c 0 t) (iblk m c 2 t) (iblk m c 4 t) (iblk m c 3 t) y
      = val_main_v68 (F := Ideal) (m (c.tc.loc main_arg0)) (m (c.tc.loc main_arg1)) (m (c.tc.loc main_arg2)) (ix2 (y 0) (col t (y 1))) := by
  pointwise [k0_pay2, k0_pay3, k0_pay4, k0_pay5, k0_pay6, k0_pay7, k0_pay8, k0_pay9, k0_pay10, k0_pay11, k0_pay13, k0_pay14, val_main_v0, val_main_v1, val_main_v3, val_main_v4, val_main_cst, val_main_v5, val_main_v6, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v29, val_main_v31, val_main_v68]
  simp only [r0, r1, r2, r4, ix2_0, ix2_1]
  rw [r3_0 m c t (y 1), r3_1 m c t (y 1), r3_2 m c t (y 1)]
  have hy : (y 0).val < 4096 := (y 0).isLt
  rw [sel_sge _ _ _ _ (by omega) (by omega), sel_sge _ _ _ _ (by omega) (by omega)]
  congr 3
  · by_cases h : 2 ≤ (y 0).val
    · rw [if_pos h, dif_neg (by omega)]
      have e : (⟨((y 0).val + 4096 - 2) % 4096, Nat.mod_lt _ (by omega)⟩ : Fin 4096) = ⟨(y 0).val - 2, by omega⟩ :=
        Fin.ext (by simp only []; omega)
      rw [e]; rfl
    · rw [if_neg h, dif_pos (by omega), mul_zero]
  · by_cases h : 1 ≤ (y 0).val
    · rw [if_pos h, dif_neg (by omega)]
      have e : (⟨((y 0).val + 4096 - 1) % 4096, Nat.mod_lt _ (by omega)⟩ : Fin 4096) = ⟨1 + (y 0).val - 2, by omega⟩ :=
        Fin.ext (by simp only []; omega)
      rw [e]; rfl
    · rw [if_neg h, dif_pos (by omega), mul_zero]

theorem emb_6 (t : Fin cfg0.N) (y : S4096x128.Idx) : ((cfg0.win 6).blk t).view.emb y = ix2 (y 0) (col t (y 1)) := by
  unfold col
  blk_ext [idx t]

theorem final_6 (c : Dev nD) : (dats m 0 c).arrAt 6 (cfgs 0).N = val_main_v68 (F := Ideal) (m (c.tc.loc main_arg0)) (m (c.tc.loc main_arg1)) (m (c.tc.loc main_arg2)) := by
  refine (dats m 0 c).arrAt_eq_of_covers 6 _ (by decide +kernel) fun t hf y => ?_
  rw [after0_6]; frame_out
  exact (point_6 m c t y).trans (congrArg _ (emb_6 t y).symm)

theorem point_5 (c : Dev nD) (t : Fin cfg0.N) (y : S4096x128.Idx) :
    k0_pay14 (k0_pay3 (iblk m c 2 t)) (k0_pay18 (iblk m c 0 t) (iblk m c 1 t) (iblk m c 2 t) (iblk m c 3 t) (iblk m c 4 t)) (k0_pay19 (iblk m c 0 t) (iblk m c 1 t) (iblk m c 2 t) (iblk m c 3 t) (iblk m c 4 t)) (k0_pay20 (iblk m c 0 t) (iblk m c 1 t) (iblk m c 2 t) (iblk m c 3 t) (iblk m c 4 t)) y
      = val_main_v67 (F := Ideal) (m (c.tc.loc main_arg0)) (m (c.tc.loc main_arg1)) (m (c.tc.loc main_arg2)) (ix2 (y 0) (col t (y 1))) := by
  pointwise [k0_pay2, k0_pay3, k0_pay4, k0_pay5, k0_pay6, k0_pay7, k0_pay8, k0_pay9, k0_pay10, k0_pay11, k0_pay13, k0_pay14, k0_pay18, k0_pay19, k0_pay20, val_main_v0, val_main_v2, val_main_v3, val_main_v8, val_main_v9, val_main_v11, val_main_v14, val_main_v15, val_main_v17, val_main_v21, val_main_v22, val_main_v24, val_main_v29, val_main_v30, val_main_v32, val_main_v33, val_main_cst_3, val_main_v38, val_main_v41, val_main_v42, val_main_cst_7, val_main_v47, val_main_v48, val_main_v52, val_main_v53, val_main_cst_11, val_main_v58, val_main_v59, val_main_v64, val_main_v65, val_main_v67]
  rw [pay12]
  pointwise [k0_pay1, k0_pay2, k0_pay3, k0_pay4, k0_pay5, k0_pay6, k0_pay7, k0_pay8, k0_pay9, k0_pay10, k0_pay11, k0_pay13, k0_pay14, k0_pay15, k0_pay16, k0_pay17, k0_pay18, k0_pay19, k0_pay20]
  simp only [r0, r1, r2, r4, ix2_0, ix2_1]
  rw [r3_0 m c t (y 1), r3_1 m c t (y 1), r3_2 m c t (y 1)]
  rw [mul_comm]
  congr 1
  exact (dcu_eq (fun i => (m (c.tc.loc main_arg1)) (ix2 i (col t (y 1)))) (fun i => (m (c.tc.loc main_arg2)) (ix2 i (col t (y 1)))) (fun i => (m (c.tc.loc main_arg0)) (ix2 i (⟨2048 + (col t (y 1)).val, by have := (col t (y 1)).isLt; omega⟩ : Fin 5120))) (y 0))

theorem emb_5 (t : Fin cfg0.N) (y : S4096x128.Idx) : ((cfg0.win 5).blk t).view.emb y = ix2 (y 0) (col t (y 1)) := by
  unfold col
  blk_ext [idx t]

theorem final_5 (c : Dev nD) : (dats m 0 c).arrAt 5 (cfgs 0).N = val_main_v67 (F := Ideal) (m (c.tc.loc main_arg0)) (m (c.tc.loc main_arg1)) (m (c.tc.loc main_arg2)) := by
  refine (dats m 0 c).arrAt_eq_of_covers 5 _ (by decide +kernel) fun t hf y => ?_
  rw [after0_5]; frame_out
  exact (point_5 m c t y).trans (congrArg _ (emb_5 t y).symm)

theorem point_7 (c : Dev nD) (t : Fin cfg0.N) (y : S4096x128.Idx) :
    k0_pay13 (k0_pay2 (iblk m c 0 t)) (k0_pay18 (iblk m c 0 t) (iblk m c 1 t) (iblk m c 2 t) (iblk m c 3 t) (iblk m c 4 t)) (k0_pay19 (iblk m c 0 t) (iblk m c 1 t) (iblk m c 2 t) (iblk m c 3 t) (iblk m c 4 t)) (k0_pay20 (iblk m c 0 t) (iblk m c 1 t) (iblk m c 2 t) (iblk m c 3 t) (iblk m c 4 t)) y
      = val_main_v69 (F := Ideal) (m (c.tc.loc main_arg0)) (m (c.tc.loc main_arg1)) (m (c.tc.loc main_arg2)) (ix2 (y 0) (col t (y 1))) := by
  pointwise [k0_pay2, k0_pay3, k0_pay4, k0_pay5, k0_pay6, k0_pay7, k0_pay8, k0_pay9, k0_pay10, k0_pay11, k0_pay13, k0_pay14, k0_pay18, k0_pay19, k0_pay20, val_main_v0, val_main_v1, val_main_v2, val_main_v8, val_main_v9, val_main_v11, val_main_v14, val_main_v15, val_main_v17, val_main_v21, val_main_v22, val_main_v24, val_main_v29, val_main_v30, val_main_v32, val_main_v33, val_main_cst_3, val_main_v38, val_main_v41, val_main_v42, val_main_cst_7, val_main_v47, val_main_v48, val_main_v52, val_main_v53, val_main_cst_11, val_main_v58, val_main_v59, val_main_v64, val_main_v66, val_main_v69]
  rw [pay12]
  pointwise [k0_pay1, k0_pay2, k0_pay3, k0_pay4, k0_pay5, k0_pay6, k0_pay7, k0_pay8, k0_pay9, k0_pay10, k0_pay11, k0_pay13, k0_pay14, k0_pay15, k0_pay16, k0_pay17, k0_pay18, k0_pay19, k0_pay20]
  simp only [r0, r1, r2, r4, ix2_0, ix2_1]
  rw [r3_0 m c t (y 1), r3_1 m c t (y 1), r3_2 m c t (y 1)]
  congr 1
  exact (dcu_eq (fun i => (m (c.tc.loc main_arg1)) (ix2 i (col t (y 1)))) (fun i => (m (c.tc.loc main_arg2)) (ix2 i (col t (y 1)))) (fun i => (m (c.tc.loc main_arg0)) (ix2 i (⟨2048 + (col t (y 1)).val, by have := (col t (y 1)).isLt; omega⟩ : Fin 5120))) (y 0))

theorem emb_7 (t : Fin cfg0.N) (y : S4096x128.Idx) : ((cfg0.win 7).blk t).view.emb y = ix2 (y 0) (col t (y 1)) := by
  unfold col
  blk_ext [idx t]

theorem final_7 (c : Dev nD) : (dats m 0 c).arrAt 7 (cfgs 0).N = val_main_v69 (F := Ideal) (m (c.tc.loc main_arg0)) (m (c.tc.loc main_arg1)) (m (c.tc.loc main_arg2)) := by
  refine (dats m 0 c).arrAt_eq_of_covers 7 _ (by decide +kernel) fun t hf y => ?_
  rw [after0_7]; frame_out
  exact (point_7 m c t y).trans (congrArg _ (emb_7 t y).symm)

theorem point_8 (c : Dev nD) (t : Fin cfg0.N) (y : S8x128.Idx) :
    k0_pay1 (k0_pay6 (iblk m c 0 t) (iblk m c 2 t)) (k0_pay19 (iblk m c 0 t) (iblk m c 1 t) (iblk m c 2 t) (iblk m c 3 t) (iblk m c 4 t)) (iota .tc S8x128 32 [0] iota_S8x128_d0_w32) (k0_pay15 (k0_pay8 (iblk m c 0 t) (iblk m c 2 t)) (k0_pay19 (iblk m c 0 t) (iblk m c 1 t) (iblk m c 2 t) (iblk m c 3 t) (iblk m c 4 t))) k0_pay16 (k0_pay17 (k0_pay7 (iblk m c 0 t) (iblk m c 2 t)) (k0_pay19 (iblk m c 0 t) (iblk m c 1 t) (iblk m c 2 t) (iblk m c 3 t) (iblk m c 4 t))) y
      = val_main_v70 (F := Ideal) (m (c.tc.loc main_arg0)) (m (c.tc.loc main_arg2)) (ix2 (y 0) (col t (y 1))) := by
  pointwise [k0_pay1, k0_pay2, k0_pay3, k0_pay4, k0_pay5, k0_pay6, k0_pay7, k0_pay8, k0_pay9, k0_pay10, k0_pay11, k0_pay13, k0_pay14, k0_pay15, k0_pay16, k0_pay17, k0_pay19, val_main_v0, val_main_v1, val_main_v2, val_main_v3, val_main_v4, val_main_cst, val_main_v5, val_main_v6, val_main_v10, val_main_v16, val_main_v23, val_main_v29, val_main_v30, val_main_v34, val_main_cst_1, val_main_v35, val_main_v36, val_main_cst_2, val_main_v37, val_main_v39, val_main_cst_4, val_main_v40, val_main_v43, val_main_cst_5, val_main_v44, val_main_v45, val_main_cst_6, val_main_v46, val_main_v49, val_main_cst_8, val_main_v50, val_main_v51, val_main_v54, val_main_cst_9, val_main_v55, val_main_v56, val_main_cst_10, val_main_v57, val_main_v60, val_main_cst_12, val_main_v61, val_main_v62, val_main_c, val_main_call0_v0, val_main_v70]
  simp only [r0, r1, r2, r4, ix2_0, ix2_1]
  have hy : (y 0).val < 8 := (y 0).isLt
  have hs (n k : Nat) (hn : n < 4096) (hk : k < 4096) (a b : EReal) := sel_sge n k a b (by omega) (by omega)
  rw [sel_eq _ _ _ _ (by omega) (by omega), sel_eq _ _ _ _ (by omega) (by omega), sel_eq _ _ _ _ (by omega) (by omega)]
  simp only [fun x : Fin 4096 => hs x.val 1 x.isLt (by omega), fun x : Fin 4096 => hs x.val 2 x.isLt (by omega)]
  rcases (by omega : (y 0).val = 0 ∨ (y 0).val = 1 ∨ (y 0).val = 2 ∨ 3 ≤ (y 0).val) with h | h | h | h
  · rw [if_neg (by omega), if_neg (by omega), if_pos h, dif_pos (by omega), dif_neg (by omega), dif_neg (by omega), dif_pos (by omega)]
    exact (tap0_eq (fun i => (m (c.tc.loc main_arg2)) (ix2 i (col t (y 1)))) (fun i => (m (c.tc.loc main_arg0)) (ix2 i (⟨2048 + (col t (y 1)).val, by have := (col t (y 1)).isLt; omega⟩ : Fin 5120))) (fun i => (m (c.tc.loc main_arg0)) (ix2 i (⟨2560 + (col t (y 1)).val, by have := (col t (y 1)).isLt; omega⟩ : Fin 5120))) (fun i => (m (c.tc.loc main_arg0)) (ix2 i (⟨1536 + (col t (y 1)).val, by have := (col t (y 1)).isLt; omega⟩ : Fin 5120)))).trans ((by simp : ∀ a : EReal, a = 0 + 0 + ∑ _x : Fin 1, a) _)
  · rw [if_neg (by omega), if_pos h, dif_pos (by omega), dif_neg (by omega), dif_pos (by omega), dif_neg (by omega)]
    exact (tap1_eq (fun i => (m (c.tc.loc main_arg2)) (ix2 i (col t (y 1)))) (fun i => (m (c.tc.loc main_arg0)) (ix2 i (⟨2048 + (col t (y 1)).val, by have := (col t (y 1)).isLt; omega⟩ : Fin 5120))) (fun i => (m (c.tc.loc main_arg0)) (ix2 i (⟨2560 + (col t (y 1)).val, by have := (col t (y 1)).isLt; omega⟩ : Fin 5120))) (fun i => (m (c.tc.loc main_arg0)) (ix2 i (⟨1536 + (col t (y 1)).val, by have := (col t (y 1)).isLt; omega⟩ : Fin 5120)))).trans ((by simp : ∀ a : EReal, a = 0 + (∑ _x : Fin 1, a) + 0) _)
  · rw [if_pos h, dif_pos (by omega), dif_pos (by omega), dif_neg (by omega), dif_neg (by omega)]
    refine Eq.trans ?_ ((by simp : ∀ a : EReal, a = (∑ _x : Fin 1, a) + 0 + 0) _)
    refine Finset.sum_congr rfl fun x _ => ?_
    congr 1
    exact mul_comm _ _
  · rw [if_neg (by omega), if_neg (by omega), if_neg (by omega), dif_neg (by omega)]
    show (0 : EReal) = (((0#32).toInt : ℝ) : EReal)
    simp

theorem emb_8 (t : Fin cfg0.N) (y : S8x128.Idx) : ((cfg0.win 8).blk t).view.emb y = ix2 (y 0) (col t (y 1)) := by
  unfold col
  blk_ext [idx t]

theorem final_8 (c : Dev nD) : (dats m 0 c).arrAt 8 (cfgs 0).N = val_main_v70 (F := Ideal) (m (c.tc.loc main_arg0)) (m (c.tc.loc main_arg2)) := by
  refine (dats m 0 c).arrAt_eq_of_covers 8 _ (by decide +kernel) fun t hf y => ?_
  rw [after0_8]; frame_out
  exact (point_8 m c t y).trans (congrArg _ (emb_8 t y).symm)

end Cert.ConvKernelIdeal.Hand

namespace Cert.Hand

/-- The kernel’s four results are the gradients of the convolved input, of the two gates and of the taps. -/
theorem Conv : algebraic_ConvKernelIdeal_ConvReferenceIdeal := by
  pair_intro
  · run_from ConvKernelIdeal.Gen.run_main m g
    exact ConvKernelIdeal.Gen.V_main_arg1 m _
  · refine (θ_run _ _ _).mono ?_ (ConvReferenceIdeal.Value.run m' g')
    intro r h c
    obtain ⟨r0, r1, r2, r3, h0, h1, h2⟩ := h c
    obtain ⟨a0, a1, a2⟩ := hagree c
    refine ⟨r0.trans ((ConvReferenceIdeal.Read.val_main_v67_eq _ _ _).trans ?_), r1.trans ((ConvReferenceIdeal.Read.val_main_v68_eq _ _ _).trans ?_), r2.trans ((ConvReferenceIdeal.Read.val_main_v69_eq _ _ _).trans ?_), r3.trans ((ConvReferenceIdeal.Read.val_main_v70_eq _ _).trans ?_), h0, h1, h2⟩
    · rw [a0, a1, a2]
      exact (ConvKernelIdeal.Hand.final_5 m c).symm
    · rw [a0, a1, a2]
      exact (ConvKernelIdeal.Hand.final_6 m c).symm
    · rw [a0, a1, a2]
      exact (ConvKernelIdeal.Hand.final_7 m c).symm
    · rw [a0, a2]
      exact (ConvKernelIdeal.Hand.final_8 m c).symm

/-- The reference runs and leaves its arguments as they were. -/
theorem ref_Conv : quiescent_ConvReferenceIdeal := by
  intro m g hpre
  hlo_run
  all_goals first
    | exact fun _ => by simp
    | exact sem_eq_zero_of_no_sems (sig := ConvReferenceIdeal.sig) (by decide) _

end Cert.Hand

end
-- ==== Proof.Softmax.lean ====
/-
  Softmax of a row of real scores, and its derivative in the two forms the programs write.
-/
module

public import proofs.«01_k».proof.Proof.Finite

@[expose] public section

noncomputable section

open Idealize.ShloMosaic

namespace Cert.Hand

variable {n : Nat}

theorem ofBits_ninf : Ideal.ofBits .f32 0xFF800000#32 = ⊥ := by simp [Ideal.ofBits, Ideal.ieee]
theorem ofBits_sixteen : Ideal.ofBits .f32 0x41800000#32 = ((16 : ℝ) : EReal) := by
  simp [Ideal.ofBits, Ideal.ieee]; rw [← EReal.coe_mul]; congr 1; norm_num
theorem ofBits_sixteenth : Ideal.ofBits .f32 0x3D800000#32 = ((1 / 16 : ℝ) : EReal) := by
  simp [Ideal.ofBits, Ideal.ieee]; rw [← EReal.coe_mul]; congr 1; norm_num

/-- The largest entry of a row. -/
def rowMax (s : Fin n → EReal) : EReal := Finset.fold max (Ideal.ofBits .f32 0xFF800000#32) s Finset.univ
/-- The exponential of an entry's distance to the largest. -/
def rowExp (s : Fin n → EReal) (j : Fin n) : EReal := Ideal.exp (s j - rowMax s)
def rowSum (s : Fin n → EReal) : EReal := ∑ k, rowExp s k

theorem max_rowMax (s : Fin n → EReal) : max (Ideal.ofBits .f32 0xFF800000#32) (rowMax s) = rowMax s := by
  rw [ofBits_ninf]; exact max_eq_right bot_le

theorem fold_max_real {ι : Type*} (t : Finset ι) (f : ι → EReal) (hf : ∀ i, IsReal (f i)) (b : EReal) (hb : b = ⊥ ∨ IsReal b) :
    Finset.fold max b f t = ⊥ ∧ t = ∅ ∨ IsReal (Finset.fold max b f t) := by
  classical
  induction t using Finset.induction_on with
  | empty =>
    rw [Finset.fold_empty]
    rcases hb with h | h
    · exact .inl ⟨h, rfl⟩
    · exact .inr h
  | insert a t ha ih =>
    right
    rw [Finset.fold_insert ha]
    rcases ih with ⟨h, _⟩ | ⟨r, h⟩
    · rw [h, max_eq_left bot_le]; exact hf a
    · obtain ⟨x, hx⟩ := hf a
      rw [h, hx]
      rcases le_total (x : EReal) (r : EReal) with hl | hl
      · rw [max_eq_right hl]; exact ⟨r, rfl⟩
      · rw [max_eq_left hl]; exact ⟨x, rfl⟩

theorem rowMax_real [NeZero n] (s : Fin n → EReal) (hs : ∀ i, IsReal (s i)) : IsReal (rowMax s) := by
  rcases fold_max_real Finset.univ s hs _ (.inl ofBits_ninf) with ⟨_, h⟩ | h
  · exact absurd h (Finset.univ_nonempty (α := Fin n)).ne_empty
  · exact h

/-- The exponentials of a row are positive real numbers. -/
theorem rowExp_pos [NeZero n] (s : Fin n → EReal) (hs : ∀ i, IsReal (s i)) :
    ∃ e : Fin n → ℝ, (∀ i, 0 < e i) ∧ ∀ i, rowExp s i = (e i : EReal) := by
  obtain ⟨M, hM⟩ := rowMax_real s hs
  choose f hf using hs
  refine ⟨fun i => Real.exp (f i - M), fun i => Real.exp_pos _, fun i => ?_⟩
  rw [rowExp, hM, hf, ← EReal.coe_sub, Ideal.exp_coe]

/-- The softmax of a row and the derivative of its scaled scores, `p (dp - ∑ dp p) / 16`, agree with the derivative
    of the quotient of the exponentials by their sum. -/
theorem softmax_grad [NeZero n] (s d : Fin n → EReal) (hs : ∀ i, IsReal (s i)) (hd : ∀ i, IsReal (d i)) (j : Fin n) :
    Ideal.div (rowExp s j) (rowSum s) * (d j - ∑ k, d k * Ideal.div (rowExp s k) (rowSum s)) * Ideal.ofBits .f32 0x3D800000#32
      = Ideal.div ((Ideal.div (d j) (rowSum s) + ∑ _x : Fin 1, -∑ k, d k * Ideal.div 1 (rowSum s * rowSum s) * rowExp s k) * rowExp s j)
          (Ideal.ofBits .f32 0x41800000#32) := by
  obtain ⟨e, he, hes⟩ := rowExp_pos s hs
  choose g hg using hd
  have hS : rowSum s = ((∑ k, e k : ℝ) : EReal) := by rw [rowSum, ← coe_sum]; exact Finset.sum_congr rfl fun k _ => hes k
  have hS0 : (∑ k, e k) ≠ 0 := (Finset.sum_pos (fun k _ => he k) Finset.univ_nonempty).ne'
  generalize hT : (∑ k, e k) = T at hS hS0
  rw [hS, ofBits_sixteen, ofBits_sixteenth, ← EReal.coe_mul, Ideal.div_coe (mul_ne_zero hS0 hS0), Ideal.div_coe (by norm_num : (16 : ℝ) ≠ 0)]
  simp only [hes, hg, Ideal.div_coe hS0, Fin.sum_univ_one, one_mul, ← EReal.coe_mul, coe_sum, ← EReal.coe_sub, ← EReal.coe_neg, ← EReal.coe_add]
  congr 1
  have h1 : ∑ k, g k * (e k * (1 / T)) = (∑ k, g k * e k) / T := by
    rw [Finset.sum_div]; exact Finset.sum_congr rfl fun k _ => by ring
  have h2 : ∑ k, g k * (1 / (T * T)) * e k = (∑ k, g k * e k) / (T * T) := by
    rw [Finset.sum_div]; exact Finset.sum_congr rfl fun k _ => by ring
  rw [h1, h2]
  field_simp
  ring

end Cert.Hand

end
-- ==== Proof.Mem.lean ====
/-
  The gradient of the attention over the memory tokens: each head's softmax and the derivative of its scores, and
  the sums over the two blocks of rows that make the gradients of the keys and the values.
-/
module

public import proofs.«01_k».proof.Proof.Gen.MemKernelIdeal.Frame
public import proofs.«01_k».proof.Proof.Gen.MemReferenceIdeal.Read
public import Idealize.ShloMosaic.Lib.Pipeline.ValueKit
public import Idealize.ShloMosaic.Lib.Claim
public import proofs.«01_k».proof.Defs
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.Hand

instance facts_finite_mem : Pre_finite_mem.Facts := by constructor <;> decide

end Cert.Hand

namespace Cert.MemKernelIdeal.Hand

open Cert.MemKernelIdeal Cert.MemKernelIdeal.Gen Cert.MemReferenceIdeal.Read Cert.Hand

/-- The maximum over the last of three axes, as a fold over that axis. -/
theorem host_max_last {n0 n1 n2 : Nat} (v : FVec Ideal ⟨3, ![n0, n1, n2]⟩ .f32) {u : Shape} (c : FVec Ideal u .f32)
    (h : (⟨3, ![n0, n1, n2]⟩ : Shape).ReducesTo [2] ⟨2, ![n0, n1]⟩) (hu : 0 < u.numel) (a : Fin n0) (b : Fin n1) :
    Host.reduce FloatOps.maximumf v c h hu (ix2 a b)
      = Finset.univ.fold max (c (Shape.Idx.first hu)) fun k : Fin n2 => v (ix3 a b k) := by
  simp only [pointwise]

variable (m : (ℓ : Loc nD τ sig) → Buf (Elt Ideal) ℓ)

theorem pre (h : Pre_MemKernelIdeal_finite_mem m) (c : Dev nD) :
    (∀ i, IsReal ((m (c.tc.loc main_arg0)) i)) ∧ (∀ i, IsReal ((m (c.tc.loc main_arg1)) i)) ∧ ∀ i, IsReal ((m (c.tc.loc main_arg2)) i) := by
  have h := congrFun (h c) (fun i => i.elim0)
  unfold Pre_finite_mem.fn at h
  obtain ⟨h, h3⟩ := andi_flags h
  obtain ⟨h1, h2⟩ := andi_flags h
  haveI : Subsingleton (Pre_finite_mem.S_).Idx := ⟨fun a b => funext fun i => i.elim0⟩
  exact ⟨fun i => isReal_of_abs_lt (Host.reduce_andi_all _ _ _ _ _ h1 i),
    fun i => isReal_of_abs_lt (Host.reduce_andi_all _ _ _ _ _ h2 i),
    fun i => isReal_of_abs_lt (Host.reduce_andi_all _ _ _ _ _ h3 i)⟩

/-! ## The reference, row by row -/

section Ref
variable (a0 : FVec Ideal MemReferenceIdeal.S4096x1024 .bf16) (a1 : FVec Ideal MemReferenceIdeal.S256x2048 .bf16) (a2 : FVec Ideal MemReferenceIdeal.S4096x1024 .bf16)

/-- Column `x` of head `h`. -/
def hc (h : Fin 4) (x : Fin 256) : Fin 1024 := ⟨h.val * 256 + x.val, by omega⟩
/-- The same among the 2048 columns of keys and values: of the keys, of the values. -/
def hk (h : Fin 4) (x : Fin 256) : Fin 2048 := ⟨h.val * 256 + x.val, by omega⟩
def hv (h : Fin 4) (x : Fin 256) : Fin 2048 := ⟨1024 + (h.val * 256 + x.val), by omega⟩

/-- Row `r` of head `h`'s scores, and the row of the products of the cotangent with the values. -/
def sc (h : Fin 4) (r : Fin 4096) (j : Fin 256) : EReal :=
  Ideal.div (∑ x : Fin 256, a0 (ix2 r (hc h x)) * a1 (ix2 j (hk h x))) (Ideal.ofBits .f32 0x41800000#32)
def dp (h : Fin 4) (r : Fin 4096) (j : Fin 256) : EReal := ∑ x : Fin 256, a2 (ix2 r (hc h x)) * a1 (ix2 j (hv h x))

theorem v9 (h : Fin 4) (r : Fin 4096) (j : Fin 256) : val_main_v9 (F := Ideal) a0 a1 (ix3 h r j) = sc a0 a1 h r j := by
  pointwise [val_main_v0, val_main_v1, val_main_v2, val_main_v4, val_main_v5, val_main_v7, val_main_cst, val_main_v8, val_main_v9]
  rfl

theorem v10 (h : Fin 4) (r : Fin 4096) : val_main_v10 (F := Ideal) a0 a1 (ix2 h r) = rowMax (sc a0 a1 h r) := by
  refine (host_max_last _ _ _ _ h r).trans ?_
  unfold rowMax
  congr 1
  funext k
  exact v9 a0 a1 h r k

theorem v17 (h : Fin 4) (r : Fin 4096) : val_main_v17 (F := Ideal) a0 a1 (ix2 h r) = rowMax (sc a0 a1 h r) := by
  rw [val_main_v17_apply, val_main_v16_apply, val_main_cst_2_apply, v10]
  exact max_rowMax _

theorem v30 (h : Fin 4) (r : Fin 4096) (j : Fin 256) : val_main_v30 (F := Ideal) a0 a1 (ix3 h r j) = rowExp (sc a0 a1 h r) j := by
  pointwise [val_main_v27, val_main_v28, val_main_v29, val_main_v30]
  simp only [v9, v17]
  rfl

theorem v31 (h : Fin 4) (r : Fin 4096) : val_main_v31 (F := Ideal) a0 a1 (ix2 h r) = rowSum (sc a0 a1 h r) := by
  pointwise [val_main_cst_8, val_main_v31]
  simp only [v30]
  rfl

theorem v34 (h : Fin 4) (r : Fin 4096) (j : Fin 256) :
    val_main_v34 (F := Ideal) a0 a1 (ix3 h r j) = Ideal.div (rowExp (sc a0 a1 h r) j) (rowSum (sc a0 a1 h r)) := by
  pointwise [val_main_v32, val_main_v33, val_main_v34]
  simp only [v30, v31]

theorem v44 (h : Fin 4) (r : Fin 4096) (j : Fin 256) : val_main_v44 (F := Ideal) a1 a2 (ix3 h r j) = dp a1 a2 h r j := by
  pointwise [val_main_v0, val_main_v3, val_main_v6, val_main_v41, val_main_v42, val_main_v43, val_main_v44]
  rfl

theorem v60 (h : Fin 4) (r : Fin 4096) (j : Fin 256) : val_main_v60 (F := Ideal) a0 a1 a2 (ix3 h r j)
    = Ideal.div ((Ideal.div (dp a1 a2 h r j) (rowSum (sc a0 a1 h r))
        + ∑ _x : Fin 1, -∑ k, dp a1 a2 h r k * Ideal.div 1 (rowSum (sc a0 a1 h r) * rowSum (sc a0 a1 h r)) * rowExp (sc a0 a1 h r) k)
          * rowExp (sc a0 a1 h r) j) (Ideal.ofBits .f32 0x41800000#32) := by
  pointwise [val_main_v32, val_main_v35, val_main_cst_9, val_main_v36, val_main_v37, val_main_v47, val_main_v48, val_main_v49, val_main_cst_10, val_main_v50, val_main_v51, val_main_v52, val_main_v53, val_main_v54, val_main_cst_11, val_main_v55, val_main_v56, val_main_v57, val_main_v58, val_main_cst_12, val_main_v59, val_main_v60]
  simp only [v30, v31, v44]

theorem hc_div (h : Fin 4) (x : Fin 256) (q : (hc h x).val / 256 < 4) : (⟨(hc h x).val / 256, q⟩ : Fin 4) = h :=
  Fin.ext (by show (h.val * 256 + x.val) / 256 = h.val; omega)

theorem v68 (h : Fin 4) (r : Fin 4096) (x : Fin 256) : val_main_v68 (F := Ideal) a0 a1 a2 (ix2 r (hc h x))
    = ∑ j : Fin 256, val_main_v60 (F := Ideal) a0 a1 a2 (ix3 h r j) * a1 (ix2 j (hk h x)) := by
  pointwise [val_main_v0, val_main_v2, val_main_v5, val_main_v63, val_main_v64, val_main_v67, val_main_v68]
  simp only [hc_div]
  rfl

theorem v66 (h : Fin 4) (k : Fin 256) (x : Fin 256) : val_main_v66 (F := Ideal) a0 a1 a2 (ix2 k (hc h x))
    = ∑ r : Fin 4096, val_main_v60 (F := Ideal) a0 a1 a2 (ix3 h r k) * a0 (ix2 r (hc h x)) := by
  pointwise [val_main_v1, val_main_v4, val_main_v61, val_main_v62, val_main_v66]
  simp only [hc_div]

theorem v65 (h : Fin 4) (k : Fin 256) (x : Fin 256) : val_main_v65 (F := Ideal) a0 a1 a2 (ix2 k (hc h x))
    = ∑ r : Fin 4096, Ideal.div (rowExp (sc a0 a1 h r) k) (rowSum (sc a0 a1 h r)) * a2 (ix2 r (hc h x)) := by
  pointwise [val_main_v41, val_main_v42, val_main_v43, val_main_v45, val_main_v46, val_main_v65]
  simp only [hc_div, v34]
  exact Finset.sum_congr rfl fun r _ => mul_comm _ _

end Ref

/-! ## The kernel at a grid point -/

/-- A row of scores as the kernel has them. -/
def ksc (v0 : Vec Ideal S2048x256 .bf16) (v1 : Vec Ideal S256x256 .bf16) (a : Fin 2048) (j : Fin 256) : EReal :=
  (∑ k : Fin 256, v0 (ix2 a k) * v1 (ix2 j k)) * Ideal.ofBits .f32 0x3D800000#32

/-- A row of the products of the cotangent with the values, as the kernel has them. -/
def kdp (v2 : Vec Ideal S256x256 .bf16) (v3 : Vec Ideal S2048x256 .bf16) (a : Fin 2048) (j : Fin 256) : EReal :=
  ∑ k : Fin 256, v3 (ix2 a k) * v2 (ix2 j k)

theorem pay3 (v0 : Vec Ideal S2048x256 .bf16) (v1 : Vec Ideal S256x256 .bf16) (y : S2048x256.Idx) :
    k0_pay3 v0 v1 y = Ideal.div (rowExp (ksc v0 v1 (y 0)) (y 1)) (rowSum (ksc v0 v1 (y 0))) := by
  pointwise [k0_pay3]
  rfl

theorem pay4 (v0 : Vec Ideal S2048x256 .bf16) (v1 v2 : Vec Ideal S256x256 .bf16) (v3 : Vec Ideal S2048x256 .bf16) (y : S2048x256.Idx) :
    k0_pay4 v0 v1 v2 v3 y
      = k0_pay3 v0 v1 y * (kdp v2 v3 (y 0) (y 1) - ∑ x : Fin 256, kdp v2 v3 (y 0) x * k0_pay3 v0 v1 (ix2 (y 0) x)) * Ideal.ofBits .f32 0x3D800000#32 := by
  pointwise [k0_pay4]
  rfl

theorem pay5 (v0 : Vec Ideal S2048x256 .bf16) (v1 v2 : Vec Ideal S256x256 .bf16) (v3 : Vec Ideal S2048x256 .bf16) (y : S2048x256.Idx) :
    k0_pay5 v0 v1 v2 v3 y = ∑ k : Fin 256, k0_pay4 v0 v1 v2 v3 (ix2 (y 0) k) * v1 (ix2 k (y 1)) := by
  pointwise [k0_pay5]

theorem pay6 (v0 : Vec Ideal S2048x256 .bf16) (v1 v2 : Vec Ideal S256x256 .bf16) (v3 : Vec Ideal S2048x256 .bf16) (y : S256x256.Idx) :
    k0_pay6 v0 v1 v2 v3 y = ∑ k : Fin 2048, k0_pay4 v0 v1 v2 v3 (ix2 k (y 0)) * v0 (ix2 k (y 1)) := by
  pointwise [k0_pay6]

theorem pay7 (v0 : Vec Ideal S2048x256 .bf16) (v1 : Vec Ideal S256x256 .bf16) (v3 : Vec Ideal S2048x256 .bf16) (y : S256x256.Idx) :
    k0_pay7 v0 v1 v3 y = ∑ k : Fin 2048, k0_pay3 v0 v1 (ix2 k (y 0)) * v3 (ix2 k (y 1)) := by
  pointwise [k0_pay7]

/-- The block each window stages at a grid point. -/
theorem idx : ∀ t : Fin cfg0.N, win0_0.index t = ![t.val % 2, t.val / 2]
    ∧ win0_1.index t = ![0, t.val / 2]
    ∧ win0_2.index t = ![0, 4 + t.val / 2]
    ∧ win0_3.index t = ![t.val % 2, t.val / 2]
    ∧ win0_4.index t = ![t.val % 2, t.val / 2]
    ∧ win0_5.index t = ![0, t.val / 2]
    ∧ win0_6.index t = ![0, t.val / 2] :=
  (by decide +kernel : ∀ t : Fin grid0.N, _)

theorem t_lt (t : Fin cfg0.N) : t.val < 8 := t.isLt

/-- The head a grid point works on, and the row of the whole array that is row `a` of its block. -/
def hd (t : Fin cfg0.N) : Fin 4 := ⟨t.val / 2, by have := t_lt t; omega⟩
def row (t : Fin cfg0.N) (a : Fin 2048) : Fin 4096 := ⟨t.val % 2 * 2048 + a.val, by omega⟩

theorem r0 (c : Dev nD) (t : Fin cfg0.N) (z : S2048x256.Idx) : iblk m c 0 t z = (m (c.tc.loc main_arg0)) (ix2 (row t (z 0)) (hc (hd t) (z 1))) := by
  unfold row hc hd
  blk_point [iblk, V, idx t]
theorem r3 (c : Dev nD) (t : Fin cfg0.N) (z : S2048x256.Idx) : iblk m c 3 t z = (m (c.tc.loc main_arg2)) (ix2 (row t (z 0)) (hc (hd t) (z 1))) := by
  unfold row hc hd
  blk_point [iblk, V, idx t]
theorem r1 (c : Dev nD) (t : Fin cfg0.N) (z : S256x256.Idx) : iblk m c 1 t z = (m (c.tc.loc main_arg1)) (ix2 (z 0) (hk (hd t) (z 1))) := by
  unfold hk hd
  blk_point [iblk, V, idx t]
theorem r2 (c : Dev nD) (t : Fin cfg0.N) (z : S256x256.Idx) : iblk m c 2 t z = (m (c.tc.loc main_arg1)) (ix2 (z 0) (hv (hd t) (z 1))) := by
  unfold hv hd
  blk_point [iblk, V, idx t]

/-- The weights of a block's rows are the reference's. -/
theorem weight (c : Dev nD) (t : Fin cfg0.N) (y : S2048x256.Idx) :
    k0_pay3 (iblk m c 0 t) (iblk m c 1 t) y
      = Ideal.div (rowExp (sc (m (c.tc.loc main_arg0)) (m (c.tc.loc main_arg1)) (hd t) (row t (y 0))) (y 1)) (rowSum (sc (m (c.tc.loc main_arg0)) (m (c.tc.loc main_arg1)) (hd t) (row t (y 0)))) := by
  have e : ksc (iblk m c 0 t) (iblk m c 1 t) (y 0) = sc (m (c.tc.loc main_arg0)) (m (c.tc.loc main_arg1)) (hd t) (row t (y 0)) := by
    funext j
    unfold ksc sc
    rw [ofBits_sixteen, ofBits_sixteenth, Ideal.div_coe (by norm_num : (16 : ℝ) ≠ 0)]
    simp only [r0, r1]
    rfl
  rw [pay3, e]

/-- The gradient of a block's scores is the reference's. -/
theorem dscore (p : Pre_MemKernelIdeal_finite_mem m) (c : Dev nD) (t : Fin cfg0.N) (y : S2048x256.Idx) :
    k0_pay4 (iblk m c 0 t) (iblk m c 1 t) (iblk m c 2 t) (iblk m c 3 t) y
      = val_main_v60 (F := Ideal) (m (c.tc.loc main_arg0)) (m (c.tc.loc main_arg1)) (m (c.tc.loc main_arg2)) (ix3 (hd t) (row t (y 0)) (y 1)) := by
  obtain ⟨f0, f1, f2⟩ := pre m p c
  have e : kdp (iblk m c 2 t) (iblk m c 3 t) (y 0) = dp (m (c.tc.loc main_arg1)) (m (c.tc.loc main_arg2)) (hd t) (row t (y 0)) := by
    funext j
    unfold kdp dp
    simp only [r2, r3]
    rfl
  have hs : ∀ j, IsReal (sc (m (c.tc.loc main_arg0)) (m (c.tc.loc main_arg1)) (hd t) (row t (y 0)) j) := by
    intro j
    unfold sc
    rw [ofBits_sixteen, Ideal.div_coe (by norm_num : (16 : ℝ) ≠ 0)]
    exact (isReal_sum _ _ fun k _ => (f0 _).mul (f1 _)).mul (isReal_coe _)
  have hd : ∀ j, IsReal (dp (m (c.tc.loc main_arg1)) (m (c.tc.loc main_arg2)) (hd t) (row t (y 0)) j) := fun j => isReal_sum _ _ fun k _ => (f2 _).mul (f1 _)
  rw [pay4, e]
  refine Eq.trans ?_ (v60 _ _ _ _ _ _).symm
  simp only [weight]
  exact softmax_grad _ _ hs hd (y 1)

/-! ## The three results -/

theorem point_4 (p : Pre_MemKernelIdeal_finite_mem m) (c : Dev nD) (t : Fin cfg0.N) (y : S2048x256.Idx) :
    k0_pay5 (iblk m c 0 t) (iblk m c 1 t) (iblk m c 2 t) (iblk m c 3 t) y
      = val_main_v68 (F := Ideal) (m (c.tc.loc main_arg0)) (m (c.tc.loc main_arg1)) (m (c.tc.loc main_arg2)) (ix2 (row t (y 0)) (hc (hd t) (y 1))) := by
  refine (pay5 _ _ _ _ y).trans (Eq.trans ?_ (v68 _ _ _ _ _ _).symm)
  simp only [dscore m p, r1]
  rfl

theorem emb_4 (t : Fin cfg0.N) (y : S2048x256.Idx) : ((cfg0.win 4).blk t).view.emb y = ix2 (row t (y 0)) (hc (hd t) (y 1)) := by
  unfold row hc hd
  blk_ext [idx t]

theorem final_4 (p : Pre_MemKernelIdeal_finite_mem m) (c : Dev nD) :
    (dats m 0 c).arrAt 4 (cfgs 0).N = val_main_v68 (F := Ideal) (m (c.tc.loc main_arg0)) (m (c.tc.loc main_arg1)) (m (c.tc.loc main_arg2)) := by
  refine (dats m 0 c).arrAt_eq_of_covers 4 _ (by decide +kernel) fun t hf y => ?_
  rw [after0_4]
  rcases Nat.mod_two_eq_zero_or_one t.val with h | h
  · rw [outsAt0_A m c t h (by omega)]
    frame_out
    exact (point_4 m p c t y).trans (congrArg _ (emb_4 t y).symm)
  · rw [outsAt0_B m c t (by omega) h]
    frame_out
    exact (point_4 m p c t y).trans (congrArg _ (emb_4 t y).symm)

/-- The two blocks of rows of a head, joined. -/
theorem join (t : Fin cfg0.N) (hr : t.val % 2 = 2 - 1) (f : Fin 4 → Fin 4096 → EReal) :
    ∑ s : Fin 2, ∑ k : Fin 2048, f (hd ⟨2 * (t.val / 2) + s.val, Pipeline.run_point_lt_of_flush t hr s⟩)
        (row ⟨2 * (t.val / 2) + s.val, Pipeline.run_point_lt_of_flush t hr s⟩ k)
      = ∑ r : Fin 4096, f (hd t) r := by
  refine Fin.sum_mul_add_congr fun s k hl => ?_
  have a : hd ⟨2 * (t.val / 2) + s.val, Pipeline.run_point_lt_of_flush t hr s⟩ = hd t :=
    Fin.ext (by show (2 * (t.val / 2) + s.val) / 2 = t.val / 2; omega)
  have b : row ⟨2 * (t.val / 2) + s.val, Pipeline.run_point_lt_of_flush t hr s⟩ k = ⟨s.val * 2048 + k.val, hl⟩ :=
    Fin.ext (by show (2 * (t.val / 2) + s.val) % 2 * 2048 + k.val = s.val * 2048 + k.val; omega)
  rw [a, b]

theorem sum_5 (p : Pre_MemKernelIdeal_finite_mem m) (c : Dev nD) (t : Fin cfg0.N) (hr : t.val % 2 = 2 - 1) (y : S256x256.Idx) :
    ∑ s : Fin 2, k0_pay6 (iblk m c 0 ⟨2 * (t.val / 2) + s.val, Pipeline.run_point_lt_of_flush t hr s⟩) (iblk m c 1 ⟨2 * (t.val / 2) + s.val, Pipeline.run_point_lt_of_flush t hr s⟩) (iblk m c 2 ⟨2 * (t.val / 2) + s.val, Pipeline.run_point_lt_of_flush t hr s⟩) (iblk m c 3 ⟨2 * (t.val / 2) + s.val, Pipeline.run_point_lt_of_flush t hr s⟩) y
      = val_main_v66 (F := Ideal) (m (c.tc.loc main_arg0)) (m (c.tc.loc main_arg1)) (m (c.tc.loc main_arg2)) (ix2 (y 0) (hc (hd t) (y 1))) := by
  refine Eq.trans ?_ (v66 _ _ _ _ _ _).symm
  refine Eq.trans ?_ (join t hr fun h r => val_main_v60 (F := Ideal) (m (c.tc.loc main_arg0)) (m (c.tc.loc main_arg1)) (m (c.tc.loc main_arg2)) (ix3 h r (y 0)) * (m (c.tc.loc main_arg0)) (ix2 r (hc h (y 1))))
  refine Finset.sum_congr rfl fun s _ => ?_
  simp only [pay6, dscore m p, r0]
  rfl

theorem emb_5 (t : Fin cfg0.N) (y : S256x256.Idx) : ((cfg0.win 5).blk t).view.emb y = ix2 (y 0) (hc (hd t) (y 1)) := by
  unfold hc hd
  blk_ext [idx t]

theorem final_5 (p : Pre_MemKernelIdeal_finite_mem m) (c : Dev nD) :
    (dats m 0 c).arrAt 5 (cfgs 0).N = val_main_v66 (F := Ideal) (m (c.tc.loc main_arg0)) (m (c.tc.loc main_arg1)) (m (c.tc.loc main_arg2)) := by
  refine (dats m 0 c).arrAt_eq_of_covers 5 _ (by decide +kernel) fun t hf y => ?_
  refine Eq.trans ?_ ((sum_5 m p c t ((flush0_5 t).mp hf) y).trans (congrArg _ (emb_5 t y).symm))
  blk_simp
  rw [after0_5, Pipeline.eq_sum_fin_of_reset_step_apply_of_flush (fun n h => (outsAt0 m c n h).2.1) 2 (fun _ => 0)
    (fun t => k0_pay6 (iblk m c 0 t) (iblk m c 1 t) (iblk m c 2 t) (iblk m c 3 t)) ?_ ?_ t ((flush0_5 t).mp hf) _, zero_add]
  · intro t h i
    rw [outsAt0_A m c t h (by omega)]
    frame_out
    exact (zero_add _).symm
  · intro t h i
    rw [outsAt0_B m c t h (by omega)]
    frame_out
    pointwise [k0_pay1, k0_pay2]

theorem sum_6 (p : Pre_MemKernelIdeal_finite_mem m) (c : Dev nD) (t : Fin cfg0.N) (hr : t.val % 2 = 2 - 1) (y : S256x256.Idx) :
    ∑ s : Fin 2, k0_pay7 (iblk m c 0 ⟨2 * (t.val / 2) + s.val, Pipeline.run_point_lt_of_flush t hr s⟩) (iblk m c 1 ⟨2 * (t.val / 2) + s.val, Pipeline.run_point_lt_of_flush t hr s⟩) (iblk m c 3 ⟨2 * (t.val / 2) + s.val, Pipeline.run_point_lt_of_flush t hr s⟩) y
      = val_main_v65 (F := Ideal) (m (c.tc.loc main_arg0)) (m (c.tc.loc main_arg1)) (m (c.tc.loc main_arg2)) (ix2 (y 0) (hc (hd t) (y 1))) := by
  refine Eq.trans ?_ (v65 _ _ _ _ _ _).symm
  refine Eq.trans ?_ (join t hr fun h r => Ideal.div (rowExp (sc (m (c.tc.loc main_arg0)) (m (c.tc.loc main_arg1)) h r) (y 0)) (rowSum (sc (m (c.tc.loc main_arg0)) (m (c.tc.loc main_arg1)) h r)) * (m (c.tc.loc main_arg2)) (ix2 r (hc h (y 1))))
  refine Finset.sum_congr rfl fun s _ => ?_
  simp only [pay7, weight, r3]
  rfl

theorem emb_6 (t : Fin cfg0.N) (y : S256x256.Idx) : ((cfg0.win 6).blk t).view.emb y = ix2 (y 0) (hc (hd t) (y 1)) := by
  unfold hc hd
  blk_ext [idx t]

theorem final_6 (p : Pre_MemKernelIdeal_finite_mem m) (c : Dev nD) :
    (dats m 0 c).arrAt 6 (cfgs 0).N = val_main_v65 (F := Ideal) (m (c.tc.loc main_arg0)) (m (c.tc.loc main_arg1)) (m (c.tc.loc main_arg2)) := by
  refine (dats m 0 c).arrAt_eq_of_covers 6 _ (by decide +kernel) fun t hf y => ?_
  refine Eq.trans ?_ ((sum_6 m p c t ((flush0_6 t).mp hf) y).trans (congrArg _ (emb_6 t y).symm))
  blk_simp
  rw [after0_6, Pipeline.eq_sum_fin_of_reset_step_apply_of_flush (fun n h => (outsAt0 m c n h).2.2) 2 (fun _ => 0)
    (fun t => k0_pay7 (iblk m c 0 t) (iblk m c 1 t) (iblk m c 3 t)) ?_ ?_ t ((flush0_6 t).mp hf) _, zero_add]
  · intro t h i
    rw [outsAt0_A m c t h (by omega)]
    frame_out
    exact (zero_add _).symm
  · intro t h i
    rw [outsAt0_B m c t h (by omega)]
    frame_out
    pointwise [k0_pay1, k0_pay2]

end Cert.MemKernelIdeal.Hand

namespace Cert.Hand

/-- The kernel’s three results are the gradients of the queries, of the keys and of the values. -/
theorem Mem : algebraic_MemKernelIdeal_MemReferenceIdeal_pre_finite_mem := by
  pair_intro
  · run_from MemKernelIdeal.Gen.run_main m g
  · refine (θ_run _ _ _).mono ?_ (MemReferenceIdeal.Value.run m' g')
    intro r h c
    obtain ⟨r0, r1, r2, h0, h1, h2⟩ := h c
    obtain ⟨a0, a1, a2⟩ := hagree c
    refine ⟨r0.trans ((MemReferenceIdeal.Read.val_main_v68_eq m' c).trans ?_), r1.trans ((MemReferenceIdeal.Read.val_main_v66_eq m' c).trans ?_), r2.trans ((MemReferenceIdeal.Read.val_main_v65_eq _ _ _).trans ?_), h0, h1, h2⟩
    · rw [a0, a1, a2]
      exact (MemKernelIdeal.Hand.final_4 m hpre c).symm
    · rw [a0, a1, a2]
      exact (MemKernelIdeal.Hand.final_5 m hpre c).symm
    · rw [a0, a1, a2]
      exact (MemKernelIdeal.Hand.final_6 m hpre c).symm

/-- The reference runs and leaves its arguments as they were. -/
theorem ref_Mem : quiescent_MemReferenceIdeal := by
  intro m g hpre
  hlo_run
  all_goals first
    | exact fun _ => by simp
    | exact sem_eq_zero_of_no_sems (sig := MemReferenceIdeal.sig) (by decide) _

end Cert.Hand

end
-- ==== Proof.Rms.lean ====
/-
  The gradient of a row's normalisation by its root mean square, over the extended reals: two ways of writing it agree
  where the row and the cotangent are real numbers.
-/
module

public import Idealize.ShloMosaic.Lib.Pipeline.ValueKit
public import Idealize.ShloMosaic.Lib.Claim
public import proofs.«01_k».proof.Proof.Finite

@[expose] public section

set_option maxRecDepth 16384

noncomputable section

open Idealize.ShloMosaic Idealize.ShloMosaic.TcCoe Idealize.SL.Sem
open Idealize.ShloMosaic.Pipeline (Dat)

namespace Cert.Hand

variable {n : Nat}

/-- The mean of a row's squares, with the small constant that keeps it away from zero; and the row's scale. -/
def msq (x : Fin n → EReal) : EReal := Ideal.div (∑ k, x k * x k) (Ideal.ofBits .f32 0x44800000#32) + Ideal.ofBits .f32 0x358637BD#32
def rms (x : Fin n → EReal) : EReal := Ideal.rsqrt (msq x)

theorem ofBits_1024 : Ideal.ofBits .f32 0x44800000#32 = ((1024 : ℝ) : EReal) := by
  simp [Ideal.ofBits, Ideal.ieee]; rw [← EReal.coe_mul]; congr 1; norm_num
theorem ofBits_neg_half : Ideal.ofBits .f32 0xBF000000#32 = ((-1 / 2 : ℝ) : EReal) := by
  simp [Ideal.ofBits, Ideal.ieee]; rw [← EReal.coe_mul]; congr 1; norm_num
theorem ofBits_eps : ∃ e : ℝ, 0 < e ∧ Ideal.ofBits .f32 0x358637BD#32 = (e : EReal) := by
  refine ⟨8796093 / 2 ^ 43, by positivity, ?_⟩
  simp [Ideal.ofBits, Ideal.ieee]; rw [← EReal.coe_mul]; rfl

/-- Of a row of real numbers the mean is a positive number and the scale its inverse square root. -/
theorem rms_real (x : Fin n → EReal) (hx : ∀ i, IsReal (x i)) :
    ∃ V r : ℝ, 0 < V ∧ r * r = 1 / V ∧ msq x = (V : EReal) ∧ rms x = (r : EReal) := by
  choose f hf using hx
  obtain ⟨e, he, hb⟩ := ofBits_eps
  have hV : msq x = ((((∑ k, f k * f k) * (1 / 1024) + e : ℝ)) : EReal) := by
    unfold msq
    rw [ofBits_1024, Ideal.div_coe (by norm_num : (1024 : ℝ) ≠ 0), hb]
    simp only [hf, ← EReal.coe_mul, coe_sum, ← EReal.coe_add]
  have hp : 0 < (∑ k, f k * f k) * (1 / 1024) + e := by
    have : 0 ≤ ∑ k, f k * f k := Finset.sum_nonneg fun k _ => mul_self_nonneg _
    positivity
  generalize (∑ k, f k * f k) * (1 / 1024) + e = V at hV hp
  refine ⟨V, (√V)⁻¹, hp, ?_, hV, ?_⟩
  · rw [← mul_inv, Real.mul_self_sqrt hp.le, one_div]
  · rw [rms, hV, Ideal.rsqrt_coe, if_neg (not_lt.mpr hp.le), if_neg hp.ne']

/-- The scale times what is left of the cotangent when its part along the normalised row is taken away, against the
    product rule with the derivative of the scale, `-1/2 · r / V`. -/
theorem rms_grad (x d : Fin n → EReal) (hx : ∀ i, IsReal (x i)) (hd : ∀ i, IsReal (d i)) (R : EReal) (j : Fin n) :
    R + rms x * (d j - x j * rms x * Ideal.div (∑ k, d k * (x k * rms x)) (Ideal.ofBits .f32 0x44800000#32))
      = R + d j * rms x
        + x j * (∑ _k : Fin 1, Ideal.div ((∑ k, x k * d k) * (Ideal.ofBits .f32 0xBF000000#32 * Ideal.div (rms x) (msq x))) (Ideal.ofBits .f32 0x44800000#32))
        + (∑ _k : Fin 1, Ideal.div ((∑ k, x k * d k) * (Ideal.ofBits .f32 0xBF000000#32 * Ideal.div (rms x) (msq x))) (Ideal.ofBits .f32 0x44800000#32)) * x j := by
  obtain ⟨V, r, hV, hr, hm, hs⟩ := rms_real x hx
  choose f hf using hx
  choose g hg using hd
  rw [hm, hs, ofBits_1024, ofBits_neg_half, Ideal.div_coe hV.ne', Fin.sum_univ_one]
  simp only [Ideal.div_coe (by norm_num : (1024 : ℝ) ≠ 0), hf, hg, ← EReal.coe_mul, coe_sum, ← EReal.coe_sub]
  rw [add_assoc, add_assoc, ← EReal.coe_add, ← EReal.coe_add]
  congr 2
  have h : ∑ k, g k * (f k * r) = (∑ k, f k * g k) * r := by
    rw [Finset.sum_mul]; exact Finset.sum_congr rfl fun k _ => by ring
  rw [h, ← hr]
  ring

end Cert.Hand

end
-- ==== Proof.NormQ.lean ====
/-
  The gradient of a norm's rows taken from the cotangent of the product behind it (the queries of the memory attention), and the gradient of the
  norm's gains, summed over the blocks of rows.
-/
module

public import proofs.«01_k».proof.Proof.Gen.NormQKernelIdeal.Frame
public import proofs.«01_k».proof.Proof.Gen.NormQReferenceIdeal.Read
public import Idealize.ShloMosaic.Lib.Pipeline.ValueKit
public import Idealize.ShloMosaic.Lib.Claim
public import proofs.«01_k».proof.Defs
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.Hand

instance facts_finite_nq : Pre_finite_nq.Facts := by constructor <;> decide

end Cert.Hand

namespace Cert.NormQKernelIdeal.Hand

open Cert.NormQKernelIdeal Cert.NormQKernelIdeal.Gen Cert.NormQReferenceIdeal.Read Cert.Hand

variable (m : (ℓ : Loc nD τ sig) → Buf (Elt Ideal) ℓ)

theorem pre (h : Pre_NormQKernelIdeal_finite_nq m) (c : Dev nD) :
    ((∀ i, IsReal ((m (c.tc.loc main_arg0)) i)) ∧ ∀ i, IsReal ((m (c.tc.loc main_arg1)) i)) ∧ (∀ i, IsReal ((m (c.tc.loc main_arg2)) i)) ∧ ∀ i, IsReal ((m (c.tc.loc main_arg3)) i) := by
  have h := congrFun (h c) (fun i => i.elim0)
  unfold Pre_finite_nq.fn at h
  obtain ⟨h, h4⟩ := andi_flags h
  obtain ⟨h, h3⟩ := andi_flags h
  obtain ⟨h1, h2⟩ := andi_flags h
  haveI : Subsingleton (Pre_finite_nq.S_).Idx := ⟨fun a b => funext fun i => i.elim0⟩
  exact ⟨⟨fun i => isReal_of_abs_lt (Host.reduce_andi_all _ _ _ _ _ h1 i), fun i => isReal_of_abs_lt (Host.reduce_andi_all _ _ _ _ _ h2 i)⟩,
    fun i => isReal_of_abs_lt (Host.reduce_andi_all _ _ _ _ _ h3 i), fun i => isReal_of_abs_lt (Host.reduce_andi_all _ _ _ _ _ h4 i)⟩

/-! ## The reference, row by row -/

section Ref
variable (a0 : FVec Ideal NormQReferenceIdeal.S4096x1024 .bf16) (a1 : FVec Ideal NormQReferenceIdeal.S1024x1024 .bf16) (a2 : FVec Ideal NormQReferenceIdeal.S4096x1024 .f32) (a3 : FVec Ideal NormQReferenceIdeal.S1x1024 .f32) (a4 : FVec Ideal NormQReferenceIdeal.S4096x1024 .f32)

/-- A row of the norm's argument, and of the cotangent of its result. -/
def xr (r : Fin 4096) (k : Fin 1024) : EReal := a2 (ix2 r k)
def dyr (r : Fin 4096) (k : Fin 1024) : EReal := ∑ l : Fin 1024, a0 (ix2 r l) * a1 (ix2 k l)

theorem v6 (r : Fin 4096) (q : Fin 1) : val_main_v6 (F := Ideal) a2 (ix2 r q) = msq (xr a2 r) := by
  pointwise [val_main_v0, val_main_cst, val_main_v1, val_main_v2, val_main_cst_0, val_main_v3, val_main_v4, val_main_cst_1, val_main_v5, val_main_v6]
  rfl

theorem v7 (r : Fin 4096) (q : Fin 1) : val_main_v7 (F := Ideal) a2 (ix2 r q) = rms (xr a2 r) := by
  rw [val_main_v7_apply, v6]
  rfl

theorem v18 (r : Fin 4096) (j : Fin 1024) : val_main_v18 (F := Ideal) a0 a1 (ix2 r j) = dyr a0 a1 r j := by
  pointwise [val_main_v15, val_main_v17, val_main_v18]
  rfl

theorem v21 (j : Fin 1024) : val_main_v21 (F := Ideal) a0 a1 a2 (ix2 (0 : Fin 1) j) = ∑ r : Fin 4096, dyr a0 a1 r j * (xr a2 r j * rms (xr a2 r)) := by
  pointwise [val_main_v11, val_main_v12, val_main_v19, val_main_cst_3, val_main_v20, val_main_v21]
  simp only [v7, v18]
  exact Finset.sum_congr rfl fun r _ => mul_comm _ _

theorem v38 (r : Fin 4096) (j : Fin 1024) : val_main_v38 (F := Ideal) a0 a1 a2 a3 a4 (ix2 r j)
    = a4 (ix2 r j) + dyr a0 a1 r j * a3 (ix2 (0 : Fin 1) j) * rms (xr a2 r)
        + xr a2 r j * (∑ _k : Fin 1, Ideal.div ((∑ k, xr a2 r k * (dyr a0 a1 r k * a3 (ix2 (0 : Fin 1) k))) * (Ideal.ofBits .f32 0xBF000000#32 * Ideal.div (rms (xr a2 r)) (msq (xr a2 r)))) (Ideal.ofBits .f32 0x44800000#32))
        + (∑ _k : Fin 1, Ideal.div ((∑ k, xr a2 r k * (dyr a0 a1 r k * a3 (ix2 (0 : Fin 1) k))) * (Ideal.ofBits .f32 0xBF000000#32 * Ideal.div (rms (xr a2 r)) (msq (xr a2 r)))) (Ideal.ofBits .f32 0x44800000#32)) * xr a2 r j := by
  pointwise [val_main_v8, val_main_cst_2, val_main_v9, val_main_v10, val_main_v22, val_main_v23, val_main_v24, val_main_cst_4, val_main_v25, val_main_v26, val_main_v27, val_main_v28, val_main_v29, val_main_v30, val_main_cst_5, val_main_v31, val_main_v32, val_main_cst_6, val_main_v33, val_main_v34, val_main_v35, val_main_v36, val_main_v37, val_main_v38]
  simp only [v6, v7, v18]
  rfl

end Ref

/-! ## The kernel at a grid point -/

section Block
variable (v0 : Vec Ideal S512x1024 .bf16) (v1 : Vec Ideal S1024x1024 .bf16) (v3 : Vec Ideal S512x1024 .f32) (v14 : Vec Ideal S1x1024 .f32) (v17 : Vec Ideal S512x1024 .f32)

/-- A row of a block, and of the cotangent of its norm. -/
def bx (a : Fin 512) (k : Fin 1024) : EReal := v3 (ix2 a k)
def bdy (a : Fin 512) (k : Fin 1024) : EReal := ∑ l : Fin 1024, v0 (ix2 a l) * v1 (ix2 k l)

theorem pay2 (a : Fin 512) (b : Fin 1024) : k0_pay2 v0 v1 (ix2 a b) = bdy v0 v1 a b := by
  pointwise [k0_pay2]
  rfl

theorem pay4 (a : Fin 512) (b : Fin 1024) : k0_pay4 v3 (ix2 a b) = bx v3 a b * rms (bx v3 a) := by
  pointwise [k0_pay4, k0_pay3]
  rfl

theorem pay5 (a : Fin 512) (b : Fin 1024) : k0_pay5 v0 v1 v3 v14 v17 (ix2 a b)
    = v17 (ix2 a b) + rms (bx v3 a) * (bdy v0 v1 a b * v14 (ix2 (0 : Fin 1) b) - bx v3 a b * rms (bx v3 a)
        * Ideal.div (∑ k : Fin 1024, bdy v0 v1 a k * v14 (ix2 (0 : Fin 1) k) * (bx v3 a k * rms (bx v3 a))) (Ideal.ofBits .f32 0x44800000#32)) := by
  pointwise [k0_pay5, k0_pay3]
  simp only [pay2, pay4]
  rfl

theorem payg (q : Fin 1) (b : Fin 1024) : k0_pay7 v0 v1 v3 (ix2 q b) = ∑ a : Fin 512, bdy v0 v1 a b * (bx v3 a b * rms (bx v3 a)) := by
  pointwise [k0_pay7]
  simp only [pay2, pay4]

end Block

/-- The block each window stages at a grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![t.val, 0]
    ∧ win0_7.index t = ![0, 0] :=
  (by decide +kernel : ∀ t : Fin grid0.N, _)

theorem t_lt (t : Fin cfg0.N) : t.val < 8 := t.isLt

/-- The row of the whole array that is row `a` of the block at point `t`. -/
def row (t : Fin cfg0.N) (a : Fin 512) : Fin 4096 := ⟨t.val * 512 + a.val, by have := t_lt t; omega⟩

theorem r0 (c : Dev nD) (t : Fin cfg0.N) (z : S512x1024.Idx) : iblk m c 0 t z = (m (c.tc.loc main_arg0)) (ix2 (row t (z 0)) (z 1)) := by
  unfold row
  blk_point [iblk, V, idx t]
theorem r1 (c : Dev nD) (t : Fin cfg0.N) (z : S1024x1024.Idx) : iblk m c 1 t z = (m (c.tc.loc main_arg1)) z := by
  blk_point [iblk, V, idx t]
theorem r2 (c : Dev nD) (t : Fin cfg0.N) (z : S512x1024.Idx) : iblk m c 2 t z = (m (c.tc.loc main_arg2)) (ix2 (row t (z 0)) (z 1)) := by
  unfold row
  blk_point [iblk, V, idx t]
theorem r3 (c : Dev nD) (t : Fin cfg0.N) (z : S1x1024.Idx) : iblk m c 3 t z = (m (c.tc.loc main_arg3)) z := by
  blk_point [iblk, V, idx t]
theorem r4 (c : Dev nD) (t : Fin cfg0.N) (z : S512x1024.Idx) : iblk m c 4 t z = (m (c.tc.loc main_arg4)) (ix2 (row t (z 0)) (z 1)) := by
  unfold row
  blk_point [iblk, V, idx t]

theorem bx_eq (c : Dev nD) (t : Fin cfg0.N) (a : Fin 512) : bx (iblk m c 2 t) a = xr (m (c.tc.loc main_arg2)) (row t a) := by
  funext k
  unfold bx xr
  rw [r2]
  rfl
theorem bdy_eq (c : Dev nD) (t : Fin cfg0.N) (a : Fin 512) : bdy (iblk m c 0 t) (iblk m c 1 t) a = dyr (m (c.tc.loc main_arg0)) (m (c.tc.loc main_arg1)) (row t a) := by
  funext k
  unfold bdy dyr
  simp only [r0, r1]
  rfl

theorem point (p : Pre_NormQKernelIdeal_finite_nq m) (c : Dev nD) (t : Fin cfg0.N) (a : Fin 512) (b : Fin 1024) :
    k0_pay5 (iblk m c 0 t) (iblk m c 1 t) (iblk m c 2 t) (iblk m c 3 t) (iblk m c 4 t) (ix2 a b)
      = val_main_v38 (F := Ideal) (m (c.tc.loc main_arg0)) (m (c.tc.loc main_arg1)) (m (c.tc.loc main_arg2)) (m (c.tc.loc main_arg3)) (m (c.tc.loc main_arg4)) (ix2 (row t a) b) := by
  obtain ⟨⟨f0, f1⟩, f2, f3⟩ := pre m p c
  rw [pay5, v38, bx_eq, bdy_eq, r4]
  simp only [r3]
  exact rms_grad (xr _ _) (fun k => dyr _ _ (row t a) k * (m (c.tc.loc main_arg3)) (ix2 (0 : Fin 1) k)) (fun k => f2 _)
    (fun k => (isReal_sum _ _ fun l _ => (f0 _).mul (f1 _)).mul (f3 _)) _ b

theorem emb_5 (t : Fin cfg0.N) (y : S512x1024.Idx) : ((cfg0.win 5).blk t).view.emb y = ix2 (row t (y 0)) (y 1) := by
  unfold row
  blk_ext [idx t]

theorem point_5 (p : Pre_NormQKernelIdeal_finite_nq m) (c : Dev nD) (t : Fin cfg0.N) (y : S512x1024.Idx) :
    k0_pay5 (iblk m c 0 t) (iblk m c 1 t) (iblk m c 2 t) (iblk m c 3 t) (iblk m c 4 t) y = val_main_v38 (F := Ideal) (m (c.tc.loc main_arg0)) (m (c.tc.loc main_arg1)) (m (c.tc.loc main_arg2)) (m (c.tc.loc main_arg3)) (m (c.tc.loc main_arg4)) (((cfg0.win 5).blk t).view.emb y) := by
  rw [emb_5 t y]
  idx_vars y
  exact point m p c t _ _

theorem final_5 (p : Pre_NormQKernelIdeal_finite_nq m) (c : Dev nD) :
    (dats m 0 c).arrAt 5 (cfgs 0).N = val_main_v38 (F := Ideal) (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  rw [after0_5]
  have ht := t_lt t
  rcases Nat.eq_zero_or_pos t.val with h | h
  · rw [outsAt0_A m c t (by omega) (by omega)]
    frame_out
    exact point_5 m p c t y
  · rw [outsAt0_B m c t (by omega) h]
    frame_out
    exact point_5 m p c t y

theorem emb_6 (t : Fin cfg0.N) (y : S512x1024.Idx) : ((cfg0.win 6).blk t).view.emb y = ix2 (row t (y 0)) (y 1) := by
  unfold row
  blk_ext [idx t]

theorem pay6 (c : Dev nD) (t : Fin cfg0.N) (a : Fin 512) (b : Fin 1024) : k0_pay6 (iblk m c 0 t) (iblk m c 1 t) (iblk m c 2 t) (iblk m c 3 t) (iblk m c 4 t) (ix2 a b) = k0_pay5 (iblk m c 0 t) (iblk m c 1 t) (iblk m c 2 t) (iblk m c 3 t) (iblk m c 4 t) (ix2 a b) := by
  pointwise [k0_pay6]
theorem v39 (c : Dev nD) (i : NormQReferenceIdeal.S4096x1024.Idx) : val_main_v39 (F := Ideal) (m (c.tc.loc main_arg0)) (m (c.tc.loc main_arg1)) (m (c.tc.loc main_arg2)) (m (c.tc.loc main_arg3)) (m (c.tc.loc main_arg4)) i = val_main_v38 (F := Ideal) (m (c.tc.loc main_arg0)) (m (c.tc.loc main_arg1)) (m (c.tc.loc main_arg2)) (m (c.tc.loc main_arg3)) (m (c.tc.loc main_arg4)) i := rfl

theorem point_6 (p : Pre_NormQKernelIdeal_finite_nq m) (c : Dev nD) (t : Fin cfg0.N) (y : S512x1024.Idx) :
    k0_pay6 (iblk m c 0 t) (iblk m c 1 t) (iblk m c 2 t) (iblk m c 3 t) (iblk m c 4 t) y = val_main_v39 (F := Ideal) (m (c.tc.loc main_arg0)) (m (c.tc.loc main_arg1)) (m (c.tc.loc main_arg2)) (m (c.tc.loc main_arg3)) (m (c.tc.loc main_arg4)) (((cfg0.win 6).blk t).view.emb y) := by
  rw [emb_6 t y]
  idx_vars y
  exact (pay6 m c t _ _).trans (point m p c t _ _)

theorem final_6 (p : Pre_NormQKernelIdeal_finite_nq m) (c : Dev nD) :
    (dats m 0 c).arrAt 6 (cfgs 0).N = val_main_v39 (F := Ideal) (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  rw [after0_6]
  have ht := t_lt t
  rcases Nat.eq_zero_or_pos t.val with h | h
  · rw [outsAt0_A m c t (by omega) (by omega)]
    frame_out
    exact point_6 m p c t y
  · rw [outsAt0_B m c t (by omega) h]
    frame_out
    exact point_6 m p c t y

/-- The rows of the blocks, joined. -/
theorem join (t : Fin cfg0.N) (hr : t.val % 8 = 8 - 1) (f : Fin 4096 → EReal) :
    ∑ s : Fin 8, ∑ k : Fin 512, f (row ⟨8 * (t.val / 8) + s.val, Pipeline.run_point_lt_of_flush t hr s⟩ k) = ∑ r : Fin 4096, f r := by
  refine Fin.sum_mul_add_congr fun s k hl => ?_
  have ht := t_lt t
  exact congrArg f (Fin.ext (by show (8 * (t.val / 8) + s.val) * 512 + k.val = s.val * 512 + k.val; omega))

theorem sum_7 (c : Dev nD) (t : Fin cfg0.N) (hr : t.val % 8 = 8 - 1) (y : S1x1024.Idx) :
    ∑ s : Fin 8, k0_pay7 (iblk m c 0 ⟨8 * (t.val / 8) + s.val, Pipeline.run_point_lt_of_flush t hr s⟩) (iblk m c 1 ⟨8 * (t.val / 8) + s.val, Pipeline.run_point_lt_of_flush t hr s⟩) (iblk m c 2 ⟨8 * (t.val / 8) + s.val, Pipeline.run_point_lt_of_flush t hr s⟩) y
      = val_main_v21 (F := Ideal) (m (c.tc.loc main_arg0)) (m (c.tc.loc main_arg1)) (m (c.tc.loc main_arg2)) (((cfg0.win 7).blk t).view.emb y) := by
  have e : ((cfg0.win 7).blk t).view.emb y = ix2 (0 : Fin 1) (y 1) := by
    blk_ext [idx t]
  rw [e]
  idx_vars y
  refine Eq.trans ?_ (v21 _ _ _ _).symm
  refine Eq.trans ?_ (join t hr fun r => dyr (m (c.tc.loc main_arg0)) (m (c.tc.loc main_arg1)) r _ * (xr (m (c.tc.loc main_arg2)) r _ * rms (xr (m (c.tc.loc main_arg2)) r)))
  refine Finset.sum_congr rfl fun s _ => ?_
  simp only [payg, bx_eq, bdy_eq]

theorem final_7 (c : Dev nD) : (dats m 0 c).arrAt 7 (cfgs 0).N = val_main_v21 (F := Ideal) (m (c.tc.loc main_arg0)) (m (c.tc.loc main_arg1)) (m (c.tc.loc main_arg2)) := by
  refine (dats m 0 c).arrAt_eq_of_covers 7 _ (by decide +kernel) fun t hf y => ?_
  refine Eq.trans ?_ (sum_7 m c t ((flush0_7 t).mp hf) y)
  blk_simp
  rw [after0_7, Pipeline.eq_sum_fin_of_reset_step_apply_of_flush (fun n h => (outsAt0 m c n h).2.2) 8 (fun _ => 0)
    (fun t => k0_pay7 (iblk m c 0 t) (iblk m c 1 t) (iblk m c 2 t)) ?_ ?_ t ((flush0_7 t).mp hf) _, zero_add]
  · intro t h i
    have ht := t_lt t
    rw [outsAt0_A m c t h (by omega)]
    frame_out
    exact (zero_add _).symm
  · intro t h i
    rw [outsAt0_B m c t h (by omega)]
    frame_out
    pointwise [k0_pay1]

end Cert.NormQKernelIdeal.Hand

namespace Cert.Hand

/-- The kernel’s rows are the gradient of the norm's rows, its sums the gradient of the gains. -/
theorem NormQ : algebraic_NormQKernelIdeal_NormQReferenceIdeal_pre_finite_nq := by
  pair_intro
  · run_from NormQKernelIdeal.Gen.run_main m g
  · refine (θ_run _ _ _).mono ?_ (NormQReferenceIdeal.Value.run m' g')
    intro r h c
    obtain ⟨r0, r1, r2, h0, h1, h2, h3, h4⟩ := h c
    obtain ⟨a0, a1, a2, a3, a4⟩ := hagree c
    refine ⟨r0.trans ((NormQReferenceIdeal.Read.val_main_v38_eq m' c).trans ?_), r1.trans ((NormQReferenceIdeal.Read.val_main_v39_eq m' c).trans ?_), r2.trans ((NormQReferenceIdeal.Read.val_main_v21_eq _ _ _).trans ?_), h0, h1, h2, h3, h4⟩
    · rw [a0, a1, a2, a3, a4]
      exact (NormQKernelIdeal.Hand.final_5 m hpre c).symm
    · rw [a0, a1, a2, a3, a4]
      exact (NormQKernelIdeal.Hand.final_6 m hpre c).symm
    · rw [a0, a1, a2]
      exact (NormQKernelIdeal.Hand.final_7 m c).symm

/-- The reference runs and leaves its arguments as they were. -/
theorem ref_NormQ : quiescent_NormQReferenceIdeal := by
  intro m g hpre
  hlo_run
  all_goals first
    | exact fun _ => by simp
    | exact sem_eq_zero_of_no_sems (sig := NormQReferenceIdeal.sig) (by decide) _

end Cert.Hand

end
-- ==== Proof.NormF.lean ====
/-
  The gradient of a norm's rows taken from the cotangent of the product behind it (the feed-forward layer), and the gradient of the
  norm's gains, summed over the blocks of rows.
-/
module

public import proofs.«01_k».proof.Proof.Gen.NormFKernelIdeal.Frame
public import proofs.«01_k».proof.Proof.Gen.NormFReferenceIdeal.Read
public import Idealize.ShloMosaic.Lib.Pipeline.ValueKit
public import Idealize.ShloMosaic.Lib.Claim
public import proofs.«01_k».proof.Defs
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.Hand

instance facts_finite_nf : Pre_finite_nf.Facts := by constructor <;> decide

end Cert.Hand

namespace Cert.NormFKernelIdeal.Hand

open Cert.NormFKernelIdeal Cert.NormFKernelIdeal.Gen Cert.NormFReferenceIdeal.Read Cert.Hand

variable (m : (ℓ : Loc nD τ sig) → Buf (Elt Ideal) ℓ)

theorem pre (h : Pre_NormFKernelIdeal_finite_nf m) (c : Dev nD) :
    ((∀ i, IsReal ((m (c.tc.loc main_arg0)) i)) ∧ ∀ i, IsReal ((m (c.tc.loc main_arg1)) i)) ∧ (∀ i, IsReal ((m (c.tc.loc main_arg2)) i)) ∧ ∀ i, IsReal ((m (c.tc.loc main_arg3)) i) := by
  have h := congrFun (h c) (fun i => i.elim0)
  unfold Pre_finite_nf.fn at h
  obtain ⟨h, h4⟩ := andi_flags h
  obtain ⟨h, h3⟩ := andi_flags h
  obtain ⟨h1, h2⟩ := andi_flags h
  haveI : Subsingleton (Pre_finite_nf.S_).Idx := ⟨fun a b => funext fun i => i.elim0⟩
  exact ⟨⟨fun i => isReal_of_abs_lt (Host.reduce_andi_all _ _ _ _ _ h1 i), fun i => isReal_of_abs_lt (Host.reduce_andi_all _ _ _ _ _ h2 i)⟩,
    fun i => isReal_of_abs_lt (Host.reduce_andi_all _ _ _ _ _ h3 i), fun i => isReal_of_abs_lt (Host.reduce_andi_all _ _ _ _ _ h4 i)⟩

/-! ## The reference, row by row -/

section Ref
variable (a0 : FVec Ideal NormFReferenceIdeal.S4096x5632 .bf16) (a1 : FVec Ideal NormFReferenceIdeal.S1024x5632 .bf16) (a2 : FVec Ideal NormFReferenceIdeal.S4096x1024 .f32) (a3 : FVec Ideal NormFReferenceIdeal.S1x1024 .f32) (a4 : FVec Ideal NormFReferenceIdeal.S4096x1024 .f32)

/-- A row of the norm's argument, and of the cotangent of its result. -/
def xr (r : Fin 4096) (k : Fin 1024) : EReal := a2 (ix2 r k)
def dyr (r : Fin 4096) (k : Fin 1024) : EReal := ∑ l : Fin 5632, a0 (ix2 r l) * a1 (ix2 k l)

theorem v6 (r : Fin 4096) (q : Fin 1) : val_main_v6 (F := Ideal) a2 (ix2 r q) = msq (xr a2 r) := by
  pointwise [val_main_v0, val_main_cst, val_main_v1, val_main_v2, val_main_cst_0, val_main_v3, val_main_v4, val_main_cst_1, val_main_v5, val_main_v6]
  rfl

theorem v7 (r : Fin 4096) (q : Fin 1) : val_main_v7 (F := Ideal) a2 (ix2 r q) = rms (xr a2 r) := by
  rw [val_main_v7_apply, v6]
  rfl

theorem v18 (r : Fin 4096) (j : Fin 1024) : val_main_v18 (F := Ideal) a0 a1 (ix2 r j) = dyr a0 a1 r j := by
  pointwise [val_main_v15, val_main_v17, val_main_v18]
  rfl

theorem v21 (j : Fin 1024) : val_main_v21 (F := Ideal) a0 a1 a2 (ix2 (0 : Fin 1) j) = ∑ r : Fin 4096, dyr a0 a1 r j * (xr a2 r j * rms (xr a2 r)) := by
  pointwise [val_main_v11, val_main_v12, val_main_v19, val_main_cst_3, val_main_v20, val_main_v21]
  simp only [v7, v18]
  exact Finset.sum_congr rfl fun r _ => mul_comm _ _

theorem v38 (r : Fin 4096) (j : Fin 1024) : val_main_v38 (F := Ideal) a0 a1 a2 a3 a4 (ix2 r j)
    = a4 (ix2 r j) + dyr a0 a1 r j * a3 (ix2 (0 : Fin 1) j) * rms (xr a2 r)
        + xr a2 r j * (∑ _k : Fin 1, Ideal.div ((∑ k, xr a2 r k * (dyr a0 a1 r k * a3 (ix2 (0 : Fin 1) k))) * (Ideal.ofBits .f32 0xBF000000#32 * Ideal.div (rms (xr a2 r)) (msq (xr a2 r)))) (Ideal.ofBits .f32 0x44800000#32))
        + (∑ _k : Fin 1, Ideal.div ((∑ k, xr a2 r k * (dyr a0 a1 r k * a3 (ix2 (0 : Fin 1) k))) * (Ideal.ofBits .f32 0xBF000000#32 * Ideal.div (rms (xr a2 r)) (msq (xr a2 r)))) (Ideal.ofBits .f32 0x44800000#32)) * xr a2 r j := by
  pointwise [val_main_v8, val_main_cst_2, val_main_v9, val_main_v10, val_main_v22, val_main_v23, val_main_v24, val_main_cst_4, val_main_v25, val_main_v26, val_main_v27, val_main_v28, val_main_v29, val_main_v30, val_main_cst_5, val_main_v31, val_main_v32, val_main_cst_6, val_main_v33, val_main_v34, val_main_v35, val_main_v36, val_main_v37, val_main_v38]
  simp only [v6, v7, v18]
  rfl

end Ref

/-! ## The kernel at a grid point -/

section Block
variable (v0 : Vec Ideal S256x5632 .bf16) (v1 : Vec Ideal S1024x5632 .bf16) (v3 : Vec Ideal S256x1024 .f32) (v14 : Vec Ideal S1x1024 .f32) (v17 : Vec Ideal S256x1024 .f32)

/-- A row of a block, and of the cotangent of its norm. -/
def bx (a : Fin 256) (k : Fin 1024) : EReal := v3 (ix2 a k)
def bdy (a : Fin 256) (k : Fin 1024) : EReal := ∑ l : Fin 5632, v0 (ix2 a l) * v1 (ix2 k l)

theorem pay2 (a : Fin 256) (b : Fin 1024) : k0_pay2 v0 v1 (ix2 a b) = bdy v0 v1 a b := by
  pointwise [k0_pay2]
  rfl

theorem pay4 (a : Fin 256) (b : Fin 1024) : k0_pay4 v3 (ix2 a b) = bx v3 a b * rms (bx v3 a) := by
  pointwise [k0_pay4, k0_pay3]
  rfl

theorem pay5 (a : Fin 256) (b : Fin 1024) : k0_pay5 v0 v1 v3 v14 v17 (ix2 a b)
    = v17 (ix2 a b) + rms (bx v3 a) * (bdy v0 v1 a b * v14 (ix2 (0 : Fin 1) b) - bx v3 a b * rms (bx v3 a)
        * Ideal.div (∑ k : Fin 1024, bdy v0 v1 a k * v14 (ix2 (0 : Fin 1) k) * (bx v3 a k * rms (bx v3 a))) (Ideal.ofBits .f32 0x44800000#32)) := by
  pointwise [k0_pay5, k0_pay3]
  simp only [pay2, pay4]
  rfl

theorem payg (q : Fin 1) (b : Fin 1024) : k0_pay7 v0 v1 v3 (ix2 q b) = ∑ a : Fin 256, bdy v0 v1 a b * (bx v3 a b * rms (bx v3 a)) := by
  pointwise [k0_pay7]
  simp only [pay2, pay4]

end Block

/-- The block each window stages at a grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![t.val, 0]
    ∧ win0_7.index t = ![0, 0] :=
  (by decide +kernel : ∀ t : Fin grid0.N, _)

theorem t_lt (t : Fin cfg0.N) : t.val < 16 := t.isLt

/-- The row of the whole array that is row `a` of the block at point `t`. -/
def row (t : Fin cfg0.N) (a : Fin 256) : Fin 4096 := ⟨t.val * 256 + a.val, by have := t_lt t; omega⟩

theorem r0 (c : Dev nD) (t : Fin cfg0.N) (z : S256x5632.Idx) : iblk m c 0 t z = (m (c.tc.loc main_arg0)) (ix2 (row t (z 0)) (z 1)) := by
  unfold row
  blk_point [iblk, V, idx t]
theorem r1 (c : Dev nD) (t : Fin cfg0.N) (z : S1024x5632.Idx) : iblk m c 1 t z = (m (c.tc.loc main_arg1)) z := by
  blk_point [iblk, V, idx t]
theorem r2 (c : Dev nD) (t : Fin cfg0.N) (z : S256x1024.Idx) : iblk m c 2 t z = (m (c.tc.loc main_arg2)) (ix2 (row t (z 0)) (z 1)) := by
  unfold row
  blk_point [iblk, V, idx t]
theorem r3 (c : Dev nD) (t : Fin cfg0.N) (z : S1x1024.Idx) : iblk m c 3 t z = (m (c.tc.loc main_arg3)) z := by
  blk_point [iblk, V, idx t]
theorem r4 (c : Dev nD) (t : Fin cfg0.N) (z : S256x1024.Idx) : iblk m c 4 t z = (m (c.tc.loc main_arg4)) (ix2 (row t (z 0)) (z 1)) := by
  unfold row
  blk_point [iblk, V, idx t]

theorem bx_eq (c : Dev nD) (t : Fin cfg0.N) (a : Fin 256) : bx (iblk m c 2 t) a = xr (m (c.tc.loc main_arg2)) (row t a) := by
  funext k
  unfold bx xr
  rw [r2]
  rfl
theorem bdy_eq (c : Dev nD) (t : Fin cfg0.N) (a : Fin 256) : bdy (iblk m c 0 t) (iblk m c 1 t) a = dyr (m (c.tc.loc main_arg0)) (m (c.tc.loc main_arg1)) (row t a) := by
  funext k
  unfold bdy dyr
  simp only [r0, r1]
  rfl

theorem point (p : Pre_NormFKernelIdeal_finite_nf m) (c : Dev nD) (t : Fin cfg0.N) (a : Fin 256) (b : Fin 1024) :
    k0_pay5 (iblk m c 0 t) (iblk m c 1 t) (iblk m c 2 t) (iblk m c 3 t) (iblk m c 4 t) (ix2 a b)
      = val_main_v38 (F := Ideal) (m (c.tc.loc main_arg0)) (m (c.tc.loc main_arg1)) (m (c.tc.loc main_arg2)) (m (c.tc.loc main_arg3)) (m (c.tc.loc main_arg4)) (ix2 (row t a) b) := by
  obtain ⟨⟨f0, f1⟩, f2, f3⟩ := pre m p c
  rw [pay5, v38, bx_eq, bdy_eq, r4]
  simp only [r3]
  exact rms_grad (xr _ _) (fun k => dyr _ _ (row t a) k * (m (c.tc.loc main_arg3)) (ix2 (0 : Fin 1) k)) (fun k => f2 _)
    (fun k => (isReal_sum _ _ fun l _ => (f0 _).mul (f1 _)).mul (f3 _)) _ b

theorem emb_5 (t : Fin cfg0.N) (y : S256x1024.Idx) : ((cfg0.win 5).blk t).view.emb y = ix2 (row t (y 0)) (y 1) := by
  unfold row
  blk_ext [idx t]

theorem point_5 (p : Pre_NormFKernelIdeal_finite_nf m) (c : Dev nD) (t : Fin cfg0.N) (y : S256x1024.Idx) :
    k0_pay5 (iblk m c 0 t) (iblk m c 1 t) (iblk m c 2 t) (iblk m c 3 t) (iblk m c 4 t) y = val_main_v38 (F := Ideal) (m (c.tc.loc main_arg0)) (m (c.tc.loc main_arg1)) (m (c.tc.loc main_arg2)) (m (c.tc.loc main_arg3)) (m (c.tc.loc main_arg4)) (((cfg0.win 5).blk t).view.emb y) := by
  rw [emb_5 t y]
  idx_vars y
  exact point m p c t _ _

theorem final_5 (p : Pre_NormFKernelIdeal_finite_nf m) (c : Dev nD) :
    (dats m 0 c).arrAt 5 (cfgs 0).N = val_main_v38 (F := Ideal) (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  rw [after0_5]
  have ht := t_lt t
  rcases Nat.eq_zero_or_pos t.val with h | h
  · rw [outsAt0_A m c t (by omega) (by omega)]
    frame_out
    exact point_5 m p c t y
  · rw [outsAt0_B m c t (by omega) h]
    frame_out
    exact point_5 m p c t y

theorem emb_6 (t : Fin cfg0.N) (y : S256x1024.Idx) : ((cfg0.win 6).blk t).view.emb y = ix2 (row t (y 0)) (y 1) := by
  unfold row
  blk_ext [idx t]

theorem pay6 (c : Dev nD) (t : Fin cfg0.N) (a : Fin 256) (b : Fin 1024) : k0_pay6 (iblk m c 0 t) (iblk m c 1 t) (iblk m c 2 t) (iblk m c 3 t) (iblk m c 4 t) (ix2 a b) = k0_pay5 (iblk m c 0 t) (iblk m c 1 t) (iblk m c 2 t) (iblk m c 3 t) (iblk m c 4 t) (ix2 a b) := by
  pointwise [k0_pay6]
theorem v39 (c : Dev nD) (i : NormFReferenceIdeal.S4096x1024.Idx) : val_main_v39 (F := Ideal) (m (c.tc.loc main_arg0)) (m (c.tc.loc main_arg1)) (m (c.tc.loc main_arg2)) (m (c.tc.loc main_arg3)) (m (c.tc.loc main_arg4)) i = val_main_v38 (F := Ideal) (m (c.tc.loc main_arg0)) (m (c.tc.loc main_arg1)) (m (c.tc.loc main_arg2)) (m (c.tc.loc main_arg3)) (m (c.tc.loc main_arg4)) i := rfl

theorem point_6 (p : Pre_NormFKernelIdeal_finite_nf m) (c : Dev nD) (t : Fin cfg0.N) (y : S256x1024.Idx) :
    k0_pay6 (iblk m c 0 t) (iblk m c 1 t) (iblk m c 2 t) (iblk m c 3 t) (iblk m c 4 t) y = val_main_v39 (F := Ideal) (m (c.tc.loc main_arg0)) (m (c.tc.loc main_arg1)) (m (c.tc.loc main_arg2)) (m (c.tc.loc main_arg3)) (m (c.tc.loc main_arg4)) (((cfg0.win 6).blk t).view.emb y) := by
  rw [emb_6 t y]
  idx_vars y
  exact (pay6 m c t _ _).trans (point m p c t _ _)

theorem final_6 (p : Pre_NormFKernelIdeal_finite_nf m) (c : Dev nD) :
    (dats m 0 c).arrAt 6 (cfgs 0).N = val_main_v39 (F := Ideal) (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  rw [after0_6]
  have ht := t_lt t
  rcases Nat.eq_zero_or_pos t.val with h | h
  · rw [outsAt0_A m c t (by omega) (by omega)]
    frame_out
    exact point_6 m p c t y
  · rw [outsAt0_B m c t (by omega) h]
    frame_out
    exact point_6 m p c t y

/-- The rows of the blocks, joined. -/
theorem join (t : Fin cfg0.N) (hr : t.val % 16 = 16 - 1) (f : Fin 4096 → EReal) :
    ∑ s : Fin 16, ∑ k : Fin 256, f (row ⟨16 * (t.val / 16) + s.val, Pipeline.run_point_lt_of_flush t hr s⟩ k) = ∑ r : Fin 4096, f r := by
  refine Fin.sum_mul_add_congr fun s k hl => ?_
  have ht := t_lt t
  exact congrArg f (Fin.ext (by show (16 * (t.val / 16) + s.val) * 256 + k.val = s.val * 256 + k.val; omega))

theorem sum_7 (c : Dev nD) (t : Fin cfg0.N) (hr : t.val % 16 = 16 - 1) (y : S1x1024.Idx) :
    ∑ s : Fin 16, k0_pay7 (iblk m c 0 ⟨16 * (t.val / 16) + s.val, Pipeline.run_point_lt_of_flush t hr s⟩) (iblk m c 1 ⟨16 * (t.val / 16) + s.val, Pipeline.run_point_lt_of_flush t hr s⟩) (iblk m c 2 ⟨16 * (t.val / 16) + s.val, Pipeline.run_point_lt_of_flush t hr s⟩) y
      = val_main_v21 (F := Ideal) (m (c.tc.loc main_arg0)) (m (c.tc.loc main_arg1)) (m (c.tc.loc main_arg2)) (((cfg0.win 7).blk t).view.emb y) := by
  have e : ((cfg0.win 7).blk t).view.emb y = ix2 (0 : Fin 1) (y 1) := by
    blk_ext [idx t]
  rw [e]
  idx_vars y
  refine Eq.trans ?_ (v21 _ _ _ _).symm
  refine Eq.trans ?_ (join t hr fun r => dyr (m (c.tc.loc main_arg0)) (m (c.tc.loc main_arg1)) r _ * (xr (m (c.tc.loc main_arg2)) r _ * rms (xr (m (c.tc.loc main_arg2)) r)))
  refine Finset.sum_congr rfl fun s _ => ?_
  simp only [payg, bx_eq, bdy_eq]

theorem final_7 (c : Dev nD) : (dats m 0 c).arrAt 7 (cfgs 0).N = val_main_v21 (F := Ideal) (m (c.tc.loc main_arg0)) (m (c.tc.loc main_arg1)) (m (c.tc.loc main_arg2)) := by
  refine (dats m 0 c).arrAt_eq_of_covers 7 _ (by decide +kernel) fun t hf y => ?_
  refine Eq.trans ?_ (sum_7 m c t ((flush0_7 t).mp hf) y)
  blk_simp
  rw [after0_7, Pipeline.eq_sum_fin_of_reset_step_apply_of_flush (fun n h => (outsAt0 m c n h).2.2) 16 (fun _ => 0)
    (fun t => k0_pay7 (iblk m c 0 t) (iblk m c 1 t) (iblk m c 2 t)) ?_ ?_ t ((flush0_7 t).mp hf) _, zero_add]
  · intro t h i
    have ht := t_lt t
    rw [outsAt0_A m c t h (by omega)]
    frame_out
    exact (zero_add _).symm
  · intro t h i
    rw [outsAt0_B m c t h (by omega)]
    frame_out
    pointwise [k0_pay1]

end Cert.NormFKernelIdeal.Hand

namespace Cert.Hand

/-- The kernel’s rows are the gradient of the norm's rows, its sums the gradient of the gains. -/
theorem NormF : algebraic_NormFKernelIdeal_NormFReferenceIdeal_pre_finite_nf := by
  pair_intro
  · run_from NormFKernelIdeal.Gen.run_main m g
  · refine (θ_run _ _ _).mono ?_ (NormFReferenceIdeal.Value.run m' g')
    intro r h c
    obtain ⟨r0, r1, r2, h0, h1, h2, h3, h4⟩ := h c
    obtain ⟨a0, a1, a2, a3, a4⟩ := hagree c
    refine ⟨r0.trans ((NormFReferenceIdeal.Read.val_main_v38_eq m' c).trans ?_), r1.trans ((NormFReferenceIdeal.Read.val_main_v39_eq m' c).trans ?_), r2.trans ((NormFReferenceIdeal.Read.val_main_v21_eq _ _ _).trans ?_), h0, h1, h2, h3, h4⟩
    · rw [a0, a1, a2, a3, a4]
      exact (NormFKernelIdeal.Hand.final_5 m hpre c).symm
    · rw [a0, a1, a2, a3, a4]
      exact (NormFKernelIdeal.Hand.final_6 m hpre c).symm
    · rw [a0, a1, a2]
      exact (NormFKernelIdeal.Hand.final_7 m c).symm

/-- The reference runs and leaves its arguments as they were. -/
theorem ref_NormF : quiescent_NormFReferenceIdeal := by
  intro m g hpre
  hlo_run
  all_goals first
    | exact fun _ => by simp
    | exact sem_eq_zero_of_no_sems (sig := NormFReferenceIdeal.sig) (by decide) _

end Cert.Hand

end
-- ==== Proof.NormH.lean ====
/-
  The gradient of a norm's rows taken from the cotangent of the product behind it (the three branches), and the gradient of the
  norm's gains, summed over the blocks of rows.
-/
module

public import proofs.«01_k».proof.Proof.Gen.NormHKernelIdeal.Frame
public import proofs.«01_k».proof.Proof.Gen.NormHReferenceIdeal.Read
public import Idealize.ShloMosaic.Lib.Pipeline.ValueKit
public import Idealize.ShloMosaic.Lib.Claim
public import proofs.«01_k».proof.Defs
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.Hand

instance facts_finite_nh : Pre_finite_nh.Facts := by constructor <;> decide

end Cert.Hand

namespace Cert.NormHKernelIdeal.Hand

open Cert.NormHKernelIdeal Cert.NormHKernelIdeal.Gen Cert.NormHReferenceIdeal.Read Cert.Hand

variable (m : (ℓ : Loc nD τ sig) → Buf (Elt Ideal) ℓ)

theorem pre (h : Pre_NormHKernelIdeal_finite_nh m) (c : Dev nD) :
    ((∀ i, IsReal ((m (c.tc.loc main_arg0)) i)) ∧ ∀ i, IsReal ((m (c.tc.loc main_arg1)) i)) ∧ (∀ i, IsReal ((m (c.tc.loc main_arg2)) i)) ∧ ∀ i, IsReal ((m (c.tc.loc main_arg3)) i) := by
  have h := congrFun (h c) (fun i => i.elim0)
  unfold Pre_finite_nh.fn at h
  obtain ⟨h, h4⟩ := andi_flags h
  obtain ⟨h, h3⟩ := andi_flags h
  obtain ⟨h1, h2⟩ := andi_flags h
  haveI : Subsingleton (Pre_finite_nh.S_).Idx := ⟨fun a b => funext fun i => i.elim0⟩
  exact ⟨⟨fun i => isReal_of_abs_lt (Host.reduce_andi_all _ _ _ _ _ h1 i), fun i => isReal_of_abs_lt (Host.reduce_andi_all _ _ _ _ _ h2 i)⟩,
    fun i => isReal_of_abs_lt (Host.reduce_andi_all _ _ _ _ _ h3 i), fun i => isReal_of_abs_lt (Host.reduce_andi_all _ _ _ _ _ h4 i)⟩

/-! ## The reference, row by row -/

section Ref
variable (a0 : FVec Ideal NormHReferenceIdeal.S4096x5120 .bf16) (a1 : FVec Ideal NormHReferenceIdeal.S1024x5120 .bf16) (a2 : FVec Ideal NormHReferenceIdeal.S4096x1024 .f32) (a3 : FVec Ideal NormHReferenceIdeal.S1x1024 .f32) (a4 : FVec Ideal NormHReferenceIdeal.S4096x1024 .f32)

/-- A row of the norm's argument, and of the cotangent of its result. -/
def xr (r : Fin 4096) (k : Fin 1024) : EReal := a2 (ix2 r k)
def dyr (r : Fin 4096) (k : Fin 1024) : EReal := ∑ l : Fin 5120, a0 (ix2 r l) * a1 (ix2 k l)

theorem v6 (r : Fin 4096) (q : Fin 1) : val_main_v6 (F := Ideal) a2 (ix2 r q) = msq (xr a2 r) := by
  pointwise [val_main_v0, val_main_cst, val_main_v1, val_main_v2, val_main_cst_0, val_main_v3, val_main_v4, val_main_cst_1, val_main_v5, val_main_v6]
  rfl

theorem v7 (r : Fin 4096) (q : Fin 1) : val_main_v7 (F := Ideal) a2 (ix2 r q) = rms (xr a2 r) := by
  rw [val_main_v7_apply, v6]
  rfl

theorem v18 (r : Fin 4096) (j : Fin 1024) : val_main_v18 (F := Ideal) a0 a1 (ix2 r j) = dyr a0 a1 r j := by
  pointwise [val_main_v15, val_main_v17, val_main_v18]
  rfl

theorem v21 (j : Fin 1024) : val_main_v21 (F := Ideal) a0 a1 a2 (ix2 (0 : Fin 1) j) = ∑ r : Fin 4096, dyr a0 a1 r j * (xr a2 r j * rms (xr a2 r)) := by
  pointwise [val_main_v11, val_main_v12, val_main_v19, val_main_cst_3, val_main_v20, val_main_v21]
  simp only [v7, v18]
  exact Finset.sum_congr rfl fun r _ => mul_comm _ _

theorem v38 (r : Fin 4096) (j : Fin 1024) : val_main_v38 (F := Ideal) a0 a1 a2 a3 a4 (ix2 r j)
    = a4 (ix2 r j) + dyr a0 a1 r j * a3 (ix2 (0 : Fin 1) j) * rms (xr a2 r)
        + xr a2 r j * (∑ _k : Fin 1, Ideal.div ((∑ k, xr a2 r k * (dyr a0 a1 r k * a3 (ix2 (0 : Fin 1) k))) * (Ideal.ofBits .f32 0xBF000000#32 * Ideal.div (rms (xr a2 r)) (msq (xr a2 r)))) (Ideal.ofBits .f32 0x44800000#32))
        + (∑ _k : Fin 1, Ideal.div ((∑ k, xr a2 r k * (dyr a0 a1 r k * a3 (ix2 (0 : Fin 1) k))) * (Ideal.ofBits .f32 0xBF000000#32 * Ideal.div (rms (xr a2 r)) (msq (xr a2 r)))) (Ideal.ofBits .f32 0x44800000#32)) * xr a2 r j := by
  pointwise [val_main_v8, val_main_cst_2, val_main_v9, val_main_v10, val_main_v22, val_main_v23, val_main_v24, val_main_cst_4, val_main_v25, val_main_v26, val_main_v27, val_main_v28, val_main_v29, val_main_v30, val_main_cst_5, val_main_v31, val_main_v32, val_main_cst_6, val_main_v33, val_main_v34, val_main_v35, val_main_v36, val_main_v37, val_main_v38]
  simp only [v6, v7, v18]
  rfl

end Ref

/-! ## The kernel at a grid point -/

section Block
variable (v0 : Vec Ideal S256x5120 .bf16) (v1 : Vec Ideal S1024x5120 .bf16) (v3 : Vec Ideal S256x1024 .f32) (v14 : Vec Ideal S1x1024 .f32) (v17 : Vec Ideal S256x1024 .f32)

/-- A row of a block, and of the cotangent of its norm. -/
def bx (a : Fin 256) (k : Fin 1024) : EReal := v3 (ix2 a k)
def bdy (a : Fin 256) (k : Fin 1024) : EReal := ∑ l : Fin 5120, v0 (ix2 a l) * v1 (ix2 k l)

theorem pay2 (a : Fin 256) (b : Fin 1024) : k0_pay2 v0 v1 (ix2 a b) = bdy v0 v1 a b := by
  pointwise [k0_pay2]
  rfl

theorem pay4 (a : Fin 256) (b : Fin 1024) : k0_pay4 v3 (ix2 a b) = bx v3 a b * rms (bx v3 a) := by
  pointwise [k0_pay4, k0_pay3]
  rfl

theorem pay5 (a : Fin 256) (b : Fin 1024) : k0_pay5 v0 v1 v3 v14 v17 (ix2 a b)
    = v17 (ix2 a b) + rms (bx v3 a) * (bdy v0 v1 a b * v14 (ix2 (0 : Fin 1) b) - bx v3 a b * rms (bx v3 a)
        * Ideal.div (∑ k : Fin 1024, bdy v0 v1 a k * v14 (ix2 (0 : Fin 1) k) * (bx v3 a k * rms (bx v3 a))) (Ideal.ofBits .f32 0x44800000#32)) := by
  pointwise [k0_pay5, k0_pay3]
  simp only [pay2, pay4]
  rfl

theorem payg (q : Fin 1) (b : Fin 1024) : k0_pay6 v0 v1 v3 (ix2 q b) = ∑ a : Fin 256, bdy v0 v1 a b * (bx v3 a b * rms (bx v3 a)) := by
  pointwise [k0_pay6]
  simp only [pay2, pay4]

end Block

/-- The block each window stages at a grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

theorem t_lt (t : Fin cfg0.N) : t.val < 16 := t.isLt

/-- The row of the whole array that is row `a` of the block at point `t`. -/
def row (t : Fin cfg0.N) (a : Fin 256) : Fin 4096 := ⟨t.val * 256 + a.val, by have := t_lt t; omega⟩

theorem r0 (c : Dev nD) (t : Fin cfg0.N) (z : S256x5120.Idx) : iblk m c 0 t z = (m (c.tc.loc main_arg0)) (ix2 (row t (z 0)) (z 1)) := by
  unfold row
  blk_point [iblk, V, idx t]
theorem r1 (c : Dev nD) (t : Fin cfg0.N) (z : S1024x5120.Idx) : iblk m c 1 t z = (m (c.tc.loc main_arg1)) z := by
  blk_point [iblk, V, idx t]
theorem r2 (c : Dev nD) (t : Fin cfg0.N) (z : S256x1024.Idx) : iblk m c 2 t z = (m (c.tc.loc main_arg2)) (ix2 (row t (z 0)) (z 1)) := by
  unfold row
  blk_point [iblk, V, idx t]
theorem r3 (c : Dev nD) (t : Fin cfg0.N) (z : S1x1024.Idx) : iblk m c 3 t z = (m (c.tc.loc main_arg3)) z := by
  blk_point [iblk, V, idx t]
theorem r4 (c : Dev nD) (t : Fin cfg0.N) (z : S256x1024.Idx) : iblk m c 4 t z = (m (c.tc.loc main_arg4)) (ix2 (row t (z 0)) (z 1)) := by
  unfold row
  blk_point [iblk, V, idx t]

theorem bx_eq (c : Dev nD) (t : Fin cfg0.N) (a : Fin 256) : bx (iblk m c 2 t) a = xr (m (c.tc.loc main_arg2)) (row t a) := by
  funext k
  unfold bx xr
  rw [r2]
  rfl
theorem bdy_eq (c : Dev nD) (t : Fin cfg0.N) (a : Fin 256) : bdy (iblk m c 0 t) (iblk m c 1 t) a = dyr (m (c.tc.loc main_arg0)) (m (c.tc.loc main_arg1)) (row t a) := by
  funext k
  unfold bdy dyr
  simp only [r0, r1]
  rfl

theorem point (p : Pre_NormHKernelIdeal_finite_nh m) (c : Dev nD) (t : Fin cfg0.N) (a : Fin 256) (b : Fin 1024) :
    k0_pay5 (iblk m c 0 t) (iblk m c 1 t) (iblk m c 2 t) (iblk m c 3 t) (iblk m c 4 t) (ix2 a b)
      = val_main_v38 (F := Ideal) (m (c.tc.loc main_arg0)) (m (c.tc.loc main_arg1)) (m (c.tc.loc main_arg2)) (m (c.tc.loc main_arg3)) (m (c.tc.loc main_arg4)) (ix2 (row t a) b) := by
  obtain ⟨⟨f0, f1⟩, f2, f3⟩ := pre m p c
  rw [pay5, v38, bx_eq, bdy_eq, r4]
  simp only [r3]
  exact rms_grad (xr _ _) (fun k => dyr _ _ (row t a) k * (m (c.tc.loc main_arg3)) (ix2 (0 : Fin 1) k)) (fun k => f2 _)
    (fun k => (isReal_sum _ _ fun l _ => (f0 _).mul (f1 _)).mul (f3 _)) _ b

theorem emb_5 (t : Fin cfg0.N) (y : S256x1024.Idx) : ((cfg0.win 5).blk t).view.emb y = ix2 (row t (y 0)) (y 1) := by
  unfold row
  blk_ext [idx t]

theorem point_5 (p : Pre_NormHKernelIdeal_finite_nh m) (c : Dev nD) (t : Fin cfg0.N) (y : S256x1024.Idx) :
    k0_pay5 (iblk m c 0 t) (iblk m c 1 t) (iblk m c 2 t) (iblk m c 3 t) (iblk m c 4 t) y = val_main_v38 (F := Ideal) (m (c.tc.loc main_arg0)) (m (c.tc.loc main_arg1)) (m (c.tc.loc main_arg2)) (m (c.tc.loc main_arg3)) (m (c.tc.loc main_arg4)) (((cfg0.win 5).blk t).view.emb y) := by
  rw [emb_5 t y]
  idx_vars y
  exact point m p c t _ _

theorem final_5 (p : Pre_NormHKernelIdeal_finite_nh m) (c : Dev nD) :
    (dats m 0 c).arrAt 5 (cfgs 0).N = val_main_v38 (F := Ideal) (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  rw [after0_5]
  have ht := t_lt t
  rcases Nat.eq_zero_or_pos t.val with h | h
  · rw [outsAt0_A m c t (by omega) (by omega)]
    frame_out
    exact point_5 m p c t y
  · rw [outsAt0_B m c t (by omega) h]
    frame_out
    exact point_5 m p c t y

/-- The rows of the blocks, joined. -/
theorem join (t : Fin cfg0.N) (hr : t.val % 16 = 16 - 1) (f : Fin 4096 → EReal) :
    ∑ s : Fin 16, ∑ k : Fin 256, f (row ⟨16 * (t.val / 16) + s.val, Pipeline.run_point_lt_of_flush t hr s⟩ k) = ∑ r : Fin 4096, f r := by
  refine Fin.sum_mul_add_congr fun s k hl => ?_
  have ht := t_lt t
  exact congrArg f (Fin.ext (by show (16 * (t.val / 16) + s.val) * 256 + k.val = s.val * 256 + k.val; omega))

theorem sum_6 (c : Dev nD) (t : Fin cfg0.N) (hr : t.val % 16 = 16 - 1) (y : S1x1024.Idx) :
    ∑ s : Fin 16, k0_pay6 (iblk m c 0 ⟨16 * (t.val / 16) + s.val, Pipeline.run_point_lt_of_flush t hr s⟩) (iblk m c 1 ⟨16 * (t.val / 16) + s.val, Pipeline.run_point_lt_of_flush t hr s⟩) (iblk m c 2 ⟨16 * (t.val / 16) + s.val, Pipeline.run_point_lt_of_flush t hr s⟩) y
      = val_main_v21 (F := Ideal) (m (c.tc.loc main_arg0)) (m (c.tc.loc main_arg1)) (m (c.tc.loc main_arg2)) (((cfg0.win 6).blk t).view.emb y) := by
  have e : ((cfg0.win 6).blk t).view.emb y = ix2 (0 : Fin 1) (y 1) := by
    blk_ext [idx t]
  rw [e]
  idx_vars y
  refine Eq.trans ?_ (v21 _ _ _ _).symm
  refine Eq.trans ?_ (join t hr fun r => dyr (m (c.tc.loc main_arg0)) (m (c.tc.loc main_arg1)) r _ * (xr (m (c.tc.loc main_arg2)) r _ * rms (xr (m (c.tc.loc main_arg2)) r)))
  refine Finset.sum_congr rfl fun s _ => ?_
  simp only [payg, bx_eq, bdy_eq]

theorem final_6 (c : Dev nD) : (dats m 0 c).arrAt 6 (cfgs 0).N = val_main_v21 (F := Ideal) (m (c.tc.loc main_arg0)) (m (c.tc.loc main_arg1)) (m (c.tc.loc main_arg2)) := by
  refine (dats m 0 c).arrAt_eq_of_covers 6 _ (by decide +kernel) fun t hf y => ?_
  refine Eq.trans ?_ (sum_6 m c t ((flush0_6 t).mp hf) y)
  blk_simp
  rw [after0_6, Pipeline.eq_sum_fin_of_reset_step_apply_of_flush (fun n h => (outsAt0 m c n h).2) 16 (fun _ => 0)
    (fun t => k0_pay6 (iblk m c 0 t) (iblk m c 1 t) (iblk m c 2 t)) ?_ ?_ t ((flush0_6 t).mp hf) _, zero_add]
  · intro t h i
    have ht := t_lt t
    rw [outsAt0_A m c t h (by omega)]
    frame_out
    exact (zero_add _).symm
  · intro t h i
    rw [outsAt0_B m c t h (by omega)]
    frame_out
    pointwise [k0_pay1]

end Cert.NormHKernelIdeal.Hand

namespace Cert.Hand

/-- The kernel’s rows are the gradient of the norm's rows, its sums the gradient of the gains. -/
theorem NormH : algebraic_NormHKernelIdeal_NormHReferenceIdeal_pre_finite_nh := by
  pair_intro
  · run_from NormHKernelIdeal.Gen.run_main m g
  · refine (θ_run _ _ _).mono ?_ (NormHReferenceIdeal.Value.run m' g')
    intro r h c
    obtain ⟨r0, r1, h0, h1, h2, h3, h4⟩ := h c
    obtain ⟨a0, a1, a2, a3, a4⟩ := hagree c
    refine ⟨r0.trans ((NormHReferenceIdeal.Read.val_main_v38_eq m' c).trans ?_), r1.trans ((NormHReferenceIdeal.Read.val_main_v21_eq _ _ _).trans ?_), h0, h1, h2, h3, h4⟩
    · rw [a0, a1, a2, a3, a4]
      exact (NormHKernelIdeal.Hand.final_5 m hpre c).symm
    · rw [a0, a1, a2]
      exact (NormHKernelIdeal.Hand.final_6 m c).symm

/-- The reference runs and leaves its arguments as they were. -/
theorem ref_NormH : quiescent_NormHReferenceIdeal := by
  intro m g hpre
  hlo_run
  all_goals first
    | exact fun _ => by simp
    | exact sem_eq_zero_of_no_sems (sig := NormHReferenceIdeal.sig) (by decide) _

end Cert.Hand

end
-- ==== Proof.Loss.lean ====
/-
  The last layer, the norm behind it and the loss: the loss itself, the gradient of the layer's result and the gradient
  of the norm's gains.
-/
module

public import proofs.«01_k».proof.Proof.Gen.LossKernelIdeal.Frame
public import proofs.«01_k».proof.Proof.Gen.LossReferenceIdeal.Read
public import Idealize.ShloMosaic.Lib.Pipeline.ValueKit
public import Idealize.ShloMosaic.Lib.Claim
public import proofs.«01_k».proof.Defs
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.Hand

instance facts_finite_loss : Pre_finite_loss.Facts := by constructor <;> decide

theorem ofBits_half : Ideal.ofBits .f32 0x3F000000#32 = ((1 / 2 : ℝ) : EReal) := by
  simp [Ideal.ofBits, Ideal.ieee]; rw [← EReal.coe_mul]; congr 1; norm_num
theorem ofBits_two : Ideal.ofBits .f32 0x40000000#32 = ((2 : ℝ) : EReal) := by
  simp [Ideal.ofBits, Ideal.ieee]; rw [← EReal.coe_mul]; congr 1; norm_num
theorem ofBits_inv_1024 : Ideal.ofBits .f32 0x3A800000#32 = ((1 / 1024 : ℝ) : EReal) := by
  simp [Ideal.ofBits, Ideal.ieee]; rw [← EReal.coe_mul]; congr 1; norm_num

/-- The derivative of half the mean of the squares, `(1/2 · 1 / 1024) (2 e)`, is `e / 1024`. -/
theorem half_square (e : EReal) : Ideal.div (Ideal.ofBits .f32 0x3F000000#32) (Ideal.ofBits .f32 0x44800000#32)
    * (Ideal.ofBits .f32 0x40000000#32 * e) = e * Ideal.ofBits .f32 0x3A800000#32 := by
  rw [ofBits_half, ofBits_1024, ofBits_two, ofBits_inv_1024, Ideal.div_coe (by norm_num : (1024 : ℝ) ≠ 0), ← EReal.coe_mul,
    ← mul_assoc, ← EReal.coe_mul, mul_comm]
  congr 2
  norm_num

end Cert.Hand

namespace Cert.LossKernelIdeal.Hand

open Cert.LossKernelIdeal Cert.LossKernelIdeal.Gen Cert.LossReferenceIdeal.Read Cert.Hand

variable (m : (ℓ : Loc nD τ sig) → Buf (Elt Ideal) ℓ)

theorem pre (h : Pre_LossKernelIdeal_finite_loss m) (c : Dev nD) :
    ((∀ i, IsReal ((m (c.tc.loc main_arg0)) i)) ∧ ∀ i, IsReal ((m (c.tc.loc main_arg1)) i)) ∧ (∀ i, IsReal ((m (c.tc.loc main_arg2)) i)) ∧ (∀ i, IsReal ((m (c.tc.loc main_arg3)) i)) ∧ ∀ i, IsReal ((m (c.tc.loc main_arg4)) i) := by
  have h := congrFun (h c) (fun i => i.elim0)
  unfold Pre_finite_loss.fn at h
  obtain ⟨h, h5⟩ := andi_flags h
  obtain ⟨h, h4⟩ := andi_flags h
  obtain ⟨h, h3⟩ := andi_flags h
  obtain ⟨h1, h2⟩ := andi_flags h
  haveI : Subsingleton (Pre_finite_loss.S_).Idx := ⟨fun a b => funext fun i => i.elim0⟩
  exact ⟨⟨fun i => isReal_of_abs_lt (Host.reduce_andi_all _ _ _ _ _ h1 i), fun i => isReal_of_abs_lt (Host.reduce_andi_all _ _ _ _ _ h2 i)⟩,
    fun i => isReal_of_abs_lt (Host.reduce_andi_all _ _ _ _ _ h3 i), fun i => isReal_of_abs_lt (Host.reduce_andi_all _ _ _ _ _ h4 i),
    fun i => isReal_of_abs_lt (Host.reduce_andi_all _ _ _ _ _ h5 i)⟩

/-! ## The reference, row by row -/

section Ref
variable (a0 : FVec Ideal LossReferenceIdeal.S4096x2816 .bf16) (a1 : FVec Ideal LossReferenceIdeal.S2816x1024 .bf16) (a2 : FVec Ideal LossReferenceIdeal.S4096x1024 .f32) (a3 : FVec Ideal LossReferenceIdeal.S1x1024 .f32) (a4 : FVec Ideal LossReferenceIdeal.S4096x1024 .f32)

/-- A row of the last layer's result, and of the error of its norm. -/
def xr (r : Fin 4096) (k : Fin 1024) : EReal := a2 (ix2 r k) + ∑ l : Fin 2816, a0 (ix2 r l) * a1 (ix2 l k)
def er (r : Fin 4096) (k : Fin 1024) : EReal := xr a0 a1 a2 r k * rms (xr a0 a1 a2 r) * a3 (ix2 (0 : Fin 1) k) - a4 (ix2 r k)

theorem v3 (r : Fin 4096) (j : Fin 1024) : val_main_v3 (F := Ideal) a0 a1 a2 (ix2 r j) = xr a0 a1 a2 r j := by
  pointwise [val_main_v0, val_main_v1, val_main_v2, val_main_v3]
  rfl

theorem v10 (r : Fin 4096) (q : Fin 1) : val_main_v10 (F := Ideal) a0 a1 a2 (ix2 r q) = msq (xr a0 a1 a2 r) := by
  pointwise [val_main_v4, val_main_cst, val_main_v5, val_main_v6, val_main_cst_0, val_main_v7, val_main_v8, val_main_cst_1, val_main_v9, val_main_v10]
  simp only [v3]
  rfl

theorem v11 (r : Fin 4096) (q : Fin 1) : val_main_v11 (F := Ideal) a0 a1 a2 (ix2 r q) = rms (xr a0 a1 a2 r) := by
  rw [val_main_v11_apply, v10]
  rfl

theorem v16 (r : Fin 4096) (j : Fin 1024) : val_main_v16 (F := Ideal) a0 a1 a2 (ix2 r j) = xr a0 a1 a2 r j * rms (xr a0 a1 a2 r) := by
  pointwise [val_main_v15, val_main_v16]
  simp only [v3, v11]

theorem v19 (r : Fin 4096) (j : Fin 1024) : val_main_v19 (F := Ideal) a0 a1 a2 a3 a4 (ix2 r j) = er a0 a1 a2 a3 a4 r j := by
  pointwise [val_main_v17, val_main_v18, val_main_v19]
  simp only [v16]
  rfl

theorem v33 (r : Fin 4096) (j : Fin 1024) : val_main_v33 (F := Ideal) a0 a1 a2 a3 a4 (ix2 r j) = er a0 a1 a2 a3 a4 r j * Ideal.ofBits .f32 0x3A800000#32 := by
  pointwise [val_main_cst_3, val_main_v21, val_main_v22, val_main_cst_8, val_main_cst_9, val_main_v28, val_main_v29, val_main_cst_10, val_main_v30, val_main_v31, val_main_v32, val_main_v33]
  simp only [v19]
  exact half_square _

theorem v36 (q : Fin 1) (j : Fin 1024) : val_main_v36 (F := Ideal) a0 a1 a2 a3 a4 (ix2 q j)
    = ∑ r : Fin 4096, er a0 a1 a2 a3 a4 r j * Ideal.ofBits .f32 0x3A800000#32 * (xr a0 a1 a2 r j * rms (xr a0 a1 a2 r)) := by
  pointwise [val_main_v34, val_main_cst_11, val_main_v35, val_main_v36]
  simp only [v16, v33]
  exact Finset.sum_congr rfl fun r _ => mul_comm _ _

theorem v52 (r : Fin 4096) (j : Fin 1024) : val_main_v52 (F := Ideal) a0 a1 a2 a3 a4 (ix2 r j)
    = er a0 a1 a2 a3 a4 r j * Ideal.ofBits .f32 0x3A800000#32 * a3 (ix2 (0 : Fin 1) j) * rms (xr a0 a1 a2 r)
        + xr a0 a1 a2 r j * (∑ _k : Fin 1, Ideal.div ((∑ k, xr a0 a1 a2 r k * (er a0 a1 a2 a3 a4 r k * Ideal.ofBits .f32 0x3A800000#32 * a3 (ix2 (0 : Fin 1) k))) * (Ideal.ofBits .f32 0xBF000000#32 * Ideal.div (rms (xr a0 a1 a2 r)) (msq (xr a0 a1 a2 r)))) (Ideal.ofBits .f32 0x44800000#32))
        + (∑ _k : Fin 1, Ideal.div ((∑ k, xr a0 a1 a2 r k * (er a0 a1 a2 a3 a4 r k * Ideal.ofBits .f32 0x3A800000#32 * a3 (ix2 (0 : Fin 1) k))) * (Ideal.ofBits .f32 0xBF000000#32 * Ideal.div (rms (xr a0 a1 a2 r)) (msq (xr a0 a1 a2 r)))) (Ideal.ofBits .f32 0x44800000#32)) * xr a0 a1 a2 r j := by
  pointwise [val_main_v12, val_main_cst_2, val_main_v13, val_main_v14, val_main_v37, val_main_v38, val_main_v39, val_main_cst_12, val_main_v40, val_main_v41, val_main_v42, val_main_v43, val_main_v44, val_main_cst_13, val_main_v45, val_main_v46, val_main_cst_14, val_main_v47, val_main_v48, val_main_v49, val_main_v50, val_main_v51, val_main_v52]
  simp only [v3, v10, v11, v33]
  try rfl

theorem v54 (q : Fin 1) (j : Fin 128) : val_main_v54 (F := Ideal) a0 a1 a2 a3 a4 (ix2 q j)
    = Ideal.ofBits .f32 0x3F000000#32 * ∑ r : Fin 4096, Ideal.div (∑ k, er a0 a1 a2 a3 a4 r k * er a0 a1 a2 a3 a4 r k) (Ideal.ofBits .f32 0x44800000#32) := by
  pointwise [val_main_v20, val_main_cst_4, val_main_v23, val_main_cst_5, val_main_v24, val_main_v25, val_main_cst_6, val_main_v26, val_main_cst_7, val_main_v27, val_main_v54]
  simp only [v19]
  try rfl

end Ref

/-! ## The kernel at a grid point -/

section Block
variable (v0 : Vec Ideal S512x1024 .f32) (v1 : Vec Ideal S512x2816 .bf16) (v2 : Vec Ideal S2816x1024 .bf16) (v5 : Vec Ideal S1x1024 .f32) (v18 : Vec Ideal S512x1024 .f32)

/-- A row of a block of the last layer's result, and of the error of its norm. -/
def bx (a : Fin 512) (k : Fin 1024) : EReal := v0 (ix2 a k) + ∑ l : Fin 2816, v1 (ix2 a l) * v2 (ix2 l k)
def be (a : Fin 512) (k : Fin 1024) : EReal := bx v0 v1 v2 a k * rms (bx v0 v1 v2 a) * v5 (ix2 (0 : Fin 1) k) - v18 (ix2 a k)

theorem pay7 (a : Fin 512) (b : Fin 1024) : k0_pay7 v0 v1 v2 (ix2 a b) = bx v0 v1 v2 a b := by
  pointwise [k0_pay7]
  rfl

theorem pay8 (a : Fin 512) (q : Fin 1) : k0_pay8 v0 v1 v2 (ix2 a q) = rms (bx v0 v1 v2 a) := by
  pointwise [k0_pay8]
  simp only [pay7]
  rfl

theorem pay9 (a : Fin 512) (b : Fin 1024) : k0_pay9 v0 v1 v2 (ix2 a b) = bx v0 v1 v2 a b * rms (bx v0 v1 v2 a) := by
  pointwise [k0_pay9]
  simp only [pay7, pay8]

theorem pay10 (a : Fin 512) (b : Fin 1024) : k0_pay10 v0 v1 v2 v5 v18 (ix2 a b) = be v0 v1 v2 v5 v18 a b := by
  pointwise [k0_pay10]
  simp only [pay9]
  rfl

theorem pay11 (q j : Fin 1) : k0_pay11 v0 v1 v2 v5 v18 (ix2 q j)
    = Ideal.ofBits .f32 0x3F000000#32 * ∑ a : Fin 512, Ideal.div (∑ k, be v0 v1 v2 v5 v18 a k * be v0 v1 v2 v5 v18 a k) (Ideal.ofBits .f32 0x44800000#32) := by
  pointwise [k0_pay11]
  simp only [pay10]
  try rfl

theorem pay12 (a : Fin 512) (b : Fin 1024) : k0_pay12 v0 v1 v2 v5 v18 (ix2 a b) = be v0 v1 v2 v5 v18 a b * Ideal.ofBits .f32 0x3A800000#32 := by
  pointwise [k0_pay12]
  simp only [pay10]

theorem pay1 (a : Fin 512) (b : Fin 1024) :
    k0_pay1 (k0_pay8 v0 v1 v2) (k0_pay9 v0 v1 v2) (k0_pay13 v0 v1 v2 v5 v18) (k0_pay14 v0 v1 v2 v5 v18) (ix2 a b)
      = rms (bx v0 v1 v2 a) * (be v0 v1 v2 v5 v18 a b * Ideal.ofBits .f32 0x3A800000#32 * v5 (ix2 (0 : Fin 1) b) - bx v0 v1 v2 a b * rms (bx v0 v1 v2 a)
        * Ideal.div (∑ k : Fin 1024, be v0 v1 v2 v5 v18 a k * Ideal.ofBits .f32 0x3A800000#32 * v5 (ix2 (0 : Fin 1) k) * (bx v0 v1 v2 a k * rms (bx v0 v1 v2 a))) (Ideal.ofBits .f32 0x44800000#32)) := by
  pointwise [k0_pay1, k0_pay13, k0_pay14]
  simp only [pay8, pay9, pay12]
  try rfl

theorem pay3 (q : Fin 1) (b : Fin 1024) : k0_pay3 (k0_pay9 v0 v1 v2) (k0_pay12 v0 v1 v2 v5 v18) (ix2 q b)
    = ∑ a : Fin 512, be v0 v1 v2 v5 v18 a b * Ideal.ofBits .f32 0x3A800000#32 * (bx v0 v1 v2 a b * rms (bx v0 v1 v2 a)) := by
  pointwise [k0_pay3]
  simp only [pay9, pay12]

theorem pay4 (q : Fin 1) (j : Fin 128) : k0_pay4 (k0_pay11 v0 v1 v2 v5 v18) (ix2 q j)
    = Ideal.ofBits .f32 0x3F000000#32 * ∑ a : Fin 512, Ideal.div (∑ k, be v0 v1 v2 v5 v18 a k * be v0 v1 v2 v5 v18 a k) (Ideal.ofBits .f32 0x44800000#32) := by
  pointwise [k0_pay4]
  exact pay11 _ _ _ _ _ _ _

end Block

/-- The block each window stages at a grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![t.val, 0]
    ∧ win0_7.index t = ![0, 0]
    ∧ win0_8.index t = ![0, 0] :=
  (by decide +kernel : ∀ t : Fin grid0.N, _)

theorem t_lt (t : Fin cfg0.N) : t.val < 8 := t.isLt

/-- The row of the whole array that is row `a` of the block at point `t`. -/
def row (t : Fin cfg0.N) (a : Fin 512) : Fin 4096 := ⟨t.val * 512 + a.val, by have := t_lt t; omega⟩

theorem r0 (c : Dev nD) (t : Fin cfg0.N) (z : S512x2816.Idx) : iblk m c 0 t z = (m (c.tc.loc main_arg0)) (ix2 (row t (z 0)) (z 1)) := by
  unfold row
  blk_point [iblk, V, idx t]
theorem r1 (c : Dev nD) (t : Fin cfg0.N) (z : S2816x1024.Idx) : iblk m c 1 t z = (m (c.tc.loc main_arg1)) z := by
  blk_point [iblk, V, idx t]
theorem r2 (c : Dev nD) (t : Fin cfg0.N) (z : S512x1024.Idx) : iblk m c 2 t z = (m (c.tc.loc main_arg2)) (ix2 (row t (z 0)) (z 1)) := by
  unfold row
  blk_point [iblk, V, idx t]
theorem r3 (c : Dev nD) (t : Fin cfg0.N) (z : S1x1024.Idx) : iblk m c 3 t z = (m (c.tc.loc main_arg3)) z := by
  blk_point [iblk, V, idx t]
theorem r4 (c : Dev nD) (t : Fin cfg0.N) (z : S512x1024.Idx) : iblk m c 4 t z = (m (c.tc.loc main_arg4)) (ix2 (row t (z 0)) (z 1)) := by
  unfold row
  blk_point [iblk, V, idx t]

theorem bx_eq (c : Dev nD) (t : Fin cfg0.N) (a : Fin 512) : bx (iblk m c 2 t) (iblk m c 0 t) (iblk m c 1 t) a = xr (m (c.tc.loc main_arg0)) (m (c.tc.loc main_arg1)) (m (c.tc.loc main_arg2)) (row t a) := by
  funext k
  unfold bx xr
  simp only [r0, r1, r2]
  rfl
theorem be_eq (c : Dev nD) (t : Fin cfg0.N) (a : Fin 512) : be (iblk m c 2 t) (iblk m c 0 t) (iblk m c 1 t) (iblk m c 3 t) (iblk m c 4 t) a = er (m (c.tc.loc main_arg0)) (m (c.tc.loc main_arg1)) (m (c.tc.loc main_arg2)) (m (c.tc.loc main_arg3)) (m (c.tc.loc main_arg4)) (row t a) := by
  funext k
  unfold be er
  rw [bx_eq, r3, r4]
  rfl

theorem er_real (p : Pre_LossKernelIdeal_finite_loss m) (c : Dev nD) (r : Fin 4096) (k : Fin 1024) :
    IsReal (xr (m (c.tc.loc main_arg0)) (m (c.tc.loc main_arg1)) (m (c.tc.loc main_arg2)) r k) ∧ IsReal (er (m (c.tc.loc main_arg0)) (m (c.tc.loc main_arg1)) (m (c.tc.loc main_arg2)) (m (c.tc.loc main_arg3)) (m (c.tc.loc main_arg4)) r k) := by
  obtain ⟨⟨f0, f1⟩, f2, f3, f4⟩ := pre m p c
  have hx : ∀ k, IsReal (xr (m (c.tc.loc main_arg0)) (m (c.tc.loc main_arg1)) (m (c.tc.loc main_arg2)) r k) := fun k => (f2 _).add (isReal_sum _ _ fun l _ => (f0 _).mul (f1 _))
  obtain ⟨V, q, -, -, -, hq⟩ := rms_real _ hx
  refine ⟨hx k, (((hx k).mul ?_).mul (f3 _)).sub (f4 _)⟩
  rw [hq]
  exact isReal_coe q

theorem point (p : Pre_LossKernelIdeal_finite_loss m) (c : Dev nD) (t : Fin cfg0.N) (a : Fin 512) (b : Fin 1024) :
    k0_pay1 (k0_pay8 (iblk m c 2 t) (iblk m c 0 t) (iblk m c 1 t)) (k0_pay9 (iblk m c 2 t) (iblk m c 0 t) (iblk m c 1 t)) (k0_pay13 (iblk m c 2 t) (iblk m c 0 t) (iblk m c 1 t) (iblk m c 3 t) (iblk m c 4 t)) (k0_pay14 (iblk m c 2 t) (iblk m c 0 t) (iblk m c 1 t) (iblk m c 3 t) (iblk m c 4 t)) (ix2 a b) = val_main_v52 (F := Ideal) (m (c.tc.loc main_arg0)) (m (c.tc.loc main_arg1)) (m (c.tc.loc main_arg2)) (m (c.tc.loc main_arg3)) (m (c.tc.loc main_arg4)) (ix2 (row t a) b) := by
  rw [pay1, v52, bx_eq, be_eq]
  simp only [r3]
  have f3 := (pre m p c).2.2.1
  have h := rms_grad (xr (m (c.tc.loc main_arg0)) (m (c.tc.loc main_arg1)) (m (c.tc.loc main_arg2)) (row t a)) (fun k => er (m (c.tc.loc main_arg0)) (m (c.tc.loc main_arg1)) (m (c.tc.loc main_arg2)) (m (c.tc.loc main_arg3)) (m (c.tc.loc main_arg4)) (row t a) k * Ideal.ofBits .f32 0x3A800000#32 * (m (c.tc.loc main_arg3)) (ix2 (0 : Fin 1) k))
    (fun k => (er_real m p c _ k).1) (fun k => ((er_real m p c _ k).2.mul (by rw [ofBits_inv_1024]; exact isReal_coe _)).mul (f3 _)) 0 b
  rw [zero_add, zero_add] at h
  exact h

theorem emb_5 (t : Fin cfg0.N) (y : S512x1024.Idx) : ((cfg0.win 5).blk t).view.emb y = ix2 (row t (y 0)) (y 1) := by
  unfold row
  blk_ext [idx t]

theorem point_5 (p : Pre_LossKernelIdeal_finite_loss m) (c : Dev nD) (t : Fin cfg0.N) (y : S512x1024.Idx) :
    k0_pay1 (k0_pay8 (iblk m c 2 t) (iblk m c 0 t) (iblk m c 1 t)) (k0_pay9 (iblk m c 2 t) (iblk m c 0 t) (iblk m c 1 t)) (k0_pay13 (iblk m c 2 t) (iblk m c 0 t) (iblk m c 1 t) (iblk m c 3 t) (iblk m c 4 t)) (k0_pay14 (iblk m c 2 t) (iblk m c 0 t) (iblk m c 1 t) (iblk m c 3 t) (iblk m c 4 t)) y = val_main_v52 (F := Ideal) (m (c.tc.loc main_arg0)) (m (c.tc.loc main_arg1)) (m (c.tc.loc main_arg2)) (m (c.tc.loc main_arg3)) (m (c.tc.loc main_arg4)) (((cfg0.win 5).blk t).view.emb y) := by
  rw [emb_5 t y]
  idx_vars y
  exact point m p c t _ _

theorem final_5 (p : Pre_LossKernelIdeal_finite_loss m) (c : Dev nD) :
    (dats m 0 c).arrAt 5 (cfgs 0).N = val_main_v52 (F := Ideal) (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  rw [after0_5]
  have ht := t_lt t
  rcases Nat.eq_zero_or_pos t.val with h | h
  · rw [outsAt0_A m c t (by omega) (by omega)]
    frame_out
    exact point_5 m p c t y
  · rw [outsAt0_B m c t (by omega) h]
    frame_out
    exact point_5 m p c t y

theorem emb_6 (t : Fin cfg0.N) (y : S512x1024.Idx) : ((cfg0.win 6).blk t).view.emb y = ix2 (row t (y 0)) (y 1) := by
  unfold row
  blk_ext [idx t]

theorem point_6 (p : Pre_LossKernelIdeal_finite_loss m) (c : Dev nD) (t : Fin cfg0.N) (y : S512x1024.Idx) :
    k0_pay2 (k0_pay8 (iblk m c 2 t) (iblk m c 0 t) (iblk m c 1 t)) (k0_pay9 (iblk m c 2 t) (iblk m c 0 t) (iblk m c 1 t)) (k0_pay13 (iblk m c 2 t) (iblk m c 0 t) (iblk m c 1 t) (iblk m c 3 t) (iblk m c 4 t)) (k0_pay14 (iblk m c 2 t) (iblk m c 0 t) (iblk m c 1 t) (iblk m c 3 t) (iblk m c 4 t)) y = val_main_v53 (F := Ideal) (m (c.tc.loc main_arg0)) (m (c.tc.loc main_arg1)) (m (c.tc.loc main_arg2)) (m (c.tc.loc main_arg3)) (m (c.tc.loc main_arg4)) (((cfg0.win 6).blk t).view.emb y) := by
  rw [emb_6 t y]
  idx_vars y
  unfold k0_pay2 val_main_v53
  exact point m p c t _ _

theorem final_6 (p : Pre_LossKernelIdeal_finite_loss m) (c : Dev nD) :
    (dats m 0 c).arrAt 6 (cfgs 0).N = val_main_v53 (F := Ideal) (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  rw [after0_6]
  have ht := t_lt t
  rcases Nat.eq_zero_or_pos t.val with h | h
  · rw [outsAt0_A m c t (by omega) (by omega)]
    frame_out
    exact point_6 m p c t y
  · rw [outsAt0_B m c t (by omega) h]
    frame_out
    exact point_6 m p c t y

/-- The rows of the blocks, joined. -/
theorem join (t : Fin cfg0.N) (hr : t.val % 8 = 8 - 1) (f : Fin 4096 → EReal) :
    ∑ s : Fin 8, ∑ k : Fin 512, f (row ⟨8 * (t.val / 8) + s.val, Pipeline.run_point_lt_of_flush t hr s⟩ k) = ∑ r : Fin 4096, f r := by
  refine Fin.sum_mul_add_congr fun s k hl => ?_
  have ht := t_lt t
  exact congrArg f (Fin.ext (by show (8 * (t.val / 8) + s.val) * 512 + k.val = s.val * 512 + k.val; omega))

theorem sum_7 (c : Dev nD) (t : Fin cfg0.N) (hr : t.val % 8 = 8 - 1) (y : S1x1024.Idx) :
    ∑ s : Fin 8, k0_pay3 (k0_pay9 (iblk m c 2 ⟨8 * (t.val / 8) + s.val, Pipeline.run_point_lt_of_flush t hr s⟩) (iblk m c 0 ⟨8 * (t.val / 8) + s.val, Pipeline.run_point_lt_of_flush t hr s⟩) (iblk m c 1 ⟨8 * (t.val / 8) + s.val, Pipeline.run_point_lt_of_flush t hr s⟩)) (k0_pay12 (iblk m c 2 ⟨8 * (t.val / 8) + s.val, Pipeline.run_point_lt_of_flush t hr s⟩) (iblk m c 0 ⟨8 * (t.val / 8) + s.val, Pipeline.run_point_lt_of_flush t hr s⟩) (iblk m c 1 ⟨8 * (t.val / 8) + s.val, Pipeline.run_point_lt_of_flush t hr s⟩) (iblk m c 3 ⟨8 * (t.val / 8) + s.val, Pipeline.run_point_lt_of_flush t hr s⟩) (iblk m c 4 ⟨8 * (t.val / 8) + s.val, Pipeline.run_point_lt_of_flush t hr s⟩)) y
      = val_main_v36 (F := Ideal) (m (c.tc.loc main_arg0)) (m (c.tc.loc main_arg1)) (m (c.tc.loc main_arg2)) (m (c.tc.loc main_arg3)) (m (c.tc.loc main_arg4)) (((cfg0.win 7).blk t).view.emb y) := by
  have e : ((cfg0.win 7).blk t).view.emb y = ix2 (0 : Fin 1) (y 1) := by
    blk_ext [idx t]
  rw [e]
  idx_vars y
  refine Eq.trans ?_ (v36 _ _ _ _ _ _ _).symm
  refine Eq.trans ?_ (join t hr fun r => er (m (c.tc.loc main_arg0)) (m (c.tc.loc main_arg1)) (m (c.tc.loc main_arg2)) (m (c.tc.loc main_arg3)) (m (c.tc.loc main_arg4)) r _ * Ideal.ofBits .f32 0x3A800000#32 * (xr (m (c.tc.loc main_arg0)) (m (c.tc.loc main_arg1)) (m (c.tc.loc main_arg2)) r _ * rms (xr (m (c.tc.loc main_arg0)) (m (c.tc.loc main_arg1)) (m (c.tc.loc main_arg2)) r)))
  refine Finset.sum_congr rfl fun s _ => ?_
  simp only [pay3, bx_eq, be_eq]

theorem sum_8 (p : Pre_LossKernelIdeal_finite_loss m) (c : Dev nD) (t : Fin cfg0.N) (hr : t.val % 8 = 8 - 1) (y : S1x128.Idx) :
    ∑ s : Fin 8, k0_pay4 (k0_pay11 (iblk m c 2 ⟨8 * (t.val / 8) + s.val, Pipeline.run_point_lt_of_flush t hr s⟩) (iblk m c 0 ⟨8 * (t.val / 8) + s.val, Pipeline.run_point_lt_of_flush t hr s⟩) (iblk m c 1 ⟨8 * (t.val / 8) + s.val, Pipeline.run_point_lt_of_flush t hr s⟩) (iblk m c 3 ⟨8 * (t.val / 8) + s.val, Pipeline.run_point_lt_of_flush t hr s⟩) (iblk m c 4 ⟨8 * (t.val / 8) + s.val, Pipeline.run_point_lt_of_flush t hr s⟩)) y
      = val_main_v54 (F := Ideal) (m (c.tc.loc main_arg0)) (m (c.tc.loc main_arg1)) (m (c.tc.loc main_arg2)) (m (c.tc.loc main_arg3)) (m (c.tc.loc main_arg4)) (((cfg0.win 8).blk t).view.emb y) := by
  have e : ((cfg0.win 8).blk t).view.emb y = ix2 (0 : Fin 1) (y 1) := by
    blk_ext [idx t]
  rw [e]
  idx_vars y
  refine Eq.trans ?_ (v54 _ _ _ _ _ _ _).symm
  have hd : ∀ r, IsReal (Ideal.div (∑ k, er (m (c.tc.loc main_arg0)) (m (c.tc.loc main_arg1)) (m (c.tc.loc main_arg2)) (m (c.tc.loc main_arg3)) (m (c.tc.loc main_arg4)) r k * er (m (c.tc.loc main_arg0)) (m (c.tc.loc main_arg1)) (m (c.tc.loc main_arg2)) (m (c.tc.loc main_arg3)) (m (c.tc.loc main_arg4)) r k) (Ideal.ofBits .f32 0x44800000#32)) := by
    intro r
    rw [ofBits_1024, Ideal.div_coe (by norm_num : (1024 : ℝ) ≠ 0)]
    exact (isReal_sum _ _ fun k _ => (er_real m p c r k).2.mul (er_real m p c r k).2).mul (isReal_coe _)
  have hh : IsReal (Ideal.ofBits .f32 0x3F000000#32) := by rw [ofBits_half]; exact isReal_coe _
  rw [← join t hr, mul_sum_real _ _ _ hh fun s _ => isReal_sum _ _ fun k _ => hd _]
  refine Finset.sum_congr rfl fun s _ => ?_
  simp only [pay4, be_eq]

theorem final_7 (c : Dev nD) : (dats m 0 c).arrAt 7 (cfgs 0).N = val_main_v36 (F := Ideal) (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  refine Eq.trans ?_ (sum_7 m c t ((flush0_7 t).mp hf) y)
  blk_simp
  rw [after0_7, Pipeline.eq_sum_fin_of_reset_step_apply_of_flush (fun n h => (outsAt0 m c n h).2.2.1) 8 (fun _ => 0)
    (fun t => k0_pay3 (k0_pay9 (iblk m c 2 t) (iblk m c 0 t) (iblk m c 1 t)) (k0_pay12 (iblk m c 2 t) (iblk m c 0 t) (iblk m c 1 t) (iblk m c 3 t) (iblk m c 4 t))) ?_ ?_ t ((flush0_7 t).mp hf) _, zero_add]
  · intro t h i
    have ht := t_lt t
    rw [outsAt0_A m c t h (by omega)]
    frame_out
    exact (zero_add _).symm
  · intro t h i
    rw [outsAt0_B m c t h (by omega)]
    frame_out
    pointwise [k0_pay5]

theorem final_8 (p : Pre_LossKernelIdeal_finite_loss m) (c : Dev nD) : (dats m 0 c).arrAt 8 (cfgs 0).N = val_main_v54 (F := Ideal) (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t hf y => ?_
  refine Eq.trans ?_ (sum_8 m p c t ((flush0_8 t).mp hf) y)
  blk_simp
  rw [after0_8, Pipeline.eq_sum_fin_of_reset_step_apply_of_flush (fun n h => (outsAt0 m c n h).2.2.2) 8 (fun _ => 0)
    (fun t => k0_pay4 (k0_pay11 (iblk m c 2 t) (iblk m c 0 t) (iblk m c 1 t) (iblk m c 3 t) (iblk m c 4 t))) ?_ ?_ t ((flush0_8 t).mp hf) _, zero_add]
  · intro t h i
    have ht := t_lt t
    rw [outsAt0_A m c t h (by omega)]
    frame_out
    exact (zero_add _).symm
  · intro t h i
    rw [outsAt0_B m c t h (by omega)]
    frame_out
    pointwise [k0_pay6]

end Cert.LossKernelIdeal.Hand

namespace Cert.Hand

/-- The kernel’s results are the gradient of the last layer's result, that of the gains, and the loss. -/
theorem Loss : algebraic_LossKernelIdeal_LossReferenceIdeal_pre_finite_loss := by
  pair_intro
  · run_from LossKernelIdeal.Gen.run_main m g
  · refine (θ_run _ _ _).mono ?_ (LossReferenceIdeal.Value.run m' g')
    intro r h c
    obtain ⟨r0, r1, r2, r3, h0, h1, h2, h3, h4⟩ := h c
    obtain ⟨a0, a1, a2, a3, a4⟩ := hagree c
    refine ⟨r0.trans ((LossReferenceIdeal.Read.val_main_v52_eq m' c).trans ?_), r1.trans ((LossReferenceIdeal.Read.val_main_v53_eq m' c).trans ?_), r2.trans ((LossReferenceIdeal.Read.val_main_v36_eq _ _ _ _ _).trans ?_), r3.trans ((LossReferenceIdeal.Read.val_main_v54_eq _ _ _ _ _).trans ?_), h0, h1, h2, h3, h4⟩
    · rw [a0, a1, a2, a3, a4]
      exact (LossKernelIdeal.Hand.final_5 m hpre c).symm
    · rw [a0, a1, a2, a3, a4]
      exact (LossKernelIdeal.Hand.final_6 m hpre c).symm
    · rw [a0, a1, a2, a3, a4]
      exact (LossKernelIdeal.Hand.final_7 m c).symm
    · rw [a0, a1, a2, a3, a4]
      exact (LossKernelIdeal.Hand.final_8 m hpre c).symm

/-- The reference runs and leaves its arguments as they were. -/
theorem ref_Loss : quiescent_LossReferenceIdeal := by
  intro m g hpre
  hlo_run
  all_goals first
    | exact fun _ => by simp
    | exact sem_eq_zero_of_no_sems (sig := LossReferenceIdeal.sig) (by decide) _

end Cert.Hand

end
-- ==== Proof.StickBBody.lean ====
/-
  What one grid point of the stick-breaking attention's backward kernel computes, as functions of what it reads: the
  constants of a query block (`Env`), the four key and value tiles of a key block (`Tiles`), the sums carried from key
  block to key block (`Carry`), and from them what a key block adds to the gradients (`Out`): for the query block's own
  key block (`Diag`) and for an earlier one (`Step`). The names `vN` are the printed kernel's.
-/
module

public import proofs.«01_k».proof.Proof.Gen.StickBKernelIdeal.Skeleton
public import Idealize.ShloMosaic.Lib.VecWindow
public import Idealize.ShloMosaic.Lib.Pointwise.Index

@[expose] public section

noncomputable section

namespace Cert.StickBKernelIdeal.Hand

open Cert.StickBKernelIdeal Cert.StickBKernelIdeal.Gen
open Idealize.ShloMosaic Idealize.ShloMosaic.TcCoe

variable {F : FTy → Type} [FloatOps F] [Named F]

/-- What a query block's point holds fixed over its key blocks: the lane masks of the two heads (`v40`, `v43`), the column
    numbers `v5`, the scaled queries `v28`, the cotangent `v29`, the two triangles of ones (`v17`, `v23`), the two heads'
    row sums of cotangent times output (`v53`, `v59`) and the lane choice `v60`. -/
structure Env (F : FTy → Type) where
  v40 : FVec F S128x128 .bf16
  v43 : FVec F S128x128 .bf16
  v5 : IVec S256x128 32
  v28 : FVec F S256x128 .bf16
  v29 : Vec F S256x128 .bf16
  v17 : FVec F S256x256 .bf16
  v23 : FVec F S256x256 .bf16
  v53 : FVec F S256x128 .f32
  v59 : FVec F S256x128 .f32
  v60 : IVec S128x128 1

/-- A query block's constants from its queries, its cotangent and the attention's output there. -/
def env (q : Vec F S256x128 .bf16) (d : Vec F S256x128 .bf16) (o : Vec F S256x128 .f32) : Env F where
  v40 := k0_pay20 k0_pay16 (k0_pay17 (F := F)) (k0_pay18 (F := F))
  v43 := k0_pay21 k0_pay16 (k0_pay17 (F := F)) (k0_pay18 (F := F))
  v5 := k0_pay9
  v28 := k0_pay14 q
  v29 := d
  v17 := k0_pay12
  v23 := k0_pay13
  v53 := k0_pay23 (k0_pay15 d o)
  v59 := k0_pay24 (k0_pay15 d o)
  v60 := k0_pay25

/-- The two tiles of 128 keys and of 128 values of a key block, the later (`1`) and the earlier (`0`). -/
structure Tiles (F : FTy → Type) where
  k1 : Vec F S128x128 .bf16
  k0 : Vec F S128x128 .bf16
  v1 : Vec F S128x128 .bf16
  v0 : Vec F S128x128 .bf16

/-- The sums carried from key block to key block, going backward: per head the log weights already taken (`c0`, `c1`), per
    head the products of weight and gradient already taken (`g0`, `g1`), and the gradient of the queries. -/
structure Carry (F : FTy → Type) where
  c0 : FVec F S256x128 .f32
  c1 : FVec F S256x128 .f32
  g0 : FVec F S256x128 .f32
  g1 : FVec F S256x128 .f32
  dq : FVec F S256x128 .f32

/-- What a key block leaves: the sums, whether a weight is still alive, and the four tiles of the key and value gradients
    as functions of what they held. -/
structure Out (F : FTy → Type) where
  carry : Carry F
  live : BitVec 1
  dk1 : Vec F S128x128 .f32 → FVec F S128x128 .f32
  dv1 : Vec F S128x128 .f32 → FVec F S128x128 .f32
  dk0 : Vec F S128x128 .f32 → FVec F S128x128 .f32
  dv0 : Vec F S128x128 .f32 → FVec F S128x128 .f32

/-! ### The query block's own key block -/

namespace Diag

def v61 (e : Env F) (T : Tiles F) : FVec F S256x128 .f32 := k0_pay26 (F := F)
def v74 (e : Env F) (T : Tiles F) : FVec F S256x128 .bf16 := k0_pay27 k0_pay16 (k0_pay17 (F := F)) (k0_pay18 (F := F)) T.k1
def v79 (e : Env F) (T : Tiles F) : FVec F S256x128 .bf16 := k0_pay28 k0_pay16 (k0_pay17 (F := F)) (k0_pay18 (F := F)) T.k0
def v92 (e : Env F) (T : Tiles F) : IVec S128x128 1 := k0_pay29 e.v5
def v94 (e : Env F) (T : Tiles F) : IVec S256x128 1 := k0_pay30 e.v5
def v97 (e : Env F) (T : Tiles F) : FVec F S256x256 .f32 := k0_pay32 e.v28 (v79 e T)
def v99 (e : Env F) (T : Tiles F) : FVec F S128x256 .f32 := k0_pay33 e.v29 e.v40 e.v43 T.v1
def v100 (e : Env F) (T : Tiles F) : FVec F S256x256 .f32 := k0_pay34 e.v29 e.v40 e.v43 T.v0
def v112 (e : Env F) (T : Tiles F) : FVec F S128x128 .f32 := k0_pay37 e.v28 (v74 e T)
def v114 (e : Env F) (T : Tiles F) : FVec F S128x128 .f32 := k0_pay38 e.v5 e.v28 (v74 e T)
def v125 (e : Env F) (T : Tiles F) : FVec F S128x128 .f32 := k0_pay40 e.v28 (v74 e T)
def v126 (e : Env F) (T : Tiles F) : FVec F S128x128 .f32 := k0_pay41 e.v28 (v74 e T)
def v140 (e : Env F) (T : Tiles F) : FVec F S256x128 .f32 := k0_pay44 (v97 e T)
def v154 (e : Env F) (T : Tiles F) : FVec F S256x128 .f32 := k0_pay47 (v97 e T)
def v156 (e : Env F) (T : Tiles F) : FVec F S256x128 .f32 := k0_pay48 (v94 e T) (v97 e T)
def v162 (e : Env F) (T : Tiles F) : FVec F S128x256 .f32 := k0_pay49 e.v17 (v114 e T)
def v168 (e : Env F) (T : Tiles F) : FVec F S128x256 .f32 := k0_pay50 e.v17 (v92 e T) (v125 e T) (Scalar.ofBits .f32 0x00000000#32)
def v174 (e : Env F) (T : Tiles F) : FVec F S256x256 .f32 := k0_pay51 e.v17 (v94 e T) (v97 e T)
def v175 (e : Env F) (T : Tiles F) : FVec F S256x128 .bf16 := k0_pay52 (v94 e T) (v97 e T)
def v180 (e : Env F) (T : Tiles F) : FVec F S256x256 .f32 := k0_pay53 e.v17 (v156 e T) (v175 e T)
def v188 (e : Env F) (T : Tiles F) : FVec F S128x128 .bf16 := k0_pay54 (v61 e T) (v92 e T) (v112 e T) (v162 e T)
def v196 (e : Env F) (T : Tiles F) : FVec F S128x128 .f32 := k0_pay56 (v61 e T) (v92 e T) (v99 e T) (v112 e T) (v162 e T)
def v204 (e : Env F) (T : Tiles F) : FVec F S128x128 .bf16 := k0_pay57 (v61 e T) (v92 e T) (v126 e T) (v168 e T)
def v209 (e : Env F) (T : Tiles F) : FVec F S256x128 .f32 := k0_pay58 (v61 e T) (v168 e T)
def v212 (e : Env F) (T : Tiles F) : FVec F S128x128 .f32 := k0_pay59 (v61 e T) (v92 e T) (v99 e T) (v126 e T) (v168 e T)
def v219 (e : Env F) (T : Tiles F) : FVec F S256x128 .bf16 := k0_pay60 (v61 e T) (v94 e T) (v140 e T) (v162 e T) (v174 e T)
def v221 (e : Env F) (T : Tiles F) : FVec F S256x128 .f32 := k0_pay61 (v61 e T) (v162 e T) (v174 e T)
def v224 (e : Env F) (T : Tiles F) : FVec F S256x128 .f32 := k0_pay62 (v61 e T) (v94 e T) (v100 e T) (v140 e T) (v162 e T) (v174 e T)
def v230 (e : Env F) (T : Tiles F) : FVec F S256x128 .f32 := k0_pay63 e.v17 (v61 e T) (v94 e T) (v154 e T) (v156 e T) (v168 e T) (v175 e T)
def v231 (e : Env F) (T : Tiles F) : FVec F S256x128 .bf16 := k0_pay64 (v230 e T)
def v233 (e : Env F) (T : Tiles F) : FVec F S256x128 .f32 := k0_pay65 (v180 e T) (v209 e T)
def v236 (e : Env F) (T : Tiles F) : FVec F S256x128 .f32 := k0_pay66 (v100 e T) (v230 e T)
def v248 (e : Env F) (T : Tiles F) : FVec F S128x256 .f32 := k0_pay68 e.v23 (v212 e T)
def v254 (e : Env F) (T : Tiles F) : FVec F S256x256 .f32 := k0_pay69 e.v23 (v224 e T)
def v260 (e : Env F) (T : Tiles F) : FVec F S256x256 .f32 := k0_pay70 e.v23 (v100 e T) (v230 e T)
def v274 (e : Env F) (T : Tiles F) : FVec F S128x128 .bf16 := k0_pay71 e.v23 e.v53 (v61 e T) (v92 e T) (v112 e T) (v196 e T)
def v279 (e : Env F) (T : Tiles F) : FVec F S256x128 .f32 := k0_pay72 e.v23 (v61 e T) (v196 e T)
def v280 (e : Env F) (T : Tiles F) : FVec F S128x128 .f32 := k0_pay73 (v126 e T)
def v281 (e : Env F) (T : Tiles F) : FVec F S128x128 .f32 := k0_pay74 e.v59
def v284 (e : Env F) (T : Tiles F) : FVec F S128x128 .f32 := k0_pay75 e.v23 (v61 e T) (v212 e T)
def v310 (e : Env F) (T : Tiles F) : FVec F S256x128 .bf16 := k0_pay77 e.v53 (v94 e T) (v140 e T) (v224 e T) (v254 e T) (v279 e T)
def v312 (e : Env F) (T : Tiles F) : FVec F S256x128 .f32 := k0_pay78 (v254 e T) (v279 e T)
def v324 (e : Env F) (T : Tiles F) : FVec F S256x128 .bf16 := k0_pay79 e.v59 (v61 e T) (v94 e T) (v154 e T) (v236 e T) (v248 e T) (v260 e T)
def v326 (e : Env F) (T : Tiles F) : FVec F S256x128 .f32 := k0_pay80 (v61 e T) (v248 e T) (v260 e T)
def v328 (e : Env F) (T : Tiles F) : FVec F S128x256 .bf16 := k0_pay82 (v188 e T) (v204 e T)
def v333 (e : Env F) (T : Tiles F) : FVec F S256x128 .f32 := k0_pay83 (v61 e T) (v74 e T) (v92 e T) (v212 e T) (v274 e T) (v280 e T) (v281 e T) (v284 e T)
def v335 (e : Env F) (T : Tiles F) : FVec F S256x128 .f32 := k0_pay84 e.v28 (v92 e T) (v212 e T) (v274 e T) (v280 e T) (v281 e T) (v284 e T)
def v336 (e : Env F) (T : Tiles F) : FVec F S128x128 .bf16 := k0_pay85 e.v29

/-- The query block's own key block. -/
def out (e : Env F) (T : Tiles F) : Out F where
  carry := ⟨v221 e T, v233 e T, v312 e T, v326 e T, k0_pay89 (v79 e T) (v310 e T) (v324 e T) (v333 e T)⟩
  live := Scalar.cmpf .olt (k0_pay1 (k0_pay92 (v221 e T) (v233 e T))) (Named.named κ "dead" 0x42D00000#32)
  dk1 := k0_pay86 e.v60 (v335 e T)
  dv1 := k0_pay87 e.v60 (v328 e T) (v336 e T)
  dk0 := k0_pay90 e.v28 e.v60 (v310 e T) (v324 e T)
  dv0 := k0_pay91 e.v29 e.v60 (v219 e T) (v231 e T)

end Diag

/-! ### An earlier key block -/

namespace Step

def v405 (e : Env F) (T : Tiles F) (s : Carry F) : FVec F S256x128 .bf16 := k0_pay93 e.v40 e.v43 T.k1
def v410 (e : Env F) (T : Tiles F) (s : Carry F) : FVec F S256x128 .bf16 := k0_pay94 e.v40 e.v43 T.k0
def v425 (e : Env F) (T : Tiles F) (s : Carry F) : FVec F S256x256 .f32 := k0_pay95 e.v40 e.v43 e.v28 T.k1
def v426 (e : Env F) (T : Tiles F) (s : Carry F) : FVec F S256x256 .f32 := k0_pay96 e.v40 e.v43 e.v28 T.k0
def v427 (e : Env F) (T : Tiles F) (s : Carry F) : FVec F S256x256 .f32 := k0_pay97 e.v40 e.v43 e.v29 T.v1
def v428 (e : Env F) (T : Tiles F) (s : Carry F) : FVec F S256x256 .f32 := k0_pay98 e.v40 e.v43 e.v29 T.v0
def v429 (e : Env F) (T : Tiles F) (s : Carry F) : FVec F S256x128 .f32 := k0_pay99 e.v40 e.v43 e.v28 T.k1
def v431 (e : Env F) (T : Tiles F) (s : Carry F) : FVec F S256x128 .f32 := k0_pay100 e.v40 e.v43 e.v28 T.k1
def v440 (e : Env F) (T : Tiles F) (s : Carry F) : FVec F S256x128 .f32 := k0_pay102 (v429 e T s) (v431 e T s)
def v451 (e : Env F) (T : Tiles F) (s : Carry F) : FVec F S256x128 .f32 := k0_pay104 (v425 e T s)
def v452 (e : Env F) (T : Tiles F) (s : Carry F) : FVec F S256x128 .f32 := k0_pay105 (v425 e T s)
def v463 (e : Env F) (T : Tiles F) (s : Carry F) : FVec F S256x128 .f32 := k0_pay107 (v426 e T s)
def v464 (e : Env F) (T : Tiles F) (s : Carry F) : FVec F S256x128 .f32 := k0_pay108 (v426 e T s)
def v475 (e : Env F) (T : Tiles F) (s : Carry F) : FVec F S256x128 .f32 := k0_pay110 (v426 e T s)
def v476 (e : Env F) (T : Tiles F) (s : Carry F) : FVec F S256x128 .f32 := k0_pay111 (v426 e T s)
def v477 (e : Env F) (T : Tiles F) (s : Carry F) : FVec F S256x128 .bf16 := k0_pay112 (v429 e T s) (v431 e T s)
def v480 (e : Env F) (T : Tiles F) (s : Carry F) : FVec F S256x128 .bf16 := k0_pay113 (v429 e T s) (v431 e T s)
def v505 (e : Env F) (T : Tiles F) (s : Carry F) : FVec F S256x128 .bf16 := k0_pay118 e.v17 s.c0 (v440 e T s) (v477 e T s) (v480 e T s)
def v510 (e : Env F) (T : Tiles F) (s : Carry F) : FVec F S256x128 .f32 := k0_pay120 e.v17 s.c0 (v427 e T s) (v440 e T s) (v477 e T s) (v480 e T s)
def v515 (e : Env F) (T : Tiles F) (s : Carry F) : FVec F S256x128 .bf16 := k0_pay121 e.v17 s.c1 (v451 e T s) (v452 e T s)
def v517 (e : Env F) (T : Tiles F) (s : Carry F) : FVec F S256x128 .f32 := k0_pay122 e.v17 s.c1 (v451 e T s)
def v520 (e : Env F) (T : Tiles F) (s : Carry F) : FVec F S256x128 .f32 := k0_pay123 e.v17 s.c1 (v427 e T s) (v451 e T s) (v452 e T s)
def v525 (e : Env F) (T : Tiles F) (s : Carry F) : FVec F S256x128 .bf16 := k0_pay124 e.v17 s.c0 (v463 e T s) (v464 e T s) (v477 e T s) (v480 e T s)
def v527 (e : Env F) (T : Tiles F) (s : Carry F) : FVec F S256x128 .f32 := k0_pay125 e.v17 s.c0 (v463 e T s) (v477 e T s) (v480 e T s)
def v530 (e : Env F) (T : Tiles F) (s : Carry F) : FVec F S256x128 .f32 := k0_pay126 e.v17 s.c0 (v428 e T s) (v463 e T s) (v464 e T s) (v477 e T s) (v480 e T s)
def v535 (e : Env F) (T : Tiles F) (s : Carry F) : FVec F S256x128 .bf16 := k0_pay127 e.v17 s.c1 (v451 e T s) (v475 e T s) (v476 e T s)
def v536 (e : Env F) (T : Tiles F) (s : Carry F) : FVec F S256x128 .f32 := k0_pay128 e.v17 (v475 e T s)
def v537 (e : Env F) (T : Tiles F) (s : Carry F) : FVec F S256x128 .f32 := k0_pay129 (v517 e T s) (v536 e T s)
def v540 (e : Env F) (T : Tiles F) (s : Carry F) : FVec F S256x128 .f32 := k0_pay130 (v428 e T s) (v535 e T s)
def v558 (e : Env F) (T : Tiles F) (s : Carry F) : FVec F S256x256 .f32 := k0_pay133 e.v23 (v530 e T s)
def v564 (e : Env F) (T : Tiles F) (s : Carry F) : FVec F S256x256 .f32 := k0_pay134 e.v23 (v428 e T s) (v535 e T s)
def v574 (e : Env F) (T : Tiles F) (s : Carry F) : FVec F S256x128 .bf16 := k0_pay135 e.v23 e.v53 s.g0 (v440 e T s) (v510 e T s)
def v576 (e : Env F) (T : Tiles F) (s : Carry F) : FVec F S256x128 .f32 := k0_pay136 e.v23 s.g0 (v510 e T s)
def v586 (e : Env F) (T : Tiles F) (s : Carry F) : FVec F S256x128 .bf16 := k0_pay137 e.v23 e.v59 s.g1 (v452 e T s) (v520 e T s)
def v588 (e : Env F) (T : Tiles F) (s : Carry F) : FVec F S256x128 .f32 := k0_pay138 e.v23 s.g1 (v520 e T s)
def v589 (e : Env F) (T : Tiles F) (s : Carry F) : FVec F S256x128 .f32 := k0_pay139 (v464 e T s)
def v590 (e : Env F) (T : Tiles F) (s : Carry F) : FVec F S256x128 .f32 := k0_pay140 e.v23 (v530 e T s)
def v600 (e : Env F) (T : Tiles F) (s : Carry F) : FVec F S256x128 .f32 := k0_pay141 (v558 e T s) (v576 e T s)
def v612 (e : Env F) (T : Tiles F) (s : Carry F) : FVec F S256x128 .f32 := k0_pay142 (v564 e T s) (v588 e T s)
def v616 (e : Env F) (T : Tiles F) (s : Carry F) : FVec F S256x128 .f32 := k0_pay144 s.dq (v405 e T s) (v574 e T s) (v586 e T s)
def v637 (e : Env F) (T : Tiles F) (s : Carry F) : FVec F S256x256 .bf16 := k0_pay147 e.v53 e.v59 (v476 e T s) (v530 e T s) (v540 e T s) (v564 e T s) (v576 e T s) (v588 e T s) (v589 e T s) (v590 e T s)
def v638 (e : Env F) (T : Tiles F) (s : Carry F) : FVec F S256x256 .bf16 := k0_pay148 (v525 e T s) (v535 e T s)

/-- An earlier key block. -/
def out (e : Env F) (T : Tiles F) (s : Carry F) : Out F where
  carry := ⟨v527 e T s, v537 e T s, v600 e T s, v612 e T s,
    k0_pay3 (v410 e T s) (v616 e T s) (v637 e T s) (constant S256x128 .f32 0x00000000#32)⟩
  live := Scalar.cmpf .olt (k0_pay6 (v527 e T s) (v537 e T s)) (Named.named κ "dead" 0x42D00000#32)
  dk1 := k0_pay145 e.v28 e.v60 (v574 e T s) (v586 e T s)
  dv1 := k0_pay146 e.v29 e.v60 (v505 e T s) (v515 e T s)
  dk0 := k0_pay4 e.v28 e.v60 (v637 e T s)
  dv0 := k0_pay5 e.v29 e.v60 (v638 e T s)

end Step

/-! ### The key blocks in order -/

/-- Where tile `r` of key block `k` starts. -/
def off (k r : ℕ) : Fin 2 → ℕ := ![256 * k + 128 * r, 0]

theorem off_inb (k : Fin 16) (r : Fin 2) : ∀ a, off k.val r.val a + S128x128.size a ≤ S4096x128.size a := by
  revert k r; decide

/-- Tile `r` of key block `k`. -/
def tile {α : Type} (x : S4096x128.Idx → α) (k : Fin 16) (r : Fin 2) : S128x128.Idx → α :=
  VecWindow.window x (off k.val r.val) S128x128.size (off_inb k r)

/-- The tiles of key block `k`. -/
def tiles (kx vx : Vec F S4096x128 .bf16) (k : Fin 16) : Tiles F :=
  ⟨tile kx k 1, tile kx k 0, tile vx k 1, tile vx k 0⟩

/-- A gradient with the two tiles of key block `k` replaced, the later first. -/
def upd (x : Vec F S4096x128 .f32) (k : Fin 16) (f1 f0 : Vec F S128x128 .f32 → FVec F S128x128 .f32) : Vec F S4096x128 .f32 :=
  VecWindow.put (VecWindow.put x (off k.val 1) S128x128.size (f1 (tile x k 1))) (off k.val 0) S128x128.size
    (f0 (tile (VecWindow.put x (off k.val 1) S128x128.size (f1 (tile x k 1))) k 0))

/-- The state between two key blocks. -/
structure St (F : FTy → Type) where
  live : BitVec 1
  carry : Carry F
  dk : Vec F S4096x128 .f32
  dv : Vec F S4096x128 .f32

/-- The state after key block `k`, from what it leaves and the key and value gradients before it. -/
def Out.state (o : Out F) (k : Fin 16) (dk dv : Vec F S4096x128 .f32) : St F :=
  ⟨o.live, o.carry, upd dk k o.dk1 o.dk0, upd dv k o.dv1 o.dv0⟩

/-- The key blocks below `k`, from the last to the first, while a weight is alive. -/
def loop (e : Env F) (kx vx : Vec F S4096x128 .bf16) : (k : ℕ) → k ≤ 16 → St F → St F
  | 0, _, s => s
  | k + 1, hk, s => if s.live = 1#1 then
      loop e kx vx k (Nat.le_of_succ_le hk) ((Step.out e (tiles kx vx ⟨k, hk⟩) s.carry).state ⟨k, hk⟩ s.dk s.dv) else s

/-- The state a grid point of query block `i` ends in: its own key block, then the earlier ones. -/
def final (i : Fin 16) (q : Vec F S256x128 .bf16) (kx vx : Vec F S4096x128 .bf16) (o : Vec F S256x128 .f32) (d : Vec F S256x128 .bf16)
    (dk dv : Vec F S4096x128 .f32) : St F :=
  loop (env q d o) kx vx i.val (Nat.le_of_lt i.isLt) ((Diag.out (env q d o) (tiles kx vx i)).state i dk dv)

end Cert.StickBKernelIdeal.Hand

end
-- ==== Proof.Owns.lean ====
/-
  Loads and stores of a buffer held by its values: a load at a unit-stride rectangle hands the program a window of the
  values, an unmasked store there leaves the values with the payload put over that window.
-/
module

public import Idealize.ShloMosaic.Lib.VecWindow
public import Idealize.ShloMosaic.Lib.Tactic

@[expose] public section

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load at a unit-stride rectangle of a memref held at the values `x` reads a window of `x`. -/
theorem owns_load {cs : CoreSpace} {mr : Memref sig c.2.kind cs s e} {q : PosShare TreeShare} {x : s.Idx → Val e}
    {off off' size : Fin s.rank → ℕ} {inb : ∀ a, off a + size a ≤ s.size a} {hl : mr.view.LoadsAt (Rect.unit off size inb).toLoadRect}
    {k : ((Rect.unit off size inb).shape.Idx → Val e) → Prog (TpuEff nD τ sig Val Λ c.2) α}
    (h : off = off') (inb' : ∀ a, off' a + size a ≤ s.size a) :
    (owns c mr q x : sProp (MT nD τ sig Ix Val Name U Lvl))
      ⊢ iprop((owns c mr q x -∗ wp frame (wpE defs 𝒱 c bd) E (k (VecWindow.window x off' size inb')) Q)
        -∗ wp frame (wpE defs 𝒱 c bd) E (.op (.load mr (Rect.unit off size inb).toLoadRect hl) k) Q) := by
  unfold owns
  iintro ⟨%f, %hf, H⟩ Hk
  iapply (wp_load 𝒱 c bd E (S := mr.view.set) (mr.view.setOn_subset_set _)) $$ H
  iintro H
  rw [View.readAt_unit mr.view f inb h inb', hf]
  iapply Hk
  iexists f
  isplitr
  · ipureintro; exact hf
  iexact H

/-- A load of the memref's own sizes reads the values held. -/
theorem owns_load_full {cs : CoreSpace} {mr : Memref sig c.2.kind cs s e} {q : PosShare TreeShare} {x : s.Idx → Val e}
    {off : Fin s.rank → ℕ} {inb : ∀ a, off a + s.size a ≤ s.size a} {hl : mr.view.LoadsAt (Rect.unit off s.size inb).toLoadRect}
    {k : ((Rect.unit off s.size inb).shape.Idx → Val e) → Prog (TpuEff nD τ sig Val Λ c.2) α} :
    (owns c mr q x : sProp (MT nD τ sig Ix Val Name U Lvl))
      ⊢ iprop((owns c mr q x -∗ wp frame (wpE defs 𝒱 c bd) E (k x) Q)
        -∗ wp frame (wpE defs 𝒱 c bd) E (.op (.load mr (Rect.unit off s.size inb).toLoadRect hl) k) Q) := by
  unfold owns
  iintro ⟨%f, %hf, H⟩ Hk
  iapply (wp_load 𝒱 c bd E (S := mr.view.set) (mr.view.setOn_subset_set _)) $$ H
  iintro H
  rw [View.readAt_full mr.view f inb, hf]
  iapply Hk
  iexists f
  isplitr
  · ipureintro; exact hf
  iexact H

/-- An unmasked store at a unit-stride rectangle of a memref held at the values `x` leaves `x` with the payload put there. -/
theorem owns_store {cs : CoreSpace} {mr : Memref sig c.2.kind cs s e} {x : s.Idx → Val e}
    {off off' size : Fin s.rank → ℕ} {inb : ∀ a, off a + size a ≤ s.size a} {w : (Rect.unit off size inb).shape.Idx → Val e}
    {hx : (mr.access (Rect.unit off size inb)).Stores Finset.univ} {hm : Finset.univ = Finset.univ ∨ ∀ a, (Rect.unit off size inb).stride a = 1}
    {k : PUnit → Prog (TpuEff nD τ sig Val Λ c.2) α} (h : off = off') :
    (owns c mr fullShare x : sProp (MT nD τ sig Ix Val Name U Lvl))
      ⊢ iprop((owns c mr fullShare (VecWindow.put x off' size w) -∗ wp frame (wpE defs 𝒱 c bd) E (k ⟨⟩) Q)
        -∗ wp frame (wpE defs 𝒱 c bd) E (.op (.store mr (Rect.unit off size inb) w Finset.univ hx hm) k) Q) := by
  unfold owns
  iintro ⟨%f, %hf, H⟩ Hk
  iapply (wp_store 𝒱 c bd E (Q := Q) (w := w) (hx := hx) (hm := hm) (k := k) (Mk := Finset.univ) (f := f) (S := mr.view.set)
    (View.set_slice_subset _ _)) $$ H
  iintro H
  iapply Hk
  iexists _
  isplitr
  swap
  · iexact H
  ipureintro
  exact (View.read_writes_cons_put mr.view f inb w [] h).trans (by rw [View.writes_nil, hf])

/-- An unmasked store of the memref's own sizes leaves the payload. -/
theorem owns_store_full {cs : CoreSpace} {mr : Memref sig c.2.kind cs s e} {x : s.Idx → Val e}
    {off : Fin s.rank → ℕ} {inb : ∀ a, off a + s.size a ≤ s.size a} {w : (Rect.unit off s.size inb).shape.Idx → Val e}
    {hx : (mr.access (Rect.unit off s.size inb)).Stores Finset.univ} {hm : Finset.univ = Finset.univ ∨ ∀ a, (Rect.unit off s.size inb).stride a = 1}
    {k : PUnit → Prog (TpuEff nD τ sig Val Λ c.2) α} :
    (owns c mr fullShare x : sProp (MT nD τ sig Ix Val Name U Lvl))
      ⊢ iprop((owns c mr fullShare w -∗ wp frame (wpE defs 𝒱 c bd) E (k ⟨⟩) Q)
        -∗ wp frame (wpE defs 𝒱 c bd) E (.op (.store mr (Rect.unit off s.size inb) w Finset.univ hx hm) k) Q) := by
  unfold owns
  iintro ⟨%f, %hf, H⟩ Hk
  iapply (wp_store 𝒱 c bd E (Q := Q) (w := w) (hx := hx) (hm := hm) (k := k) (Mk := Finset.univ) (f := f) (S := mr.view.set)
    (View.set_slice_subset _ _)) $$ H
  iintro H
  iapply Hk
  iexists _
  isplitr
  swap
  · iexact H
  ipureintro
  exact View.read_writes_full mr.view f inb w []

end

end Cert.Hand

end
-- ==== Proof.StickBLoop.lean ====
/-
  The key loop of the stick-breaking attention's backward kernel: started after block `k` with the sums a state holds, it
  goes through the key blocks below `k` from the last to the first and leaves the state `loop` names.
-/
module

public import proofs.«01_k».proof.Proof.StickBBody
public import proofs.«01_k».proof.Proof.Gen.StickBKernelIdeal.Launch
public import proofs.«01_k».proof.Proof.Owns
public import Idealize.ShloMosaic.Lib.Pipeline.FrameBody
public import Idealize.ShloMosaic.Lib.Ring

@[expose] public section

set_option maxRecDepth 16384

noncomputable section

namespace Cert.StickBKernelIdeal.Hand

open Cert.StickBKernelIdeal Cert.StickBKernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Every call of the loop is ranked by the key blocks left. -/
abbrev 𝒱₀ : Variants := Variants.nat

/-! ### Where the tiles are -/

/-- Before key block `k` the counter stands at `i - (k + 1)`. -/
def ctr (i : grid0.Coords) (k : ℕ) : BitVec 32 := BitVec.ofNat 32 ((i 1).val - k)

theorem off1_eq (i : grid0.Coords) (r : Fin 2) : k0_off1 i (BitVec.ofNat 32 r.val) = off (i 1).val r.val := by
  have h : ∀ (j : Fin 16) (r : Fin 2), k0_off1 (fun a => match a with | 0 => (0 : Fin 4) | 1 => j) (BitVec.ofNat 32 r.val) = off j.val r.val := by
    decide +kernel
  exact h (i 1) r

theorem off2_all : ∀ (j k : Fin 16) (r : Fin 2), k.val < j.val →
    k0_off2 (fun a => match a with | 0 => (0 : Fin 4) | 1 => j) (BitVec.ofNat 32 (j.val - (k.val + 1))) (BitVec.ofNat 32 r.val) = off k.val r.val := by
  decide +kernel

theorem off2_eq (i : grid0.Coords) (k : Fin 16) (hk : k.val < (i 1).val) (r : Fin 2) :
    k0_off2 i (ctr i (k.val + 1)) (BitVec.ofNat 32 r.val) = off k.val r.val :=
  off2_all (i 1) k r hk

theorem chk_all : ∀ (j k : Fin 16), k.val < j.val →
    k0_chk1 (fun a => match a with | 0 => (0 : Fin 4) | 1 => j) (BitVec.ofNat 32 (j.val - (k.val + 1))) := by
  decide +kernel

theorem chk (i : grid0.Coords) (k : Fin 16) (hk : k.val < (i 1).val) : k0_chk1 i (ctr i (k.val + 1)) :=
  chk_all (i 1) k hk

theorem more (i : grid0.Coords) (k : Fin 16) (hk : k.val < (i 1).val) :
    Scalar.cmpi .slt (ctr i (k.val + 1)) (BitVec.ofNat 32 (i 1).val) = 1#1 :=
  (by decide +kernel : ∀ (j k : Fin 16), k.val < j.val →
    Scalar.cmpi .slt (BitVec.ofNat 32 (j.val - (k.val + 1))) (BitVec.ofNat 32 j.val) = 1#1) (i 1) k hk

theorem done (i : grid0.Coords) : Scalar.cmpi .slt (ctr i 0) (BitVec.ofNat 32 (i 1).val) = 0#1 :=
  (by decide +kernel : ∀ j : Fin 16, Scalar.cmpi .slt (BitVec.ofNat 32 (j.val - 0)) (BitVec.ofNat 32 j.val) = 0#1) (i 1)

theorem next (i : grid0.Coords) (k : Fin 16) (hk : k.val < (i 1).val) : Scalar.addi (ctr i (k.val + 1)) 1#32 = ctr i k.val :=
  (by decide +kernel : ∀ (j k : Fin 16), k.val < j.val →
    Scalar.addi (BitVec.ofNat 32 (j.val - (k.val + 1))) 1#32 = BitVec.ofNat 32 (j.val - k.val)) (i 1) k hk

theorem and_one (b : BitVec 1) : Scalar.andi 1#1 b = b := by revert b; decide
theorem and_zero (b : BitVec 1) : Scalar.andi 0#1 b = 0#1 := by revert b; decide

/-! ### The loop's label -/

variable (c : Dev nD) (i : grid0.Coords) (arg3 : Memref sig .tc .vmem S4096x128 .bf16) (harg3 : arg3.IsWhole)
  (arg4 : Memref sig .tc .vmem S4096x128 .bf16) (harg4 : arg4.IsWhole)
  (arg8 : Memref sig .tc .vmem S4096x128 .f32) (harg8 : arg8.IsWhole) (arg9 : Memref sig .tc .vmem S4096x128 .f32) (harg9 : arg9.IsWhole)
  (e : Env F) (kx vx : Vec F S4096x128 .bf16)

/-- What the loop holds: the keys and values, and the two gradients at the state's values. -/
def held (dk dv : Vec F S4096x128 .f32) : sProp 𝕄 :=
  iprop(owns (c : Thread nD τ) arg3 fullShare kx ∗ owns (c : Thread nD τ) arg4 fullShare vx
    ∗ owns (c : Thread nD τ) arg8 fullShare dk ∗ owns (c : Thread nD τ) arg9 fullShare dv)

/-- What the loop returns: its counter, whether a weight is alive, and the five sums. -/
abbrev LoopRes (F : FTy → Type) [FloatOps F] : Type :=
  BitVec 32 × BitVec 1 × FVec F S256x128 .f32 × FVec F S256x128 .f32 × FVec F S256x128 .f32 × FVec F S256x128 .f32 × FVec F S256x128 .f32

/-- The loop below key block `k`: it takes the state `s` and returns `loop`'s, of which the gradient of the queries is the
    last value. -/
def spec (k : ℕ) (hk : k ≤ 16) (s : St F) : sWPT 𝕄 (LoopRes F) := do
  sWPT.consume (held c arg3 arg4 arg8 arg9 kx vx s.dk s.dv)
  let r ← sWPT.arbitrary
  sWPT.assume (r.2.2.2.2.2.2 = (loop e kx vx k hk s).carry.dq)
  sWPT.produce (held c arg3 arg4 arg8 arg9 kx vx (loop e kx vx k hk s).dk (loop e kx vx k hk s).dv)
  pure r

theorem spec_apply (k : ℕ) (hk : k ≤ 16) (s : St F) (K : LoopRes F → sProp 𝕄) :
    spec c arg3 arg4 arg8 arg9 e kx vx k hk s K
      = iprop(held c arg3 arg4 arg8 arg9 kx vx s.dk s.dv
        ∗ ∀ r, ⌜r.2.2.2.2.2.2 = (loop e kx vx k hk s).carry.dq⌝
          -∗ (held c arg3 arg4 arg8 arg9 kx vx (loop e kx vx k hk s).dk (loop e kx vx k hk s).dv -∗ K r)) := rfl

/-- The label's body satisfies its specification, by induction on the key blocks left. -/
theorem spec_le (E : Set ℕ) : ∀ (k : ℕ) (hk : k ≤ 16) (_ : k ≤ (i 1).val) (s : St F) (K : LoopRes F → sProp 𝕄),
    spec c arg3 arg4 arg8 arg9 e kx vx k hk s K ⊢
      wp frame (wpE (defs₀ (F := F)) 𝒱₀ (c : Thread nD τ) (some k)) E
        (defs₀ (F := F) .tc 1 ⟨i, arg3, harg3, e.v40, e.v43, arg4, harg4, e.v5, e.v28, e.v29, e.v17, e.v23, e.v53, e.v59, arg8, harg8, e.v60,
          arg9, harg9, ctr i k, s.live, s.carry.c0, s.carry.c1, s.carry.g0, s.carry.g1, s.carry.dq⟩) K
  | 0, hk, hi, s, K => by
    rw [spec_apply]
    show _ ⊢ wp frame (wpE (defs₀ (F := F)) 𝒱₀ (c : Thread nD τ) (some 0)) E
      (cc0_while1 i arg3 harg3 e.v40 e.v43 arg4 harg4 e.v5 e.v28 e.v29 e.v17 e.v23 e.v53 e.v59 arg8 harg8 e.v60
          arg9 harg9 (ctr i 0) s.live s.carry.c0 s.carry.c1 s.carry.g0 s.carry.g1 s.carry.dq) K
    simp only [cc0_while1_eq_skeleton]
    unfold cc0_while1_skel
    simp only [done, and_zero, show ¬ (0#1 : BitVec 1) = 1#1 from by decide, ↓reduceIte, Prog.pure_eq_ret]
    iintro ⟨H, Hk⟩
    rw [wp_ret]
    imodintro
    iapply Hk
    · ipureintro; rfl
    · iexact H
  | k + 1, hk, hi, s, K => by
    rw [spec_apply]
    show _ ⊢ wp frame (wpE (defs₀ (F := F)) 𝒱₀ (c : Thread nD τ) (some (k + 1))) E
      (cc0_while1 i arg3 harg3 e.v40 e.v43 arg4 harg4 e.v5 e.v28 e.v29 e.v17 e.v23 e.v53 e.v59 arg8 harg8 e.v60
          arg9 harg9 (ctr i (k + 1)) s.live s.carry.c0 s.carry.c1 s.carry.g0 s.carry.g1 s.carry.dq) K
    have hlt : k < 16 := hk
    have hm := more i ⟨k, hlt⟩ hi
    by_cases hl : s.live = 1#1
    · simp only [cc0_while1_eq_skeleton]
      unfold cc0_while1_skel
      have e1 := off2_eq i ⟨k, hlt⟩ hi 1
      have e0 := off2_eq i ⟨k, hlt⟩ hi 0
      simp only [hm, and_one, hl, ↓reduceIte, loop]
      simp only [k0_part9_eq_skeleton, k0_part10_eq_skeleton, k0_part11_eq_skeleton, k0_part12_eq_skeleton, k0_part13_eq_skeleton]
      unfold k0_part9_skel k0_part10_skel k0_part11_skel k0_part12_skel k0_part13_skel
      simp only [Prog.lift, Prog.bind_op, Prog.bind_ret, Prog.pure_eq_ret]
      unfold held
      iintro ⟨⟨H3, H4, H8, H9⟩, Hk⟩
      iapply (wp_assume 𝒱₀ (c : Thread nD τ) (some (k + 1)) E (chk i ⟨k, hlt⟩ hi))
      iapply (owns_load 𝒱₀ (c : Thread nD τ) (some (k + 1)) E e1 (off_inb ⟨k, hlt⟩ 1)) $$ H3
      iintro H3
      iapply (owns_load 𝒱₀ (c : Thread nD τ) (some (k + 1)) E e0 (off_inb ⟨k, hlt⟩ 0)) $$ H3
      iintro H3
      iapply (owns_load 𝒱₀ (c : Thread nD τ) (some (k + 1)) E e1 (off_inb ⟨k, hlt⟩ 1)) $$ H4
      iintro H4
      iapply (owns_load 𝒱₀ (c : Thread nD τ) (some (k + 1)) E e0 (off_inb ⟨k, hlt⟩ 0)) $$ H4
      iintro H4
      iapply (owns_load 𝒱₀ (c : Thread nD τ) (some (k + 1)) E e1 (off_inb ⟨k, hlt⟩ 1)) $$ H8
      iintro H8
      iapply (owns_load 𝒱₀ (c : Thread nD τ) (some (k + 1)) E e1 (off_inb ⟨k, hlt⟩ 1)) $$ H8
      iintro H8
      iapply (owns_store 𝒱₀ (c : Thread nD τ) (some (k + 1)) E e1) $$ H8
      iintro H8
      iapply (owns_load 𝒱₀ (c : Thread nD τ) (some (k + 1)) E e1 (off_inb ⟨k, hlt⟩ 1)) $$ H9
      iintro H9
      iapply (owns_load 𝒱₀ (c : Thread nD τ) (some (k + 1)) E e1 (off_inb ⟨k, hlt⟩ 1)) $$ H9
      iintro H9
      iapply (owns_store 𝒱₀ (c : Thread nD τ) (some (k + 1)) E e1) $$ H9
      iintro H9
      iapply (owns_load 𝒱₀ (c : Thread nD τ) (some (k + 1)) E e0 (off_inb ⟨k, hlt⟩ 0)) $$ H8
      iintro H8
      iapply (owns_load 𝒱₀ (c : Thread nD τ) (some (k + 1)) E e0 (off_inb ⟨k, hlt⟩ 0)) $$ H8
      iintro H8
      iapply (owns_store 𝒱₀ (c : Thread nD τ) (some (k + 1)) E e0) $$ H8
      iintro H8
      iapply (owns_load 𝒱₀ (c : Thread nD τ) (some (k + 1)) E e0 (off_inb ⟨k, hlt⟩ 0)) $$ H9
      iintro H9
      iapply (owns_load 𝒱₀ (c : Thread nD τ) (some (k + 1)) E e0 (off_inb ⟨k, hlt⟩ 0)) $$ H9
      iintro H9
      iapply (owns_store 𝒱₀ (c : Thread nD τ) (some (k + 1)) E e0) $$ H9
      iintro H9
      rw [next i ⟨k, hlt⟩ hi]
      iapply (wp_call_spec 𝒱₀ (c : Thread nD τ) (some (k + 1)) E
        (spec c arg3 arg4 arg8 arg9 e kx vx k (Nat.le_of_succ_le hk) ((Step.out e (tiles kx vx ⟨k, hk⟩) s.carry).state ⟨k, hk⟩ s.dk s.dv)) k
        (fun u hu => by cases hu; exact Nat.lt_succ_self k)
        (spec_le E k (Nat.le_of_succ_le hk) (Nat.le_of_succ_le hi) ((Step.out e (tiles kx vx ⟨k, hk⟩) s.carry).state ⟨k, hk⟩ s.dk s.dv)))
      rw [spec_apply]
      unfold held
      isplitl [H3 H4 H8 H9]
      · isplitl [H3]
        · iexact H3
        isplitl [H4]
        · iexact H4
        isplitl [H8]
        · iexact H8
        · iexact H9
      iintro %r %hr ⟨H3, H4, H8, H9⟩
      rw [wp_ret]
      imodintro
      iapply Hk
      · ipureintro; exact hr
      isplitl [H3]
      · iexact H3
      isplitl [H4]
      · iexact H4
      isplitl [H8]
      · iexact H8
      · iexact H9
    · simp only [cc0_while1_eq_skeleton]
      unfold cc0_while1_skel
      simp only [hm, and_one, hl, ↓reduceIte, Prog.pure_eq_ret, loop]
      iintro ⟨H, Hk⟩
      rw [wp_ret]
      imodintro
      iapply Hk
      · ipureintro; rfl
      · iexact H

end Cert.StickBKernelIdeal.Hand

end
-- ==== Proof.StickBRun.lean ====
/-
  One grid point of the stick-breaking attention's backward kernel: from the values its windows hold, the values it
  leaves: the gradient of its queries, and the key and value gradients with what its key blocks add.
-/
module

public import proofs.«01_k».proof.Proof.StickBLoop

@[expose] public section

set_option maxRecDepth 16384

noncomputable section

namespace Cert.StickBKernelIdeal.Hand

open Cert.StickBKernelIdeal Cert.StickBKernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- At a head pair's first query block a gradient starts over at `z`. -/
def start (i : grid0.Coords) (z x : Vec F S4096x128 .f32) : Vec F S4096x128 .f32 := if (i 1).val = 0 then z else x

/-- The state a grid point ends in. -/
def point (i : grid0.Coords) (q : Vec F S256x128 .bf16) (kx vx : Vec F S4096x128 .bf16) (o : Vec F S256x128 .f32) (d : Vec F S256x128 .bf16)
    (dk dv : Vec F S4096x128 .f32) : St F :=
  final (i 1) q kx vx o d (start i k0_pay7 dk) (start i k0_pay8 dv)

/-- The body's test of the first query block. -/
theorem first_iff (i : grid0.Coords) :
    Scalar.cmpi .ne (Scalar.extui (Scalar.cmpi .eq (BitVec.ofNat 32 (i 1).val) 0#32) : BitVec 32) 0#32 = 1#1 ↔ (i 1).val = 0 :=
  (by decide +kernel : ∀ j : Fin 16,
    Scalar.cmpi .ne (Scalar.extui (Scalar.cmpi .eq (BitVec.ofNat 32 j.val) 0#32) : BitVec 32) 0#32 = 1#1 ↔ j.val = 0) (i 1)

variable (c : Dev nD) (i : grid0.Coords) (arg2 : Memref sig .tc .vmem S256x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S256x128 .f32) (harg5 : arg5.IsWhole) (arg6 : Memref sig .tc .vmem S256x128 .bf16) (harg6 : arg6.IsWhole)
  (arg7 : Memref sig .tc .vmem S256x128 .bf16) (harg7 : arg7.IsWhole)
  (arg8 : Memref sig .tc .vmem S4096x128 .f32) (harg8 : arg8.IsWhole) (arg9 : Memref sig .tc .vmem S4096x128 .f32) (harg9 : arg9.IsWhole)
  (q : Vec F S256x128 .bf16) (kx vx : Vec F S4096x128 .bf16) (o : Vec F S256x128 .f32) (d z : Vec F S256x128 .bf16)
  (dk dv : Vec F S4096x128 .f32)

/-- The body's first part: the gradients start over at the first query block; the queries, the cotangent and the output are read. -/
theorem part1_run (Q : _ → sProp 𝕄) :
    iprop(owns (c : Thread nD τ) arg2 fullShare q ∗ owns (c : Thread nD τ) arg5 fullShare o ∗ owns (c : Thread nD τ) arg6 fullShare d
      ∗ owns (c : Thread nD τ) arg8 fullShare dk ∗ owns (c : Thread nD τ) arg9 fullShare dv
      ∗ ((owns (c : Thread nD τ) arg2 fullShare q ∗ owns (c : Thread nD τ) arg5 fullShare o ∗ owns (c : Thread nD τ) arg6 fullShare d
        ∗ owns (c : Thread nD τ) arg8 fullShare (start i k0_pay7 dk) ∗ owns (c : Thread nD τ) arg9 fullShare (start i k0_pay8 dv))
        -∗ Q ⟨BitVec.ofNat 32 (i 1).val, k0_pay9, k0_pay12 (F := F), k0_pay13 (F := F), k0_pay14 q, d, k0_pay15 d o, k0_pay16,
          k0_pay17 (F := F), k0_pay18 (F := F)⟩))
      ⊢ wp frame (wpE (defs₀ (F := F)) 𝒱₀ (c : Thread nD τ) none) Set.univ
        (k0_part1 i arg2 harg2 arg3 harg3 arg4 harg4 arg5 harg5 arg6 harg6 arg7 harg7 arg8 harg8 arg9 harg9) Q := by
  rw [k0_part1_eq_skeleton]
  unfold k0_part1_skel
  by_cases h : (i 1).val = 0
  · simp only [(first_iff i).mpr h, ↓reduceDIte, Prog.lift, Prog.bind_op, Prog.bind_ret, Prog.pure_eq_ret, start, h, ↓reduceIte]
    iintro ⟨H2, H5, H6, H8, H9, Hk⟩
    iapply (owns_load_full 𝒱₀ (c : Thread nD τ) none Set.univ) $$ H8
    iintro H8
    iapply (owns_store_full 𝒱₀ (c : Thread nD τ) none Set.univ) $$ H8
    iintro H8
    iapply (owns_load_full 𝒱₀ (c : Thread nD τ) none Set.univ) $$ H9
    iintro H9
    iapply (owns_store_full 𝒱₀ (c : Thread nD τ) none Set.univ) $$ H9
    iintro H9
    iapply (owns_load_full 𝒱₀ (c : Thread nD τ) none Set.univ) $$ H2
    iintro H2
    iapply (owns_load_full 𝒱₀ (c : Thread nD τ) none Set.univ) $$ H6
    iintro H6
    iapply (owns_load_full 𝒱₀ (c : Thread nD τ) none Set.univ) $$ H5
    iintro H5
    rw [wp_ret]
    imodintro
    iapply Hk
    iframe
  · have hn : ¬ Scalar.cmpi .ne (Scalar.extui (Scalar.cmpi .eq (BitVec.ofNat 32 (i 1).val) 0#32) : BitVec 32) 0#32 = 1#1 :=
      fun hc => h ((first_iff i).mp hc)
    simp only [hn, ↓reduceDIte, Prog.lift, Prog.bind_op, Prog.bind_ret, Prog.pure_eq_ret, start, h, ↓reduceIte]
    iintro ⟨H2, H5, H6, H8, H9, Hk⟩
    iapply (owns_load_full 𝒱₀ (c : Thread nD τ) none Set.univ) $$ H2
    iintro H2
    iapply (owns_load_full 𝒱₀ (c : Thread nD τ) none Set.univ) $$ H6
    iintro H6
    iapply (owns_load_full 𝒱₀ (c : Thread nD τ) none Set.univ) $$ H5
    iintro H5
    rw [wp_ret]
    imodintro
    iapply Hk
    iframe

/-- The whole body. -/
theorem body_run :
    (iprop(owns (c : Thread nD τ) arg2 fullShare q ∗ owns (c : Thread nD τ) arg3 fullShare kx ∗ owns (c : Thread nD τ) arg4 fullShare vx
      ∗ owns (c : Thread nD τ) arg5 fullShare o ∗ owns (c : Thread nD τ) arg6 fullShare d ∗ owns (c : Thread nD τ) arg7 fullShare z
      ∗ owns (c : Thread nD τ) arg8 fullShare dk ∗ owns (c : Thread nD τ) arg9 fullShare dv) : sProp 𝕄)
      ⊢ wp frame (wpE (defs₀ (F := F)) 𝒱₀ (c : Thread nD τ) none) Set.univ
        (cc0_sb_attn_bwd i arg2 harg2 arg3 harg3 arg4 harg4 arg5 harg5 arg6 harg6 arg7 harg7 arg8 harg8 arg9 harg9)
        (fun _ => iprop(owns (c : Thread nD τ) arg2 fullShare q ∗ owns (c : Thread nD τ) arg3 fullShare kx ∗ owns (c : Thread nD τ) arg4 fullShare vx
          ∗ owns (c : Thread nD τ) arg5 fullShare o ∗ owns (c : Thread nD τ) arg6 fullShare d
          ∗ owns (c : Thread nD τ) arg7 fullShare (k0_pay2 (point i q kx vx o d dk dv).carry.dq)
          ∗ owns (c : Thread nD τ) arg8 fullShare (point i q kx vx o d dk dv).dk
          ∗ owns (c : Thread nD τ) arg9 fullShare (point i q kx vx o d dk dv).dv)) := by
  rw [cc0_sb_attn_bwd_eq_skeleton]
  unfold cc0_sb_attn_bwd_skel
  rw [wp_bind]
  iintro ⟨H2, H3, H4, H5, H6, H7, H8, H9⟩
  iapply (part1_run c i arg2 harg2 arg3 harg3 arg4 harg4 arg5 harg5 arg6 harg6 arg7 harg7 arg8 harg8 arg9 harg9 q o d dk dv _)
  isplitl [H2]
  · iexact H2
  isplitl [H5]
  · iexact H5
  isplitl [H6]
  · iexact H6
  isplitl [H8]
  · iexact H8
  isplitl [H9]
  · iexact H9
  iintro ⟨H2, H5, H6, H8, H9⟩
  have e1 := off1_eq i 1
  have e0 := off1_eq i 0
  simp only [k0_part2_eq_skeleton, k0_part3_eq_skeleton, k0_part4_eq_skeleton, k0_part5_eq_skeleton, k0_part6_eq_skeleton,
    k0_part7_eq_skeleton, k0_part8_eq_skeleton]
  unfold k0_part2_skel k0_part3_skel k0_part4_skel k0_part5_skel k0_part6_skel k0_part7_skel k0_part8_skel
  simp only [Prog.lift, Prog.bind_op, Prog.bind_ret, Prog.pure_eq_ret]
  iapply (owns_load 𝒱₀ (c : Thread nD τ) none Set.univ e1 (off_inb (i 1) 1)) $$ H3
  iintro H3
  iapply (owns_load 𝒱₀ (c : Thread nD τ) none Set.univ e0 (off_inb (i 1) 0)) $$ H3
  iintro H3
  iapply (owns_load 𝒱₀ (c : Thread nD τ) none Set.univ e1 (off_inb (i 1) 1)) $$ H4
  iintro H4
  iapply (owns_load 𝒱₀ (c : Thread nD τ) none Set.univ e0 (off_inb (i 1) 0)) $$ H4
  iintro H4
  iapply (owns_load 𝒱₀ (c : Thread nD τ) none Set.univ e1 (off_inb (i 1) 1)) $$ H8
  iintro H8
  iapply (owns_load 𝒱₀ (c : Thread nD τ) none Set.univ e1 (off_inb (i 1) 1)) $$ H8
  iintro H8
  iapply (owns_store 𝒱₀ (c : Thread nD τ) none Set.univ e1) $$ H8
  iintro H8
  iapply (owns_load 𝒱₀ (c : Thread nD τ) none Set.univ e1 (off_inb (i 1) 1)) $$ H9
  iintro H9
  iapply (owns_load 𝒱₀ (c : Thread nD τ) none Set.univ e1 (off_inb (i 1) 1)) $$ H9
  iintro H9
  iapply (owns_store 𝒱₀ (c : Thread nD τ) none Set.univ e1) $$ H9
  iintro H9
  iapply (owns_load 𝒱₀ (c : Thread nD τ) none Set.univ e0 (off_inb (i 1) 0)) $$ H8
  iintro H8
  iapply (owns_load 𝒱₀ (c : Thread nD τ) none Set.univ e0 (off_inb (i 1) 0)) $$ H8
  iintro H8
  iapply (owns_store 𝒱₀ (c : Thread nD τ) none Set.univ e0) $$ H8
  iintro H8
  iapply (owns_load 𝒱₀ (c : Thread nD τ) none Set.univ e0 (off_inb (i 1) 0)) $$ H9
  iintro H9
  iapply (owns_load 𝒱₀ (c : Thread nD τ) none Set.univ e0 (off_inb (i 1) 0)) $$ H9
  iintro H9
  iapply (owns_store 𝒱₀ (c : Thread nD τ) none Set.univ e0) $$ H9
  iintro H9
  have hc : ctr i (i 1).val = 0#32 := by unfold ctr; rw [Nat.sub_self]
  have hT := fun K => spec_le c i arg3 harg3 arg4 harg4 arg8 harg8 arg9 harg9 (env q d o) kx vx Set.univ (i 1).val (Nat.le_of_lt (i 1).isLt) le_rfl
    ((Diag.out (env q d o) (tiles kx vx (i 1))).state (i 1) (start i k0_pay7 dk) (start i k0_pay8 dv)) K
  simp only [hc] at hT
  iapply (wp_call_spec 𝒱₀ (c : Thread nD τ) none Set.univ
    (spec c arg3 arg4 arg8 arg9 (env q d o) kx vx (i 1).val (Nat.le_of_lt (i 1).isLt)
      ((Diag.out (env q d o) (tiles kx vx (i 1))).state (i 1) (start i k0_pay7 dk) (start i k0_pay8 dv))) (i 1).val
    (fun u hu => nomatch hu) hT)
  rw [spec_apply]
  unfold held
  isplitl [H3 H4 H8 H9]
  · isplitl [H3]
    · iexact H3
    isplitl [H4]
    · iexact H4
    isplitl [H8]
    · iexact H8
    · iexact H9
  iintro %r %hr ⟨H3, H4, H8, H9⟩
  rw [hr]
  iapply (owns_load_full 𝒱₀ (c : Thread nD τ) none Set.univ) $$ H7
  iintro H7
  iapply (owns_store_full 𝒱₀ (c : Thread nD τ) none Set.univ) $$ H7
  iintro H7
  rw [wp_ret]
  imodintro
  unfold point final
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9

end Cert.StickBKernelIdeal.Hand

end
-- ==== Proof.StickBBits.lean ====
/-
  The frame of the stick-breaking attention's backward kernel as compiled. Its key loop's label takes a record that is a
  type of this program, so the idealized program's run is not one of this program by itself; the loop, the body and the
  launch are gone through again, at bits and with the values the idealized program's modules name. A named constant is
  read as the bits it names.
-/
module

public import proofs.«01_k».proof.Proof.StickBRun
public import proofs.«01_k».proof.Proof.Gen.StickBKernel.Launch
public import proofs.«01_k».proof.Proof.Gen.StickBKernel.Skeleton
public import proofs.«01_k».proof.Proof.Gen.StickBKernel.Points
public import Idealize.ShloMosaic.Lib.Pipeline.TableIdle
public import Idealize.ShloMosaic.Lib.Claim
public import Idealize.ShloMosaic.PureOps.BitExact

@[expose] public section

set_option maxRecDepth 16384

noncomputable section

namespace Cert.StickBKernel.Hand

open Cert.StickBKernel Cert.StickBKernel.Gen Cert.Hand
open Cert.StickBKernelIdeal.Hand (Env env Tiles Carry Out St Out.state tiles off off_inb loop point start final upd 𝒱₀ and_one and_zero)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

/-- At bits a named constant is the bits it names. -/
local instance namedBits : Named Bits where
  named _ _ {φ} b := Scalar.ofBits φ b

section

/-! ### Where the tiles are -/

/-- Before key block `k` the counter stands at `i - (k + 1)`. -/
def ctr (i : grid0.Coords) (k : ℕ) : BitVec 32 := BitVec.ofNat 32 ((i 1).val - k)

theorem off1_eq (i : grid0.Coords) (r : Fin 2) : k0_off1 i (BitVec.ofNat 32 r.val) = off (i 1).val r.val := by
  have h : ∀ (j : Fin 16) (r : Fin 2), k0_off1 (fun a => match a with | 0 => (0 : Fin 4) | 1 => j) (BitVec.ofNat 32 r.val) = off j.val r.val := by
    decide +kernel
  exact h (i 1) r

theorem off2_all : ∀ (j k : Fin 16) (r : Fin 2), k.val < j.val →
    k0_off2 (fun a => match a with | 0 => (0 : Fin 4) | 1 => j) (BitVec.ofNat 32 (j.val - (k.val + 1))) (BitVec.ofNat 32 r.val) = off k.val r.val := by
  decide +kernel

theorem off2_eq (i : grid0.Coords) (k : Fin 16) (hk : k.val < (i 1).val) (r : Fin 2) :
    k0_off2 i (ctr i (k.val + 1)) (BitVec.ofNat 32 r.val) = off k.val r.val :=
  off2_all (i 1) k r hk

theorem chk_all : ∀ (j k : Fin 16), k.val < j.val →
    k0_chk1 (fun a => match a with | 0 => (0 : Fin 4) | 1 => j) (BitVec.ofNat 32 (j.val - (k.val + 1))) := by
  decide +kernel

theorem chk (i : grid0.Coords) (k : Fin 16) (hk : k.val < (i 1).val) : k0_chk1 i (ctr i (k.val + 1)) :=
  chk_all (i 1) k hk

theorem more (i : grid0.Coords) (k : Fin 16) (hk : k.val < (i 1).val) :
    Scalar.cmpi .slt (ctr i (k.val + 1)) (BitVec.ofNat 32 (i 1).val) = 1#1 :=
  (by decide +kernel : ∀ (j k : Fin 16), k.val < j.val →
    Scalar.cmpi .slt (BitVec.ofNat 32 (j.val - (k.val + 1))) (BitVec.ofNat 32 j.val) = 1#1) (i 1) k hk

theorem done (i : grid0.Coords) : Scalar.cmpi .slt (ctr i 0) (BitVec.ofNat 32 (i 1).val) = 0#1 :=
  (by decide +kernel : ∀ j : Fin 16, Scalar.cmpi .slt (BitVec.ofNat 32 (j.val - 0)) (BitVec.ofNat 32 j.val) = 0#1) (i 1)

theorem next (i : grid0.Coords) (k : Fin 16) (hk : k.val < (i 1).val) : Scalar.addi (ctr i (k.val + 1)) 1#32 = ctr i k.val :=
  (by decide +kernel : ∀ (j k : Fin 16), k.val < j.val →
    Scalar.addi (BitVec.ofNat 32 (j.val - (k.val + 1))) 1#32 = BitVec.ofNat 32 (j.val - k.val)) (i 1) k hk

/-! ### The loop's label -/

variable (c : Dev nD) (i : grid0.Coords) (arg3 : Memref sig .tc .vmem S4096x128 .bf16) (harg3 : arg3.IsWhole)
  (arg4 : Memref sig .tc .vmem S4096x128 .bf16) (harg4 : arg4.IsWhole)
  (arg8 : Memref sig .tc .vmem S4096x128 .f32) (harg8 : arg8.IsWhole) (arg9 : Memref sig .tc .vmem S4096x128 .f32) (harg9 : arg9.IsWhole)
  (e : Env Bits) (kx vx : Vec Bits S4096x128 .bf16)

/-- What the loop holds: the keys and values, and the two gradients at the state's values. -/
def held (dk dv : Vec Bits S4096x128 .f32) : sProp 𝕄 :=
  iprop(owns (c : Thread nD τ) arg3 fullShare kx ∗ owns (c : Thread nD τ) arg4 fullShare vx
    ∗ owns (c : Thread nD τ) arg8 fullShare dk ∗ owns (c : Thread nD τ) arg9 fullShare dv)

/-- What the loop returns: its counter, whether a weight is alive, and the five sums. -/
abbrev LoopRes : Type :=
  BitVec 32 × BitVec 1 × FVec Bits S256x128 .f32 × FVec Bits S256x128 .f32 × FVec Bits S256x128 .f32 × FVec Bits S256x128 .f32 × FVec Bits S256x128 .f32

/-- The loop below key block `k`: it takes the state `s` and returns `loop`'s, of which the gradient of the queries is the
    last value. -/
def spec (k : ℕ) (hk : k ≤ 16) (s : St Bits) : sWPT 𝕄 LoopRes := do
  sWPT.consume (held c arg3 arg4 arg8 arg9 kx vx s.dk s.dv)
  let r ← sWPT.arbitrary
  sWPT.assume (r.2.2.2.2.2.2 = (loop e kx vx k hk s).carry.dq)
  sWPT.produce (held c arg3 arg4 arg8 arg9 kx vx (loop e kx vx k hk s).dk (loop e kx vx k hk s).dv)
  pure r

theorem spec_apply (k : ℕ) (hk : k ≤ 16) (s : St Bits) (K : LoopRes → sProp 𝕄) :
    spec c arg3 arg4 arg8 arg9 e kx vx k hk s K
      = iprop(held c arg3 arg4 arg8 arg9 kx vx s.dk s.dv
        ∗ ∀ r, ⌜r.2.2.2.2.2.2 = (loop e kx vx k hk s).carry.dq⌝
          -∗ (held c arg3 arg4 arg8 arg9 kx vx (loop e kx vx k hk s).dk (loop e kx vx k hk s).dv -∗ K r)) := rfl

/-- The label's body satisfies its specification, by induction on the key blocks left. -/
theorem spec_le (E : Set ℕ) : ∀ (k : ℕ) (hk : k ≤ 16) (_ : k ≤ (i 1).val) (s : St Bits) (K : LoopRes → sProp 𝕄),
    spec c arg3 arg4 arg8 arg9 e kx vx k hk s K ⊢
      wp frame (wpE (defs₀ (F := Bits)) 𝒱₀ (c : Thread nD τ) (some k)) E
        (defs₀ (F := Bits) .tc 1 ⟨i, arg3, harg3, e.v40, e.v43, arg4, harg4, e.v5, e.v28, e.v29, e.v17, e.v23, e.v53, e.v59, arg8, harg8, e.v60,
          arg9, harg9, ctr i k, s.live, s.carry.c0, s.carry.c1, s.carry.g0, s.carry.g1, s.carry.dq⟩) K
  | 0, hk, hi, s, K => by
    rw [spec_apply]
    show _ ⊢ wp frame (wpE (defs₀ (F := Bits)) 𝒱₀ (c : Thread nD τ) (some 0)) E
      (cc0_while1 i arg3 harg3 e.v40 e.v43 arg4 harg4 e.v5 e.v28 e.v29 e.v17 e.v23 e.v53 e.v59 arg8 harg8 e.v60
          arg9 harg9 (ctr i 0) s.live s.carry.c0 s.carry.c1 s.carry.g0 s.carry.g1 s.carry.dq) K
    simp only [cc0_while1_eq_skeleton]
    unfold cc0_while1_skel
    simp only [done, and_zero, show ¬ (0#1 : BitVec 1) = 1#1 from by decide, ↓reduceIte, Prog.pure_eq_ret]
    iintro ⟨H, Hk⟩
    rw [wp_ret]
    imodintro
    iapply Hk
    · ipureintro; rfl
    · iexact H
  | k + 1, hk, hi, s, K => by
    rw [spec_apply]
    show _ ⊢ wp frame (wpE (defs₀ (F := Bits)) 𝒱₀ (c : Thread nD τ) (some (k + 1))) E
      (cc0_while1 i arg3 harg3 e.v40 e.v43 arg4 harg4 e.v5 e.v28 e.v29 e.v17 e.v23 e.v53 e.v59 arg8 harg8 e.v60
          arg9 harg9 (ctr i (k + 1)) s.live s.carry.c0 s.carry.c1 s.carry.g0 s.carry.g1 s.carry.dq) K
    have hlt : k < 16 := hk
    have hm := more i ⟨k, hlt⟩ hi
    by_cases hl : s.live = 1#1
    · simp only [cc0_while1_eq_skeleton]
      unfold cc0_while1_skel
      have e1 := off2_eq i ⟨k, hlt⟩ hi 1
      have e0 := off2_eq i ⟨k, hlt⟩ hi 0
      simp only [hm, and_one, hl, ↓reduceIte, loop]
      simp only [k0_part9_eq_skeleton, k0_part10_eq_skeleton, k0_part11_eq_skeleton, k0_part12_eq_skeleton, k0_part13_eq_skeleton]
      unfold k0_part9_skel k0_part10_skel k0_part11_skel k0_part12_skel k0_part13_skel
      simp only [Prog.lift, Prog.bind_op, Prog.bind_ret, Prog.pure_eq_ret]
      unfold held
      iintro ⟨⟨H3, H4, H8, H9⟩, Hk⟩
      iapply (wp_assume 𝒱₀ (c : Thread nD τ) (some (k + 1)) E (chk i ⟨k, hlt⟩ hi))
      iapply (owns_load 𝒱₀ (c : Thread nD τ) (some (k + 1)) E e1 (off_inb ⟨k, hlt⟩ 1)) $$ H3
      iintro H3
      iapply (owns_load 𝒱₀ (c : Thread nD τ) (some (k + 1)) E e0 (off_inb ⟨k, hlt⟩ 0)) $$ H3
      iintro H3
      iapply (owns_load 𝒱₀ (c : Thread nD τ) (some (k + 1)) E e1 (off_inb ⟨k, hlt⟩ 1)) $$ H4
      iintro H4
      iapply (owns_load 𝒱₀ (c : Thread nD τ) (some (k + 1)) E e0 (off_inb ⟨k, hlt⟩ 0)) $$ H4
      iintro H4
      iapply (owns_load 𝒱₀ (c : Thread nD τ) (some (k + 1)) E e1 (off_inb ⟨k, hlt⟩ 1)) $$ H8
      iintro H8
      iapply (owns_load 𝒱₀ (c : Thread nD τ) (some (k + 1)) E e1 (off_inb ⟨k, hlt⟩ 1)) $$ H8
      iintro H8
      iapply (owns_store 𝒱₀ (c : Thread nD τ) (some (k + 1)) E e1) $$ H8
      iintro H8
      iapply (owns_load 𝒱₀ (c : Thread nD τ) (some (k + 1)) E e1 (off_inb ⟨k, hlt⟩ 1)) $$ H9
      iintro H9
      iapply (owns_load 𝒱₀ (c : Thread nD τ) (some (k + 1)) E e1 (off_inb ⟨k, hlt⟩ 1)) $$ H9
      iintro H9
      iapply (owns_store 𝒱₀ (c : Thread nD τ) (some (k + 1)) E e1) $$ H9
      iintro H9
      iapply (owns_load 𝒱₀ (c : Thread nD τ) (some (k + 1)) E e0 (off_inb ⟨k, hlt⟩ 0)) $$ H8
      iintro H8
      iapply (owns_load 𝒱₀ (c : Thread nD τ) (some (k + 1)) E e0 (off_inb ⟨k, hlt⟩ 0)) $$ H8
      iintro H8
      iapply (owns_store 𝒱₀ (c : Thread nD τ) (some (k + 1)) E e0) $$ H8
      iintro H8
      iapply (owns_load 𝒱₀ (c : Thread nD τ) (some (k + 1)) E e0 (off_inb ⟨k, hlt⟩ 0)) $$ H9
      iintro H9
      iapply (owns_load 𝒱₀ (c : Thread nD τ) (some (k + 1)) E e0 (off_inb ⟨k, hlt⟩ 0)) $$ H9
      iintro H9
      iapply (owns_store 𝒱₀ (c : Thread nD τ) (some (k + 1)) E e0) $$ H9
      iintro H9
      rw [next i ⟨k, hlt⟩ hi]
      iapply (wp_call_spec 𝒱₀ (c : Thread nD τ) (some (k + 1)) E
        (spec c arg3 arg4 arg8 arg9 e kx vx k (Nat.le_of_succ_le hk) ((StickBKernelIdeal.Hand.Step.out e (tiles kx vx ⟨k, hk⟩) s.carry).state ⟨k, hk⟩ s.dk s.dv)) k
        (fun u hu => by cases hu; exact Nat.lt_succ_self k)
        (spec_le E k (Nat.le_of_succ_le hk) (Nat.le_of_succ_le hi) ((StickBKernelIdeal.Hand.Step.out e (tiles kx vx ⟨k, hk⟩) s.carry).state ⟨k, hk⟩ s.dk s.dv)))
      rw [spec_apply]
      unfold held
      isplitl [H3 H4 H8 H9]
      · isplitl [H3]
        · iexact H3
        isplitl [H4]
        · iexact H4
        isplitl [H8]
        · iexact H8
        · iexact H9
      iintro %r %hr ⟨H3, H4, H8, H9⟩
      rw [wp_ret]
      imodintro
      iapply Hk
      · ipureintro; exact hr
      isplitl [H3]
      · iexact H3
      isplitl [H4]
      · iexact H4
      isplitl [H8]
      · iexact H8
      · iexact H9
    · simp only [cc0_while1_eq_skeleton]
      unfold cc0_while1_skel
      simp only [hm, and_one, hl, ↓reduceIte, Prog.pure_eq_ret, loop]
      iintro ⟨H, Hk⟩
      rw [wp_ret]
      imodintro
      iapply Hk
      · ipureintro; rfl
      · iexact H

end

section

/-- The body's test of the first query block. -/
theorem first_iff (i : grid0.Coords) :
    Scalar.cmpi .ne (Scalar.extui (Scalar.cmpi .eq (BitVec.ofNat 32 (i 1).val) 0#32) : BitVec 32) 0#32 = 1#1 ↔ (i 1).val = 0 :=
  (by decide +kernel : ∀ j : Fin 16,
    Scalar.cmpi .ne (Scalar.extui (Scalar.cmpi .eq (BitVec.ofNat 32 j.val) 0#32) : BitVec 32) 0#32 = 1#1 ↔ j.val = 0) (i 1)

variable (c : Dev nD) (i : grid0.Coords) (arg2 : Memref sig .tc .vmem S256x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S256x128 .f32) (harg5 : arg5.IsWhole) (arg6 : Memref sig .tc .vmem S256x128 .bf16) (harg6 : arg6.IsWhole)
  (arg7 : Memref sig .tc .vmem S256x128 .bf16) (harg7 : arg7.IsWhole)
  (arg8 : Memref sig .tc .vmem S4096x128 .f32) (harg8 : arg8.IsWhole) (arg9 : Memref sig .tc .vmem S4096x128 .f32) (harg9 : arg9.IsWhole)
  (q : Vec Bits S256x128 .bf16) (kx vx : Vec Bits S4096x128 .bf16) (o : Vec Bits S256x128 .f32) (d z : Vec Bits S256x128 .bf16)
  (dk dv : Vec Bits S4096x128 .f32)

/-- The body's first part: the gradients start over at the first query block; the queries, the cotangent and the output are read. -/
theorem part1_run (Q : _ → sProp 𝕄) :
    iprop(owns (c : Thread nD τ) arg2 fullShare q ∗ owns (c : Thread nD τ) arg5 fullShare o ∗ owns (c : Thread nD τ) arg6 fullShare d
      ∗ owns (c : Thread nD τ) arg8 fullShare dk ∗ owns (c : Thread nD τ) arg9 fullShare dv
      ∗ ((owns (c : Thread nD τ) arg2 fullShare q ∗ owns (c : Thread nD τ) arg5 fullShare o ∗ owns (c : Thread nD τ) arg6 fullShare d
        ∗ owns (c : Thread nD τ) arg8 fullShare (start i (k0_pay7 (F := Bits)) dk) ∗ owns (c : Thread nD τ) arg9 fullShare (start i (k0_pay8 (F := Bits)) dv))
        -∗ Q ⟨BitVec.ofNat 32 (i 1).val, k0_pay9, k0_pay12 (F := Bits), k0_pay13 (F := Bits), k0_pay14 q, d, k0_pay15 d o, k0_pay16,
          k0_pay17 (F := Bits), k0_pay18 (F := Bits)⟩))
      ⊢ wp frame (wpE (defs₀ (F := Bits)) 𝒱₀ (c : Thread nD τ) none) Set.univ
        (k0_part1 i arg2 harg2 arg3 harg3 arg4 harg4 arg5 harg5 arg6 harg6 arg7 harg7 arg8 harg8 arg9 harg9) Q := by
  rw [k0_part1_eq_skeleton]
  unfold k0_part1_skel
  by_cases h : (i 1).val = 0
  · simp only [(first_iff i).mpr h, ↓reduceDIte, Prog.lift, Prog.bind_op, Prog.bind_ret, Prog.pure_eq_ret, start, h, ↓reduceIte]
    iintro ⟨H2, H5, H6, H8, H9, Hk⟩
    iapply (owns_load_full 𝒱₀ (c : Thread nD τ) none Set.univ) $$ H8
    iintro H8
    iapply (owns_store_full 𝒱₀ (c : Thread nD τ) none Set.univ) $$ H8
    iintro H8
    iapply (owns_load_full 𝒱₀ (c : Thread nD τ) none Set.univ) $$ H9
    iintro H9
    iapply (owns_store_full 𝒱₀ (c : Thread nD τ) none Set.univ) $$ H9
    iintro H9
    iapply (owns_load_full 𝒱₀ (c : Thread nD τ) none Set.univ) $$ H2
    iintro H2
    iapply (owns_load_full 𝒱₀ (c : Thread nD τ) none Set.univ) $$ H6
    iintro H6
    iapply (owns_load_full 𝒱₀ (c : Thread nD τ) none Set.univ) $$ H5
    iintro H5
    rw [wp_ret]
    imodintro
    iapply Hk
    iframe
  · have hn : ¬ Scalar.cmpi .ne (Scalar.extui (Scalar.cmpi .eq (BitVec.ofNat 32 (i 1).val) 0#32) : BitVec 32) 0#32 = 1#1 :=
      fun hc => h ((first_iff i).mp hc)
    simp only [hn, ↓reduceDIte, Prog.lift, Prog.bind_op, Prog.bind_ret, Prog.pure_eq_ret, start, h, ↓reduceIte]
    iintro ⟨H2, H5, H6, H8, H9, Hk⟩
    iapply (owns_load_full 𝒱₀ (c : Thread nD τ) none Set.univ) $$ H2
    iintro H2
    iapply (owns_load_full 𝒱₀ (c : Thread nD τ) none Set.univ) $$ H6
    iintro H6
    iapply (owns_load_full 𝒱₀ (c : Thread nD τ) none Set.univ) $$ H5
    iintro H5
    rw [wp_ret]
    imodintro
    iapply Hk
    iframe

/-- The whole body. -/
theorem body_run :
    (iprop(owns (c : Thread nD τ) arg2 fullShare q ∗ owns (c : Thread nD τ) arg3 fullShare kx ∗ owns (c : Thread nD τ) arg4 fullShare vx
      ∗ owns (c : Thread nD τ) arg5 fullShare o ∗ owns (c : Thread nD τ) arg6 fullShare d ∗ owns (c : Thread nD τ) arg7 fullShare z
      ∗ owns (c : Thread nD τ) arg8 fullShare dk ∗ owns (c : Thread nD τ) arg9 fullShare dv) : sProp 𝕄)
      ⊢ wp frame (wpE (defs₀ (F := Bits)) 𝒱₀ (c : Thread nD τ) none) Set.univ
        (cc0_sb_attn_bwd i arg2 harg2 arg3 harg3 arg4 harg4 arg5 harg5 arg6 harg6 arg7 harg7 arg8 harg8 arg9 harg9)
        (fun _ => iprop(owns (c : Thread nD τ) arg2 fullShare q ∗ owns (c : Thread nD τ) arg3 fullShare kx ∗ owns (c : Thread nD τ) arg4 fullShare vx
          ∗ owns (c : Thread nD τ) arg5 fullShare o ∗ owns (c : Thread nD τ) arg6 fullShare d
          ∗ owns (c : Thread nD τ) arg7 fullShare (k0_pay2 (point i q kx vx o d dk dv).carry.dq)
          ∗ owns (c : Thread nD τ) arg8 fullShare (point i q kx vx o d dk dv).dk
          ∗ owns (c : Thread nD τ) arg9 fullShare (point i q kx vx o d dk dv).dv)) := by
  rw [cc0_sb_attn_bwd_eq_skeleton]
  unfold cc0_sb_attn_bwd_skel
  rw [wp_bind]
  iintro ⟨H2, H3, H4, H5, H6, H7, H8, H9⟩
  iapply (part1_run c i arg2 harg2 arg3 harg3 arg4 harg4 arg5 harg5 arg6 harg6 arg7 harg7 arg8 harg8 arg9 harg9 q o d dk dv _)
  isplitl [H2]
  · iexact H2
  isplitl [H5]
  · iexact H5
  isplitl [H6]
  · iexact H6
  isplitl [H8]
  · iexact H8
  isplitl [H9]
  · iexact H9
  iintro ⟨H2, H5, H6, H8, H9⟩
  have e1 := off1_eq i 1
  have e0 := off1_eq i 0
  simp only [k0_part2_eq_skeleton, k0_part3_eq_skeleton, k0_part4_eq_skeleton, k0_part5_eq_skeleton, k0_part6_eq_skeleton,
    k0_part7_eq_skeleton, k0_part8_eq_skeleton]
  unfold k0_part2_skel k0_part3_skel k0_part4_skel k0_part5_skel k0_part6_skel k0_part7_skel k0_part8_skel
  simp only [Prog.lift, Prog.bind_op, Prog.bind_ret, Prog.pure_eq_ret]
  iapply (owns_load 𝒱₀ (c : Thread nD τ) none Set.univ e1 (off_inb (i 1) 1)) $$ H3
  iintro H3
  iapply (owns_load 𝒱₀ (c : Thread nD τ) none Set.univ e0 (off_inb (i 1) 0)) $$ H3
  iintro H3
  iapply (owns_load 𝒱₀ (c : Thread nD τ) none Set.univ e1 (off_inb (i 1) 1)) $$ H4
  iintro H4
  iapply (owns_load 𝒱₀ (c : Thread nD τ) none Set.univ e0 (off_inb (i 1) 0)) $$ H4
  iintro H4
  iapply (owns_load 𝒱₀ (c : Thread nD τ) none Set.univ e1 (off_inb (i 1) 1)) $$ H8
  iintro H8
  iapply (owns_load 𝒱₀ (c : Thread nD τ) none Set.univ e1 (off_inb (i 1) 1)) $$ H8
  iintro H8
  iapply (owns_store 𝒱₀ (c : Thread nD τ) none Set.univ e1) $$ H8
  iintro H8
  iapply (owns_load 𝒱₀ (c : Thread nD τ) none Set.univ e1 (off_inb (i 1) 1)) $$ H9
  iintro H9
  iapply (owns_load 𝒱₀ (c : Thread nD τ) none Set.univ e1 (off_inb (i 1) 1)) $$ H9
  iintro H9
  iapply (owns_store 𝒱₀ (c : Thread nD τ) none Set.univ e1) $$ H9
  iintro H9
  iapply (owns_load 𝒱₀ (c : Thread nD τ) none Set.univ e0 (off_inb (i 1) 0)) $$ H8
  iintro H8
  iapply (owns_load 𝒱₀ (c : Thread nD τ) none Set.univ e0 (off_inb (i 1) 0)) $$ H8
  iintro H8
  iapply (owns_store 𝒱₀ (c : Thread nD τ) none Set.univ e0) $$ H8
  iintro H8
  iapply (owns_load 𝒱₀ (c : Thread nD τ) none Set.univ e0 (off_inb (i 1) 0)) $$ H9
  iintro H9
  iapply (owns_load 𝒱₀ (c : Thread nD τ) none Set.univ e0 (off_inb (i 1) 0)) $$ H9
  iintro H9
  iapply (owns_store 𝒱₀ (c : Thread nD τ) none Set.univ e0) $$ H9
  iintro H9
  have hc : ctr i (i 1).val = 0#32 := by unfold ctr; rw [Nat.sub_self]
  have hT := fun K => spec_le c i arg3 harg3 arg4 harg4 arg8 harg8 arg9 harg9 (env q d o) kx vx Set.univ (i 1).val (Nat.le_of_lt (i 1).isLt) le_rfl
    ((StickBKernelIdeal.Hand.Diag.out (env q d o) (tiles kx vx (i 1))).state (i 1) (start i (k0_pay7 (F := Bits)) dk) (start i (k0_pay8 (F := Bits)) dv)) K
  simp only [hc] at hT
  iapply (wp_call_spec 𝒱₀ (c : Thread nD τ) none Set.univ
    (spec c arg3 arg4 arg8 arg9 (env q d o) kx vx (i 1).val (Nat.le_of_lt (i 1).isLt)
      ((StickBKernelIdeal.Hand.Diag.out (env q d o) (tiles kx vx (i 1))).state (i 1) (start i (k0_pay7 (F := Bits)) dk) (start i (k0_pay8 (F := Bits)) dv))) (i 1).val
    (fun u hu => nomatch hu) hT)
  rw [spec_apply]
  unfold held
  isplitl [H3 H4 H8 H9]
  · isplitl [H3]
    · iexact H3
    isplitl [H4]
    · iexact H4
    isplitl [H8]
    · iexact H8
    · iexact H9
  iintro %r %hr ⟨H3, H4, H8, H9⟩
  rw [hr]
  iapply (owns_load_full 𝒱₀ (c : Thread nD τ) none Set.univ) $$ H7
  iintro H7
  iapply (owns_store_full 𝒱₀ (c : Thread nD τ) none Set.univ) $$ H7
  iintro H7
  rw [wp_ret]
  imodintro
  unfold point final
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9

end

variable (m : (ℓ : Loc nD τ sig) → Buf (Elt Bits) ℓ) (ρ : Dev nD → PrngReg)

/-! ### The host's part -/

/-- Core `c`'s buffers when the kernel is entered: after the host's operations. -/
abbrev V (c : Dev nD) (b : Ref sig .tc) : Buf (Elt Bits) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

theorem hostOps0_fresh : (hostOps0 : List (HloOp τ sig (Elt Bits))).Forall fun op => op.fresh = ∅ := by simp only [List.Forall]; repeat' constructor
theorem hostOps0_1_fresh : (hostOps0_1 : List (HloOp τ sig (Elt Bits))).Forall fun op => op.fresh = ∅ := by simp only [List.Forall]; repeat' constructor
theorem hostOps0_2_fresh : (hostOps0_2 : List (HloOp τ sig (Elt Bits))).Forall fun op => op.fresh = ∅ := by simp only [List.Forall]; repeat' constructor
theorem hostOps0_3_fresh : (hostOps0_3 : List (HloOp τ sig (Elt Bits))).Forall fun op => op.fresh = ∅ := by simp only [List.Forall]; repeat' constructor
theorem hostOps0_4_fresh : (hostOps0_4 : List (HloOp τ sig (Elt Bits))).Forall fun op => op.fresh = ∅ := by simp only [List.Forall]; repeat' constructor
theorem hostOps0_5_fresh : (hostOps0_5 : List (HloOp τ sig (Elt Bits))).Forall fun op => op.fresh = ∅ := by simp only [List.Forall]; repeat' constructor
theorem hostOps0_6_fresh : (hostOps0_6 : List (HloOp τ sig (Elt Bits))).Forall fun op => op.fresh = ∅ := by simp only [List.Forall]; repeat' constructor
theorem hostOps0_7_fresh : (hostOps0_7 : List (HloOp τ sig (Elt Bits))).Forall fun op => op.fresh = ∅ := by simp only [List.Forall]; repeat' constructor
theorem hostOps0_8_fresh : (hostOps0_8 : List (HloOp τ sig (Elt Bits))).Forall fun op => op.fresh = ∅ := by simp only [List.Forall]; repeat' constructor
theorem hostOps0_9_fresh : (hostOps0_9 : List (HloOp τ sig (Elt Bits))).Forall fun op => op.fresh = ∅ := by simp only [List.Forall]; repeat' constructor

set_option maxHeartbeats 800000 in
theorem hmain (𝒱 : Variants) : Pipeline.HMain (Ix := Unit) (Name := ℕ) (U := UR sig nD τ) (Lvl := ℕ) cfgs 0 defs₀ 𝒱 m (main (F := Bits)) (V m) :=
  Pipeline.hmain_prefixes cfgs 0 defs₀ 𝒱 m main [hostOps0, hostOps0_1, hostOps0_2, hostOps0_3, hostOps0_4, hostOps0_5, hostOps0_6, hostOps0_7, hostOps0_8, hostOps0_9]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

set_option maxHeartbeats 1600000 in
/-- No host operation writes an argument. -/
theorem V_main_arg0 (c : Dev nD) : V m c main_arg0 = m (c.tc.loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append, List.nil_append,
      List.Forall, StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

set_option maxHeartbeats 1600000 in
theorem V_main_arg1 (c : Dev nD) : V m c main_arg1 = m (c.tc.loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append, List.nil_append,
      List.Forall, StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-! ### What the windows hold -/

/-- Window `w`'s block at point `t`, read off its array as the kernel finds it. -/
def iblk (c : Dev nD) (w : Fin (cfg0 (F := Bits)).W) (t : Fin (cfg0 (F := Bits)).N) : (((cfg0 (F := Bits)).win w).xblock ((cfg0 (F := Bits)).grid.coords t)).Idx → Elt Bits ((cfg0 (F := Bits)).win w).elt :=
  (((cfg0 (F := Bits)).win w).blk t).view.read (Elt Bits) (V m c (Pipeline.arrRef spec0 w))

/-- The state after point `t`, the key and value gradients before it being `dk` and `dv`. -/
def stOf (c : Dev nD) (t : Fin (cfg0 (F := Bits)).N) (dk dv : Vec Bits S4096x128 .f32) : St Bits :=
  point (grid0.coords t) (iblk m c 0 t) (iblk m c 1 t) (iblk m c 2 t) (iblk m c 3 t) (iblk m c 4 t) dk dv

/-- The state after the point at position `n`. -/
def stAt (c : Dev nD) : (n : ℕ) → n < (cfg0 (F := Bits)).N → St Bits
  | 0, h => stOf m c ⟨0, h⟩ (k0_pay7 (F := Bits)) (k0_pay8 (F := Bits))
  | n + 1, h => stOf m c ⟨n + 1, h⟩ (stAt c n (Nat.lt_of_succ_lt h)).dk (stAt c n (Nat.lt_of_succ_lt h)).dv

theorem coord1 : ∀ t : Fin (cfg0 (F := Bits)).N, (grid0.coords t 1).val = t.val % 16 :=
  (by decide +kernel : ∀ t : Fin grid0.N, (grid0.coords t 1).val = t.val % 16)

/-- At a head pair's first query block the state does not depend on what the gradients held. -/
theorem stOf_first (c : Dev nD) (t : Fin (cfg0 (F := Bits)).N) (h : t.val % 16 = 0) (dk dv dk' dv' : Vec Bits S4096x128 .f32) :
    stOf m c t dk dv = stOf m c t dk' dv' := by
  unfold stOf point start
  rw [if_pos ((coord1 t).trans h), if_pos ((coord1 t).trans h), if_pos ((coord1 t).trans h), if_pos ((coord1 t).trans h)]

theorem stAt_first (c : Dev nD) (t : Fin (cfg0 (F := Bits)).N) (h : t.val % 16 = 0) (dk dv : Vec Bits S4096x128 .f32) :
    stAt m c t.val t.isLt = stOf m c t dk dv := by
  obtain ⟨n, hn⟩ := t
  cases n with
  | zero => exact stOf_first m c ⟨0, hn⟩ h _ _ _ _
  | succ n => exact stOf_first m c ⟨n + 1, hn⟩ h _ _ _ _

theorem stAt_next (c : Dev nD) (t : Fin (cfg0 (F := Bits)).N) (h : ¬t.val % 16 = 0) :
    stAt m c t.val t.isLt = stOf m c t (stAt m c (t.val - 1) (Nat.lt_of_le_of_lt (Nat.sub_le _ _) t.isLt)).dk
      (stAt m c (t.val - 1) (Nat.lt_of_le_of_lt (Nat.sub_le _ _) t.isLt)).dv := by
  obtain ⟨n, hn⟩ := t
  cases n with
  | zero => exact absurd (Nat.zero_mod _) h
  | succ n => rfl

/-- The proof data: the arrays as the kernel finds them; after a point each input's buffer at its block and the outputs' at
    the point's state. -/
def dats (_ : Fin 1) (c : Dev nD) : Dat τ (Elt Bits) Unit ℕ (UR sig nD τ) ℕ (cfg0 (F := Bits)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (stAt m c t.val t.isLt).carry.dq
    | ⟨6, _⟩ => (stAt m c t.val t.isLt).dk
    | ⟨7, _⟩ => (stAt m c t.val t.isLt).dv
  Φ _ := Pipeline.ΦA spec0 c
  q w := Pipeline.shareOf spec0 w
  owed _ := 0

theorem A_eq (c : Dev nD) (w : Fin (cfg0 (F := Bits)).W) : (dats m 0 c).A w = V m c (Pipeline.arrRef spec0 w) := by
  dsimp only [dats]

theorem after0_0 (c : Dev nD) (t : Fin (cfg0 (F := Bits)).N) : (dats m 0 c).after 0 t = iblk m c 0 t := by dsimp only [dats]
theorem after0_1 (c : Dev nD) (t : Fin (cfg0 (F := Bits)).N) : (dats m 0 c).after 1 t = iblk m c 1 t := by dsimp only [dats]
theorem after0_2 (c : Dev nD) (t : Fin (cfg0 (F := Bits)).N) : (dats m 0 c).after 2 t = iblk m c 2 t := by dsimp only [dats]
theorem after0_3 (c : Dev nD) (t : Fin (cfg0 (F := Bits)).N) : (dats m 0 c).after 3 t = iblk m c 3 t := by dsimp only [dats]
theorem after0_4 (c : Dev nD) (t : Fin (cfg0 (F := Bits)).N) : (dats m 0 c).after 4 t = iblk m c 4 t := by dsimp only [dats]
theorem after0_5 (c : Dev nD) (t : Fin (cfg0 (F := Bits)).N) : (dats m 0 c).after 5 t = k0_pay2 (stAt m c t.val t.isLt).carry.dq := by dsimp only [dats]
theorem after0_6 (c : Dev nD) (t : Fin (cfg0 (F := Bits)).N) : (dats m 0 c).after 6 t = (stAt m c t.val t.isLt).dk := by dsimp only [dats]
theorem after0_7 (c : Dev nD) (t : Fin (cfg0 (F := Bits)).N) : (dats m 0 c).after 7 t = (stAt m c t.val t.isLt).dv := by dsimp only [dats]

theorem before0_0 (c : Dev nD) (t : Fin (cfg0 (F := Bits)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin (cfg0 (F := Bits)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin (cfg0 (F := Bits)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)
theorem before0_3 (c : Dev nD) (t : Fin (cfg0 (F := Bits)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans (by unfold Dat.fetched Dat.blockOf iblk; rw [A_eq]; try rfl)
theorem before0_4 (c : Dev nD) (t : Fin (cfg0 (F := Bits)).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans (by unfold Dat.fetched Dat.blockOf iblk; rw [A_eq]; try rfl)

/-- Whether the gradients' buffers hold nothing yet at a position: at the start and after each write-back. -/
def freshTab : ℕ → Bool
  | 0 => true
  | n + 1 => n % 16 == 15

theorem fresh0_6 (t : Fin (cfg0 (F := Bits)).N) : (cfg0 (F := Bits)).fresh 6 t.val = freshTab t.val :=
  Pipeline.Cfg.fresh_tab (cfg0 (F := Bits)) 6 freshTab rfl
    (fun t => (by
      show (t.val % 16 == 15) = (((cfg0 (F := Bits)).win 6).flush t || (false && freshTab t.val))
      rw [Bool.false_and, Bool.or_false, Bool.eq_iff_iff, flush0_6 t, beq_iff_eq]))
    t.val (Nat.le_of_lt t.isLt)
theorem fresh0_7 (t : Fin (cfg0 (F := Bits)).N) : (cfg0 (F := Bits)).fresh 7 t.val = freshTab t.val :=
  Pipeline.Cfg.fresh_tab (cfg0 (F := Bits)) 7 freshTab rfl
    (fun t => (by
      show (t.val % 16 == 15) = (((cfg0 (F := Bits)).win 7).flush t || (false && freshTab t.val))
      rw [Bool.false_and, Bool.or_false, Bool.eq_iff_iff, flush0_7 t, beq_iff_eq]))
    t.val (Nat.le_of_lt t.isLt)

theorem notFresh (t : Fin (cfg0 (F := Bits)).N) (h : ¬t.val % 16 = 0) : freshTab t.val = false := by
  obtain ⟨n, hn⟩ := t
  cases n with
  | zero => exact absurd (Nat.zero_mod _) h
  | succ n =>
    simp only [freshTab, beq_eq_false_iff_ne, ne_eq]
    simp only at h
    omega

theorem before0_6 (c : Dev nD) (t : Fin (cfg0 (F := Bits)).N) (h : ¬t.val % 16 = 0) (d) :
    (dats m 0 c).before 6 t d = (stAt m c (t.val - 1) (Nat.lt_of_le_of_lt (Nat.sub_le _ _) t.isLt)).dk := by
  rw [Dat.before_out_traj _ 6 rfl (fun _ _ => rfl) (fun _ _ hi => absurd (hi : false = true) Bool.false_ne_true) t.val t rfl d,
    if_neg (by rw [fresh0_6, notFresh t h]; exact Bool.false_ne_true)]
  dsimp only [dats]
theorem before0_7 (c : Dev nD) (t : Fin (cfg0 (F := Bits)).N) (h : ¬t.val % 16 = 0) (d) :
    (dats m 0 c).before 7 t d = (stAt m c (t.val - 1) (Nat.lt_of_le_of_lt (Nat.sub_le _ _) t.isLt)).dv := by
  rw [Dat.before_out_traj _ 7 rfl (fun _ _ => rfl) (fun _ _ hi => absurd (hi : false = true) Bool.false_ne_true) t.val t rfl d,
    if_neg (by rw [fresh0_7, notFresh t h]; exact Bool.false_ne_true)]
  dsimp only [dats]

/-! ### The body at a point -/

abbrev ms0_0 (t : Fin (cfg0 (F := Bits)).N) : Memref sig .tc .vmem S256x128 .bf16 := win0_0.stage ((cfg0 (F := Bits)).slots t 0)
abbrev hs0_0 (t : Fin (cfg0 (F := Bits)).N) : (ms0_0 t).IsWhole := hstage0_0 (((cfg0 (F := Bits)).slots t 0).cast nbuf0_0)
abbrev ms0_1 (t : Fin (cfg0 (F := Bits)).N) : Memref sig .tc .vmem S4096x128 .bf16 := win0_1.stage ((cfg0 (F := Bits)).slots t 1)
abbrev hs0_1 (t : Fin (cfg0 (F := Bits)).N) : (ms0_1 t).IsWhole := hstage0_1 (((cfg0 (F := Bits)).slots t 1).cast nbuf0_1)
abbrev ms0_2 (t : Fin (cfg0 (F := Bits)).N) : Memref sig .tc .vmem S4096x128 .bf16 := win0_2.stage ((cfg0 (F := Bits)).slots t 2)
abbrev hs0_2 (t : Fin (cfg0 (F := Bits)).N) : (ms0_2 t).IsWhole := hstage0_2 (((cfg0 (F := Bits)).slots t 2).cast nbuf0_2)
abbrev ms0_3 (t : Fin (cfg0 (F := Bits)).N) : Memref sig .tc .vmem S256x128 .f32 := win0_3.stage ((cfg0 (F := Bits)).slots t 3)
abbrev hs0_3 (t : Fin (cfg0 (F := Bits)).N) : (ms0_3 t).IsWhole := hstage0_3 (((cfg0 (F := Bits)).slots t 3).cast nbuf0_3)
abbrev ms0_4 (t : Fin (cfg0 (F := Bits)).N) : Memref sig .tc .vmem S256x128 .bf16 := win0_4.stage ((cfg0 (F := Bits)).slots t 4)
abbrev hs0_4 (t : Fin (cfg0 (F := Bits)).N) : (ms0_4 t).IsWhole := hstage0_4 (((cfg0 (F := Bits)).slots t 4).cast nbuf0_4)
abbrev ms0_5 (t : Fin (cfg0 (F := Bits)).N) : Memref sig .tc .vmem S256x128 .bf16 := win0_5.stage ((cfg0 (F := Bits)).slots t 5)
abbrev hs0_5 (t : Fin (cfg0 (F := Bits)).N) : (ms0_5 t).IsWhole := hstage0_5 (((cfg0 (F := Bits)).slots t 5).cast nbuf0_5)
abbrev ms0_6 (t : Fin (cfg0 (F := Bits)).N) : Memref sig .tc .vmem S4096x128 .f32 := win0_6.stage ((cfg0 (F := Bits)).slots t 6)
abbrev hs0_6 (t : Fin (cfg0 (F := Bits)).N) : (ms0_6 t).IsWhole := hstage0_6 (((cfg0 (F := Bits)).slots t 6).cast nbuf0_6)
abbrev ms0_7 (t : Fin (cfg0 (F := Bits)).N) : Memref sig .tc .vmem S4096x128 .f32 := win0_7.stage ((cfg0 (F := Bits)).slots t 7)
abbrev hs0_7 (t : Fin (cfg0 (F := Bits)).N) : (ms0_7 t).IsWhole := hstage0_7 (((cfg0 (F := Bits)).slots t 7).cast nbuf0_7)

def bodyPre (c : Dev nD) (t : Fin (cfg0 (F := Bits)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin (cfg0 (F := Bits)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- What a point's body leaves, from the values the gradients held. -/
theorem sound_at (c : Dev nD) (t : Fin (cfg0 (F := Bits)).N) (z : Vec Bits S256x128 .bf16) (dk dv : Vec Bits S4096x128 .f32)
    (h : stAt m c t.val t.isLt = stOf m c t dk dv) :
    (iprop(owns (c : Thread nD τ) (ms0_0 t) fullShare (iblk m c 0 t) ∗ owns (c : Thread nD τ) (ms0_1 t) fullShare (iblk m c 1 t)
      ∗ owns (c : Thread nD τ) (ms0_2 t) fullShare (iblk m c 2 t) ∗ owns (c : Thread nD τ) (ms0_3 t) fullShare (iblk m c 3 t)
      ∗ owns (c : Thread nD τ) (ms0_4 t) fullShare (iblk m c 4 t) ∗ owns (c : Thread nD τ) (ms0_5 t) fullShare z
      ∗ owns (c : Thread nD τ) (ms0_6 t) fullShare dk ∗ owns (c : Thread nD τ) (ms0_7 t) fullShare dv) : sProp 𝕄)
      ⊢ wp frame (wpE (defs₀ (F := Bits)) 𝒱₀ (c : Thread nD τ) none) Set.univ (bodyAt0 t)
        (fun _ => iprop(owns (c : Thread nD τ) (ms0_0 t) fullShare (iblk m c 0 t) ∗ owns (c : Thread nD τ) (ms0_1 t) fullShare (iblk m c 1 t)
          ∗ owns (c : Thread nD τ) (ms0_2 t) fullShare (iblk m c 2 t) ∗ owns (c : Thread nD τ) (ms0_3 t) fullShare (iblk m c 3 t)
          ∗ owns (c : Thread nD τ) (ms0_4 t) fullShare (iblk m c 4 t)
          ∗ owns (c : Thread nD τ) (ms0_5 t) fullShare (k0_pay2 (stAt m c t.val t.isLt).carry.dq)
          ∗ owns (c : Thread nD τ) (ms0_6 t) fullShare (stAt m c t.val t.isLt).dk
          ∗ owns (c : Thread nD τ) (ms0_7 t) fullShare (stAt m c t.val t.isLt).dv)) := by
  rw [h]
  exact body_run c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (iblk m c 0 t) (iblk m c 1 t) (iblk m c 2 t) (iblk m c 3 t) (iblk m c 4 t) z dk dv

set_option maxHeartbeats 800000 in
theorem sound_body (c : Dev nD) (t : Fin (cfg0 (F := Bits)).N) :
    bodyPre m c t ⊢ wp frame (wpE (defs₀ (F := Bits)) 𝒱₀ c none) Set.univ (bodyAt0 t) (fun _ => bodyPost m c t) := by
  unfold bodyPre bodyPost
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0_0 t) fullShare ((dats m 0 c).after 0 t) from rfl,
    show (dats m 0 c).leavesExact 1 t = owns (c : Thread nD τ) (ms0_1 t) fullShare ((dats m 0 c).after 1 t) from rfl,
    show (dats m 0 c).leavesExact 2 t = owns (c : Thread nD τ) (ms0_2 t) fullShare ((dats m 0 c).after 2 t) from rfl,
    show (dats m 0 c).leavesExact 3 t = owns (c : Thread nD τ) (ms0_3 t) fullShare ((dats m 0 c).after 3 t) from rfl,
    show (dats m 0 c).leavesExact 4 t = owns (c : Thread nD τ) (ms0_4 t) fullShare ((dats m 0 c).after 4 t) from rfl,
    show (dats m 0 c).leavesExact 5 t = owns (c : Thread nD τ) (ms0_5 t) fullShare ((dats m 0 c).after 5 t) from rfl,
    show (dats m 0 c).leavesExact 6 t = owns (c : Thread nD τ) (ms0_6 t) fullShare ((dats m 0 c).after 6 t) from rfl,
    show (dats m 0 c).leavesExact 7 t = owns (c : Thread nD τ) (ms0_7 t) fullShare ((dats m 0 c).after 7 t) from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  have h : stAt m c t.val t.isLt = stOf m c t ((dats m 0 c).before 6 t d6) ((dats m 0 c).before 7 t d7) := by
    by_cases h : t.val % 16 = 0
    · exact stAt_first m c t h _ _
    · rw [before0_6 m c t h, before0_7 m c t h]
      exact stAt_next m c t h
  iapply (wp_wand_r Idealize.ShloMosaic.frame (wpE (defs₀ (F := Bits)) 𝒱₀ (c : Thread nD τ) none) Set.univ)
  isplitl [H0 H1 H2 H3 H4 H5 H6 H7]
  · iapply (sound_at m c t ((dats m 0 c).before 5 t d5) _ _ h)
    iframe
  · iintro %a ⟨H0, H1, H2, H3, H4, H5, H6, H7⟩
    iframe

/-- The body table's row at point `t`'s slots is the body. -/
theorem defs₀_row (t : Fin (cfg0 (F := Bits)).N) : defs₀ (F := Bits) .tc (cfg0 (F := Bits)).body ((cfg0 (F := Bits)).bodyArgs t ((cfg0 (F := Bits)).slots t)) = bodyAt0 t := by
  unfold defs₀; rw [Defs.onTc_tc]

theorem body_obligation (c : Dev nD) : BodyObligation (dats m 0 c) (defs₀ (F := Bits)) 𝒱₀ () Set.univ := fun t => by
  rw [bigSep_W0, bigSep_W0, defs₀_row]
  exact triple_restated (sound_body m c t) rfl .rfl fun _ => .rfl

/-! ### The launch -/

-- the launch theorem's implicit arguments are found by unifying its conclusion with this one
set_option backward.isDefEq.respectTransparency.types false in
theorem run_main_quiescent : θ_run defs (onTc (τ := τ) (main (F := Bits))) (s₀ m ρ)
    (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

/-- The run: every array ends at what the proof data say, every other buffer as the kernel found it. -/
theorem run_main : θ_run defs (onTc (τ := τ) (main (F := Bits))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c)))⟩) (run_main m ρ)

/-- The frame: the arguments end unchanged and every semaphore at zero. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.StickBKernel.Hand

end
-- ==== Proof.StickBFrame.lean ====
/-
  The stick-breaking attention's backward kernel as launched: what its windows hold before and after every grid point, the
  run of the whole program, and its frame. The set-up of the launch follows the library's generated frames.
-/
module

public import proofs.«01_k».proof.Proof.StickBRun
public import proofs.«01_k».proof.Proof.Gen.StickBKernelIdeal.Points
public import Idealize.ShloMosaic.Lib.Pipeline.TableIdle
public import Idealize.ShloMosaic.Lib.Claim

@[expose] public section

set_option maxRecDepth 16384

noncomputable section

namespace Cert.StickBKernelIdeal.Hand

open Cert.StickBKernelIdeal Cert.StickBKernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### The host's part -/

/-- Core `c`'s buffers when the kernel is entered: after the host's operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

theorem hostOps0_fresh : (hostOps0 : List (HloOp τ sig (Elt F))).Forall fun op => op.fresh = ∅ := by simp only [List.Forall]; repeat' constructor
theorem hostOps0_1_fresh : (hostOps0_1 : List (HloOp τ sig (Elt F))).Forall fun op => op.fresh = ∅ := by simp only [List.Forall]; repeat' constructor
theorem hostOps0_2_fresh : (hostOps0_2 : List (HloOp τ sig (Elt F))).Forall fun op => op.fresh = ∅ := by simp only [List.Forall]; repeat' constructor
theorem hostOps0_3_fresh : (hostOps0_3 : List (HloOp τ sig (Elt F))).Forall fun op => op.fresh = ∅ := by simp only [List.Forall]; repeat' constructor
theorem hostOps0_4_fresh : (hostOps0_4 : List (HloOp τ sig (Elt F))).Forall fun op => op.fresh = ∅ := by simp only [List.Forall]; repeat' constructor
theorem hostOps0_5_fresh : (hostOps0_5 : List (HloOp τ sig (Elt F))).Forall fun op => op.fresh = ∅ := by simp only [List.Forall]; repeat' constructor
theorem hostOps0_6_fresh : (hostOps0_6 : List (HloOp τ sig (Elt F))).Forall fun op => op.fresh = ∅ := by simp only [List.Forall]; repeat' constructor
theorem hostOps0_7_fresh : (hostOps0_7 : List (HloOp τ sig (Elt F))).Forall fun op => op.fresh = ∅ := by simp only [List.Forall]; repeat' constructor
theorem hostOps0_8_fresh : (hostOps0_8 : List (HloOp τ sig (Elt F))).Forall fun op => op.fresh = ∅ := by simp only [List.Forall]; repeat' constructor
theorem hostOps0_9_fresh : (hostOps0_9 : List (HloOp τ sig (Elt F))).Forall fun op => op.fresh = ∅ := by simp only [List.Forall]; repeat' constructor

set_option maxHeartbeats 800000 in
theorem hmain (𝒱 : Variants) : Pipeline.HMain (Ix := Unit) (Name := ℕ) (U := UR sig nD τ) (Lvl := ℕ) cfgs 0 defs₀ 𝒱 m (main (F := F)) (V m) :=
  Pipeline.hmain_prefixes cfgs 0 defs₀ 𝒱 m main [hostOps0, hostOps0_1, hostOps0_2, hostOps0_3, hostOps0_4, hostOps0_5, hostOps0_6, hostOps0_7, hostOps0_8, hostOps0_9]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

set_option maxHeartbeats 1600000 in
/-- No host operation writes an argument. -/
theorem V_main_arg0 (c : Dev nD) : V m c main_arg0 = m (c.tc.loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append, List.nil_append,
      List.Forall, StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

set_option maxHeartbeats 1600000 in
theorem V_main_arg1 (c : Dev nD) : V m c main_arg1 = m (c.tc.loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append, List.nil_append,
      List.Forall, StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-! ### What the windows hold -/

/-- Window `w`'s block at point `t`, read off its array as the kernel finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The state after point `t`, the key and value gradients before it being `dk` and `dv`. -/
def stOf (c : Dev nD) (t : Fin (cfg0 (F := F)).N) (dk dv : Vec F S4096x128 .f32) : St F :=
  point (grid0.coords t) (iblk m c 0 t) (iblk m c 1 t) (iblk m c 2 t) (iblk m c 3 t) (iblk m c 4 t) dk dv

/-- The state after the point at position `n`. -/
def stAt (c : Dev nD) : (n : ℕ) → n < (cfg0 (F := F)).N → St F
  | 0, h => stOf m c ⟨0, h⟩ k0_pay7 k0_pay8
  | n + 1, h => stOf m c ⟨n + 1, h⟩ (stAt c n (Nat.lt_of_succ_lt h)).dk (stAt c n (Nat.lt_of_succ_lt h)).dv

theorem coord1 : ∀ t : Fin (cfg0 (F := F)).N, (grid0.coords t 1).val = t.val % 16 :=
  (by decide +kernel : ∀ t : Fin grid0.N, (grid0.coords t 1).val = t.val % 16)

/-- At a head pair's first query block the state does not depend on what the gradients held. -/
theorem stOf_first (c : Dev nD) (t : Fin (cfg0 (F := F)).N) (h : t.val % 16 = 0) (dk dv dk' dv' : Vec F S4096x128 .f32) :
    stOf m c t dk dv = stOf m c t dk' dv' := by
  unfold stOf point start
  rw [if_pos ((coord1 t).trans h), if_pos ((coord1 t).trans h), if_pos ((coord1 t).trans h), if_pos ((coord1 t).trans h)]

theorem stAt_first (c : Dev nD) (t : Fin (cfg0 (F := F)).N) (h : t.val % 16 = 0) (dk dv : Vec F S4096x128 .f32) :
    stAt m c t.val t.isLt = stOf m c t dk dv := by
  obtain ⟨n, hn⟩ := t
  cases n with
  | zero => exact stOf_first m c ⟨0, hn⟩ h _ _ _ _
  | succ n => exact stOf_first m c ⟨n + 1, hn⟩ h _ _ _ _

theorem stAt_next (c : Dev nD) (t : Fin (cfg0 (F := F)).N) (h : ¬t.val % 16 = 0) :
    stAt m c t.val t.isLt = stOf m c t (stAt m c (t.val - 1) (Nat.lt_of_le_of_lt (Nat.sub_le _ _) t.isLt)).dk
      (stAt m c (t.val - 1) (Nat.lt_of_le_of_lt (Nat.sub_le _ _) t.isLt)).dv := by
  obtain ⟨n, hn⟩ := t
  cases n with
  | zero => exact absurd (Nat.zero_mod _) h
  | succ n => rfl

/-- The proof data: the arrays as the kernel finds them; after a point each input's buffer at its block and the outputs' at
    the point's state. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (stAt m c t.val t.isLt).carry.dq
    | ⟨6, _⟩ => (stAt m c t.val t.isLt).dk
    | ⟨7, _⟩ => (stAt m c t.val t.isLt).dv
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = k0_pay2 (stAt m c t.val t.isLt).carry.dq := by dsimp only [dats]; rfl
theorem after0_6 (c : Dev nD) (t : Fin (cfg0 (F := F)).N) : (dats m 0 c).after 6 t = (stAt m c t.val t.isLt).dk := by dsimp only [dats]; rfl
theorem after0_7 (c : Dev nD) (t : Fin (cfg0 (F := F)).N) : (dats m 0 c).after 7 t = (stAt m c t.val t.isLt).dv := by dsimp only [dats]; rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans (by unfold Dat.fetched Dat.blockOf iblk; rw [A_eq]; try rfl)

/-- Whether the gradients' buffers hold nothing yet at a position: at the start and after each write-back. -/
def freshTab : ℕ → Bool
  | 0 => true
  | n + 1 => n % 16 == 15

theorem fresh0_6 (t : Fin (cfg0 (F := F)).N) : (cfg0 (F := F)).fresh 6 t.val = freshTab t.val :=
  Pipeline.Cfg.fresh_tab (cfg0 (F := F)) 6 freshTab rfl
    (fun t => (by
      show (t.val % 16 == 15) = (((cfg0 (F := F)).win 6).flush t || (false && freshTab t.val))
      rw [Bool.false_and, Bool.or_false, Bool.eq_iff_iff, flush0_6 t, beq_iff_eq]))
    t.val (Nat.le_of_lt t.isLt)
theorem fresh0_7 (t : Fin (cfg0 (F := F)).N) : (cfg0 (F := F)).fresh 7 t.val = freshTab t.val :=
  Pipeline.Cfg.fresh_tab (cfg0 (F := F)) 7 freshTab rfl
    (fun t => (by
      show (t.val % 16 == 15) = (((cfg0 (F := F)).win 7).flush t || (false && freshTab t.val))
      rw [Bool.false_and, Bool.or_false, Bool.eq_iff_iff, flush0_7 t, beq_iff_eq]))
    t.val (Nat.le_of_lt t.isLt)

theorem notFresh (t : Fin (cfg0 (F := F)).N) (h : ¬t.val % 16 = 0) : freshTab t.val = false := by
  obtain ⟨n, hn⟩ := t
  cases n with
  | zero => exact absurd (Nat.zero_mod _) h
  | succ n =>
    simp only [freshTab, beq_eq_false_iff_ne, ne_eq]
    simp only at h
    omega

theorem before0_6 (c : Dev nD) (t : Fin (cfg0 (F := F)).N) (h : ¬t.val % 16 = 0) (d) :
    (dats m 0 c).before 6 t d = (stAt m c (t.val - 1) (Nat.lt_of_le_of_lt (Nat.sub_le _ _) t.isLt)).dk := by
  rw [Dat.before_out_traj _ 6 rfl (fun _ _ => rfl) (fun _ _ hi => absurd (hi : false = true) Bool.false_ne_true) t.val t rfl d,
    if_neg (by rw [fresh0_6, notFresh t h]; exact Bool.false_ne_true)]
  dsimp only [dats]
  rfl
theorem before0_7 (c : Dev nD) (t : Fin (cfg0 (F := F)).N) (h : ¬t.val % 16 = 0) (d) :
    (dats m 0 c).before 7 t d = (stAt m c (t.val - 1) (Nat.lt_of_le_of_lt (Nat.sub_le _ _) t.isLt)).dv := by
  rw [Dat.before_out_traj _ 7 rfl (fun _ _ => rfl) (fun _ _ hi => absurd (hi : false = true) Bool.false_ne_true) t.val t rfl d,
    if_neg (by rw [fresh0_7, notFresh t h]; exact Bool.false_ne_true)]
  dsimp only [dats]
  rfl

/-! ### The body at a point -/

abbrev ms0_0 (t : Fin (cfg0 (F := F)).N) : Memref sig .tc .vmem S256x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S4096x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S4096x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S256x128 .f32 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S256x128 .bf16 := win0_4.stage ((cfg0 (F := F)).slots t 4)
abbrev hs0_4 (t : Fin (cfg0 (F := F)).N) : (ms0_4 t).IsWhole := hstage0_4 (((cfg0 (F := F)).slots t 4).cast nbuf0_4)
abbrev ms0_5 (t : Fin (cfg0 (F := F)).N) : Memref sig .tc .vmem S256x128 .bf16 := win0_5.stage ((cfg0 (F := F)).slots t 5)
abbrev hs0_5 (t : Fin (cfg0 (F := F)).N) : (ms0_5 t).IsWhole := hstage0_5 (((cfg0 (F := F)).slots t 5).cast nbuf0_5)
abbrev ms0_6 (t : Fin (cfg0 (F := F)).N) : Memref sig .tc .vmem S4096x128 .f32 := win0_6.stage ((cfg0 (F := F)).slots t 6)
abbrev hs0_6 (t : Fin (cfg0 (F := F)).N) : (ms0_6 t).IsWhole := hstage0_6 (((cfg0 (F := F)).slots t 6).cast nbuf0_6)
abbrev ms0_7 (t : Fin (cfg0 (F := F)).N) : Memref sig .tc .vmem S4096x128 .f32 := win0_7.stage ((cfg0 (F := F)).slots t 7)
abbrev hs0_7 (t : Fin (cfg0 (F := F)).N) : (ms0_7 t).IsWhole := hstage0_7 (((cfg0 (F := F)).slots t 7).cast nbuf0_7)

def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- What a point's body leaves, from the values the gradients held. -/
theorem sound_at (c : Dev nD) (t : Fin (cfg0 (F := F)).N) (z : Vec F S256x128 .bf16) (dk dv : Vec F S4096x128 .f32)
    (h : stAt m c t.val t.isLt = stOf m c t dk dv) :
    (iprop(owns (c : Thread nD τ) (ms0_0 t) fullShare (iblk m c 0 t) ∗ owns (c : Thread nD τ) (ms0_1 t) fullShare (iblk m c 1 t)
      ∗ owns (c : Thread nD τ) (ms0_2 t) fullShare (iblk m c 2 t) ∗ owns (c : Thread nD τ) (ms0_3 t) fullShare (iblk m c 3 t)
      ∗ owns (c : Thread nD τ) (ms0_4 t) fullShare (iblk m c 4 t) ∗ owns (c : Thread nD τ) (ms0_5 t) fullShare z
      ∗ owns (c : Thread nD τ) (ms0_6 t) fullShare dk ∗ owns (c : Thread nD τ) (ms0_7 t) fullShare dv) : sProp 𝕄)
      ⊢ wp frame (wpE (defs₀ (F := F)) 𝒱₀ (c : Thread nD τ) none) Set.univ (bodyAt0 t)
        (fun _ => iprop(owns (c : Thread nD τ) (ms0_0 t) fullShare (iblk m c 0 t) ∗ owns (c : Thread nD τ) (ms0_1 t) fullShare (iblk m c 1 t)
          ∗ owns (c : Thread nD τ) (ms0_2 t) fullShare (iblk m c 2 t) ∗ owns (c : Thread nD τ) (ms0_3 t) fullShare (iblk m c 3 t)
          ∗ owns (c : Thread nD τ) (ms0_4 t) fullShare (iblk m c 4 t)
          ∗ owns (c : Thread nD τ) (ms0_5 t) fullShare (k0_pay2 (stAt m c t.val t.isLt).carry.dq)
          ∗ owns (c : Thread nD τ) (ms0_6 t) fullShare (stAt m c t.val t.isLt).dk
          ∗ owns (c : Thread nD τ) (ms0_7 t) fullShare (stAt m c t.val t.isLt).dv)) := by
  rw [h]
  exact body_run c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (iblk m c 0 t) (iblk m c 1 t) (iblk m c 2 t) (iblk m c 3 t) (iblk m c 4 t) z dk dv

set_option maxHeartbeats 800000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0_0 t) fullShare ((dats m 0 c).after 0 t) from rfl,
    show (dats m 0 c).leavesExact 1 t = owns (c : Thread nD τ) (ms0_1 t) fullShare ((dats m 0 c).after 1 t) from rfl,
    show (dats m 0 c).leavesExact 2 t = owns (c : Thread nD τ) (ms0_2 t) fullShare ((dats m 0 c).after 2 t) from rfl,
    show (dats m 0 c).leavesExact 3 t = owns (c : Thread nD τ) (ms0_3 t) fullShare ((dats m 0 c).after 3 t) from rfl,
    show (dats m 0 c).leavesExact 4 t = owns (c : Thread nD τ) (ms0_4 t) fullShare ((dats m 0 c).after 4 t) from rfl,
    show (dats m 0 c).leavesExact 5 t = owns (c : Thread nD τ) (ms0_5 t) fullShare ((dats m 0 c).after 5 t) from rfl,
    show (dats m 0 c).leavesExact 6 t = owns (c : Thread nD τ) (ms0_6 t) fullShare ((dats m 0 c).after 6 t) from rfl,
    show (dats m 0 c).leavesExact 7 t = owns (c : Thread nD τ) (ms0_7 t) fullShare ((dats m 0 c).after 7 t) from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  have h : stAt m c t.val t.isLt = stOf m c t ((dats m 0 c).before 6 t d6) ((dats m 0 c).before 7 t d7) := by
    by_cases h : t.val % 16 = 0
    · exact stAt_first m c t h _ _
    · rw [before0_6 m c t h, before0_7 m c t h]
      exact stAt_next m c t h
  iapply (wp_wand_r Idealize.ShloMosaic.frame (wpE (defs₀ (F := F)) 𝒱₀ (c : Thread nD τ) none) Set.univ)
  isplitl [H0 H1 H2 H3 H4 H5 H6 H7]
  · iapply (sound_at m c t ((dats m 0 c).before 5 t d5) _ _ h)
    iframe
  · iintro %a ⟨H0, H1, H2, H3, H4, H5, H6, H7⟩
    iframe

/-- The body table's row at point `t`'s slots is the body. -/
theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ### The launch -/

-- the launch theorem's implicit arguments are found by unifying its conclusion with this one
set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

/-- The run: every array ends at what the proof data say, every other buffer as the kernel found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c)))⟩) (run_main m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.StickBKernelIdeal.Hand

end
-- ==== Proof.StickBRead.lean ====
/-
  Arrays of real numbers through the operations of the stick-breaking kernel: `Is x f` says that the array `x` holds the
  real numbers `f`, and one lemma per operation says what the operation leaves.
-/
module

public import proofs.«01_k».proof.Proof.StickBBody
public import proofs.«01_k».proof.Proof.Finite
public import Idealize.ShloMosaic.Lib.Pointwise
public import Idealize.ShloMosaic.PureOps.Ideal.Laws

@[expose] public section

set_option maxRecDepth 16384

noncomputable section

namespace Cert.StickBKernelIdeal.Hand

open Cert.StickBKernelIdeal Cert.StickBKernelIdeal.Gen Cert.Hand
open Idealize.ShloMosaic Idealize.ShloMosaic.TcCoe

/-- The array `x` holds the real numbers `f`. -/
def Is {n m : ℕ} (x : (⟨2, ![n, m]⟩ : Shape).Idx → EReal) (f : Fin n → Fin m → ℝ) : Prop :=
  ∀ r j, x (ix2 r j) = ((f r j : ℝ) : EReal)

/-- The array `x` of flags holds the truth of `p`. -/
def Flag {n m : ℕ} (x : (⟨2, ![n, m]⟩ : Shape).Idx → BitVec 1) (p : Fin n → Fin m → Prop) : Prop :=
  ∀ r j, x (ix2 r j) = 1#1 ↔ p r j

/-- `log (1 + e^x)` the way the programs write it. -/
def sp (x : ℝ) : ℝ := max x 0 + Real.log (1 + Real.exp (-|x|))

theorem coe_max' (a b : ℝ) : max (a : EReal) (b : EReal) = ((max a b : ℝ) : EReal) :=
  ((EReal.coe_strictMono.monotone).map_max).symm

variable {n m : ℕ} {φ : FTy}

protected theorem Is.of_eq {x : (⟨2, ![n, m]⟩ : Shape).Idx → EReal} {f g : Fin n → Fin m → ℝ} (h : Is x f) (e : ∀ r j, f r j = g r j) : Is x g :=
  fun r j => by rw [h r j, e r j]

protected theorem Is.addf {x y : FVec Ideal ⟨2, ![n, m]⟩ φ} {f g : Fin n → Fin m → ℝ} (hx : Is x f) (hy : Is y g) :
    Is (Idealize.ShloMosaic.addf x y) fun r j => f r j + g r j := fun r j => by
  pointwise; rw [hx r j, hy r j, EReal.coe_add]

protected theorem Is.subf {x y : FVec Ideal ⟨2, ![n, m]⟩ φ} {f g : Fin n → Fin m → ℝ} (hx : Is x f) (hy : Is y g) :
    Is (Idealize.ShloMosaic.subf x y) fun r j => f r j - g r j := fun r j => by
  pointwise; rw [hx r j, hy r j, EReal.coe_sub]

protected theorem Is.mulf {x y : FVec Ideal ⟨2, ![n, m]⟩ φ} {f g : Fin n → Fin m → ℝ} (hx : Is x f) (hy : Is y g) :
    Is (Idealize.ShloMosaic.mulf x y) fun r j => f r j * g r j := fun r j => by
  pointwise; rw [hx r j, hy r j, EReal.coe_mul]

protected theorem Is.exp {x : FVec Ideal ⟨2, ![n, m]⟩ .f32} {f : Fin n → Fin m → ℝ} (hx : Is x f) :
    Is (Idealize.ShloMosaic.exp x) fun r j => Real.exp (f r j) := fun r j => by
  pointwise; rw [hx r j]; rfl

protected theorem Is.bcast {b : EReal} {c : ℝ} (h : b = (c : EReal)) : Is (broadcast ⟨2, ![n, m]⟩ b) fun _ _ => c := fun r j => by
  pointwise; exact h

protected theorem Is.zero : Is (n := n) (m := m) (broadcast ⟨2, ![n, m]⟩ (Scalar.ofBits (F := Ideal) .f32 0x00000000#32)) fun _ _ => 0 := fun r j => by
  pointwise; exact EReal.coe_zero.symm

protected theorem Is.one : Is (n := n) (m := m) (broadcast ⟨2, ![n, m]⟩ (Scalar.ofBits (F := Ideal) .f32 0x3F800000#32)) fun _ _ => 1 := fun r j => by
  pointwise; exact EReal.coe_one.symm

protected theorem Is.select {c : (⟨2, ![n, m]⟩ : Shape).Idx → BitVec 1} {p : Fin n → Fin m → Prop} [∀ r j, Decidable (p r j)] (hc : Flag c p)
    {x y : FVec Ideal ⟨2, ![n, m]⟩ φ} {f g : Fin n → Fin m → ℝ} (hx : Is x f) (hy : Is y g) :
    Is (Idealize.ShloMosaic.select c x y) fun r j => if p r j then f r j else g r j := fun r j => by
  have h := hc r j
  show Scalar.select _ _ _ = (((if p r j then f r j else g r j) : ℝ) : EReal)
  unfold Scalar.select
  by_cases hp : p r j
  · rw [if_pos hp]; exact (if_pos (h.2 hp)).trans (hx r j)
  · rw [if_neg hp]; exact (if_neg (fun h' => hp (h.1 h'))).trans (hy r j)

protected theorem Is.softplus {z : FVec Ideal ⟨2, ![n, m]⟩ .f32} {f : Fin n → Fin m → ℝ} (hz : Is z f) :
    Is (Idealize.ShloMosaic.addf (maximumf z (broadcast ⟨2, ![n, m]⟩ (Scalar.ofBits (F := Ideal) .f32 0x00000000#32)))
      (log (Idealize.ShloMosaic.addf (broadcast ⟨2, ![n, m]⟩ (Scalar.ofBits (F := Ideal) .f32 0x3F800000#32))
        (Idealize.ShloMosaic.exp (Idealize.ShloMosaic.subf (broadcast ⟨2, ![n, m]⟩ (Scalar.ofBits (F := Ideal) .f32 0x00000000#32)) (absf z))))))
      fun r j => sp (f r j) := fun r j => by
  pointwise; rw [hz r j]
  generalize f r j = v
  have e : 0 - FloatOps.absf (φ := .f32) (F := Ideal) ((v : ℝ) : EReal) = ((-|v| : ℝ) : EReal) := by
    rw [zero_sub, Ideal.absf_def, abs_eq_max_neg, ← EReal.coe_neg, coe_max', ← EReal.coe_neg]
  rw [e, Ideal.exp_coe, show (1 : EReal) = ((1 : ℝ) : EReal) from rfl, ← EReal.coe_add, Ideal.log_coe,
    if_neg (not_le.mpr (by positivity)), show (0 : EReal) = ((0 : ℝ) : EReal) from rfl, coe_max', ← EReal.coe_add]
  rfl

/-! ## Products of two matrices -/

theorem sum_coe {k : ℕ} {x y : Fin k → EReal} {f g : Fin k → ℝ} (hx : ∀ i, x i = (f i : EReal)) (hy : ∀ i, y i = (g i : EReal)) :
    ∑ i, x i * y i = ((∑ i, f i * g i : ℝ) : EReal) := by
  rw [← coe_sum]; exact Finset.sum_congr rfl fun i _ => by rw [hx i, hy i, EReal.coe_mul]

protected theorem Is.nt {x : FVec Ideal S256x128 .bf16} {y : FVec Ideal S256x128 .bf16} {f : Fin 256 → Fin 128 → ℝ} {g : Fin 256 → Fin 128 → ℝ}
    (hx : Is x f) (hy : Is y g) :
    Is (n := 256) (m := 256) (matmul dot_S256x128_S256x128_S256x256_1_1_0_0_n_n none x y (constant S256x256 .f32 0x00000000#32)) fun r j => ∑ k, f r k * g j k := fun r j => by
  pointwise; exact sum_coe (fun k => hx r k) fun k => hy j k

protected theorem Is.nt' {x : FVec Ideal S128x128 .bf16} {y : FVec Ideal S256x128 .bf16} {f : Fin 128 → Fin 128 → ℝ} {g : Fin 256 → Fin 128 → ℝ}
    (hx : Is x f) (hy : Is y g) :
    Is (n := 128) (m := 256) (matmul dot_S128x128_S256x128_S128x256_1_1_0_0_n_n none x y (constant S128x256 .f32 0x00000000#32)) fun r j => ∑ k, f r k * g j k := fun r j => by
  pointwise; exact sum_coe (fun k => hx r k) fun k => hy j k

protected theorem Is.tri {x : FVec Ideal S256x256 .bf16} {y : FVec Ideal S256x256 .bf16} {f : Fin 256 → Fin 256 → ℝ} {g : Fin 256 → Fin 256 → ℝ}
    (hx : Is x f) (hy : Is y g) :
    Is (n := 256) (m := 256) (matmul dot_S256x256_S256x256_S256x256_1_0_0_1_n_n none x y (constant S256x256 .f32 0x00000000#32)) fun r j => ∑ k, f r k * g k j := fun r j => by
  pointwise; exact sum_coe (fun k => hx r k) fun k => hy k j

protected theorem Is.tri' {x : FVec Ideal S128x256 .bf16} {y : FVec Ideal S256x256 .bf16} {f : Fin 128 → Fin 256 → ℝ} {g : Fin 256 → Fin 256 → ℝ}
    (hx : Is x f) (hy : Is y g) :
    Is (n := 128) (m := 256) (matmul dot_S128x256_S256x256_S128x256_1_0_0_1_n_n none x y (constant S128x256 .f32 0x00000000#32)) fun r j => ∑ k, f r k * g k j := fun r j => by
  pointwise; exact sum_coe (fun k => hx r k) fun k => hy k j

protected theorem Is.nn {x : FVec Ideal S256x256 .bf16} {y : FVec Ideal S256x128 .bf16} {f : Fin 256 → Fin 256 → ℝ} {g : Fin 256 → Fin 128 → ℝ}
    (hx : Is x f) (hy : Is y g) :
    Is (n := 256) (m := 128) (matmul dot_S256x256_S256x128_S256x128_1_0_0_1_n_n none x y (constant S256x128 .f32 0x00000000#32)) fun r j => ∑ k, f r k * g k j := fun r j => by
  pointwise; exact sum_coe (fun k => hx r k) fun k => hy k j

protected theorem Is.nn' {x : FVec Ideal S128x256 .bf16} {y : FVec Ideal S256x128 .bf16} {f : Fin 128 → Fin 256 → ℝ} {g : Fin 256 → Fin 128 → ℝ}
    (hx : Is x f) (hy : Is y g) :
    Is (n := 128) (m := 128) (matmul dot_S128x256_S256x128_S128x128_1_0_0_1_n_n none x y (constant S128x128 .f32 0x00000000#32)) fun r j => ∑ k, f r k * g k j := fun r j => by
  pointwise; exact sum_coe (fun k => hx r k) fun k => hy k j

protected theorem Is.tn {x : FVec Ideal S256x256 .bf16} {y : FVec Ideal S256x128 .bf16} {f : Fin 256 → Fin 256 → ℝ} {g : Fin 256 → Fin 128 → ℝ}
    (hx : Is x f) (hy : Is y g) :
    Is (n := 256) (m := 128) (matmul dot_S256x256_S256x128_S256x128_0_0_1_1_n_n none x y (constant S256x128 .f32 0x00000000#32)) fun r j => ∑ k, f k r * g k j := fun r j => by
  pointwise; exact sum_coe (fun k => hx k r) fun k => hy k j

protected theorem Is.tn' {x : FVec Ideal S128x256 .bf16} {y : FVec Ideal S128x128 .bf16} {f : Fin 128 → Fin 256 → ℝ} {g : Fin 128 → Fin 128 → ℝ}
    (hx : Is x f) (hy : Is y g) :
    Is (n := 256) (m := 128) (matmul dot_S128x256_S128x128_S256x128_0_0_1_1_n_n none x y (constant S256x128 .f32 0x00000000#32)) fun r j => ∑ k, f k r * g k j := fun r j => by
  pointwise; exact sum_coe (fun k => hx k r) fun k => hy k j

/-! ## Halves -/

/-- The number `i` of the first half. -/
def lo (i : Fin 128) : Fin 256 := ⟨i.val, by omega⟩
/-- The number `i` of the second half. -/
def hi (i : Fin 128) : Fin 256 := ⟨128 + i.val, by omega⟩
/-- Two halves as one. -/
def cat {α : Type} (f g : Fin 128 → α) (i : Fin 256) : α := if h : i.val < 128 then f ⟨i.val, h⟩ else g ⟨i.val - 128, by omega⟩

@[simp] theorem cat_lo {α : Type} (f g : Fin 128 → α) (i : Fin 128) : cat f g (lo i) = f i := by
  unfold cat lo; exact dif_pos i.isLt
@[simp] theorem cat_hi {α : Type} (f g : Fin 128 → α) (i : Fin 128) : cat f g (hi i) = g i := by
  unfold cat hi
  rw [dif_neg (by show ¬128 + i.val < 128; omega)]; congr 1; apply Fin.ext; show 128 + i.val - 128 = i.val; omega

theorem sum_halves (f : Fin 256 → ℝ) : ∑ k, f k = ∑ a, f (lo a) + ∑ a, f (hi a) := by
  exact Fin.sum_univ_add (a := 128) (b := 128) f

protected theorem Is.left {x : FVec Ideal S256x256 .f32} {f : Fin 256 → Fin 256 → ℝ} (hx : Is x f) :
    Is (n := 256) (m := 128) (extractStridedSlice S256x128 ![0, 0] x slices_S256x256_o0_0_S256x128) fun r j => f r (lo j) := fun r j => by
  pointwise; exact hx r (lo j)

protected theorem Is.right {x : FVec Ideal S256x256 .f32} {f : Fin 256 → Fin 256 → ℝ} (hx : Is x f) :
    Is (n := 256) (m := 128) (extractStridedSlice S256x128 ![0, 128] x slices_S256x256_o0_128_S256x128) fun r j => f r (hi j) := fun r j => by
  pointwise; exact hx r (hi j)

protected theorem Is.left' {x : FVec Ideal S128x256 .f32} {f : Fin 128 → Fin 256 → ℝ} (hx : Is x f) :
    Is (n := 128) (m := 128) (extractStridedSlice S128x128 ![0, 0] x slices_S128x256_o0_0_S128x128) fun r j => f r (lo j) := fun r j => by
  pointwise; exact hx r (lo j)

protected theorem Is.right' {x : FVec Ideal S128x256 .f32} {f : Fin 128 → Fin 256 → ℝ} (hx : Is x f) :
    Is (n := 128) (m := 128) (extractStridedSlice S128x128 ![0, 128] x slices_S128x256_o0_128_S128x128) fun r j => f r (hi j) := fun r j => by
  pointwise; exact hx r (hi j)

protected theorem Is.top {x : FVec Ideal S256x128 .f32} {f : Fin 256 → Fin 128 → ℝ} (hx : Is x f) :
    Is (n := 128) (m := 128) (extractStridedSlice S128x128 ![0, 0] x slices_S256x128_o0_0_S128x128) fun r j => f (lo r) j := fun r j => by
  pointwise; exact hx (lo r) j

protected theorem Is.bot {x : FVec Ideal S256x128 .f32} {f : Fin 256 → Fin 128 → ℝ} (hx : Is x f) :
    Is (n := 128) (m := 128) (extractStridedSlice S128x128 ![128, 0] x slices_S256x128_o128_0_S128x128) fun r j => f (hi r) j := fun r j => by
  pointwise; exact hx (hi r) j

protected theorem Is.botb {x : FVec Ideal S256x128 .bf16} {f : Fin 256 → Fin 128 → ℝ} (hx : Is x f) :
    Is (n := 128) (m := 128) (extractStridedSlice S128x128 ![128, 0] x slices_S256x128_o128_0_S128x128) fun r j => f (hi r) j := fun r j => by
  pointwise; exact hx (hi r) j

protected theorem Is.rows {x y : FVec Ideal S128x128 .bf16} {f g : Fin 128 → Fin 128 → ℝ} (hx : Is x f) (hy : Is y g) :
    Is (n := 256) (m := 128) (concatenate S256x128 0 [⟨S128x128, x⟩, ⟨S128x128, y⟩] concatenates_S128x128_S128x128_S256x128_d0) fun r j => cat (f · j) (g · j) r := fun r j => by
  pointwise
  unfold cat
  split
  · exact hx _ _
  · exact hy _ _

protected theorem Is.rowsf {x y : FVec Ideal S128x128 .f32} {f g : Fin 128 → Fin 128 → ℝ} (hx : Is x f) (hy : Is y g) :
    Is (n := 256) (m := 128) (concatenate S256x128 0 [⟨S128x128, x⟩, ⟨S128x128, y⟩] concatenates_S128x128_S128x128_S256x128_d0) fun r j => cat (f · j) (g · j) r := fun r j => by
  pointwise
  unfold cat
  split
  · exact hx _ _
  · exact hy _ _

protected theorem Is.cols {x y : FVec Ideal S256x128 .bf16} {f g : Fin 256 → Fin 128 → ℝ} (hx : Is x f) (hy : Is y g) :
    Is (n := 256) (m := 256) (concatenate S256x256 1 [⟨S256x128, x⟩, ⟨S256x128, y⟩] concatenates_S256x128_S256x128_S256x256_d1) fun r j => cat (f r) (g r) j := fun r j => by
  pointwise
  unfold cat
  split
  · exact hx _ _
  · exact hy _ _

protected theorem Is.cols' {x y : FVec Ideal S128x128 .bf16} {f g : Fin 128 → Fin 128 → ℝ} (hx : Is x f) (hy : Is y g) :
    Is (n := 128) (m := 256) (concatenate S128x256 1 [⟨S128x128, x⟩, ⟨S128x128, y⟩] concatenates_S128x128_S128x128_S128x256_d1) fun r j => cat (f r) (g r) j := fun r j => by
  pointwise
  unfold cat
  split
  · exact hx _ _
  · exact hy _ _

end Cert.StickBKernelIdeal.Hand
-- ==== Proof.StickBMath.lean ====
/-
  The gradient of one pair of heads of the stick-breaking attention over the real numbers, and the sums over the keys
  from a key on that the kernel builds up tile by tile, from the last key to the first.
-/
module

public import proofs.«01_k».proof.Proof.StickBRead

@[expose] public section

noncomputable section

namespace Cert.StickBKernelIdeal.Hand

/-- A pair of heads: the scaled queries, the keys, the values and the cotangent, by row and lane; the first head has
    the lanes below 64, the second the others. -/
structure Data where
  q : ℕ → Fin 128 → ℝ
  k : ℕ → Fin 128 → ℝ
  v : ℕ → Fin 128 → ℝ
  d : ℕ → Fin 128 → ℝ

/-- One on the lanes of head `h`, zero on the others. -/
def lane (h : ℕ) (l : Fin 128) : ℝ := if l.val / 64 = h then 1 else 0

/-- The logarithm of the share a score takes of what is left. -/
def lb (x : ℝ) : ℝ := x - sp x

namespace Data
variable (D : Data) (h : ℕ)

/-- The score of key `j` for query `r`. -/
def z (r j : ℕ) : ℝ := ∑ l, D.q r l * (D.k j l * lane h l)
/-- The gradient of a weight. -/
def dw (r j : ℕ) : ℝ := ∑ l, D.d r l * (D.v j l * lane h l)
/-- What key `j` takes from the logarithm of what is left for the keys before it. -/
def A (r j : ℕ) : ℝ := if j < r then sp (D.z h r j) else 0
/-- What the keys from `j` on take. -/
def C (r j : ℕ) : ℝ := ∑ i ∈ Finset.Ico j 4096, D.A h r i
/-- The weight of key `j`. -/
def W (r j : ℕ) : ℝ := if j < r then Real.exp (lb (D.z h r j) - D.C h r (j + 1)) else 0
/-- A weight times its gradient. -/
def G (r j : ℕ) : ℝ := D.W h r j * D.dw h r j
/-- The sum of these from key `j` on. -/
def S (r j : ℕ) : ℝ := ∑ i ∈ Finset.Ico j 4096, D.G h r i
/-- The gradient of a score, from the sum over all keys and the sum from the key on. -/
def dz (r j : ℕ) : ℝ :=
  if j < r then D.G h r j * (1 - Real.exp (lb (D.z h r j))) - (D.S h r 0 - D.S h r j) * Real.exp (lb (D.z h r j)) else 0

end Data

/-! ### Sums from a key on, tile by tile -/

section Tile
variable (f : ℕ → ℝ) (b : ℕ) (hb : b + 128 ≤ 4096)
include hb

theorem tile_sum (g : ℕ → ℝ) : ∑ a : Fin 128, g (b + a.val) = ∑ i ∈ Finset.Ico b (b + 128), g i := by
  rw [Finset.sum_Ico_eq_sum_range, Nat.add_sub_cancel_left, Finset.sum_range]

theorem from_tile : ∑ i ∈ Finset.Ico (b + 128) 4096, f i + ∑ a : Fin 128, f (b + a.val) = ∑ i ∈ Finset.Ico b 4096, f i := by
  rw [tile_sum b hb, add_comm, Finset.sum_Ico_consecutive f (by omega) hb]

theorem from_later (c : Fin 128) :
    (∑ a : Fin 128, if c.val < a.val then f (b + a.val) else 0) + ∑ i ∈ Finset.Ico (b + 128) 4096, f i
      = ∑ i ∈ Finset.Ico (b + c.val + 1) 4096, f i := by
  have h : (∑ a : Fin 128, if c.val < a.val then f (b + a.val) else 0)
      = ∑ i ∈ Finset.Ico (b + c.val + 1) (b + 128), f i := by
    have e := tile_sum b hb fun i => if b + c.val < i then f i else 0
    rw [show (∑ a : Fin 128, if c.val < a.val then f (b + a.val) else 0)
      = ∑ a : Fin 128, (fun i => if b + c.val < i then f i else 0) (b + a.val) from
      Finset.sum_congr rfl fun a _ => by
        by_cases hh : c.val < a.val
        · rw [if_pos hh]; exact (if_pos (by omega)).symm
        · rw [if_neg hh]; exact (if_neg (by omega)).symm, e,
      ← Finset.sum_Ico_consecutive _ (show b ≤ b + c.val + 1 by omega) (show b + c.val + 1 ≤ b + 128 by omega),
      Finset.sum_eq_zero, zero_add]
    · exact Finset.sum_congr rfl fun i hi => if_pos (by have := (Finset.mem_Ico.1 hi).1; omega)
    · exact fun i hi => if_neg (by have := (Finset.mem_Ico.1 hi).2; omega)
  rw [h, Finset.sum_Ico_consecutive f (by omega) hb]

theorem from_here (c : Fin 128) :
    (∑ a : Fin 128, if c.val ≤ a.val then f (b + a.val) else 0) + ∑ i ∈ Finset.Ico (b + 128) 4096, f i
      = ∑ i ∈ Finset.Ico (b + c.val) 4096, f i := by
  have h : (∑ a : Fin 128, if c.val ≤ a.val then f (b + a.val) else 0)
      = f (b + c.val) + ∑ a : Fin 128, if c.val < a.val then f (b + a.val) else 0 := by
    have e : ∀ a : Fin 128, (if c.val ≤ a.val then f (b + a.val) else 0)
        = (if a = c then f (b + c.val) else 0) + if c.val < a.val then f (b + a.val) else 0 := fun a => by
      rcases lt_trichotomy a c with hh | hh | hh
      · rw [if_neg (by omega), if_neg (by omega), if_neg (by omega), add_zero]
      · subst hh; simp
      · rw [if_pos (by omega), if_neg (by omega), if_pos (by omega), zero_add]
    rw [Finset.sum_congr rfl fun a _ => e a, Finset.sum_add_distrib, Finset.sum_ite_eq' Finset.univ c, if_pos (Finset.mem_univ c)]
  rw [h, add_assoc, from_later f b hb c, Finset.sum_eq_sum_Ico_succ_bot (by omega : b + c.val < 4096)]

end Tile

namespace Data
variable (D : Data) (h : ℕ) (r b : ℕ) (hb : b + 128 ≤ 4096)
include hb

theorem C_tile : D.C h r (b + 128) + ∑ a : Fin 128, D.A h r (b + a.val) = D.C h r b := from_tile _ b hb
theorem S_tile : D.S h r (b + 128) + ∑ a : Fin 128, D.G h r (b + a.val) = D.S h r b := from_tile _ b hb

/-- The weight from the score, the tile's later keys and the keys after the tile. -/
theorem W_eq (c : Fin 128) :
    (if b + c.val < r then Real.exp (lb (D.z h r (b + c.val)) - ((∑ a : Fin 128, if c.val < a.val then D.A h r (b + a.val) else 0)
      + D.C h r (b + 128))) else 0) = D.W h r (b + c.val) := by
  unfold W C; rw [from_later _ b hb c]

/-- The gradient of a score from the tile's keys from it on and the keys after the tile. -/
theorem dz_eq (c : Fin 128) :
    (if b + c.val < r then D.G h r (b + c.val) * (1 - Real.exp (lb (D.z h r (b + c.val))))
      - (D.S h r 0 - ((∑ a : Fin 128, if c.val ≤ a.val then D.G h r (b + a.val) else 0) + D.S h r (b + 128)))
        * Real.exp (lb (D.z h r (b + c.val))) else 0) = D.dz h r (b + c.val) := by
  unfold dz S; rw [from_here _ b hb c]

end Data

/-! ### The two triangles of ones -/

/-- Row `k`, column `j`: a first column counts the rows after it, a second half's column counts all. -/
def later (k j : Fin 256) : ℝ := if j.val < k.val % 128 ∨ 128 ≤ j.val then 1 else 0
/-- The same, the column's own row counted too. -/
def onward (k j : Fin 256) : ℝ := if j.val ≤ k.val % 128 ∨ 128 ≤ j.val then 1 else 0

/-- The number and what rounding left of it, each times a triangle, summed. -/
theorem sum_later (f : Fin 128 → ℝ) (j : Fin 256) :
    ∑ k, cat f (fun a => f a - f a) k * later k j
      = cat (fun c => ∑ a, if c.val < a.val then f a else 0) (fun _ => ∑ a, f a) j := by
  rw [sum_halves]
  simp only [cat_lo, cat_hi, sub_self, zero_mul, Finset.sum_const_zero, add_zero]
  unfold cat later lo
  split
  · refine Finset.sum_congr rfl fun a _ => ?_
    rw [Nat.mod_eq_of_lt a.isLt]
    by_cases hh : j.val < a.val
    · rw [if_pos (.inl hh), if_pos hh, mul_one]
    · rw [if_neg (by omega), if_neg hh, mul_zero]
  · exact Finset.sum_congr rfl fun a _ => by rw [if_pos (by omega), mul_one]

theorem sum_onward (f : Fin 128 → ℝ) (j : Fin 256) :
    ∑ k, cat f (fun a => f a - f a) k * onward k j
      = cat (fun c => ∑ a, if c.val ≤ a.val then f a else 0) (fun _ => ∑ a, f a) j := by
  rw [sum_halves]
  simp only [cat_lo, cat_hi, sub_self, zero_mul, Finset.sum_const_zero, add_zero]
  unfold cat onward lo
  split
  · refine Finset.sum_congr rfl fun a _ => ?_
    rw [Nat.mod_eq_of_lt a.isLt]
    by_cases hh : j.val ≤ a.val
    · rw [if_pos (.inl hh), if_pos hh, mul_one]
    · rw [if_neg (by omega), if_neg hh, mul_zero]
  · exact Finset.sum_congr rfl fun a _ => by rw [if_pos (by omega), mul_one]

end Cert.StickBKernelIdeal.Hand
-- ==== Proof.StickBStep.lean ====
/-
  An earlier key block of the stick-breaking kernel over real data: what each value of the body is, in terms of the
  weights, gradients and sums of `StickBMath`.
-/
module

public import proofs.«01_k».proof.Proof.StickBMath

@[expose] public section

set_option maxRecDepth 16384

noncomputable section

namespace Cert.StickBKernelIdeal.Hand

open Cert.StickBKernelIdeal Cert.StickBKernelIdeal.Gen Cert.Hand
open Idealize.ShloMosaic Idealize.ShloMosaic.TcCoe

/-! ### Sums over a tile by a product with a triangle -/

protected theorem Is.late {x : FVec Ideal S256x128 .f32} {t : FVec Ideal S256x256 .bf16} {f : Fin 256 → Fin 128 → ℝ} (hx : Is x f) (ht : Is t later) :
    Is (n := 256) (m := 256) (matmul dot_S256x256_S256x256_S256x256_1_0_0_1_n_n none
      (concatenate S256x256 1 [⟨S256x128, truncf .bf16 x bitsLt_bf16_f32⟩,
        ⟨S256x128, truncf .bf16 (subf x (extf .f32 (truncf .bf16 x bitsLt_bf16_f32) bitsLt_bf16_f32)) bitsLt_bf16_f32⟩]
        concatenates_S256x128_S256x128_S256x256_d1) t (constant S256x256 .f32 0x00000000#32))
      fun r j => cat (fun c => ∑ a, if c.val < a.val then f r a else 0) (fun _ => ∑ a, f r a) j :=
  ((Is.cols (show Is (truncf .bf16 x bitsLt_bf16_f32) f from hx)
    (show Is (truncf .bf16 (subf x (extf .f32 (truncf .bf16 x bitsLt_bf16_f32) bitsLt_bf16_f32)) bitsLt_bf16_f32) _ from hx.subf hx)).tri ht).of_eq
    fun r j => sum_later (f r) j

protected theorem Is.onward {x : FVec Ideal S256x128 .f32} {t : FVec Ideal S256x256 .bf16} {f : Fin 256 → Fin 128 → ℝ} (hx : Is x f) (ht : Is t onward) :
    Is (n := 256) (m := 256) (matmul dot_S256x256_S256x256_S256x256_1_0_0_1_n_n none
      (concatenate S256x256 1 [⟨S256x128, truncf .bf16 x bitsLt_bf16_f32⟩,
        ⟨S256x128, truncf .bf16 (subf x (extf .f32 (truncf .bf16 x bitsLt_bf16_f32) bitsLt_bf16_f32)) bitsLt_bf16_f32⟩]
        concatenates_S256x128_S256x128_S256x256_d1) t (constant S256x256 .f32 0x00000000#32))
      fun r j => cat (fun c => ∑ a, if c.val ≤ a.val then f r a else 0) (fun _ => ∑ a, f r a) j :=
  ((Is.cols (show Is (truncf .bf16 x bitsLt_bf16_f32) f from hx)
    (show Is (truncf .bf16 (subf x (extf .f32 (truncf .bf16 x bitsLt_bf16_f32) bitsLt_bf16_f32)) bitsLt_bf16_f32) _ from hx.subf hx)).tri ht).of_eq
    fun r j => sum_onward (f r) j

/-- The lane choice of a row of the two-head product. -/
def head (l : Fin 128) : ℕ := l.val / 64

/-- What the constants of query block `i` hold. -/
structure EnvIs (D : Data) (i : ℕ) (e : Env Ideal) : Prop where
  v40 : Is e.v40 fun _ l => lane 0 l
  v43 : Is e.v43 fun _ l => lane 1 l
  v5 : ∀ (r : Fin 256) (j : Fin 128), e.v5 (ix2 r j) = BitVec.ofNat 32 j.val - BitVec.ofNat 32 r.val
  v28 : Is e.v28 fun r l => D.q (256 * i + r.val) l
  v29 : Is e.v29 fun r l => D.d (256 * i + r.val) l
  v17 : Is e.v17 later
  v23 : Is e.v23 onward
  v53 : Is e.v53 fun r _ => D.S 0 (256 * i + r.val) 0
  v59 : Is e.v59 fun r _ => D.S 1 (256 * i + r.val) 0
  v60 : Flag e.v60 fun _ l => l.val < 64

/-- What the tiles of key block `k` hold. -/
structure TilesIs (D : Data) (k : ℕ) (T : Tiles Ideal) : Prop where
  k1 : Is T.k1 fun a l => D.k (256 * k + 128 + a.val) l
  k0 : Is T.k0 fun a l => D.k (256 * k + a.val) l
  v1 : Is T.v1 fun a l => D.v (256 * k + 128 + a.val) l
  v0 : Is T.v0 fun a l => D.v (256 * k + a.val) l

/-- What query block `i` has carried together from the keys `b` on. -/
structure CarryIs (D : Data) (i b : ℕ) (s : Carry Ideal) : Prop where
  c0 : Is s.c0 fun r _ => D.C 0 (256 * i + r.val) b
  c1 : Is s.c1 fun r _ => D.C 1 (256 * i + r.val) b
  g0 : Is s.g0 fun r _ => D.S 0 (256 * i + r.val) b
  g1 : Is s.g1 fun r _ => D.S 1 (256 * i + r.val) b
  dq : Is s.dq fun r l => ∑ j ∈ Finset.Ico b 4096, (D.dz 0 (256 * i + r.val) j * (D.k j l * lane 0 l) + D.dz 1 (256 * i + r.val) j * (D.k j l * lane 1 l))

/-- The two heads of a tile, one under the other. -/
protected theorem Is.heads {x a b : FVec Ideal S128x128 .bf16} {f : Fin 128 → Fin 128 → ℝ} (hx : Is x f) (ha : Is a fun _ l => lane 0 l) (hb : Is b fun _ l => lane 1 l) :
    Is (n := 256) (m := 128) (concatenate S256x128 0 [⟨S128x128, mulf x a⟩, ⟨S128x128, mulf x b⟩] concatenates_S128x128_S128x128_S256x128_d0)
      fun c l => cat (fun j => f j l * lane 0 l) (fun j => f j l * lane 1 l) c := Is.rows (hx.mulf ha) (hx.mulf hb)

theorem cat_sum {f : Fin 128 → ℝ} {g : Fin 128 → Fin 128 → ℝ} (c : Fin 256) :
    ∑ l, f l * cat (fun j => g j l * lane 0 l) (fun j => g j l * lane 1 l) c
      = cat (fun j => ∑ l, f l * (g j l * lane 0 l)) (fun j => ∑ l, f l * (g j l * lane 1 l)) c := by
  unfold cat; split <;> rfl

/-- A product's rows of the two heads, each with its own keys. -/
theorem sum_cat (f g : Fin 128 → ℝ) (x : Fin 256 → ℝ) (p q : Fin 128 → ℝ) (hx : x = cat p q) :
    ∑ c, cat f g c * x c = ∑ a, (f a * p a + g a * q a) := by
  subst hx; rw [sum_halves]; simp only [cat_lo, cat_hi, Finset.sum_add_distrib]

theorem head_lt {l : Fin 128} (h : l.val < 64) : head l = 0 := by unfold head; omega
theorem head_ge {l : Fin 128} (h : ¬l.val < 64) : head l = 1 := by unfold head; omega

protected theorem Is.same {x : FVec Ideal S128x128 .f32} {f : Fin 128 → Fin 128 → ℝ} (hx : Is x f) :
    Is (shapeCast S128x128 x shapeCasts_S128x128_S128x128) f := fun r j => by pointwise; exact hx r j

/-- A tile of a key or value gradient, each lane from its head's half of the product. -/
protected theorem Is.pick {P : FVec Ideal S256x128 .f32} {c : IVec S128x128 1} {old : FVec Ideal S128x128 .f32} {p : Fin 128 → Fin 128 → ℝ}
    {f : ℕ → Fin 128 → Fin 128 → ℝ} (hP : Is P fun c l => cat (fun a => f 0 a l) (fun a => f 1 a l) c) (hc : Flag c fun _ l => l.val < 64) (ho : Is old p) :
    Is (addf (shapeCast S128x128 old shapeCasts_S128x128_S128x128) (select c (extractStridedSlice S128x128 ![0, 0] P slices_S256x128_o0_0_S128x128)
      (extractStridedSlice S128x128 ![128, 0] P slices_S256x128_o128_0_S128x128))) fun a l => p a l + f (head l) a l :=
  (ho.same.addf (Is.select (φ := .f32) hc hP.top hP.bot)).of_eq fun a l => by
    rw [cat_lo, cat_hi]
    by_cases hl : l.val < 64
    · rw [if_pos hl, head_lt hl]
    · rw [if_neg hl, head_ge hl]

theorem sum_cat_left {n : ℕ} (f g : Fin n → Fin 128 → ℝ) (x : Fin n → ℝ) (c : Fin 256) :
    ∑ r, cat (f r) (g r) c * x r = cat (fun a => ∑ r, f r a * x r) (fun a => ∑ r, g r a * x r) c := by
  unfold cat; split <;> rfl

protected theorem Is.grad {x : FVec Ideal S256x256 .bf16} {y : FVec Ideal S256x128 .bf16} {c : IVec S128x128 1} {old : FVec Ideal S128x128 .f32}
    {p : Fin 128 → Fin 128 → ℝ} {f : ℕ → Fin 256 → Fin 128 → ℝ} {g : Fin 256 → Fin 128 → ℝ}
    (hx : Is x fun r c => cat (f 0 r) (f 1 r) c) (hy : Is y g) (hc : Flag c fun _ l => l.val < 64) (ho : Is old p) :
    Is (addf (shapeCast S128x128 old shapeCasts_S128x128_S128x128)
      (select c (extractStridedSlice S128x128 ![0, 0] (matmul dot_S256x256_S256x128_S256x128_0_0_1_1_n_n none x y (constant S256x128 .f32 0x00000000#32)) slices_S256x128_o0_0_S128x128)
      (extractStridedSlice S128x128 ![128, 0] (matmul dot_S256x256_S256x128_S256x128_0_0_1_1_n_n none x y (constant S256x128 .f32 0x00000000#32)) slices_S256x128_o128_0_S128x128)))
      fun a l => p a l + ∑ r, f (head l) r a * g r l :=
  Is.pick (f := fun h a l => ∑ r, f h r a * g r l) ((hx.tn hy).of_eq fun c l => sum_cat_left _ _ _ c) hc ho

protected theorem Is.grad' {x : FVec Ideal S128x256 .bf16} {y : FVec Ideal S128x128 .bf16} {c : IVec S128x128 1} {old : FVec Ideal S128x128 .f32}
    {p : Fin 128 → Fin 128 → ℝ} {f : ℕ → Fin 128 → Fin 128 → ℝ} {g : Fin 128 → Fin 128 → ℝ}
    (hx : Is x fun r c => cat (f 0 r) (f 1 r) c) (hy : Is y g) (hc : Flag c fun _ l => l.val < 64) (ho : Is old p) :
    Is (addf (shapeCast S128x128 old shapeCasts_S128x128_S128x128)
      (select c (extractStridedSlice S128x128 ![0, 0] (matmul dot_S128x256_S128x128_S256x128_0_0_1_1_n_n none x y (constant S256x128 .f32 0x00000000#32)) slices_S256x128_o0_0_S128x128)
      (extractStridedSlice S128x128 ![128, 0] (matmul dot_S128x256_S128x128_S256x128_0_0_1_1_n_n none x y (constant S256x128 .f32 0x00000000#32)) slices_S256x128_o128_0_S128x128)))
      fun a l => p a l + ∑ r, f (head l) r a * g r l :=
  Is.pick (f := fun h a l => ∑ r, f h r a * g r l) ((hx.tn' hy).of_eq fun c l => sum_cat_left _ _ _ c) hc ho

namespace Step

variable {D : Data} {i k : ℕ} {e : Env Ideal} {T : Tiles Ideal} {s : Carry Ideal} (he : EnvIs D i e) (hT : TilesIs D k T)
  (hs : CarryIs D i (256 * k + 256) s) (hk : k < i) (hi : i < 16)

include he hT in
theorem v405_is : Is (v405 e T s) fun c l => cat (fun a => D.k (256 * k + 128 + a.val) l * lane 0 l) (fun a => D.k (256 * k + 128 + a.val) l * lane 1 l) c := by
  unfold v405
  unfold k0_pay93; exact hT.k1.heads he.v40 he.v43

include he hT in
theorem v410_is : Is (v410 e T s) fun c l => cat (fun a => D.k (256 * k + a.val) l * lane 0 l) (fun a => D.k (256 * k + a.val) l * lane 1 l) c := by
  unfold v410
  unfold k0_pay94; exact hT.k0.heads he.v40 he.v43

include he hT in
theorem v425_is : Is (v425 e T s) fun r c => cat (fun a => D.z 0 (256 * i + r.val) (256 * k + 128 + a.val)) (fun a => D.z 1 (256 * i + r.val) (256 * k + 128 + a.val)) c := by
  unfold v425
  unfold k0_pay95 k0_pay93; exact (he.v28.nt (hT.k1.heads he.v40 he.v43)).of_eq fun r c => cat_sum c

include he hT in
theorem v426_is : Is (v426 e T s) fun r c => cat (fun a => D.z 0 (256 * i + r.val) (256 * k + a.val)) (fun a => D.z 1 (256 * i + r.val) (256 * k + a.val)) c := by
  unfold v426
  unfold k0_pay96 k0_pay94; exact (he.v28.nt (hT.k0.heads he.v40 he.v43)).of_eq fun r c => cat_sum c

include he hT in
theorem v427_is : Is (v427 e T s) fun r c => cat (fun a => D.dw 0 (256 * i + r.val) (256 * k + 128 + a.val)) (fun a => D.dw 1 (256 * i + r.val) (256 * k + 128 + a.val)) c := by
  unfold v427
  unfold k0_pay97; exact (he.v29.nt (hT.v1.heads he.v40 he.v43)).of_eq fun r c => cat_sum c

include he hT in
theorem v428_is : Is (v428 e T s) fun r c => cat (fun a => D.dw 0 (256 * i + r.val) (256 * k + a.val)) (fun a => D.dw 1 (256 * i + r.val) (256 * k + a.val)) c := by
  unfold v428
  unfold k0_pay98; exact (he.v29.nt (hT.v0.heads he.v40 he.v43)).of_eq fun r c => cat_sum c

include he hT in
theorem v429_is : Is (v429 e T s) fun r a => D.z 0 (256 * i + r.val) (256 * k + 128 + a.val) := by
  unfold v429
  unfold k0_pay99; exact (v425_is (s := s) he hT).left.of_eq fun r a => cat_lo _ _ _

include hk in
theorem A_eq (h : ℕ) (r : Fin 256) {j : ℕ} (hj : j < 256 * k + 256) : sp (D.z h (256 * i + r.val) j) = D.A h (256 * i + r.val) j :=
  (if_pos (by omega)).symm

include he hT in
theorem sp1 : Is (k0_pay101 (v429 e T s) (v431 e T s)) fun r a => sp (D.z 0 (256 * i + r.val) (256 * k + 128 + a.val)) :=
  (v429_is (s := s) he hT).softplus

include he hT in
theorem v440_is : Is (v440 e T s) fun r a => lb (D.z 0 (256 * i + r.val) (256 * k + 128 + a.val)) := by
  unfold v440
  unfold k0_pay102; exact (v429_is (s := s) he hT).subf (sp1 he hT)

include he hT in
theorem v451_is : Is (v451 e T s) fun r a => sp (D.z 1 (256 * i + r.val) (256 * k + 128 + a.val)) := by
  unfold v451
  unfold k0_pay104 k0_pay103; exact ((v425_is (s := s) he hT).right.of_eq fun r a => cat_hi _ _ _).softplus

include he hT in
theorem v452_is : Is (v452 e T s) fun r a => lb (D.z 1 (256 * i + r.val) (256 * k + 128 + a.val)) := by
  unfold v452
  unfold k0_pay105 k0_pay103; exact ((v425_is (s := s) he hT).right.of_eq fun r a => cat_hi _ _ _).subf (v451_is (s := s) he hT)

include he hT in
theorem v463_is : Is (v463 e T s) fun r a => sp (D.z 0 (256 * i + r.val) (256 * k + a.val)) := by
  unfold v463
  unfold k0_pay107 k0_pay106; exact ((v426_is (s := s) he hT).left.of_eq fun r a => cat_lo _ _ _).softplus

include he hT in
theorem v464_is : Is (v464 e T s) fun r a => lb (D.z 0 (256 * i + r.val) (256 * k + a.val)) := by
  unfold v464
  unfold k0_pay108 k0_pay106; exact ((v426_is (s := s) he hT).left.of_eq fun r a => cat_lo _ _ _).subf (v463_is (s := s) he hT)

include he hT in
theorem v475_is : Is (v475 e T s) fun r a => sp (D.z 1 (256 * i + r.val) (256 * k + a.val)) := by
  unfold v475
  unfold k0_pay110 k0_pay109; exact ((v426_is (s := s) he hT).right.of_eq fun r a => cat_hi _ _ _).softplus

include he hT in
theorem v476_is : Is (v476 e T s) fun r a => lb (D.z 1 (256 * i + r.val) (256 * k + a.val)) := by
  unfold v476
  unfold k0_pay111 k0_pay109; exact ((v426_is (s := s) he hT).right.of_eq fun r a => cat_hi _ _ _).subf (v475_is (s := s) he hT)

include he hT hk in
theorem s10 : Is (k0_pay114 e.v17 (v477 e T s) (v480 e T s)) fun r j => cat (fun c => ∑ a : Fin 128, if c.val < a.val then D.A 0 (256 * i + r.val) (256 * k + 128 + a.val) else 0)
    (fun _ => ∑ a : Fin 128, D.A 0 (256 * i + r.val) (256 * k + 128 + a.val)) j := by
  unfold k0_pay114
  exact Is.late ((sp1 (s := s) he hT).of_eq fun r a => A_eq hk 0 r (by omega)) he.v17

include he hT hk in
theorem s11 : Is (k0_pay115 e.v17 (v451 e T s)) fun r j => cat (fun c => ∑ a : Fin 128, if c.val < a.val then D.A 1 (256 * i + r.val) (256 * k + 128 + a.val) else 0)
    (fun _ => ∑ a : Fin 128, D.A 1 (256 * i + r.val) (256 * k + 128 + a.val)) j := by
  unfold k0_pay115
  exact Is.late ((v451_is (s := s) he hT).of_eq fun r a => A_eq hk 1 r (by omega)) he.v17

include he hT hk in
theorem s00 : Is (k0_pay116 e.v17 (v463 e T s)) fun r j => cat (fun c => ∑ a : Fin 128, if c.val < a.val then D.A 0 (256 * i + r.val) (256 * k + a.val) else 0)
    (fun _ => ∑ a : Fin 128, D.A 0 (256 * i + r.val) (256 * k + a.val)) j := by
  unfold k0_pay116
  exact Is.late ((v463_is (s := s) he hT).of_eq fun r a => A_eq hk 0 r (by omega)) he.v17

include he hT hk in
theorem s01 : Is (k0_pay117 e.v17 (v475 e T s)) fun r j => cat (fun c => ∑ a : Fin 128, if c.val < a.val then D.A 1 (256 * i + r.val) (256 * k + a.val) else 0)
    (fun _ => ∑ a : Fin 128, D.A 1 (256 * i + r.val) (256 * k + a.val)) j := by
  unfold k0_pay117
  exact Is.late ((v475_is (s := s) he hT).of_eq fun r a => A_eq hk 1 r (by omega)) he.v17

include he hT hs hk hi in
theorem c10 : Is (k0_pay119 e.v17 s.c0 (v477 e T s) (v480 e T s)) fun r _ => D.C 0 (256 * i + r.val) (256 * k + 128) := by
  unfold k0_pay119
  exact (hs.c0.addf (s10 (s := s) he hT hk).right).of_eq fun r a => by rw [cat_hi]; exact D.C_tile 0 _ (256 * k + 128) (by omega)

include he hT hs hk hi in
theorem v517_is : Is (v517 e T s) fun r _ => D.C 1 (256 * i + r.val) (256 * k + 128) := by
  unfold v517
  unfold k0_pay122; exact (hs.c1.addf (s11 (s := s) he hT hk).right).of_eq fun r a => by rw [cat_hi]; exact D.C_tile 1 _ (256 * k + 128) (by omega)

include he hT hs hk hi in
theorem v527_is : Is (v527 e T s) fun r _ => D.C 0 (256 * i + r.val) (256 * k) := by
  unfold v527
  unfold k0_pay125; exact ((c10 he hT hs hk hi).addf (s00 (s := s) he hT hk).right).of_eq fun r a => by rw [cat_hi]; exact D.C_tile 0 _ (256 * k) (by omega)

include he hT hs hk hi in
theorem v537_is : Is (v537 e T s) fun r _ => D.C 1 (256 * i + r.val) (256 * k) := by
  unfold v537
  unfold k0_pay129 v536 k0_pay128; exact ((v517_is he hT hs hk hi).addf (s01 (s := s) he hT hk).right).of_eq fun r a => by rw [cat_hi]; exact D.C_tile 1 _ (256 * k) (by omega)

include he hT hs hk hi in
theorem v505_is : Is (v505 e T s) fun r a => D.W 0 (256 * i + r.val) (256 * k + 128 + a.val) := by
  unfold v505
  unfold k0_pay118
  exact (((v440_is (s := s) he hT).subf (((s10 (s := s) he hT hk).left).addf hs.c0)).exp).of_eq fun r a => by
    rw [cat_lo, ← D.W_eq 0 (256 * i + r.val) (256 * k + 128) (by omega) a]
    exact (if_pos (by omega)).symm

include he hT hs hk hi in
theorem v515_is : Is (v515 e T s) fun r a => D.W 1 (256 * i + r.val) (256 * k + 128 + a.val) := by
  unfold v515
  unfold k0_pay121
  exact (((v452_is (s := s) he hT).subf (((s11 (s := s) he hT hk).left).addf hs.c1)).exp).of_eq fun r a => by
    rw [cat_lo, ← D.W_eq 1 (256 * i + r.val) (256 * k + 128) (by omega) a]
    exact (if_pos (by omega)).symm

include he hT hs hk hi in
theorem v525_is : Is (v525 e T s) fun r a => D.W 0 (256 * i + r.val) (256 * k + a.val) := by
  unfold v525
  unfold k0_pay124
  exact (((v464_is (s := s) he hT).subf (((s00 (s := s) he hT hk).left).addf (c10 he hT hs hk hi))).exp).of_eq fun r a => by
    rw [cat_lo, ← D.W_eq 0 (256 * i + r.val) (256 * k) (by omega) a]
    exact (if_pos (by omega)).symm

include he hT hs hk hi in
theorem v535_is : Is (v535 e T s) fun r a => D.W 1 (256 * i + r.val) (256 * k + a.val) := by
  unfold v535
  unfold k0_pay127
  exact (((v476_is (s := s) he hT).subf (((s01 (s := s) he hT hk).left).addf (v517_is he hT hs hk hi))).exp).of_eq fun r a => by
    rw [cat_lo, ← D.W_eq 1 (256 * i + r.val) (256 * k) (by omega) a]
    exact (if_pos (by omega)).symm

include he hT hs hk hi in
theorem v510_is : Is (v510 e T s) fun r a => D.G 0 (256 * i + r.val) (256 * k + 128 + a.val) := by
  unfold v510
  unfold k0_pay120
  exact (Is.mulf (show Is (extf .f32 (v505 e T s) bitsLt_bf16_f32) _ from v505_is he hT hs hk hi) (v427_is (s := s) he hT).left).of_eq fun r a => by
    rw [cat_lo]; rfl

include he hT hs hk hi in
theorem v520_is : Is (v520 e T s) fun r a => D.G 1 (256 * i + r.val) (256 * k + 128 + a.val) := by
  unfold v520
  unfold k0_pay123
  exact (Is.mulf (show Is (extf .f32 (v515 e T s) bitsLt_bf16_f32) _ from v515_is he hT hs hk hi) (v427_is (s := s) he hT).right).of_eq fun r a => by
    rw [cat_hi]; rfl

include he hT hs hk hi in
theorem v530_is : Is (v530 e T s) fun r a => D.G 0 (256 * i + r.val) (256 * k + a.val) := by
  unfold v530
  unfold k0_pay126
  exact (Is.mulf (show Is (extf .f32 (v525 e T s) bitsLt_bf16_f32) _ from v525_is he hT hs hk hi) (v428_is (s := s) he hT).left).of_eq fun r a => by
    rw [cat_lo]; rfl

include he hT hs hk hi in
theorem v540_is : Is (v540 e T s) fun r a => D.G 1 (256 * i + r.val) (256 * k + a.val) := by
  unfold v540
  unfold k0_pay130
  exact (Is.mulf (show Is (extf .f32 (v535 e T s) bitsLt_bf16_f32) _ from v535_is he hT hs hk hi) (v428_is (s := s) he hT).right).of_eq fun r a => by
    rw [cat_hi]; rfl

include he hT hs hk hi in
theorem g10 : Is (k0_pay131 e.v23 (v510 e T s)) fun r j => cat (fun c => ∑ a : Fin 128, if c.val ≤ a.val then D.G 0 (256 * i + r.val) (256 * k + 128 + a.val) else 0)
    (fun _ => ∑ a : Fin 128, D.G 0 (256 * i + r.val) (256 * k + 128 + a.val)) j := by
  unfold k0_pay131
  exact Is.onward (v510_is he hT hs hk hi) he.v23

include he hT hs hk hi in
theorem g11 : Is (k0_pay132 e.v23 (v520 e T s)) fun r j => cat (fun c => ∑ a : Fin 128, if c.val ≤ a.val then D.G 1 (256 * i + r.val) (256 * k + 128 + a.val) else 0)
    (fun _ => ∑ a : Fin 128, D.G 1 (256 * i + r.val) (256 * k + 128 + a.val)) j := by
  unfold k0_pay132
  exact Is.onward (v520_is he hT hs hk hi) he.v23

include he hT hs hk hi in
theorem g00 : Is (v558 e T s) fun r j => cat (fun c => ∑ a : Fin 128, if c.val ≤ a.val then D.G 0 (256 * i + r.val) (256 * k + a.val) else 0)
    (fun _ => ∑ a : Fin 128, D.G 0 (256 * i + r.val) (256 * k + a.val)) j := by
  unfold v558 k0_pay133
  exact Is.onward (v530_is he hT hs hk hi) he.v23

include he hT hs hk hi in
theorem g01 : Is (v564 e T s) fun r j => cat (fun c => ∑ a : Fin 128, if c.val ≤ a.val then D.G 1 (256 * i + r.val) (256 * k + a.val) else 0)
    (fun _ => ∑ a : Fin 128, D.G 1 (256 * i + r.val) (256 * k + a.val)) j := by
  unfold v564 k0_pay134
  exact Is.onward (v540_is he hT hs hk hi) he.v23

include he hT hs hk hi in
theorem v576_is : Is (v576 e T s) fun r _ => D.S 0 (256 * i + r.val) (256 * k + 128) := by
  unfold v576
  unfold k0_pay136; exact (hs.g0.addf (g10 he hT hs hk hi).right).of_eq fun r a => by rw [cat_hi]; exact D.S_tile 0 _ (256 * k + 128) (by omega)

include he hT hs hk hi in
theorem v588_is : Is (v588 e T s) fun r _ => D.S 1 (256 * i + r.val) (256 * k + 128) := by
  unfold v588
  unfold k0_pay138; exact (hs.g1.addf (g11 he hT hs hk hi).right).of_eq fun r a => by rw [cat_hi]; exact D.S_tile 1 _ (256 * k + 128) (by omega)

include he hT hs hk hi in
theorem v600_is : Is (v600 e T s) fun r _ => D.S 0 (256 * i + r.val) (256 * k) := by
  unfold v600
  unfold k0_pay141; exact ((v576_is he hT hs hk hi).addf (g00 he hT hs hk hi).right).of_eq fun r a => by rw [cat_hi]; exact D.S_tile 0 _ (256 * k) (by omega)

include he hT hs hk hi in
theorem v612_is : Is (v612 e T s) fun r _ => D.S 1 (256 * i + r.val) (256 * k) := by
  unfold v612
  unfold k0_pay142; exact ((v588_is he hT hs hk hi).addf (g01 he hT hs hk hi).right).of_eq fun r a => by rw [cat_hi]; exact D.S_tile 1 _ (256 * k) (by omega)

include he hT hs hk hi in
theorem v574_is : Is (v574 e T s) fun r a => D.dz 0 (256 * i + r.val) (256 * k + 128 + a.val) := by
  unfold v574
  unfold k0_pay135
  exact ((((v510_is he hT hs hk hi).mulf (Is.one.subf (v440_is (s := s) he hT).exp)).subf
    ((he.v53.subf ((g10 he hT hs hk hi).left.addf hs.g0)).mulf (v440_is (s := s) he hT).exp)).of_eq fun r a => by
    rw [cat_lo, ← D.dz_eq 0 (256 * i + r.val) (256 * k + 128) (by omega) a]
    exact (if_pos (by omega)).symm)

include he hT hs hk hi in
theorem v586_is : Is (v586 e T s) fun r a => D.dz 1 (256 * i + r.val) (256 * k + 128 + a.val) := by
  unfold v586
  unfold k0_pay137
  exact ((((v520_is he hT hs hk hi).mulf (Is.one.subf (v452_is (s := s) he hT).exp)).subf
    ((he.v59.subf ((g11 he hT hs hk hi).left.addf hs.g1)).mulf (v452_is (s := s) he hT).exp)).of_eq fun r a => by
    rw [cat_lo, ← D.dz_eq 1 (256 * i + r.val) (256 * k + 128) (by omega) a]
    exact (if_pos (by omega)).symm)

include he hT hs hk hi in
theorem v613_is : Is (k0_pay143 (v574 e T s) (v586 e T s)) fun r c => cat (fun a => D.dz 0 (256 * i + r.val) (256 * k + 128 + a.val)) (fun a => D.dz 1 (256 * i + r.val) (256 * k + 128 + a.val)) c := by
  unfold k0_pay143; exact (v574_is he hT hs hk hi).cols (v586_is he hT hs hk hi)

include he hT hs hk hi in
theorem v637_is : Is (v637 e T s) fun r c => cat (fun a => D.dz 0 (256 * i + r.val) (256 * k + a.val)) (fun a => D.dz 1 (256 * i + r.val) (256 * k + a.val)) c := by
  unfold v637 k0_pay147 v589 k0_pay139 v590 k0_pay140
  exact Is.cols
    ((((v530_is he hT hs hk hi).mulf (Is.one.subf (v464_is (s := s) he hT).exp)).subf
    ((he.v53.subf ((g00 he hT hs hk hi).left.addf (v576_is he hT hs hk hi))).mulf (v464_is (s := s) he hT).exp)).of_eq fun r a => by
    rw [cat_lo, ← D.dz_eq 0 (256 * i + r.val) (256 * k) (by omega) a]
    exact (if_pos (by omega)).symm)
    ((((v540_is he hT hs hk hi).mulf (Is.one.subf (v476_is (s := s) he hT).exp)).subf
    ((he.v59.subf ((g01 he hT hs hk hi).left.addf (v588_is he hT hs hk hi))).mulf (v476_is (s := s) he hT).exp)).of_eq fun r a => by
    rw [cat_lo, ← D.dz_eq 1 (256 * i + r.val) (256 * k) (by omega) a]
    exact (if_pos (by omega)).symm)

include he hT hs hk hi in
theorem v616_is : Is (v616 e T s) fun r l => ∑ j ∈ Finset.Ico (256 * k + 128) 4096, (D.dz 0 (256 * i + r.val) j * (D.k j l * lane 0 l) + D.dz 1 (256 * i + r.val) j * (D.k j l * lane 1 l)) := by
  unfold v616 k0_pay144
  exact (hs.dq.addf ((v613_is he hT hs hk hi).nn (v405_is (s := s) he hT))).of_eq fun r l => by
    rw [sum_cat _ _ _ _ _ rfl]
    exact from_tile (fun j => D.dz 0 (256 * i + r.val) j * (D.k j l * lane 0 l) + D.dz 1 (256 * i + r.val) j * (D.k j l * lane 1 l)) (256 * k + 128) (by omega)

include he hT hs hk hi in
/-- What an earlier key block carries on. -/
theorem out_carry : CarryIs D i (256 * k) (out e T s).carry where
  c0 := v527_is he hT hs hk hi
  c1 := v537_is he hT hs hk hi
  g0 := v600_is he hT hs hk hi
  g1 := v612_is he hT hs hk hi
  dq := by
    show Is (k0_pay3 (v410 e T s) (v616 e T s) (v637 e T s) (constant S256x128 .f32 0x00000000#32)) _
    unfold k0_pay3
    exact ((v616_is he hT hs hk hi).addf ((v637_is he hT hs hk hi).nn (v410_is (s := s) he hT))).of_eq fun r l => by
      rw [sum_cat _ _ _ _ _ rfl]
      exact from_tile (fun j => D.dz 0 (256 * i + r.val) j * (D.k j l * lane 0 l) + D.dz 1 (256 * i + r.val) j * (D.k j l * lane 1 l)) (256 * k) (by omega)

include he hT hs hk hi in
theorem out_dk1 {old : Vec Ideal S128x128 .f32} {p : Fin 128 → Fin 128 → ℝ} (ho : Is old p) :
    Is ((out e T s).dk1 old) fun a l => p a l + ∑ r : Fin 256, D.dz (head l) (256 * i + r.val) (256 * k + 128 + a.val) * D.q (256 * i + r.val) l := by
  unfold out; dsimp only; unfold k0_pay145
  exact Is.grad (f := fun h r a => D.dz h (256 * i + r.val) (256 * k + 128 + a.val)) (v613_is he hT hs hk hi) he.v28 he.v60 ho

include he hT hs hk hi in
theorem out_dv1 {old : Vec Ideal S128x128 .f32} {p : Fin 128 → Fin 128 → ℝ} (ho : Is old p) :
    Is ((out e T s).dv1 old) fun a l => p a l + ∑ r : Fin 256, D.W (head l) (256 * i + r.val) (256 * k + 128 + a.val) * D.d (256 * i + r.val) l := by
  unfold out; dsimp only; unfold k0_pay146
  exact Is.grad (f := fun h r a => D.W h (256 * i + r.val) (256 * k + 128 + a.val)) ((v505_is he hT hs hk hi).cols (v515_is he hT hs hk hi)) he.v29 he.v60 ho

include he hT hs hk hi in
theorem out_dk0 {old : Vec Ideal S128x128 .f32} {p : Fin 128 → Fin 128 → ℝ} (ho : Is old p) :
    Is ((out e T s).dk0 old) fun a l => p a l + ∑ r : Fin 256, D.dz (head l) (256 * i + r.val) (256 * k + a.val) * D.q (256 * i + r.val) l := by
  unfold out; dsimp only; unfold k0_pay4
  exact Is.grad (f := fun h r a => D.dz h (256 * i + r.val) (256 * k + a.val)) (v637_is he hT hs hk hi) he.v28 he.v60 ho

include he hT hs hk hi in
theorem out_dv0 {old : Vec Ideal S128x128 .f32} {p : Fin 128 → Fin 128 → ℝ} (ho : Is old p) :
    Is ((out e T s).dv0 old) fun a l => p a l + ∑ r : Fin 256, D.W (head l) (256 * i + r.val) (256 * k + a.val) * D.d (256 * i + r.val) l := by
  unfold out; dsimp only; unfold k0_pay5 v638 k0_pay148
  exact Is.grad (f := fun h r a => D.W h (256 * i + r.val) (256 * k + a.val)) ((v525_is he hT hs hk hi).cols (v535_is he hT hs hk hi)) he.v29 he.v60 ho

end Step

end Cert.StickBKernelIdeal.Hand
-- ==== Proof.StickBDiag.lean ====
/-
  A query block's own key block of the stick-breaking kernel over real data: the keys from the query's own on are left
  out, and the later tile is only looked at by the later half of the queries.
-/
module

public import proofs.«01_k».proof.Proof.StickBStep

@[expose] public section

set_option maxRecDepth 16384

noncomputable section

namespace Cert.StickBKernelIdeal.Hand

open Cert.StickBKernelIdeal Cert.StickBKernelIdeal.Gen Cert.Hand
open Idealize.ShloMosaic Idealize.ShloMosaic.TcCoe

protected theorem Is.late' {x : FVec Ideal S128x128 .f32} {t : FVec Ideal S256x256 .bf16} {f : Fin 128 → Fin 128 → ℝ} (hx : Is x f) (ht : Is t later) :
    Is (n := 128) (m := 256) (matmul dot_S128x256_S256x256_S128x256_1_0_0_1_n_n none
      (concatenate S128x256 1 [⟨S128x128, truncf .bf16 x bitsLt_bf16_f32⟩,
        ⟨S128x128, truncf .bf16 (subf x (extf .f32 (truncf .bf16 x bitsLt_bf16_f32) bitsLt_bf16_f32)) bitsLt_bf16_f32⟩]
        concatenates_S128x128_S128x128_S128x256_d1) t (constant S128x256 .f32 0x00000000#32))
      fun r j => cat (fun c => ∑ a, if c.val < a.val then f r a else 0) (fun _ => ∑ a, f r a) j :=
  ((Is.cols' (show Is (truncf .bf16 x bitsLt_bf16_f32) f from hx)
    (show Is (truncf .bf16 (subf x (extf .f32 (truncf .bf16 x bitsLt_bf16_f32) bitsLt_bf16_f32)) bitsLt_bf16_f32) _ from hx.subf hx)).tri' ht).of_eq
    fun r j => sum_later (f r) j

protected theorem Is.onward' {x : FVec Ideal S128x128 .f32} {t : FVec Ideal S256x256 .bf16} {f : Fin 128 → Fin 128 → ℝ} (hx : Is x f) (ht : Is t onward) :
    Is (n := 128) (m := 256) (matmul dot_S128x256_S256x256_S128x256_1_0_0_1_n_n none
      (concatenate S128x256 1 [⟨S128x128, truncf .bf16 x bitsLt_bf16_f32⟩,
        ⟨S128x128, truncf .bf16 (subf x (extf .f32 (truncf .bf16 x bitsLt_bf16_f32) bitsLt_bf16_f32)) bitsLt_bf16_f32⟩]
        concatenates_S128x128_S128x128_S128x256_d1) t (constant S128x256 .f32 0x00000000#32))
      fun r j => cat (fun c => ∑ a, if c.val ≤ a.val then f r a else 0) (fun _ => ∑ a, f r a) j :=
  ((Is.cols' (show Is (truncf .bf16 x bitsLt_bf16_f32) f from hx)
    (show Is (truncf .bf16 (subf x (extf .f32 (truncf .bf16 x bitsLt_bf16_f32) bitsLt_bf16_f32)) bitsLt_bf16_f32) _ from hx.subf hx)).tri' ht).of_eq
    fun r j => sum_onward (f r) j

theorem neg_iff : ∀ (r : Fin 256) (j : Fin 128), IntOp.cmpi .slt (BitVec.ofNat 32 j.val - BitVec.ofNat 32 r.val) 0#32 = 1#1 ↔ j.val < r.val := by
  decide +kernel
theorem neg_iff' : ∀ (r : Fin 128) (j : Fin 128), IntOp.cmpi .slt (BitVec.ofNat 32 j.val - BitVec.ofNat 32 (128 + r.val)) 4294967168#32 = 1#1 ↔ j.val < r.val := by
  decide +kernel

/-- Halves of an array, one under the other, of numbers given by the row. -/
theorem cat_rows (f : Fin 256 → ℝ) (g : Fin 128 → ℝ) (h : Fin 128 → ℝ) (hg : ∀ r, g r = f (lo r)) (hh : ∀ r, h r = f (hi r)) (r : Fin 256) :
    cat g h r = f r := by
  unfold cat
  split
  · rw [hg]; exact congrArg f (Fin.ext rfl)
  · rename_i hr; rw [hh]; exact congrArg f (Fin.ext (by show 128 + (r.val - 128) = r.val; omega))

namespace Data
variable (D : Data) (h : ℕ)

theorem A_zero {r j : ℕ} (hr : r ≤ j) : D.A h r j = 0 := if_neg (by omega)
theorem W_zero {r j : ℕ} (hr : r ≤ j) : D.W h r j = 0 := if_neg (by omega)
theorem dz_zero {r j : ℕ} (hr : r ≤ j) : D.dz h r j = 0 := if_neg (by omega)
theorem G_zero {r j : ℕ} (hr : r ≤ j) : D.G h r j = 0 := by unfold G; rw [D.W_zero h hr, zero_mul]
theorem C_zero {r b : ℕ} (hr : r ≤ b) : D.C h r b = 0 :=
  Finset.sum_eq_zero fun j hj => D.A_zero h (hr.trans (Finset.mem_Ico.1 hj).1)
theorem S_zero {r b : ℕ} (hr : r ≤ b) : D.S h r b = 0 :=
  Finset.sum_eq_zero fun j hj => D.G_zero h (hr.trans (Finset.mem_Ico.1 hj).1)

end Data

theorem lane_iff : ∀ l : Fin 128, IntOp.cmpi .slt (BitVec.ofNat 32 l.val) 64#32 = if l.val / 64 = 0 then 1#1 else 0#1 := by
  decide +kernel

/-- The two lane masks. -/
theorem lane0_is : Is (n := 128) (m := 128) (k0_pay20 k0_pay16 (k0_pay17 (F := Ideal)) (k0_pay18 (F := Ideal))) fun _ l => lane 0 l := fun r l => by
  unfold k0_pay20 k0_pay19 k0_pay16 k0_pay17 k0_pay18
  pointwise
  rw [lane_iff l]; unfold lane; split <;> rfl
theorem lane1_is : Is (n := 128) (m := 128) (k0_pay21 k0_pay16 (k0_pay17 (F := Ideal)) (k0_pay18 (F := Ideal))) fun _ l => lane 1 l := fun r l => by
  unfold k0_pay21 k0_pay19 k0_pay16 k0_pay17 k0_pay18
  pointwise
  rw [lane_iff l]; unfold lane
  have := l.isLt
  by_cases h : l.val / 64 = 0
  · rw [if_pos h, if_neg (by omega)]; show (1 : EReal) - 1 = _; rw [← EReal.coe_one, ← EReal.coe_sub, sub_self]
  · rw [if_neg h, if_pos (by omega)]; show (1 : EReal) - 0 = _; rw [sub_zero]; rfl

namespace Diag

theorem hi_le (i : ℕ) (r : Fin 128) : 256 * i + (hi r).val ≤ 256 * i + 128 + 128 := by show 256 * i + (128 + r.val) ≤ _; omega

variable {D : Data} {i : ℕ} {e : Env Ideal} {T : Tiles Ideal} (he : EnvIs D i e) (hT : TilesIs D i T) (hlt : i < 16)

theorem v61_is : Is (v61 e T) fun _ _ => 0 := by unfold v61 k0_pay26; exact Is.zero

include he in
theorem mask0 : Flag (v94 e T) fun r a => 256 * i + a.val < 256 * i + r.val := fun r a => by
  unfold v94 k0_pay30
  pointwise
  rw [he.v5 r a, neg_iff r a]; omega

include he in
theorem mask1 : Flag (v92 e T) fun r a => 256 * i + 128 + a.val < 256 * i + (hi r).val := fun r a => by
  unfold v92 k0_pay29
  pointwise
  rw [he.v5, neg_iff' r a]; show _ ↔ 256 * i + 128 + a.val < 256 * i + (128 + r.val); omega

include hT in
theorem v74_is : Is (v74 e T) fun c l => cat (fun a => D.k (256 * i + 128 + a.val) l * lane 0 l) (fun a => D.k (256 * i + 128 + a.val) l * lane 1 l) c := by
  unfold v74
  unfold k0_pay27; exact hT.k1.heads lane0_is lane1_is

include hT in
theorem v79_is : Is (v79 e T) fun c l => cat (fun a => D.k (256 * i + a.val) l * lane 0 l) (fun a => D.k (256 * i + a.val) l * lane 1 l) c := by
  unfold v79
  unfold k0_pay28; exact hT.k0.heads lane0_is lane1_is

include he hT in
theorem v96_is : Is (k0_pay31 e.v28 (v74 e T)) fun r c => cat (fun a => D.z 0 (256 * i + (hi r).val) (256 * i + 128 + a.val)) (fun a => D.z 1 (256 * i + (hi r).val) (256 * i + 128 + a.val)) c := by
  unfold k0_pay31; exact (he.v28.botb.nt' (v74_is (e := e) hT)).of_eq fun r c => cat_sum c

include he hT in
theorem v97_is : Is (v97 e T) fun r c => cat (fun a => D.z 0 (256 * i + r.val) (256 * i + a.val)) (fun a => D.z 1 (256 * i + r.val) (256 * i + a.val)) c := by
  unfold v97
  unfold k0_pay32; exact (he.v28.nt (v79_is (e := e) hT)).of_eq fun r c => cat_sum c

include he hT in
theorem v99_is : Is (v99 e T) fun r c => cat (fun a => D.dw 0 (256 * i + (hi r).val) (256 * i + 128 + a.val)) (fun a => D.dw 1 (256 * i + (hi r).val) (256 * i + 128 + a.val)) c := by
  unfold v99
  unfold k0_pay33; exact (he.v29.botb.nt' (hT.v1.heads he.v40 he.v43)).of_eq fun r c => cat_sum c

include he hT in
theorem v100_is : Is (v100 e T) fun r c => cat (fun a => D.dw 0 (256 * i + r.val) (256 * i + a.val)) (fun a => D.dw 1 (256 * i + r.val) (256 * i + a.val)) c := by
  unfold v100
  unfold k0_pay34; exact (he.v29.nt (hT.v0.heads he.v40 he.v43)).of_eq fun r c => cat_sum c

include he hT in
theorem z10 : Is (k0_pay35 e.v28 (v74 e T)) fun r a => D.z 0 (256 * i + (hi r).val) (256 * i + 128 + a.val) := by
  unfold k0_pay35; exact (v96_is he hT).left'.of_eq fun r a => cat_lo _ _ _

include he hT in
theorem z11 : Is (k0_pay39 e.v28 (v74 e T)) fun r a => D.z 1 (256 * i + (hi r).val) (256 * i + 128 + a.val) := by
  unfold k0_pay39; exact (v96_is he hT).right'.of_eq fun r a => cat_hi _ _ _

include he hT in
theorem z00 : Is (k0_pay42 (v97 e T)) fun r a => D.z 0 (256 * i + r.val) (256 * i + a.val) := by
  unfold k0_pay42; exact (v97_is he hT).left.of_eq fun r a => cat_lo _ _ _

include he hT in
theorem z01 : Is (k0_pay45 (v97 e T)) fun r a => D.z 1 (256 * i + r.val) (256 * i + a.val) := by
  unfold k0_pay45; exact (v97_is he hT).right.of_eq fun r a => cat_hi _ _ _

include he hT in
theorem p10 : Is (k0_pay36 e.v28 (v74 e T)) fun r a => sp (D.z 0 (256 * i + (hi r).val) (256 * i + 128 + a.val)) := by
  unfold k0_pay36; exact (z10 he hT).softplus

include he hT in
theorem p11 : Is (v125 e T) fun r a => sp (D.z 1 (256 * i + (hi r).val) (256 * i + 128 + a.val)) := by
  unfold v125 k0_pay40; exact (z11 he hT).softplus

include he hT in
theorem p00 : Is (k0_pay43 (v97 e T)) fun r a => sp (D.z 0 (256 * i + r.val) (256 * i + a.val)) := by
  unfold k0_pay43; exact (z00 he hT).softplus

include he hT in
theorem p01 : Is (k0_pay46 (v97 e T)) fun r a => sp (D.z 1 (256 * i + r.val) (256 * i + a.val)) := by
  unfold k0_pay46; exact (z01 he hT).softplus

include he hT in
theorem v112_is : Is (v112 e T) fun r a => lb (D.z 0 (256 * i + (hi r).val) (256 * i + 128 + a.val)) := by
  unfold v112
  unfold k0_pay37; exact (z10 he hT).subf (p10 he hT)

include he hT in
theorem v126_is : Is (v126 e T) fun r a => lb (D.z 1 (256 * i + (hi r).val) (256 * i + 128 + a.val)) := by
  unfold v126
  unfold k0_pay41; exact (z11 he hT).subf (p11 he hT)

include he hT in
theorem v140_is : Is (v140 e T) fun r a => lb (D.z 0 (256 * i + r.val) (256 * i + a.val)) := by
  unfold v140
  unfold k0_pay44; exact (z00 he hT).subf (p00 he hT)

include he hT in
theorem v154_is : Is (v154 e T) fun r a => lb (D.z 1 (256 * i + r.val) (256 * i + a.val)) := by
  unfold v154
  unfold k0_pay47; exact (z01 he hT).subf (p01 he hT)

include he hT in
theorem v114_is : Is (v114 e T) fun r a => D.A 0 (256 * i + (hi r).val) (256 * i + 128 + a.val) := by
  unfold v114
  unfold k0_pay38; exact Is.select (φ := .f32) (mask1 (T := T) he) (p10 he hT) Is.zero

include he hT in
theorem v156_is : Is (v156 e T) fun r a => D.A 1 (256 * i + r.val) (256 * i + a.val) := by
  unfold v156
  unfold k0_pay48; exact Is.select (φ := .f32) (mask0 (T := T) he) (p01 he hT) Is.zero

include he hT in
theorem v162_is : Is (v162 e T) fun r j => cat (fun c => ∑ a : Fin 128, if c.val < a.val then D.A 0 (256 * i + (hi r).val) (256 * i + 128 + a.val) else 0)
    (fun _ => ∑ a : Fin 128, D.A 0 (256 * i + (hi r).val) (256 * i + 128 + a.val)) j := by
  unfold v162
  unfold k0_pay49; exact Is.late' (v114_is he hT) he.v17

include he hT in
theorem v168_is : Is (v168 e T) fun r j => cat (fun c => ∑ a : Fin 128, if c.val < a.val then D.A 1 (256 * i + (hi r).val) (256 * i + 128 + a.val) else 0)
    (fun _ => ∑ a : Fin 128, D.A 1 (256 * i + (hi r).val) (256 * i + 128 + a.val)) j := by
  unfold v168
  unfold k0_pay50; exact Is.late' (Is.select (φ := .f32) (mask1 (T := T) he) (p11 he hT) Is.zero) he.v17

include he hT in
theorem v174_is : Is (v174 e T) fun r j => cat (fun c => ∑ a : Fin 128, if c.val < a.val then D.A 0 (256 * i + r.val) (256 * i + a.val) else 0)
    (fun _ => ∑ a : Fin 128, D.A 0 (256 * i + r.val) (256 * i + a.val)) j := by
  unfold v174
  unfold k0_pay51; exact Is.late (Is.select (φ := .f32) (mask0 (T := T) he) (p00 he hT) Is.zero) he.v17

include he hT in
theorem v180_is : Is (v180 e T) fun r j => cat (fun c => ∑ a : Fin 128, if c.val < a.val then D.A 1 (256 * i + r.val) (256 * i + a.val) else 0)
    (fun _ => ∑ a : Fin 128, D.A 1 (256 * i + r.val) (256 * i + a.val)) j := by
  unfold v180
  unfold k0_pay53; exact Is.late (v156_is he hT) he.v17

include he hT hlt in
theorem c10 : Is (k0_pay55 (v61 e T) (v162 e T)) fun r _ => D.C 0 (256 * i + r.val) (256 * i + 128) := by
  unfold k0_pay55
  exact ((v61_is (e := e) (T := T)).top.rowsf ((v61_is (e := e) (T := T)).bot.addf (v162_is he hT).right')).of_eq fun r a => by
    refine cat_rows (fun r => D.C 0 (256 * i + r.val) (256 * i + 128)) _ _ (fun r => ?_) (fun r => ?_) r
    · exact (D.C_zero 0 (by show 256 * i + r.val ≤ _; omega)).symm
    · rw [cat_hi, ← D.C_tile 0 _ (256 * i + 128) (by omega), D.C_zero 0 (hi_le i r)]

include he hT hlt in
theorem c11 : Is (k0_pay58 (v61 e T) (v168 e T)) fun r _ => D.C 1 (256 * i + r.val) (256 * i + 128) := by
  unfold k0_pay58
  exact ((v61_is (e := e) (T := T)).top.rowsf ((v61_is (e := e) (T := T)).bot.addf (v168_is he hT).right')).of_eq fun r a => by
    refine cat_rows (fun r => D.C 1 (256 * i + r.val) (256 * i + 128)) _ _ (fun r => ?_) (fun r => ?_) r
    · exact (D.C_zero 1 (by show 256 * i + r.val ≤ _; omega)).symm
    · rw [cat_hi, ← D.C_tile 1 _ (256 * i + 128) (by omega), D.C_zero 1 (hi_le i r)]

include he hT hlt in
theorem v221_is : Is (v221 e T) fun r _ => D.C 0 (256 * i + r.val) (256 * i) := by
  unfold v221
  unfold k0_pay61; exact ((c10 he hT hlt).addf (v174_is he hT).right).of_eq fun r a => by rw [cat_hi]; exact D.C_tile 0 _ (256 * i) (by omega)

include he hT hlt in
theorem v233_is : Is (v233 e T) fun r _ => D.C 1 (256 * i + r.val) (256 * i) := by
  unfold v233
  unfold k0_pay65 v209; exact ((c11 he hT hlt).addf (v180_is he hT).right).of_eq fun r a => by rw [cat_hi]; exact D.C_tile 1 _ (256 * i) (by omega)

include he hT hlt in
theorem v188_is : Is (v188 e T) fun r a => D.W 0 (256 * i + (hi r).val) (256 * i + 128 + a.val) := by
  unfold v188
  unfold k0_pay54
  exact (Is.select (φ := .f32) (mask1 (T := T) he) (((v112_is he hT).subf ((v162_is he hT).left'.addf (v61_is (e := e) (T := T)).bot)).exp) Is.zero).of_eq fun r a => by
    rw [cat_lo, ← D.W_eq 0 (256 * i + (hi r).val) (256 * i + 128) (by omega) a, D.C_zero 0 (hi_le i r)]

include he hT hlt in
theorem v204_is : Is (v204 e T) fun r a => D.W 1 (256 * i + (hi r).val) (256 * i + 128 + a.val) := by
  unfold v204
  unfold k0_pay57
  exact (Is.select (φ := .f32) (mask1 (T := T) he) (((v126_is he hT).subf ((v168_is he hT).left'.addf (v61_is (e := e) (T := T)).bot)).exp) Is.zero).of_eq fun r a => by
    rw [cat_lo, ← D.W_eq 1 (256 * i + (hi r).val) (256 * i + 128) (by omega) a, D.C_zero 1 (hi_le i r)]

include he hT hlt in
theorem v219_is : Is (v219 e T) fun r a => D.W 0 (256 * i + r.val) (256 * i + a.val) := by
  unfold v219 k0_pay60
  exact (Is.select (φ := .f32) (mask0 (T := T) he) (((v140_is he hT).subf ((v174_is he hT).left.addf (c10 he hT hlt))).exp) Is.zero).of_eq fun r a => by
    rw [cat_lo]; exact D.W_eq 0 (256 * i + r.val) (256 * i) (by omega) a

include he hT hlt in
theorem v230_is : Is (v230 e T) fun r a => D.W 1 (256 * i + r.val) (256 * i + a.val) := by
  unfold v230 k0_pay63
  exact (Is.select (φ := .f32) (mask0 (T := T) he) (((v154_is he hT).subf ((v180_is he hT).left.addf (c11 he hT hlt))).exp) Is.zero).of_eq fun r a => by
    rw [cat_lo]; exact D.W_eq 1 (256 * i + r.val) (256 * i) (by omega) a

include he hT hlt in
theorem v196_is : Is (v196 e T) fun r a => D.G 0 (256 * i + (hi r).val) (256 * i + 128 + a.val) := by
  unfold v196 k0_pay56
  exact (Is.mulf (show Is (extf .f32 (v188 e T) bitsLt_bf16_f32) _ from v188_is he hT hlt) (v99_is he hT).left').of_eq fun r a => by
    rw [cat_lo]; rfl

include he hT hlt in
theorem v212_is : Is (v212 e T) fun r a => D.G 1 (256 * i + (hi r).val) (256 * i + 128 + a.val) := by
  unfold v212 k0_pay59
  exact (Is.mulf (show Is (extf .f32 (v204 e T) bitsLt_bf16_f32) _ from v204_is he hT hlt) (v99_is he hT).right').of_eq fun r a => by
    rw [cat_hi]; rfl

include he hT hlt in
theorem v224_is : Is (v224 e T) fun r a => D.G 0 (256 * i + r.val) (256 * i + a.val) := by
  unfold v224 k0_pay62
  exact (Is.mulf (show Is (extf .f32 (v219 e T) bitsLt_bf16_f32) _ from v219_is he hT hlt) (v100_is he hT).left).of_eq fun r a => by
    rw [cat_lo]; rfl

include he hT hlt in
theorem v236_is : Is (v236 e T) fun r a => D.G 1 (256 * i + r.val) (256 * i + a.val) := by
  unfold v236 k0_pay66
  exact (Is.mulf (show Is (extf .f32 (k0_pay64 (v230 e T)) bitsLt_bf16_f32) _ from v230_is he hT hlt) (v100_is he hT).right).of_eq fun r a => by
    rw [cat_hi]; rfl

include he hT hlt in
theorem g10 : Is (k0_pay67 e.v23 (v196 e T)) fun r j => cat (fun c => ∑ a : Fin 128, if c.val ≤ a.val then D.G 0 (256 * i + (hi r).val) (256 * i + 128 + a.val) else 0)
    (fun _ => ∑ a : Fin 128, D.G 0 (256 * i + (hi r).val) (256 * i + 128 + a.val)) j := by
  unfold k0_pay67; exact Is.onward' (v196_is he hT hlt) he.v23

include he hT hlt in
theorem g11 : Is (v248 e T) fun r j => cat (fun c => ∑ a : Fin 128, if c.val ≤ a.val then D.G 1 (256 * i + (hi r).val) (256 * i + 128 + a.val) else 0)
    (fun _ => ∑ a : Fin 128, D.G 1 (256 * i + (hi r).val) (256 * i + 128 + a.val)) j := by
  unfold v248 k0_pay68; exact Is.onward' (v212_is he hT hlt) he.v23

include he hT hlt in
theorem g00 : Is (v254 e T) fun r j => cat (fun c => ∑ a : Fin 128, if c.val ≤ a.val then D.G 0 (256 * i + r.val) (256 * i + a.val) else 0)
    (fun _ => ∑ a : Fin 128, D.G 0 (256 * i + r.val) (256 * i + a.val)) j := by
  unfold v254 k0_pay69; exact Is.onward (v224_is he hT hlt) he.v23

include he hT hlt in
theorem g01 : Is (v260 e T) fun r j => cat (fun c => ∑ a : Fin 128, if c.val ≤ a.val then D.G 1 (256 * i + r.val) (256 * i + a.val) else 0)
    (fun _ => ∑ a : Fin 128, D.G 1 (256 * i + r.val) (256 * i + a.val)) j := by
  unfold v260 k0_pay70; exact Is.onward (v236_is he hT hlt) he.v23

include he hT hlt in
theorem v279_is : Is (v279 e T) fun r _ => D.S 0 (256 * i + r.val) (256 * i + 128) := by
  unfold v279 k0_pay72
  exact ((v61_is (e := e) (T := T)).top.rowsf ((v61_is (e := e) (T := T)).bot.addf (g10 he hT hlt).right')).of_eq fun r a => by
    refine cat_rows (fun r => D.S 0 (256 * i + r.val) (256 * i + 128)) _ _ (fun r => ?_) (fun r => ?_) r
    · exact (D.S_zero 0 (by show 256 * i + r.val ≤ _; omega)).symm
    · rw [cat_hi, ← D.S_tile 0 _ (256 * i + 128) (by omega), D.S_zero 0 (hi_le i r)]

include he hT hlt in
theorem v298_is : Is (k0_pay76 (v61 e T) (v248 e T)) fun r _ => D.S 1 (256 * i + r.val) (256 * i + 128) := by
  unfold k0_pay76
  exact ((v61_is (e := e) (T := T)).top.rowsf ((v61_is (e := e) (T := T)).bot.addf (g11 he hT hlt).right')).of_eq fun r a => by
    refine cat_rows (fun r => D.S 1 (256 * i + r.val) (256 * i + 128)) _ _ (fun r => ?_) (fun r => ?_) r
    · exact (D.S_zero 1 (by show 256 * i + r.val ≤ _; omega)).symm
    · rw [cat_hi, ← D.S_tile 1 _ (256 * i + 128) (by omega), D.S_zero 1 (hi_le i r)]

include he hT hlt in
theorem v312_is : Is (v312 e T) fun r _ => D.S 0 (256 * i + r.val) (256 * i) := by
  unfold v312
  unfold k0_pay78; exact ((v279_is he hT hlt).addf (g00 he hT hlt).right).of_eq fun r a => by rw [cat_hi]; exact D.S_tile 0 _ (256 * i) (by omega)

include he hT hlt in
theorem v326_is : Is (v326 e T) fun r _ => D.S 1 (256 * i + r.val) (256 * i) := by
  unfold v326
  unfold k0_pay80; exact ((v298_is he hT hlt).addf (g01 he hT hlt).right).of_eq fun r a => by rw [cat_hi]; exact D.S_tile 1 _ (256 * i) (by omega)

include he hT hlt in
theorem v274_is : Is (v274 e T) fun r a => D.dz 0 (256 * i + (hi r).val) (256 * i + 128 + a.val) := by
  unfold v274 k0_pay71
  exact (Is.select (φ := .f32) (mask1 (T := T) he) ((((v196_is he hT hlt).mulf (Is.one.subf (v112_is he hT).exp)).subf
    (((he.v53.bot).subf ((g10 he hT hlt).left'.addf (v61_is (e := e) (T := T)).bot)).mulf (v112_is he hT).exp))) Is.zero).of_eq fun r a => by
    rw [cat_lo, ← D.dz_eq 0 (256 * i + (hi r).val) (256 * i + 128) (by omega) a, D.S_zero 0 (hi_le i r)]

include he hT hlt in
theorem v327_is : Is (k0_pay81 (v92 e T) (v212 e T) (v274 e T) (v280 e T) (v281 e T) (v284 e T))
    fun r c => cat (fun a => D.dz 0 (256 * i + (hi r).val) (256 * i + 128 + a.val)) (fun a => D.dz 1 (256 * i + (hi r).val) (256 * i + 128 + a.val)) c := by
  unfold k0_pay81 v280 k0_pay73 v281 k0_pay74 v284 k0_pay75
  exact (v274_is he hT hlt).cols' ((Is.select (φ := .f32) (mask1 (T := T) he) ((((v212_is he hT hlt).mulf (Is.one.subf (v126_is he hT).exp)).subf
    (((he.v59.bot).subf ((g11 he hT hlt).left'.addf (v61_is (e := e) (T := T)).bot)).mulf (v126_is he hT).exp))) Is.zero).of_eq fun r a => by
    rw [cat_lo, ← D.dz_eq 1 (256 * i + (hi r).val) (256 * i + 128) (by omega) a, D.S_zero 1 (hi_le i r)])

include he hT hlt in
theorem v310_is : Is (v310 e T) fun r a => D.dz 0 (256 * i + r.val) (256 * i + a.val) := by
  unfold v310
  unfold k0_pay77
  exact (Is.select (φ := .f32) (mask0 (T := T) he) ((((v224_is he hT hlt).mulf (Is.one.subf (v140_is he hT).exp)).subf
    ((he.v53.subf ((g00 he hT hlt).left.addf (v279_is he hT hlt))).mulf (v140_is he hT).exp))) Is.zero).of_eq fun r a => by
    rw [cat_lo]; exact D.dz_eq 0 (256 * i + r.val) (256 * i) (by omega) a

include he hT hlt in
theorem v324_is : Is (v324 e T) fun r a => D.dz 1 (256 * i + r.val) (256 * i + a.val) := by
  unfold v324
  unfold k0_pay79
  exact (Is.select (φ := .f32) (mask0 (T := T) he) ((((v236_is he hT hlt).mulf (Is.one.subf (v154_is he hT).exp)).subf
    ((he.v59.subf ((g01 he hT hlt).left.addf (v298_is he hT hlt))).mulf (v154_is he hT).exp))) Is.zero).of_eq fun r a => by
    rw [cat_lo]; exact D.dz_eq 1 (256 * i + r.val) (256 * i) (by omega) a

include he hT hlt in
theorem v356_is : Is (k0_pay88 (v310 e T) (v324 e T)) fun r c => cat (fun a => D.dz 0 (256 * i + r.val) (256 * i + a.val)) (fun a => D.dz 1 (256 * i + r.val) (256 * i + a.val)) c := by
  unfold k0_pay88; exact (v310_is he hT hlt).cols (v324_is he hT hlt)

/-- The gradient of a query from the keys `b` on is zero where `b` is not before it. -/
theorem dq_zero (D : Data) {r b : ℕ} (hr : r ≤ b) (l : Fin 128) :
    ∑ j ∈ Finset.Ico b 4096, (D.dz 0 r j * (D.k j l * lane 0 l) + D.dz 1 r j * (D.k j l * lane 1 l)) = 0 :=
  Finset.sum_eq_zero fun j hj => by
    have := (Finset.mem_Ico.1 hj).1
    rw [D.dz_zero 0 (by omega), D.dz_zero 1 (by omega), zero_mul, zero_mul, add_zero]

include he hT hlt in
theorem v333_is : Is (v333 e T) fun r l => ∑ j ∈ Finset.Ico (256 * i + 128) 4096, (D.dz 0 (256 * i + r.val) j * (D.k j l * lane 0 l) + D.dz 1 (256 * i + r.val) j * (D.k j l * lane 1 l)) := by
  unfold v333 k0_pay83
  exact ((v61_is (e := e) (T := T)).top.rowsf ((v61_is (e := e) (T := T)).bot.addf ((v327_is he hT hlt).nn' (v74_is (e := e) hT)))).of_eq fun r l => by
    refine cat_rows (fun r => ∑ j ∈ Finset.Ico (256 * i + 128) 4096, (D.dz 0 (256 * i + r.val) j * (D.k j l * lane 0 l) + D.dz 1 (256 * i + r.val) j * (D.k j l * lane 1 l))) _ _ (fun r => ?_) (fun r => ?_) r
    · exact (dq_zero D (by show 256 * i + r.val ≤ _; omega) l).symm
    · show 0 + _ = _
      rw [sum_cat _ _ _ _ _ rfl, ← from_tile (fun j => D.dz 0 (256 * i + (hi r).val) j * (D.k j l * lane 0 l) + D.dz 1 (256 * i + (hi r).val) j * (D.k j l * lane 1 l)) (256 * i + 128) (by omega),
        dq_zero D (hi_le i r) l]

include he hT hlt in
/-- What the query block's own key block carries on. -/
theorem out_carry : CarryIs D i (256 * i) (out e T).carry where
  c0 := v221_is he hT hlt
  c1 := v233_is he hT hlt
  g0 := v312_is he hT hlt
  g1 := v326_is he hT hlt
  dq := by
    show Is (k0_pay89 (v79 e T) (v310 e T) (v324 e T) (v333 e T)) _
    unfold k0_pay89
    exact ((v333_is he hT hlt).addf ((v356_is he hT hlt).nn (v79_is (e := e) hT))).of_eq fun r l => by
      rw [sum_cat _ _ _ _ _ rfl]
      exact from_tile (fun j => D.dz 0 (256 * i + r.val) j * (D.k j l * lane 0 l) + D.dz 1 (256 * i + r.val) j * (D.k j l * lane 1 l)) (256 * i) (by omega)

/-- A sum over the query block's rows of what the first half does not have. -/
theorem sum_bot (f : Fin 256 → ℝ) (h : ∀ r, f (lo r) = 0) : ∑ r, f (hi r) = ∑ r, f r := by
  rw [sum_halves, Finset.sum_eq_zero fun r _ => h r, zero_add]

include he hT hlt in
theorem out_dk1 {old : Vec Ideal S128x128 .f32} {p : Fin 128 → Fin 128 → ℝ} (ho : Is old p) :
    Is ((out e T).dk1 old) fun a l => p a l + ∑ r : Fin 256, D.dz (head l) (256 * i + r.val) (256 * i + 128 + a.val) * D.q (256 * i + r.val) l := by
  unfold out; dsimp only; unfold k0_pay86 v335 k0_pay84
  exact (Is.grad' (f := fun h r a => D.dz h (256 * i + (hi r).val) (256 * i + 128 + a.val)) (v327_is he hT hlt) he.v28.botb he.v60 ho).of_eq fun a l => by
    rw [← sum_bot (fun r => D.dz (head l) (256 * i + r.val) (256 * i + 128 + a.val) * D.q (256 * i + r.val) l) fun r => by
      rw [D.dz_zero _ (by show 256 * i + r.val ≤ _; omega), zero_mul]]

include he hT hlt in
theorem out_dv1 {old : Vec Ideal S128x128 .f32} {p : Fin 128 → Fin 128 → ℝ} (ho : Is old p) :
    Is ((out e T).dv1 old) fun a l => p a l + ∑ r : Fin 256, D.W (head l) (256 * i + r.val) (256 * i + 128 + a.val) * D.d (256 * i + r.val) l := by
  unfold out; dsimp only; unfold k0_pay87 v328 k0_pay82 v336 k0_pay85
  exact (Is.grad' (f := fun h r a => D.W h (256 * i + (hi r).val) (256 * i + 128 + a.val)) ((v188_is he hT hlt).cols' (v204_is he hT hlt)) he.v29.botb he.v60 ho).of_eq fun a l => by
    rw [← sum_bot (fun r => D.W (head l) (256 * i + r.val) (256 * i + 128 + a.val) * D.d (256 * i + r.val) l) fun r => by
      rw [D.W_zero _ (by show 256 * i + r.val ≤ _; omega), zero_mul]]

include he hT hlt in
theorem out_dk0 {old : Vec Ideal S128x128 .f32} {p : Fin 128 → Fin 128 → ℝ} (ho : Is old p) :
    Is ((out e T).dk0 old) fun a l => p a l + ∑ r : Fin 256, D.dz (head l) (256 * i + r.val) (256 * i + a.val) * D.q (256 * i + r.val) l := by
  unfold out; dsimp only; unfold k0_pay90
  exact Is.grad (f := fun h r a => D.dz h (256 * i + r.val) (256 * i + a.val)) (v356_is he hT hlt) he.v28 he.v60 ho

include he hT hlt in
theorem out_dv0 {old : Vec Ideal S128x128 .f32} {p : Fin 128 → Fin 128 → ℝ} (ho : Is old p) :
    Is ((out e T).dv0 old) fun a l => p a l + ∑ r : Fin 256, D.W (head l) (256 * i + r.val) (256 * i + a.val) * D.d (256 * i + r.val) l := by
  unfold out; dsimp only; unfold k0_pay91
  exact Is.grad (f := fun h r a => D.W h (256 * i + r.val) (256 * i + a.val)) ((v219_is he hT hlt).cols (show Is (v231 e T) _ from v230_is he hT hlt)) he.v29 he.v60 ho

end Diag

end Cert.StickBKernelIdeal.Hand
-- ==== Proof.StickBEnv.lean ====
/-
  What a query block's point holds fixed over its key blocks, over real data; and that a weight is always alive, the
  sums of log weights being finite.
-/
module

public import proofs.«01_k».proof.Proof.StickBDiag

@[expose] public section

set_option maxRecDepth 16384

noncomputable section

namespace Cert.StickBKernelIdeal.Hand

open Cert.StickBKernelIdeal Cert.StickBKernelIdeal.Gen Cert.Hand
open Idealize.ShloMosaic Idealize.ShloMosaic.TcCoe

namespace Data
variable (D : Data)

/-- The attention's output. -/
def o (r : ℕ) (l : Fin 128) : ℝ := ∑ j ∈ Finset.Ico 0 4096, D.W (head l) r j * D.v j l

/-- The cotangent times the output, summed over a head's lanes, is the sum of the weights times their gradients. -/
theorem sum_o (h r : ℕ) : ∑ l, (if head l = h then D.d r l * D.o r l else 0) = D.S h r 0 := by
  have e : ∀ l, (if head l = h then D.d r l * D.o r l else 0)
      = ∑ j ∈ Finset.Ico 0 4096, D.W h r j * (D.d r l * (D.v j l * lane h l)) := fun l => by
    unfold lane
    by_cases hh : head l = h
    · rw [if_pos hh, o, hh, Finset.mul_sum]
      refine Finset.sum_congr rfl fun j _ => ?_
      rw [if_pos (show l.val / 64 = h from hh)]; ring
    · rw [if_neg hh]
      refine (Finset.sum_eq_zero fun j _ => ?_).symm
      rw [if_neg (show ¬l.val / 64 = h from hh)]; ring
  rw [Finset.sum_congr rfl fun l _ => e l, Finset.sum_comm]
  unfold S G dw
  exact Finset.sum_congr rfl fun j _ => (Finset.mul_sum ..).symm

end Data

theorem low_eq : ∀ a : Fin 256, IntOp.andi (BitVec.ofNat 32 a.val) 127#32 = BitVec.ofNat 32 (a.val % 128) := by decide +kernel
theorem half_eq : ∀ b : Fin 256, IntOp.cmpi .sge (BitVec.ofNat 32 b.val) 128#32 = if 128 ≤ b.val then 1#1 else 0#1 := by decide +kernel
theorem gt_eq : ∀ (a : Fin 128) (b : Fin 256), IntOp.cmpi .sgt (BitVec.ofNat 32 a.val) (BitVec.ofNat 32 b.val) = if b.val < a.val then 1#1 else 0#1 := by
  decide +kernel
theorem ge_eq : ∀ (a : Fin 128) (b : Fin 256), IntOp.cmpi .sge (BitVec.ofNat 32 a.val) (BitVec.ofNat 32 b.val) = if b.val ≤ a.val then 1#1 else 0#1 := by
  decide +kernel

theorem v17_is : Is (n := 256) (m := 256) (k0_pay12 (F := Ideal)) later := fun a b => by
  unfold k0_pay12 k0_pay10 k0_pay11
  pointwise
  rw [low_eq a, half_eq b, gt_eq ⟨a.val % 128, Nat.mod_lt _ (by decide)⟩ b]
  unfold later
  dsimp only
  by_cases h : b.val < a.val % 128 <;> by_cases h' : 128 ≤ b.val <;> simp only [h, h', if_true, if_false, or_true, true_or, or_false] <;> rfl
theorem v23_is : Is (n := 256) (m := 256) (k0_pay13 (F := Ideal)) onward := fun a b => by
  unfold k0_pay13 k0_pay10 k0_pay11
  pointwise
  rw [low_eq a, half_eq b, ge_eq ⟨a.val % 128, Nat.mod_lt _ (by decide)⟩ b]
  unfold onward
  dsimp only
  by_cases h : b.val ≤ a.val % 128 <;> by_cases h' : 128 ≤ b.val <;> simp only [h, h', if_true, if_false, or_true, true_or, or_false] <;> rfl

theorem v5_is (r : Fin 256) (j : Fin 128) : k0_pay9 (ix2 r j) = BitVec.ofNat 32 j.val - BitVec.ofNat 32 r.val := by
  unfold k0_pay9
  pointwise
  rfl

theorem v60_is : Flag (n := 128) (m := 128) k0_pay25 fun _ l => l.val < 64 := fun r l => by
  unfold k0_pay25 k0_pay22
  pointwise
  rw [lane_iff l]
  by_cases h : l.val / 64 = 0
  · rw [if_pos h]; exact ⟨fun _ => by omega, fun _ => rfl⟩
  · rw [if_neg h]; exact ⟨fun h => absurd h (by decide), fun _ => by omega⟩

theorem v53_is {x : FVec Ideal S256x128 .f32} {f : Fin 256 → Fin 128 → ℝ} (hx : Is x f) :
    Is (n := 256) (m := 128) (k0_pay23 x) fun r _ => ∑ l, if head l = 0 then f r l else 0 := fun r b => by
  unfold k0_pay23 k0_pay22
  pointwise
  rw [← coe_sum]
  refine Finset.sum_congr rfl fun l _ => ?_
  rw [lane_iff l, hx r l]
  unfold head
  split <;> rfl
theorem v59_is {x : FVec Ideal S256x128 .f32} {f : Fin 256 → Fin 128 → ℝ} (hx : Is x f) :
    Is (n := 256) (m := 128) (k0_pay24 x) fun r _ => ∑ l, if head l = 1 then f r l else 0 := fun r b => by
  unfold k0_pay24 k0_pay22
  pointwise
  rw [← coe_sum]
  refine Finset.sum_congr rfl fun l _ => ?_
  rw [lane_iff l, hx r l]
  unfold head
  have := l.isLt
  by_cases h : l.val / 64 = 0
  · rw [if_pos h, if_neg (by omega)]; rfl
  · rw [if_neg h, if_pos (by omega)]; rfl

theorem eighth : (Ideal.ofBits .f32 0x3E000000#32 : EReal) = ((1 / 8 : ℝ) : EReal) := by
  simp [Ideal.ofBits, Ideal.ieee]; rw [← EReal.coe_mul]; congr 1; norm_num

theorem v28_is {x : FVec Ideal S256x128 .bf16} {f : Fin 256 → Fin 128 → ℝ} (hx : Is x f) :
    Is (n := 256) (m := 128) (k0_pay14 (F := Ideal) x) fun r l => f r l * (1 / 8) := fun r l => by
  unfold k0_pay14
  pointwise
  rw [eighth, hx r l, EReal.coe_mul]

/-- The result's queries, scaled. -/
theorem pay2_is {x : FVec Ideal S256x128 .f32} {f : Fin 256 → Fin 128 → ℝ} (hx : Is x f) :
    Is (n := 256) (m := 128) (k0_pay2 (F := Ideal) x) fun r l => f r l * (1 / 8) := fun r l => by
  unfold k0_pay2
  pointwise
  rw [eighth, hx r l, EReal.coe_mul]

theorem k0_pay15_is {d : Vec Ideal S256x128 .bf16} {o : Vec Ideal S256x128 .f32} {f g : Fin 256 → Fin 128 → ℝ} (hd : Is d f) (ho : Is o g) :
    Is (n := 256) (m := 128) (k0_pay15 (F := Ideal) d o) fun r l => f r l * g r l := fun r l => by
  unfold k0_pay15
  pointwise
  rw [hd r l, ho r l, EReal.coe_mul]

/-- What a query block's point holds fixed. -/
theorem env_is {D : Data} {i : ℕ} {q d : Vec Ideal S256x128 .bf16} {o : Vec Ideal S256x128 .f32} {f : Fin 256 → Fin 128 → ℝ}
    (hq : Is q f) (hf : ∀ r l, f r l * (1 / 8) = D.q (256 * i + r.val) l) (hd : Is d fun r l => D.d (256 * i + r.val) l)
    (ho : Is o fun r l => D.o (256 * i + r.val) l) : EnvIs D i (env q d o) where
  v40 := lane0_is
  v43 := lane1_is
  v5 := v5_is
  v28 := (v28_is hq).of_eq hf
  v29 := hd
  v17 := v17_is
  v23 := v23_is
  v53 := (v53_is (k0_pay15_is hd ho)).of_eq fun r l => D.sum_o 0 _
  v59 := (v59_is (k0_pay15_is hd ho)).of_eq fun r l => D.sum_o 1 _
  v60 := v60_is

/-- Finite sums of log weights leave a weight alive. -/
theorem live_of (x : FVec Ideal S256x128 .f32) {f : Fin 256 → Fin 128 → ℝ} (hx : Is x f) :
    Scalar.cmpf .olt (k0_pay1 x) (Named.named (F := Ideal) κ "dead" (φ := .f32) 0x42D00000#32) = 1#1 := by
  rw [show Named.named (F := Ideal) κ "dead" (φ := .f32) 0x42D00000#32 = (⊤ : EReal) from
    IdealRules.named_const.ideal_named_scalar _ _ _ _ rfl]
  unfold k0_pay1
  pointwise
  rw [decide_eq_true ((Finset.fold_min_lt _).2 (.inr ⟨(0, 0), Finset.mem_univ _, by dsimp only; rw [hx 0 0]; exact EReal.coe_lt_top _⟩))]
  rfl

protected theorem Is.minimumf {x y : FVec Ideal S256x128 .f32} {f g : Fin 256 → Fin 128 → ℝ} (hx : Is x f) (hy : Is y g) :
    Is (n := 256) (m := 128) (minimumf x y) fun r l => min (f r l) (g r l) := fun r l => by
  pointwise
  rw [hx r l, hy r l]
  exact (EReal.coe_strictMono.monotone.map_min).symm

end Cert.StickBKernelIdeal.Hand
-- ==== Proof.StickBPoint.lean ====
/-
  A grid point of the stick-breaking kernel over real data: what the key blocks from a query block's own down to the first
  leave together.
-/
module

public import proofs.«01_k».proof.Proof.StickBEnv

@[expose] public section

set_option maxRecDepth 16384

noncomputable section

namespace Cert.StickBKernelIdeal.Hand

open Cert.StickBKernelIdeal Cert.StickBKernelIdeal.Gen Cert.Hand
open Idealize.ShloMosaic Idealize.ShloMosaic.TcCoe

/-! ### Tiles read and written -/

theorem tile_at {α : Type} (x : S4096x128.Idx → α) (k : Fin 16) (r : Fin 2) (a l : Fin 128) :
    tile x k r (ix2 a l) = x (ix2 ⟨256 * k.val + 128 * r.val + a.val, by have := k.isLt; have := r.isLt; have := a.isLt; omega⟩ l) := by
  unfold tile VecWindow.window
  refine congrArg x (funext fun b => Fin.ext ?_)
  match b with
  | ⟨0, _⟩ => show 256 * k.val + 128 * r.val + 1 * a.val = _; rw [one_mul]; rfl
  | ⟨1, _⟩ => show 0 + 1 * l.val = _; rw [one_mul, zero_add]; rfl

theorem put_at {α : Type} (x : S4096x128.Idx → α) (k : Fin 16) (r : Fin 2) (w : S128x128.Idx → α) (j : Fin 4096) (l : Fin 128) :
    VecWindow.put x (off k.val r.val) S128x128.size w (ix2 j l)
      = if h : 256 * k.val + 128 * r.val ≤ j.val ∧ j.val < 256 * k.val + 128 * r.val + 128 then
          w (ix2 ⟨j.val - (256 * k.val + 128 * r.val), by omega⟩ l) else x (ix2 j l) := by
  unfold VecWindow.put
  by_cases h : 256 * k.val + 128 * r.val ≤ j.val ∧ j.val < 256 * k.val + 128 * r.val + 128
  · rw [dif_pos h, dif_pos]
    · refine congrArg w (funext fun b => Fin.ext ?_)
      match b with
      | ⟨0, _⟩ => rfl
      | ⟨1, _⟩ => exact Nat.sub_zero _
    · intro b
      match b with
      | ⟨0, _⟩ => exact h
      | ⟨1, _⟩ => exact ⟨Nat.zero_le _, by show l.val < 0 + 128; have := l.isLt; omega⟩
  · rw [dif_neg h, dif_neg]
    exact fun hh => h (hh 0)

theorem row_lt (k : Fin 16) (r : Fin 2) {b : ℕ} (hb : 256 * k.val + 128 * r.val = b) (a : Fin 128) : b + a.val < 4096 := by
  have := k.isLt; have := r.isLt; have := a.isLt; omega

protected theorem Is.tile {x : Vec Ideal S4096x128 .f32} {p : Fin 4096 → Fin 128 → ℝ} (hx : Is x p) (k : Fin 16) (r : Fin 2)
    {b : ℕ} (hb : 256 * k.val + 128 * r.val = b) : Is (n := 128) (m := 128) (tile x k r) fun a l => p ⟨b + a.val, row_lt k r hb a⟩ l := fun a l => by
  subst hb
  exact (tile_at x k r a l).trans (hx _ l)

/-- An array with `g` added over a tile. -/
protected theorem Is.put {x : Vec Ideal S4096x128 .f32} {p : Fin 4096 → Fin 128 → ℝ} {g : ℕ → Fin 128 → ℝ} (hx : Is x p) (k : Fin 16) (r : Fin 2)
    {b : ℕ} (hb : 256 * k.val + 128 * r.val = b) {w : Vec Ideal S128x128 .f32} (hw : Is w fun a l => p ⟨b + a.val, row_lt k r hb a⟩ l + g (b + a.val) l) :
    Is (n := 4096) (m := 128) (VecWindow.put x (off k.val r.val) S128x128.size w) fun j l => p j l + if b ≤ j.val ∧ j.val < b + 128 then g j.val l else 0 := fun j l => by
  subst hb
  refine (put_at x k r w j l).trans ?_
  by_cases h : 256 * k.val + 128 * r.val ≤ j.val ∧ j.val < 256 * k.val + 128 * r.val + 128
  · rw [dif_pos h]
    refine (hw _ l).trans ?_
    have hj : 256 * k.val + 128 * r.val + (j.val - (256 * k.val + 128 * r.val)) = j.val := by omega
    dsimp only
    rw [if_pos h]
    exact congrArg (fun i : Fin 4096 => ((p i l + g i.val l : ℝ) : EReal)) (Fin.ext hj)
  · dsimp only; rw [dif_neg h, if_neg h, add_zero]; exact hx j l

/-- A gradient with `g` added over the rows of key block `k`. -/
theorem upd_is {x : Vec Ideal S4096x128 .f32} {p : Fin 4096 → Fin 128 → ℝ} {g : ℕ → Fin 128 → ℝ} (k : Fin 16)
    {f1 f0 : Vec Ideal S128x128 .f32 → FVec Ideal S128x128 .f32} (hx : Is x p)
    (h1 : ∀ {old : Vec Ideal S128x128 .f32} {p : Fin 128 → Fin 128 → ℝ}, Is old p → Is (f1 old) fun a l => p a l + g (256 * k.val + 128 + a.val) l)
    (h0 : ∀ {old : Vec Ideal S128x128 .f32} {p : Fin 128 → Fin 128 → ℝ}, Is old p → Is (f0 old) fun a l => p a l + g (256 * k.val + a.val) l) :
    Is (n := 4096) (m := 128) (upd x k f1 f0) fun j l => p j l + if 256 * k.val ≤ j.val ∧ j.val < 256 * k.val + 256 then g j.val l else 0 := by
  have e1 : 256 * k.val + 128 * (1 : Fin 2).val = 256 * k.val + 128 := rfl
  have e0 : 256 * k.val + 128 * (0 : Fin 2).val = 256 * k.val := rfl
  have hp := hx.put k 1 e1 (h1 (hx.tile k 1 e1))
  refine Is.of_eq (hp.put k 0 e0 (h0 (hp.tile k 0 e0))) fun j l => ?_
  by_cases h : 256 * k.val ≤ j.val ∧ j.val < 256 * k.val + 128
  · rw [if_pos h, if_neg (by omega), if_pos (by omega), add_zero]
  · by_cases h' : 256 * k.val + 128 ≤ j.val ∧ j.val < 256 * k.val + 256
    · rw [if_neg h, if_pos (by omega), if_pos (by omega), add_zero]
    · rw [if_neg h, if_neg (by omega), if_neg (by omega), add_zero]

/-! ### The loop over the key blocks -/

variable (D : Data) (i : ℕ)

/-- What query block `i` adds to the key gradient. -/
def addK (j : ℕ) (l : Fin 128) : ℝ := ∑ r : Fin 256, D.dz (head l) (256 * i + r.val) j * D.q (256 * i + r.val) l
/-- What query block `i` adds to the value gradient. -/
def addV (j : ℕ) (l : Fin 128) : ℝ := ∑ r : Fin 256, D.W (head l) (256 * i + r.val) j * D.d (256 * i + r.val) l

/-- The state of query block `i` after the keys from `b` on, `p` and `p'` being the gradients before it. -/
structure StIs (b : ℕ) (p p' : Fin 4096 → Fin 128 → ℝ) (s : St Ideal) : Prop where
  live : s.live = 1#1
  carry : CarryIs D i b s.carry
  dk : Is s.dk fun j l => p j l + if b ≤ j.val then addK D i j.val l else 0
  dv : Is s.dv fun j l => p' j l + if b ≤ j.val then addV D i j.val l else 0

theorem live_diag {x y : FVec Ideal S256x128 .f32} {f g : Fin 256 → Fin 128 → ℝ} (hx : Is x f) (hy : Is y g) :
    Scalar.cmpf .olt (k0_pay1 (k0_pay92 x y)) (Named.named (F := Ideal) κ "dead" (φ := .f32) 0x42D00000#32) = 1#1 := by
  unfold k0_pay92; exact live_of _ (hx.minimumf hy)
theorem live_step {x y : FVec Ideal S256x128 .f32} {f g : Fin 256 → Fin 128 → ℝ} (hx : Is x f) (hy : Is y g) :
    Scalar.cmpf .olt (k0_pay6 x y) (Named.named (F := Ideal) κ "dead" (φ := .f32) 0x42D00000#32) = 1#1 := by
  have h := live_of _ (hx.minimumf hy)
  unfold k0_pay1 at h
  unfold k0_pay6
  exact h

variable {D i} {e : Env Ideal} {kx vx : Vec Ideal S4096x128 .bf16} {p p' : Fin 4096 → Fin 128 → ℝ}
  (he : EnvIs D i e) (hi : i < 16) (hk : Is kx fun j l => D.k j.val l) (hv : Is vx fun j l => D.v j.val l)

include hk hv in
theorem tiles_is (k : Fin 16) : TilesIs D k.val (tiles kx vx k) where
  k1 := fun a l => (tile_at kx k 1 a l).trans (hk _ l)
  k0 := fun a l => (tile_at kx k 0 a l).trans (hk _ l)
  v1 := fun a l => (tile_at vx k 1 a l).trans (hv _ l)
  v0 := fun a l => (tile_at vx k 0 a l).trans (hv _ l)

include he hi hk hv in
theorem step_is (k : Fin 16) (hki : k.val < i) {s : St Ideal} (hs : StIs D i (256 * k.val + 256) p p' s) :
    StIs D i (256 * k.val) p p' ((Step.out e (tiles kx vx k) s.carry).state k s.dk s.dv) where
  live := by
    have h := Step.out_carry he (tiles_is hk hv k) hs.carry hki hi
    have h' := live_step h.c0 h.c1
    dsimp only [Out.state, Step.out] at h' ⊢
    exact h'
  carry := Step.out_carry he (tiles_is hk hv k) hs.carry hki hi
  dk := (upd_is k hs.dk (g := addK D i) (fun ho => Step.out_dk1 he (tiles_is hk hv k) hs.carry hki hi ho)
      (fun ho => Step.out_dk0 he (tiles_is hk hv k) hs.carry hki hi ho)).of_eq fun j l => by
    by_cases h : 256 * k.val + 256 ≤ j.val
    · rw [if_pos h, if_neg (by omega), if_pos (by omega), add_zero]
    · by_cases h' : 256 * k.val ≤ j.val
      · rw [if_neg h, if_pos (by omega), if_pos h', add_zero]
      · rw [if_neg h, if_neg (by omega), if_neg h', add_zero]
  dv := (upd_is k hs.dv (g := addV D i) (fun ho => Step.out_dv1 he (tiles_is hk hv k) hs.carry hki hi ho)
      (fun ho => Step.out_dv0 he (tiles_is hk hv k) hs.carry hki hi ho)).of_eq fun j l => by
    by_cases h : 256 * k.val + 256 ≤ j.val
    · rw [if_pos h, if_neg (by omega), if_pos (by omega), add_zero]
    · by_cases h' : 256 * k.val ≤ j.val
      · rw [if_neg h, if_pos (by omega), if_pos h', add_zero]
      · rw [if_neg h, if_neg (by omega), if_neg h', add_zero]

include he hi hk hv in
theorem loop_is : ∀ (k : ℕ) (hk16 : k ≤ 16) (s : St Ideal), k ≤ i → StIs D i (256 * k) p p' s → StIs D i 0 p p' (loop e kx vx k hk16 s)
  | 0, _, s, _, hs => hs
  | k + 1, hk16, s, hki, hs => by
    rw [loop, if_pos hs.live]
    exact loop_is k _ _ (by omega) (step_is he hi hk hv ⟨k, hk16⟩ (by show k < i; omega) hs)

theorem addK_zero {D : Data} {i j : ℕ} (h : 256 * i + 256 ≤ j) (l : Fin 128) : addK D i j l = 0 :=
  Finset.sum_eq_zero fun r _ => by rw [D.dz_zero _ (by have := r.isLt; omega), zero_mul]
theorem addV_zero {D : Data} {i j : ℕ} (h : 256 * i + 256 ≤ j) (l : Fin 128) : addV D i j l = 0 :=
  Finset.sum_eq_zero fun r _ => by rw [D.W_zero _ (by have := r.isLt; omega), zero_mul]

include he hk hv in
theorem diag_is {i' : Fin 16} (hi' : i'.val = i) {dk dv : Vec Ideal S4096x128 .f32} (hdk : Is dk p) (hdv : Is dv p') :
    StIs D i (256 * i) p p' ((Diag.out e (tiles kx vx i')).state i' dk dv) := by
  subst hi'
  have hT := tiles_is hk hv i'
  have h := Diag.out_carry he hT i'.isLt
  exact {
    live := by
      have h' := live_diag h.c0 h.c1
      dsimp only [Out.state, Diag.out] at h' ⊢
      exact h'
    carry := h
    dk := (upd_is i' hdk (g := addK D i'.val) (fun ho => Diag.out_dk1 he hT i'.isLt ho) (fun ho => Diag.out_dk0 he hT i'.isLt ho)).of_eq fun j l => by
      by_cases hh : 256 * i'.val + 256 ≤ j.val
      · rw [if_neg (by omega), if_pos (by omega), addK_zero hh]
      · by_cases h' : 256 * i'.val ≤ j.val
        · rw [if_pos (by omega), if_pos h']
        · rw [if_neg (by omega), if_neg h']
    dv := (upd_is i' hdv (g := addV D i'.val) (fun ho => Diag.out_dv1 he hT i'.isLt ho) (fun ho => Diag.out_dv0 he hT i'.isLt ho)).of_eq fun j l => by
      by_cases hh : 256 * i'.val + 256 ≤ j.val
      · rw [if_neg (by omega), if_pos (by omega), addV_zero hh]
      · by_cases h' : 256 * i'.val ≤ j.val
        · rw [if_pos (by omega), if_pos h']
        · rw [if_neg (by omega), if_neg h'] }

/-- A grid point's state. -/
theorem final_is {D : Data} (i : Fin 16) {q d : Vec Ideal S256x128 .bf16} {o : Vec Ideal S256x128 .f32} {kx vx : Vec Ideal S4096x128 .bf16}
    {f : Fin 256 → Fin 128 → ℝ} (hq : Is q f) (hf : ∀ r l, f r l * (1 / 8) = D.q (256 * i.val + r.val) l)
    (hd : Is d fun r l => D.d (256 * i.val + r.val) l) (ho : Is o fun r l => D.o (256 * i.val + r.val) l)
    (hk : Is kx fun j l => D.k j.val l) (hv : Is vx fun j l => D.v j.val l)
    {dk dv : Vec Ideal S4096x128 .f32} {p p' : Fin 4096 → Fin 128 → ℝ} (hdk : Is dk p) (hdv : Is dv p') :
    StIs D i.val 0 p p' (final i q kx vx o d dk dv) :=
  have he := env_is hq hf hd ho
  loop_is he i.isLt hk hv i.val _ _ le_rfl (diag_is he hk hv rfl hdk hdv)

end Cert.StickBKernelIdeal.Hand
-- ==== Proof.StickBHost.lean ====
/-
  What the host prepares for the stick-breaking attention's backward kernel: the output it saved, from the same lines as
  the reference's own forward part, read stretch by stretch.
-/
module

public import proofs.«01_k».proof.Proof.StickBFrame
public import proofs.«01_k».proof.Proof.Gen.StickBReferenceIdeal.Read
public import Idealize.ShloMosaic.Lib.StableHlo.RunRead

@[expose] public section

set_option maxRecDepth 16384

noncomputable section

namespace Cert.StickBKernelIdeal.Hand

open Cert.StickBKernelIdeal Cert.StickBKernelIdeal.Gen Cert.StickBReferenceIdeal.Read
open Idealize.ShloMosaic Idealize.ShloMosaic.TcCoe Idealize.ShloMosaic.Tactic Idealize.ShloMosaic.StableHlo

variable (U : Valuation τ sig (Elt Ideal)) (a0 : FVec Ideal S4096x5120 .bf16)

theorem s0_v9 (h : U main_arg0 = a0) : after hostOps0 U main_v9 = val_main_v9 (F := Ideal) a0 := by
  simp only [hostOps0, TRef.unary, TRef.binary, TRef.ternary, TRef.nullary, TRef.toBuf, TRef.ofBuf, cast_eq]
  after_results
  rw [h]
  rfl

theorem s0_v12 (h : U main_arg0 = a0) : after hostOps0 U main_v12 = val_main_v12 (F := Ideal) a0 := by
  simp only [hostOps0, TRef.unary, TRef.binary, TRef.ternary, TRef.nullary, TRef.toBuf, TRef.ofBuf, cast_eq]
  after_results
  rw [h]
  rfl

theorem s0_v21 (h : U main_arg0 = a0) : after hostOps0 U main_v21 = val_main_v21 (F := Ideal) a0 := by
  simp only [hostOps0, TRef.unary, TRef.binary, TRef.ternary, TRef.nullary, TRef.toBuf, TRef.ofBuf, cast_eq]
  after_results
  rw [h]
  rfl

theorem s0_v20 (h : U main_arg0 = a0) : after hostOps0 U main_v20 = val_main_v20 (F := Ideal) := by
  simp only [hostOps0, TRef.unary, TRef.binary, TRef.ternary, TRef.nullary, TRef.toBuf, TRef.ofBuf, cast_eq]
  after_results
  rfl

theorem s1 (hv21 : U main_v21 = val_main_v21 (F := Ideal) a0) : after hostOps0_1 U main_v22 = val_main_v22_0 (F := Ideal) a0 := by
  simp only [hostOps0_1, TRef.unary, TRef.binary, TRef.ternary, TRef.nullary, TRef.toBuf, TRef.ofBuf, cast_eq]
  after_results
  rw [hv21]
  rfl

theorem s3 (hcst_0 : U main_cst_0 = val_main_cst_0 (F := Ideal)) (hv20 : U main_v20 = val_main_v20 (F := Ideal)) (hv22 : U main_v22 = val_main_v22_0 (F := Ideal) a0) : after hostOps0_3 U main_v23 = val_main_v23_0 (F := Ideal) a0 := by
  simp only [hostOps0_3, TRef.unary, TRef.binary, TRef.ternary, TRef.nullary, TRef.toBuf, TRef.ofBuf, cast_eq]
  after_results
  rw [hcst_0, hv20, hv22]
  rfl

theorem s4 (hv23 : U main_v23 = val_main_v23_0 (F := Ideal) a0) : after hostOps0_4 U main_v24 = val_main_v24 (F := Ideal) a0 := by
  simp only [hostOps0_4, TRef.unary, TRef.binary, TRef.ternary, TRef.nullary, TRef.toBuf, TRef.ofBuf, cast_eq]
  after_results
  rw [hv23]
  rfl

theorem s5 (hv24 : U main_v24 = val_main_v24 (F := Ideal) a0) (hv23 : U main_v23 = val_main_v23_0 (F := Ideal) a0) : after hostOps0_5 U main_v25 = val_main_v25 (F := Ideal) a0 := by
  simp only [hostOps0_5, TRef.unary, TRef.binary, TRef.ternary, TRef.nullary, TRef.toBuf, TRef.ofBuf, cast_eq]
  after_results
  rw [hv24, hv23]
  rfl

theorem s6 (hv12 : U main_v12 = val_main_v12 (F := Ideal) a0) : after hostOps0_6 U main_v26 = val_main_v26_0 (F := Ideal) a0 := by
  simp only [hostOps0_6, TRef.unary, TRef.binary, TRef.ternary, TRef.nullary, TRef.toBuf, TRef.ofBuf, cast_eq]
  after_results
  rw [hv12]
  rfl

theorem s7 (hv26 : U main_v26 = val_main_v26_0 (F := Ideal) a0) (hv25 : U main_v25 = val_main_v25 (F := Ideal) a0) : after hostOps0_7 U main_v28 = val_main_v28 (F := Ideal) a0 := by
  simp only [hostOps0_7, TRef.unary, TRef.binary, TRef.ternary, TRef.nullary, TRef.toBuf, TRef.ofBuf, cast_eq]
  after_results
  rw [hv26, hv25]
  rfl

theorem s8 (hcst_1 : U main_cst_1 = val_main_cst_1 (F := Ideal)) (hv20 : U main_v20 = val_main_v20 (F := Ideal)) (hv28 : U main_v28 = val_main_v28 (F := Ideal) a0) : after hostOps0_8 U main_v29 = val_main_v29_0 (F := Ideal) a0 := by
  simp only [hostOps0_8, TRef.unary, TRef.binary, TRef.ternary, TRef.nullary, TRef.toBuf, TRef.ofBuf, cast_eq]
  after_results
  rw [hcst_1, hv20, hv28]
  rfl

theorem s9 (hv29 : U main_v29 = val_main_v29_0 (F := Ideal) a0) (hv9 : U main_v9 = val_main_v9 (F := Ideal) a0) : after hostOps0_9 U main_v32 = val_main_v32 (F := Ideal) a0 := by
  simp only [hostOps0_9, TRef.unary, TRef.binary, TRef.ternary, TRef.nullary, TRef.toBuf, TRef.ofBuf, cast_eq]
  after_results
  rw [hv29, hv9]
  rfl

theorem k1_v9 : after (hostOps0_1 : List (HloOp τ sig (Elt Ideal))) U main_v9 = U main_v9 := by
  simp only [hostOps0_1, TRef.unary, TRef.binary, TRef.ternary, TRef.nullary]
  after_results
theorem k1_v12 : after (hostOps0_1 : List (HloOp τ sig (Elt Ideal))) U main_v12 = U main_v12 := by
  simp only [hostOps0_1, TRef.unary, TRef.binary, TRef.ternary, TRef.nullary]
  after_results
theorem k1_v20 : after (hostOps0_1 : List (HloOp τ sig (Elt Ideal))) U main_v20 = U main_v20 := by
  simp only [hostOps0_1, TRef.unary, TRef.binary, TRef.ternary, TRef.nullary]
  after_results

theorem k2_v9 : after (hostOps0_2 : List (HloOp τ sig (Elt Ideal))) U main_v9 = U main_v9 := by
  simp only [hostOps0_2, TRef.unary, TRef.binary, TRef.ternary, TRef.nullary]
  after_results
theorem k2_v12 : after (hostOps0_2 : List (HloOp τ sig (Elt Ideal))) U main_v12 = U main_v12 := by
  simp only [hostOps0_2, TRef.unary, TRef.binary, TRef.ternary, TRef.nullary]
  after_results
theorem k2_v20 : after (hostOps0_2 : List (HloOp τ sig (Elt Ideal))) U main_v20 = U main_v20 := by
  simp only [hostOps0_2, TRef.unary, TRef.binary, TRef.ternary, TRef.nullary]
  after_results
theorem k2_v22 : after (hostOps0_2 : List (HloOp τ sig (Elt Ideal))) U main_v22 = U main_v22 := by
  simp only [hostOps0_2, TRef.unary, TRef.binary, TRef.ternary, TRef.nullary]
  after_results

theorem k3_v9 : after (hostOps0_3 : List (HloOp τ sig (Elt Ideal))) U main_v9 = U main_v9 := by
  simp only [hostOps0_3, TRef.unary, TRef.binary, TRef.ternary, TRef.nullary]
  after_results
theorem k3_v12 : after (hostOps0_3 : List (HloOp τ sig (Elt Ideal))) U main_v12 = U main_v12 := by
  simp only [hostOps0_3, TRef.unary, TRef.binary, TRef.ternary, TRef.nullary]
  after_results
theorem k3_v20 : after (hostOps0_3 : List (HloOp τ sig (Elt Ideal))) U main_v20 = U main_v20 := by
  simp only [hostOps0_3, TRef.unary, TRef.binary, TRef.ternary, TRef.nullary]
  after_results

theorem k4_v9 : after (hostOps0_4 : List (HloOp τ sig (Elt Ideal))) U main_v9 = U main_v9 := by
  simp only [hostOps0_4, TRef.unary, TRef.binary, TRef.ternary, TRef.nullary]
  after_results
theorem k4_v12 : after (hostOps0_4 : List (HloOp τ sig (Elt Ideal))) U main_v12 = U main_v12 := by
  simp only [hostOps0_4, TRef.unary, TRef.binary, TRef.ternary, TRef.nullary]
  after_results
theorem k4_v20 : after (hostOps0_4 : List (HloOp τ sig (Elt Ideal))) U main_v20 = U main_v20 := by
  simp only [hostOps0_4, TRef.unary, TRef.binary, TRef.ternary, TRef.nullary]
  after_results
theorem k4_v23 : after (hostOps0_4 : List (HloOp τ sig (Elt Ideal))) U main_v23 = U main_v23 := by
  simp only [hostOps0_4, TRef.unary, TRef.binary, TRef.ternary, TRef.nullary]
  after_results

theorem k5_v9 : after (hostOps0_5 : List (HloOp τ sig (Elt Ideal))) U main_v9 = U main_v9 := by
  simp only [hostOps0_5, TRef.unary, TRef.binary, TRef.ternary, TRef.nullary]
  after_results
theorem k5_v12 : after (hostOps0_5 : List (HloOp τ sig (Elt Ideal))) U main_v12 = U main_v12 := by
  simp only [hostOps0_5, TRef.unary, TRef.binary, TRef.ternary, TRef.nullary]
  after_results
theorem k5_v20 : after (hostOps0_5 : List (HloOp τ sig (Elt Ideal))) U main_v20 = U main_v20 := by
  simp only [hostOps0_5, TRef.unary, TRef.binary, TRef.ternary, TRef.nullary]
  after_results

theorem k6_v9 : after (hostOps0_6 : List (HloOp τ sig (Elt Ideal))) U main_v9 = U main_v9 := by
  simp only [hostOps0_6, TRef.unary, TRef.binary, TRef.ternary, TRef.nullary]
  after_results
theorem k6_v20 : after (hostOps0_6 : List (HloOp τ sig (Elt Ideal))) U main_v20 = U main_v20 := by
  simp only [hostOps0_6, TRef.unary, TRef.binary, TRef.ternary, TRef.nullary]
  after_results
theorem k6_v25 : after (hostOps0_6 : List (HloOp τ sig (Elt Ideal))) U main_v25 = U main_v25 := by
  simp only [hostOps0_6, TRef.unary, TRef.binary, TRef.ternary, TRef.nullary]
  after_results

theorem k7_v9 : after (hostOps0_7 : List (HloOp τ sig (Elt Ideal))) U main_v9 = U main_v9 := by
  simp only [hostOps0_7, TRef.unary, TRef.binary, TRef.ternary, TRef.nullary]
  after_results
theorem k7_v20 : after (hostOps0_7 : List (HloOp τ sig (Elt Ideal))) U main_v20 = U main_v20 := by
  simp only [hostOps0_7, TRef.unary, TRef.binary, TRef.ternary, TRef.nullary]
  after_results

theorem k8_v9 : after (hostOps0_8 : List (HloOp τ sig (Elt Ideal))) U main_v9 = U main_v9 := by
  simp only [hostOps0_8, TRef.unary, TRef.binary, TRef.ternary, TRef.nullary]
  after_results

theorem cst0 : after hostOps0_2 U main_cst_0 = val_main_cst_0 (F := Ideal) := by
  after_results
  rfl

theorem cst1 : after hostOps0_7 U main_cst_1 = val_main_cst_1 (F := Ideal) := by
  after_results
  rfl

/-- The saved output is the reference's own forward part. -/
theorem V_out (m : (ℓ : Loc nD τ sig) → Buf (Elt Ideal) ℓ) (c : Dev nD) : V m c main_v32 = val_main_v32 (F := Ideal) (m (c.tc.loc main_arg0)) := by
  unfold V
  rw [List.flatten_cons, after_append, List.flatten_cons, after_append, List.flatten_cons, after_append, List.flatten_cons, after_append,
    List.flatten_cons, after_append, List.flatten_cons, after_append, List.flatten_cons, after_append, List.flatten_cons, after_append,
    List.flatten_cons, after_append, List.flatten_cons, after_append, List.flatten_nil, after_nil]
  generalize h0 : (fun b => m (c, b) : Valuation τ sig (Elt Ideal)) = U0
  have a : U0 main_arg0 = m (c.tc.loc main_arg0) := h0 ▸ rfl
  generalize m (c.tc.loc main_arg0) = a0 at a ⊢
  have v9 := s0_v9 U0 a0 a
  have v12 := s0_v12 U0 a0 a
  have v20 := s0_v20 U0 a0 a
  have v21 := s0_v21 U0 a0 a
  generalize after hostOps0 U0 = U1 at v9 v12 v20 v21 ⊢
  have v22' := s1 U1 a0 v21
  have v9' := (k1_v9 U1).trans v9
  have v12' := (k1_v12 U1).trans v12
  have v20' := (k1_v20 U1).trans v20
  generalize after hostOps0_1 U1 = U2 at v22' v9' v12' v20' ⊢
  clear v12 v20 v21 v9
  rename' v22' => v22
  rename' v9' => v9
  rename' v12' => v12
  rename' v20' => v20
  have c0' := cst0 U2
  have v9' := (k2_v9 U2).trans v9
  have v12' := (k2_v12 U2).trans v12
  have v20' := (k2_v20 U2).trans v20
  have v22' := (k2_v22 U2).trans v22
  generalize after hostOps0_2 U2 = U3 at c0' v9' v12' v20' v22' ⊢
  clear v12 v20 v22 v9
  rename' c0' => c0
  rename' v9' => v9
  rename' v12' => v12
  rename' v20' => v20
  rename' v22' => v22
  have v23' := s3 U3 a0 c0 v20 v22
  have v9' := (k3_v9 U3).trans v9
  have v12' := (k3_v12 U3).trans v12
  have v20' := (k3_v20 U3).trans v20
  generalize after hostOps0_3 U3 = U4 at v23' v9' v12' v20' ⊢
  clear c0 v12 v20 v22 v9
  rename' v23' => v23
  rename' v9' => v9
  rename' v12' => v12
  rename' v20' => v20
  have v24' := s4 U4 a0 v23
  have v9' := (k4_v9 U4).trans v9
  have v12' := (k4_v12 U4).trans v12
  have v20' := (k4_v20 U4).trans v20
  have v23' := (k4_v23 U4).trans v23
  generalize after hostOps0_4 U4 = U5 at v24' v9' v12' v20' v23' ⊢
  clear v12 v20 v23 v9
  rename' v24' => v24
  rename' v9' => v9
  rename' v12' => v12
  rename' v20' => v20
  rename' v23' => v23
  have v25' := s5 U5 a0 v24 v23
  have v9' := (k5_v9 U5).trans v9
  have v12' := (k5_v12 U5).trans v12
  have v20' := (k5_v20 U5).trans v20
  generalize after hostOps0_5 U5 = U6 at v25' v9' v12' v20' ⊢
  clear v12 v20 v23 v24 v9
  rename' v25' => v25
  rename' v9' => v9
  rename' v12' => v12
  rename' v20' => v20
  have v26' := s6 U6 a0 v12
  have v9' := (k6_v9 U6).trans v9
  have v20' := (k6_v20 U6).trans v20
  have v25' := (k6_v25 U6).trans v25
  generalize after hostOps0_6 U6 = U7 at v26' v9' v20' v25' ⊢
  clear v12 v20 v25 v9
  rename' v26' => v26
  rename' v9' => v9
  rename' v20' => v20
  rename' v25' => v25
  have v28' := s7 U7 a0 v26 v25
  have c1' := cst1 U7
  have v9' := (k7_v9 U7).trans v9
  have v20' := (k7_v20 U7).trans v20
  generalize after hostOps0_7 U7 = U8 at v28' c1' v9' v20' ⊢
  clear v20 v25 v26 v9
  rename' v28' => v28
  rename' c1' => c1
  rename' v9' => v9
  rename' v20' => v20
  have v29' := s8 U8 a0 c1 v20 v28
  have v9' := (k8_v9 U8).trans v9
  generalize after hostOps0_8 U8 = U9 at v29' v9' ⊢
  clear c1 v20 v28 v9
  rename' v29' => v29
  rename' v9' => v9
  exact s9 U9 a0 v29 v9

end Cert.StickBKernelIdeal.Hand
-- ==== Proof.StickBWindow.lean ====
/-
  The host's sums over a window along the last axis of a stack of matrices, read at an element: from a column on, or up to it.
-/
module

public import Idealize.ShloMosaic.Lib.Pointwise
public import Idealize.ShloMosaic.PureOps.Ideal.Laws

@[expose] public section

noncomputable section

namespace Cert.Hand

open Idealize.ShloMosaic

theorem foldl_sum {n : ℕ} (f : Fin n → EReal) (v : EReal) : (List.finRange n).foldl (fun r i => r + f i) v = v + ∑ i, f i := by
  have e : ∀ (l : List (Fin n)) (v : EReal), l.foldl (fun r i => r + f i) v = v + (l.map f).sum := fun l => by
    induction l with
    | nil => exact fun v => (add_zero v).symm
    | cons i l ih => exact fun v => by rw [List.foldl_cons, ih, List.map_cons, List.sum_cons, add_assoc]
  rw [e, Fin.sum_univ_def]

/-- A window of width `n2` along the last axis. -/
theorem window_last {n0 n1 n2 : ℕ} (lo hi : ℕ) (x : FVec Ideal ⟨3, ![n0, n1, n2]⟩ .f32) {u : Shape} (init : u.Idx → Ideal .f32)
    (h : (⟨3, ![n0, n1, n2]⟩ : Shape).ReduceWindows ![1, 1, n2] ![1, 1, 1] ![0, 0, lo] ![0, 0, hi] ⟨3, ![n0, n1, n2]⟩) (hu : 0 < u.numel)
    (a : Fin n0) (b : Fin n1) (c : Fin n2) (h0 : init (Shape.Idx.first hu) = 0) :
    Host.reduceWindowAdd (F := Ideal) ![1, 1, n2] ![1, 1, 1] ![0, 0, lo] ![0, 0, hi] x init h hu (ix3 a b c)
      = ∑ w : Fin n2, if hin : lo ≤ c.val + w.val ∧ c.val + w.val - lo < n2 then x (ix3 a b ⟨c.val + w.val - lo, hin.2⟩) else 0 := by
  unfold Host.reduceWindowAdd
  rw [Ideal.hostReduceWindowAdd_def, h0]
  unfold Ideal.hostReduceWindowAdd Host.reduceWindow
  dsimp only
  rw [foldl_sum, zero_add, ← Equiv.sum_comp (⟨3, ![1, 1, n2]⟩ : Shape).rowMajor]
  simp only [Equiv.symm_apply_apply]
  rw [sum_idx3, Fin.sum_univ_one, Fin.sum_univ_one]
  refine Finset.sum_congr rfl fun w _ => ?_
  by_cases hin : lo ≤ c.val + w.val ∧ c.val + w.val - lo < n2
  · rw [dif_pos hin, dif_pos]
    · refine congrArg x (funext fun k => Fin.ext ?_)
      match k with
      | ⟨0, _⟩ => show a.val * 1 + 0 - 0 = a.val; omega
      | ⟨1, _⟩ => show b.val * 1 + 0 - 0 = b.val; omega
      | ⟨2, _⟩ => show c.val * 1 + w.val - lo = c.val + w.val - lo; rw [mul_one]
    · intro k
      match k with
      | ⟨0, _⟩ => exact ⟨Nat.zero_le _, by show a.val * 1 + 0 - 0 < n0; have := a.isLt; omega⟩
      | ⟨1, _⟩ => exact ⟨Nat.zero_le _, by show b.val * 1 + 0 - 0 < n1; have := b.isLt; omega⟩
      | ⟨2, _⟩ => exact ⟨by show lo ≤ c.val * 1 + w.val; omega, by show c.val * 1 + w.val - lo < n2; rw [mul_one]; exact hin.2⟩
  · rw [dif_neg hin, dif_neg]
    intro hh
    have := hh ⟨2, by decide⟩
    exact hin ⟨by have := this.1; (have e : lo ≤ c.val * 1 + w.val := this); omega, by have e : c.val * 1 + w.val - lo < n2 := this.2; rw [mul_one] at e; exact e⟩

end Cert.Hand
-- ==== Proof.StickBRef.lean ====
/-
  The stick-breaking attention's reference, read over real data: scores, weights and their gradients per head.
-/
module

public import proofs.«01_k».proof.Proof.StickBEnv
public import Idealize.ShloMosaic.Lib.WordCmp
public import proofs.«01_k».proof.Proof.StickBWindow
public import proofs.«01_k».proof.Proof.Gen.StickBReferenceIdeal.Read

@[expose] public section

set_option maxRecDepth 16384

noncomputable section

namespace Cert.StickBReferenceIdeal.Hand

open Cert.StickBReferenceIdeal Cert.StickBReferenceIdeal.Gen Cert.StickBReferenceIdeal.Read Cert.Hand
open Cert.StickBKernelIdeal.Hand (Data sp lb lane head)
open Idealize.ShloMosaic Idealize.ShloMosaic.TcCoe

/-- The heads `2 p` and `2 p + 1` of a projection and a cotangent. -/
def pair (P E : ℕ → ℕ → ℝ) (p : ℕ) : Data where
  q r l := P r (128 * p + l.val) * (1 / 8)
  k j l := P j (512 + (128 * p + l.val))
  v j l := P j (1024 + (128 * p + l.val))
  d r l := E r (128 * p + l.val)

theorem sum_lane (f : ℕ → ℝ) (s : Fin 2) : ∑ l : Fin 128, f l.val * lane s.val l = ∑ e : Fin 64, f (64 * s.val + e.val) := by
  unfold lane
  have h : ∀ l : Fin 128, f l.val * (if l.val / 64 = s.val then (1 : ℝ) else 0) = if l.val / 64 = s.val then f l.val else 0 := fun l => by
    split <;> simp
  rw [Finset.sum_congr rfl fun l _ => h l, Fin.sum_univ_eq_sum_range (fun l => if l / 64 = s.val then f l else 0) 128,
    Finset.sum_ite, Finset.sum_const_zero, add_zero, Fin.sum_univ_eq_sum_range (fun e => f (64 * s.val + e)) 64]
  symm
  refine Finset.sum_bij (fun e _ => 64 * s.val + e) ?_ ?_ ?_ ?_
  · intro e he
    have := Finset.mem_range.1 he
    have := s.isLt
    exact Finset.mem_filter.2 ⟨Finset.mem_range.2 (by omega), by omega⟩
  · intro a _ b _ h; omega
  · intro b hb
    obtain ⟨h1, h2⟩ := Finset.mem_filter.1 hb
    exact ⟨b - 64 * s.val, Finset.mem_range.2 (by omega), by omega⟩
  · intro _ _; rfl

/-! ### The softplus function -/

theorem sp_eq (x : ℝ) : sp x = Real.log (1 + Real.exp x) := by
  unfold sp
  rcases le_total 0 x with h | h
  · rw [max_eq_left h, abs_of_nonneg h]
    have e : 1 + Real.exp x = Real.exp x * (1 + Real.exp (-x)) := by rw [mul_add, mul_one, ← Real.exp_add, add_neg_cancel, Real.exp_zero, add_comm]
    rw [e, Real.log_mul (Real.exp_ne_zero _) (by positivity), Real.log_exp]
  · rw [max_eq_right h, abs_of_nonpos h, neg_neg, zero_add]

theorem sp_neg (x : ℝ) : sp (-x) = sp x - x := by
  have e : 1 + Real.exp x = Real.exp x * (1 + Real.exp (-x)) := by rw [mul_add, mul_one, ← Real.exp_add, add_neg_cancel, Real.exp_zero, add_comm]
  rw [sp_eq, sp_eq, e, Real.log_mul (Real.exp_ne_zero _) (by positivity), Real.log_exp]; ring

theorem exp_lb_neg (x : ℝ) : Real.exp (lb (-x)) = 1 - Real.exp (lb x) := by
  have h : ∀ y, Real.exp (lb y) = Real.exp y / (1 + Real.exp y) := fun y => by
    unfold lb; rw [sp_eq, Real.exp_sub, Real.exp_log (by positivity)]
  rw [h, h, Real.exp_neg]
  have := Real.exp_pos x
  field_simp
  ring

/-! ### Arrays of real numbers per head, row and column -/

/-- `x` holds the real numbers `f`. -/
def Is3 {n0 n1 n2 : ℕ} (x : (⟨3, ![n0, n1, n2]⟩ : Shape).Idx → EReal) (f : Fin n0 → Fin n1 → Fin n2 → ℝ) : Prop :=
  ∀ h r j, x (ix3 h r j) = ((f h r j : ℝ) : EReal)

variable {a0 : FVec Ideal S4096x5120 .bf16} {a1 : FVec Ideal S4096x512 .bf16} {P E : ℕ → ℕ → ℝ}
  (hP : ∀ (r : Fin 4096) (c : Fin 5120), a0 (ix2 r c) = ((P r.val c.val : ℝ) : EReal))
  (hE : ∀ (r : Fin 4096) (c : Fin 512), a1 (ix2 r c) = ((E r.val c.val : ℝ) : EReal))

/-- Head `h`'s score of a key for a query, the gradient of a weight, a weight, and what else its pair has per head. -/
abbrev at2 (P E : ℕ → ℕ → ℝ) (f : Data → ℕ → ℕ → ℕ → ℝ) (h : Fin 8) (r j : ℕ) : ℝ := f (pair P E (h.val / 2)) (h.val % 2) r j

theorem col_eq (h : Fin 8) (e : Fin 64) : 64 * h.val + e.val = 128 * (h.val / 2) + (64 * (h.val % 2) + e.val) := by omega

theorem z_eq (E : ℕ → ℕ → ℝ) (h : Fin 8) (r j : ℕ) :
    (∑ e : Fin 64, P r (64 * h.val + e.val) * P j (512 + (64 * h.val + e.val))) * (1 / 8) = at2 P E Data.z h r j := by
  unfold at2 Data.z pair
  have hh := sum_lane (fun l => P r (128 * (h.val / 2) + l) * (1 / 8) * P j (512 + (128 * (h.val / 2) + l))) ⟨h.val % 2, Nat.mod_lt _ (by decide)⟩
  simp only [mul_assoc] at hh ⊢
  rw [hh, Finset.sum_mul]
  refine Finset.sum_congr rfl fun e _ => ?_
  rw [col_eq]; ring

theorem dw_eq (h : Fin 8) (r j : ℕ) :
    ∑ e : Fin 64, E r (64 * h.val + e.val) * P j (1024 + (64 * h.val + e.val)) = at2 P E Data.dw h r j := by
  unfold at2 Data.dw pair
  have hh := sum_lane (fun l => E r (128 * (h.val / 2) + l) * P j (1024 + (128 * (h.val / 2) + l))) ⟨h.val % 2, Nat.mod_lt _ (by decide)⟩
  simp only [mul_assoc] at hh ⊢
  rw [hh]
  refine Finset.sum_congr rfl fun e _ => ?_
  rw [col_eq]

include hP in
theorem v5 : Is3 (val_main_v5 (F := Ideal) a0) fun h r e => P r.val (64 * h.val + e.val) := fun h r e => by
  pointwise [val_main_v5_apply, val_main_v4_apply, val_main_v1_apply, val_main_v0_apply]
  refine Eq.trans (congrArg a0 (?_ : _ = ix2 r ⟨64 * h.val + e.val, by omega⟩)) (hP _ _)
  funext a
  match a with
  | ⟨0, _⟩ => exact Fin.ext (by show ((r.val * 8 + h.val) * 64 + e.val) / 512 = r.val; omega)
  | ⟨1, _⟩ => exact Fin.ext (by show ((r.val * 8 + h.val) * 64 + e.val) % 512 = 64 * h.val + e.val; omega)

include hP in
theorem v7 : Is3 (val_main_v7 (F := Ideal) a0) fun h r e => P r.val (512 + (64 * h.val + e.val)) := fun h r e => by
  pointwise [val_main_v7_apply, val_main_v6_apply, val_main_v2_apply, val_main_v0_apply]
  refine Eq.trans (congrArg a0 (?_ : _ = ix2 r ⟨512 + (64 * h.val + e.val), by omega⟩)) (hP _ _)
  funext a
  match a with
  | ⟨0, _⟩ => exact Fin.ext (by show ((r.val * 8 + h.val) * 64 + e.val) / 512 = r.val; omega)
  | ⟨1, _⟩ => exact Fin.ext (by show 512 + ((r.val * 8 + h.val) * 64 + e.val) % 512 = 512 + (64 * h.val + e.val); omega)

include hP in
theorem v9 : Is3 (val_main_v9 (F := Ideal) a0) fun h r e => P r.val (1024 + (64 * h.val + e.val)) := fun h r e => by
  pointwise [val_main_v9_apply, val_main_v8_apply, val_main_v3_apply, val_main_v0_apply]
  refine Eq.trans (congrArg a0 (?_ : _ = ix2 r ⟨1024 + (64 * h.val + e.val), by omega⟩)) (hP _ _)
  funext a
  match a with
  | ⟨0, _⟩ => exact Fin.ext (by show ((r.val * 8 + h.val) * 64 + e.val) / 512 = r.val; omega)
  | ⟨1, _⟩ => exact Fin.ext (by show 1024 + ((r.val * 8 + h.val) * 64 + e.val) % 512 = 1024 + (64 * h.val + e.val); omega)

include hE in
theorem v35 : Is3 (val_main_v35 (F := Ideal) a1) fun h r e => E r.val (64 * h.val + e.val) := fun h r e => by
  pointwise [val_main_v35_apply, val_main_v34_apply, val_main_v33_apply]
  refine Eq.trans (congrArg a1 (?_ : _ = ix2 r ⟨64 * h.val + e.val, by omega⟩)) (hE _ _)
  funext a
  match a with
  | ⟨0, _⟩ => exact Fin.ext (by show ((r.val * 8 + h.val) * 64 + e.val) / 512 = r.val; omega)
  | ⟨1, _⟩ => exact Fin.ext (by show ((r.val * 8 + h.val) * 64 + e.val) % 512 = 64 * h.val + e.val; omega)

theorem real_dot {n : ℕ} {x y : Fin n → EReal} {f g : Fin n → ℝ} (hx : ∀ i, x i = ((f i : ℝ) : EReal)) (hy : ∀ i, y i = ((g i : ℝ) : EReal)) :
    ∑ i, x i * y i = ((∑ i, f i * g i : ℝ) : EReal) := by
  rw [← coe_sum]
  exact Finset.sum_congr rfl fun i _ => by rw [hx, hy, EReal.coe_mul]

include hP in
theorem v12 : Is3 (val_main_v12 (F := Ideal) a0) fun h r j => at2 P E Data.z h r.val j.val := fun h r j => by
  pointwise [val_main_v12_apply, val_main_v11_apply, val_main_cst_apply, val_main_v10_apply]
  have e : (∑ x, val_main_v5 (F := Ideal) a0 (lidx_main_v10 (ix3 h r j) x) * val_main_v7 (F := Ideal) a0 (ridx_main_v10 (ix3 h r j) x)) = _ :=
    real_dot (fun x => v5 hP h r x) fun x => v7 hP h j x
  rw [e, StickBKernelIdeal.Hand.eighth, ← EReal.coe_mul, z_eq E]

theorem v20 (q : Fin 1) (r j : Fin 4096) : val_main_v20 (F := Ideal) (ix3 q r j) = 1#1 ↔ j.val < r.val := by
  pointwise [val_main_v20_apply, val_main_v19_apply, val_main_v18_apply, val_main_v17_apply, val_main_v16_apply, val_main_v15_apply, val_main_v14_apply, val_main_v13_apply]
  exact WordCmp.cmpi_slt_ofNat_eq_one_iff (w := 32) (lt_of_lt_of_le j.isLt (by norm_num)) (lt_of_lt_of_le r.isLt (by norm_num))

theorem v23_1 (h : Fin 8) (r j : Fin 4096) : val_main_v23_1 (F := Ideal) (ix3 h r j) = 1#1 ↔ j.val < r.val := by
  rw [val_main_v23_1_apply, show idx_main_v23_1 (ix3 h r j) = ix3 (0 : Fin 1) r j from funext fun a => match a with
    | ⟨0, _⟩ => rfl
    | ⟨1, _⟩ => rfl
    | ⟨2, _⟩ => rfl]
  exact v20 0 r j

theorem v29_1 (h : Fin 8) (r j : Fin 4096) : val_main_v29_1 (F := Ideal) (ix3 h r j) = 1#1 ↔ j.val < r.val := by
  rw [val_main_v29_1_apply, show idx_main_v29_1 (ix3 h r j) = ix3 (0 : Fin 1) r j from funext fun a => match a with
    | ⟨0, _⟩ => rfl
    | ⟨1, _⟩ => rfl
    | ⟨2, _⟩ => rfl]
  exact v20 0 r j

/-- A choice by the flag of the earlier keys. -/
theorem pick {x y : EReal} {f : ℝ} {b : BitVec 1} {p : Prop} [Decidable p] (hb : b = 1#1 ↔ p) (hx : x = ((f : ℝ) : EReal)) (hy : y = 0) :
    Scalar.select b x y = ((if p then f else 0 : ℝ) : EReal) := by
  unfold Scalar.select
  by_cases h : p
  · rw [if_pos h, if_pos (show b = 1 from hb.2 h), hx]
  · rw [if_neg h, if_neg (show ¬b = 1 from fun h' => h (hb.1 h')), hy, EReal.coe_zero]

/-- The softplus function as the host computes it. -/
theorem soft (x : ℝ) : (if ((x : ℝ) : EReal) ≠ (x : EReal) then ((x : ℝ) : EReal) else
      max ((x : ℝ) : EReal) 0 + Ideal.log1p (Ideal.exp (-FloatOps.absf (F := Ideal) (φ := .f32) ((x : ℝ) : EReal)))) = ((sp x : ℝ) : EReal) := by
  rw [if_neg (by simp)]
  have e : -FloatOps.absf (F := Ideal) (φ := .f32) ((x : ℝ) : EReal) = ((-|x| : ℝ) : EReal) := by
    rw [Ideal.absf_def, abs_eq_max_neg, ← EReal.coe_neg, StickBKernelIdeal.Hand.coe_max', ← EReal.coe_neg]
  rw [e, Ideal.exp_coe, Ideal.log1p, show (1 : EReal) = ((1 : ℝ) : EReal) from rfl, ← EReal.coe_add, Ideal.log_coe,
    if_neg (not_le.mpr (by positivity)), show (0 : EReal) = ((0 : ℝ) : EReal) from rfl, StickBKernelIdeal.Hand.coe_max', ← EReal.coe_add]
  rfl

include hP in
theorem sp0 : Is3 (val_main_call0_v1_0 (F := Ideal) a0) fun h r j => sp (at2 P E Data.z h r.val j.val) := fun h r j => by
  pointwise [val_main_call0_v1_0_apply, val_main_call0_call0_v0_apply, val_main_call0_call0_v1_apply, val_main_call0_call0_v2_apply, val_main_call0_call0_v3_apply, val_main_call0_call0_v4_apply, val_main_call0_call0_v5_apply, val_main_call0_call0_v6_apply, val_main_call0_call0_v7_apply, val_main_call0_call0_v8_apply, val_main_call0_call0_v9_apply, val_main_call0_call0_v10_apply, val_main_call0_call0_v11_apply, val_main_call0_call0_cst_apply, val_main_call0_v0_apply, val_main_v21_apply]
  rw [v12 (E := E) hP, neg_neg]
  exact soft _

include hP in
theorem sp3 : Is3 (val_main_call3_v1_0 (F := Ideal) a0) fun h r j => sp (-at2 P E Data.z h r.val j.val) := fun h r j => by
  pointwise [val_main_call3_v1_0_apply, val_main_call3_call0_v0_apply, val_main_call3_call0_v1_apply, val_main_call3_call0_v2_apply, val_main_call3_call0_v3_apply, val_main_call3_call0_v4_apply, val_main_call3_call0_v5_apply, val_main_call3_call0_v6_apply, val_main_call3_call0_v7_apply, val_main_call3_call0_v8_apply, val_main_call3_call0_v9_apply, val_main_call3_call0_v10_apply, val_main_call3_call0_v11_apply, val_main_call3_call0_cst_apply, val_main_call3_v0_apply]
  rw [v12 (E := E) hP]
  exact soft _

theorem expo (x y : ℝ) : Ideal.exp ((if ((x : ℝ) : EReal) = Ideal.ofBits .f32 2139095040#32 then 0 else (x : EReal))
      - if ((y : ℝ) : EReal) = Ideal.ofBits .f32 2139095040#32 then 0 else (y : EReal)) = ((Real.exp (x - y) : ℝ) : EReal) := by
  rw [ofBits_inf, if_neg (EReal.coe_ne_top x), if_neg (EReal.coe_ne_top y), ← EReal.coe_sub, Ideal.exp_coe]

include hP in
theorem v22_1 : Is3 (val_main_v22_1 (F := Ideal) a0) fun h r j => Real.exp (lb (at2 P E Data.z h r.val j.val)) := fun h r j => by
  pointwise [val_main_v22_1_apply, val_main_call0_call0_v13_apply, val_main_call0_call0_v14_apply, val_main_call0_call0_v15_apply, val_main_call0_call0_v16_apply, val_main_call0_call0_v17_apply, val_main_call0_call0_v18_apply, val_main_call0_call0_v19_apply, val_main_call0_call0_v20_apply, val_main_call0_call0_v21_apply, val_main_call0_call0_cst_0_apply, val_main_call0_call0_cst_1_apply, val_main_call0_call0_cst_2_apply, val_main_call0_call0_cst_3_apply, val_main_call0_v0_apply, val_main_v21_apply]
  rw [sp0 (E := E) hP, v12 (E := E) hP, neg_neg]
  exact expo _ _

include hP in
theorem v26_1 : Is3 (val_main_v26_1 (F := Ideal) a0) fun h r j => 1 - Real.exp (lb (at2 P E Data.z h r.val j.val)) := fun h r j => by
  pointwise [val_main_v26_1_apply, val_main_call3_call0_v13_apply, val_main_call3_call0_v14_apply, val_main_call3_call0_v15_apply, val_main_call3_call0_v16_apply, val_main_call3_call0_v17_apply, val_main_call3_call0_v18_apply, val_main_call3_call0_v19_apply, val_main_call3_call0_v20_apply, val_main_call3_call0_v21_apply, val_main_call3_call0_cst_0_apply, val_main_call3_call0_cst_1_apply, val_main_call3_call0_cst_2_apply, val_main_call3_call0_cst_3_apply, val_main_call3_v0_apply]
  rw [sp3 (E := E) hP, v12 (E := E) hP]
  dsimp only
  rw [← exp_lb_neg, ← EReal.coe_neg]
  exact expo _ _

include hP in
theorem v23_0 : Is3 (val_main_v23_0 (F := Ideal) a0) fun h r j => -at2 P E Data.A h r.val j.val := fun h r j => by
  pointwise [val_main_v23_0_apply, val_main_v22_0_apply, val_main_call1_v2_apply, val_main_call1_v0_apply, val_main_cst_0_apply]
  refine Eq.trans (pick (v23_1 h r j) (show _ = ((-sp (at2 P E Data.z h r.val j.val) : ℝ) : EReal) by rw [sp0 (E := E) hP, EReal.coe_neg]) rfl) ?_
  unfold at2 Data.A
  split <;> simp

/-- The sum over a window that begins at its column. -/
theorem window_suffix (c : Fin 4096) (x : Fin 4096 → EReal) (g : ℕ → ℝ) (hx : ∀ j, x j = ((g j.val : ℝ) : EReal)) :
    (∑ w : Fin 4096, if hin : 0 ≤ c.val + w.val ∧ c.val + w.val - 0 < 4096 then x ⟨c.val + w.val - 0, hin.2⟩ else 0)
      = ((∑ j ∈ Finset.Ico c.val 4096, g j : ℝ) : EReal) := by
  have e : ∀ w : Fin 4096, (if hin : 0 ≤ c.val + w.val ∧ c.val + w.val - 0 < 4096 then x ⟨c.val + w.val - 0, hin.2⟩ else 0)
      = (((if c.val + w.val < 4096 then g (c.val + w.val) else 0 : ℝ)) : EReal) := fun w => by
    by_cases h : c.val + w.val < 4096
    · rw [dif_pos ⟨Nat.zero_le _, by omega⟩, if_pos h, hx]; rfl
    · rw [dif_neg (by omega), if_neg h, EReal.coe_zero]
  rw [Finset.sum_congr rfl fun w _ => e w, coe_sum, Fin.sum_univ_eq_sum_range (fun w => if c.val + w < 4096 then g (c.val + w) else 0) 4096,
    ← Finset.sum_filter, Finset.sum_Ico_eq_sum_range]
  congr 1
  refine Finset.sum_congr (Finset.ext fun w => ?_) fun _ _ => rfl
  rw [Finset.mem_filter, Finset.mem_range, Finset.mem_range]
  omega

/-- The sum over a window that ends at its column. -/
theorem window_prefix (c : Fin 4096) (x : Fin 4096 → EReal) (g : ℕ → ℝ) (hx : ∀ j, x j = ((g j.val : ℝ) : EReal)) :
    (∑ w : Fin 4096, if hin : 4095 ≤ c.val + w.val ∧ c.val + w.val - 4095 < 4096 then x ⟨c.val + w.val - 4095, hin.2⟩ else 0)
      = ((∑ j ∈ Finset.Ico 0 (c.val + 1), g j : ℝ) : EReal) := by
  have e : ∀ w : Fin 4096, (if hin : 4095 ≤ c.val + w.val ∧ c.val + w.val - 4095 < 4096 then x ⟨c.val + w.val - 4095, hin.2⟩ else 0)
      = (((if 4095 ≤ c.val + w.val then g (c.val + w.val - 4095) else 0 : ℝ)) : EReal) := fun w => by
    by_cases h : 4095 ≤ c.val + w.val
    · rw [dif_pos ⟨h, by omega⟩, if_pos h, hx]
    · rw [dif_neg (by omega), if_neg h, EReal.coe_zero]
  rw [Finset.sum_congr rfl fun w _ => e w, coe_sum, Fin.sum_univ_eq_sum_range (fun w => if 4095 ≤ c.val + w then g (c.val + w - 4095) else 0) 4096,
    ← Finset.sum_filter]
  refine congrArg (fun z : ℝ => (z : EReal)) ?_
  symm
  refine Finset.sum_bij (fun j _ => j + 4095 - c.val) ?_ ?_ ?_ ?_
  · intro j hj
    have := Finset.mem_Ico.1 hj
    exact Finset.mem_filter.2 ⟨Finset.mem_range.2 (by omega), by omega⟩
  · intro a ha b hb h
    have := Finset.mem_Ico.1 ha
    have := Finset.mem_Ico.1 hb
    omega
  · intro b hb
    obtain ⟨h1, h2⟩ := Finset.mem_filter.1 hb
    have := Finset.mem_range.1 h1
    exact ⟨c.val + b - 4095, Finset.mem_Ico.2 (by omega), by omega⟩
  · intro a ha
    have := Finset.mem_Ico.1 ha
    exact congrArg g (by omega)

theorem zero_lit (i : S_.Idx) : val_main_call2_v0 (F := Ideal) i = 0 := by
  pointwise [val_main_call2_v0_apply, val_main_call2_cst_apply]

include hP in
theorem v24 : Is3 (val_main_v24 (F := Ideal) a0) fun h r j => -at2 P E Data.C h r.val j.val := fun h r j => by
  unfold val_main_v24
  refine (window_last 0 4095 _ _ _ _ h r j ?_).trans ?_
  · exact zero_lit _
  · refine (window_suffix j (fun j => val_main_v23_0 (F := Ideal) a0 (ix3 h r j)) (fun j => -at2 P E Data.A h r.val j) fun j => v23_0 hP h r j).trans ?_
    rw [Finset.sum_neg_distrib]; rfl

include hP in
theorem v25 : Is3 (val_main_v25 (F := Ideal) a0) fun h r j => -at2 P E Data.C h r.val (j.val + 1) := fun h r j => by
  pointwise [val_main_v25_apply]
  rw [v24 (E := E) hP, v23_0 (E := E) hP, ← EReal.coe_sub]
  congr 1
  unfold at2 Data.C
  dsimp only
  rw [Finset.sum_eq_sum_Ico_succ_bot j.isLt]
  ring

include hP in
theorem v28 : Is3 (val_main_v28 (F := Ideal) a0) fun h r j => Real.exp (lb (at2 P E Data.z h r.val j.val) - at2 P E Data.C h r.val (j.val + 1)) := fun h r j => by
  pointwise [val_main_v28_apply, val_main_v27_apply, val_main_v26_0_apply]
  rw [sp3 (E := E) hP, v25 (E := E) hP, ← EReal.coe_neg, ← EReal.coe_add, Ideal.exp_coe]
  congr 2
  unfold lb
  dsimp only
  rw [sp_neg]; ring

include hP in
theorem v29_0 : Is3 (val_main_v29_0 (F := Ideal) a0) fun h r j => at2 P E Data.W h r.val j.val := fun h r j => by
  pointwise [val_main_v29_0_apply, val_main_call4_v2_apply, val_main_call4_v0_apply, val_main_cst_1_apply]
  exact pick (v29_1 h r j) (v28 (E := E) hP h r j) rfl

include hP hE in
theorem v38 : Is3 (val_main_v38 (F := Ideal) a0 a1) fun h r j => at2 P E Data.dw h r.val j.val := fun h r j => by
  pointwise [val_main_v38_apply]
  refine Eq.trans (real_dot (fun x => v35 hE h r x) fun x => v9 hP h j x) ?_
  rw [dw_eq]

include hP hE in
theorem v40 : Is3 (val_main_v40 (F := Ideal) a0 a1) fun h r j => at2 P E Data.G h r.val j.val := fun h r j => by
  pointwise [val_main_v40_apply, val_main_v39_apply, val_main_call5_v0_apply, val_main_call5_cst_apply]
  rw [v38 hP hE, v28 (E := E) hP, ← EReal.coe_mul]
  refine (pick (v29_1 h r j) rfl rfl).trans (congrArg _ ?_)
  unfold at2 Data.G Data.W
  dsimp only
  split
  · rw [mul_comm]
  · rw [zero_mul]

include hP hE in
theorem v43 : Is3 (val_main_v43 (F := Ideal) a0 a1) fun h r j => ∑ k ∈ Finset.Ico 0 (j.val + 1), at2 P E Data.G h r.val k := fun h r j => by
  unfold val_main_v43
  refine (window_last 4095 0 _ _ _ _ h r j ?_).trans ?_
  · exact zero_lit _
  · exact window_prefix j (fun j => val_main_v40 (F := Ideal) a0 a1 (ix3 h r j)) (fun j => at2 P E Data.G h r.val j) fun j => v40 hP hE h r j

include hP hE in
theorem v45 : Is3 (val_main_v45 (F := Ideal) a0 a1) fun h r j =>
    if j.val < r.val then at2 P E Data.S h r.val 0 - at2 P E Data.S h r.val j.val else 0 := fun h r j => by
  pointwise [val_main_v45_apply, val_main_call8_v0_apply, val_main_call8_cst_apply, val_main_v44_apply, val_main_v42_apply]
  refine pick (v23_1 h r j) ?_ rfl
  rw [v43 hP hE, v40 hP hE, ← EReal.coe_neg, ← EReal.coe_add]
  congr 1
  unfold at2 Data.S
  dsimp only
  rw [Finset.sum_Ico_succ_top (Nat.zero_le _), ← Finset.sum_Ico_consecutive _ (Nat.zero_le j.val) j.isLt.le]
  ring

include hP hE in
theorem v48 : Is3 (val_main_v48 (F := Ideal) a0 a1) fun h r j => at2 P E Data.dz h r.val j.val := fun h r j => by
  pointwise [val_main_v48_apply, val_main_v47_apply, val_main_v46_apply, val_main_call9_v1_apply, val_main_call9_v0_apply, val_main_v41_apply, val_main_call6_v1_apply, val_main_call6_v0_apply]
  rw [v45 hP hE, v40 hP hE, v22_1 (E := E) hP, v26_1 (E := E) hP]
  simp only [← EReal.coe_neg, ← EReal.coe_mul, ← EReal.coe_add]
  congr 1
  unfold at2 Data.dz
  split
  · ring
  · rename_i hh
    have g : (pair P E (h.val / 2)).G (h.val % 2) r.val j.val = 0 := StickBKernelIdeal.Hand.Data.G_zero _ _ (by omega)
    rw [g]; ring

include hP hE in
theorem v50 : Is3 (val_main_v50 (F := Ideal) a0 a1) fun h r j => at2 P E Data.dz h r.val j.val * (1 / 8) := fun h r j => by
  pointwise [val_main_v50_apply, val_main_v49_apply, val_main_cst_2_apply]
  rw [v48 hP hE, StickBKernelIdeal.Hand.eighth, ← EReal.coe_mul]

theorem real_sum {n : ℕ} (f g : Fin n → ℝ) : (∑ i, ((f i : ℝ) : EReal) * ((g i : ℝ) : EReal)) = ((∑ i, f i * g i : ℝ) : EReal) :=
  real_dot (fun _ => rfl) fun _ => rfl

/-! ### The results in the columns of their pair -/

include hP in
theorem v30 : Is3 (val_main_v30 (F := Ideal) a0) fun h r e =>
    ∑ j : Fin 4096, at2 P E Data.W h r.val j.val * P j.val (1024 + (64 * h.val + e.val)) := fun h r e => by
  rw [val_main_v30_apply]
  rw [Finset.sum_congr rfl fun x _ => congrArg₂ (· * ·) ((congrArg _ (show lidx_main_v30 (ix3 h r e) x = ix3 h r x from funext fun a => match a with
    | ⟨0, _⟩ => rfl
    | ⟨1, _⟩ => rfl
    | ⟨2, _⟩ => rfl)).trans (v29_0 (E := E) hP h r x)) ((congrArg _ (show ridx_main_v30 (ix3 h r e) x = ix3 h x e from funext fun a => match a with
    | ⟨0, _⟩ => rfl
    | ⟨1, _⟩ => rfl
    | ⟨2, _⟩ => rfl)).trans (v9 hP h x e))]
  exact real_sum _ _

include hP hE in
theorem v36 : Is3 (val_main_v36 (F := Ideal) a0 a1) fun h e j =>
    ∑ r : Fin 4096, E r.val (64 * h.val + e.val) * at2 P E Data.W h r.val j.val := fun h e j => by
  rw [val_main_v36_apply]
  rw [Finset.sum_congr rfl fun x _ => congrArg₂ (· * ·) ((congrArg _ (show lidx_main_v36 (ix3 h e j) x = ix3 h x e from funext fun a => match a with
    | ⟨0, _⟩ => rfl
    | ⟨1, _⟩ => rfl
    | ⟨2, _⟩ => rfl)).trans (v35 hE h x e)) ((congrArg _ (show ridx_main_v36 (ix3 h e j) x = ix3 h x j from funext fun a => match a with
    | ⟨0, _⟩ => rfl
    | ⟨1, _⟩ => rfl
    | ⟨2, _⟩ => rfl)).trans (v29_0 (E := E) hP h x j))]
  exact real_sum _ _

include hP hE in
theorem v51 : Is3 (val_main_v51 (F := Ideal) a0 a1) fun h j e =>
    ∑ r : Fin 4096, at2 P E Data.dz h r.val j.val * (1 / 8) * P r.val (64 * h.val + e.val) := fun h j e => by
  rw [val_main_v51_apply]
  rw [Finset.sum_congr rfl fun x _ => congrArg₂ (· * ·) ((congrArg _ (show lidx_main_v51 (ix3 h j e) x = ix3 h x j from funext fun a => match a with
    | ⟨0, _⟩ => rfl
    | ⟨1, _⟩ => rfl
    | ⟨2, _⟩ => rfl)).trans (v50 hP hE h x j)) ((congrArg _ (show ridx_main_v51 (ix3 h j e) x = ix3 h x e from funext fun a => match a with
    | ⟨0, _⟩ => rfl
    | ⟨1, _⟩ => rfl
    | ⟨2, _⟩ => rfl)).trans (v5 hP h x e))]
  exact real_sum _ _

include hP hE in
theorem v52 : Is3 (val_main_v52 (F := Ideal) a0 a1) fun h r e =>
    ∑ j : Fin 4096, at2 P E Data.dz h r.val j.val * (1 / 8) * P j.val (512 + (64 * h.val + e.val)) := fun h r e => by
  rw [val_main_v52_apply]
  rw [Finset.sum_congr rfl fun x _ => congrArg₂ (· * ·) ((congrArg _ (show lidx_main_v52 (ix3 h r e) x = ix3 h r x from funext fun a => match a with
    | ⟨0, _⟩ => rfl
    | ⟨1, _⟩ => rfl
    | ⟨2, _⟩ => rfl)).trans (v50 hP hE h r x)) ((congrArg _ (show ridx_main_v52 (ix3 h r e) x = ix3 h x e from funext fun a => match a with
    | ⟨0, _⟩ => rfl
    | ⟨1, _⟩ => rfl
    | ⟨2, _⟩ => rfl)).trans (v7 hP h x e))]
  exact real_sum _ _

/-- The head of a column, and its place in the head. -/
def hd (c : Fin 512) : Fin 8 := ⟨c.val / 64, by omega⟩
def el (c : Fin 512) : Fin 64 := ⟨c.val % 64, by omega⟩

theorem col_hd (c : Fin 512) : 64 * (hd c).val + (el c).val = c.val := by unfold hd el; dsimp only; omega

theorem v32 (r : Fin 4096) (c : Fin 512) : val_main_v32 (F := Ideal) a0 (ix2 r c) = val_main_v30 (F := Ideal) a0 (ix3 (hd c) r (el c)) := by
  pointwise [val_main_v32_apply, val_main_v31_apply]
  refine congrArg _ (funext fun a => match a with
    | ⟨0, _⟩ => Fin.ext (by show (r.val * 512 + c.val) / 64 % 8 = c.val / 64; omega)
    | ⟨1, _⟩ => Fin.ext (by show (r.val * 512 + c.val) / 512 = r.val; omega)
    | ⟨2, _⟩ => Fin.ext (by show (r.val * 512 + c.val) % 64 = c.val % 64; omega))

theorem v54 (r : Fin 4096) (c : Fin 512) : val_main_v54 (F := Ideal) a0 a1 (ix2 r c) = val_main_v36 (F := Ideal) a0 a1 (ix3 (hd c) (el c) r) := by
  pointwise [val_main_v54_apply, val_main_v53_apply, val_main_v37_apply]
  refine congrArg _ (funext fun a => match a with
    | ⟨0, _⟩ => Fin.ext (by show (r.val * 512 + c.val) / 64 % 8 = c.val / 64; omega)
    | ⟨1, _⟩ => Fin.ext (by show (r.val * 512 + c.val) % 64 = c.val % 64; omega)
    | ⟨2, _⟩ => Fin.ext (by show (r.val * 512 + c.val) / 512 = r.val; omega))

theorem v56 (r : Fin 4096) (c : Fin 512) : val_main_v56 (F := Ideal) a0 a1 (ix2 r c) = val_main_v51 (F := Ideal) a0 a1 (ix3 (hd c) r (el c)) := by
  pointwise [val_main_v56_apply, val_main_v55_apply]
  refine congrArg _ (funext fun a => match a with
    | ⟨0, _⟩ => Fin.ext (by show (r.val * 512 + c.val) / 64 % 8 = c.val / 64; omega)
    | ⟨1, _⟩ => Fin.ext (by show (r.val * 512 + c.val) / 512 = r.val; omega)
    | ⟨2, _⟩ => Fin.ext (by show (r.val * 512 + c.val) % 64 = c.val % 64; omega))

theorem v59 (r : Fin 4096) (c : Fin 512) : val_main_v59 (F := Ideal) a0 a1 (ix2 r c) = val_main_v52 (F := Ideal) a0 a1 (ix3 (hd c) r (el c)) := by
  pointwise [val_main_v59_apply, val_main_v58_apply, val_main_v57_apply]
  refine congrArg _ (funext fun a => match a with
    | ⟨0, _⟩ => Fin.ext (by show (r.val * 512 + c.val) / 64 % 8 = c.val / 64; omega)
    | ⟨1, _⟩ => Fin.ext (by show (r.val * 512 + c.val) / 512 = r.val; omega)
    | ⟨2, _⟩ => Fin.ext (by show (r.val * 512 + c.val) % 64 = c.val % 64; omega))

/-! ### The results per pair of heads -/

/-- Column `l` of pair `p`. -/
def pc (p : Fin 4) (l : Fin 128) : Fin 512 := ⟨128 * p.val + l.val, by omega⟩

theorem at2_pc (f : Data → ℕ → ℕ → ℕ → ℝ) (p : Fin 4) (l : Fin 128) (r j : ℕ) :
    at2 P E f (hd (pc p l)) r j = f (pair P E p.val) (head l) r j := by
  unfold at2
  rw [show (hd (pc p l)).val / 2 = p.val by unfold hd pc; dsimp only; omega, show (hd (pc p l)).val % 2 = head l by unfold hd pc head; dsimp only; omega]

theorem sum_fin (f : ℕ → ℝ) : ∑ j : Fin 4096, f j.val = ∑ j ∈ Finset.Ico 0 4096, f j := by
  rw [Fin.sum_univ_eq_sum_range f 4096, Finset.range_eq_Ico]

include hP in
theorem ref_o (r : Fin 4096) (p : Fin 4) (l : Fin 128) :
    val_main_v32 (F := Ideal) a0 (ix2 r (pc p l)) = (((pair P E p.val).o r.val l : ℝ) : EReal) := by
  rw [v32, v30 (E := E) hP]
  refine congrArg (fun z : ℝ => (z : EReal)) ?_
  unfold Data.o
  rw [← sum_fin fun j => (pair P E p.val).W (head l) r.val j * (pair P E p.val).v j l]
  refine Finset.sum_congr rfl fun j _ => ?_
  rw [at2_pc, col_hd]; rfl

include hP hE in
theorem ref_dv (j : Fin 4096) (p : Fin 4) (l : Fin 128) : val_main_v54 (F := Ideal) a0 a1 (ix2 j (pc p l))
    = ((∑ r : Fin 4096, (pair P E p.val).W (head l) r.val j.val * (pair P E p.val).d r.val l : ℝ) : EReal) := by
  rw [v54, v36 hP hE]
  refine congrArg (fun z : ℝ => (z : EReal)) (Finset.sum_congr rfl fun r _ => ?_)
  rw [at2_pc, col_hd, mul_comm]; rfl

include hP hE in
theorem ref_dk (j : Fin 4096) (p : Fin 4) (l : Fin 128) : val_main_v56 (F := Ideal) a0 a1 (ix2 j (pc p l))
    = ((∑ r : Fin 4096, (pair P E p.val).dz (head l) r.val j.val * (pair P E p.val).q r.val l : ℝ) : EReal) := by
  rw [v56, v51 hP hE]
  refine congrArg (fun z : ℝ => (z : EReal)) (Finset.sum_congr rfl fun r _ => ?_)
  rw [at2_pc, col_hd, mul_assoc, mul_comm (1 / 8 : ℝ)]; rfl

include hP hE in
theorem ref_dq (r : Fin 4096) (p : Fin 4) (l : Fin 128) : val_main_v59 (F := Ideal) a0 a1 (ix2 r (pc p l))
    = (((∑ j ∈ Finset.Ico 0 4096, ((pair P E p.val).dz 0 r.val j * ((pair P E p.val).k j l * lane 0 l)
        + (pair P E p.val).dz 1 r.val j * ((pair P E p.val).k j l * lane 1 l))) * (1 / 8) : ℝ) : EReal) := by
  rw [v59, v52 hP hE]
  refine congrArg (fun z : ℝ => (z : EReal)) ?_
  rw [← sum_fin fun j => (pair P E p.val).dz 0 r.val j * ((pair P E p.val).k j l * lane 0 l)
        + (pair P E p.val).dz 1 r.val j * ((pair P E p.val).k j l * lane 1 l), Finset.sum_mul]
  refine Finset.sum_congr rfl fun j _ => ?_
  rw [at2_pc, col_hd]
  have hk : P j.val (512 + (pc p l).val) = (pair P E p.val).k j.val l := rfl
  rw [hk]
  unfold lane
  rcases (show head l = 0 ∨ head l = 1 by unfold head; omega) with h | h
  · rw [h, show l.val / 64 = 0 from h]; norm_num; ring
  · rw [h, show l.val / 64 = 1 from h]; norm_num; ring

end Cert.StickBReferenceIdeal.Hand
-- ==== Proof.StickB.lean ====
/-
  The gradient of the stick-breaking attention: the kernel's three results are the reference's. Sixteen blocks of queries
  add up to the gradients of a pair of heads' keys and values.
-/
module

public import proofs.«01_k».proof.Proof.StickBPoint
public import proofs.«01_k».proof.Proof.StickBHost
public import proofs.«01_k».proof.Proof.StickBRef
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Hand

instance facts_finite_sb : Pre_finite_sb.Facts := by constructor <;> decide

end Cert.Hand

namespace Cert.StickBKernelIdeal.Hand

open Cert.StickBKernelIdeal Cert.StickBKernelIdeal.Gen Cert.StickBReferenceIdeal.Read Cert.Hand
open Cert.StickBReferenceIdeal.Hand (pair pc ref_o ref_dq ref_dk ref_dv)

variable (m : (ℓ : Loc nD τ sig) → Buf (Elt Ideal) ℓ)

/-- The real numbers an array of them holds. -/
def nums {n k : ℕ} (x : (⟨2, ![n, k]⟩ : Shape).Idx → EReal) (r c : ℕ) : ℝ :=
  if h : r < n ∧ c < k then (x (ix2 ⟨r, h.1⟩ ⟨c, h.2⟩)).toReal else 0

theorem nums_is {n k : ℕ} {x : (⟨2, ![n, k]⟩ : Shape).Idx → EReal} (hx : ∀ i, IsReal (x i)) (r : Fin n) (c : Fin k) :
    x (ix2 r c) = ((nums x r.val c.val : ℝ) : EReal) := by
  unfold nums
  rw [dif_pos ⟨r.isLt, c.isLt⟩]
  obtain ⟨y, hy⟩ := hx (ix2 r c)
  exact hy.trans (congrArg _ (by rw [show x (ix2 ⟨r.val, _⟩ ⟨c.val, _⟩) = _ from hy, EReal.toReal_coe]))

theorem pre (h : Pre_StickBKernelIdeal_finite_sb m) (c : Dev nD) :
    (∀ i, IsReal ((m (c.tc.loc main_arg0)) i)) ∧ ∀ i, IsReal ((m (c.tc.loc main_arg1)) i) := by
  have h := congrFun (h c) (fun i => i.elim0)
  unfold Pre_finite_sb.fn at h
  obtain ⟨h1, h2⟩ := andi_flags h
  haveI : Subsingleton (Pre_finite_sb.S_).Idx := ⟨fun a b => funext fun i => i.elim0⟩
  exact ⟨fun i => isReal_of_abs_lt (Host.reduce_andi_all _ _ _ _ _ h1 i),
    fun i => isReal_of_abs_lt (Host.reduce_andi_all _ _ _ _ _ h2 i)⟩

/-! ### What the windows stage -/

theorem idx : ∀ t : Fin (cfg0 (F := Ideal)).N, win0_0.index t = ![t.val % 16, t.val / 16]
    ∧ win0_1.index t = ![0, 4 + t.val / 16]
    ∧ win0_2.index t = ![0, 8 + t.val / 16]
    ∧ win0_3.index t = ![t.val % 16, t.val / 16]
    ∧ win0_4.index t = ![t.val % 16, t.val / 16]
    ∧ win0_5.index t = ![t.val % 16, t.val / 16]
    ∧ win0_6.index t = ![0, t.val / 16]
    ∧ win0_7.index t = ![0, t.val / 16] :=
  (by decide +kernel : ∀ t : Fin grid0.N, _)

theorem t_lt (t : Fin (cfg0 (F := Ideal)).N) : t.val < 64 := t.isLt

/-- The pair a grid point works on, its block of queries, and a row of that block. -/
def pr (t : Fin (cfg0 (F := Ideal)).N) : Fin 4 := ⟨t.val / 16, by have := t_lt t; omega⟩
def blk (t : Fin (cfg0 (F := Ideal)).N) : Fin 16 := ⟨t.val % 16, by omega⟩
def row (t : Fin (cfg0 (F := Ideal)).N) (r : Fin 256) : Fin 4096 := ⟨256 * (blk t).val + r.val, by have := (blk t).isLt; omega⟩
/-- A pair's columns of the queries, the keys and the values. -/
def qc (p : Fin 4) (l : Fin 128) : Fin 5120 := ⟨128 * p.val + l.val, by omega⟩
def kc (p : Fin 4) (l : Fin 128) : Fin 5120 := ⟨512 + (128 * p.val + l.val), by omega⟩
def vc (p : Fin 4) (l : Fin 128) : Fin 5120 := ⟨1024 + (128 * p.val + l.val), by omega⟩

theorem r0 (c : Dev nD) (t : Fin (cfg0 (F := Ideal)).N) (a : Fin 256) (b : Fin 128) :
    iblk m c 0 t (ix2 a b) = (m (c.tc.loc main_arg0)) (ix2 (row t a) (qc (pr t) b)) := by
  have e : (win0_0.blk t).view.emb (ix2 a b) = ix2 (row t a) (qc (pr t) b) := by
    unfold row qc pr blk
    blk_ext [idx t]
  refine (show iblk m c 0 t (ix2 a b) = V m c main_arg0 ((win0_0.blk t).view.emb (ix2 a b)) from rfl).trans ?_
  rw [V_main_arg0, e]

theorem r1 (c : Dev nD) (t : Fin (cfg0 (F := Ideal)).N) (a : Fin 4096) (b : Fin 128) :
    iblk m c 1 t (ix2 a b) = (m (c.tc.loc main_arg0)) (ix2 a (kc (pr t) b)) := by
  have e : (win0_1.blk t).view.emb (ix2 a b) = ix2 a (kc (pr t) b) := by
    unfold kc pr
    blk_ext [idx t]
  refine (show iblk m c 1 t (ix2 a b) = V m c main_arg0 ((win0_1.blk t).view.emb (ix2 a b)) from rfl).trans ?_
  rw [V_main_arg0, e]

theorem r2 (c : Dev nD) (t : Fin (cfg0 (F := Ideal)).N) (a : Fin 4096) (b : Fin 128) :
    iblk m c 2 t (ix2 a b) = (m (c.tc.loc main_arg0)) (ix2 a (vc (pr t) b)) := by
  have e : (win0_2.blk t).view.emb (ix2 a b) = ix2 a (vc (pr t) b) := by
    unfold vc pr
    blk_ext [idx t]
  refine (show iblk m c 2 t (ix2 a b) = V m c main_arg0 ((win0_2.blk t).view.emb (ix2 a b)) from rfl).trans ?_
  rw [V_main_arg0, e]

theorem r3 (c : Dev nD) (t : Fin (cfg0 (F := Ideal)).N) (a : Fin 256) (b : Fin 128) :
    iblk m c 3 t (ix2 a b) = val_main_v32 (F := Ideal) (m (c.tc.loc main_arg0)) (ix2 (row t a) (pc (pr t) b)) := by
  have e : (win0_3.blk t).view.emb (ix2 a b) = ix2 (row t a) (pc (pr t) b) := by
    unfold row pc pr blk
    blk_ext [idx t]
  refine (show iblk m c 3 t (ix2 a b) = V m c main_v32 ((win0_3.blk t).view.emb (ix2 a b)) from rfl).trans ?_
  rw [V_out, e]

theorem r4 (c : Dev nD) (t : Fin (cfg0 (F := Ideal)).N) (a : Fin 256) (b : Fin 128) :
    iblk m c 4 t (ix2 a b) = (m (c.tc.loc main_arg1)) (ix2 (row t a) (pc (pr t) b)) := by
  have e : (win0_4.blk t).view.emb (ix2 a b) = ix2 (row t a) (pc (pr t) b) := by
    unfold row pc pr blk
    blk_ext [idx t]
  refine (show iblk m c 4 t (ix2 a b) = V m c main_arg1 ((win0_4.blk t).view.emb (ix2 a b)) from rfl).trans ?_
  rw [V_main_arg1, e]

/-! ### The state after a grid point -/

section State
variable {m} {P E : ℕ → ℕ → ℝ} (c : Dev nD)
  (hP : ∀ (r : Fin 4096) (k : Fin 5120), (m (c.tc.loc main_arg0)) (ix2 r k) = ((P r.val k.val : ℝ) : EReal))
  (hE : ∀ (r : Fin 4096) (k : Fin 512), (m (c.tc.loc main_arg1)) (ix2 r k) = ((E r.val k.val : ℝ) : EReal))

include hP hE in
/-- A grid point adds its block of queries. -/
theorem stOf_is (t : Fin (cfg0 (F := Ideal)).N) {dk dv : Vec Ideal S4096x128 .f32} {p p' : Fin 4096 → Fin 128 → ℝ}
    (hdk : Is (start (grid0.coords t) k0_pay7 dk) p) (hdv : Is (start (grid0.coords t) k0_pay8 dv) p') :
    StIs (pair P E (pr t).val) (t.val % 16) 0 p p' (stOf m c t dk dv) := by
  have ec : (grid0.coords t 1).val = t.val % 16 := coord1 t
  have eb : (grid0.coords t 1 : Fin 16) = blk t := Fin.ext ec
  have h := final_is (D := pair P E (pr t).val) (grid0.coords t 1) (q := iblk m c 0 t) (d := iblk m c 4 t) (o := iblk m c 3 t) (kx := iblk m c 1 t) (vx := iblk m c 2 t)
    (f := fun r l => P (row t r).val (qc (pr t) l).val)
    (fun r l => (r0 m c t r l).trans (hP _ _)) (fun r l => by rw [eb]; rfl)
    (fun r l => (r4 m c t r l).trans ((hE _ _).trans (by rw [eb]; rfl))) (fun r l => (r3 m c t r l).trans ((ref_o (E := E) hP _ _ _).trans (by rw [eb]; rfl)))
    (fun j l => (r1 m c t j l).trans (hP _ _)) (fun j l => (r2 m c t j l).trans (hP _ _)) hdk hdv
  rw [show (grid0.coords t 1 : Fin 16).val = t.val % 16 from ec] at h
  exact h

theorem zero7 : Is (k0_pay7 (F := Ideal)) fun _ _ => 0 := fun r l => by pointwise [k0_pay7]; exact EReal.coe_zero.symm
theorem zero8 : Is (k0_pay8 (F := Ideal)) fun _ _ => 0 := fun r l => by pointwise [k0_pay8]; exact EReal.coe_zero.symm

theorem start_first (t : Fin (cfg0 (F := Ideal)).N) (h : t.val % 16 = 0) (z x : Vec Ideal S4096x128 .f32) : start (grid0.coords t) z x = z :=
  if_pos ((coord1 t).trans h)
theorem start_next (t : Fin (cfg0 (F := Ideal)).N) (h : ¬t.val % 16 = 0) (z x : Vec Ideal S4096x128 .f32) : start (grid0.coords t) z x = x :=
  if_neg fun e => h ((coord1 t).symm.trans e)

/-- The sums over the blocks of queries up to one. -/
def sumK (D : Data) (n : ℕ) (j : Fin 4096) (l : Fin 128) : ℝ := ∑ s ∈ Finset.range n, addK D s j.val l
def sumV (D : Data) (n : ℕ) (j : Fin 4096) (l : Fin 128) : ℝ := ∑ s ∈ Finset.range n, addV D s j.val l

include hP hE in
theorem stAt_is : ∀ (n : ℕ) (h : n < (cfg0 (F := Ideal)).N),
    CarryIs (pair P E (n / 16)) (n % 16) 0 (stAt m c n h).carry
    ∧ Is (stAt m c n h).dk (sumK (pair P E (n / 16)) (n % 16 + 1)) ∧ Is (stAt m c n h).dv (sumV (pair P E (n / 16)) (n % 16 + 1)) := by
  have done : ∀ (t : Fin (cfg0 (F := Ideal)).N) (dk dv : Vec Ideal S4096x128 .f32),
      Is (start (grid0.coords t) k0_pay7 dk) (sumK (pair P E (t.val / 16)) (t.val % 16)) →
      Is (start (grid0.coords t) k0_pay8 dv) (sumV (pair P E (t.val / 16)) (t.val % 16)) →
      CarryIs (pair P E (t.val / 16)) (t.val % 16) 0 (stOf m c t dk dv).carry
      ∧ Is (stOf m c t dk dv).dk (sumK (pair P E (t.val / 16)) (t.val % 16 + 1)) ∧ Is (stOf m c t dk dv).dv (sumV (pair P E (t.val / 16)) (t.val % 16 + 1)) := by
    intro t dk dv hdk hdv
    have h := stOf_is c hP hE t hdk hdv
    refine ⟨h.carry, h.dk.of_eq fun j l => ?_, h.dv.of_eq fun j l => ?_⟩
    · rw [if_pos (Nat.zero_le _)]; exact (Finset.sum_range_succ _ _).symm
    · rw [if_pos (Nat.zero_le _)]; exact (Finset.sum_range_succ _ _).symm
  intro n
  induction n with
  | zero =>
    intro h
    have h' := done ⟨0, h⟩ (k0_pay7 (F := Ideal)) (k0_pay8 (F := Ideal))
      (by rw [start_first _ rfl]; exact zero7.of_eq fun _ _ => (Finset.sum_range_zero _).symm)
      (by rw [start_first _ rfl]; exact zero8.of_eq fun _ _ => (Finset.sum_range_zero _).symm)
    exact h'
  | succ n ih =>
    intro h
    obtain ⟨_, hk, hv⟩ := ih (Nat.lt_of_succ_lt h)
    refine done ⟨n + 1, h⟩ _ _ ?_ ?_
    · by_cases h0 : (n + 1) % 16 = 0
      · rw [start_first ⟨n + 1, h⟩ h0]
        exact zero7.of_eq fun _ _ => by dsimp only; rw [h0]; exact (Finset.sum_range_zero _).symm
      · rw [start_next ⟨n + 1, h⟩ h0]
        exact hk.of_eq fun _ _ => by dsimp only; rw [show (n + 1) / 16 = n / 16 by omega, show (n + 1) % 16 = n % 16 + 1 by omega]
    · by_cases h0 : (n + 1) % 16 = 0
      · rw [start_first ⟨n + 1, h⟩ h0]
        exact zero8.of_eq fun _ _ => by dsimp only; rw [h0]; exact (Finset.sum_range_zero _).symm
      · rw [start_next ⟨n + 1, h⟩ h0]
        exact hv.of_eq fun _ _ => by dsimp only; rw [show (n + 1) / 16 = n / 16 by omega, show (n + 1) % 16 = n % 16 + 1 by omega]

/-- Sixteen blocks of 256 queries are all of them. -/
theorem all_rows (f : ℕ → ℝ) : ∑ s ∈ Finset.range 16, ∑ r : Fin 256, f (256 * s + r.val) = ∑ r : Fin 4096, f r.val := by
  rw [Fin.sum_univ_tiles 16 256 rfl, Finset.sum_range]
  exact Finset.sum_congr rfl fun s _ => Finset.sum_congr rfl fun r _ => congrArg f (by show 256 * s.val + r.val = s.val * 256 + r.val; omega)

include hP hE in
theorem dq_is (t : Fin (cfg0 (F := Ideal)).N) (r : Fin 256) (l : Fin 128) : k0_pay2 (stAt m c t.val t.isLt).carry.dq (ix2 r l)
    = val_main_v59 (F := Ideal) (m (c.tc.loc main_arg0)) (m (c.tc.loc main_arg1)) (ix2 (row t r) (pc (pr t) l)) :=
  (pay2_is (stAt_is c hP hE t.val t.isLt).1.dq r l).trans (ref_dq hP hE (row t r) (pr t) l).symm

include hP hE in
theorem dk_is (t : Fin (cfg0 (F := Ideal)).N) (h : t.val % 16 = 15) (j : Fin 4096) (l : Fin 128) : (stAt m c t.val t.isLt).dk (ix2 j l)
    = val_main_v56 (F := Ideal) (m (c.tc.loc main_arg0)) (m (c.tc.loc main_arg1)) (ix2 j (pc (pr t) l)) := by
  refine ((stAt_is c hP hE t.val t.isLt).2.1 j l).trans (Eq.trans (congrArg (fun z : ℝ => (z : EReal)) ?_) (ref_dk hP hE j (pr t) l).symm)
  rw [h]
  exact all_rows fun r => (pair P E (pr t).val).dz (head l) r j.val * (pair P E (pr t).val).q r l

include hP hE in
theorem dv_is (t : Fin (cfg0 (F := Ideal)).N) (h : t.val % 16 = 15) (j : Fin 4096) (l : Fin 128) : (stAt m c t.val t.isLt).dv (ix2 j l)
    = val_main_v54 (F := Ideal) (m (c.tc.loc main_arg0)) (m (c.tc.loc main_arg1)) (ix2 j (pc (pr t) l)) := by
  refine ((stAt_is c hP hE t.val t.isLt).2.2 j l).trans (Eq.trans (congrArg (fun z : ℝ => (z : EReal)) ?_) (ref_dv hP hE j (pr t) l).symm)
  rw [h]
  exact all_rows fun r => (pair P E (pr t).val).W (head l) r j.val * (pair P E (pr t).val).d r l

end State

/-! ### The three results -/

theorem emb_5 (t : Fin (cfg0 (F := Ideal)).N) (a : Fin 256) (b : Fin 128) : (((cfg0 (F := Ideal)).win 5).blk t).view.emb (ix2 a b) = ix2 (row t a) (pc (pr t) b) := by
  unfold row pc pr blk
  blk_ext [idx t]
theorem emb_6 (t : Fin (cfg0 (F := Ideal)).N) (a : Fin 4096) (b : Fin 128) : (((cfg0 (F := Ideal)).win 6).blk t).view.emb (ix2 a b) = ix2 a (pc (pr t) b) := by
  unfold pc pr
  blk_ext [idx t]
theorem emb_7 (t : Fin (cfg0 (F := Ideal)).N) (a : Fin 4096) (b : Fin 128) : (((cfg0 (F := Ideal)).win 7).blk t).view.emb (ix2 a b) = ix2 a (pc (pr t) b) := by
  unfold pc pr
  blk_ext [idx t]

theorem final_5 (p : Pre_StickBKernelIdeal_finite_sb m) (c : Dev nD) :
    (dats m 0 c).arrAt 5 (cfgs (F := Ideal) 0).N = val_main_v59 (F := Ideal) (m (c.tc.loc main_arg0)) (m (c.tc.loc main_arg1)) := by
  refine (dats m 0 c).arrAt_eq_of_covers 5 _ (by decide +kernel) fun t hf y => ?_
  obtain ⟨f0, f1⟩ := pre m p c
  rw [after0_5]
  have ey : y = ix2 (y 0 : Fin 256) (y 1 : Fin 128) := eq_ix2 y
  rw [ey]
  exact (dq_is c (nums_is f0) (nums_is f1) t (y 0) (y 1)).trans (congrArg _ (emb_5 t (y 0) (y 1)).symm)

theorem final_6 (p : Pre_StickBKernelIdeal_finite_sb m) (c : Dev nD) :
    (dats m 0 c).arrAt 6 (cfgs (F := Ideal) 0).N = val_main_v56 (F := Ideal) (m (c.tc.loc main_arg0)) (m (c.tc.loc main_arg1)) := by
  refine (dats m 0 c).arrAt_eq_of_covers 6 _ (by decide +kernel) fun t hf y => ?_
  obtain ⟨f0, f1⟩ := pre m p c
  rw [after0_6]
  have ey : y = ix2 (y 0 : Fin 4096) (y 1 : Fin 128) := eq_ix2 y
  rw [ey]
  exact (dk_is c (nums_is f0) (nums_is f1) t ((flush0_6 t).mp hf) (y 0) (y 1)).trans (congrArg _ (emb_6 t (y 0) (y 1)).symm)

theorem final_7 (p : Pre_StickBKernelIdeal_finite_sb m) (c : Dev nD) :
    (dats m 0 c).arrAt 7 (cfgs (F := Ideal) 0).N = val_main_v54 (F := Ideal) (m (c.tc.loc main_arg0)) (m (c.tc.loc main_arg1)) := by
  refine (dats m 0 c).arrAt_eq_of_covers 7 _ (by decide +kernel) fun t hf y => ?_
  obtain ⟨f0, f1⟩ := pre m p c
  rw [after0_7]
  have ey : y = ix2 (y 0 : Fin 4096) (y 1 : Fin 128) := eq_ix2 y
  rw [ey]
  exact (dv_is c (nums_is f0) (nums_is f1) t ((flush0_7 t).mp hf) (y 0) (y 1)).trans (congrArg _ (emb_7 t (y 0) (y 1)).symm)

/-- The run: the three results are what the proof data say, and the arguments end unchanged. -/
theorem results (g : Dev nD → PrngReg) : θ_run defs (onTc (τ := τ) (main (F := Ideal))) ⟨m, fun _ => 0, g⟩ (fun r => ∀ c : Dev nD,
      r.2.mem (c.tc.loc main_v33_0) = (dats m 0 c).arrAt 5 (cfgs (F := Ideal) 0).N
      ∧ r.2.mem (c.tc.loc main_v33_1) = (dats m 0 c).arrAt 6 (cfgs (F := Ideal) 0).N
      ∧ r.2.mem (c.tc.loc main_v33_2) = (dats m 0 c).arrAt 7 (cfgs (F := Ideal) 0).N
      ∧ r.2.mem (c.tc.loc main_arg0) = m (c.tc.loc main_arg0) ∧ r.2.mem (c.tc.loc main_arg1) = m (c.tc.loc main_arg1)) :=
  (θ_run defs _ _).mono (fun _ h c => ⟨(h.1 c).1 5, (h.1 c).1 6, (h.1 c).1 7, (h.2 c).1, (h.2 c).2⟩) (θ_run_and (run_main m g) (unchanged m g))

end Cert.StickBKernelIdeal.Hand

namespace Cert.Hand

/-- The kernel's three results are the reference's. -/
theorem StickB : algebraic_StickBKernelIdeal_StickBReferenceIdeal_pre_finite_sb := by
  pair_intro
  · exact StickBKernelIdeal.Hand.results m g
  · refine (θ_run _ _ _).mono ?_ (StickBReferenceIdeal.Value.run m' g')
    intro r h c
    obtain ⟨r0, r1, r2, h0, h1⟩ := h c
    obtain ⟨a0, a1⟩ := hagree c
    refine ⟨r0.trans ((StickBReferenceIdeal.Read.val_main_v59_eq m' c).trans ?_), r1.trans ((StickBReferenceIdeal.Read.val_main_v56_eq m' c).trans ?_), r2.trans ((StickBReferenceIdeal.Read.val_main_v54_eq m' c).trans ?_), h0, h1⟩
    · rw [a0, a1]
      exact (StickBKernelIdeal.Hand.final_5 m hpre c).symm
    · rw [a0, a1]
      exact (StickBKernelIdeal.Hand.final_6 m hpre c).symm
    · rw [a0, a1]
      exact (StickBKernelIdeal.Hand.final_7 m hpre c).symm

/-- The reference runs and leaves its arguments as they were. -/
theorem ref_StickB : quiescent_StickBReferenceIdeal := by
  intro m g hpre
  hlo_run
  all_goals first
    | exact fun _ => by simp
    | exact sem_eq_zero_of_no_sems (sig := StickBReferenceIdeal.sig) (by decide) _

end Cert.Hand

end
-- ==== Proof.MemFwd.lean ====
/-
  The attention over the memory tokens: each head's softmax of its scores, and the average of the values it weighs.
-/
module

public import proofs.«01_k».proof.Proof.Gen.MemFwdKernelIdeal.Frame
public import proofs.«01_k».proof.Proof.Gen.MemFwdReferenceIdeal.Read
public import Idealize.ShloMosaic.Lib.Pipeline.ValueKit
public import Idealize.ShloMosaic.Lib.Claim
public import proofs.«01_k».proof.Defs
public import proofs.«01_k».proof.Proof.Mem

@[expose] public section

set_option maxRecDepth 16384

noncomputable section

open Idealize.ShloMosaic Idealize.ShloMosaic.TcCoe Idealize.SL.Sem
open Idealize.ShloMosaic.Pipeline (Dat)

namespace Cert.MemFwdKernelIdeal.Hand

open Cert.MemKernelIdeal.Hand (sc hc hk hv ksc host_max_last hc_div)
open Cert.MemFwdKernelIdeal Cert.MemFwdKernelIdeal.Gen Cert.MemFwdReferenceIdeal.Read Cert.Hand

variable (m : (ℓ : Loc nD τ sig) → Buf (Elt Ideal) ℓ)

/-! ## The reference, row by row -/

section Ref
variable (a0 : FVec Ideal MemFwdReferenceIdeal.S4096x1024 .bf16) (a1 : FVec Ideal MemFwdReferenceIdeal.S256x2048 .bf16)

theorem v9 (h : Fin 4) (r : Fin 4096) (j : Fin 256) : val_main_v9 (F := Ideal) a0 a1 (ix3 h r j) = sc a0 a1 h r j := by
  pointwise [val_main_v0, val_main_v1, val_main_v2, val_main_v4, val_main_v5, val_main_v7, val_main_cst, val_main_v8, val_main_v9]
  rfl

theorem v12 (h : Fin 4) (r : Fin 4096) : val_main_v12 (F := Ideal) a0 a1 (ix2 h r) = rowMax (sc a0 a1 h r) := by
  rw [val_main_v12_apply, val_main_v11_apply, val_main_cst_1_apply, show val_main_v10 (F := Ideal) a0 a1 (ix2 h r) = rowMax (sc a0 a1 h r) from ?_]
  · exact max_rowMax _
  · refine (host_max_last _ _ _ _ h r).trans ?_
    unfold rowMax
    congr 1
    funext k
    exact v9 a0 a1 h r k

theorem v16 (h : Fin 4) (r : Fin 4096) (j : Fin 256) : val_main_v16 (F := Ideal) a0 a1 (ix3 h r j) = rowExp (sc a0 a1 h r) j := by
  pointwise [val_main_v13, val_main_v14, val_main_v15, val_main_v16]
  simp only [v9, v12]
  rfl

theorem v17 (h : Fin 4) (r : Fin 4096) : val_main_v17 (F := Ideal) a0 a1 (ix2 h r) = rowSum (sc a0 a1 h r) := by
  pointwise [val_main_cst_2, val_main_v17]
  simp only [v16]
  rfl

theorem v24 (h : Fin 4) (r : Fin 4096) (x : Fin 256) : val_main_v24 (F := Ideal) a0 a1 (ix2 r (hc h x))
    = ∑ j : Fin 256, Ideal.div (rowExp (sc a0 a1 h r) j) (rowSum (sc a0 a1 h r)) * a1 (ix2 j (hv h x)) := by
  pointwise [val_main_v0, val_main_v3, val_main_v6, val_main_v18, val_main_v19, val_main_v20, val_main_v21, val_main_v22, val_main_v23, val_main_v24]
  simp only [hc_div, v16, v17]
  exact Finset.sum_congr rfl fun j _ => mul_comm _ _

end Ref

/-! ## The kernel at a grid point -/

theorem pay1 (v0 : Vec Ideal S2048x256 .bf16) (v1 v2 : Vec Ideal S256x256 .bf16) (y : S2048x256.Idx) :
    k0_pay1 v0 v1 v2 y = ∑ j : Fin 256, Ideal.div (rowExp (ksc v0 v1 (y 0)) j) (rowSum (ksc v0 v1 (y 0))) * v2 (ix2 j (y 1)) := by
  pointwise [k0_pay1]
  rfl

/-- The block each window stages at a grid point. -/
theorem idx : ∀ t : Fin cfg0.N, win0_0.index t = ![t.val % 2, t.val / 2]
    ∧ win0_1.index t = ![0, t.val / 2]
    ∧ win0_2.index t = ![0, 4 + t.val / 2]
    ∧ win0_3.index t = ![t.val % 2, t.val / 2] :=
  (by decide +kernel : ∀ t : Fin grid0.N, _)

theorem t_lt (t : Fin cfg0.N) : t.val < 8 := t.isLt

/-- The head a grid point works on, and the row of the whole array that is row `a` of its block. -/
def hd (t : Fin cfg0.N) : Fin 4 := ⟨t.val / 2, by have := t_lt t; omega⟩
def row (t : Fin cfg0.N) (a : Fin 2048) : Fin 4096 := ⟨t.val % 2 * 2048 + a.val, by omega⟩

theorem r0 (c : Dev nD) (t : Fin cfg0.N) (z : S2048x256.Idx) : iblk m c 0 t z = (m (c.tc.loc main_arg0)) (ix2 (row t (z 0)) (hc (hd t) (z 1))) := by
  unfold row hc hd
  blk_point [iblk, V, idx t]
theorem r1 (c : Dev nD) (t : Fin cfg0.N) (z : S256x256.Idx) : iblk m c 1 t z = (m (c.tc.loc main_arg1)) (ix2 (z 0) (hk (hd t) (z 1))) := by
  unfold hk hd
  blk_point [iblk, V, idx t]
theorem r2 (c : Dev nD) (t : Fin cfg0.N) (z : S256x256.Idx) : iblk m c 2 t z = (m (c.tc.loc main_arg1)) (ix2 (z 0) (hv (hd t) (z 1))) := by
  unfold hv hd
  blk_point [iblk, V, idx t]

theorem point_3 (c : Dev nD) (t : Fin cfg0.N) (y : S2048x256.Idx) :
    k0_pay1 (iblk m c 0 t) (iblk m c 1 t) (iblk m c 2 t) y
      = val_main_v24 (F := Ideal) (m (c.tc.loc main_arg0)) (m (c.tc.loc main_arg1)) (ix2 (row t (y 0)) (hc (hd t) (y 1))) := by
  have e : ksc (iblk m c 0 t) (iblk m c 1 t) (y 0) = sc (m (c.tc.loc main_arg0)) (m (c.tc.loc main_arg1)) (hd t) (row t (y 0)) := by
    funext j
    unfold ksc sc
    rw [ofBits_sixteen, ofBits_sixteenth, Ideal.div_coe (by norm_num : (16 : ℝ) ≠ 0)]
    simp only [r0, r1]
    rfl
  refine (pay1 _ _ _ y).trans (Eq.trans ?_ (v24 _ _ _ _ _).symm)
  rw [e]
  simp only [r2]
  rfl

theorem emb_3 (t : Fin cfg0.N) (y : S2048x256.Idx) : ((cfg0.win 3).blk t).view.emb y = ix2 (row t (y 0)) (hc (hd t) (y 1)) := by
  unfold row hc hd
  blk_ext [idx t]

theorem final_3 (c : Dev nD) : (dats m 0 c).arrAt 3 (cfgs 0).N = val_main_v24 (F := Ideal) (m (c.tc.loc main_arg0)) (m (c.tc.loc main_arg1)) := by
  refine (dats m 0 c).arrAt_eq_of_covers 3 _ (by decide +kernel) fun t hf y => ?_
  rw [after0_3]
  frame_out
  exact (point_3 m c t y).trans (congrArg _ (emb_3 t y).symm)

end Cert.MemFwdKernelIdeal.Hand

namespace Cert.Hand

/-- The kernel's result is the reference's. -/
theorem MemFwd : algebraic_MemFwdKernelIdeal_MemFwdReferenceIdeal := by
  pair_intro
  · run_from MemFwdKernelIdeal.Gen.run_main m g
  · refine (θ_run _ _ _).mono ?_ (MemFwdReferenceIdeal.Value.run m' g')
    intro r h c
    obtain ⟨r0, h0, h1⟩ := h c
    obtain ⟨a0, a1⟩ := hagree c
    refine ⟨r0.trans ((MemFwdReferenceIdeal.Read.val_main_v24_eq _ _).trans ?_), h0, h1⟩
    · rw [a0, a1]
      exact (MemFwdKernelIdeal.Hand.final_3 m c).symm

/-- The reference runs and leaves its arguments as they were. -/
theorem ref_MemFwd : quiescent_MemFwdReferenceIdeal := by
  intro m g hpre
  hlo_run
  all_goals first
    | exact fun _ => by simp
    | exact sem_eq_zero_of_no_sems (sig := MemFwdReferenceIdeal.sig) (by decide) _

end Cert.Hand

end
-- ==== Proof.StickFBody.lean ====
/-
  What one grid point of the stick-breaking attention's forward kernel computes, as functions of what it reads: the
  constants of a query block (`Env`), the sums carried from key block to key block (`Carry`), and what a key block makes of
  them: the query block's own (`Diag`) and an earlier one (`Step`). The names `vN` are the printed kernel's.
-/
module

public import proofs.«01_k».proof.Proof.Gen.StickFKernelIdeal.Skeleton
public import proofs.«01_k».proof.Proof.StickBBody

@[expose] public section

noncomputable section

namespace Cert.StickFKernelIdeal.Hand

open Cert.StickFKernelIdeal Cert.StickFKernelIdeal.Gen
open Cert.StickBKernelIdeal.Hand (Tiles tiles)
open Idealize.ShloMosaic Idealize.ShloMosaic.TcCoe

variable {F : FTy → Type} [FloatOps F] [Named F]

/-- What a query block's point holds fixed over its key blocks: the lane masks of the two heads (`v26`, `v29`), the column
    numbers `v2`, the scaled queries `v19` and the triangle of ones `v14`. -/
structure Env (F : FTy → Type) where
  v26 : FVec F S128x128 .bf16
  v29 : FVec F S128x128 .bf16
  v2 : IVec S256x128 32
  v19 : FVec F S256x128 .bf16
  v14 : FVec F S256x256 .bf16

/-- A query block's constants from its queries. -/
def env (q : Vec F S256x128 .bf16) : Env F := ⟨k0_pay10, k0_pay11, k0_pay6, k0_pay8 q, k0_pay7⟩

/-- The sums carried from key block to key block, going backward: per head the log weights already taken (`c0`, `c1`), and
    the output. -/
structure Carry (F : FTy → Type) where
  c0 : FVec F S256x128 .f32
  c1 : FVec F S256x128 .f32
  acc : FVec F S256x128 .f32

/-- The state between two key blocks: whether a weight is still alive, and the sums. -/
structure St (F : FTy → Type) where
  live : BitVec 1
  carry : Carry F

/-! ### The query block's own key block -/

namespace Diag
variable (e : Env F) (T : Tiles F)

def v53 : FVec F S256x128 .bf16 := k0_pay13 e.v26 e.v29 T.v1
def v58 : FVec F S256x128 .bf16 := k0_pay14 e.v26 e.v29 T.v0
def v61 : IVec S128x128 1 := k0_pay15 e.v2
def v63 : IVec S256x128 1 := k0_pay16 e.v2
def v66 : FVec F S256x256 .f32 := k0_pay18 e.v19 e.v26 e.v29 T.k0
def v78 : FVec F S128x128 .f32 := k0_pay21 e.v19 e.v26 e.v29 T.k1
def v80 : FVec F S128x128 .f32 := k0_pay22 e.v2 e.v19 e.v26 e.v29 T.k1
def v81 : FVec F S128x128 .f32 := k0_pay23 e.v19 e.v26 e.v29 T.k1
def v83 : FVec F S128x128 .f32 := k0_pay24 e.v19 e.v26 e.v29 T.k1
def v84 : FVec F S128x128 .f32 := k0_pay25 e.v19 e.v26 e.v29 T.k1
def v92 : FVec F S128x128 .f32 := k0_pay28 (v81 e T) (v83 e T) (v84 e T) (k0_pay26 (F := F))
def v106 : FVec F S256x128 .f32 := k0_pay31 (v66 e T)
def v108 : FVec F S256x128 .f32 := k0_pay32 (v63 e) (v66 e T)
def v120 : FVec F S256x128 .f32 := k0_pay35 (v66 e T)
def v122 : FVec F S256x128 .f32 := k0_pay36 (v63 e) (v66 e T)
def v128 : FVec F S128x256 .f32 := k0_pay37 e.v14 (v80 e T)
def v133 : FVec F S128x256 .bf16 := k0_pay38 (v61 e) (v83 e T) (v84 e T) (k0_pay26 (F := F))
def v146 : FVec F S256x256 .f32 := k0_pay41 e.v14 (v122 e T)
def v154 : FVec F S128x128 .bf16 := k0_pay42 (k0_pay12 (F := F)) (v61 e) (v78 e T) (v128 e T)
def v167 : FVec F S128x128 .bf16 := k0_pay44 e.v14 (k0_pay12 (F := F)) (v61 e) (v92 e T) (v133 e T) (constant S128x256 .f32 0x00000000#32)
def v172 : FVec F S256x128 .f32 := k0_pay45 e.v14 (k0_pay12 (F := F)) (v133 e T) (constant S128x256 .f32 0x00000000#32)
def v179 : FVec F S256x128 .bf16 := k0_pay46 e.v14 (k0_pay12 (F := F)) (v63 e) (v106 e T) (v108 e T) (v128 e T)
def v181 : FVec F S256x128 .f32 := k0_pay47 e.v14 (k0_pay12 (F := F)) (v108 e T) (v128 e T)
def v187 : FVec F S256x128 .f32 := k0_pay48 e.v14 (k0_pay12 (F := F)) (v63 e) (v120 e T) (v122 e T) (v133 e T) (constant S128x256 .f32 0x00000000#32)

/-- The query block's own key block. -/
def out : St F where
  carry := ⟨v181 e T, k0_pay1 (v146 e T) (v172 e T), k0_pay2 (k0_pay12 (F := F)) (v53 e T) (v58 e T) (v154 e T) (v167 e T) (v179 e T) (v187 e T)⟩
  live := Scalar.cmpf .olt (k0_pay3 (v146 e T) (v172 e T) (v181 e T)) (Named.named κ "dead" 0x42D00000#32)

end Diag

/-! ### An earlier key block -/

namespace Step
variable (e : Env F) (T : Tiles F) (s : Carry F)

def v234 : FVec F S256x128 .bf16 := k0_pay49 e.v26 e.v29 T.v1
def v239 : FVec F S256x128 .bf16 := k0_pay50 e.v26 e.v29 T.v0
def v244 : FVec F S256x256 .f32 := k0_pay51 e.v26 e.v29 e.v19 T.k1
def v245 : FVec F S256x256 .f32 := k0_pay52 e.v26 e.v29 e.v19 T.k0
def v246 : FVec F S256x128 .f32 := k0_pay53 e.v26 e.v29 e.v19 T.k1
def v248 : FVec F S256x128 .f32 := k0_pay54 e.v26 e.v29 e.v19 T.k1
def v251 : FVec F S256x128 .f32 := k0_pay55 e.v26 e.v29 e.v19 T.k1
def v257 : FVec F S256x128 .f32 := k0_pay57 (v246 e T) (v248 e T) (v251 e T)
def v268 : FVec F S256x128 .f32 := k0_pay59 (v244 e T)
def v269 : FVec F S256x128 .f32 := k0_pay60 (v244 e T)
def v280 : FVec F S256x128 .f32 := k0_pay62 (v245 e T)
def v281 : FVec F S256x128 .f32 := k0_pay63 (v245 e T)
def v292 : FVec F S256x128 .f32 := k0_pay65 (v245 e T)
def v293 : FVec F S256x128 .f32 := k0_pay66 (v245 e T)
def v299 : FVec F S256x256 .f32 := k0_pay67 e.v14 (v248 e T) (v251 e T)
def v300 : FVec F S256x128 .bf16 := k0_pay68 (v244 e T)

/-- An earlier key block. -/
def out : St F where
  carry := ⟨k0_pay74 e.v14 s.c0 (v280 e T) (v299 e T), k0_pay75 e.v14 s.c1 (v268 e T) (v292 e T) (v300 e T),
    k0_pay76 e.v14 s.c0 s.c1 s.acc (v234 e T) (v239 e T) (v257 e T) (v268 e T) (v269 e T) (v280 e T) (v281 e T) (v292 e T) (v293 e T) (v299 e T) (v300 e T)⟩
  live := Scalar.cmpf .olt (k0_pay5 (k0_pay77 e.v14 s.c0 s.c1 (v268 e T) (v280 e T) (v292 e T) (v299 e T) (v300 e T))) (Named.named κ "dead" 0x42D00000#32)

end Step

/-! ### The key blocks in order -/

/-- The key blocks below `k`, from the last to the first, while a weight is alive. -/
def loop (e : Env F) (kx vx : Vec F S4096x128 .bf16) : (k : ℕ) → k ≤ 16 → St F → St F
  | 0, _, s => s
  | k + 1, hk, s => if s.live = 1#1 then loop e kx vx k (Nat.le_of_succ_le hk) (Step.out e (tiles kx vx ⟨k, hk⟩) s.carry) else s

/-- The output of query block `i`: its own key block, then the earlier ones. -/
def final (i : Fin 16) (q : Vec F S256x128 .bf16) (kx vx : Vec F S4096x128 .bf16) : FVec F S256x128 .f32 :=
  (loop (env q) kx vx i.val (Nat.le_of_lt i.isLt) (Diag.out (env q) (tiles kx vx i))).carry.acc

end Cert.StickFKernelIdeal.Hand

end
-- ==== Proof.StickFRun.lean ====
/-
  One grid point of the stick-breaking attention's forward kernel: from the values its windows hold, the values it leaves.
  Its key loop, started after block `k` with the sums a state holds, goes through the key blocks below `k` from the last to
  the first and returns the state `loop` names.
-/
module

public import proofs.«01_k».proof.Proof.StickFBody
public import proofs.«01_k».proof.Proof.Gen.StickFKernelIdeal.Launch
public import proofs.«01_k».proof.Proof.StickBLoop
public import proofs.«01_k».proof.Proof.Owns

@[expose] public section

set_option maxRecDepth 16384

noncomputable section

namespace Cert.StickFKernelIdeal.Hand

open Cert.StickFKernelIdeal Cert.StickFKernelIdeal.Gen Cert.Hand
open Cert.StickBKernelIdeal.Hand (Tiles tiles off off_inb 𝒱₀ and_one and_zero)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Before key block `k` the counter stands at `i - (k + 1)`. -/
def ctr (i : grid0.Coords) (k : ℕ) : BitVec 32 := BitVec.ofNat 32 ((i 1).val - k)

theorem off1_eq (i : grid0.Coords) (r : Fin 2) : k0_off1 i (BitVec.ofNat 32 r.val) = off (i 1).val r.val :=
  (by decide +kernel : ∀ (j : Fin 16) (r : Fin 2), k0_off1 (fun a => match a with | 0 => (0 : Fin 4) | 1 => j) (BitVec.ofNat 32 r.val)
    = off j.val r.val) (i 1) r

theorem off2_eq (i : grid0.Coords) (k : Fin 16) (hk : k.val < (i 1).val) (r : Fin 2) :
    k0_off2 i (ctr i (k.val + 1)) (BitVec.ofNat 32 r.val) = off k.val r.val :=
  (by decide +kernel : ∀ (j k : Fin 16) (r : Fin 2), k.val < j.val →
    k0_off2 (fun a => match a with | 0 => (0 : Fin 4) | 1 => j) (BitVec.ofNat 32 (j.val - (k.val + 1))) (BitVec.ofNat 32 r.val)
      = off k.val r.val) (i 1) k r hk

theorem chk (i : grid0.Coords) (k : Fin 16) (hk : k.val < (i 1).val) : k0_chk1 i (ctr i (k.val + 1)) :=
  (by decide +kernel : ∀ (j k : Fin 16), k.val < j.val →
    k0_chk1 (fun a => match a with | 0 => (0 : Fin 4) | 1 => j) (BitVec.ofNat 32 (j.val - (k.val + 1)))) (i 1) k hk

theorem more (i : grid0.Coords) (k : Fin 16) (hk : k.val < (i 1).val) :
    Scalar.cmpi .slt (ctr i (k.val + 1)) (BitVec.ofNat 32 (i 1).val) = 1#1 :=
  (by decide +kernel : ∀ (j k : Fin 16), k.val < j.val →
    Scalar.cmpi .slt (BitVec.ofNat 32 (j.val - (k.val + 1))) (BitVec.ofNat 32 j.val) = 1#1) (i 1) k hk

theorem done (i : grid0.Coords) : Scalar.cmpi .slt (ctr i 0) (BitVec.ofNat 32 (i 1).val) = 0#1 :=
  (by decide +kernel : ∀ j : Fin 16, Scalar.cmpi .slt (BitVec.ofNat 32 (j.val - 0)) (BitVec.ofNat 32 j.val) = 0#1) (i 1)

theorem next (i : grid0.Coords) (k : Fin 16) (hk : k.val < (i 1).val) : Scalar.addi (ctr i (k.val + 1)) 1#32 = ctr i k.val :=
  (by decide +kernel : ∀ (j k : Fin 16), k.val < j.val →
    Scalar.addi (BitVec.ofNat 32 (j.val - (k.val + 1))) 1#32 = BitVec.ofNat 32 (j.val - k.val)) (i 1) k hk

/-! ### The loop's label -/

section
variable (c : Dev nD) (i : grid0.Coords) (arg3 : Memref sig .tc .vmem S4096x128 .bf16) (harg3 : arg3.IsWhole)
  (arg4 : Memref sig .tc .vmem S4096x128 .bf16) (harg4 : arg4.IsWhole) (e : Env F) (kx vx : Vec F S4096x128 .bf16)

/-- What the loop holds: the keys and values. -/
def held : sProp 𝕄 := iprop(owns (c : Thread nD τ) arg3 fullShare kx ∗ owns (c : Thread nD τ) arg4 fullShare vx)

/-- What the loop returns: its counter, whether a weight is alive, and the three sums. -/
abbrev LoopRes (F : FTy → Type) [FloatOps F] : Type :=
  BitVec 32 × BitVec 1 × FVec F S256x128 .f32 × FVec F S256x128 .f32 × FVec F S256x128 .f32

/-- The loop below key block `k`: it takes the state `s` and returns `loop`'s, of which the output is the last value. -/
def spec (k : ℕ) (hk : k ≤ 16) (s : St F) : sWPT 𝕄 (LoopRes F) := do
  sWPT.consume (held c arg3 arg4 kx vx)
  let r ← sWPT.arbitrary
  sWPT.assume (r.2.2.2.2 = (loop e kx vx k hk s).carry.acc)
  sWPT.produce (held c arg3 arg4 kx vx)
  pure r

theorem spec_apply (k : ℕ) (hk : k ≤ 16) (s : St F) (K : LoopRes F → sProp 𝕄) :
    spec c arg3 arg4 e kx vx k hk s K
      = iprop(held c arg3 arg4 kx vx ∗ ∀ r, ⌜r.2.2.2.2 = (loop e kx vx k hk s).carry.acc⌝ -∗ (held c arg3 arg4 kx vx -∗ K r)) := rfl

/-- The label's body satisfies its specification, by induction on the key blocks left. -/
theorem spec_le (E : Set ℕ) : ∀ (k : ℕ) (hk : k ≤ 16) (_ : k ≤ (i 1).val) (s : St F) (K : LoopRes F → sProp 𝕄),
    spec c arg3 arg4 e kx vx k hk s K ⊢
      wp frame (wpE (defs₀ (F := F)) 𝒱₀ (c : Thread nD τ) (some k)) E
        (defs₀ (F := F) .tc 1 ⟨i, arg3, harg3, e.v26, e.v29, arg4, harg4, e.v2, e.v19, e.v14, ctr i k, s.live, s.carry.c0, s.carry.c1, s.carry.acc⟩) K
  | 0, hk, hi, s, K => by
    rw [spec_apply]
    show _ ⊢ wp frame (wpE (defs₀ (F := F)) 𝒱₀ (c : Thread nD τ) (some 0)) E
      (cc0_while1 i arg3 harg3 e.v26 e.v29 arg4 harg4 e.v2 e.v19 e.v14 (ctr i 0) s.live s.carry.c0 s.carry.c1 s.carry.acc) K
    simp only [cc0_while1_eq_skeleton]
    unfold cc0_while1_skel
    simp only [done, and_zero, show ¬ (0#1 : BitVec 1) = 1#1 from by decide, ↓reduceIte, Prog.pure_eq_ret]
    iintro ⟨H, Hk⟩
    rw [wp_ret]
    imodintro
    iapply Hk
    · ipureintro; rfl
    · iexact H
  | k + 1, hk, hi, s, K => by
    rw [spec_apply]
    show _ ⊢ wp frame (wpE (defs₀ (F := F)) 𝒱₀ (c : Thread nD τ) (some (k + 1))) E
      (cc0_while1 i arg3 harg3 e.v26 e.v29 arg4 harg4 e.v2 e.v19 e.v14 (ctr i (k + 1)) s.live s.carry.c0 s.carry.c1 s.carry.acc) K
    have hlt : k < 16 := hk
    have hm := more i ⟨k, hlt⟩ hi
    by_cases hl : s.live = 1#1
    · simp only [cc0_while1_eq_skeleton]
      unfold cc0_while1_skel
      have e1 := off2_eq i ⟨k, hlt⟩ hi 1
      have e0 := off2_eq i ⟨k, hlt⟩ hi 0
      simp only [hm, and_one, hl, ↓reduceIte, loop]
      simp only [k0_part5_eq_skeleton, k0_part6_eq_skeleton, k0_part7_eq_skeleton]
      unfold k0_part5_skel k0_part6_skel k0_part7_skel
      simp only [Prog.lift, Prog.bind_op, Prog.bind_ret, Prog.pure_eq_ret]
      unfold held
      iintro ⟨⟨H3, H4⟩, Hk⟩
      iapply (wp_assume 𝒱₀ (c : Thread nD τ) (some (k + 1)) E (chk i ⟨k, hlt⟩ hi))
      iapply (owns_load 𝒱₀ (c : Thread nD τ) (some (k + 1)) E e1 (off_inb ⟨k, hlt⟩ 1)) $$ H3
      iintro H3
      iapply (owns_load 𝒱₀ (c : Thread nD τ) (some (k + 1)) E e0 (off_inb ⟨k, hlt⟩ 0)) $$ H3
      iintro H3
      iapply (owns_load 𝒱₀ (c : Thread nD τ) (some (k + 1)) E e1 (off_inb ⟨k, hlt⟩ 1)) $$ H4
      iintro H4
      iapply (owns_load 𝒱₀ (c : Thread nD τ) (some (k + 1)) E e0 (off_inb ⟨k, hlt⟩ 0)) $$ H4
      iintro H4
      rw [next i ⟨k, hlt⟩ hi]
      iapply (wp_call_spec 𝒱₀ (c : Thread nD τ) (some (k + 1)) E
        (spec c arg3 arg4 e kx vx k (Nat.le_of_succ_le hk) (Step.out e (tiles kx vx ⟨k, hk⟩) s.carry)) k
        (fun u hu => by cases hu; exact Nat.lt_succ_self k)
        (spec_le E k (Nat.le_of_succ_le hk) (Nat.le_of_succ_le hi) (Step.out e (tiles kx vx ⟨k, hk⟩) s.carry)))
      rw [spec_apply]
      unfold held
      isplitl [H3 H4]
      · isplitl [H3]
        · iexact H3
        · iexact H4
      iintro %r %hr ⟨H3, H4⟩
      rw [wp_ret]
      imodintro
      iapply Hk
      · ipureintro; exact hr
      isplitl [H3]
      · iexact H3
      · iexact H4
    · simp only [cc0_while1_eq_skeleton]
      unfold cc0_while1_skel
      simp only [hm, and_one, hl, ↓reduceIte, Prog.pure_eq_ret, loop]
      iintro ⟨H, Hk⟩
      rw [wp_ret]
      imodintro
      iapply Hk
      · ipureintro; rfl
      · iexact H

end

/-! ### The body -/

variable (c : Dev nD) (i : grid0.Coords) (arg2 : Memref sig .tc .vmem S256x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S256x128 .bf16) (harg5 : arg5.IsWhole) (arg6 : Memref sig .tc .vmem S256x128 .f32) (harg6 : arg6.IsWhole)
  (q : Vec F S256x128 .bf16) (kx vx : Vec F S4096x128 .bf16) (y : Vec F S256x128 .bf16) (z : Vec F S256x128 .f32)

/-- The whole body. -/
theorem body_run :
    (iprop(owns (c : Thread nD τ) arg2 fullShare q ∗ owns (c : Thread nD τ) arg3 fullShare kx ∗ owns (c : Thread nD τ) arg4 fullShare vx
      ∗ owns (c : Thread nD τ) arg5 fullShare y ∗ owns (c : Thread nD τ) arg6 fullShare z) : sProp 𝕄)
      ⊢ wp frame (wpE (defs₀ (F := F)) 𝒱₀ (c : Thread nD τ) none) Set.univ
        (cc0_sb_attn_fwd i arg2 harg2 arg3 harg3 arg4 harg4 arg5 harg5 arg6 harg6)
        (fun _ => iprop(owns (c : Thread nD τ) arg2 fullShare q ∗ owns (c : Thread nD τ) arg3 fullShare kx ∗ owns (c : Thread nD τ) arg4 fullShare vx
          ∗ owns (c : Thread nD τ) arg5 fullShare (k0_pay4 (final (i 1) q kx vx)) ∗ owns (c : Thread nD τ) arg6 fullShare (final (i 1) q kx vx))) := by
  rw [cc0_sb_attn_fwd_eq_skeleton]
  unfold cc0_sb_attn_fwd_skel
  have e1 := off1_eq i 1
  have e0 := off1_eq i 0
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret]
  iintro ⟨H2, H3, H4, H5, H6⟩
  iapply (owns_load_full 𝒱₀ (c : Thread nD τ) none Set.univ) $$ H2
  iintro H2
  iapply (owns_load 𝒱₀ (c : Thread nD τ) none Set.univ e1 (off_inb (i 1) 1)) $$ H3
  iintro H3
  iapply (owns_load 𝒱₀ (c : Thread nD τ) none Set.univ e0 (off_inb (i 1) 0)) $$ H3
  iintro H3
  iapply (owns_load 𝒱₀ (c : Thread nD τ) none Set.univ e1 (off_inb (i 1) 1)) $$ H4
  iintro H4
  iapply (owns_load 𝒱₀ (c : Thread nD τ) none Set.univ e0 (off_inb (i 1) 0)) $$ H4
  iintro H4
  have hc : ctr i (i 1).val = 0#32 := by unfold ctr; rw [Nat.sub_self]
  have hT := fun K => spec_le c i arg3 harg3 arg4 harg4 (env q) kx vx Set.univ (i 1).val (Nat.le_of_lt (i 1).isLt) le_rfl
    (Diag.out (env q) (tiles kx vx (i 1))) K
  simp only [hc] at hT
  iapply (wp_call_spec 𝒱₀ (c : Thread nD τ) none Set.univ
    (spec c arg3 arg4 (env q) kx vx (i 1).val (Nat.le_of_lt (i 1).isLt) (Diag.out (env q) (tiles kx vx (i 1)))) (i 1).val
    (fun u hu => nomatch hu) hT)
  rw [spec_apply]
  unfold held
  isplitl [H3 H4]
  · isplitl [H3]
    · iexact H3
    · iexact H4
  iintro %r %hr ⟨H3, H4⟩
  rw [hr]
  iapply (owns_load_full 𝒱₀ (c : Thread nD τ) none Set.univ) $$ H5
  iintro H5
  iapply (owns_store_full 𝒱₀ (c : Thread nD τ) none Set.univ) $$ H5
  iintro H5
  iapply (owns_load_full 𝒱₀ (c : Thread nD τ) none Set.univ) $$ H6
  iintro H6
  iapply (owns_store_full 𝒱₀ (c : Thread nD τ) none Set.univ) $$ H6
  iintro H6
  rw [wp_ret]
  imodintro
  unfold final
  isplitl [H2]
  · iexact H2
  isplitl [H3]
  · iexact H3
  isplitl [H4]
  · iexact H4
  isplitl [H5]
  · iexact H5
  iexact H6

end Cert.StickFKernelIdeal.Hand

end
-- ==== Proof.StickFBits.lean ====
/-
  The frame of the stick-breaking attention's forward kernel as compiled: the loop, the body and the launch gone through
  again for this program, whose loop's label is a type of its own, at bits and with the values the idealized program's
  modules name. A named constant is read as the bits it names.
-/
module

public import proofs.«01_k».proof.Proof.StickFRun
public import proofs.«01_k».proof.Proof.Gen.StickFKernel.Launch
public import proofs.«01_k».proof.Proof.Gen.StickFKernel.Skeleton
public import proofs.«01_k».proof.Proof.Gen.StickFKernel.Points
public import Idealize.ShloMosaic.Lib.Pipeline.TableIdle
public import Idealize.ShloMosaic.Lib.Claim
public import Idealize.ShloMosaic.PureOps.BitExact

@[expose] public section

set_option maxRecDepth 16384

noncomputable section

namespace Cert.StickFKernel.Hand

open Cert.StickFKernel Cert.StickFKernel.Gen Cert.Hand
open Cert.StickBKernelIdeal.Hand (Tiles tiles off off_inb 𝒱₀ and_one and_zero)
open Cert.StickFKernelIdeal.Hand (Env env Carry St loop final)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

/-- At bits a named constant is the bits it names. -/
local instance namedBits : Named Bits where
  named _ _ {φ} b := Scalar.ofBits φ b

section

/-- Before key block `k` the counter stands at `i - (k + 1)`. -/
def ctr (i : grid0.Coords) (k : ℕ) : BitVec 32 := BitVec.ofNat 32 ((i 1).val - k)

theorem off1_eq (i : grid0.Coords) (r : Fin 2) : k0_off1 i (BitVec.ofNat 32 r.val) = off (i 1).val r.val :=
  (by decide +kernel : ∀ (j : Fin 16) (r : Fin 2), k0_off1 (fun a => match a with | 0 => (0 : Fin 4) | 1 => j) (BitVec.ofNat 32 r.val)
    = off j.val r.val) (i 1) r

theorem off2_eq (i : grid0.Coords) (k : Fin 16) (hk : k.val < (i 1).val) (r : Fin 2) :
    k0_off2 i (ctr i (k.val + 1)) (BitVec.ofNat 32 r.val) = off k.val r.val :=
  (by decide +kernel : ∀ (j k : Fin 16) (r : Fin 2), k.val < j.val →
    k0_off2 (fun a => match a with | 0 => (0 : Fin 4) | 1 => j) (BitVec.ofNat 32 (j.val - (k.val + 1))) (BitVec.ofNat 32 r.val)
      = off k.val r.val) (i 1) k r hk

theorem chk (i : grid0.Coords) (k : Fin 16) (hk : k.val < (i 1).val) : k0_chk1 i (ctr i (k.val + 1)) :=
  (by decide +kernel : ∀ (j k : Fin 16), k.val < j.val →
    k0_chk1 (fun a => match a with | 0 => (0 : Fin 4) | 1 => j) (BitVec.ofNat 32 (j.val - (k.val + 1)))) (i 1) k hk

theorem more (i : grid0.Coords) (k : Fin 16) (hk : k.val < (i 1).val) :
    Scalar.cmpi .slt (ctr i (k.val + 1)) (BitVec.ofNat 32 (i 1).val) = 1#1 :=
  (by decide +kernel : ∀ (j k : Fin 16), k.val < j.val →
    Scalar.cmpi .slt (BitVec.ofNat 32 (j.val - (k.val + 1))) (BitVec.ofNat 32 j.val) = 1#1) (i 1) k hk

theorem done (i : grid0.Coords) : Scalar.cmpi .slt (ctr i 0) (BitVec.ofNat 32 (i 1).val) = 0#1 :=
  (by decide +kernel : ∀ j : Fin 16, Scalar.cmpi .slt (BitVec.ofNat 32 (j.val - 0)) (BitVec.ofNat 32 j.val) = 0#1) (i 1)

theorem next (i : grid0.Coords) (k : Fin 16) (hk : k.val < (i 1).val) : Scalar.addi (ctr i (k.val + 1)) 1#32 = ctr i k.val :=
  (by decide +kernel : ∀ (j k : Fin 16), k.val < j.val →
    Scalar.addi (BitVec.ofNat 32 (j.val - (k.val + 1))) 1#32 = BitVec.ofNat 32 (j.val - k.val)) (i 1) k hk

/-! ### The loop's label -/

section
variable (c : Dev nD) (i : grid0.Coords) (arg3 : Memref sig .tc .vmem S4096x128 .bf16) (harg3 : arg3.IsWhole)
  (arg4 : Memref sig .tc .vmem S4096x128 .bf16) (harg4 : arg4.IsWhole) (e : Env Bits) (kx vx : Vec Bits S4096x128 .bf16)

/-- What the loop holds: the keys and values. -/
def held : sProp 𝕄 := iprop(owns (c : Thread nD τ) arg3 fullShare kx ∗ owns (c : Thread nD τ) arg4 fullShare vx)

/-- What the loop returns: its counter, whether a weight is alive, and the three sums. -/
abbrev LoopRes : Type :=
  BitVec 32 × BitVec 1 × FVec Bits S256x128 .f32 × FVec Bits S256x128 .f32 × FVec Bits S256x128 .f32

/-- The loop below key block `k`: it takes the state `s` and returns `loop`'s, of which the output is the last value. -/
def spec (k : ℕ) (hk : k ≤ 16) (s : St Bits) : sWPT 𝕄 LoopRes := do
  sWPT.consume (held c arg3 arg4 kx vx)
  let r ← sWPT.arbitrary
  sWPT.assume (r.2.2.2.2 = (loop e kx vx k hk s).carry.acc)
  sWPT.produce (held c arg3 arg4 kx vx)
  pure r

theorem spec_apply (k : ℕ) (hk : k ≤ 16) (s : St Bits) (K : LoopRes → sProp 𝕄) :
    spec c arg3 arg4 e kx vx k hk s K
      = iprop(held c arg3 arg4 kx vx ∗ ∀ r, ⌜r.2.2.2.2 = (loop e kx vx k hk s).carry.acc⌝ -∗ (held c arg3 arg4 kx vx -∗ K r)) := rfl

/-- The label's body satisfies its specification, by induction on the key blocks left. -/
theorem spec_le (E : Set ℕ) : ∀ (k : ℕ) (hk : k ≤ 16) (_ : k ≤ (i 1).val) (s : St Bits) (K : LoopRes → sProp 𝕄),
    spec c arg3 arg4 e kx vx k hk s K ⊢
      wp frame (wpE (defs₀ (F := Bits)) 𝒱₀ (c : Thread nD τ) (some k)) E
        (defs₀ (F := Bits) .tc 1 ⟨i, arg3, harg3, e.v26, e.v29, arg4, harg4, e.v2, e.v19, e.v14, ctr i k, s.live, s.carry.c0, s.carry.c1, s.carry.acc⟩) K
  | 0, hk, hi, s, K => by
    rw [spec_apply]
    show _ ⊢ wp frame (wpE (defs₀ (F := Bits)) 𝒱₀ (c : Thread nD τ) (some 0)) E
      (cc0_while1 i arg3 harg3 e.v26 e.v29 arg4 harg4 e.v2 e.v19 e.v14 (ctr i 0) s.live s.carry.c0 s.carry.c1 s.carry.acc) K
    simp only [cc0_while1_eq_skeleton]
    unfold cc0_while1_skel
    simp only [done, and_zero, show ¬ (0#1 : BitVec 1) = 1#1 from by decide, ↓reduceIte, Prog.pure_eq_ret]
    iintro ⟨H, Hk⟩
    rw [wp_ret]
    imodintro
    iapply Hk
    · ipureintro; rfl
    · iexact H
  | k + 1, hk, hi, s, K => by
    rw [spec_apply]
    show _ ⊢ wp frame (wpE (defs₀ (F := Bits)) 𝒱₀ (c : Thread nD τ) (some (k + 1))) E
      (cc0_while1 i arg3 harg3 e.v26 e.v29 arg4 harg4 e.v2 e.v19 e.v14 (ctr i (k + 1)) s.live s.carry.c0 s.carry.c1 s.carry.acc) K
    have hlt : k < 16 := hk
    have hm := more i ⟨k, hlt⟩ hi
    by_cases hl : s.live = 1#1
    · simp only [cc0_while1_eq_skeleton]
      unfold cc0_while1_skel
      have e1 := off2_eq i ⟨k, hlt⟩ hi 1
      have e0 := off2_eq i ⟨k, hlt⟩ hi 0
      simp only [hm, and_one, hl, ↓reduceIte, loop]
      simp only [k0_part5_eq_skeleton, k0_part6_eq_skeleton, k0_part7_eq_skeleton]
      unfold k0_part5_skel k0_part6_skel k0_part7_skel
      simp only [Prog.lift, Prog.bind_op, Prog.bind_ret, Prog.pure_eq_ret]
      unfold held
      iintro ⟨⟨H3, H4⟩, Hk⟩
      iapply (wp_assume 𝒱₀ (c : Thread nD τ) (some (k + 1)) E (chk i ⟨k, hlt⟩ hi))
      iapply (owns_load 𝒱₀ (c : Thread nD τ) (some (k + 1)) E e1 (off_inb ⟨k, hlt⟩ 1)) $$ H3
      iintro H3
      iapply (owns_load 𝒱₀ (c : Thread nD τ) (some (k + 1)) E e0 (off_inb ⟨k, hlt⟩ 0)) $$ H3
      iintro H3
      iapply (owns_load 𝒱₀ (c : Thread nD τ) (some (k + 1)) E e1 (off_inb ⟨k, hlt⟩ 1)) $$ H4
      iintro H4
      iapply (owns_load 𝒱₀ (c : Thread nD τ) (some (k + 1)) E e0 (off_inb ⟨k, hlt⟩ 0)) $$ H4
      iintro H4
      rw [next i ⟨k, hlt⟩ hi]
      iapply (wp_call_spec 𝒱₀ (c : Thread nD τ) (some (k + 1)) E
        (spec c arg3 arg4 e kx vx k (Nat.le_of_succ_le hk) (StickFKernelIdeal.Hand.Step.out e (tiles kx vx ⟨k, hk⟩) s.carry)) k
        (fun u hu => by cases hu; exact Nat.lt_succ_self k)
        (spec_le E k (Nat.le_of_succ_le hk) (Nat.le_of_succ_le hi) (StickFKernelIdeal.Hand.Step.out e (tiles kx vx ⟨k, hk⟩) s.carry)))
      rw [spec_apply]
      unfold held
      isplitl [H3 H4]
      · isplitl [H3]
        · iexact H3
        · iexact H4
      iintro %r %hr ⟨H3, H4⟩
      rw [wp_ret]
      imodintro
      iapply Hk
      · ipureintro; exact hr
      isplitl [H3]
      · iexact H3
      · iexact H4
    · simp only [cc0_while1_eq_skeleton]
      unfold cc0_while1_skel
      simp only [hm, and_one, hl, ↓reduceIte, Prog.pure_eq_ret, loop]
      iintro ⟨H, Hk⟩
      rw [wp_ret]
      imodintro
      iapply Hk
      · ipureintro; rfl
      · iexact H

end

/-! ### The body -/

variable (c : Dev nD) (i : grid0.Coords) (arg2 : Memref sig .tc .vmem S256x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S256x128 .bf16) (harg5 : arg5.IsWhole) (arg6 : Memref sig .tc .vmem S256x128 .f32) (harg6 : arg6.IsWhole)
  (q : Vec Bits S256x128 .bf16) (kx vx : Vec Bits S4096x128 .bf16) (y : Vec Bits S256x128 .bf16) (z : Vec Bits S256x128 .f32)

/-- The whole body. -/
theorem body_run :
    (iprop(owns (c : Thread nD τ) arg2 fullShare q ∗ owns (c : Thread nD τ) arg3 fullShare kx ∗ owns (c : Thread nD τ) arg4 fullShare vx
      ∗ owns (c : Thread nD τ) arg5 fullShare y ∗ owns (c : Thread nD τ) arg6 fullShare z) : sProp 𝕄)
      ⊢ wp frame (wpE (defs₀ (F := Bits)) 𝒱₀ (c : Thread nD τ) none) Set.univ
        (cc0_sb_attn_fwd i arg2 harg2 arg3 harg3 arg4 harg4 arg5 harg5 arg6 harg6)
        (fun _ => iprop(owns (c : Thread nD τ) arg2 fullShare q ∗ owns (c : Thread nD τ) arg3 fullShare kx ∗ owns (c : Thread nD τ) arg4 fullShare vx
          ∗ owns (c : Thread nD τ) arg5 fullShare (k0_pay4 (final (i 1) q kx vx)) ∗ owns (c : Thread nD τ) arg6 fullShare (final (i 1) q kx vx))) := by
  rw [cc0_sb_attn_fwd_eq_skeleton]
  unfold cc0_sb_attn_fwd_skel
  have e1 := off1_eq i 1
  have e0 := off1_eq i 0
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret]
  iintro ⟨H2, H3, H4, H5, H6⟩
  iapply (owns_load_full 𝒱₀ (c : Thread nD τ) none Set.univ) $$ H2
  iintro H2
  iapply (owns_load 𝒱₀ (c : Thread nD τ) none Set.univ e1 (off_inb (i 1) 1)) $$ H3
  iintro H3
  iapply (owns_load 𝒱₀ (c : Thread nD τ) none Set.univ e0 (off_inb (i 1) 0)) $$ H3
  iintro H3
  iapply (owns_load 𝒱₀ (c : Thread nD τ) none Set.univ e1 (off_inb (i 1) 1)) $$ H4
  iintro H4
  iapply (owns_load 𝒱₀ (c : Thread nD τ) none Set.univ e0 (off_inb (i 1) 0)) $$ H4
  iintro H4
  have hc : ctr i (i 1).val = 0#32 := by unfold ctr; rw [Nat.sub_self]
  have hT := fun K => spec_le c i arg3 harg3 arg4 harg4 (env q) kx vx Set.univ (i 1).val (Nat.le_of_lt (i 1).isLt) le_rfl
    (StickFKernelIdeal.Hand.Diag.out (env q) (tiles kx vx (i 1))) K
  simp only [hc] at hT
  iapply (wp_call_spec 𝒱₀ (c : Thread nD τ) none Set.univ
    (spec c arg3 arg4 (env q) kx vx (i 1).val (Nat.le_of_lt (i 1).isLt) (StickFKernelIdeal.Hand.Diag.out (env q) (tiles kx vx (i 1)))) (i 1).val
    (fun u hu => nomatch hu) hT)
  rw [spec_apply]
  unfold held
  isplitl [H3 H4]
  · isplitl [H3]
    · iexact H3
    · iexact H4
  iintro %r %hr ⟨H3, H4⟩
  rw [hr]
  iapply (owns_load_full 𝒱₀ (c : Thread nD τ) none Set.univ) $$ H5
  iintro H5
  iapply (owns_store_full 𝒱₀ (c : Thread nD τ) none Set.univ) $$ H5
  iintro H5
  iapply (owns_load_full 𝒱₀ (c : Thread nD τ) none Set.univ) $$ H6
  iintro H6
  iapply (owns_store_full 𝒱₀ (c : Thread nD τ) none Set.univ) $$ H6
  iintro H6
  rw [wp_ret]
  imodintro
  unfold final
  isplitl [H2]
  · iexact H2
  isplitl [H3]
  · iexact H3
  isplitl [H4]
  · iexact H4
  isplitl [H5]
  · iexact H5
  iexact H6

end

variable (m : (ℓ : Loc nD τ sig) → Buf (Elt Bits) ℓ) (ρ : Dev nD → PrngReg)

/-- Core `c`'s buffers when the kernel is entered: nothing runs before it. -/
abbrev V (c : Dev nD) (b : Ref sig .tc) : Buf (Elt Bits) ((c : Thread nD τ).loc b) := m ((c : Thread nD τ).loc b)

theorem hmain (𝒱 : Variants) : Pipeline.HMain (Ix := Unit) (Name := ℕ) (U := UR sig nD τ) (Lvl := ℕ) cfgs 0 defs₀ 𝒱 m (main (F := Bits)) (V m) :=
  Pipeline.hmain_region cfgs 0 defs₀ 𝒱 m main fun c => (main_chain c).trans rfl

/-! ### What the windows hold -/

/-- Window `w`'s block at point `t`, read off its array as the kernel finds it. -/
def iblk (c : Dev nD) (w : Fin (cfg0 (F := Bits)).W) (t : Fin (cfg0 (F := Bits)).N) : (((cfg0 (F := Bits)).win w).xblock ((cfg0 (F := Bits)).grid.coords t)).Idx → Elt Bits ((cfg0 (F := Bits)).win w).elt :=
  (((cfg0 (F := Bits)).win w).blk t).view.read (Elt Bits) (V m c (Pipeline.arrRef spec0 w))

/-- The output block of point `t`. -/
def outOf (c : Dev nD) (t : Fin (cfg0 (F := Bits)).N) : FVec Bits S256x128 .f32 :=
  final (grid0.coords t 1) (iblk m c 0 t) (iblk m c 1 t) (iblk m c 2 t)

/-- The proof data: the arrays as the kernel finds them; after a point each input's buffer at its block and both outputs' at
    the point's output. -/
def dats (_ : Fin 1) (c : Dev nD) : Dat τ (Elt Bits) Unit ℕ (UR sig nD τ) ℕ (cfg0 (F := Bits)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (outOf m c t)
    | ⟨4, _⟩ => outOf m c t
  Φ _ := Pipeline.ΦA spec0 c
  q w := Pipeline.shareOf spec0 w
  owed _ := 0

theorem A_eq (c : Dev nD) (w : Fin (cfg0 (F := Bits)).W) : (dats m 0 c).A w = V m c (Pipeline.arrRef spec0 w) := by
  dsimp only [dats]

theorem after0_0 (c : Dev nD) (t : Fin (cfg0 (F := Bits)).N) : (dats m 0 c).after 0 t = iblk m c 0 t := by dsimp only [dats]
theorem after0_1 (c : Dev nD) (t : Fin (cfg0 (F := Bits)).N) : (dats m 0 c).after 1 t = iblk m c 1 t := by dsimp only [dats]
theorem after0_2 (c : Dev nD) (t : Fin (cfg0 (F := Bits)).N) : (dats m 0 c).after 2 t = iblk m c 2 t := by dsimp only [dats]
theorem after0_3 (c : Dev nD) (t : Fin (cfg0 (F := Bits)).N) : (dats m 0 c).after 3 t = k0_pay4 (outOf m c t) := by dsimp only [dats]
theorem after0_4 (c : Dev nD) (t : Fin (cfg0 (F := Bits)).N) : (dats m 0 c).after 4 t = outOf m c t := by dsimp only [dats]

theorem before0_0 (c : Dev nD) (t : Fin (cfg0 (F := Bits)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin (cfg0 (F := Bits)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin (cfg0 (F := Bits)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)

/-! ### The body at a point -/

abbrev ms0_0 (t : Fin (cfg0 (F := Bits)).N) : Memref sig .tc .vmem S256x128 .bf16 := win0_0.stage ((cfg0 (F := Bits)).slots t 0)
abbrev hs0_0 (t : Fin (cfg0 (F := Bits)).N) : (ms0_0 t).IsWhole := hstage0_0 (((cfg0 (F := Bits)).slots t 0).cast nbuf0_0)
abbrev ms0_1 (t : Fin (cfg0 (F := Bits)).N) : Memref sig .tc .vmem S4096x128 .bf16 := win0_1.stage ((cfg0 (F := Bits)).slots t 1)
abbrev hs0_1 (t : Fin (cfg0 (F := Bits)).N) : (ms0_1 t).IsWhole := hstage0_1 (((cfg0 (F := Bits)).slots t 1).cast nbuf0_1)
abbrev ms0_2 (t : Fin (cfg0 (F := Bits)).N) : Memref sig .tc .vmem S4096x128 .bf16 := win0_2.stage ((cfg0 (F := Bits)).slots t 2)
abbrev hs0_2 (t : Fin (cfg0 (F := Bits)).N) : (ms0_2 t).IsWhole := hstage0_2 (((cfg0 (F := Bits)).slots t 2).cast nbuf0_2)
abbrev ms0_3 (t : Fin (cfg0 (F := Bits)).N) : Memref sig .tc .vmem S256x128 .bf16 := win0_3.stage ((cfg0 (F := Bits)).slots t 3)
abbrev hs0_3 (t : Fin (cfg0 (F := Bits)).N) : (ms0_3 t).IsWhole := hstage0_3 (((cfg0 (F := Bits)).slots t 3).cast nbuf0_3)
abbrev ms0_4 (t : Fin (cfg0 (F := Bits)).N) : Memref sig .tc .vmem S256x128 .f32 := win0_4.stage ((cfg0 (F := Bits)).slots t 4)
abbrev hs0_4 (t : Fin (cfg0 (F := Bits)).N) : (ms0_4 t).IsWhole := hstage0_4 (((cfg0 (F := Bits)).slots t 4).cast nbuf0_4)

def bodyPre (c : Dev nD) (t : Fin (cfg0 (F := Bits)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin (cfg0 (F := Bits)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What a point's body leaves. -/
theorem sound_at (c : Dev nD) (t : Fin (cfg0 (F := Bits)).N) (y : Vec Bits S256x128 .bf16) (z : Vec Bits S256x128 .f32) :
    (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (y) ∗ owns (c : Thread nD τ) (ms0_4 t) fullShare (z)) : sProp 𝕄)
      ⊢ wp frame (wpE (defs₀ (F := Bits)) 𝒱₀ (c : Thread nD τ) none) Set.univ (bodyAt0 t)
        (fun _ => iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (k0_pay4 (outOf m c t)) ∗ owns (c : Thread nD τ) (ms0_4 t) fullShare (outOf m c t))) :=
  body_run c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) y z

set_option maxHeartbeats 800000 in
theorem sound_body (c : Dev nD) (t : Fin (cfg0 (F := Bits)).N) :
    bodyPre m c t ⊢ wp frame (wpE (defs₀ (F := Bits)) 𝒱₀ c none) Set.univ (bodyAt0 t) (fun _ => bodyPost m c t) := by
  unfold bodyPre bodyPost
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0_0 t) fullShare ((dats m 0 c).after 0 t) from rfl,
    show (dats m 0 c).leavesExact 1 t = owns (c : Thread nD τ) (ms0_1 t) fullShare ((dats m 0 c).after 1 t) from rfl,
    show (dats m 0 c).leavesExact 2 t = owns (c : Thread nD τ) (ms0_2 t) fullShare ((dats m 0 c).after 2 t) from rfl,
    show (dats m 0 c).leavesExact 3 t = owns (c : Thread nD τ) (ms0_3 t) fullShare ((dats m 0 c).after 3 t) from rfl,
    show (dats m 0 c).leavesExact 4 t = owns (c : Thread nD τ) (ms0_4 t) fullShare ((dats m 0 c).after 4 t) from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (wp_wand_r Idealize.ShloMosaic.frame (wpE (defs₀ (F := Bits)) 𝒱₀ (c : Thread nD τ) none) Set.univ)
  isplitl [H0 H1 H2 H3 H4]
  · iapply (sound_at m c t ((dats m 0 c).before 3 t d3) ((dats m 0 c).before 4 t d4))
    iframe
  · iintro %a ⟨H0, H1, H2, H3, H4⟩
    iframe

/-- The body table's row at point `t`'s slots is the body. -/
theorem defs₀_row (t : Fin (cfg0 (F := Bits)).N) : defs₀ (F := Bits) .tc (cfg0 (F := Bits)).body ((cfg0 (F := Bits)).bodyArgs t ((cfg0 (F := Bits)).slots t)) = bodyAt0 t := by
  unfold defs₀; rw [Defs.onTc_tc]

theorem body_obligation (c : Dev nD) : BodyObligation (dats m 0 c) (defs₀ (F := Bits)) 𝒱₀ () Set.univ := fun t => by
  rw [bigSep_W0, bigSep_W0, defs₀_row]
  exact triple_restated (sound_body m c t) rfl .rfl fun _ => .rfl

/-! ### The launch -/

-- the launch theorem's implicit arguments are found by unifying its conclusion with this one
set_option backward.isDefEq.respectTransparency.types false in
theorem run_main_quiescent : θ_run defs (onTc (τ := τ) (main (F := Bits))) (s₀ m ρ)
    (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

/-- The run: every array ends at what the proof data say, every other buffer as the kernel found it. -/
theorem run_main : θ_run defs (onTc (τ := τ) (main (F := Bits))) (s₀ m ρ) (Pipeline.FramePost cfgs (dats m) 0 (V m)) :=
  (θ_run defs _ _).mono (fun _ h => h.1) (run_main_quiescent m ρ)

/-- The argument array ends unchanged. -/
theorem unchanged : θ_run defs (onTc (τ := τ) (main (F := Bits))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

/-- The frame: the argument ends unchanged and every semaphore at zero. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.StickFKernel.Hand

end
-- ==== Proof.StickFFrame.lean ====
/-
  The stick-breaking attention's forward kernel as launched: what its windows hold before and after every grid point, the
  run of the whole program, and its frame. The set-up of the launch follows the library's generated frames.
-/
module

public import proofs.«01_k».proof.Proof.StickFRun
public import proofs.«01_k».proof.Proof.Gen.StickFKernelIdeal.Points
public import Idealize.ShloMosaic.Lib.Pipeline.TableIdle
public import Idealize.ShloMosaic.Lib.Claim

@[expose] public section

set_option maxRecDepth 16384

noncomputable section

namespace Cert.StickFKernelIdeal.Hand

open Cert.StickFKernelIdeal Cert.StickFKernelIdeal.Gen Cert.Hand
open Cert.StickBKernelIdeal.Hand (Tiles tiles off off_inb 𝒱₀ and_one and_zero)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the kernel is entered: nothing runs before it. -/
abbrev V (c : Dev nD) (b : Ref sig .tc) : Buf (Elt F) ((c : Thread nD τ).loc b) := m ((c : Thread nD τ).loc b)

theorem hmain (𝒱 : Variants) : Pipeline.HMain (Ix := Unit) (Name := ℕ) (U := UR sig nD τ) (Lvl := ℕ) cfgs 0 defs₀ 𝒱 m (main (F := F)) (V m) :=
  Pipeline.hmain_region cfgs 0 defs₀ 𝒱 m main fun c => (main_chain c).trans rfl

/-! ### What the windows hold -/

/-- Window `w`'s block at point `t`, read off its array as the kernel finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The output block of point `t`. -/
def outOf (c : Dev nD) (t : Fin (cfg0 (F := F)).N) : FVec F S256x128 .f32 :=
  final (grid0.coords t 1) (iblk m c 0 t) (iblk m c 1 t) (iblk m c 2 t)

/-- The proof data: the arrays as the kernel finds them; after a point each input's buffer at its block and both outputs' at
    the point's output. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (outOf m c t)
    | ⟨4, _⟩ => outOf m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = k0_pay4 (outOf m c t) := by dsimp only [dats]; rfl
theorem after0_4 (c : Dev nD) (t : Fin (cfg0 (F := F)).N) : (dats m 0 c).after 4 t = outOf m c t := by dsimp only [dats]; rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)

/-! ### The body at a point -/

abbrev ms0_0 (t : Fin (cfg0 (F := F)).N) : Memref sig .tc .vmem S256x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S4096x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S4096x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S256x128 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S256x128 .f32 := win0_4.stage ((cfg0 (F := F)).slots t 4)
abbrev hs0_4 (t : Fin (cfg0 (F := F)).N) : (ms0_4 t).IsWhole := hstage0_4 (((cfg0 (F := F)).slots t 4).cast nbuf0_4)

def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What a point's body leaves. -/
theorem sound_at (c : Dev nD) (t : Fin (cfg0 (F := F)).N) (y : Vec F S256x128 .bf16) (z : Vec F S256x128 .f32) :
    (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (y) ∗ owns (c : Thread nD τ) (ms0_4 t) fullShare (z)) : sProp 𝕄)
      ⊢ wp frame (wpE (defs₀ (F := F)) 𝒱₀ (c : Thread nD τ) none) Set.univ (bodyAt0 t)
        (fun _ => iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (k0_pay4 (outOf m c t)) ∗ owns (c : Thread nD τ) (ms0_4 t) fullShare (outOf m c t))) :=
  body_run c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) y z

set_option maxHeartbeats 800000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0_0 t) fullShare ((dats m 0 c).after 0 t) from rfl,
    show (dats m 0 c).leavesExact 1 t = owns (c : Thread nD τ) (ms0_1 t) fullShare ((dats m 0 c).after 1 t) from rfl,
    show (dats m 0 c).leavesExact 2 t = owns (c : Thread nD τ) (ms0_2 t) fullShare ((dats m 0 c).after 2 t) from rfl,
    show (dats m 0 c).leavesExact 3 t = owns (c : Thread nD τ) (ms0_3 t) fullShare ((dats m 0 c).after 3 t) from rfl,
    show (dats m 0 c).leavesExact 4 t = owns (c : Thread nD τ) (ms0_4 t) fullShare ((dats m 0 c).after 4 t) from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (wp_wand_r Idealize.ShloMosaic.frame (wpE (defs₀ (F := F)) 𝒱₀ (c : Thread nD τ) none) Set.univ)
  isplitl [H0 H1 H2 H3 H4]
  · iapply (sound_at m c t ((dats m 0 c).before 3 t d3) ((dats m 0 c).before 4 t d4))
    iframe
  · iintro %a ⟨H0, H1, H2, H3, H4⟩
    iframe

/-- The body table's row at point `t`'s slots is the body. -/
theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ### The launch -/

-- the launch theorem's implicit arguments are found by unifying its conclusion with this one
set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

/-- The run: every array ends at what the proof data say, every other buffer as the kernel found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument array ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

/-- The frame: the argument ends unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.StickFKernelIdeal.Hand

end
-- ==== Proof.StickFStep.lean ====
/-
  The forward kernel's key blocks over real data. The weights and the sums of log weights are computed as in the backward
  kernel, whose lemmas give what they are; what is new is the output, the weights times the values.
-/
module

public import proofs.«01_k».proof.Proof.StickFBody
public import proofs.«01_k».proof.Proof.StickBPoint

@[expose] public section

set_option maxRecDepth 16384

noncomputable section

namespace Cert.StickFKernelIdeal.Hand

open Cert.StickFKernelIdeal Cert.StickFKernelIdeal.Gen Cert.Hand
open Cert.StickBKernelIdeal.Hand (Tiles tiles tiles_is Data Is Flag EnvIs TilesIs CarryIs lane head sp cat cat_lo cat_hi cat_sum neg_iff neg_iff' sum_cat from_tile cat_rows hi Diag.hi_le live_of)
open Idealize.ShloMosaic Idealize.ShloMosaic.TcCoe

/-- The constants both kernels hold. -/
def both (b : StickBKernelIdeal.Hand.Env Ideal) : Env Ideal := ⟨b.v40, b.v43, b.v5, b.v28, b.v17⟩

/-- What a query block has put out from the keys `b` on. -/
def outSum (D : Data) (b : ℕ) (r : ℕ) (l : Fin 128) : ℝ :=
  ∑ j ∈ Finset.Ico b 4096, (D.W 0 r j * (D.v j l * lane 0 l) + D.W 1 r j * (D.v j l * lane 1 l))

theorem outSum_zero (D : Data) {b r : ℕ} (h : r ≤ b) (l : Fin 128) : outSum D b r l = 0 :=
  Finset.sum_eq_zero fun j hj => by
    rw [D.W_zero 0 (h.trans (Finset.mem_Ico.1 hj).1), D.W_zero 1 (h.trans (Finset.mem_Ico.1 hj).1), zero_mul, zero_mul, add_zero]

/-- From the first key on it is the attention's output. -/
theorem outSum_all (D : Data) (r : ℕ) (l : Fin 128) : outSum D 0 r l = D.o r l := by
  unfold outSum Data.o
  refine Finset.sum_congr rfl fun j _ => ?_
  unfold lane
  have := l.isLt
  by_cases h : l.val / 64 = 0
  · rw [if_pos h, if_neg (by omega), show head l = 0 from h]; ring
  · rw [if_neg h, if_pos (by omega), show head l = 1 by unfold head; omega]; ring

theorem outSum_tile (D : Data) (r : ℕ) (l : Fin 128) (b : ℕ) (hb : b + 128 ≤ 4096) :
    outSum D (b + 128) r l + ∑ a : Fin 128, (D.W 0 r (b + a.val) * (D.v (b + a.val) l * lane 0 l) + D.W 1 r (b + a.val) * (D.v (b + a.val) l * lane 1 l))
      = outSum D b r l :=
  from_tile (fun j => D.W 0 r j * (D.v j l * lane 0 l) + D.W 1 r j * (D.v j l * lane 1 l)) b hb

/-- The state of query block `i` after the keys from `b` on: both sums of log weights, and what is put out. -/
structure StIs (D : Data) (i b : ℕ) (s : St Ideal) : Prop where
  live : s.live = 1#1
  c0 : Is s.carry.c0 fun r _ => D.C 0 (256 * i + r.val) b
  c1 : Is s.carry.c1 fun r _ => D.C 1 (256 * i + r.val) b
  acc : Is s.carry.acc fun r l => outSum D b (256 * i + r.val) l

/-- The same sums as the backward kernel's, which has two more and a gradient beside them. -/
def wide (D : Data) (i b : ℕ) (s : Carry Ideal) : StickBKernelIdeal.Hand.Carry Ideal where
  c0 := s.c0
  c1 := s.c1
  g0 := fun y => ((D.S 0 (256 * i + (y 0).val) b : ℝ) : EReal)
  g1 := fun y => ((D.S 1 (256 * i + (y 0).val) b : ℝ) : EReal)
  dq := fun y => ((∑ j ∈ Finset.Ico b 4096, (D.dz 0 (256 * i + (y 0).val) j * (D.k j (y 1) * lane 0 (y 1)) + D.dz 1 (256 * i + (y 0).val) j * (D.k j (y 1) * lane 1 (y 1))) : ℝ) : EReal)

theorem wide_is {D : Data} {i b : ℕ} {s : St Ideal} (h : StIs D i b s) : CarryIs D i b (wide D i b s.carry) where
  c0 := h.c0
  c1 := h.c1
  g0 := fun _ _ => rfl
  g1 := fun _ _ => rfl
  dq := fun _ _ => rfl

variable {D : Data} {i k : ℕ} {b : StickBKernelIdeal.Hand.Env Ideal} {T : Tiles Ideal}

/-! ### An earlier key block -/

namespace Step
variable {s : St Ideal} (he : EnvIs D i b) (hT : TilesIs D k T) (hs : StIs D i (256 * k + 256) s) (hk : k < i) (hi : i < 16)

include he hT hs hk hi in
theorem c0_is : Is (out (both b) T s.carry).carry.c0 fun r _ => D.C 0 (256 * i + r.val) (256 * k) :=
  show Is (StickBKernelIdeal.Hand.Step.v527 b T (wide D i (256 * k + 256) s.carry)) _ from
    StickBKernelIdeal.Hand.Step.v527_is he hT (wide_is hs) hk hi

include he hT hs hk hi in
theorem c1_is : Is (out (both b) T s.carry).carry.c1 fun r _ => D.C 1 (256 * i + r.val) (256 * k) :=
  show Is (StickBKernelIdeal.Hand.Step.v537 b T (wide D i (256 * k + 256) s.carry)) _ from
    StickBKernelIdeal.Hand.Step.v537_is he hT (wide_is hs) hk hi

include he hT in
theorem v234_is : Is (v234 (both b) T) fun c l => cat (fun a => D.v (256 * k + 128 + a.val) l * lane 0 l) (fun a => D.v (256 * k + 128 + a.val) l * lane 1 l) c := by
  unfold v234 k0_pay49; exact hT.v1.heads he.v40 he.v43

include he hT in
theorem v239_is : Is (v239 (both b) T) fun c l => cat (fun a => D.v (256 * k + a.val) l * lane 0 l) (fun a => D.v (256 * k + a.val) l * lane 1 l) c := by
  unfold v239 k0_pay50; exact hT.v0.heads he.v40 he.v43

include he hT hs hk hi in
theorem acc_is : Is (out (both b) T s.carry).carry.acc fun r l => outSum D (256 * k) (256 * i + r.val) l := by
  have w10 := StickBKernelIdeal.Hand.Step.v505_is he hT (wide_is hs) hk hi
  have w11 := StickBKernelIdeal.Hand.Step.v515_is he hT (wide_is hs) hk hi
  have w00 := StickBKernelIdeal.Hand.Step.v525_is he hT (wide_is hs) hk hi
  have w01 := StickBKernelIdeal.Hand.Step.v535_is he hT (wide_is hs) hk hi
  have h1 := (hs.acc.addf ((w10.cols w11).nn (v234_is he hT))).of_eq (g := fun r l => outSum D (256 * k + 128) (256 * i + r.val) l) fun r l => by
    rw [sum_cat _ _ _ _ _ rfl]; exact outSum_tile D _ l (256 * k + 128) (by omega)
  have h0 := (h1.addf ((w00.cols w01).nn (v239_is he hT))).of_eq (g := fun r l => outSum D (256 * k) (256 * i + r.val) l) fun r l => by
    rw [sum_cat _ _ _ _ _ rfl]; exact outSum_tile D _ l (256 * k) (by omega)
  exact h0

include he hT hs hk hi in
theorem live_is : (out (both b) T s.carry).live = 1#1 := by
  have h := live_of _ ((c0_is he hT hs hk hi).minimumf (c1_is he hT hs hk hi))
  unfold StickBKernelIdeal.Gen.k0_pay1 at h
  dsimp only [out] at h ⊢
  unfold k0_pay5 k0_pay77
  exact h

include he hT hs hk hi in
theorem out_is : StIs D i (256 * k) (out (both b) T s.carry) where
  live := live_is he hT hs hk hi
  c0 := c0_is he hT hs hk hi
  c1 := c1_is he hT hs hk hi
  acc := acc_is he hT hs hk hi

end Step

/-! ### The query block's own key block -/

namespace Diag
variable (he : EnvIs D i b) (hT : TilesIs D i T) (h16 : i < 16)

include he in
theorem mask0 : Flag (v63 (both b)) fun r a => 256 * i + a.val < 256 * i + r.val := fun r a => by
  unfold v63 k0_pay16 both
  pointwise
  rw [he.v5 r a, neg_iff r a]; omega

include he in
theorem mask1 : Flag (v61 (both b)) fun r a => 256 * i + 128 + a.val < 256 * i + (hi r).val := fun r a => by
  unfold v61 k0_pay15 both
  pointwise
  rw [he.v5, neg_iff' r a]; show _ ↔ 256 * i + 128 + a.val < 256 * i + (128 + r.val); omega

/-! The scores `z`, their `sp` and the masked `sp` of both tiles and both heads. -/

include he hT in
theorem v65_is : Is (k0_pay17 b.v28 b.v40 b.v43 T.k1) fun r c => cat (fun a => D.z 0 (256 * i + (hi r).val) (256 * i + 128 + a.val)) (fun a => D.z 1 (256 * i + (hi r).val) (256 * i + 128 + a.val)) c := by
  unfold k0_pay17; exact (he.v28.botb.nt' (hT.k1.heads he.v40 he.v43)).of_eq fun r c => cat_sum c

include he hT in
theorem v66_is : Is (v66 (both b) T) fun r c => cat (fun a => D.z 0 (256 * i + r.val) (256 * i + a.val)) (fun a => D.z 1 (256 * i + r.val) (256 * i + a.val)) c := by
  unfold v66 k0_pay18; exact (he.v28.nt (hT.k0.heads he.v40 he.v43)).of_eq fun r c => cat_sum c

include he hT in
theorem z10 : Is (k0_pay19 b.v28 b.v40 b.v43 T.k1) fun r a => D.z 0 (256 * i + (hi r).val) (256 * i + 128 + a.val) := by
  unfold k0_pay19; exact (v65_is he hT).left'.of_eq fun r a => cat_lo _ _ _

include he hT in
theorem z11 : Is (v81 (both b) T) fun r a => D.z 1 (256 * i + (hi r).val) (256 * i + 128 + a.val) := by
  unfold v81 k0_pay23; exact (v65_is he hT).right'.of_eq fun r a => cat_hi _ _ _

include he hT in
theorem z00 : Is (k0_pay29 (v66 (both b) T)) fun r a => D.z 0 (256 * i + r.val) (256 * i + a.val) := by
  unfold k0_pay29; exact (v66_is he hT).left.of_eq fun r a => cat_lo _ _ _

include he hT in
theorem z01 : Is (k0_pay33 (v66 (both b) T)) fun r a => D.z 1 (256 * i + r.val) (256 * i + a.val) := by
  unfold k0_pay33; exact (v66_is he hT).right.of_eq fun r a => cat_hi _ _ _

include he hT in
theorem p10 : Is (k0_pay20 b.v28 b.v40 b.v43 T.k1) fun r a => sp (D.z 0 (256 * i + (hi r).val) (256 * i + 128 + a.val)) := by
  unfold k0_pay20; exact (z10 he hT).softplus

include he hT in
theorem p11 : Is (k0_pay27 (v83 (both b) T) (v84 (both b) T) (k0_pay26 (F := Ideal))) fun r a => sp (D.z 1 (256 * i + (hi r).val) (256 * i + 128 + a.val)) := by
  unfold k0_pay27 v83 v84 k0_pay24 k0_pay25 k0_pay26; exact (z11 he hT).softplus

include he hT in
theorem p00 : Is (k0_pay30 (v66 (both b) T)) fun r a => sp (D.z 0 (256 * i + r.val) (256 * i + a.val)) := by
  unfold k0_pay30; exact (z00 he hT).softplus

include he hT in
theorem p01 : Is (k0_pay34 (v66 (both b) T)) fun r a => sp (D.z 1 (256 * i + r.val) (256 * i + a.val)) := by
  unfold k0_pay34; exact (z01 he hT).softplus

theorem v30_is : Is (n := 256) (m := 128) (k0_pay12 (F := Ideal)) fun _ _ => 0 := by unfold k0_pay12; exact Is.zero

/-! The sums of the masked `sp` over the later keys of a tile, and of the whole tile. -/

include he hT in
theorem v128_is : Is (v128 (both b) T) fun r j => cat (fun c => ∑ a : Fin 128, if c.val < a.val then D.A 0 (256 * i + (hi r).val) (256 * i + 128 + a.val) else 0)
    (fun _ => ∑ a : Fin 128, D.A 0 (256 * i + (hi r).val) (256 * i + 128 + a.val)) j := by
  unfold v128 k0_pay37 v80 k0_pay22; exact Is.late' (Is.select (φ := .f32) (mask1 he) (p10 he hT) Is.zero) he.v17

include he hT in
theorem v134_is : Is (k0_pay39 b.v17 (v133 (both b) T) (constant S128x256 .f32 0x00000000#32)) fun r j => cat (fun c => ∑ a : Fin 128, if c.val < a.val then D.A 1 (256 * i + (hi r).val) (256 * i + 128 + a.val) else 0)
    (fun _ => ∑ a : Fin 128, D.A 1 (256 * i + (hi r).val) (256 * i + 128 + a.val)) j := by
  unfold k0_pay39 v133 k0_pay38; exact Is.late' (Is.select (φ := .f32) (mask1 he) (p11 he hT) Is.zero) he.v17

include he hT in
theorem v140_is : Is (k0_pay40 b.v17 (v108 (both b) T)) fun r j => cat (fun c => ∑ a : Fin 128, if c.val < a.val then D.A 0 (256 * i + r.val) (256 * i + a.val) else 0)
    (fun _ => ∑ a : Fin 128, D.A 0 (256 * i + r.val) (256 * i + a.val)) j := by
  unfold k0_pay40 v108 k0_pay32; exact Is.late (Is.select (φ := .f32) (mask0 he) (p00 he hT) Is.zero) he.v17

include he hT in
theorem v146_is : Is (v146 (both b) T) fun r j => cat (fun c => ∑ a : Fin 128, if c.val < a.val then D.A 1 (256 * i + r.val) (256 * i + a.val) else 0)
    (fun _ => ∑ a : Fin 128, D.A 1 (256 * i + r.val) (256 * i + a.val)) j := by
  unfold v146 k0_pay41 v122 k0_pay36; exact Is.late (Is.select (φ := .f32) (mask0 he) (p01 he hT) Is.zero) he.v17

include he hT h16 in
theorem c10 : Is (k0_pay43 (k0_pay12 (F := Ideal)) (v128 (both b) T)) fun r _ => D.C 0 (256 * i + r.val) (256 * i + 128) := by
  unfold k0_pay43
  exact (v30_is.top.rowsf (v30_is.bot.addf (v128_is he hT).right')).of_eq fun r a => by
    refine cat_rows (fun r => D.C 0 (256 * i + r.val) (256 * i + 128)) _ _ (fun r => ?_) (fun r => ?_) r
    · exact (D.C_zero 0 (by show 256 * i + r.val ≤ _; omega)).symm
    · rw [cat_hi, ← D.C_tile 0 _ (256 * i + 128) (by omega), D.C_zero 0 (Diag.hi_le i r)]

include he hT h16 in
theorem c11 : Is (v172 (both b) T) fun r _ => D.C 1 (256 * i + r.val) (256 * i + 128) := by
  unfold v172 k0_pay45
  exact (v30_is.top.rowsf (v30_is.bot.addf (v134_is he hT).right')).of_eq fun r a => by
    refine cat_rows (fun r => D.C 1 (256 * i + r.val) (256 * i + 128)) _ _ (fun r => ?_) (fun r => ?_) r
    · exact (D.C_zero 1 (by show 256 * i + r.val ≤ _; omega)).symm
    · rw [cat_hi, ← D.C_tile 1 _ (256 * i + 128) (by omega), D.C_zero 1 (Diag.hi_le i r)]

include he hT h16 in
theorem c0_is : Is (v181 (both b) T) fun r _ => D.C 0 (256 * i + r.val) (256 * i) := by
  unfold v181 k0_pay47
  exact ((c10 he hT h16).addf (v140_is he hT).right).of_eq fun r a => by rw [cat_hi]; exact D.C_tile 0 _ (256 * i) (by omega)

include he hT h16 in
theorem c1_is : Is (k0_pay1 (v146 (both b) T) (v172 (both b) T)) fun r _ => D.C 1 (256 * i + r.val) (256 * i) := by
  unfold k0_pay1
  exact ((c11 he hT h16).addf (v146_is he hT).right).of_eq fun r a => by rw [cat_hi]; exact D.C_tile 1 _ (256 * i) (by omega)

/-! The weights. -/

include he hT h16 in
theorem w10 : Is (v154 (both b) T) fun r a => D.W 0 (256 * i + (hi r).val) (256 * i + 128 + a.val) := by
  unfold v154 k0_pay42 v78 k0_pay21
  exact (Is.select (φ := .f32) (mask1 he) ((((z10 he hT).subf (p10 he hT)).subf ((v128_is he hT).left'.addf v30_is.bot)).exp) Is.zero).of_eq fun r a => by
    rw [cat_lo, ← D.W_eq 0 (256 * i + (hi r).val) (256 * i + 128) (by omega) a, D.C_zero 0 (Diag.hi_le i r)]; rfl

include he hT h16 in
theorem w11 : Is (v167 (both b) T) fun r a => D.W 1 (256 * i + (hi r).val) (256 * i + 128 + a.val) := by
  unfold v167 k0_pay44 v92 k0_pay28
  exact (Is.select (φ := .f32) (mask1 he) ((((z11 he hT).subf (p11 he hT)).subf ((v134_is he hT).left'.addf v30_is.bot)).exp) Is.zero).of_eq fun r a => by
    rw [cat_lo, ← D.W_eq 1 (256 * i + (hi r).val) (256 * i + 128) (by omega) a, D.C_zero 1 (Diag.hi_le i r)]; rfl

include he hT h16 in
theorem w00 : Is (v179 (both b) T) fun r a => D.W 0 (256 * i + r.val) (256 * i + a.val) := by
  unfold v179 k0_pay46 v106 k0_pay31
  exact (Is.select (φ := .f32) (mask0 he) ((((z00 he hT).subf (p00 he hT)).subf ((v140_is he hT).left.addf (c10 he hT h16))).exp) Is.zero).of_eq fun r a => by
    rw [cat_lo]; exact D.W_eq 0 (256 * i + r.val) (256 * i) (by omega) a

include he hT h16 in
theorem w01 : Is (v187 (both b) T) fun r a => D.W 1 (256 * i + r.val) (256 * i + a.val) := by
  unfold v187 k0_pay48 v120 k0_pay35
  exact (Is.select (φ := .f32) (mask0 he) ((((z01 he hT).subf (p01 he hT)).subf ((v146_is he hT).left.addf (c11 he hT h16))).exp) Is.zero).of_eq fun r a => by
    rw [cat_lo]; exact D.W_eq 1 (256 * i + r.val) (256 * i) (by omega) a

include he hT in
theorem v53_is : Is (v53 (both b) T) fun c l => cat (fun a => D.v (256 * i + 128 + a.val) l * lane 0 l) (fun a => D.v (256 * i + 128 + a.val) l * lane 1 l) c := by
  unfold v53 k0_pay13; exact hT.v1.heads he.v40 he.v43

include he hT in
theorem v58_is : Is (v58 (both b) T) fun c l => cat (fun a => D.v (256 * i + a.val) l * lane 0 l) (fun a => D.v (256 * i + a.val) l * lane 1 l) c := by
  unfold v58 k0_pay14; exact hT.v0.heads he.v40 he.v43

include he hT h16 in
theorem acc_is : Is (out (both b) T).carry.acc fun r l => outSum D (256 * i) (256 * i + r.val) l := by
  have h1 := (v30_is.top.rowsf (v30_is.bot.addf (((w10 he hT h16).cols' (w11 he hT h16)).nn' (v53_is he hT)))).of_eq (g := fun r l => outSum D (256 * i + 128) (256 * i + r.val) l) fun r l => by
    refine cat_rows (fun r => outSum D (256 * i + 128) (256 * i + r.val) l) _ _ (fun r => ?_) (fun r => ?_) r
    · exact (outSum_zero D (by show 256 * i + r.val ≤ _; omega) l).symm
    · show 0 + _ = _
      rw [sum_cat _ _ _ _ _ rfl, ← outSum_tile D _ l (256 * i + 128) (by omega), outSum_zero D (Diag.hi_le i r) l]
  have h0 := (h1.addf (((w00 he hT h16).cols (show Is (truncf .bf16 (v187 (both b) T) bitsLt_bf16_f32) _ from w01 he hT h16)).nn (v58_is he hT))).of_eq (g := fun r l => outSum D (256 * i) (256 * i + r.val) l) fun r l => by
    rw [sum_cat _ _ _ _ _ rfl]; exact outSum_tile D _ l (256 * i) (by omega)
  dsimp only [out]
  unfold k0_pay2
  exact h0

include he hT h16 in
theorem live_is : (out (both b) T).live = 1#1 := by
  have h := live_of _ ((c0_is he hT h16).minimumf (c1_is he hT h16))
  unfold StickBKernelIdeal.Gen.k0_pay1 at h
  dsimp only [out]
  unfold k0_pay3
  exact h

include he hT h16 in
theorem out_is : StIs D i (256 * i) (out (both b) T) where
  live := live_is he hT h16
  c0 := c0_is he hT h16
  c1 := c1_is he hT h16
  acc := acc_is he hT h16

end Diag

/-! ### The key blocks in order -/

variable {kx vx : Vec Ideal S4096x128 .bf16}

theorem loop_is (he : EnvIs D i b) (hi : i < 16) (hk : Is kx fun j l => D.k j.val l) (hv : Is vx fun j l => D.v j.val l) :
    ∀ (k : ℕ) (hk16 : k ≤ 16) (s : St Ideal), k ≤ i → StIs D i (256 * k) s → StIs D i 0 (loop (both b) kx vx k hk16 s)
  | 0, _, s, _, hs => hs
  | k + 1, hk16, s, hki, hs => by
    rw [loop, if_pos hs.live]
    exact loop_is he hi hk hv k _ _ (by omega) (Step.out_is he (tiles_is hk hv ⟨k, hk16⟩) hs (by show k < i; omega) hi)

/-- A grid point's output. -/
theorem final_is (i : Fin 16) {q : Vec Ideal S256x128 .bf16} {f : Fin 256 → Fin 128 → ℝ} (hq : Is q f)
    (hf : ∀ r l, f r l * (1 / 8) = D.q (256 * i.val + r.val) l) (hk : Is kx fun j l => D.k j.val l) (hv : Is vx fun j l => D.v j.val l) :
    Is (final i q kx vx) fun r l => D.o (256 * i.val + r.val) l := by
  have he := StickBKernelIdeal.Hand.env_is (d := fun y => ((D.d (256 * i.val + (y 0).val) (y 1) : ℝ) : EReal))
    (o := fun y => ((D.o (256 * i.val + (y 0).val) (y 1) : ℝ) : EReal)) hq hf (fun _ _ => rfl) (fun _ _ => rfl)
  have h := (loop_is he i.isLt hk hv i.val (Nat.le_of_lt i.isLt) _ le_rfl (Diag.out_is he (tiles_is hk hv i) i.isLt)).acc
  exact Is.of_eq (show Is (final i q kx vx) _ from h) fun r l => outSum_all D _ l

end Cert.StickFKernelIdeal.Hand

end
-- ==== Proof.StickF.lean ====
/-
  The stick-breaking attention: the kernel's two results, the output in both its precisions, are the reference's.
-/
module

public import proofs.«01_k».proof.Proof.StickFFrame
public import proofs.«01_k».proof.Proof.StickFStep
public import proofs.«01_k».proof.Proof.StickB
public import proofs.«01_k».proof.Proof.Gen.StickFReferenceIdeal.Read

@[expose] public section

set_option maxRecDepth 16384

noncomputable section

open Idealize.ShloMosaic Idealize.ShloMosaic.TcCoe Idealize.SL.Sem
open Idealize.ShloMosaic.Pipeline (Dat)

namespace Cert.Hand

instance facts_finite_sbf : Pre_finite_sbf.Facts := by constructor <;> decide

end Cert.Hand

namespace Cert.StickFReferenceIdeal.Hand

open Cert.StickFReferenceIdeal Cert.StickFReferenceIdeal.Read
open Cert.StickBReferenceIdeal.Hand (pair pc ref_o)

/-! ### The reference's output is the one the gradient's reference computes on its way -/

variable (a : FVec Ideal S4096x5120 .bf16)

theorem same9 : val_main_v9 (F := Ideal) a = StickBReferenceIdeal.Read.val_main_v9 (F := Ideal) a := rfl
theorem same12 : val_main_v12 (F := Ideal) a = StickBReferenceIdeal.Read.val_main_v12 (F := Ideal) a := rfl
theorem same20 : val_main_v20 (F := Ideal) = StickBReferenceIdeal.Read.val_main_v20 (F := Ideal) := rfl
theorem same22 : val_main_v22 (F := Ideal) a = StickBReferenceIdeal.Read.val_main_v22_0 (F := Ideal) a := rfl
theorem same23 : val_main_v23 (F := Ideal) a = StickBReferenceIdeal.Read.val_main_v23_0 (F := Ideal) a := rfl
theorem same24 : val_main_v24 (F := Ideal) a = StickBReferenceIdeal.Read.val_main_v24 (F := Ideal) a := by
  unfold val_main_v24 StickBReferenceIdeal.Read.val_main_v24; rw [same23]; rfl
theorem same25 : val_main_v25 (F := Ideal) a = StickBReferenceIdeal.Read.val_main_v25 (F := Ideal) a := by
  unfold val_main_v25 StickBReferenceIdeal.Read.val_main_v25; rw [same24, same23]
theorem same26 : val_main_v26 (F := Ideal) a = StickBReferenceIdeal.Read.val_main_v26_0 (F := Ideal) a := rfl
theorem same29 : val_main_v29 (F := Ideal) a = StickBReferenceIdeal.Read.val_main_v29_0 (F := Ideal) a := by
  unfold val_main_v29 StickBReferenceIdeal.Read.val_main_v29_0 val_main_v28 StickBReferenceIdeal.Read.val_main_v28 val_main_v27 StickBReferenceIdeal.Read.val_main_v27
  rw [same26, same25]; rfl
theorem same32 : val_main_v32 (F := Ideal) a = StickBReferenceIdeal.Read.val_main_v32 (F := Ideal) a := by
  unfold val_main_v32 StickBReferenceIdeal.Read.val_main_v32 val_main_v31 StickBReferenceIdeal.Read.val_main_v31 val_main_v30 StickBReferenceIdeal.Read.val_main_v30
  rw [same29, same9]; rfl

theorem out_is {a : FVec Ideal S4096x5120 .bf16} {P : ℕ → ℕ → ℝ} (hP : ∀ (r : Fin 4096) (k : Fin 5120), a (ix2 r k) = ((P r.val k.val : ℝ) : EReal))
    (r : Fin 4096) (p : Fin 4) (l : Fin 128) : val_main_v32 (F := Ideal) a (ix2 r (pc p l)) = (((pair P (fun _ _ => 0) p.val).o r.val l : ℝ) : EReal) :=
  (congrFun (same32 a) _).trans (ref_o hP r p l)

end Cert.StickFReferenceIdeal.Hand

namespace Cert.StickFKernelIdeal.Hand

open Cert.StickFKernelIdeal Cert.StickFKernelIdeal.Gen Cert.StickFReferenceIdeal.Read Cert.Hand
open Cert.StickBReferenceIdeal.Hand (pair pc)
open Cert.StickBKernelIdeal.Hand (nums nums_is qc kc vc Is Data)

variable (m : (ℓ : Loc nD τ sig) → Buf (Elt Ideal) ℓ)

theorem pre (h : Pre_StickFKernelIdeal_finite_sbf m) (c : Dev nD) (i) : IsReal ((m (c.tc.loc main_arg0)) i) := by
  have h := congrFun (h c) (fun i => i.elim0)
  unfold Pre_finite_sbf.fn at h
  haveI : Subsingleton (Pre_finite_sbf.S_).Idx := ⟨fun a b => funext fun i => i.elim0⟩
  exact isReal_of_abs_lt (Host.reduce_andi_all _ _ _ _ _ h i)

/-! ### What the windows stage -/

theorem idx : ∀ t : Fin (cfg0 (F := Ideal)).N, win0_0.index t = ![t.val % 16, t.val / 16]
    ∧ win0_1.index t = ![0, 4 + t.val / 16]
    ∧ win0_2.index t = ![0, 8 + t.val / 16]
    ∧ win0_3.index t = ![t.val % 16, t.val / 16]
    ∧ win0_4.index t = ![t.val % 16, t.val / 16] :=
  (by decide +kernel : ∀ t : Fin grid0.N, _)

theorem coord1 : ∀ t : Fin (cfg0 (F := Ideal)).N, (grid0.coords t 1).val = t.val % 16 :=
  (by decide +kernel : ∀ t : Fin grid0.N, (grid0.coords t 1).val = t.val % 16)

theorem t_lt (t : Fin (cfg0 (F := Ideal)).N) : t.val < 64 := t.isLt

/-- The pair of heads a grid point works on, its block of queries, and a row of that block. -/
def pr (t : Fin (cfg0 (F := Ideal)).N) : Fin 4 := ⟨t.val / 16, by have := t_lt t; omega⟩
def blk (t : Fin (cfg0 (F := Ideal)).N) : Fin 16 := ⟨t.val % 16, by omega⟩
def row (t : Fin (cfg0 (F := Ideal)).N) (r : Fin 256) : Fin 4096 := ⟨256 * (blk t).val + r.val, by have := (blk t).isLt; omega⟩

theorem r0 (c : Dev nD) (t : Fin (cfg0 (F := Ideal)).N) (a : Fin 256) (b : Fin 128) :
    iblk m c 0 t (ix2 a b) = (m (c.tc.loc main_arg0)) (ix2 (row t a) (qc (pr t) b)) := by
  unfold row qc pr blk; blk_point [iblk, V, idx t]

theorem r1 (c : Dev nD) (t : Fin (cfg0 (F := Ideal)).N) (a : Fin 4096) (b : Fin 128) :
    iblk m c 1 t (ix2 a b) = (m (c.tc.loc main_arg0)) (ix2 a (kc (pr t) b)) := by
  unfold kc pr; blk_point [iblk, V, idx t]

theorem r2 (c : Dev nD) (t : Fin (cfg0 (F := Ideal)).N) (a : Fin 4096) (b : Fin 128) :
    iblk m c 2 t (ix2 a b) = (m (c.tc.loc main_arg0)) (ix2 a (vc (pr t) b)) := by
  unfold vc pr; blk_point [iblk, V, idx t]

/-! ### The results -/

/-- A grid point's output is the reference's. -/
theorem point (p : Pre_StickFKernelIdeal_finite_sbf m) (c : Dev nD) (t : Fin (cfg0 (F := Ideal)).N) (r : Fin 256) (l : Fin 128) :
    outOf m c t (ix2 r l) = val_main_v32 (F := Ideal) (m (c.tc.loc main_arg0)) (ix2 (row t r) (pc (pr t) l)) := by
  have hP := nums_is (pre m p c)
  have eb : (grid0.coords t 1 : Fin 16) = blk t := Fin.ext (coord1 t)
  unfold outOf
  rw [eb]
  exact (final_is (D := pair (nums (m (c.tc.loc main_arg0))) (fun _ _ => 0) (pr t).val) (blk t)
    (f := fun r l => nums (m (c.tc.loc main_arg0)) (row t r).val (qc (pr t) l).val)
    (fun r l => (r0 m c t r l).trans (hP _ _)) (fun r l => rfl)
    (fun j l => (r1 m c t j l).trans (hP _ _)) (fun j l => (r2 m c t j l).trans (hP _ _)) r l).trans
    (StickFReferenceIdeal.Hand.out_is hP (row t r) (pr t) l).symm

theorem emb_3 (t : Fin (cfg0 (F := Ideal)).N) (a : Fin 256) (b : Fin 128) : (((cfg0 (F := Ideal)).win 3).blk t).view.emb (ix2 a b) = ix2 (row t a) (pc (pr t) b) := by
  unfold row pc pr blk
  blk_ext [idx t]
theorem emb_4 (t : Fin (cfg0 (F := Ideal)).N) (a : Fin 256) (b : Fin 128) : (((cfg0 (F := Ideal)).win 4).blk t).view.emb (ix2 a b) = ix2 (row t a) (pc (pr t) b) := by
  unfold row pc pr blk
  blk_ext [idx t]

theorem final_3 (p : Pre_StickFKernelIdeal_finite_sbf m) (c : Dev nD) :
    (dats m 0 c).arrAt 3 (cfgs (F := Ideal) 0).N = val_main_v33 (F := Ideal) (m (c.tc.loc main_arg0)) := by
  refine (dats m 0 c).arrAt_eq_of_covers 3 _ (by decide +kernel) fun t hf y => ?_
  rw [after0_3]
  have ey : y = ix2 (y 0 : Fin 256) (y 1 : Fin 128) := eq_ix2 y
  rw [ey]
  exact (point m p c t (y 0) (y 1)).trans (congrArg (val_main_v32 (F := Ideal) (m (c.tc.loc main_arg0))) (emb_3 t (y 0) (y 1)).symm)

theorem final_4 (p : Pre_StickFKernelIdeal_finite_sbf m) (c : Dev nD) :
    (dats m 0 c).arrAt 4 (cfgs (F := Ideal) 0).N = val_main_v32 (F := Ideal) (m (c.tc.loc main_arg0)) := by
  refine (dats m 0 c).arrAt_eq_of_covers 4 _ (by decide +kernel) fun t hf y => ?_
  rw [after0_4]
  have ey : y = ix2 (y 0 : Fin 256) (y 1 : Fin 128) := eq_ix2 y
  rw [ey]
  exact (point m p c t (y 0) (y 1)).trans (congrArg _ (emb_4 t (y 0) (y 1)).symm)

/-- The run: both results are what the proof data say, and the argument ends unchanged. -/
theorem results (g : Dev nD → PrngReg) : θ_run defs (onTc (τ := τ) (main (F := Ideal))) ⟨m, fun _ => 0, g⟩ (fun r => ∀ c : Dev nD,
      r.2.mem (c.tc.loc main_v0_0) = (dats m 0 c).arrAt 3 (cfgs (F := Ideal) 0).N
      ∧ r.2.mem (c.tc.loc main_v0_1) = (dats m 0 c).arrAt 4 (cfgs (F := Ideal) 0).N
      ∧ r.2.mem (c.tc.loc main_arg0) = m (c.tc.loc main_arg0)) :=
  (θ_run defs _ _).mono (fun _ h c => ⟨(h.1 c).1 3, (h.1 c).1 4, h.2 c⟩) (θ_run_and (run_main m g) (unchanged m g))

end Cert.StickFKernelIdeal.Hand

namespace Cert.Hand

/-- The kernel's two results are the reference's. -/
theorem StickF : algebraic_StickFKernelIdeal_StickFReferenceIdeal_pre_finite_sbf := by
  pair_intro
  · exact StickFKernelIdeal.Hand.results m g
  · refine (θ_run _ _ _).mono ?_ (StickFReferenceIdeal.Value.run m' g')
    intro r h c
    obtain ⟨r0, r1, h0⟩ := h c
    have a0 := hagree c
    refine ⟨r0.trans ((StickFReferenceIdeal.Read.val_main_v33_eq m' c).trans ?_), r1.trans ((StickFReferenceIdeal.Read.val_main_v32_eq m' c).trans ?_), h0⟩
    · rw [a0]
      exact (StickFKernelIdeal.Hand.final_3 m hpre c).symm
    · rw [a0]
      exact (StickFKernelIdeal.Hand.final_4 m hpre c).symm

/-- The reference runs and leaves its argument as it was. -/
theorem ref_StickF : quiescent_StickFReferenceIdeal := by
  intro m g hpre
  hlo_run
  all_goals first
    | exact fun _ => by simp
    | exact sem_eq_zero_of_no_sems (sig := StickFReferenceIdeal.sig) (by decide) _

end Cert.Hand

end
-- ==== Proof.ConvFwd.lean ====
/-
  The gated three-tap causal convolution, forward: the rows the kernel rotates and masks are the rows the padded
  reference shifts.
-/
module

public import proofs.«01_k».proof.Proof.Gen.ConvFwdKernelIdeal.Frame
public import proofs.«01_k».proof.Proof.Gen.ConvFwdReferenceIdeal.Read
public import Idealize.ShloMosaic.Lib.Pipeline.ValueKit
public import Idealize.ShloMosaic.Lib.Claim
public import proofs.«01_k».proof.Defs
public import proofs.«01_k».proof.Proof.Conv

@[expose] public section

set_option maxRecDepth 16384

noncomputable section

open Idealize.ShloMosaic Idealize.ShloMosaic.TcCoe Idealize.SL.Sem
open Idealize.ShloMosaic.Pipeline (Dat)

namespace Cert.ConvFwdKernelIdeal.Hand

open Cert.ConvFwdKernelIdeal Cert.ConvFwdKernelIdeal.Gen Cert.ConvFwdReferenceIdeal.Read Cert.Hand

variable (m : (ℓ : Loc nD τ sig) → Buf (Elt Ideal) ℓ)

open Cert.ConvKernelIdeal.Hand (sel_sge)

/-- The block each window stages at a grid point. -/
theorem idx : ∀ t : Fin cfg0.N, win0_0.index t = ![0, 12 + t.val]
    ∧ win0_1.index t = ![0, 16 + t.val]
    ∧ win0_2.index t = ![0, 20 + t.val]
    ∧ win0_3.index t = ![0, t.val]
    ∧ win0_4.index t = ![0, t.val] :=
  (by decide +kernel : ∀ t : Fin grid0.N, _)

theorem t_lt (t : Fin cfg0.N) : t.val < 4 := t.isLt

/-- Column `b` of the block at point `t`, as a column of the 512 channels. -/
def col (t : Fin cfg0.N) (b : Fin 128) : Fin 512 := ⟨t.val * 128 + b.val, by have := t_lt t; omega⟩

theorem r0 (c : Dev nD) (t : Fin cfg0.N) (z : S4096x128.Idx) : iblk m c 0 t z
    = (m (c.tc.loc main_arg0)) (ix2 (z 0) (⟨1536 + (col t (z 1)).val, by have := (col t (z 1)).isLt; omega⟩ : Fin 5120)) := by
  unfold col
  blk_point [iblk, V, idx t]
theorem r1 (c : Dev nD) (t : Fin cfg0.N) (z : S4096x128.Idx) : iblk m c 1 t z
    = (m (c.tc.loc main_arg0)) (ix2 (z 0) (⟨2048 + (col t (z 1)).val, by have := (col t (z 1)).isLt; omega⟩ : Fin 5120)) := by
  unfold col
  blk_point [iblk, V, idx t]
theorem r2 (c : Dev nD) (t : Fin cfg0.N) (z : S4096x128.Idx) : iblk m c 2 t z
    = (m (c.tc.loc main_arg0)) (ix2 (z 0) (⟨2560 + (col t (z 1)).val, by have := (col t (z 1)).isLt; omega⟩ : Fin 5120)) := by
  unfold col
  blk_point [iblk, V, idx t]

/-- The taps as the kernel stages them: three rows of taps, five rows of zeros. -/
theorem V_taps (c : Dev nD) : V m c main_v0
    = pad (s := S3x512) (α := EReal) S8x512 ![0, 0] ![5, 0] ![0, 0] (m (c.tc.loc main_arg1)) (sitofp (F := Ideal) .f32 (constantI S_ 32 0#32)) pads_S3x512_S8x512_050_000 h_S_ := by
  simp only [V, hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results

theorem r3 (c : Dev nD) (t : Fin cfg0.N) (a : Fin 8) (b : Fin 128) (h : a.val < 3) :
    iblk m c 3 t (ix2 a b) = ((m (c.tc.loc main_arg1)) : FVec Ideal S3x512 .f32) (ix2 (⟨a.val, h⟩ : Fin 3) (col t b)) := by
  have e : ((win0_3.blk t).view.emb (ix2 a b)) = ix2 a (col t b) := by
    unfold col
    blk_ext [idx t]
  refine (show iblk m c 3 t (ix2 a b) = V m c main_v0 ((win0_3.blk t).view.emb (ix2 a b)) from rfl).trans ?_
  rw [V_taps, e]
  exact pad_apply_of_inside _ _ _ _ _ _ _ _ _ (fun k => by match k with | ⟨0, _⟩ => simp | ⟨1, _⟩ => simp)

theorem point_4 (c : Dev nD) (t : Fin cfg0.N) (y : S4096x128.Idx) :
    k0_pay1 (iblk m c 2 t) (iblk m c 0 t) (iblk m c 3 t) (iblk m c 1 t) y
      = val_main_v28 (F := Ideal) (m (c.tc.loc main_arg0)) (m (c.tc.loc main_arg1)) (ix2 (y 0) (col t (y 1))) := by
  pointwise [k0_pay1, val_main_v0, val_main_v1, val_main_v2, val_main_v3, val_main_v4, val_main_cst, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28]
  simp only [r0, r1, r2, ix2_0, ix2_1]
  rw [r3 m c t (0 : Fin 8) (y 1) (by decide), r3 m c t (1 : Fin 8) (y 1) (by decide), r3 m c t (2 : Fin 8) (y 1) (by decide)]
  have hy : (y 0).val < 4096 := (y 0).isLt
  rw [sel_sge _ _ _ _ (by omega) (by omega), sel_sge _ _ _ _ (by omega) (by omega)]
  congr 3
  · by_cases h : 2 ≤ (y 0).val
    · rw [if_pos h, dif_neg (by omega)]
      have e : (⟨((y 0).val + 4096 - 2) % 4096, Nat.mod_lt _ (by omega)⟩ : Fin 4096) = ⟨(y 0).val - 2, by omega⟩ :=
        Fin.ext (by simp only []; omega)
      rw [e]; rfl
    · rw [if_neg h, dif_pos (by omega), mul_zero]
  · by_cases h : 1 ≤ (y 0).val
    · rw [if_pos h, dif_neg (by omega)]
      have e : (⟨((y 0).val + 4096 - 1) % 4096, Nat.mod_lt _ (by omega)⟩ : Fin 4096) = ⟨1 + (y 0).val - 2, by omega⟩ :=
        Fin.ext (by simp only []; omega)
      rw [e]; rfl
    · rw [if_neg h, dif_pos (by omega), mul_zero]

theorem emb_4 (t : Fin cfg0.N) (y : S4096x128.Idx) : ((cfg0.win 4).blk t).view.emb y = ix2 (y 0) (col t (y 1)) := by
  unfold col
  blk_ext [idx t]

theorem final_4 (c : Dev nD) : (dats m 0 c).arrAt 4 (cfgs 0).N = val_main_v28 (F := Ideal) (m (c.tc.loc main_arg0)) (m (c.tc.loc main_arg1)) := by
  refine (dats m 0 c).arrAt_eq_of_covers 4 _ (by decide +kernel) fun t hf y => ?_
  rw [after0_4]; frame_out
  exact (point_4 m c t y).trans (congrArg _ (emb_4 t y).symm)

end Cert.ConvFwdKernelIdeal.Hand

namespace Cert.Hand

/-- The kernel’s result is the convolution’s output. -/
theorem ConvFwd : algebraic_ConvFwdKernelIdeal_ConvFwdReferenceIdeal := by
  pair_intro
  · run_from ConvFwdKernelIdeal.Gen.run_main m g
    exact ConvFwdKernelIdeal.Gen.V_main_arg1 m _
  · refine (θ_run _ _ _).mono ?_ (ConvFwdReferenceIdeal.Value.run m' g')
    intro r h c
    obtain ⟨r0, h0, h1⟩ := h c
    obtain ⟨a0, a1⟩ := hagree c
    refine ⟨r0.trans ((ConvFwdReferenceIdeal.Read.val_main_v28_eq _ _).trans ?_), h0, h1⟩
    · rw [a0, a1]
      exact (ConvFwdKernelIdeal.Hand.final_4 m c).symm

/-- The reference runs and leaves its arguments as they were. -/
theorem ref_ConvFwd : quiescent_ConvFwdReferenceIdeal := by
  intro m g hpre
  hlo_run
  all_goals first
    | exact fun _ => by simp
    | exact sem_eq_zero_of_no_sems (sig := ConvFwdReferenceIdeal.sig) (by decide) _

end Cert.Hand

end
-- ==== Proof.Merge.lean ====
/-
  The two branches and their merge: at every index the kernel’s products are the reference’s, and the merged row is
  `sigmoid(ga) · a + sigmoid(gb) · b`.
-/
module

public import proofs.«01_k».proof.Proof.Gen.MergeKernelIdeal.Frame
public import proofs.«01_k».proof.Proof.Gen.MergeReferenceIdeal.Read
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.MergeKernelIdeal.Hand

open Cert.MergeKernelIdeal Cert.MergeKernelIdeal.Gen Cert.MergeReferenceIdeal.Read

variable (m : (ℓ : Loc nD τ sig) → Buf (Elt Ideal) ℓ)

/-- The block each window stages at a grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 3] ∧ win0_5.index t = ![t.val, 4]
    ∧ win0_6.index t = ![t.val, 0] ∧ win0_7.index t = ![t.val, 0] ∧ win0_8.index t = ![t.val, 0] :=
  (by decide +kernel : ∀ t : Fin grid0.N, _)

theorem point_6 (c : Dev nD) (t : Fin cfg0.N) (y) :
    k0_pay3 (F := Ideal) (iblk m c 0 t) (iblk m c 2 t) y
      = val_main_v24 (F := Ideal) (m (c.tc.loc main_arg0)) (m (c.tc.loc main_arg2)) (((cfg0.win 6).blk t).view.emb y) := by
  pointwise [k0_pay1, k0_pay2, k0_pay3, k0_pay4, k0_pay5, val_main_v1, val_main_v2, val_main_v3, val_main_v24]
  blk_point [iblk, V, idx t]

theorem final_6 (c : Dev nD) : (dats m 0 c).arrAt 6 (cfgs 0).N = val_main_v24 (F := Ideal) (m (c.tc.loc main_arg0)) (m (c.tc.loc main_arg2)) := by
  refine (dats m 0 c).arrAt_eq_of_covers 6 _ (by decide +kernel) fun t hf y => ?_
  blk_simp; rw [after0_6]; frame_out
  exact point_6 m c t y

theorem point_7 (c : Dev nD) (t : Fin cfg0.N) (y) :
    k0_pay4 (F := Ideal) (iblk m c 1 t) (iblk m c 3 t) y
      = val_main_v25 (F := Ideal) (m (c.tc.loc main_arg1)) (m (c.tc.loc main_arg3)) (((cfg0.win 7).blk t).view.emb y) := by
  pointwise [k0_pay2, k0_pay4, val_main_v4, val_main_v5, val_main_v6, val_main_v25]
  blk_point [iblk, V, idx t]

theorem final_7 (c : Dev nD) : (dats m 0 c).arrAt 7 (cfgs 0).N = val_main_v25 (F := Ideal) (m (c.tc.loc main_arg1)) (m (c.tc.loc main_arg3)) := by
  refine (dats m 0 c).arrAt_eq_of_covers 7 _ (by decide +kernel) fun t hf y => ?_
  blk_simp; rw [after0_7]; frame_out
  exact point_7 m c t y

theorem point_8 (c : Dev nD) (t : Fin cfg0.N) (y) :
    k0_pay5 (F := Ideal) (iblk m c 0 t) (iblk m c 2 t) (iblk m c 1 t) (iblk m c 3 t) (iblk m c 4 t) (iblk m c 5 t) y
      = val_main_v26 (F := Ideal) (m (c.tc.loc main_arg0)) (m (c.tc.loc main_arg1)) (m (c.tc.loc main_arg2)) (m (c.tc.loc main_arg3)) (m (c.tc.loc main_arg4)) (((cfg0.win 8).blk t).view.emb y) := by
  pointwise [k0_pay1, k0_pay2, k0_pay4, k0_pay5, val_main_v0, val_main_v1, val_main_v2, val_main_v3, val_main_v4, val_main_v5, val_main_v6, val_main_v7, val_main_v8, val_main_v9, val_main_cst, val_main_v10, val_main_v11, val_main_cst_0, val_main_v12, val_main_v13, val_main_v14, val_main_v15, val_main_v16, val_main_v17, val_main_cst_1, val_main_v18, val_main_v19, val_main_cst_2, val_main_v20, val_main_v21, val_main_v22, val_main_v23, val_main_v26]
  simp only [Ideal.logistic]
  blk_point [iblk, V, idx t]

theorem final_8 (c : Dev nD) : (dats m 0 c).arrAt 8 (cfgs 0).N = val_main_v26 (F := Ideal) (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t hf y => ?_
  blk_simp; rw [after0_8]; frame_out
  exact point_8 m c t y

end Cert.MergeKernelIdeal.Hand

namespace Cert.Hand

/-- The kernel’s three results are the two branches and their merge. -/
theorem Merge : algebraic_MergeKernelIdeal_MergeReferenceIdeal := by
  pair_intro
  · run_from MergeKernelIdeal.Gen.run_main m g
  · refine (θ_run _ _ _).mono ?_ (MergeReferenceIdeal.Value.run m' g')
    intro r h c
    obtain ⟨r0, r1, r2, h0, h1, h2, h3, h4⟩ := h c
    obtain ⟨a0, a1, a2, a3, a4⟩ := hagree c
    refine ⟨r0.trans ((MergeReferenceIdeal.Read.val_main_v24_eq _ _).trans ?_), r1.trans ((MergeReferenceIdeal.Read.val_main_v25_eq _ _).trans ?_), r2.trans ((MergeReferenceIdeal.Read.val_main_v26_eq _ _ _ _ _).trans ?_), h0, h1, h2, h3, h4⟩
    · rw [a0, a2]
      exact (MergeKernelIdeal.Hand.final_6 m c).symm
    · rw [a1, a3]
      exact (MergeKernelIdeal.Hand.final_7 m c).symm
    · rw [a0, a1, a2, a3, a4]
      exact (MergeKernelIdeal.Hand.final_8 m c).symm

/-- The reference runs and leaves its arguments as they were. -/
theorem ref_Merge : quiescent_MergeReferenceIdeal := by
  intro m g hpre
  hlo_run
  all_goals first
    | exact fun _ => by simp
    | exact sem_eq_zero_of_no_sems (sig := MergeReferenceIdeal.sig) (by decide) _

end Cert.Hand

end
-- ==== Proof.NormMul.lean ====
/-
  The norm of the rows and its product with a weight: at every index the kernel’s normalised row and its product are
  the reference’s.
-/
module

public import proofs.«01_k».proof.Proof.Gen.NormMulKernelIdeal.Frame
public import proofs.«01_k».proof.Proof.Gen.NormMulReferenceIdeal.Read
public import Idealize.ShloMosaic.Lib.Pipeline.ValueKit
public import Idealize.ShloMosaic.Lib.Claim
public import proofs.«01_k».proof.Defs
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.NormMulKernelIdeal.Hand

open Cert.NormMulKernelIdeal Cert.NormMulKernelIdeal.Gen Cert.NormMulReferenceIdeal.Read Cert.Hand

variable (m : (ℓ : Loc nD τ sig) → Buf (Elt Ideal) ℓ)

/-! ## The reference -/

section Ref
variable (a0 : FVec Ideal NormMulReferenceIdeal.S4096x1024 .f32) (a1 : FVec Ideal NormMulReferenceIdeal.S1x1024 .f32) (a2 : FVec Ideal NormMulReferenceIdeal.S1024x1024 .bf16)

/-- A row of the argument, and the row normalised. -/
def xr (r : Fin 4096) (k : Fin 1024) : EReal := a0 (ix2 r k)
def hr (r : Fin 4096) (k : Fin 1024) : EReal := xr a0 r k * rms (xr a0 r) * a1 (ix2 (0 : Fin 1) k)

theorem v7 (r : Fin 4096) (q : Fin 1) : val_main_v7 (F := Ideal) a0 (ix2 r q) = rms (xr a0 r) := by
  pointwise [val_main_v0, val_main_cst, val_main_v1, val_main_v2, val_main_cst_0, val_main_v3, val_main_v4, val_main_cst_1, val_main_v5, val_main_v6, val_main_v7]
  rfl

theorem v11 (r : Fin 4096) (k : Fin 1024) : val_main_v11 (F := Ideal) a0 a1 (ix2 r k) = hr a0 a1 r k := by
  pointwise [val_main_v8, val_main_v9, val_main_v10, val_main_v11]
  simp only [v7]
  rfl

theorem v15 (r : Fin 4096) (j : Fin 1024) : val_main_v15 (F := Ideal) a0 a1 a2 (ix2 r j) = ∑ k : Fin 1024, hr a0 a1 r k * a2 (ix2 k j) := by
  pointwise [val_main_v13, val_main_v14, val_main_v15]
  simp only [v11]

end Ref

/-! ## The kernel at a grid point -/

theorem pay1 (x : Vec Ideal S1024x1024 .f32) (g : Vec Ideal S1x1024 .f32) (a b : Fin 1024) :
    k0_pay1 x g (ix2 a b) = x (ix2 a b) * rms (fun k => x (ix2 a k)) * g (ix2 (0 : Fin 1) b) := by
  pointwise [k0_pay1]
  rfl

theorem pay2 (h w : Vec Ideal S1024x1024 .bf16) (a b : Fin 1024) :
    k0_pay2 h w (ix2 a b) = ∑ k : Fin 1024, h (ix2 a k) * w (ix2 k b) := by
  pointwise [k0_pay2]

/-- The block each window stages at a grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

theorem t_lt (t : Fin cfg0.N) : t.val < 4 := t.isLt

/-- A row of the block, as a row of the array. -/
def row (t : Fin cfg0.N) (a : Fin 1024) : Fin 4096 := ⟨t.val * 1024 + a.val, by have := t_lt t; omega⟩

theorem r0 (c : Dev nD) (t : Fin cfg0.N) (z : S1024x1024.Idx) : iblk m c 0 t z = (m (c.tc.loc main_arg0)) (ix2 (row t (z 0)) (z 1)) := by
  unfold row
  blk_point [iblk, V, idx t]
theorem r1 (c : Dev nD) (t : Fin cfg0.N) (z : S1x1024.Idx) : iblk m c 1 t z = (m (c.tc.loc main_arg1)) z := by
  blk_point [iblk, V, idx t]
theorem r2 (c : Dev nD) (t : Fin cfg0.N) (z : S1024x1024.Idx) : iblk m c 2 t z = (m (c.tc.loc main_arg2)) z := by
  blk_point [iblk, V, idx t]

theorem h_is (c : Dev nD) (t : Fin cfg0.N) (a b : Fin 1024) :
    k0_pay1 (iblk m c 0 t) (iblk m c 1 t) (ix2 a b) = hr (m (c.tc.loc main_arg0)) (m (c.tc.loc main_arg1)) (row t a) b := by
  rw [pay1]
  simp only [r0, r1]
  rfl

theorem point_3 (c : Dev nD) (t : Fin cfg0.N) (y : S1024x1024.Idx) :
    k0_pay1 (iblk m c 0 t) (iblk m c 1 t) y = val_main_v12 (F := Ideal) (m (c.tc.loc main_arg0)) (m (c.tc.loc main_arg1)) (ix2 (row t (y 0)) (y 1)) := by
  idx_vars y
  exact (h_is m c t _ _).trans (v11 _ _ _ _).symm

theorem point_4 (c : Dev nD) (t : Fin cfg0.N) (y : S1024x1024.Idx) :
    k0_pay2 (k0_pay1 (iblk m c 0 t) (iblk m c 1 t)) (iblk m c 2 t) y
      = val_main_v15 (F := Ideal) (m (c.tc.loc main_arg0)) (m (c.tc.loc main_arg1)) (m (c.tc.loc main_arg2)) (ix2 (row t (y 0)) (y 1)) := by
  idx_vars y
  refine (pay2 _ _ _ _).trans (Eq.trans ?_ (v15 _ _ _ _ _).symm)
  exact Finset.sum_congr rfl fun k _ => congrArg₂ _ (h_is m c t _ k) (r2 m c t _)

theorem emb_3 (t : Fin cfg0.N) (y : S1024x1024.Idx) : ((cfg0.win 3).blk t).view.emb y = ix2 (row t (y 0)) (y 1) := by
  unfold row
  blk_ext [idx t]

theorem final_3 (c : Dev nD) : (dats m 0 c).arrAt 3 (cfgs 0).N = val_main_v12 (F := Ideal) (m (c.tc.loc main_arg0)) (m (c.tc.loc main_arg1)) := by
  refine (dats m 0 c).arrAt_eq_of_covers 3 _ (by decide +kernel) fun t hf y => ?_
  rw [after0_3]
  unfold outsAt0
  frame_out
  exact (point_3 m c t y).trans (congrArg _ (emb_3 t y).symm)

theorem emb_4 (t : Fin cfg0.N) (y : S1024x1024.Idx) : ((cfg0.win 4).blk t).view.emb y = ix2 (row t (y 0)) (y 1) := by
  unfold row
  blk_ext [idx t]

theorem final_4 (c : Dev nD) : (dats m 0 c).arrAt 4 (cfgs 0).N = val_main_v15 (F := Ideal) (m (c.tc.loc main_arg0)) (m (c.tc.loc main_arg1)) (m (c.tc.loc main_arg2)) := by
  refine (dats m 0 c).arrAt_eq_of_covers 4 _ (by decide +kernel) fun t hf y => ?_
  rw [after0_4]
  unfold outsAt0
  frame_out
  exact (point_4 m c t y).trans (congrArg _ (emb_4 t y).symm)

end Cert.NormMulKernelIdeal.Hand

namespace Cert.Hand

/-- The kernel’s two results are the normalised rows and their product with the weight. -/
theorem NormMul : algebraic_NormMulKernelIdeal_NormMulReferenceIdeal := by
  pair_intro
  · run_from NormMulKernelIdeal.Gen.run_main m g
  · refine (θ_run _ _ _).mono ?_ (NormMulReferenceIdeal.Value.run m' g')
    intro r h c
    obtain ⟨r0, r1, h0, h1, h2⟩ := h c
    obtain ⟨a0, a1, a2⟩ := hagree c
    refine ⟨r0.trans ((NormMulReferenceIdeal.Read.val_main_v12_eq _ _).trans ?_), r1.trans ((NormMulReferenceIdeal.Read.val_main_v15_eq _ _ _).trans ?_), h0, h1, h2⟩
    · rw [a0, a1]
      exact (NormMulKernelIdeal.Hand.final_3 m c).symm
    · rw [a0, a1, a2]
      exact (NormMulKernelIdeal.Hand.final_4 m c).symm

/-- The reference runs and leaves its arguments as they were. -/
theorem ref_NormMul : quiescent_NormMulReferenceIdeal := by
  intro m g hpre
  hlo_run
  all_goals first
    | exact fun _ => by simp
    | exact sem_eq_zero_of_no_sems (sig := NormMulReferenceIdeal.sig) (by decide) _

end Cert.Hand

end
-- ==== Proof.FfnInFrame.lean ====
/-
  The norm and the feed-forward product with its gated activation as launched: the normalised rows are stored at the first
  of two column steps, stay in their buffer for the second, and are written back after it. What the windows hold before
  and after every grid point, the run of the whole program, and its frame. The set-up of the launch follows the library's
  generated frames.
-/
module

public import proofs.«01_k».proof.Proof.Owns
public import proofs.«01_k».proof.Proof.Gen.FfnInKernelIdeal.Skeleton
public import proofs.«01_k».proof.Proof.Gen.FfnInKernelIdeal.Launch
public import proofs.«01_k».proof.Proof.Gen.FfnInKernelIdeal.Points
public import proofs.«01_k».proof.Proof.Gen.FfnInKernelIdeal.Frame
public import Idealize.ShloMosaic.Lib.Pipeline.TableIdle
public import Idealize.ShloMosaic.Lib.Claim

@[expose] public section

set_option maxRecDepth 16384

noncomputable section

namespace Cert.FfnInKernelIdeal.Hand

open Cert.FfnInKernelIdeal Cert.FfnInKernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The body's run -/

set_option maxHeartbeats 1000000 in
/-- The body: with `h` the rows normalised where this is the first column step, and what the buffer holds where it is not,
    it leaves `h` there and the two products and the activation of `h`. -/
theorem body_run (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1024 .bf16) (harg6 : arg6.IsWhole) (arg7 : Memref sig .tc .vmem S1024x1408 .bf16) (harg7 : arg7.IsWhole) (arg8 : Memref sig .tc .vmem S1024x1408 .bf16) (harg8 : arg8.IsWhole) (arg9 : Memref sig .tc .vmem S1024x1408 .bf16) (harg9 : arg9.IsWhole)
    (x0 : Vec F S1024x1024 .f32) (x1 : Vec F S1x1024 .f32) (x2 : Vec F S1024x1408 .bf16) (x3 : Vec F S1024x1408 .bf16) (x4 : Vec F S1024x1024 .bf16) (x5 : Vec F S1024x1408 .bf16) (x6 : Vec F S1024x1408 .bf16) (x7 : Vec F S1024x1408 .bf16)
    (h : Vec F S1024x1024 .bf16) (first : k0_cond1 i = 1#1 → h = k0_pay1 x0 x1) (later : ¬ k0_cond1 i = 1#1 → x4 = h) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7) : sProp 𝕄)
      ⊢ wp frame (wpE (defs₀ (F := F)) Variants.none (c : Thread nD τ) none) Set.univ
        (cc0_norm_ffn_in_swiglu i arg2 harg2 arg3 harg3 arg4 harg4 arg5 harg5 arg6 harg6 arg7 harg7 arg8 harg8 arg9 harg9)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare h ∗ owns (c : Thread nD τ) arg7 fullShare (k0_pay5 h x2) ∗ owns (c : Thread nD τ) arg8 fullShare (k0_pay6 h x3) ∗ owns (c : Thread nD τ) arg9 fullShare (k0_pay7 h x2 x3))) := by
  rw [cc0_norm_ffn_in_swiglu_eq_skeleton]
  unfold cc0_norm_ffn_in_swiglu_skel
  simp only [Prog.lift, Prog.bind_op, Prog.bind_ret, Prog.pure_eq_ret]
  iintro ⟨H0, H1, H2, H3, H4, H5, H6, H7⟩
  by_cases hc : k0_cond1 i = 1#1
  · rw [dif_pos hc]
    have e := first hc
    subst e
    iapply (owns_load_full Variants.none (c : Thread nD τ) none Set.univ) $$ H0
    iintro H0
    iapply (owns_load_full Variants.none (c : Thread nD τ) none Set.univ) $$ H1
    iintro H1
    iapply (owns_load_full Variants.none (c : Thread nD τ) none Set.univ) $$ H4
    iintro H4
    iapply (owns_store_full Variants.none (c : Thread nD τ) none Set.univ) $$ H4
    iintro H4
    iapply (owns_load_full Variants.none (c : Thread nD τ) none Set.univ) $$ H4
    iintro H4
    iapply (owns_load_full Variants.none (c : Thread nD τ) none Set.univ) $$ H2
    iintro H2
    iapply (owns_load_full Variants.none (c : Thread nD τ) none Set.univ) $$ H3
    iintro H3
    iapply (owns_load_full Variants.none (c : Thread nD τ) none Set.univ) $$ H5
    iintro H5
    iapply (owns_store_full Variants.none (c : Thread nD τ) none Set.univ) $$ H5
    iintro H5
    iapply (owns_load_full Variants.none (c : Thread nD τ) none Set.univ) $$ H6
    iintro H6
    iapply (owns_store_full Variants.none (c : Thread nD τ) none Set.univ) $$ H6
    iintro H6
    iapply (owns_load_full Variants.none (c : Thread nD τ) none Set.univ) $$ H7
    iintro H7
    iapply (owns_store_full Variants.none (c : Thread nD τ) none Set.univ) $$ H7
    iintro H7
    rw [wp_ret]
    imodintro
    iframe
  · rw [dif_neg hc]
    have e := later hc
    subst e
    iapply (owns_load_full Variants.none (c : Thread nD τ) none Set.univ) $$ H4
    iintro H4
    iapply (owns_load_full Variants.none (c : Thread nD τ) none Set.univ) $$ H2
    iintro H2
    iapply (owns_load_full Variants.none (c : Thread nD τ) none Set.univ) $$ H3
    iintro H3
    iapply (owns_load_full Variants.none (c : Thread nD τ) none Set.univ) $$ H5
    iintro H5
    iapply (owns_store_full Variants.none (c : Thread nD τ) none Set.univ) $$ H5
    iintro H5
    iapply (owns_load_full Variants.none (c : Thread nD τ) none Set.univ) $$ H6
    iintro H6
    iapply (owns_store_full Variants.none (c : Thread nD τ) none Set.univ) $$ H6
    iintro H6
    iapply (owns_load_full Variants.none (c : Thread nD τ) none Set.univ) $$ H7
    iintro H7
    iapply (owns_store_full Variants.none (c : Thread nD τ) none Set.univ) $$ H7
    iintro H7
    rw [wp_ret]
    imodintro
    iframe

variable (m : (ℓ : Loc nD τ sig) → Buf (Elt F) ℓ) (ρ : Dev nD → PrngReg)

/-! ### What the windows hold -/

/-- The first of the two column steps of point `t`'s rows. -/
def base (t : Fin cfg0.N) : Fin cfg0.N := ⟨t.val - t.val % 2, Nat.lt_of_le_of_lt (Nat.sub_le _ _) t.isLt⟩

theorem base_even (t : Fin cfg0.N) (ht : t.val % 2 = 0) : base t = t := Fin.ext (by unfold base; simp only [ht, Nat.sub_zero])

/-- The rows of point `t`, normalised. -/
def hAt (c : Dev nD) (t : Fin cfg0.N) : Vec F S1024x1024 .bf16 := k0_pay1 (iblk m c 0 (base t)) (iblk m c 1 (base t))

/-- The proof data: the arrays as the kernel finds them; after a point each input's buffer at its block, and the outputs at
    the normalised rows, the two products and the activation. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => hAt m c t
    | ⟨5, _⟩ => k0_pay5 (hAt m c t) (iblk m c 2 t)
    | ⟨6, _⟩ => k0_pay6 (hAt m c t) (iblk m c 3 t)
    | ⟨7, _⟩ => k0_pay7 (hAt m c t) (iblk m c 2 t) (iblk m c 3 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = hAt m c t := by dsimp only [dats]
theorem after0_5 (c : Dev nD) (t : Fin cfg0.N) : (dats m 0 c).after 5 t = k0_pay5 (hAt m c t) (iblk m c 2 t) := by dsimp only [dats]
theorem after0_6 (c : Dev nD) (t : Fin cfg0.N) : (dats m 0 c).after 6 t = k0_pay6 (hAt m c t) (iblk m c 3 t) := by dsimp only [dats]
theorem after0_7 (c : Dev nD) (t : Fin cfg0.N) : (dats m 0 c).after 7 t = k0_pay7 (hAt m c t) (iblk m c 2 t) (iblk m c 3 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

/-- The rows' window is idle at the second column step, where it is written back. -/
theorem idle4 : ∀ t : Fin cfg0.N, cfg0.idle 4 (cfg0.grid.coords t) = decide (t.val % 2 = 1) :=
  (by decide +kernel : ∀ t : Fin grid0.N, idle0 4 (grid0.coords t) = decide (t.val % 2 = 1))

theorem cond1 : ∀ t : Fin cfg0.N, k0_cond1 (grid0.coords t) = 1#1 ↔ t.val % 2 = 0 :=
  (by decide +kernel : ∀ t : Fin grid0.N, k0_cond1 (grid0.coords t) = 1#1 ↔ t.val % 2 = 0)

theorem fresh4 (t : Fin cfg0.N) : cfg0.fresh 4 t.val = decide (t.val % 2 = 0) :=
  cfg0.fresh_tab 4 (fun n => decide (n % 2 = 0)) rfl (fun t => by
    have hi := idle4 t
    have hf := flush0_4 t
    rw [hi]
    rcases Nat.mod_two_eq_zero_or_one t.val with h | h
    · have f : (cfg0.win 4).flush t = false := by
        rw [← Bool.not_eq_true, hf]; omega
      rw [f]
      simp only [h, Bool.false_or]
      have : (t.val + 1) % 2 = 1 := by omega
      simp only [this]
      decide
    · rw [hf.mpr h]
      have : (t.val + 1) % 2 = 0 := by omega
      simp only [this, Bool.true_or]
      decide) t.val (Nat.le_of_lt t.isLt)

theorem hAt_pred (c : Dev nD) (t : Fin cfg0.N) (ht : t.val % 2 = 1) :
    hAt m c t = hAt m c ⟨t.val - 1, Nat.lt_of_le_of_lt (Nat.sub_le _ _) t.isLt⟩ := by
  unfold hAt
  have e : base t = base ⟨t.val - 1, Nat.lt_of_le_of_lt (Nat.sub_le _ _) t.isLt⟩ := Fin.ext (by unfold base; dsimp only; omega)
  rw [e]

/-- At the second column step the rows' buffer holds what the first left. -/
theorem before0_4 (c : Dev nD) (t : Fin cfg0.N) (ht : t.val % 2 = 1) (d) : (dats m 0 c).before 4 t d = hAt m c t := by
  rw [(dats m 0 c).before_out_traj 4 rfl (fun _ _ => rfl) (fun u hu hi _ => by
    rw [after0_4, after0_4]
    rw [idle4 u] at hi
    exact hAt_pred m c u (of_decide_eq_true hi)) t.val t rfl d, fresh4, if_neg (by simp only [ht]; decide), after0_4]
  exact (hAt_pred m c t ht).symm

/-! ### The body at a point -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1408 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1408 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1408 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1408 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1408 .bf16 := win0_7.stage (cfg0.slots t 7)
abbrev hs0_7 (t : Fin cfg0.N) : (ms0_7 t).IsWhole := hstage0_7 ((cfg0.slots t 7).cast nbuf0_7)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The rows' buffer is handed on at the rows, normalised: at the first column step because the body stored them, at the
    second because they are written back. -/
theorem leaves4 (c : Dev nD) (t : Fin cfg0.N) :
    (dats m 0 c).leavesExact 4 t = owns (c : Thread nD τ) (ms0_4 t) fullShare (hAt m c t) := by
  rw [← after0_4]
  unfold Dat.leavesExact
  rw [idle4 t]
  rcases Nat.mod_two_eq_zero_or_one t.val with h | h
  · rw [show decide (t.val % 2 = 1) = false from decide_eq_false (by omega)]
  · rw [show decide (t.val % 2 = 1) = true from decide_eq_true h, (flush0_4 t).mpr h]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).Φ t.succ = (dats m 0 c).Φ t.castSucc from rfl,
    show (dats m 0 c).owesAt () t.succ = (dats m 0 c).owesAt () t.castSucc from rfl,
    leaves4,
    show (dats m 0 c).leavesExact 0 t = owns (c : Thread nD τ) (ms0_0 t) fullShare ((dats m 0 c).after 0 t) from rfl,
    show (dats m 0 c).leavesExact 1 t = owns (c : Thread nD τ) (ms0_1 t) fullShare ((dats m 0 c).after 1 t) from rfl,
    show (dats m 0 c).leavesExact 2 t = owns (c : Thread nD τ) (ms0_2 t) fullShare ((dats m 0 c).after 2 t) from rfl,
    show (dats m 0 c).leavesExact 3 t = owns (c : Thread nD τ) (ms0_3 t) fullShare ((dats m 0 c).after 3 t) from rfl,
    show (dats m 0 c).leavesExact 5 t = owns (c : Thread nD τ) (ms0_5 t) fullShare ((dats m 0 c).after 5 t) from rfl,
    show (dats m 0 c).leavesExact 6 t = owns (c : Thread nD τ) (ms0_6 t) fullShare ((dats m 0 c).after 6 t) from rfl,
    show (dats m 0 c).leavesExact 7 t = owns (c : Thread nD τ) (ms0_7 t) fullShare ((dats m 0 c).after 7 t) from rfl,
    after0_0, after0_1, after0_2, after0_3, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand_r Idealize.ShloMosaic.frame (wpE (defs₀ (F := F)) Variants.none (c : Thread nD τ) none) Set.univ)
  isplitl [H0 H1 H2 H3 H4 H5 H6 H7]
  · iapply (body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) ((dats m 0 c).before 4 t d4) ((dats m 0 c).before 5 t d5) ((dats m 0 c).before 6 t d6) ((dats m 0 c).before 7 t d7) (hAt m c t)
      (fun hc => by unfold hAt; rw [base_even t ((cond1 t).mp hc)])
      (fun hc => before0_4 m c t (by have := mt (cond1 t).mpr hc; omega) d4))
    iframe
  · iintro %a ⟨H0, H1, H2, H3, H4, H5, H6, H7⟩
    iframe

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The launch -/

-- the launch theorem's implicit arguments are found by unifying its conclusion with this one
set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run: every array ends at what the proof data say, every other buffer as the kernel found it. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.FfnInKernelIdeal.Hand

end
-- ==== Proof.FfnInBits.lean ====
/-
  The frame of the norm and the feed-forward product as compiled: the program is the idealized one at bits, by unfolding
  both.
-/
module

public import proofs.«01_k».proof.Proof.FfnInFrame
public import proofs.«01_k».proof.Proof.Gen.FfnInKernel
public import Idealize.ShloMosaic.PureOps.BitExact

@[expose] public section

set_option maxRecDepth 16384

noncomputable section

namespace Cert.FfnInKernel.Hand

open Cert.FfnInKernel
open Idealize.ShloMosaic Idealize.ShloMosaic.TcCoe Idealize.SL.Sem

/-- The frame: the arguments end unchanged and every semaphore at zero. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine cast ?_ (FfnInKernelIdeal.Hand.frame (F := Bits) m ρ)
  sl_kernel_rfl

end Cert.FfnInKernel.Hand

end
-- ==== Proof.FfnIn.lean ====
/-
  The norm of the rows, its product with the gate and up weights, and the gated activation: at every index the kernel’s four
  results are the reference’s.
-/
module

public import proofs.«01_k».proof.Proof.Gen.FfnInKernelIdeal.Frame
public import proofs.«01_k».proof.Proof.Gen.FfnInReferenceIdeal.Read
public import Idealize.ShloMosaic.Lib.Pipeline.ValueKit
public import Idealize.ShloMosaic.Lib.Claim
public import proofs.«01_k».proof.Defs
public import proofs.«01_k».proof.Proof.FfnInFrame
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.FfnInKernelIdeal.Hand

open Cert.FfnInKernelIdeal Cert.FfnInKernelIdeal.Gen Cert.FfnInReferenceIdeal.Read Cert.Hand

variable (m : (ℓ : Loc nD τ sig) → Buf (Elt Ideal) ℓ)

/-! ## The reference -/

section Ref
variable (a0 : FVec Ideal FfnInReferenceIdeal.S4096x1024 .f32) (a1 : FVec Ideal FfnInReferenceIdeal.S1x1024 .f32) (a2 : FVec Ideal FfnInReferenceIdeal.S1024x5632 .bf16)

/-- A row of the argument, the row normalised, and an entry of its product with the weight. -/
def xr (r : Fin 4096) (k : Fin 1024) : EReal := a0 (ix2 r k)
def hr (r : Fin 4096) (k : Fin 1024) : EReal := xr a0 r k * rms (xr a0 r) * a1 (ix2 (0 : Fin 1) k)
def gu (r : Fin 4096) (j : Fin 5632) : EReal := ∑ k : Fin 1024, hr a0 a1 r k * a2 (ix2 k j)

/-- The gate's and the up half's column of the weight. -/
def gcol (j : Fin 2816) : Fin 5632 := ⟨j.val, by omega⟩
def ucol (j : Fin 2816) : Fin 5632 := ⟨2816 + j.val, by omega⟩

theorem v7 (r : Fin 4096) (q : Fin 1) : val_main_v7 (F := Ideal) a0 (ix2 r q) = rms (xr a0 r) := by
  pointwise [val_main_v0, val_main_cst, val_main_v1, val_main_v2, val_main_cst_0, val_main_v3, val_main_v4, val_main_cst_1, val_main_v5, val_main_v6, val_main_v7]
  rfl

theorem v11 (r : Fin 4096) (k : Fin 1024) : val_main_v11 (F := Ideal) a0 a1 (ix2 r k) = hr a0 a1 r k := by
  pointwise [val_main_v8, val_main_v9, val_main_v10, val_main_v11]
  simp only [v7]
  rfl

theorem v13 (r : Fin 4096) (j : Fin 5632) : val_main_v13 (F := Ideal) a0 a1 a2 (ix2 r j) = gu a0 a1 a2 r j := by
  pointwise [val_main_v12, val_main_v13]
  simp only [v11]
  rfl

theorem v14 (r : Fin 4096) (j : Fin 2816) : val_main_v14 (F := Ideal) a0 a1 a2 (ix2 r j) = gu a0 a1 a2 r (gcol j) := by
  rw [val_main_v14_apply]
  exact (congrArg _ (by blk_ext []; rfl)).trans (v13 a0 a1 a2 r (gcol j))

theorem v15 (r : Fin 4096) (j : Fin 2816) : val_main_v15 (F := Ideal) a0 a1 a2 (ix2 r j) = gu a0 a1 a2 r (ucol j) := by
  rw [val_main_v15_apply]
  exact (congrArg _ (by blk_ext []; rfl)).trans (v13 a0 a1 a2 r (ucol j))

/-- The gated activation of two numbers. -/
def swig (g u : EReal) : EReal := g * Ideal.logistic g * u

theorem v21 (r : Fin 4096) (j : Fin 2816) :
    val_main_v21 (F := Ideal) a0 a1 a2 (ix2 r j) = swig (gu a0 a1 a2 r (gcol j)) (gu a0 a1 a2 r (ucol j)) := by
  pointwise [val_main_call0_v0, val_main_call0_v1, val_main_call0_cst, val_main_call0_v2, val_main_call0_v3, val_main_call0_cst_0, val_main_call0_v4, val_main_call0_v5, val_main_v19, val_main_v20, val_main_v21]
  simp only [v14, v15]
  rfl

end Ref

/-! ## The kernel at a grid point -/

theorem pay1 (x : Vec Ideal S1024x1024 .f32) (g : Vec Ideal S1x1024 .f32) (a b : Fin 1024) :
    k0_pay1 x g (ix2 a b) = x (ix2 a b) * rms (fun k => x (ix2 a k)) * g (ix2 (0 : Fin 1) b) := by
  pointwise [k0_pay1]
  rfl

theorem pay5 (h : Vec Ideal S1024x1024 .bf16) (w : Vec Ideal S1024x1408 .bf16) (a : Fin 1024) (b : Fin 1408) :
    k0_pay5 h w (ix2 a b) = ∑ k : Fin 1024, h (ix2 a k) * w (ix2 k b) := by
  pointwise [k0_pay5, k0_pay3, k0_pay2]

theorem pay6 (h : Vec Ideal S1024x1024 .bf16) (w : Vec Ideal S1024x1408 .bf16) (a : Fin 1024) (b : Fin 1408) :
    k0_pay6 h w (ix2 a b) = ∑ k : Fin 1024, h (ix2 a k) * w (ix2 k b) := by
  pointwise [k0_pay6, k0_pay4, k0_pay2]

theorem pay7 (h : Vec Ideal S1024x1024 .bf16) (w u : Vec Ideal S1024x1408 .bf16) (a : Fin 1024) (b : Fin 1408) :
    k0_pay7 h w u (ix2 a b) = swig (∑ k : Fin 1024, h (ix2 a k) * w (ix2 k b)) (∑ k : Fin 1024, h (ix2 a k) * u (ix2 k b)) := by
  pointwise [k0_pay7, k0_pay3, k0_pay4, k0_pay2]
  rfl

/-- The block each window stages at a grid point. -/
theorem idx : ∀ t : Fin cfg0.N, win0_0.index t = ![t.val / 2, 0]
    ∧ win0_1.index t = ![0, 0]
    ∧ win0_2.index t = ![0, t.val % 2]
    ∧ win0_3.index t = ![0, 2 + t.val % 2]
    ∧ win0_4.index t = ![t.val / 2, 0]
    ∧ win0_5.index t = ![t.val / 2, t.val % 2]
    ∧ win0_6.index t = ![t.val / 2, t.val % 2]
    ∧ win0_7.index t = ![t.val / 2, t.val % 2] :=
  (by decide +kernel : ∀ t : Fin grid0.N, _)

theorem t_lt (t : Fin cfg0.N) : t.val < 8 := t.isLt

/-- A row and a column of the block, as a row and a column of the array. -/
def row (t : Fin cfg0.N) (a : Fin 1024) : Fin 4096 := ⟨t.val / 2 * 1024 + a.val, by have := t_lt t; omega⟩
def col (t : Fin cfg0.N) (b : Fin 1408) : Fin 2816 := ⟨t.val % 2 * 1408 + b.val, by omega⟩

theorem row_base (t : Fin cfg0.N) (a : Fin 1024) : row (base t) a = row t a := Fin.ext (by unfold row base; dsimp only; omega)

theorem r0 (c : Dev nD) (t : Fin cfg0.N) (z : S1024x1024.Idx) : iblk m c 0 t z = (m (c.tc.loc main_arg0)) (ix2 (row t (z 0)) (z 1)) := by
  unfold row
  blk_point [iblk, V, idx t]
theorem r1 (c : Dev nD) (t : Fin cfg0.N) (z : S1x1024.Idx) : iblk m c 1 t z = (m (c.tc.loc main_arg1)) z := by
  blk_point [iblk, V, idx t]
theorem r2 (c : Dev nD) (t : Fin cfg0.N) (z : S1024x1408.Idx) : iblk m c 2 t z = (m (c.tc.loc main_arg2)) (ix2 (z 0) (gcol (col t (z 1)))) := by
  unfold gcol col
  blk_point [iblk, V, idx t]
theorem r3 (c : Dev nD) (t : Fin cfg0.N) (z : S1024x1408.Idx) : iblk m c 3 t z = (m (c.tc.loc main_arg2)) (ix2 (z 0) (ucol (col t (z 1)))) := by
  unfold ucol col
  blk_point [iblk, V, idx t]

theorem h_is (c : Dev nD) (t : Fin cfg0.N) (a b : Fin 1024) :
    hAt m c t (ix2 a b) = hr (m (c.tc.loc main_arg0)) (m (c.tc.loc main_arg1)) (row t a) b := by
  unfold hAt
  rw [pay1, ← row_base]
  simp only [r0, r1]
  rfl

theorem gate_is (c : Dev nD) (t : Fin cfg0.N) (a : Fin 1024) (b : Fin 1408) :
    (∑ k : Fin 1024, hAt m c t (ix2 a k) * iblk m c 2 t (ix2 k b) : EReal) = gu (m (c.tc.loc main_arg0)) (m (c.tc.loc main_arg1)) (m (c.tc.loc main_arg2)) (row t a) (gcol (col t b)) :=
  Finset.sum_congr rfl fun k _ => congrArg₂ _ (h_is m c t a k) (r2 m c t _)

theorem up_is (c : Dev nD) (t : Fin cfg0.N) (a : Fin 1024) (b : Fin 1408) :
    (∑ k : Fin 1024, hAt m c t (ix2 a k) * iblk m c 3 t (ix2 k b) : EReal) = gu (m (c.tc.loc main_arg0)) (m (c.tc.loc main_arg1)) (m (c.tc.loc main_arg2)) (row t a) (ucol (col t b)) :=
  Finset.sum_congr rfl fun k _ => congrArg₂ _ (h_is m c t a k) (r3 m c t _)

theorem point_4 (c : Dev nD) (t : Fin cfg0.N) (y : S1024x1024.Idx) :
    hAt m c t y = val_main_v16 (F := Ideal) (m (c.tc.loc main_arg0)) (m (c.tc.loc main_arg1)) (ix2 (row t (y 0)) (y 1)) := by
  idx_vars y
  exact (h_is m c t _ _).trans (v11 _ _ _ _).symm

theorem point_5 (c : Dev nD) (t : Fin cfg0.N) (y : S1024x1408.Idx) :
    k0_pay5 (hAt m c t) (iblk m c 2 t) y = val_main_v17 (F := Ideal) (m (c.tc.loc main_arg0)) (m (c.tc.loc main_arg1)) (m (c.tc.loc main_arg2)) (ix2 (row t (y 0)) (col t (y 1))) := by
  idx_vars y
  exact ((pay5 _ _ _ _).trans (gate_is m c t _ _)).trans (v14 _ _ _ _ _).symm

theorem point_6 (c : Dev nD) (t : Fin cfg0.N) (y : S1024x1408.Idx) :
    k0_pay6 (hAt m c t) (iblk m c 3 t) y = val_main_v18 (F := Ideal) (m (c.tc.loc main_arg0)) (m (c.tc.loc main_arg1)) (m (c.tc.loc main_arg2)) (ix2 (row t (y 0)) (col t (y 1))) := by
  idx_vars y
  exact ((pay6 _ _ _ _).trans (up_is m c t _ _)).trans (v15 _ _ _ _ _).symm

theorem point_7 (c : Dev nD) (t : Fin cfg0.N) (y : S1024x1408.Idx) :
    k0_pay7 (hAt m c t) (iblk m c 2 t) (iblk m c 3 t) y = val_main_v21 (F := Ideal) (m (c.tc.loc main_arg0)) (m (c.tc.loc main_arg1)) (m (c.tc.loc main_arg2)) (ix2 (row t (y 0)) (col t (y 1))) := by
  idx_vars y
  exact ((pay7 _ _ _ _ _).trans (congrArg₂ swig (gate_is m c t _ _) (up_is m c t _ _))).trans (v21 _ _ _ _ _).symm

theorem emb_4 (t : Fin cfg0.N) (y : S1024x1024.Idx) : ((cfg0.win 4).blk t).view.emb y = ix2 (row t (y 0)) (y 1) := by
  unfold row
  blk_ext [idx t]

theorem final_4 (c : Dev nD) : (dats m 0 c).arrAt 4 (cfgs 0).N = val_main_v16 (F := Ideal) (m (c.tc.loc main_arg0)) (m (c.tc.loc main_arg1)) := by
  refine (dats m 0 c).arrAt_eq_of_covers 4 _ (by decide +kernel) fun t hf y => ?_
  rw [after0_4]
  exact (point_4 m c t y).trans (congrArg _ (emb_4 t y).symm)

theorem emb_5 (t : Fin cfg0.N) (y : S1024x1408.Idx) : ((cfg0.win 5).blk t).view.emb y = ix2 (row t (y 0)) (col t (y 1)) := by
  unfold row col
  blk_ext [idx t]

theorem final_5 (c : Dev nD) : (dats m 0 c).arrAt 5 (cfgs 0).N = val_main_v17 (F := Ideal) (m (c.tc.loc main_arg0)) (m (c.tc.loc main_arg1)) (m (c.tc.loc main_arg2)) := by
  refine (dats m 0 c).arrAt_eq_of_covers 5 _ (by decide +kernel) fun t hf y => ?_
  rw [after0_5]
  exact (point_5 m c t y).trans (congrArg _ (emb_5 t y).symm)

theorem emb_6 (t : Fin cfg0.N) (y : S1024x1408.Idx) : ((cfg0.win 6).blk t).view.emb y = ix2 (row t (y 0)) (col t (y 1)) := by
  unfold row col
  blk_ext [idx t]

theorem final_6 (c : Dev nD) : (dats m 0 c).arrAt 6 (cfgs 0).N = val_main_v18 (F := Ideal) (m (c.tc.loc main_arg0)) (m (c.tc.loc main_arg1)) (m (c.tc.loc main_arg2)) := by
  refine (dats m 0 c).arrAt_eq_of_covers 6 _ (by decide +kernel) fun t hf y => ?_
  rw [after0_6]
  exact (point_6 m c t y).trans (congrArg _ (emb_6 t y).symm)

theorem emb_7 (t : Fin cfg0.N) (y : S1024x1408.Idx) : ((cfg0.win 7).blk t).view.emb y = ix2 (row t (y 0)) (col t (y 1)) := by
  unfold row col
  blk_ext [idx t]

theorem final_7 (c : Dev nD) : (dats m 0 c).arrAt 7 (cfgs 0).N = val_main_v21 (F := Ideal) (m (c.tc.loc main_arg0)) (m (c.tc.loc main_arg1)) (m (c.tc.loc main_arg2)) := by
  refine (dats m 0 c).arrAt_eq_of_covers 7 _ (by decide +kernel) fun t hf y => ?_
  rw [after0_7]
  exact (point_7 m c t y).trans (congrArg _ (emb_7 t y).symm)

/-- The run: the results are what the proof data say, and the arguments end unchanged. -/
theorem results (g : Dev nD → PrngReg) : θ_run defs (onTc (τ := τ) (main (F := Ideal))) ⟨m, fun _ => 0, g⟩ (fun r => ∀ c : Dev nD,
      r.2.mem (c.tc.loc main_v0_0) = (dats m 0 c).arrAt 4 (cfgs 0).N
      ∧ r.2.mem (c.tc.loc main_v0_1) = (dats m 0 c).arrAt 5 (cfgs 0).N
      ∧ r.2.mem (c.tc.loc main_v0_2) = (dats m 0 c).arrAt 6 (cfgs 0).N
      ∧ r.2.mem (c.tc.loc main_v0_3) = (dats m 0 c).arrAt 7 (cfgs 0).N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) :=
  (θ_run defs _ _).mono (fun _ h c => ⟨(h.1 c).1 4, (h.1 c).1 5, (h.1 c).1 6, (h.1 c).1 7, h.2.1 c⟩) (θ_run_and (run_main m g) (frame m g))

end Cert.FfnInKernelIdeal.Hand

namespace Cert.Hand

/-- The kernel’s four results are the normalised rows, the gate and up rows, and the activation. -/
theorem FfnIn : algebraic_FfnInKernelIdeal_FfnInReferenceIdeal := by
  pair_intro
  · exact FfnInKernelIdeal.Hand.results m g
  · refine (θ_run _ _ _).mono ?_ (FfnInReferenceIdeal.Value.run m' g')
    intro r h c
    obtain ⟨r0, r1, r2, r3, h0, h1, h2⟩ := h c
    obtain ⟨a0, a1, a2⟩ := hagree c
    refine ⟨r0.trans ((FfnInReferenceIdeal.Read.val_main_v16_eq _ _).trans ?_), r1.trans ((FfnInReferenceIdeal.Read.val_main_v17_eq _ _ _).trans ?_), r2.trans ((FfnInReferenceIdeal.Read.val_main_v18_eq _ _ _).trans ?_), r3.trans ((FfnInReferenceIdeal.Read.val_main_v21_eq _ _ _).trans ?_), h0, h1, h2⟩
    · rw [a0, a1]
      exact (FfnInKernelIdeal.Hand.final_4 m c).symm
    · rw [a0, a1, a2]
      exact (FfnInKernelIdeal.Hand.final_5 m c).symm
    · rw [a0, a1, a2]
      exact (FfnInKernelIdeal.Hand.final_6 m c).symm
    · rw [a0, a1, a2]
      exact (FfnInKernelIdeal.Hand.final_7 m c).symm

/-- The reference runs and leaves its arguments as they were. -/
theorem ref_FfnIn : quiescent_FfnInReferenceIdeal := by
  intro m g hpre
  hlo_run
  all_goals first
    | exact fun _ => by simp
    | exact sem_eq_zero_of_no_sems (sig := FfnInReferenceIdeal.sig) (by decide) _

end Cert.Hand

end
-- ==== Proof.MatMul.lean ====
/-
  The gradient of the feed-forward input weight: the product of the transposed activations with the incoming
  gradient, a tile of columns at a time.
-/
module

public import proofs.«01_k».proof.Proof.Gen.MatMulKernelIdeal.Frame
public import proofs.«01_k».proof.Proof.Gen.MatMulReferenceIdeal.Read
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.MatMulKernelIdeal.Hand

open Cert.MatMulKernelIdeal Cert.MatMulKernelIdeal.Gen Cert.MatMulReferenceIdeal.Read

variable (m : (ℓ : Loc nD τ sig) → Buf (Elt Ideal) ℓ)

/-- The block each window stages at a grid point. -/
theorem idx : ∀ t : Fin cfg0.N, win0_0.index t = ![0, 0] ∧ win0_1.index t = ![0, t.val] ∧ win0_2.index t = ![0, t.val] :=
  (by decide +kernel : ∀ t : Fin grid0.N, _)

theorem t_lt (t : Fin cfg0.N) : t.val < 11 := t.isLt

/-- A column of the block, as a column of the array. -/
def col (t : Fin cfg0.N) (b : Fin 512) : Fin 5632 := ⟨t.val * 512 + b.val, by have := t_lt t; omega⟩

theorem r0 (c : Dev nD) (t : Fin cfg0.N) (z : S4096x1024.Idx) : iblk m c 0 t z = (m (c.tc.loc main_arg0)) z := by
  blk_point [iblk, V, idx t]
theorem r1 (c : Dev nD) (t : Fin cfg0.N) (z : S4096x512.Idx) : iblk m c 1 t z = (m (c.tc.loc main_arg1)) (ix2 (z 0) (col t (z 1))) := by
  unfold col
  blk_point [iblk, V, idx t]

theorem point_2 (c : Dev nD) (t : Fin cfg0.N) (y : S1024x512.Idx) :
    k0_pay1 (F := Ideal) (iblk m c 0 t) (iblk m c 1 t) y
      = val_main_v4 (F := Ideal) (m (c.tc.loc main_arg0)) (m (c.tc.loc main_arg1)) (ix2 (y 0) (col t (y 1))) := by
  idx_vars y
  pointwise [k0_pay1, val_main_v0, val_main_v1, val_main_v2, val_main_v3, val_main_v4]
  simp only [r0, r1]
  rfl

theorem emb_2 (t : Fin cfg0.N) (y : S1024x512.Idx) : ((cfg0.win 2).blk t).view.emb y = ix2 (y 0) (col t (y 1)) := by
  unfold col
  blk_ext [idx t]

theorem final_2 (c : Dev nD) : (dats m 0 c).arrAt 2 (cfgs 0).N = val_main_v4 (F := Ideal) (m (c.tc.loc main_arg0)) (m (c.tc.loc main_arg1)) := by
  refine (dats m 0 c).arrAt_eq_of_covers 2 _ (by decide +kernel) fun t hf y => ?_
  rw [after0_2]
  frame_out
  exact (point_2 m c t y).trans (congrArg _ (emb_2 t y).symm)

end Cert.MatMulKernelIdeal.Hand

namespace Cert.Hand

/-- The kernel’s result is the product of the transposed activations with the incoming gradient. -/
theorem MatMul : algebraic_MatMulKernelIdeal_MatMulReferenceIdeal := by
  pair_intro
  · run_from MatMulKernelIdeal.Gen.run_main m g
  · refine (θ_run _ _ _).mono ?_ (MatMulReferenceIdeal.Value.run m' g')
    intro r h c
    obtain ⟨r0, h0, h1⟩ := h c
    obtain ⟨a0, a1⟩ := hagree c
    refine ⟨r0.trans ((MatMulReferenceIdeal.Read.val_main_v4_eq _ _).trans ?_), h0, h1⟩
    · rw [a0, a1]
      exact (MatMulKernelIdeal.Hand.final_2 m c).symm

/-- The reference runs and leaves its arguments as they were. -/
theorem ref_MatMul : quiescent_MatMulReferenceIdeal := by
  intro m g hpre
  hlo_run
  all_goals first
    | exact fun _ => by simp
    | exact sem_eq_zero_of_no_sems (sig := MatMulReferenceIdeal.sig) (by decide) _

end Cert.Hand

end
-- ==== Proof.AdamW.lean ====
/-
  The optimiser: at every index of the weight the kernel’s step, moments and gradient are the reference’s.
-/
module

public import proofs.«01_k».proof.Proof.Gen.AdamWKernelIdeal.Frame
public import proofs.«01_k».proof.Proof.Gen.AdamWReferenceIdeal.Read
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.AdamWKernelIdeal.Hand

open Cert.AdamWKernelIdeal Cert.AdamWKernelIdeal.Gen Cert.AdamWReferenceIdeal.Read

variable (m : (ℓ : Loc nD τ sig) → Buf (Elt Ideal) ℓ)

/-- The block each window stages at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem t_lt (t : Fin cfg0.N) : t.val < 8 := t.isLt

/-- A row of the block, as a row of the array. -/
def row (t : Fin cfg0.N) (a : Fin 128) : Fin 1024 := ⟨t.val * 128 + a.val, by have := t_lt t; omega⟩

theorem r0 (c : Dev nD) (t : Fin cfg0.N) (z : S128x1408.Idx) : iblk m c 0 t z = m (c.tc.loc main_arg0) (ix2 (row t (z 0)) (z 1)) := by
  unfold row
  blk_point [iblk, V, idx t]
theorem r1 (c : Dev nD) (t : Fin cfg0.N) (z : S128x1408.Idx) : iblk m c 1 t z = m (c.tc.loc main_arg1) (ix2 (row t (z 0)) (z 1)) := by
  unfold row
  blk_point [iblk, V, idx t]
theorem r2 (c : Dev nD) (t : Fin cfg0.N) (z : S128x1408.Idx) : iblk m c 2 t z = m (c.tc.loc main_arg2) (ix2 (row t (z 0)) (z 1)) := by
  unfold row
  blk_point [iblk, V, idx t]
theorem r3 (c : Dev nD) (t : Fin cfg0.N) (z : S128x1408.Idx) : iblk m c 3 t z = m (c.tc.loc main_arg3) (ix2 (row t (z 0)) (z 1)) := by
  unfold row
  blk_point [iblk, V, idx t]

theorem point_4 (c : Dev nD) (t : Fin cfg0.N) (y : S128x1408.Idx) :
    k0_pay3 (F := Ideal) (iblk m c 0 t) (iblk m c 1 t) (iblk m c 2 t) (iblk m c 3 t) y
      = val_main_v23 (F := Ideal) (m (c.tc.loc main_arg0)) (m (c.tc.loc main_arg1)) (m (c.tc.loc main_arg2)) (m (c.tc.loc main_arg3)) (ix2 (row t (y 0)) (y 1)) := by
  idx_vars y
  pointwise [k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  simp only [r0, r1, r2, r3]
  rfl

theorem point_5 (c : Dev nD) (t : Fin cfg0.N) (y : S128x1408.Idx) :
    k0_pay1 (F := Ideal) (iblk m c 1 t) (iblk m c 2 t) y
      = val_main_v4 (F := Ideal) (m (c.tc.loc main_arg1)) (m (c.tc.loc main_arg2)) (ix2 (row t (y 0)) (y 1)) := by
  idx_vars y
  pointwise [k0_pay1, k0_pay2, k0_pay3, val_main_cst, val_main_v0, val_main_v1, val_main_cst_0, val_main_v2, val_main_v3, val_main_v4]
  simp only [r1, r2]
  rfl

theorem point_6 (c : Dev nD) (t : Fin cfg0.N) (y : S128x1408.Idx) :
    k0_pay2 (F := Ideal) (iblk m c 1 t) (iblk m c 3 t) y
      = val_main_v10 (F := Ideal) (m (c.tc.loc main_arg1)) (m (c.tc.loc main_arg3)) (ix2 (row t (y 0)) (y 1)) := by
  idx_vars y
  pointwise [k0_pay2, val_main_cst_1, val_main_v5, val_main_v6, val_main_v7, val_main_cst_2, val_main_v8, val_main_v9, val_main_v10]
  simp only [r1, r3]
  rfl

theorem emb_4 (t : Fin cfg0.N) (y : S128x1408.Idx) : ((cfg0.win 4).blk t).view.emb y = ix2 (row t (y 0)) (y 1) := by
  unfold row
  blk_ext [idx t]

theorem final_4 (c : Dev nD) : (dats m 0 c).arrAt 4 (cfgs 0).N = val_main_v23 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  rw [after0_4]
  frame_out
  exact (point_4 m c t y).trans (congrArg _ (emb_4 t y).symm)

theorem emb_5 (t : Fin cfg0.N) (y : S128x1408.Idx) : ((cfg0.win 5).blk t).view.emb y = ix2 (row t (y 0)) (y 1) := by
  unfold row
  blk_ext [idx t]

theorem final_5 (c : Dev nD) : (dats m 0 c).arrAt 5 (cfgs 0).N = val_main_v4 (F := Ideal) (m (c.tc.loc main_arg1)) (m (c.tc.loc main_arg2)) := by
  refine (dats m 0 c).arrAt_eq_of_covers 5 _ (by decide +kernel) fun t hf y => ?_
  rw [after0_5]
  frame_out
  exact (point_5 m c t y).trans (congrArg _ (emb_5 t y).symm)

theorem emb_6 (t : Fin cfg0.N) (y : S128x1408.Idx) : ((cfg0.win 6).blk t).view.emb y = ix2 (row t (y 0)) (y 1) := by
  unfold row
  blk_ext [idx t]

theorem final_6 (c : Dev nD) : (dats m 0 c).arrAt 6 (cfgs 0).N = val_main_v10 (F := Ideal) (m (c.tc.loc main_arg1)) (m (c.tc.loc main_arg3)) := by
  refine (dats m 0 c).arrAt_eq_of_covers 6 _ (by decide +kernel) fun t hf y => ?_
  rw [after0_6]
  frame_out
  exact (point_6 m c t y).trans (congrArg _ (emb_6 t y).symm)

theorem emb_7 (t : Fin cfg0.N) (y : S128x1408.Idx) : ((cfg0.win 7).blk t).view.emb y = ix2 (row t (y 0)) (y 1) := by
  unfold row
  blk_ext [idx t]

theorem final_7 (c : Dev nD) : (dats m 0 c).arrAt 7 (cfgs 0).N =  (m (c.tc.loc main_arg1)) := by
  refine (dats m 0 c).arrAt_eq_of_covers 7 _ (by decide +kernel) fun t hf y => ?_
  rw [after0_7]
  frame_out
  exact (r1 m c t y).trans (congrArg _ (emb_7 t y).symm)

end Cert.AdamWKernelIdeal.Hand

namespace Cert.Hand

/-- The kernel’s four results are the reference’s step, moments and gradient. -/
theorem AdamW : algebraic_AdamWKernelIdeal_AdamWReferenceIdeal := by
  pair_intro
  · run_from AdamWKernelIdeal.Gen.run_main m g
  · refine (θ_run _ _ _).mono ?_ (AdamWReferenceIdeal.Value.run m' g')
    intro r h c
    obtain ⟨r0, r1, r2, r3, h0, h1, h2, h3⟩ := h c
    obtain ⟨a0, a1, a2, a3⟩ := hagree c
    refine ⟨r0.trans ((AdamWReferenceIdeal.Read.val_main_v23_eq _ _ _ _).trans ?_), r1.trans ((AdamWReferenceIdeal.Read.val_main_v4_eq _ _).trans ?_), r2.trans ((AdamWReferenceIdeal.Read.val_main_v10_eq _ _).trans ?_), r3.trans ?_, h0, h1, h2, h3⟩
    · rw [a0, a1, a2, a3]
      exact (AdamWKernelIdeal.Hand.final_4 m c).symm
    · rw [a1, a2]
      exact (AdamWKernelIdeal.Hand.final_5 m c).symm
    · rw [a1, a3]
      exact (AdamWKernelIdeal.Hand.final_6 m c).symm
    · rw [a1]
      exact (AdamWKernelIdeal.Hand.final_7 m c).symm

/-- The reference runs and leaves its arguments as they were. -/
theorem ref_AdamW : quiescent_AdamWReferenceIdeal := by
  intro m g hpre
  hlo_run
  all_goals first
    | exact fun _ => by simp
    | exact sem_eq_zero_of_no_sems (sig := AdamWReferenceIdeal.sig) (by decide) _

end Cert.Hand

end
-- ==== Proof.Assemble.lean ====
/-
  The packing of the eight gradients side by side: at every index the kernel’s array is the reference’s.
-/
module

public import proofs.«01_k».proof.Proof.Gen.AssembleKernelIdeal.Frame
public import proofs.«01_k».proof.Proof.Gen.AssembleReferenceIdeal.Read
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.AssembleKernelIdeal.Hand

open Cert.AssembleKernelIdeal Cert.AssembleKernelIdeal.Gen Cert.AssembleReferenceIdeal.Read

variable (m : (ℓ : Loc nD τ sig) → Buf (Elt Ideal) ℓ)

/-- The block each window stages at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem t_lt (t : Fin cfg0.N) : t.val < 16 := t.isLt

/-- A row of the block, as a row of the array. -/
def row (t : Fin cfg0.N) (a : Fin 256) : Fin 4096 := ⟨t.val * 256 + a.val, by have := t_lt t; omega⟩

theorem r0 (c : Dev nD) (t : Fin cfg0.N) (z : S256x512.Idx) : iblk m c 0 t z = m (c.tc.loc main_arg0) (ix2 (row t (z 0)) (z 1)) := by
  unfold row
  blk_point [iblk, V, idx t]
theorem r1 (c : Dev nD) (t : Fin cfg0.N) (z : S256x512.Idx) : iblk m c 1 t z = m (c.tc.loc main_arg1) (ix2 (row t (z 0)) (z 1)) := by
  unfold row
  blk_point [iblk, V, idx t]
theorem r2 (c : Dev nD) (t : Fin cfg0.N) (z : S256x512.Idx) : iblk m c 2 t z = m (c.tc.loc main_arg2) (ix2 (row t (z 0)) (z 1)) := by
  unfold row
  blk_point [iblk, V, idx t]
theorem r3 (c : Dev nD) (t : Fin cfg0.N) (z : S256x512.Idx) : iblk m c 3 t z = m (c.tc.loc main_arg3) (ix2 (row t (z 0)) (z 1)) := by
  unfold row
  blk_point [iblk, V, idx t]
theorem r4 (c : Dev nD) (t : Fin cfg0.N) (z : S256x512.Idx) : iblk m c 4 t z = m (c.tc.loc main_arg4) (ix2 (row t (z 0)) (z 1)) := by
  unfold row
  blk_point [iblk, V, idx t]
theorem r5 (c : Dev nD) (t : Fin cfg0.N) (z : S256x512.Idx) : iblk m c 5 t z = m (c.tc.loc main_arg5) (ix2 (row t (z 0)) (z 1)) := by
  unfold row
  blk_point [iblk, V, idx t]
theorem r6 (c : Dev nD) (t : Fin cfg0.N) (z : S256x1024.Idx) : iblk m c 6 t z = m (c.tc.loc main_arg6) (ix2 (row t (z 0)) (z 1)) := by
  unfold row
  blk_point [iblk, V, idx t]
theorem r7 (c : Dev nD) (t : Fin cfg0.N) (z : S256x1024.Idx) : iblk m c 7 t z = m (c.tc.loc main_arg7) (ix2 (row t (z 0)) (z 1)) := by
  unfold row
  blk_point [iblk, V, idx t]

theorem point_8 (c : Dev nD) (t : Fin cfg0.N) (y : S256x5120.Idx) :
    k0_pay1 (F := Ideal) (iblk m c 0 t) (iblk m c 1 t) (iblk m c 2 t) (iblk m c 3 t) (iblk m c 4 t) (iblk m c 5 t) (iblk m c 6 t) (iblk m c 7 t) y
      = val_main_v7 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (ix2 (row t (y 0)) (y 1)) := by
  idx_vars y
  pointwise [k0_pay1, val_main_v0, val_main_v1, val_main_v2, val_main_v3, val_main_v4, val_main_v5, val_main_v6, val_main_v7]
  simp only [r0, r1, r2, r3, r4, r5, r6, r7]
  rfl

theorem emb_8 (t : Fin cfg0.N) (y : S256x5120.Idx) : ((cfg0.win 8).blk t).view.emb y = ix2 (row t (y 0)) (y 1) := by
  unfold row
  blk_ext [idx t]

theorem final_8 (c : Dev nD) : (dats m 0 c).arrAt 8 (cfgs 0).N = val_main_v7 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine (dats m 0 c).arrAt_eq_of_covers 8 _ (by decide +kernel) fun t hf y => ?_
  rw [after0_8]
  frame_out
  exact (point_8 m c t y).trans (congrArg _ (emb_8 t y).symm)

end Cert.AssembleKernelIdeal.Hand

namespace Cert.Hand

/-- The kernel’s array is the eight gradients side by side. -/
theorem Assemble : algebraic_AssembleKernelIdeal_AssembleReferenceIdeal := by
  pair_intro
  · run_from AssembleKernelIdeal.Gen.run_main m g
  · refine (θ_run _ _ _).mono ?_ (AssembleReferenceIdeal.Value.run m' g')
    intro r h c
    obtain ⟨r0, h0, h1, h2, h3, h4, h5, h6, h7⟩ := h c
    obtain ⟨a0, a1, a2, a3, a4, a5, a6, a7⟩ := hagree c
    refine ⟨r0.trans ((AssembleReferenceIdeal.Read.val_main_v7_eq _ _ _ _ _ _ _ _).trans ?_), h0, h1, h2, h3, h4, h5, h6, h7⟩
    · rw [a0, a1, a2, a3, a4, a5, a6, a7]
      exact (AssembleKernelIdeal.Hand.final_8 m c).symm

/-- The reference runs and leaves its arguments as they were. -/
theorem ref_Assemble : quiescent_AssembleReferenceIdeal := by
  intro m g hpre
  hlo_run
  all_goals first
    | exact fun _ => by simp
    | exact sem_eq_zero_of_no_sems (sig := AssembleReferenceIdeal.sig) (by decide) _

end Cert.Hand

end
-- ==== Proof.ExchangeProtocol.lean ====
/-
  The exchange between the two cores of a chip: each device sends the plane of its array that belongs to its sibling
  straight into the sibling's result array, waits until its own plane has been read out, and waits until the sibling's
  has arrived. This module says what the two semaphores of a device carry — the send semaphore gives the sent plane
  back, the receive semaphore the result array with the sibling's plane in it —, what every device owes when the program
  starts (one arrival at its sibling), and proves that one device's body, from these, ends with its array unchanged and
  its result array holding the sibling's plane.
-/
module

public import proofs.«01_k».proof.ExchangeKernelIdeal
public import proofs.«01_k».proof.Proof.Gen.ExchangeKernelIdeal
public import Idealize.ShloMosaic.Lib.Pipeline.Regions
public import Idealize.ShloMosaic.Lib.Rounds
public import Idealize.ShloMosaic.Lib.Quiescent

@[expose] public section

set_option maxRecDepth 16384

noncomputable section

namespace Cert.ExchangeKernelIdeal.Hand

open Cert.ExchangeKernelIdeal Cert.ExchangeKernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ### The ghost state: rounds over the machine's semaphores, one kind of duty -/

abbrev Rnd : Type := URounds (GSem nD τ sig) Unit

local notation "𝕄" => MT nD τ sig Unit (Elt F) ℕ Rnd ℕ

def embX : Emb Rnd (MT nD τ sig Unit (Elt F) ℕ Rnd ℕ) :=
  (Emb.refl _).trans (uEmb (nD := nD) (sig := sig) (Ix := Unit) (Val := Elt F) (Name := ℕ) (U := Rnd) (Lvl := ℕ)).toEmb

instance embX_lands : (embX : Emb Rnd 𝕄).LandsIn (upEmb : UEmb _ 𝕄) := by unfold embX; infer_instance

variable (m : (ℓ : Loc nD τ sig) → Buf (Elt F) ℓ)

/-! ### The sibling -/

set_option backward.proofsInPublic true in
/-- The other core of the chip. -/
def peer (c : Dev nD) : Dev nD := ⟨c.val + 1 - 2 * (c.val % 2), by have h : c.val < 8 := c.isLt; show c.val + 1 - 2 * (c.val % 2) < 8; omega⟩

theorem peer_peer (c : Dev nD) : peer (peer c) = c := by revert c; decide

/-- The device the kernel addresses is the sibling. -/
theorem dev_eq (c : Dev nD) : (⟨k0_dev1 c, k0_dev1_lt c⟩ : Dev nD) = peer c :=
  Fin.ext ((k0_dev1_eq c).trans (by revert c; decide))

/-- Swapping siblings. -/
def swap : Dev nD ≃ Dev nD := ⟨peer, peer, peer_peer, peer_peer⟩

/-! ### Arrays, planes and semaphores -/

/-- The device's array, its result array, and the plane it sends. -/
abbrev argM : Memref sig .tc .hbm S1x2x512x5120 .bf16 := Memref.whole main_arg0
abbrev outM : Memref sig .tc .hbm S1x512x5120 .bf16 := Memref.whole main_v1
abbrev planeM (c : Dev nD) : Memref sig .tc .hbm S1x512x5120 .bf16 :=
  (argM.slice (Rect.unit (s := S1x2x512x5120) (k0_off1 c) S1x1x512x5120.size (k0_off1_inb c)) (fun _ => rfl)).squeeze S1x512x5120
    squeezes_S1x1x512x5120_S1x512x5120

/-- The send and the receive semaphore. -/
abbrev sendS : DmaSem sig := ⟨0, by decide⟩
abbrev recvS : DmaSem sig := ⟨1, by decide⟩

theorem sendS_eq : ((cc0_scratch0.slice (Rect.unit (s := S1) ![0] S1.size inb_S1_S1_0)).squeeze S_ squeezes_S1_S_).sem = sendS := by decide
theorem recvS_eq : ((cc0_scratch1.slice (Rect.unit (s := S1) ![0] S1.size inb_S1_S1_0)).squeeze S_ squeezes_S1_S_).sem = recvS := by decide

abbrev sendCell (c : Dev nD) : GSem nD τ sig := ((c : Thread nD τ), .dma sendS)
abbrev recvCell (c : Dev nD) : GSem nD τ sig := ((c : Thread nD τ), .dma recvS)

/-- The two semaphores, numbered. -/
abbrev osem : Fin 2 → SemLoc sig := fun | 0 => .dma sendS | 1 => .dma recvS

theorem send_ne_recv : (SemLoc.dma sendS : SemLoc sig) ≠ .dma recvS := by decide
theorem recv_ne_send : (SemLoc.dma recvS : SemLoc sig) ≠ .dma sendS := by decide

/-- What one transfer adds to a semaphore; the plane and the result array count the same. -/
abbrev N : ℕ := outM.view.dmaCredit

theorem N_pos : 0 < N := View.dmaCredit_pos _ (by decide)

/-- The plane device `c` sends. -/
def sent (c : Dev nD) : S1x512x5120.Idx → Elt F .bf16 := (planeM c).view.read (Elt F) (m (c.tc.loc main_arg0))

/-- What device `c`'s result array ends holding: its sibling's plane. -/
def landed (c : Dev nD) : Buf (Elt F) (outM.view.loc (c : Thread nD τ)) := sent m (peer c)

omit [FloatOps F] in
theorem write_out (c : Dev nD) (fd : Buf (Elt F) (outM.view.loc (c : Thread nD τ))) (w : S1x512x5120.Idx → Elt F .bf16) :
    outM.view.write (Elt F) fd w Finset.univ = w :=
  View.write_whole_univ _ _ _

/-- Device `c`'s result array, whole. -/
def outPts (c : Dev nD) (f : Buf (Elt F) (outM.view.loc (c : Thread nD τ))) : sProp 𝕄 :=
  outM.view.loc (c : Thread nD τ) ↦[outM.view.set]{fullShare} f

/-- The plane it sends, and the rest of its array. -/
def planePts (c : Dev nD) : sProp 𝕄 :=
  (planeM c).view.loc (c : Thread nD τ) ↦[(planeM c).view.set]{fullShare} m (c.tc.loc main_arg0)
def restPts (c : Dev nD) : sProp 𝕄 :=
  (planeM c).view.loc (c : Thread nD τ) ↦[Finset.univ \ (planeM c).view.set]{fullShare} m (c.tc.loc main_arg0)

omit [FloatOps F] in
instance outPts_storable (c : Dev nD) (f : Buf (Elt F) (outM.view.loc (c : Thread nD τ))) :
    BI.Storable (upEmb : UEmb _ 𝕄) (outPts (F := F) c f) := by unfold outPts; infer_instance
omit [FloatOps F] in
instance planePts_storable (c : Dev nD) : BI.Storable (upEmb : UEmb _ 𝕄) (planePts (F := F) m c) := by unfold planePts; infer_instance

omit [FloatOps F] in
theorem outPts_eq (c : Dev nD) (f : Buf (Elt F) ((c : Thread nD τ).loc main_v1)) :
    outPts c f = (((c : Thread nD τ).loc main_v1) ↦{fullShare} f : sProp 𝕄) := by
  unfold outPts; rw [show outM.view.set = Finset.univ from View.set_whole _]

omit [FloatOps F] in
theorem arg_split (c : Dev nD) :
    ((c.tc.loc main_arg0) ↦{fullShare} m (c.tc.loc main_arg0) : sProp 𝕄) ⊣⊢ iprop(planePts m c ∗ restPts m c) :=
  pointsTo_split_subset (Finset.subset_univ _)

/-! ### What the semaphores carry -/

/-- Whether a semaphore is one of the exchange's. -/
abbrev IsX (g : GSem nD τ sig) : Prop := g.1.2 = .tc ∧ (g.2 = .dma sendS ∨ g.2 = .dma recvS)

/-- One round with one duty on either semaphore of a device: the read-out gives the plane back, the arrival the result
    array with the sibling's plane. -/
def sched : Rounds.Schedule (GSem nD τ sig) Unit 𝕄 where
  duties g r := if r = 0 ∧ IsX g then {()} else ∅
  unitless _ := False
  amount _ _ _ := N
  payload g _ _ :=
    if g.2 = .dma recvS then outPts g.1.1 (landed m g.1.1)
    else if g.2 = .dma sendS then planePts m g.1.1
    else iprop(emp)
  amount_pos _ _ _ _ := N_pos

instance sched_storable (g : GSem nD τ sig) (r : ℕ) (d : Unit) :
    BI.Storable (upEmb : UEmb _ 𝕄) ((sched (F := F) m).payload g r d) := by
  show BI.Storable upEmb (if g.2 = .dma recvS then outPts g.1.1 (landed m g.1.1) else if g.2 = .dma sendS then planePts m g.1.1 else iprop(emp))
  (repeat' split) <;> infer_instance

section Sched

variable (c : Dev nD)

omit [FloatOps F] in
theorem duties_send : (sched (F := F) m).duties (sendCell c) 0 = {()} := by dsimp only [sched]; exact if_pos ⟨rfl, rfl, .inl rfl⟩
omit [FloatOps F] in
theorem duties_recv : (sched (F := F) m).duties (recvCell c) 0 = {()} := by dsimp only [sched]; exact if_pos ⟨rfl, rfl, .inr rfl⟩
omit [FloatOps F] in
theorem duties_later (g : GSem nD τ sig) : ∀ r, 1 ≤ r → (sched (F := F) m).duties g r = ∅ :=
  fun r hr => by dsimp only [sched]; exact if_neg fun h => by omega

omit [FloatOps F] in
theorem expect_send : (sched (F := F) m).expect (sendCell c) 0 = N := by
  unfold Schedule.expect Schedule.amountOf; rw [duties_send, Finset.sum_singleton]; rfl
omit [FloatOps F] in
theorem expect_recv : (sched (F := F) m).expect (recvCell c) 0 = N := by
  unfold Schedule.expect Schedule.amountOf; rw [duties_recv, Finset.sum_singleton]; rfl

omit [FloatOps F] in
theorem payload_send (u : Unit) : (sched (F := F) m).payload (sendCell c) 0 u = planePts m c := by
  dsimp only [sched]; rw [if_neg send_ne_recv, if_pos rfl]
omit [FloatOps F] in
theorem payload_recv (u : Unit) : (sched (F := F) m).payload (recvCell c) 0 u = outPts c (landed m c) := by
  dsimp only [sched]; rw [if_pos rfl]

omit [FloatOps F] in
theorem rest_send : bigSep ((sched (F := F) m).duties (sendCell c) 0 \ ∅) (fun u => (sched (F := F) m).payload (sendCell c) 0 u) = planePts m c := by
  rw [Finset.sdiff_empty, duties_send, bigSep_singleton, payload_send]
omit [FloatOps F] in
theorem rest_recv : bigSep ((sched (F := F) m).duties (recvCell c) 0 \ ∅) (fun u => (sched (F := F) m).payload (recvCell c) 0 u) = outPts c (landed m c) := by
  rw [Finset.sdiff_empty, duties_recv, bigSep_singleton, payload_recv]

end Sched

/-! ### Owed at the start -/

/-- Device `c` owes its sibling one arrival. -/
def owed₀ (c : Dev nD) : CellTallies nD τ sig Unit := tallyAt (recvCell (peer c)) () N

/-! ### What a device starts from and ends with -/

abbrev xcell (ck : Dev nD × Fin 2) : GSem nD τ sig := ((ck.1 : Thread nD τ), osem ck.2)

/-- The invariants a body opens: its two semaphores' and its sibling's receive semaphore's. -/
def invs (K : Dev nD × Fin 2 → ℕ) (c : Dev nD) : sProp 𝕄 :=
  iprop(cellInv embX (sched m) (K (c, 0)) (sendCell c) ∗ cellInv embX (sched m) (K (c, 1)) (recvCell c)
    ∗ cellInv embX (sched m) (K (peer c, 1)) (recvCell (peer c)))

instance invs_persistent (K : Dev nD × Fin 2 → ℕ) (c : Dev nD) : BI.Persistent (invs m K c) := by unfold invs; infer_instance

/-- Those, its positions, the marks and the two tokens it pays with. -/
def ghost (K : Dev nD × Fin 2 → ℕ) (c : Dev nD) : sProp 𝕄 :=
  iprop(invs m K c ∗ (atPos embX (sendCell c) 0 ∅ 0 ∗ atPos embX (recvCell c) 0 ∅ 0)
    ∗ (reached embX (sendCell c) 0 ∗ reached embX (recvCell (peer c)) 0)
    ∗ dutyTok embX (sendCell c) 0 () ∗ dutyTok embX (recvCell (peer c)) 0 ())

/-- What the launch hands a device: the ghost state, its own array, and its sibling's result array. -/
def start (c : Dev nD) : sProp 𝕄 :=
  iprop((∃ K, ghost m K c) ∗ (planePts m c ∗ restPts m c) ∗ ∃ f, outPts (peer c) f)

/-- Before the body: that and the right to wait for the arrival. -/
def Φ₀ (c : Dev nD) : sProp 𝕄 := iprop(start m c ∗ cred (tallyAt (recvCell c) () N))

/-- After it: both semaphores at zero, its array, and its result array holding the sibling's plane. -/
def Φ₁ (c : Dev nD) : sProp 𝕄 :=
  iprop((semVal (sendCell c) 0 ∗ semVal (recvCell c) 0) ∗ (planePts m c ∗ restPts m c) ∗ outPts c (landed m c))

theorem cfg0_N : cfg0.N = 1 := by decide

/-- The one grid point. -/
def t₀ : Fin cfg0.N := ⟨0, by rw [cfg0_N]; decide⟩

theorem fin_N (t : Fin cfg0.N) : t = t₀ := by
  obtain ⟨t, ht⟩ := t; have := cfg0_N; exact Fin.ext (by simp only [t₀]; omega)

/-- The region's data: no window, the two states around the body, one arrival owed before it and nothing after. -/
def dats (_ : Fin 1) (c : Dev nD) : Dat τ (Elt F) Unit ℕ Rnd ℕ cfg0 c where
  A w := Fin.elim0 w
  after w := Fin.elim0 w
  Φ t := match t with
    | ⟨0, _⟩ => Φ₀ m c
    | ⟨_ + 1, _⟩ => Φ₁ m c
  q w := Fin.elim0 w
  owed t := match t with
    | ⟨0, _⟩ => owed₀ c
    | ⟨_ + 1, _⟩ => 0

/-! ### The body -/

/-- The transfer, addressed to a device equal to the sibling. -/
theorem wp_transfer (K : Dev nD × Fin 2 → ℕ) (c n : Dev nD) (hn : n = peer c) (sS rS : DmaSem sig) (hs : sS = sendS) (hr : rS = recvS)
    {hsc : (outM : Memref sig (Dev.tc n : Thread nD τ).2.kind .hbm S1x512x5120 .bf16).view.ref.isScScratch = false}
    {hsrc : (planeM c).view.WordExact} {hdst : outM.view.WordExact}
    {hsem : DmaTarget.Typed .hbm (.dma rS) (.remote (Dev.tc n : Thread nD τ) outM (.dma sS) hsc)}
    {α : Type} {Q : α → sProp 𝕄} {k : PUnit → Prog (TpuEff nD τ sig (Elt F) Λ₀ .tc) α}
    (fn : Buf (Elt F) (outM.view.loc (peer c : Thread nD τ))) (W : Waits sig Unit) :
    iprop(cellInv embX (sched m) (K (c, 0)) (sendCell c) ∗ cellInv embX (sched m) (K (peer c, 1)) (recvCell (peer c))
        ∗ planePts m c ∗ outPts (peer c) fn
        ∗ owes (c : Thread nD τ) (owed₀ c) W
        ∗ dutyTok embX (sendCell c) 0 () ∗ reached embX (sendCell c) 0
        ∗ dutyTok embX (recvCell (peer c)) 0 () ∗ reached embX (recvCell (peer c)) 0)
      ⊢ iprop(((cred (tallyAt (sendCell c) () N) ∗ owes (c : Thread nD τ) 0 W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (planeM c) (.remote (Dev.tc n : Thread nD τ) outM (.dma sS) hsc) (.dma rS) hsrc hdst hsem) k) Q) := by
  subst hn hs hr
  unfold planePts outPts
  exact Rounds.wp_send_pointsTo Variants.none embX (sched m) (c : Thread nD τ) none (κ₁ := K (c, 0)) (κ₂ := K (peer c, 1))
    (r₁ := 0) (r₂ := 0) (d₁ := ()) (d₂ := ()) (fd := fn)
    (by rw [duties_send]; exact Finset.mem_singleton_self _) (by rw [duties_recv]; exact Finset.mem_singleton_self _)
    () () N rfl rfl rfl 0 (by rw [zero_add]; rfl) (W := W)
    (by rw [payload_send]; exact BI.Entails.refl _)
    (by rw [payload_recv]; unfold outPts; rw [write_out, landed, peer_peer]; exact BI.Entails.refl _)

set_option maxHeartbeats 800000 in
/-- The body, from what the launch hands the device to what it ends with. -/
theorem sound (c : Dev nD) (Q : PUnit → sProp 𝕄) :
    iprop((Φ₀ m c ∗ (dats m 0 c).owesAt () t₀.castSucc) ∗ ((Φ₁ m c ∗ (dats m 0 c).owesAt () t₀.succ) -∗ Q ⟨⟩))
      ⊢ wp frame (wpE (defs₀ (F := F)) Variants.none c none) Set.univ
          (cc0_grad_pair_exchange_in (Memref.whole main_arg0) (Memref.isWhole_whole _) (Memref.whole main_v1) (Memref.isWhole_whole _) cc0_scratch0 cc0_scratch1) Q := by
  unfold cc0_grad_pair_exchange_in k0_part1
  simp only [Prog.lift, Prog.bind_op, Prog.bind_ret, Prog.pure_eq_ret, wp_deviceId]
  unfold Φ₀ start ghost invs Dat.owesAt Pipeline.owesWithin
  iintro ⟨⟨⟨⟨⟨%K, ⟨#HIs, #HIr, #HIp⟩, ⟨HatS, HatR⟩, ⟨#HrS, #HrP⟩, HtS, HtP⟩, ⟨Hpl, Hrest⟩, ⟨%fn, Hout⟩⟩, HcR⟩, ⟨%W, %hW, HO⟩⟩, Hk⟩
  rw [show (dats m 0 c).owed t₀.castSucc = owed₀ c from rfl]
  -- the transfer
  iapply (wp_transfer m K c _ (dev_eq c) _ _ sendS_eq recvS_eq fn W) $$ [Hpl Hout HO HtS HtP]
  · isplitr; · iexact HIs
    isplitr; · iexact HIp
    isplitl [Hpl]; · iexact Hpl
    isplitl [Hout]; · iexact Hout
    isplitl [HO]; · iexact HO
    isplitl [HtS]; · iexact HtS
    isplitr; · iexact HrS
    isplitl [HtP]; · iexact HtP
    iexact HrP
  iintro ⟨HcS, HO⟩
  rw [sendS_eq, recvS_eq]
  -- the wait for its own read-out
  iapply (Rounds.wp_wait_rest_token Variants.none embX (sched m) (c : Thread nD τ) none (κ := K (c, 0))
      (wpE_waitDma2_eq Variants.none (c : Thread nD τ) none Set.univ) (Set.mem_univ _) () (O := 0) (W := W) (R := 0) (m := 0) (T := ∅)
      (by rw [Nat.zero_add, expect_send])) $$ [HcS HO HatS]
  · isplitr; · iexact HIs
    isplitl [HcS]; · iexact HcS
    isplitl [HO]; · iexact HO
    isplitr; · rw [MayWait_zero]; iempintro
    iexact HatS
  iintro ⟨HO, HatS, -, Hpay⟩
  ihave Hpl := (Entails.of_eq (rest_send m c)) $$ Hpay
  -- the wait for the sibling's arrival
  iapply (Rounds.wp_wait_rest_token Variants.none embX (sched m) (c : Thread nD τ) none (κ := K (c, 1))
      (wpE_waitDma2_eq Variants.none (c : Thread nD τ) none Set.univ) (Set.mem_univ _) () (O := 0) (W := insert (SemLoc.dma sendS, ()) W) (R := 0) (m := 0) (T := ∅)
      (by rw [Nat.zero_add, expect_recv])) $$ [HcR HO HatR]
  · isplitr; · iexact HIr
    isplitl [HcR]; · iexact HcR
    isplitl [HO]; · iexact HO
    isplitr; · rw [MayWait_zero]; iempintro
    iexact HatR
  iintro ⟨HO, HatR, -, Hpay⟩
  ihave Hout := (Entails.of_eq (rest_recv m c)) $$ Hpay
  imod (Rounds.cell_close embX (sched m) (Set.mem_univ (K (c, 0))) (fun h => h) (R := 0 + 1) (duties_later m (sendCell c))) $$ [HatS] with HzS
  · isplitr; · iexact HIs
    iexact HatS
  imod (Rounds.cell_close embX (sched m) (Set.mem_univ (K (c, 1))) (fun h => h) (R := 0 + 1) (duties_later m (recvCell c))) $$ [HatR] with HzR
  · isplitr; · iexact HIr
    iexact HatR
  rw [wp_ret]; imodintro
  iapply Hk
  unfold Φ₁
  rw [show (dats m 0 c).owed t₀.succ = 0 from rfl]
  isplitr [HO]
  · isplitl [HzS HzR]
    · isplitl [HzS] <;> iassumption
    isplitl [Hpl Hrest]
    · isplitl [Hpl] <;> iassumption
    iexact Hout
  · iexists (insert (SemLoc.dma recvS, ()) (insert (SemLoc.dma sendS, ()) W))
    isplitr; · ipureintro; exact fun _ _ => Or.inl trivial
    iexact HO

/-- The same as the region asks for it: there is no window. -/
theorem body_obligation (c : Dev nD) : BodyObligation (dats (F := F) m 0 c) (defs₀ (F := F)) Variants.none () Set.univ := fun t => by
  rw [fin_N t, show (Finset.univ : Finset (Fin cfg0.W)) = ∅ from rfl, show (dats m 0 c).Φ t₀.castSucc = Φ₀ m c from rfl,
    show (dats m 0 c).Φ t₀.succ = Φ₁ m c from rfl]
  simp only [bigSep_empty]
  iintro ⟨H0, Ho, -⟩
  iapply (sound m c _)
  isplitl [H0 Ho]
  · isplitl [H0]
    · iexact H0
    · iexact Ho
  iintro ⟨H1, Ho⟩
  isplitl [H1]; · iexact H1
  isplitl [Ho]; · iexact Ho
  iempintro

end Cert.ExchangeKernelIdeal.Hand

end
-- ==== Proof.ExchangeFrame.lean ====
/-
  The exchange's run on all eight devices: how the launch deals the ghost state — every device gets the tokens it pays
  with, and its sibling's result array before the sibling has entered the kernel — and the run itself: every device's
  array is unchanged and its result array holds its sibling's plane. For any float values.
-/
module

public import proofs.«01_k».proof.Proof.ExchangeProtocol

@[expose] public section

set_option maxRecDepth 16384

noncomputable section

namespace Cert.ExchangeKernelIdeal.Hand

open Cert.ExchangeKernelIdeal Cert.ExchangeKernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Rnd ℕ

variable (m : (ℓ : Loc nD τ sig) → Buf (Elt F) ℓ) (ρ : Dev nD → PrngReg)

/-! ### The layout, the launch element -/

theorem cellOf_inj : Function.Injective (cellOf (nD := nD) (τ := τ) cfgs) := by
  rintro ⟨p, c, w, s⟩; exact Fin.elim0 w

theorem winFacts : Pipeline.WinFacts cfg0.spec := by decide
theorem ownSemFacts : Pipeline.OwnSemFacts cfg0.spec osem := by decide

omit [FloatOps F] in
/-- There is no window, and nothing to hold for one. -/
theorem no_windows (Φ : Fin 0 → sProp 𝕄) : (iprop(emp) : sProp 𝕄) ⊢ bigSep Finset.univ Φ := by
  rw [Finset.univ_eq_empty, bigSep_empty]; exact BI.Entails.refl _

/-- One duty on each semaphore, at round 0. -/
abbrev duties : Dev nD → Finset (Fin 2 × ℕ × Unit) := fun _ => {(0, 0, ()), (1, 0, ())}

def u₀ : Rnd := initOf (Pipeline.ownCells cfgs (0 : Fin 1) ownSemFacts) (Pipeline.ownToksOf cfgs (0 : Fin 1) ownSemFacts duties)

/-- The tokens of device `c`'s own semaphores. -/
def toks (c : Dev nD) : sProp 𝕄 := iprop(dutyTok embX (sendCell c) 0 () ∗ dutyTok embX (recvCell c) 0 ())

/-- What the launch element deals device `c`. -/
def dealt (c : Dev nD) : sProp 𝕄 := iprop(Pipeline.ownGhost cfgs (0 : Fin 1) ownSemFacts embX (sched m) c ∗ toks c)

omit [FloatOps F] in
theorem bigSep_two {I : Type} [DecidableEq I] {a b : I} (h : a ≠ b) (Φ : I → sProp 𝕄) : bigSep {a, b} Φ = iprop(Φ a ∗ Φ b) := by
  rw [bigSep_insert (by simpa using h), bigSep_singleton]; rfl

omit [FloatOps F] in
theorem bigSep_fin2 (Φ : Fin 2 → sProp 𝕄) : bigSep Finset.univ Φ = iprop(Φ 0 ∗ Φ 1) := by
  rw [show (Finset.univ : Finset (Fin 2)) = {0, 1} from by decide, bigSep_two (by decide)]

omit [FloatOps F] in
theorem toks_eq (c : Dev nD) :
    (bigSep (duties c) fun x => (dutyTok embX (((c : Dev nD) : Thread nD τ), osem x.1) x.2.1 x.2.2 : sProp 𝕄)) = toks c := by
  unfold toks; rw [bigSep_two (by decide)]

omit [FloatOps F] in
theorem deal : (ownU u₀ : sProp 𝕄) ⊢ |={Set.univ}=> bigSep Finset.univ (dealt m) := by
  iintro Hu
  ihave Hx := (show (ownU u₀ : sProp 𝕄) ⊢ BI.own (embX u₀) from BI.Entails.refl _) $$ Hu
  unfold u₀
  imod (Pipeline.fund_own cfgs (0 : Fin 1) ownSemFacts embX (sched m) (Pipeline.ownToksOf cfgs (0 : Fin 1) ownSemFacts duties)) $$ Hx with ⟨Hx, Htok⟩
  ihave Htk := (Entails.of_eq (Pipeline.bigSep_ownToksOf cfgs (0 : Fin 1) ownSemFacts embX duties)) $$ Htok
  imodintro
  unfold dealt; rw [bigSep_sep', ← bigSep_congr (s := Finset.univ) fun (c : Dev nD) _ => toks_eq (F := F) c]
  isplitl [Hx] <;> iassumption

/-! ### The launch's global step -/

omit [FloatOps F] in
theorem unscopedBufs_eq (c : Dev nD) :
    (unscopedBufs c (fun b => m ((c.tc : Thread nD τ).loc b)) : sProp 𝕄)
      ⊢ iprop((planePts m c ∗ restPts m c) ∗ ∃ f, outPts c f) := by
  unfold unscopedBufs
  rw [show (Finset.univ.filter fun b : Ref sig .tc => ¬ b.isScoped) = {main_arg0, main_v1} from by decide, bigSep_two (by decide)]
  iintro ⟨Ha, Ho⟩
  isplitl [Ha]; · iapply (arg_split m c).1; iexact Ha
  iexists (m ((c : Thread nD τ).loc main_v1)); rw [outPts_eq]; iexact Ho

omit [FloatOps F] in
/-- On one device: its semaphores' invariants allocated. -/
theorem core_alloc (c : Dev nD) :
    iprop(Pipeline.ownSems0 osem c ∗ dealt m c)
      ⊢ |={Set.univ}=> iprop((bigSep Finset.univ fun k => iprop(∃ κ : ℕ, cellInv embX (sched m) κ (xcell (c, k))))
          ∗ (bigSep Finset.univ fun k => iprop(atPos embX (xcell (c, k)) 0 ∅ 0 ∗ reached embX (xcell (c, k)) 0)) ∗ toks c) := by
  unfold dealt
  rw [Pipeline.ownGhost_eq]
  iintro ⟨Hos, ⟨Hst, Hat⟩, Htok⟩
  imod (Pipeline.ownCells_alloc cfgs (0 : Fin 1) ownSemFacts embX (sched m) c) $$ [Hos Hst] with Hinv
  · isplitl [Hos] <;> iassumption
  imodintro
  isplitl [Hinv]; · iexact Hinv
  isplitl [Hat]; · iexact Hat
  iexact Htok

omit [FloatOps F] in
theorem alloc :
    iprop((bigSep Finset.univ fun c : Dev nD => Pipeline.ownSems0 osem c) ∗ bigSep Finset.univ (dealt m))
      ⊢ (|={Set.univ}=> bigSep Finset.univ fun c : Dev nD => iprop((bigSep Finset.univ fun k => iprop(∃ κ : ℕ, cellInv embX (sched m) κ (xcell (c, k))))
          ∗ (bigSep Finset.univ fun k => iprop(atPos embX (xcell (c, k)) 0 ∅ 0 ∗ reached embX (xcell (c, k)) 0)) ∗ toks c) : sProp 𝕄) := by
  rw [← bigSep_sep']
  exact (bigSep_mono fun c _ => core_alloc m c).trans (bigSep_fupd _ _)

/-- What every device may consult: all the invariants under one map of names, all the marks. -/
def records (K : Dev nD × Fin 2 → ℕ) : sProp 𝕄 :=
  iprop((bigSep Finset.univ fun ck : Dev nD × Fin 2 => cellInv embX (sched m) (K ck) (xcell ck))
    ∗ bigSep Finset.univ fun ck : Dev nD × Fin 2 => reached embX (xcell ck) 0)

instance records_persistent (K : Dev nD × Fin 2 → ℕ) : BI.Persistent (records m K) := by unfold records; infer_instance

omit [FloatOps F] in
theorem inv_at (K : Dev nD × Fin 2 → ℕ) (ck : Dev nD × Fin 2) : records m K ⊢ (cellInv embX (sched m) (K ck) (xcell ck) : sProp 𝕄) := by
  unfold records
  iintro ⟨H, -⟩
  iapply (show (bigSep Finset.univ fun ck : Dev nD × Fin 2 => (cellInv embX (sched m) (K ck) (xcell ck) : sProp 𝕄)) ⊢ cellInv embX (sched m) (K ck) (xcell ck)
    from bigSep_elim (Finset.mem_univ ck)); iexact H

omit [FloatOps F] in
theorem reached_at (K : Dev nD × Fin 2 → ℕ) (ck : Dev nD × Fin 2) : records m K ⊢ (reached embX (xcell ck) 0 : sProp 𝕄) := by
  unfold records
  iintro ⟨-, H⟩
  iapply (show (bigSep Finset.univ fun ck : Dev nD × Fin 2 => (reached embX (xcell ck) 0 : sProp 𝕄)) ⊢ reached embX (xcell ck) 0
    from bigSep_elim (Finset.mem_univ ck)); iexact H

/-- What device `c` keeps of the exchange's own: its positions and the tokens it pays with; and its array and its
    sibling's result array. -/
def kept (c : Dev nD) : sProp 𝕄 :=
  iprop((bigSep Finset.univ fun k : Fin 2 => atPos embX (xcell (c, k)) 0 ∅ 0)
    ∗ (dutyTok embX (sendCell c) 0 () ∗ dutyTok embX (recvCell (peer c)) 0 ())
    ∗ (planePts m c ∗ restPts m c) ∗ ∃ f, outPts (peer c) f)

omit [FloatOps F] in
theorem start_intro (K : Dev nD × Fin 2 → ℕ) (c : Dev nD) : iprop(records m K ∗ kept m c) ⊢ start m c := by
  unfold kept start ghost invs
  rw [bigSep_fin2]
  iintro ⟨#HR, ⟨HaS, HaV⟩, ⟨HtS, HtP⟩, Hb, Ho⟩
  isplitl [HaS HaV HtS HtP]
  · iexists K
    isplitr
    · isplitr; · iapply (inv_at m K (c, 0)); iexact HR
      isplitr; · iapply (inv_at m K (c, 1)); iexact HR
      iapply (inv_at m K (peer c, 1)); iexact HR
    isplitl [HaS HaV]; · isplitl [HaS] <;> iassumption
    isplitr
    · isplitr; · iapply (reached_at m K (c, 0)); iexact HR
      iapply (reached_at m K (peer c, 1)); iexact HR
    isplitl [HtS] <;> iassumption
  isplitl [Hb] <;> iassumption

omit [FloatOps F] in
theorem start_all (K : Dev nD × Fin 2 → ℕ) : iprop(records m K ∗ bigSep Finset.univ fun c : Dev nD => kept m c) ⊢ (bigSep Finset.univ (start m) : sProp 𝕄) := by
  refine (sep_mono_left (BI.bigSep_of_persistent (Finset.univ : Finset (Dev nD)) (records m K))).trans ?_
  rw [← bigSep_sep']
  exact bigSep_mono fun c _ => start_intro m K c

omit [FloatOps F] in
/-- What is dealt per device, with the receive tokens and the result arrays handed to the siblings. -/
theorem hand_over :
    iprop((bigSep Finset.univ fun c : Dev nD => bigSep Finset.univ fun k : Fin 2 => (atPos embX (xcell (c, k)) 0 ∅ 0 : sProp 𝕄))
        ∗ (bigSep Finset.univ fun c : Dev nD => (toks c : sProp 𝕄))
        ∗ bigSep Finset.univ fun c : Dev nD => iprop((planePts m c ∗ restPts m c) ∗ ∃ f, outPts c f))
      ⊢ bigSep Finset.univ fun c : Dev nD => kept m c := by
  unfold toks kept
  simp only [bigSep_sep']
  rw [bigSep_univ_equiv swap (fun c : Dev nD => (dutyTok embX (recvCell c) 0 () : sProp 𝕄)),
    bigSep_univ_equiv swap (fun c : Dev nD => (iprop(∃ f, outPts c f) : sProp 𝕄))]
  exact BI.Entails.refl _

omit [FloatOps F] in
theorem regroup :
    iprop((bigSep Finset.univ fun c : Dev nD => iprop((bigSep Finset.univ fun k => iprop(∃ κ : ℕ, cellInv embX (sched m) κ (xcell (c, k))))
          ∗ (bigSep Finset.univ fun k => iprop(atPos embX (xcell (c, k)) 0 ∅ 0 ∗ reached embX (xcell (c, k)) 0)) ∗ toks c))
        ∗ bigSep Finset.univ fun c : Dev nD => iprop((planePts m c ∗ restPts m c) ∗ ∃ f, outPts c f))
      ⊢ (bigSep Finset.univ (start m) : sProp 𝕄) := by
  rw [bigSep_sep', bigSep_sep', ← bigSep_univ_prod (fun ck : Dev nD × Fin 2 => iprop(∃ κ : ℕ, cellInv embX (sched m) κ (xcell ck))),
    bigSep_congr (s := Finset.univ) (fun (c : Dev nD) _ => bigSep_sep' Finset.univ (fun k : Fin 2 => (atPos embX (xcell (c, k)) 0 ∅ 0 : sProp 𝕄)) (fun k => reached embX (xcell (c, k)) 0)),
    bigSep_sep', ← bigSep_univ_prod (fun ck : Dev nD × Fin 2 => (reached embX (xcell ck) 0 : sProp 𝕄))]
  iintro ⟨⟨HI, ⟨Hat, #HR⟩, Htok⟩, Hb⟩
  ihave HK := (BI.bigSep_exists_pi Finset.univ (fun (ck : Dev nD × Fin 2) (κ : ℕ) => (cellInv embX (sched m) κ (xcell ck) : sProp 𝕄))) $$ HI
  icases HK with ⟨%K, #HI⟩
  iapply (start_all m K)
  isplitr
  · unfold records; isplitl; · iexact HI
    iexact HR
  · iapply (hand_over m)
    isplitl [Hat]; · iexact Hat
    isplitl [Htok]; · iexact Htok
    iexact Hb

/-! ### The credit for the arrival -/

omit [FloatOps F] in
theorem creds (c : Dev nD) : (Pipeline.launchCred owed₀ c : sProp 𝕄) ⊢ cred (tallyAt (recvCell c) () N) := by
  unfold Pipeline.launchCred
  have h : tallyOn (recvCell c) (launchCredit (Pipeline.owing owed₀) 0 (recvCell c)) = (tallyAt (recvCell c) () N : CellTallies nD τ sig Unit) := by
    unfold tallyAt; refine congrArg _ (Finsupp.ext fun u => ?_); cases u
    rw [Pipeline.launchCredit_owing, Finsupp.single_eq_same, Finset.sum_eq_single (peer c)]
    · unfold owed₀; rw [peer_peer, tallyAt_apply, if_pos ⟨rfl, rfl⟩]
    · intro d _ hd
      unfold owed₀
      rw [tallyAt_apply, if_neg]
      rintro ⟨h1, -⟩
      exact hd (by rw [← peer_peer d]; exact congrArg peer (Fin.ext (congrArg (fun g : GSem nD τ sig => g.1.1.val) h1)).symm)
    · exact fun h => absurd (Finset.mem_univ _) h
  rw [← h]
  exact bigSep_elim (Φ := fun sm : SemLoc sig => (cred (tallyOn ((c.tc : Thread nD τ), sm) (launchCredit (Pipeline.owing owed₀) 0 ((c.tc : Thread nD τ), sm))) : sProp 𝕄))
    (Finset.mem_univ (SemLoc.dma recvS))

/-! ### The run -/

/-- What a device ends with: its array as it was, its result array holding its sibling's plane. -/
def done (c : Dev nD) : sProp 𝕄 :=
  iprop(((c.tc.loc main_arg0) ↦{fullShare} m (c.tc.loc main_arg0)) ∗ (((c : Thread nD τ).loc main_v1) ↦{fullShare} landed m c))

def Reads (c : Dev nD) (s : MemSt nD τ sig (Elt F)) : Prop :=
  s.mem (c.tc.loc main_arg0) = m (c.tc.loc main_arg0) ∧ s.mem ((c : Thread nD τ).loc main_v1) = landed m c

theorem done_read (c : Dev nD) (s' : Phys nD τ sig (Elt F)) : iprop(done m c ∗ SI s') ⊢ (iprop(⌜Reads m c s'.mem⌝ ∗ SI s') : sProp 𝕄) := by
  unfold done
  iintro ⟨⟨Ha, Ho⟩, HSI⟩
  ihave H := (pointsTo_read_all {()} (fun _ => (c : Thread nD τ).loc main_arg0) (fun _ => m (c.tc.loc main_arg0)) s') $$ [Ha HSI]
  · rw [bigSep_singleton]; isplitl [Ha] <;> iassumption
  icases H with ⟨%h1, HSI⟩
  ihave H := (pointsTo_read_all {()} (fun _ => (c : Thread nD τ).loc main_v1) (fun _ => landed m c) s') $$ [Ho HSI]
  · rw [bigSep_singleton]; isplitl [Ho] <;> iassumption
  icases H with ⟨%h2, HSI⟩
  isplitr
  · ipureintro; exact ⟨h1 () (Finset.mem_singleton_self _), h2 () (Finset.mem_singleton_self _)⟩
  iexact HSI

theorem leave (c : Dev nD) :
    iprop((dats m 0 c).Φ (Fin.last cfg0.N) ∗ Pipeline.cellsSems0 cfgs 0 c ∗ Dat.staging cfg0 c ∗ Pipeline.idleSems0 cfgs cellOf_inj 0 ownSemFacts c)
      ⊢ iprop(done m c ∗ scopedSems0 (c.tc : Thread nD τ) ∗ (scopedBufs (c.tc : Thread nD τ) : sProp 𝕄)) := by
  rw [Pipeline.scopedSems0_split cfgs cellOf_inj (0 : Fin 1) winFacts.to₀ ownSemFacts c,
    show (scopedBufs (c.tc : Thread nD τ) : sProp 𝕄) = _ from scopedBufs_tc c,
    show (Finset.univ.filter fun b : Ref sig .tc => b.isScoped) = ∅ from by decide, bigSep_empty,
    show (dats m 0 c).Φ (Fin.last cfg0.N) = Φ₁ m c from rfl]
  unfold Φ₁ done Pipeline.ownSems0
  rw [bigSep_fin2, ← outPts_eq]
  iintro ⟨⟨Hz, Hb, Ho⟩, Hc, -, Hi⟩
  isplitl [Hb Ho]
  · isplitl [Hb]; · iapply (arg_split m c).2; iexact Hb
    iexact Ho
  isplitl
  · isplitl [Hc Hz]; · isplitl [Hc] <;> iassumption
    iexact Hi
  iempintro

/-- What a core holds before its program, and after it. -/
def before (c : Dev nD) : sProp 𝕄 :=
  iprop(scopedBufs (c.tc : Thread nD τ) ∗ Pipeline.idleSems0 cfgs cellOf_inj 0 ownSemFacts c ∗ owes (c.tc : Thread nD τ) (owed₀ c) ∅
    ∗ Pipeline.launchCred owed₀ c ∗ start m c)
def final (c : Dev nD) : sProp 𝕄 := iprop(done m c ∗ scopedSems0 (c.tc : Thread nD τ))

theorem core_init (c : Dev nD) :
    coreInit (Ix := Unit) (Name := ℕ) (U := Rnd) (Lvl := ℕ) (Pipeline.owing owed₀) 0 (⟨m, fun _ => 0, ρ⟩ : MemSt nD τ sig (Elt F)) (c.tc : Thread nD τ)
      ⊢ (iprop((scopedBufs (c.tc : Thread nD τ) ∗ Pipeline.idleSems0 cfgs cellOf_inj 0 ownSemFacts c ∗ owes (c.tc : Thread nD τ) (owed₀ c) ∅
          ∗ Pipeline.launchCred owed₀ c) ∗ Pipeline.ownSems0 osem c ∗ ((planePts m c ∗ restPts m c) ∗ ∃ f, outPts c f)) : sProp 𝕄) :=
  (Pipeline.coreInit_boundary_owing owed₀ m ρ c).trans (by
    unfold boundary
    rw [Pipeline.scopedSems0_split cfgs cellOf_inj (0 : Fin 1) winFacts.to₀ ownSemFacts c]
    iintro ⟨⟨Hsc, ⟨⟨-, Hos⟩, Hi⟩, -⟩, Hub, -, HL, -, -, Hcr⟩
    isplitl [Hsc Hi HL Hcr]
    · isplitl [Hsc]; · iexact Hsc
      isplitl [Hi]; · iexact Hi
      isplitl [HL] <;> iassumption
    isplitl [Hos]; · iexact Hos
    iapply (unscopedBufs_eq m c); iexact Hub)

theorem cores_init :
    (bigSep Finset.univ fun c : Dev nD => coreInit (Ix := Unit) (Name := ℕ) (U := Rnd) (Lvl := ℕ) (Pipeline.owing owed₀) 0 (⟨m, fun _ => 0, ρ⟩ : MemSt nD τ sig (Elt F)) (c.tc : Thread nD τ))
      ⊢ (iprop((bigSep Finset.univ fun c : Dev nD => iprop(scopedBufs (c.tc : Thread nD τ) ∗ Pipeline.idleSems0 cfgs cellOf_inj 0 ownSemFacts c ∗ owes (c.tc : Thread nD τ) (owed₀ c) ∅
            ∗ Pipeline.launchCred owed₀ c))
          ∗ (bigSep Finset.univ fun c : Dev nD => Pipeline.ownSems0 osem c) ∗ bigSep Finset.univ fun c : Dev nD => iprop((planePts m c ∗ restPts m c) ∗ ∃ f, outPts c f)) : sProp 𝕄) := by
  refine (bigSep_mono fun c _ => core_init m ρ c).trans ?_
  simp only [bigSep_sep']
  exact .refl _

/-- The region starts from what the core owes alone. -/
theorem entry_pre (c : Dev nD) : (owes (c.tc : Thread nD τ) (owed₀ c) ∅ : sProp 𝕄)
    ⊢ Pipeline.EntryPre (Pipeline.pin (pcfgs (F := F)) fun p => (cfgs p).toPCfg_adm) (dats m) () embX (fun _ => 0) (0 : Fin 1) c := by
  unfold Pipeline.EntryPre Pipeline.PerCore.EntryPre Dat.arrays Pipeline.PerCore.cellsWaits Pipeline.PerCore.RDat.cellsWaits Pipeline.PerCore.cellsInit Pipeline.PerCore.RDat.cellsInit
    Pipeline.PerCore.toksInit
  iintro HL
  isplitr; · iapply (no_windows _); iempintro
  isplitl [HL]
  · iexists ∅; isplitr; · ipureintro; rw [Finset.coe_empty]; exact Set.empty_subset _
    iexact HL
  isplitr; · iapply (no_windows _); iempintro
  isplitr <;> (iapply (no_windows _); iempintro)

theorem core_run (c : Dev nD) :
    before m c ⊢ wp frame (wpE (Pipeline.defs (pcfgs (F := F)) (defs₀ (F := F))) (Variants.lift Variants.none) (c.tc : Thread nD τ) none) Set.univ (main (F := F) c)
      fun _ => iprop(final m c ∗ ∃ W, owes (c.tc : Thread nD τ) (0 : CellTallies nD τ sig Unit) W) := by
  unfold before
  rw [show main (F := F) c = .op (.customCall (Pipeline.entry (0 : Fin 1)) ()) fun _ => .ret ⟨⟩ from rfl]
  iintro ⟨Hsc, Hi, HL, Hcr, Hs⟩
  ihave Hcr := (creds c) $$ Hcr
  iapply (Pipeline.wp_customCall_entry_frame (pcfgs (F := F)) (fun p => (cfgs p).toPCfg_adm) (dats m) () embX (fun _ => 0) cellOf_inj (0 : Fin 1)
      defs₀ Variants.none (fun _ => fullShare) c Set.univ (fun _ _ => Set.mem_univ _)
      (body_obligation m c).loose (fun w => Fin.elim0 w) none (fun u h => nomatch h)
      (X := Φ₀ m c) (Y := done m c) (R := iprop(emp)) (I := Pipeline.idleSems0 cfgs cellOf_inj 0 ownSemFacts c)
      (by
        unfold Dat.staging; rw [show (Finset.univ : Finset (Fin cfg0.W)) = ∅ from rfl, bigSep_empty]
        iintro -
        isplitr <;> iempintro)
      (by
        show _ ⊢ Φ₀ m c
        iintro ⟨H, -, -⟩; iexact H) (leave m c)
      (k := fun _ => .ret ⟨⟩) (Q := fun _ => iprop(final m c ∗ ∃ W, owes (c.tc : Thread nD τ) (0 : CellTallies nD τ sig Unit) W))) $$ [Hsc Hi HL Hcr Hs]
  · isplitl [HL]
    · iapply (entry_pre m c); iexact HL
    isplitr
    · unfold Pipeline.prefHeld; iapply (no_windows _); iempintro
    isplitl [Hs Hcr]
    · unfold Φ₀; isplitl [Hs] <;> iassumption
    isplitl [Hi] <;> iassumption
  iintro ⟨Hpost, HY, Hss, -⟩
  rw [wp_ret]; imodintro
  unfold final Pipeline.EntryPost Pipeline.PerCore.EntryPost Dat.owesAt Pipeline.owesWithin
  icases Hpost with ⟨-, ⟨%W, -, HW⟩⟩
  isplitr [HW]
  · isplitl [HY] <;> iassumption
  iexists W; iexact HW

/-- Every fair execution of the program on the eight devices terminates, and ends with every device's array as it was,
    every result array holding the sibling's plane, and every semaphore at zero. -/
theorem run : θ_run (defs (F := F)) (onTc (τ := τ) (main (F := F))) ⟨m, fun _ => 0, ρ⟩
    (fun r => (∀ c, Reads m c r.2) ∧ r.2.sem = fun _ => 0) := by
  refine (θ_run _ _ _).mono (Q := fun r => (∀ c : Dev nD, Reads m c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu (defs (F := F)) _ _ _
    (reflect_intro_fupd_tc_sems (X := Unit) (Variants.lift Variants.none) (Pipeline.owing owed₀) 0 (noBookings fun _ => le_rfl)
      (Pipeline.owing_of_ne owed₀) u₀ (fun _ => before m) (fun _ => final m) (fun _ => iprop(emp)) Set.univ ?_ (fun _ c => ?_) fun _ => ?_))
  · iintro ⟨Hcores, Hu⟩
    ihave Hc := (cores_init m ρ) $$ Hcores
    icases Hc with ⟨Hb, Hos, Hbufs⟩
    imod (deal m) $$ Hu with HG
    imod (alloc m) $$ [Hos HG] with HG
    · isplitl [Hos] <;> iassumption
    ihave HS := (regroup m) $$ [HG Hbufs]
    · isplitl [HG] <;> iassumption
    imodintro
    iexists ()
    isplitl
    · unfold before
      simp only [bigSep_sep']
      icases Hb with ⟨H1, H2, H3, H4⟩
      isplitl [H1]; · iexact H1
      isplitl [H2]; · iexact H2
      isplitl [H3]; · iexact H3
      isplitl [H4]; · iexact H4
      iexact HS
    · iempintro
  · unfold post; simp only [liftTc_tc]
    exact core_run m c
  · have hcore (c : Dev nD) (s' : Phys nD τ sig (Elt F)) : iprop(final m c ∗ SI s') ⊢ |={Set.univ}=>
        (iprop(⌜Reads m c s'.mem ∧ ∀ sm : SemLoc sig, sm.isScoped .tc = true → s'.mem.sem ((c.tc : Thread nD τ), sm) = 0⌝ ∗ SI s') : sProp 𝕄) := by
      unfold final
      iintro ⟨⟨HY, Hss⟩, HSI⟩
      ihave %hz := (tcScoped_read_pers c s') $$ [Hss HSI]
      · isplitl [Hss] <;> iassumption
      ihave H := (done_read m c s') $$ [HY HSI]
      · isplitl [HY] <;> iassumption
      icases H with ⟨%hy, HSI⟩
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

/-- Every device's array is unchanged, and every semaphore ends at zero. -/
theorem frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  (θ_run _ _ _).mono (fun _ h => ⟨fun c => (h.1 c).1, h.2⟩) (run m ρ)

end Cert.ExchangeKernelIdeal.Hand

end
-- ==== Proof.ExchangeBits.lean ====
/-
  The frame of the exchange as compiled: the program is the idealized one at bits, by unfolding both.
-/
module

public import proofs.«01_k».proof.Proof.ExchangeFrame
public import proofs.«01_k».proof.Proof.Gen.ExchangeKernel
public import Idealize.ShloMosaic.PureOps.BitExact
public import Idealize.ShloMosaic.Lib.Claim

@[expose] public section

set_option maxRecDepth 16384

noncomputable section

namespace Cert.ExchangeKernel.Hand

open Cert.ExchangeKernel
open Idealize.ShloMosaic Idealize.ShloMosaic.TcCoe Idealize.SL.Sem

/-- The frame: the argument ends unchanged and every semaphore at zero. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)) ∧ r.2.sem = fun _ => 0) := by
  refine cast ?_ (ExchangeKernelIdeal.Hand.frame (F := Bits) m ρ)
  sl_kernel_rfl

end Cert.ExchangeKernel.Hand

end
-- ==== Proof.Exchange.lean ====
/-
  The exchange between the two cores of a chip hands every device its sibling's plane: the rows of the whole array
  swapped inside each pair of devices, as the reference writes it.
-/
module

public import proofs.«01_k».proof.Proof.ExchangeFrame
public import proofs.«01_k».proof.Proof.Gen.ExchangeReferenceIdeal.Read
public import Idealize.ShloMosaic.Lib.Pipeline.ValueKit
public import Idealize.ShloMosaic.Lib.Claim
public import Idealize.ShloMosaic.Lib.ValueLayout
public import proofs.«01_k».proof.Defs

@[expose] public section

set_option maxRecDepth 16384

noncomputable section

open Idealize.ShloMosaic Idealize.ShloMosaic.TcCoe Idealize.SL.Sem

namespace Cert.ExchangeKernelIdeal.Hand

open Cert.ExchangeKernelIdeal Cert.ExchangeKernelIdeal.Gen Cert.ExchangeReferenceIdeal.Read

/-- The plane a device sends, as a position of its array. -/
theorem plane_emb (c : Dev nD) (a : Fin 512) (b : Fin 5120) :
    (planeM c).view.emb (ix3 (0 : Fin 1) a b) = ix4 (0 : Fin 1) (⟨1 - c.val % 2, by omega⟩ : Fin 2) a b := by
  have h := k0_off1_eq c
  have e : ∀ hh, Shape.reshapeEquiv (s := S1x1x512x5120) (s' := S1x512x5120) hh (ix3 (0 : Fin 1) a b)
      = ix4 (0 : Fin 1) (0 : Fin 1) a b := fun hh => ValueIdx.reshapeEquiv_ix3_1abc hh 0 a b
  have e2 : (planeM c).view.emb (ix3 (0 : Fin 1) a b)
      = (Rect.unit (s := S1x2x512x5120) (k0_off1 c) S1x1x512x5120.size (k0_off1_inb c)).emb (ix4 (0 : Fin 1) (0 : Fin 1) a b) := by
    rw [← e squeezes_S1x1x512x5120_S1x512x5120.numel_eq]; rfl
  rw [e2]
  funext k
  apply Fin.ext
  fin_cases k <;> simp [h]

/-- The reference at a device's row: the sibling's array, at the plane that belongs to the device. -/
theorem ref_at (g : (⟨4, ![8, 2, 512, 5120]⟩ : Shape).Idx → Elt Ideal .bf16) (c : Fin 8) (a : Fin 512) (b : Fin 5120) :
    val_main_v8 (F := Ideal) g (ix3 c a b) = g (ix4 (peer c) (⟨c.val % 2, by omega⟩ : Fin 2) a b) := by
  fin_cases c <;>
    pointwise [val_main_v0, val_main_v1, val_main_v2, val_main_v3, val_main_v4, val_main_v5, val_main_v6, val_main_v7, val_main_v8] <;> rfl

/-- A device's argument, from the whole array. -/
theorem arg_at (g : (⟨4, ![8, 2, 512, 5120]⟩ : Shape).Idx → Elt Ideal .bf16)
    (hT : Layout.Tiles ⟨4, ![1, 2, 512, 5120]⟩ ⟨4, ![8, 2, 512, 5120]⟩ 0 8) (c : Fin 8) (p : Fin 2) (a : Fin 512) (b : Fin 5120) :
    Layout.block ⟨4, ![1, 2, 512, 5120]⟩ ⟨4, ![8, 2, 512, 5120]⟩ 0 8 c g hT (ix4 (0 : Fin 1) p a b) = g (ix4 c p a b) := by
  rw [Layout.block_apply]
  congr 1; funext k; apply Fin.ext; rw [Layout.Tiles.idx_val]
  fin_cases k <;> simp

/-- A device's result, from the whole result. -/
theorem out_at (g : (⟨3, ![8, 512, 5120]⟩ : Shape).Idx → Elt Ideal .bf16)
    (hT : Layout.Tiles ⟨3, ![1, 512, 5120]⟩ ⟨3, ![8, 512, 5120]⟩ 0 8) (c : Fin 8) (a : Fin 512) (b : Fin 5120) :
    Layout.block ⟨3, ![1, 512, 5120]⟩ ⟨3, ![8, 512, 5120]⟩ 0 8 c g hT (ix3 (0 : Fin 1) a b) = g (ix3 c a b) := by
  rw [Layout.block_apply]
  congr 1; funext k; apply Fin.ext; rw [Layout.Tiles.idx_val]
  fin_cases k <;> simp

end Cert.ExchangeKernelIdeal.Hand

namespace Cert.Hand

open Cert.ExchangeKernelIdeal.Hand in
/-- Every device ends with its part of the reference's result. -/
theorem Exchange : algebraic_ExchangeKernelIdeal_ExchangeReferenceIdeal := by
  intro m g m' g' _ hagree
  refine ⟨ExchangeReferenceIdeal.Read.val_main_v8 (F := Ideal) (m' (((0 : Dev ExchangeReferenceIdeal.nD).tc : Thread ExchangeReferenceIdeal.nD ExchangeReferenceIdeal.τ).loc ExchangeReferenceIdeal.main_arg0)), ?_, ?_⟩
  · refine (θ_run _ _ _).mono (fun r h c => ⟨((h.1 c).2).trans ?_, (h.1 c).1⟩) (run m g)
    funext x
    obtain ⟨a, b, rfl⟩ : ∃ (a : Fin 512) (b : Fin 5120), x = ix3 (0 : Fin 1) a b :=
      ⟨x 1, x 2, by funext k; fin_cases k; exacts [Subsingleton.elim (α := Fin 1) _ _, rfl, rfl]⟩
    refine Eq.trans ?_ (out_at _ _ c a b).symm
    rw [ref_at]
    show m ((peer c).tc.loc ExchangeKernelIdeal.main_arg0) ((planeM (peer c)).view.emb (ix3 (0 : Fin 1) a b)) = _
    rw [plane_emb, hagree (peer c)]
    refine (arg_at _ _ (peer c) _ a b).trans ?_
    congr 2
    revert c; decide
  · refine (θ_run _ _ _).mono (fun r h => ?_) (ExchangeReferenceIdeal.Value.run m' g')
    obtain ⟨r0, h0⟩ := h 0
    exact ⟨r0.trans (ExchangeReferenceIdeal.Read.val_main_v8_eq _), h0⟩

/-- The reference runs and leaves its argument as it was. -/
theorem ref_Exchange : quiescent_ExchangeReferenceIdeal := by
  intro m g hpre
  hlo_run
  all_goals first
    | exact fun _ => by simp
    | exact sem_eq_zero_of_no_sems (sig := ExchangeReferenceIdeal.sig) (by decide) _

end Cert.Hand

end
-- ==== Proof.lean ====
/-
  The claims put together: for each call its program's frame, its idealization's frame, its reference's frame,
  the idealization (no rewrite, or the named constant) and the equality of the results.
-/
module

public import proofs.«01_k».proof.Defs
public import proofs.«01_k».proof.Proof.Gen.GainKernel.Frame
public import proofs.«01_k».proof.Proof.Gen.GainKernelIdeal.Frame
public import proofs.«01_k».proof.Proof.Gain
public import proofs.«01_k».proof.Proof.Gen.SwigluKernel.Frame
public import proofs.«01_k».proof.Proof.Gen.SwigluKernelIdeal.Frame
public import proofs.«01_k».proof.Proof.Swiglu
public import proofs.«01_k».proof.Proof.Gen.GatesKernel.Frame
public import proofs.«01_k».proof.Proof.Gen.GatesKernelIdeal.Frame
public import proofs.«01_k».proof.Proof.Gates
public import proofs.«01_k».proof.Proof.Gen.ConvKernel.Frame
public import proofs.«01_k».proof.Proof.Gen.ConvKernelIdeal.Frame
public import proofs.«01_k».proof.Proof.Conv
public import proofs.«01_k».proof.Proof.Gen.MemKernel.Frame
public import proofs.«01_k».proof.Proof.Gen.MemKernelIdeal.Frame
public import proofs.«01_k».proof.Proof.Mem
public import proofs.«01_k».proof.Proof.Gen.NormQKernel.Frame
public import proofs.«01_k».proof.Proof.Gen.NormQKernelIdeal.Frame
public import proofs.«01_k».proof.Proof.NormQ
public import proofs.«01_k».proof.Proof.Gen.NormFKernel.Frame
public import proofs.«01_k».proof.Proof.Gen.NormFKernelIdeal.Frame
public import proofs.«01_k».proof.Proof.NormF
public import proofs.«01_k».proof.Proof.Gen.NormHKernel.Frame
public import proofs.«01_k».proof.Proof.Gen.NormHKernelIdeal.Frame
public import proofs.«01_k».proof.Proof.NormH
public import proofs.«01_k».proof.Proof.Gen.LossKernel.Frame
public import proofs.«01_k».proof.Proof.Gen.LossKernelIdeal.Frame
public import proofs.«01_k».proof.Proof.Loss
public import proofs.«01_k».proof.Proof.StickBBits
public import proofs.«01_k».proof.Proof.StickBFrame
public import proofs.«01_k».proof.Proof.StickB
public import proofs.«01_k».proof.Proof.Gen.MemFwdKernel.Frame
public import proofs.«01_k».proof.Proof.Gen.MemFwdKernelIdeal.Frame
public import proofs.«01_k».proof.Proof.MemFwd
public import proofs.«01_k».proof.Proof.StickFBits
public import proofs.«01_k».proof.Proof.StickFFrame
public import proofs.«01_k».proof.Proof.StickF
public import proofs.«01_k».proof.Proof.Gen.ConvFwdKernel.Frame
public import proofs.«01_k».proof.Proof.Gen.ConvFwdKernelIdeal.Frame
public import proofs.«01_k».proof.Proof.ConvFwd
public import proofs.«01_k».proof.Proof.Gen.MergeKernel.Frame
public import proofs.«01_k».proof.Proof.Gen.MergeKernelIdeal.Frame
public import proofs.«01_k».proof.Proof.Merge
public import proofs.«01_k».proof.Proof.Gen.NormMulKernel.Frame
public import proofs.«01_k».proof.Proof.Gen.NormMulKernelIdeal.Frame
public import proofs.«01_k».proof.Proof.NormMul
public import proofs.«01_k».proof.Proof.FfnInBits
public import proofs.«01_k».proof.Proof.FfnInFrame
public import proofs.«01_k».proof.Proof.FfnIn
public import proofs.«01_k».proof.Proof.Gen.MatMulKernel.Frame
public import proofs.«01_k».proof.Proof.Gen.MatMulKernelIdeal.Frame
public import proofs.«01_k».proof.Proof.MatMul
public import proofs.«01_k».proof.Proof.Gen.AdamWKernel.Frame
public import proofs.«01_k».proof.Proof.Gen.AdamWKernelIdeal.Frame
public import proofs.«01_k».proof.Proof.AdamW
public import proofs.«01_k».proof.Proof.Gen.AssembleKernel.Frame
public import proofs.«01_k».proof.Proof.Gen.AssembleKernelIdeal.Frame
public import proofs.«01_k».proof.Proof.Assemble
public import proofs.«01_k».proof.Proof.ExchangeBits
public import proofs.«01_k».proof.Proof.ExchangeFrame
public import proofs.«01_k».proof.Proof.Exchange
public import Idealize.ShloMosaic.Adequacy
public import Idealize.ShloMosaic.Init

@[expose] public section

noncomputable section

namespace Cert.Proof

open Idealize.ShloMosaic Idealize.SL.Sem

theorem claim : Cert.Claim := ⟨GainKernel.Gen.facts, GainKernelIdeal.Gen.facts, GainReferenceIdeal.Gen.facts, SwigluKernel.Gen.facts, SwigluKernelIdeal.Gen.facts, SwigluReferenceIdeal.Gen.facts, GatesKernel.Gen.facts, GatesKernelIdeal.Gen.facts, GatesReferenceIdeal.Gen.facts, ConvKernel.Gen.facts, ConvKernelIdeal.Gen.facts, ConvReferenceIdeal.Gen.facts, MemKernel.Gen.facts, MemKernelIdeal.Gen.facts, MemReferenceIdeal.Gen.facts, NormQKernel.Gen.facts, NormQKernelIdeal.Gen.facts, NormQReferenceIdeal.Gen.facts, NormFKernel.Gen.facts, NormFKernelIdeal.Gen.facts, NormFReferenceIdeal.Gen.facts, NormHKernel.Gen.facts, NormHKernelIdeal.Gen.facts, NormHReferenceIdeal.Gen.facts, LossKernel.Gen.facts, LossKernelIdeal.Gen.facts, LossReferenceIdeal.Gen.facts, StickBKernel.Gen.facts, StickBKernelIdeal.Gen.facts, StickBReferenceIdeal.Gen.facts, MemFwdKernel.Gen.facts, MemFwdKernelIdeal.Gen.facts, MemFwdReferenceIdeal.Gen.facts, StickFKernel.Gen.facts, StickFKernelIdeal.Gen.facts, StickFReferenceIdeal.Gen.facts, ConvFwdKernel.Gen.facts, ConvFwdKernelIdeal.Gen.facts, ConvFwdReferenceIdeal.Gen.facts, MergeKernel.Gen.facts, MergeKernelIdeal.Gen.facts, MergeReferenceIdeal.Gen.facts, NormMulKernel.Gen.facts, NormMulKernelIdeal.Gen.facts, NormMulReferenceIdeal.Gen.facts, FfnInKernel.Gen.facts, FfnInKernelIdeal.Gen.facts, FfnInReferenceIdeal.Gen.facts, MatMulKernel.Gen.facts, MatMulKernelIdeal.Gen.facts, MatMulReferenceIdeal.Gen.facts, AdamWKernel.Gen.facts, AdamWKernelIdeal.Gen.facts, AdamWReferenceIdeal.Gen.facts, AssembleKernel.Gen.facts, AssembleKernelIdeal.Gen.facts, AssembleReferenceIdeal.Gen.facts, ExchangeKernel.Gen.facts, ExchangeKernelIdeal.Gen.facts, ExchangeReferenceIdeal.Gen.facts, Hand.facts_finite_swi, Hand.facts_finite_mem, Hand.facts_finite_nq, Hand.facts_finite_nf, Hand.facts_finite_nh, Hand.facts_finite_loss, Hand.facts_finite_sb, Hand.facts_finite_sbf,
  fun m ρ _ => GainKernel.Gen.frame m ρ,
  fun m ρ _ => GainKernelIdeal.Gen.frame m ρ,
  Hand.ref_Gain,
  fun m ρ _ => SwigluKernel.Gen.frame m ρ,
  fun m ρ _ => SwigluKernelIdeal.Gen.frame m ρ,
  fun m ρ _ => SwigluKernelIdeal.Gen.frame m ρ,
  Hand.ref_Swiglu,
  fun m ρ _ => Hand.ref_Swiglu m ρ trivial,
  fun m ρ _ => GatesKernel.Gen.frame m ρ,
  fun m ρ _ => GatesKernelIdeal.Gen.frame m ρ,
  Hand.ref_Gates,
  fun m ρ _ => ConvKernel.Gen.frame m ρ,
  fun m ρ _ => ConvKernelIdeal.Gen.frame m ρ,
  Hand.ref_Conv,
  fun m ρ _ => MemKernel.Gen.frame m ρ,
  fun m ρ _ => MemKernelIdeal.Gen.frame m ρ,
  fun m ρ _ => MemKernelIdeal.Gen.frame m ρ,
  Hand.ref_Mem,
  fun m ρ _ => Hand.ref_Mem m ρ trivial,
  fun m ρ _ => NormQKernel.Gen.frame m ρ,
  fun m ρ _ => NormQKernelIdeal.Gen.frame m ρ,
  fun m ρ _ => NormQKernelIdeal.Gen.frame m ρ,
  Hand.ref_NormQ,
  fun m ρ _ => Hand.ref_NormQ m ρ trivial,
  fun m ρ _ => NormFKernel.Gen.frame m ρ,
  fun m ρ _ => NormFKernelIdeal.Gen.frame m ρ,
  fun m ρ _ => NormFKernelIdeal.Gen.frame m ρ,
  Hand.ref_NormF,
  fun m ρ _ => Hand.ref_NormF m ρ trivial,
  fun m ρ _ => NormHKernel.Gen.frame m ρ,
  fun m ρ _ => NormHKernelIdeal.Gen.frame m ρ,
  fun m ρ _ => NormHKernelIdeal.Gen.frame m ρ,
  Hand.ref_NormH,
  fun m ρ _ => Hand.ref_NormH m ρ trivial,
  fun m ρ _ => LossKernel.Gen.frame m ρ,
  fun m ρ _ => LossKernelIdeal.Gen.frame m ρ,
  fun m ρ _ => LossKernelIdeal.Gen.frame m ρ,
  Hand.ref_Loss,
  fun m ρ _ => Hand.ref_Loss m ρ trivial,
  fun m ρ _ => StickBKernel.Hand.frame m ρ,
  fun m ρ _ => StickBKernelIdeal.Hand.frame m ρ,
  fun m ρ _ => StickBKernelIdeal.Hand.frame m ρ,
  Hand.ref_StickB,
  fun m ρ _ => Hand.ref_StickB m ρ trivial,
  fun m ρ _ => MemFwdKernel.Gen.frame m ρ,
  fun m ρ _ => MemFwdKernelIdeal.Gen.frame m ρ,
  Hand.ref_MemFwd,
  fun m ρ _ => StickFKernel.Hand.frame m ρ,
  fun m ρ _ => StickFKernelIdeal.Hand.frame m ρ,
  fun m ρ _ => StickFKernelIdeal.Hand.frame m ρ,
  Hand.ref_StickF,
  fun m ρ _ => Hand.ref_StickF m ρ trivial,
  fun m ρ _ => ConvFwdKernel.Gen.frame m ρ,
  fun m ρ _ => ConvFwdKernelIdeal.Gen.frame m ρ,
  Hand.ref_ConvFwd,
  fun m ρ _ => MergeKernel.Gen.frame m ρ,
  fun m ρ _ => MergeKernelIdeal.Gen.frame m ρ,
  Hand.ref_Merge,
  fun m ρ _ => NormMulKernel.Gen.frame m ρ,
  fun m ρ _ => NormMulKernelIdeal.Gen.frame m ρ,
  Hand.ref_NormMul,
  fun m ρ _ => FfnInKernel.Hand.frame m ρ,
  fun m ρ _ => FfnInKernelIdeal.Hand.frame m ρ,
  Hand.ref_FfnIn,
  fun m ρ _ => MatMulKernel.Gen.frame m ρ,
  fun m ρ _ => MatMulKernelIdeal.Gen.frame m ρ,
  Hand.ref_MatMul,
  fun m ρ _ => AdamWKernel.Gen.frame m ρ,
  fun m ρ _ => AdamWKernelIdeal.Gen.frame m ρ,
  Hand.ref_AdamW,
  fun m ρ _ => AssembleKernel.Gen.frame m ρ,
  fun m ρ _ => AssembleKernelIdeal.Gen.frame m ρ,
  Hand.ref_Assemble,
  fun m ρ _ => ExchangeKernel.Hand.frame m ρ,
  fun m ρ _ => ExchangeKernelIdeal.Hand.frame m ρ,
  Hand.ref_Exchange,
  trivial,
  Hand.Gain,
  trivial,
  Hand.Swiglu,
  trivial,
  Hand.Gates,
  trivial,
  Hand.Conv,
  trivial,
  Hand.Mem,
  trivial,
  Hand.NormQ,
  trivial,
  Hand.NormF,
  trivial,
  Hand.NormH,
  trivial,
  Hand.Loss,
  IdealRules.named_const.statement StickBKernelIdeal.κ "dead" .f32 0x42D00000#32 ⊤ rfl,
  Hand.StickB,
  trivial,
  Hand.MemFwd,
  IdealRules.named_const.statement StickFKernelIdeal.κ "dead" .f32 0x42D00000#32 ⊤ rfl,
  Hand.StickF,
  trivial,
  Hand.ConvFwd,
  trivial,
  Hand.Merge,
  trivial,
  Hand.NormMul,
  trivial,
  Hand.FfnIn,
  trivial,
  Hand.MatMul,
  trivial,
  Hand.AdamW,
  trivial,
  Hand.Assemble,
  trivial,
  Hand.Exchange⟩

end Cert.Proof

end
